-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwReferenceIdeal (m : (ℓ : Loc Cert.MlpDownDwReferenceIdeal.nD Cert.MlpDownDwReferenceIdeal.τ Cert.MlpDownDwReferenceIdeal.sig) → Buf (Elt Ideal) ℓ) : Prop :=
  True

def Pre_MlpDownDx (m : (ℓ : Loc Cert.MlpDownDx.nD Cert.MlpDownDx.τ Cert.MlpDownDx.sig) → Buf (Elt Bits) ℓ) : Prop :=
  True

def Pre_MlpDownDxIdeal (m : (ℓ : Loc Cert.MlpDownDxIdeal.nD Cert.MlpDownDxIdeal.τ Cert.MlpDownDxIdeal.sig) → Buf (Elt Ideal) ℓ) : Prop :=
  True

def Pre_MlpDownDxReferenceIdeal (m : (ℓ : Loc Cert.MlpDownDxReferenceIdeal.nD Cert.MlpDownDxReferenceIdeal.τ Cert.MlpDownDxReferenceIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwReferenceIdeal (m : (ℓ : Loc Cert.MlpUpDwReferenceIdeal.nD Cert.MlpUpDwReferenceIdeal.τ Cert.MlpUpDwReferenceIdeal.sig) → Buf (Elt Ideal) ℓ) : Prop :=
  True

def Pre_MlpUpDx (m : (ℓ : Loc Cert.MlpUpDx.nD Cert.MlpUpDx.τ Cert.MlpUpDx.sig) → Buf (Elt Bits) ℓ) : Prop :=
  True

def Pre_MlpUpDxIdeal (m : (ℓ : Loc Cert.MlpUpDxIdeal.nD Cert.MlpUpDxIdeal.τ Cert.MlpUpDxIdeal.sig) → Buf (Elt Ideal) ℓ) : Prop :=
  True

def Pre_MlpUpDxReferenceIdeal (m : (ℓ : Loc Cert.MlpUpDxReferenceIdeal.nD Cert.MlpUpDxReferenceIdeal.τ Cert.MlpUpDxReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwReferenceIdeal (m : (ℓ : Loc Cert.InProjDwReferenceIdeal.nD Cert.InProjDwReferenceIdeal.τ Cert.InProjDwReferenceIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxReferenceIdeal (m : (ℓ : Loc Cert.InProjDxReferenceIdeal.nD Cert.InProjDxReferenceIdeal.τ Cert.InProjDxReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwReferenceIdeal (m : (ℓ : Loc Cert.OutProjDwReferenceIdeal.nD Cert.OutProjDwReferenceIdeal.τ Cert.OutProjDwReferenceIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxReferenceIdeal (m : (ℓ : Loc Cert.OutProjDxReferenceIdeal.nD Cert.OutProjDxReferenceIdeal.τ Cert.OutProjDxReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwReferenceIdeal (m : (ℓ : Loc Cert.QkvDwReferenceIdeal.nD Cert.QkvDwReferenceIdeal.τ Cert.QkvDwReferenceIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxReferenceIdeal (m : (ℓ : Loc Cert.QkvDxReferenceIdeal.nD Cert.QkvDxReferenceIdeal.τ Cert.QkvDxReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwReferenceIdeal (m : (ℓ : Loc Cert.AttnOutDwReferenceIdeal.nD Cert.AttnOutDwReferenceIdeal.τ Cert.AttnOutDwReferenceIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxReferenceIdeal (m : (ℓ : Loc Cert.AttnOutDxReferenceIdeal.nD Cert.AttnOutDxReferenceIdeal.τ Cert.AttnOutDxReferenceIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownReferenceIdeal (m : (ℓ : Loc Cert.AdamwDownReferenceIdeal.nD Cert.AdamwDownReferenceIdeal.τ Cert.AdamwDownReferenceIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpReferenceIdeal (m : (ℓ : Loc Cert.AdamwUpReferenceIdeal.nD Cert.AdamwUpReferenceIdeal.τ Cert.AdamwUpReferenceIdeal.sig) → Buf (Elt Ideal) ℓ) : Prop :=
  True

def Pre_AdamwQkv (m : (ℓ : Loc Cert.AdamwQkv.nD Cert.AdamwQkv.τ Cert.AdamwQkv.sig) → Buf (Elt Bits) ℓ) : Prop :=
  True

def Pre_AdamwQkvIdeal (m : (ℓ : Loc Cert.AdamwQkvIdeal.nD Cert.AdamwQkvIdeal.τ Cert.AdamwQkvIdeal.sig) → Buf (Elt Ideal) ℓ) : Prop :=
  True

def Pre_AdamwQkvReferenceIdeal (m : (ℓ : Loc Cert.AdamwQkvReferenceIdeal.nD Cert.AdamwQkvReferenceIdeal.τ Cert.AdamwQkvReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_NormBwdPair (m : (ℓ : Loc Cert.NormBwdPair.nD Cert.NormBwdPair.τ Cert.NormBwdPair.sig) → Buf (Elt Bits) ℓ) : Prop :=
  True

def Pre_NormBwdPairIdeal (m : (ℓ : Loc Cert.NormBwdPairIdeal.nD Cert.NormBwdPairIdeal.τ Cert.NormBwdPairIdeal.sig) → Buf (Elt Ideal) ℓ) : Prop :=
  True

def Pre_NormBwdPairReferenceIdeal (m : (ℓ : Loc Cert.NormBwdPairReferenceIdeal.nD Cert.NormBwdPairReferenceIdeal.τ Cert.NormBwdPairReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_ResidNorm (m : (ℓ : Loc Cert.ResidNorm.nD Cert.ResidNorm.τ Cert.ResidNorm.sig) → Buf (Elt Bits) ℓ) : Prop :=
  True

def Pre_ResidNormIdeal (m : (ℓ : Loc Cert.ResidNormIdeal.nD Cert.ResidNormIdeal.τ Cert.ResidNormIdeal.sig) → Buf (Elt Ideal) ℓ) : Prop :=
  True

def Pre_ResidNormReferenceIdeal (m : (ℓ : Loc Cert.ResidNormReferenceIdeal.nD Cert.ResidNormReferenceIdeal.τ Cert.ResidNormReferenceIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossReferenceIdeal (m : (ℓ : Loc Cert.FinalLossReferenceIdeal.nD Cert.FinalLossReferenceIdeal.τ Cert.FinalLossReferenceIdeal.sig) → Buf (Elt Ideal) ℓ) : Prop :=
  True

def Pre_MixerA (m : (ℓ : Loc Cert.MixerA.nD Cert.MixerA.τ Cert.MixerA.sig) → Buf (Elt Bits) ℓ) : Prop :=
  True

def Pre_MixerAIdeal (m : (ℓ : Loc Cert.MixerAIdeal.nD Cert.MixerAIdeal.τ Cert.MixerAIdeal.sig) → Buf (Elt Ideal) ℓ) : Prop :=
  True

def Pre_MixerAReferenceIdeal (m : (ℓ : Loc Cert.MixerAReferenceIdeal.nD Cert.MixerAReferenceIdeal.τ Cert.MixerAReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ r.2.sem = fun _ => 0)

def quiescent_MlpDownDwReferenceIdeal [hMlpDownDwReferenceIdeal : Cert.MlpDownDwReferenceIdeal.Facts] : Prop :=
  ∀ (m : (ℓ : Loc Cert.MlpDownDwReferenceIdeal.nD Cert.MlpDownDwReferenceIdeal.τ Cert.MlpDownDwReferenceIdeal.sig) → Buf (Elt Ideal) ℓ) (g : Dev Cert.MlpDownDwReferenceIdeal.nD → PrngReg), Pre_MlpDownDwReferenceIdeal m →
    θ_run (Cert.MlpDownDwReferenceIdeal.defs (F := Ideal)) (onTc (τ := Cert.MlpDownDwReferenceIdeal.τ) (Cert.MlpDownDwReferenceIdeal.main (F := Ideal))) ⟨m, fun _ => 0, g⟩ (fun r => (∀ c : Dev Cert.MlpDownDwReferenceIdeal.nD,
      r.2.mem ((c.tc : Thread Cert.MlpDownDwReferenceIdeal.nD Cert.MlpDownDwReferenceIdeal.τ).loc Cert.MlpDownDwReferenceIdeal.main_arg0) = m ((c.tc : Thread Cert.MlpDownDwReferenceIdeal.nD Cert.MlpDownDwReferenceIdeal.τ).loc Cert.MlpDownDwReferenceIdeal.main_arg0)
      ∧ r.2.mem ((c.tc : Thread Cert.MlpDownDwReferenceIdeal.nD Cert.MlpDownDwReferenceIdeal.τ).loc Cert.MlpDownDwReferenceIdeal.main_arg1) = m ((c.tc : Thread Cert.MlpDownDwReferenceIdeal.nD Cert.MlpDownDwReferenceIdeal.τ).loc Cert.MlpDownDwReferenceIdeal.main_arg1))
      ∧ r.2.sem = fun _ => 0)

def quiescent_MlpDownDx [hMlpDownDx : Cert.MlpDownDx.Facts] : Prop :=
  ∀ (m : (ℓ : Loc Cert.MlpDownDx.nD Cert.MlpDownDx.τ Cert.MlpDownDx.sig) → Buf (Elt Bits) ℓ) (g : Dev Cert.MlpDownDx.nD → PrngReg), Pre_MlpDownDx m →
    θ_run (Cert.MlpDownDx.defs (F := Bits)) (onTc (τ := Cert.MlpDownDx.τ) (Cert.MlpDownDx.main (F := Bits))) ⟨m, fun _ => 0, g⟩ (fun r => (∀ c : Dev Cert.MlpDownDx.nD,
      r.2.mem ((c.tc : Thread Cert.MlpDownDx.nD Cert.MlpDownDx.τ).loc Cert.MlpDownDx.main_arg0) = m ((c.tc : Thread Cert.MlpDownDx.nD Cert.MlpDownDx.τ).loc Cert.MlpDownDx.main_arg0)
      ∧ r.2.mem ((c.tc : Thread Cert.MlpDownDx.nD Cert.MlpDownDx.τ).loc Cert.MlpDownDx.main_arg1) = m ((c.tc : Thread Cert.MlpDownDx.nD Cert.MlpDownDx.τ).loc Cert.MlpDownDx.main_arg1)
      ∧ r.2.mem ((c.tc : Thread Cert.MlpDownDx.nD Cert.MlpDownDx.τ).loc Cert.MlpDownDx.main_arg2) = m ((c.tc : Thread Cert.MlpDownDx.nD Cert.MlpDownDx.τ).loc Cert.MlpDownDx.main_arg2))
      ∧ r.2.sem = fun _ => 0)

def quiescent_MlpDownDxIdeal [hMlpDownDxIdeal : Cert.MlpDownDxIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg), Pre_MlpDownDxIdeal m →
    θ_run (Cert.MlpDownDxIdeal.defs (F := Ideal)) (onTc (τ := Cert.MlpDownDxIdeal.τ) (Cert.MlpDownDxIdeal.main (F := Ideal))) ⟨m, fun _ => 0, g⟩ (fun r => (∀ c : Dev Cert.MlpDownDxIdeal.nD,
      r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
      ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
      ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ r.2.sem = fun _ => 0)

def quiescent_MlpDownDxReferenceIdeal [hMlpDownDxReferenceIdeal : Cert.MlpDownDxReferenceIdeal.Facts] : Prop :=
  ∀ (m : (ℓ : Loc Cert.MlpDownDxReferenceIdeal.nD Cert.MlpDownDxReferenceIdeal.τ Cert.MlpDownDxReferenceIdeal.sig) → Buf (Elt Ideal) ℓ) (g : Dev Cert.MlpDownDxReferenceIdeal.nD → PrngReg), Pre_MlpDownDxReferenceIdeal m →
    θ_run (Cert.MlpDownDxReferenceIdeal.defs (F := Ideal)) (onTc (τ := Cert.MlpDownDxReferenceIdeal.τ) (Cert.MlpDownDxReferenceIdeal.main (F := Ideal))) ⟨m, fun _ => 0, g⟩ (fun r => (∀ c : Dev Cert.MlpDownDxReferenceIdeal.nD,
      r.2.mem ((c.tc : Thread Cert.MlpDownDxReferenceIdeal.nD Cert.MlpDownDxReferenceIdeal.τ).loc Cert.MlpDownDxReferenceIdeal.main_arg0) = m ((c.tc : Thread Cert.MlpDownDxReferenceIdeal.nD Cert.MlpDownDxReferenceIdeal.τ).loc Cert.MlpDownDxReferenceIdeal.main_arg0)
      ∧ r.2.mem ((c.tc : Thread Cert.MlpDownDxReferenceIdeal.nD Cert.MlpDownDxReferenceIdeal.τ).loc Cert.MlpDownDxReferenceIdeal.main_arg1) = m ((c.tc : Thread Cert.MlpDownDxReferenceIdeal.nD Cert.MlpDownDxReferenceIdeal.τ).loc Cert.MlpDownDxReferenceIdeal.main_arg1)
      ∧ r.2.mem ((c.tc : Thread Cert.MlpDownDxReferenceIdeal.nD Cert.MlpDownDxReferenceIdeal.τ).loc Cert.MlpDownDxReferenceIdeal.main_arg2) = m ((c.tc : Thread Cert.MlpDownDxReferenceIdeal.nD Cert.MlpDownDxReferenceIdeal.τ).loc Cert.MlpDownDxReferenceIdeal.main_arg2))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ r.2.sem = fun _ => 0)

def quiescent_MlpUpDwReferenceIdeal [hMlpUpDwReferenceIdeal : Cert.MlpUpDwReferenceIdeal.Facts] : Prop :=
  ∀ (m : (ℓ : Loc Cert.MlpUpDwReferenceIdeal.nD Cert.MlpUpDwReferenceIdeal.τ Cert.MlpUpDwReferenceIdeal.sig) → Buf (Elt Ideal) ℓ) (g : Dev Cert.MlpUpDwReferenceIdeal.nD → PrngReg), Pre_MlpUpDwReferenceIdeal m →
    θ_run (Cert.MlpUpDwReferenceIdeal.defs (F := Ideal)) (onTc (τ := Cert.MlpUpDwReferenceIdeal.τ) (Cert.MlpUpDwReferenceIdeal.main (F := Ideal))) ⟨m, fun _ => 0, g⟩ (fun r => (∀ c : Dev Cert.MlpUpDwReferenceIdeal.nD,
      r.2.mem ((c.tc : Thread Cert.MlpUpDwReferenceIdeal.nD Cert.MlpUpDwReferenceIdeal.τ).loc Cert.MlpUpDwReferenceIdeal.main_arg0) = m ((c.tc : Thread Cert.MlpUpDwReferenceIdeal.nD Cert.MlpUpDwReferenceIdeal.τ).loc Cert.MlpUpDwReferenceIdeal.main_arg0)
      ∧ r.2.mem ((c.tc : Thread Cert.MlpUpDwReferenceIdeal.nD Cert.MlpUpDwReferenceIdeal.τ).loc Cert.MlpUpDwReferenceIdeal.main_arg1) = m ((c.tc : Thread Cert.MlpUpDwReferenceIdeal.nD Cert.MlpUpDwReferenceIdeal.τ).loc Cert.MlpUpDwReferenceIdeal.main_arg1))
      ∧ r.2.sem = fun _ => 0)

def quiescent_MlpUpDx [hMlpUpDx : Cert.MlpUpDx.Facts] : Prop :=
  ∀ (m : (ℓ : Loc Cert.MlpUpDx.nD Cert.MlpUpDx.τ Cert.MlpUpDx.sig) → Buf (Elt Bits) ℓ) (g : Dev Cert.MlpUpDx.nD → PrngReg), Pre_MlpUpDx m →
    θ_run (Cert.MlpUpDx.defs (F := Bits)) (onTc (τ := Cert.MlpUpDx.τ) (Cert.MlpUpDx.main (F := Bits))) ⟨m, fun _ => 0, g⟩ (fun r => (∀ c : Dev Cert.MlpUpDx.nD,
      r.2.mem ((c.tc : Thread Cert.MlpUpDx.nD Cert.MlpUpDx.τ).loc Cert.MlpUpDx.main_arg0) = m ((c.tc : Thread Cert.MlpUpDx.nD Cert.MlpUpDx.τ).loc Cert.MlpUpDx.main_arg0)
      ∧ r.2.mem ((c.tc : Thread Cert.MlpUpDx.nD Cert.MlpUpDx.τ).loc Cert.MlpUpDx.main_arg1) = m ((c.tc : Thread Cert.MlpUpDx.nD Cert.MlpUpDx.τ).loc Cert.MlpUpDx.main_arg1))
      ∧ r.2.sem = fun _ => 0)

def quiescent_MlpUpDxIdeal [hMlpUpDxIdeal : Cert.MlpUpDxIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg), Pre_MlpUpDxIdeal m →
    θ_run (Cert.MlpUpDxIdeal.defs (F := Ideal)) (onTc (τ := Cert.MlpUpDxIdeal.τ) (Cert.MlpUpDxIdeal.main (F := Ideal))) ⟨m, fun _ => 0, g⟩ (fun r => (∀ c : Dev Cert.MlpUpDxIdeal.nD,
      r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
      ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1))
      ∧ r.2.sem = fun _ => 0)

def quiescent_MlpUpDxReferenceIdeal [hMlpUpDxReferenceIdeal : Cert.MlpUpDxReferenceIdeal.Facts] : Prop :=
  ∀ (m : (ℓ : Loc Cert.MlpUpDxReferenceIdeal.nD Cert.MlpUpDxReferenceIdeal.τ Cert.MlpUpDxReferenceIdeal.sig) → Buf (Elt Ideal) ℓ) (g : Dev Cert.MlpUpDxReferenceIdeal.nD → PrngReg), Pre_MlpUpDxReferenceIdeal m →
    θ_run (Cert.MlpUpDxReferenceIdeal.defs (F := Ideal)) (onTc (τ := Cert.MlpUpDxReferenceIdeal.τ) (Cert.MlpUpDxReferenceIdeal.main (F := Ideal))) ⟨m, fun _ => 0, g⟩ (fun r => (∀ c : Dev Cert.MlpUpDxReferenceIdeal.nD,
      r.2.mem ((c.tc : Thread Cert.MlpUpDxReferenceIdeal.nD Cert.MlpUpDxReferenceIdeal.τ).loc Cert.MlpUpDxReferenceIdeal.main_arg0) = m ((c.tc : Thread Cert.MlpUpDxReferenceIdeal.nD Cert.MlpUpDxReferenceIdeal.τ).loc Cert.MlpUpDxReferenceIdeal.main_arg0)
      ∧ r.2.mem ((c.tc : Thread Cert.MlpUpDxReferenceIdeal.nD Cert.MlpUpDxReferenceIdeal.τ).loc Cert.MlpUpDxReferenceIdeal.main_arg1) = m ((c.tc : Thread Cert.MlpUpDxReferenceIdeal.nD Cert.MlpUpDxReferenceIdeal.τ).loc Cert.MlpUpDxReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwReferenceIdeal [hInProjDwReferenceIdeal : Cert.InProjDwReferenceIdeal.Facts] : Prop :=
  ∀ (m : (ℓ : Loc Cert.InProjDwReferenceIdeal.nD Cert.InProjDwReferenceIdeal.τ Cert.InProjDwReferenceIdeal.sig) → Buf (Elt Ideal) ℓ) (g : Dev Cert.InProjDwReferenceIdeal.nD → PrngReg), Pre_InProjDwReferenceIdeal m →
    θ_run (Cert.InProjDwReferenceIdeal.defs (F := Ideal)) (onTc (τ := Cert.InProjDwReferenceIdeal.τ) (Cert.InProjDwReferenceIdeal.main (F := Ideal))) ⟨m, fun _ => 0, g⟩ (fun r => (∀ c : Dev Cert.InProjDwReferenceIdeal.nD,
      r.2.mem ((c.tc : Thread Cert.InProjDwReferenceIdeal.nD Cert.InProjDwReferenceIdeal.τ).loc Cert.InProjDwReferenceIdeal.main_arg0) = m ((c.tc : Thread Cert.InProjDwReferenceIdeal.nD Cert.InProjDwReferenceIdeal.τ).loc Cert.InProjDwReferenceIdeal.main_arg0)
      ∧ r.2.mem ((c.tc : Thread Cert.InProjDwReferenceIdeal.nD Cert.InProjDwReferenceIdeal.τ).loc Cert.InProjDwReferenceIdeal.main_arg1) = m ((c.tc : Thread Cert.InProjDwReferenceIdeal.nD Cert.InProjDwReferenceIdeal.τ).loc Cert.InProjDwReferenceIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InProjDxReferenceIdeal [hInProjDxReferenceIdeal : Cert.InProjDxReferenceIdeal.Facts] : Prop :=
  ∀ (m : (ℓ : Loc Cert.InProjDxReferenceIdeal.nD Cert.InProjDxReferenceIdeal.τ Cert.InProjDxReferenceIdeal.sig) → Buf (Elt Ideal) ℓ) (g : Dev Cert.InProjDxReferenceIdeal.nD → PrngReg), Pre_InProjDxReferenceIdeal m →
    θ_run (Cert.InProjDxReferenceIdeal.defs (F := Ideal)) (onTc (τ := Cert.InProjDxReferenceIdeal.τ) (Cert.InProjDxReferenceIdeal.main (F := Ideal))) ⟨m, fun _ => 0, g⟩ (fun r => (∀ c : Dev Cert.InProjDxReferenceIdeal.nD,
      r.2.mem ((c.tc : Thread Cert.InProjDxReferenceIdeal.nD Cert.InProjDxReferenceIdeal.τ).loc Cert.InProjDxReferenceIdeal.main_arg0) = m ((c.tc : Thread Cert.InProjDxReferenceIdeal.nD Cert.InProjDxReferenceIdeal.τ).loc Cert.InProjDxReferenceIdeal.main_arg0)
      ∧ r.2.mem ((c.tc : Thread Cert.InProjDxReferenceIdeal.nD Cert.InProjDxReferenceIdeal.τ).loc Cert.InProjDxReferenceIdeal.main_arg1) = m ((c.tc : Thread Cert.InProjDxReferenceIdeal.nD Cert.InProjDxReferenceIdeal.τ).loc Cert.InProjDxReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwReferenceIdeal [hOutProjDwReferenceIdeal : Cert.OutProjDwReferenceIdeal.Facts] : Prop :=
  ∀ (m : (ℓ : Loc Cert.OutProjDwReferenceIdeal.nD Cert.OutProjDwReferenceIdeal.τ Cert.OutProjDwReferenceIdeal.sig) → Buf (Elt Ideal) ℓ) (g : Dev Cert.OutProjDwReferenceIdeal.nD → PrngReg), Pre_OutProjDwReferenceIdeal m →
    θ_run (Cert.OutProjDwReferenceIdeal.defs (F := Ideal)) (onTc (τ := Cert.OutProjDwReferenceIdeal.τ) (Cert.OutProjDwReferenceIdeal.main (F := Ideal))) ⟨m, fun _ => 0, g⟩ (fun r => (∀ c : Dev Cert.OutProjDwReferenceIdeal.nD,
      r.2.mem ((c.tc : Thread Cert.OutProjDwReferenceIdeal.nD Cert.OutProjDwReferenceIdeal.τ).loc Cert.OutProjDwReferenceIdeal.main_arg0) = m ((c.tc : Thread Cert.OutProjDwReferenceIdeal.nD Cert.OutProjDwReferenceIdeal.τ).loc Cert.OutProjDwReferenceIdeal.main_arg0)
      ∧ r.2.mem ((c.tc : Thread Cert.OutProjDwReferenceIdeal.nD Cert.OutProjDwReferenceIdeal.τ).loc Cert.OutProjDwReferenceIdeal.main_arg1) = m ((c.tc : Thread Cert.OutProjDwReferenceIdeal.nD Cert.OutProjDwReferenceIdeal.τ).loc Cert.OutProjDwReferenceIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxReferenceIdeal [hOutProjDxReferenceIdeal : Cert.OutProjDxReferenceIdeal.Facts] : Prop :=
  ∀ (m : (ℓ : Loc Cert.OutProjDxReferenceIdeal.nD Cert.OutProjDxReferenceIdeal.τ Cert.OutProjDxReferenceIdeal.sig) → Buf (Elt Ideal) ℓ) (g : Dev Cert.OutProjDxReferenceIdeal.nD → PrngReg), Pre_OutProjDxReferenceIdeal m →
    θ_run (Cert.OutProjDxReferenceIdeal.defs (F := Ideal)) (onTc (τ := Cert.OutProjDxReferenceIdeal.τ) (Cert.OutProjDxReferenceIdeal.main (F := Ideal))) ⟨m, fun _ => 0, g⟩ (fun r => (∀ c : Dev Cert.OutProjDxReferenceIdeal.nD,
      r.2.mem ((c.tc : Thread Cert.OutProjDxReferenceIdeal.nD Cert.OutProjDxReferenceIdeal.τ).loc Cert.OutProjDxReferenceIdeal.main_arg0) = m ((c.tc : Thread Cert.OutProjDxReferenceIdeal.nD Cert.OutProjDxReferenceIdeal.τ).loc Cert.OutProjDxReferenceIdeal.main_arg0)
      ∧ r.2.mem ((c.tc : Thread Cert.OutProjDxReferenceIdeal.nD Cert.OutProjDxReferenceIdeal.τ).loc Cert.OutProjDxReferenceIdeal.main_arg1) = m ((c.tc : Thread Cert.OutProjDxReferenceIdeal.nD Cert.OutProjDxReferenceIdeal.τ).loc Cert.OutProjDxReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwReferenceIdeal [hQkvDwReferenceIdeal : Cert.QkvDwReferenceIdeal.Facts] : Prop :=
  ∀ (m : (ℓ : Loc Cert.QkvDwReferenceIdeal.nD Cert.QkvDwReferenceIdeal.τ Cert.QkvDwReferenceIdeal.sig) → Buf (Elt Ideal) ℓ) (g : Dev Cert.QkvDwReferenceIdeal.nD → PrngReg), Pre_QkvDwReferenceIdeal m →
    θ_run (Cert.QkvDwReferenceIdeal.defs (F := Ideal)) (onTc (τ := Cert.QkvDwReferenceIdeal.τ) (Cert.QkvDwReferenceIdeal.main (F := Ideal))) ⟨m, fun _ => 0, g⟩ (fun r => (∀ c : Dev Cert.QkvDwReferenceIdeal.nD,
      r.2.mem ((c.tc : Thread Cert.QkvDwReferenceIdeal.nD Cert.QkvDwReferenceIdeal.τ).loc Cert.QkvDwReferenceIdeal.main_arg0) = m ((c.tc : Thread Cert.QkvDwReferenceIdeal.nD Cert.QkvDwReferenceIdeal.τ).loc Cert.QkvDwReferenceIdeal.main_arg0)
      ∧ r.2.mem ((c.tc : Thread Cert.QkvDwReferenceIdeal.nD Cert.QkvDwReferenceIdeal.τ).loc Cert.QkvDwReferenceIdeal.main_arg1) = m ((c.tc : Thread Cert.QkvDwReferenceIdeal.nD Cert.QkvDwReferenceIdeal.τ).loc Cert.QkvDwReferenceIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxReferenceIdeal [hQkvDxReferenceIdeal : Cert.QkvDxReferenceIdeal.Facts] : Prop :=
  ∀ (m : (ℓ : Loc Cert.QkvDxReferenceIdeal.nD Cert.QkvDxReferenceIdeal.τ Cert.QkvDxReferenceIdeal.sig) → Buf (Elt Ideal) ℓ) (g : Dev Cert.QkvDxReferenceIdeal.nD → PrngReg), Pre_QkvDxReferenceIdeal m →
    θ_run (Cert.QkvDxReferenceIdeal.defs (F := Ideal)) (onTc (τ := Cert.QkvDxReferenceIdeal.τ) (Cert.QkvDxReferenceIdeal.main (F := Ideal))) ⟨m, fun _ => 0, g⟩ (fun r => (∀ c : Dev Cert.QkvDxReferenceIdeal.nD,
      r.2.mem ((c.tc : Thread Cert.QkvDxReferenceIdeal.nD Cert.QkvDxReferenceIdeal.τ).loc Cert.QkvDxReferenceIdeal.main_arg0) = m ((c.tc : Thread Cert.QkvDxReferenceIdeal.nD Cert.QkvDxReferenceIdeal.τ).loc Cert.QkvDxReferenceIdeal.main_arg0)
      ∧ r.2.mem ((c.tc : Thread Cert.QkvDxReferenceIdeal.nD Cert.QkvDxReferenceIdeal.τ).loc Cert.QkvDxReferenceIdeal.main_arg1) = m ((c.tc : Thread Cert.QkvDxReferenceIdeal.nD Cert.QkvDxReferenceIdeal.τ).loc Cert.QkvDxReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwReferenceIdeal [hAttnOutDwReferenceIdeal : Cert.AttnOutDwReferenceIdeal.Facts] : Prop :=
  ∀ (m : (ℓ : Loc Cert.AttnOutDwReferenceIdeal.nD Cert.AttnOutDwReferenceIdeal.τ Cert.AttnOutDwReferenceIdeal.sig) → Buf (Elt Ideal) ℓ) (g : Dev Cert.AttnOutDwReferenceIdeal.nD → PrngReg), Pre_AttnOutDwReferenceIdeal m →
    θ_run (Cert.AttnOutDwReferenceIdeal.defs (F := Ideal)) (onTc (τ := Cert.AttnOutDwReferenceIdeal.τ) (Cert.AttnOutDwReferenceIdeal.main (F := Ideal))) ⟨m, fun _ => 0, g⟩ (fun r => (∀ c : Dev Cert.AttnOutDwReferenceIdeal.nD,
      r.2.mem ((c.tc : Thread Cert.AttnOutDwReferenceIdeal.nD Cert.AttnOutDwReferenceIdeal.τ).loc Cert.AttnOutDwReferenceIdeal.main_arg0) = m ((c.tc : Thread Cert.AttnOutDwReferenceIdeal.nD Cert.AttnOutDwReferenceIdeal.τ).loc Cert.AttnOutDwReferenceIdeal.main_arg0)
      ∧ r.2.mem ((c.tc : Thread Cert.AttnOutDwReferenceIdeal.nD Cert.AttnOutDwReferenceIdeal.τ).loc Cert.AttnOutDwReferenceIdeal.main_arg1) = m ((c.tc : Thread Cert.AttnOutDwReferenceIdeal.nD Cert.AttnOutDwReferenceIdeal.τ).loc Cert.AttnOutDwReferenceIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxReferenceIdeal [hAttnOutDxReferenceIdeal : Cert.AttnOutDxReferenceIdeal.Facts] : Prop :=
  ∀ (m : (ℓ : Loc Cert.AttnOutDxReferenceIdeal.nD Cert.AttnOutDxReferenceIdeal.τ Cert.AttnOutDxReferenceIdeal.sig) → Buf (Elt Ideal) ℓ) (g : Dev Cert.AttnOutDxReferenceIdeal.nD → PrngReg), Pre_AttnOutDxReferenceIdeal m →
    θ_run (Cert.AttnOutDxReferenceIdeal.defs (F := Ideal)) (onTc (τ := Cert.AttnOutDxReferenceIdeal.τ) (Cert.AttnOutDxReferenceIdeal.main (F := Ideal))) ⟨m, fun _ => 0, g⟩ (fun r => (∀ c : Dev Cert.AttnOutDxReferenceIdeal.nD,
      r.2.mem ((c.tc : Thread Cert.AttnOutDxReferenceIdeal.nD Cert.AttnOutDxReferenceIdeal.τ).loc Cert.AttnOutDxReferenceIdeal.main_arg0) = m ((c.tc : Thread Cert.AttnOutDxReferenceIdeal.nD Cert.AttnOutDxReferenceIdeal.τ).loc Cert.AttnOutDxReferenceIdeal.main_arg0)
      ∧ r.2.mem ((c.tc : Thread Cert.AttnOutDxReferenceIdeal.nD Cert.AttnOutDxReferenceIdeal.τ).loc Cert.AttnOutDxReferenceIdeal.main_arg1) = m ((c.tc : Thread Cert.AttnOutDxReferenceIdeal.nD Cert.AttnOutDxReferenceIdeal.τ).loc Cert.AttnOutDxReferenceIdeal.main_arg1))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3)
      ∧ r.2.mem ((c.tc : Thread Cert.AdamwDown.nD Cert.AdamwDown.τ).loc Cert.AdamwDown.main_arg4) = m ((c.tc : Thread Cert.AdamwDown.nD Cert.AdamwDown.τ).loc Cert.AdamwDown.main_arg4))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
      ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4))
      ∧ r.2.sem = fun _ => 0)

def quiescent_AdamwDownReferenceIdeal [hAdamwDownReferenceIdeal : Cert.AdamwDownReferenceIdeal.Facts] : Prop :=
  ∀ (m : (ℓ : Loc Cert.AdamwDownReferenceIdeal.nD Cert.AdamwDownReferenceIdeal.τ Cert.AdamwDownReferenceIdeal.sig) → Buf (Elt Ideal) ℓ) (g : Dev Cert.AdamwDownReferenceIdeal.nD → PrngReg), Pre_AdamwDownReferenceIdeal m →
    θ_run (Cert.AdamwDownReferenceIdeal.defs (F := Ideal)) (onTc (τ := Cert.AdamwDownReferenceIdeal.τ) (Cert.AdamwDownReferenceIdeal.main (F := Ideal))) ⟨m, fun _ => 0, g⟩ (fun r => (∀ c : Dev Cert.AdamwDownReferenceIdeal.nD,
      r.2.mem ((c.tc : Thread Cert.AdamwDownReferenceIdeal.nD Cert.AdamwDownReferenceIdeal.τ).loc Cert.AdamwDownReferenceIdeal.main_arg0) = m ((c.tc : Thread Cert.AdamwDownReferenceIdeal.nD Cert.AdamwDownReferenceIdeal.τ).loc Cert.AdamwDownReferenceIdeal.main_arg0)
      ∧ r.2.mem ((c.tc : Thread Cert.AdamwDownReferenceIdeal.nD Cert.AdamwDownReferenceIdeal.τ).loc Cert.AdamwDownReferenceIdeal.main_arg1) = m ((c.tc : Thread Cert.AdamwDownReferenceIdeal.nD Cert.AdamwDownReferenceIdeal.τ).loc Cert.AdamwDownReferenceIdeal.main_arg1)
      ∧ r.2.mem ((c.tc : Thread Cert.AdamwDownReferenceIdeal.nD Cert.AdamwDownReferenceIdeal.τ).loc Cert.AdamwDownReferenceIdeal.main_arg2) = m ((c.tc : Thread Cert.AdamwDownReferenceIdeal.nD Cert.AdamwDownReferenceIdeal.τ).loc Cert.AdamwDownReferenceIdeal.main_arg2)
      ∧ r.2.mem ((c.tc : Thread Cert.AdamwDownReferenceIdeal.nD Cert.AdamwDownReferenceIdeal.τ).loc Cert.AdamwDownReferenceIdeal.main_arg3) = m ((c.tc : Thread Cert.AdamwDownReferenceIdeal.nD Cert.AdamwDownReferenceIdeal.τ).loc Cert.AdamwDownReferenceIdeal.main_arg3)
      ∧ r.2.mem ((c.tc : Thread Cert.AdamwDownReferenceIdeal.nD Cert.AdamwDownReferenceIdeal.τ).loc Cert.AdamwDownReferenceIdeal.main_arg4) = m ((c.tc : Thread Cert.AdamwDownReferenceIdeal.nD Cert.AdamwDownReferenceIdeal.τ).loc Cert.AdamwDownReferenceIdeal.main_arg4))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3)
      ∧ r.2.mem ((c.tc : Thread Cert.AdamwUp.nD Cert.AdamwUp.τ).loc Cert.AdamwUp.main_arg4) = m ((c.tc : Thread Cert.AdamwUp.nD Cert.AdamwUp.τ).loc Cert.AdamwUp.main_arg4))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
      ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4))
      ∧ r.2.sem = fun _ => 0)

def quiescent_AdamwUpReferenceIdeal [hAdamwUpReferenceIdeal : Cert.AdamwUpReferenceIdeal.Facts] : Prop :=
  ∀ (m : (ℓ : Loc Cert.AdamwUpReferenceIdeal.nD Cert.AdamwUpReferenceIdeal.τ Cert.AdamwUpReferenceIdeal.sig) → Buf (Elt Ideal) ℓ) (g : Dev Cert.AdamwUpReferenceIdeal.nD → PrngReg), Pre_AdamwUpReferenceIdeal m →
    θ_run (Cert.AdamwUpReferenceIdeal.defs (F := Ideal)) (onTc (τ := Cert.AdamwUpReferenceIdeal.τ) (Cert.AdamwUpReferenceIdeal.main (F := Ideal))) ⟨m, fun _ => 0, g⟩ (fun r => (∀ c : Dev Cert.AdamwUpReferenceIdeal.nD,
      r.2.mem ((c.tc : Thread Cert.AdamwUpReferenceIdeal.nD Cert.AdamwUpReferenceIdeal.τ).loc Cert.AdamwUpReferenceIdeal.main_arg0) = m ((c.tc : Thread Cert.AdamwUpReferenceIdeal.nD Cert.AdamwUpReferenceIdeal.τ).loc Cert.AdamwUpReferenceIdeal.main_arg0)
      ∧ r.2.mem ((c.tc : Thread Cert.AdamwUpReferenceIdeal.nD Cert.AdamwUpReferenceIdeal.τ).loc Cert.AdamwUpReferenceIdeal.main_arg1) = m ((c.tc : Thread Cert.AdamwUpReferenceIdeal.nD Cert.AdamwUpReferenceIdeal.τ).loc Cert.AdamwUpReferenceIdeal.main_arg1)
      ∧ r.2.mem ((c.tc : Thread Cert.AdamwUpReferenceIdeal.nD Cert.AdamwUpReferenceIdeal.τ).loc Cert.AdamwUpReferenceIdeal.main_arg2) = m ((c.tc : Thread Cert.AdamwUpReferenceIdeal.nD Cert.AdamwUpReferenceIdeal.τ).loc Cert.AdamwUpReferenceIdeal.main_arg2)
      ∧ r.2.mem ((c.tc : Thread Cert.AdamwUpReferenceIdeal.nD Cert.AdamwUpReferenceIdeal.τ).loc Cert.AdamwUpReferenceIdeal.main_arg3) = m ((c.tc : Thread Cert.AdamwUpReferenceIdeal.nD Cert.AdamwUpReferenceIdeal.τ).loc Cert.AdamwUpReferenceIdeal.main_arg3)
      ∧ r.2.mem ((c.tc : Thread Cert.AdamwUpReferenceIdeal.nD Cert.AdamwUpReferenceIdeal.τ).loc Cert.AdamwUpReferenceIdeal.main_arg4) = m ((c.tc : Thread Cert.AdamwUpReferenceIdeal.nD Cert.AdamwUpReferenceIdeal.τ).loc Cert.AdamwUpReferenceIdeal.main_arg4))
      ∧ r.2.sem = fun _ => 0)

def quiescent_AdamwQkv [hAdamwQkv : Cert.AdamwQkv.Facts] : Prop :=
  ∀ (m : (ℓ : Loc Cert.AdamwQkv.nD Cert.AdamwQkv.τ Cert.AdamwQkv.sig) → Buf (Elt Bits) ℓ) (g : Dev Cert.AdamwQkv.nD → PrngReg), Pre_AdamwQkv m →
    θ_run (Cert.AdamwQkv.defs (F := Bits)) (onTc (τ := Cert.AdamwQkv.τ) (Cert.AdamwQkv.main (F := Bits))) ⟨m, fun _ => 0, g⟩ (fun r => (∀ c : Dev Cert.AdamwQkv.nD,
      r.2.mem ((c.tc : Thread Cert.AdamwQkv.nD Cert.AdamwQkv.τ).loc Cert.AdamwQkv.main_arg0) = m ((c.tc : Thread Cert.AdamwQkv.nD Cert.AdamwQkv.τ).loc Cert.AdamwQkv.main_arg0)
      ∧ r.2.mem ((c.tc : Thread Cert.AdamwQkv.nD Cert.AdamwQkv.τ).loc Cert.AdamwQkv.main_arg1) = m ((c.tc : Thread Cert.AdamwQkv.nD Cert.AdamwQkv.τ).loc Cert.AdamwQkv.main_arg1)
      ∧ r.2.mem ((c.tc : Thread Cert.AdamwQkv.nD Cert.AdamwQkv.τ).loc Cert.AdamwQkv.main_arg2) = m ((c.tc : Thread Cert.AdamwQkv.nD Cert.AdamwQkv.τ).loc Cert.AdamwQkv.main_arg2)
      ∧ r.2.mem ((c.tc : Thread Cert.AdamwQkv.nD Cert.AdamwQkv.τ).loc Cert.AdamwQkv.main_arg3) = m ((c.tc : Thread Cert.AdamwQkv.nD Cert.AdamwQkv.τ).loc Cert.AdamwQkv.main_arg3))
      ∧ r.2.sem = fun _ => 0)

def quiescent_AdamwQkvIdeal [hAdamwQkvIdeal : Cert.AdamwQkvIdeal.Facts] : Prop :=
  ∀ (m : (ℓ : Loc Cert.AdamwQkvIdeal.nD Cert.AdamwQkvIdeal.τ Cert.AdamwQkvIdeal.sig) → Buf (Elt Ideal) ℓ) (g : Dev Cert.AdamwQkvIdeal.nD → PrngReg), Pre_AdamwQkvIdeal m →
    θ_run (Cert.AdamwQkvIdeal.defs (F := Ideal)) (onTc (τ := Cert.AdamwQkvIdeal.τ) (Cert.AdamwQkvIdeal.main (F := Ideal))) ⟨m, fun _ => 0, g⟩ (fun r => (∀ c : Dev Cert.AdamwQkvIdeal.nD,
      r.2.mem ((c.tc : Thread Cert.AdamwQkvIdeal.nD Cert.AdamwQkvIdeal.τ).loc Cert.AdamwQkvIdeal.main_arg0) = m ((c.tc : Thread Cert.AdamwQkvIdeal.nD Cert.AdamwQkvIdeal.τ).loc Cert.AdamwQkvIdeal.main_arg0)
      ∧ r.2.mem ((c.tc : Thread Cert.AdamwQkvIdeal.nD Cert.AdamwQkvIdeal.τ).loc Cert.AdamwQkvIdeal.main_arg1) = m ((c.tc : Thread Cert.AdamwQkvIdeal.nD Cert.AdamwQkvIdeal.τ).loc Cert.AdamwQkvIdeal.main_arg1)
      ∧ r.2.mem ((c.tc : Thread Cert.AdamwQkvIdeal.nD Cert.AdamwQkvIdeal.τ).loc Cert.AdamwQkvIdeal.main_arg2) = m ((c.tc : Thread Cert.AdamwQkvIdeal.nD Cert.AdamwQkvIdeal.τ).loc Cert.AdamwQkvIdeal.main_arg2)
      ∧ r.2.mem ((c.tc : Thread Cert.AdamwQkvIdeal.nD Cert.AdamwQkvIdeal.τ).loc Cert.AdamwQkvIdeal.main_arg3) = m ((c.tc : Thread Cert.AdamwQkvIdeal.nD Cert.AdamwQkvIdeal.τ).loc Cert.AdamwQkvIdeal.main_arg3))
      ∧ r.2.sem = fun _ => 0)

def quiescent_AdamwQkvReferenceIdeal [hAdamwQkvReferenceIdeal : Cert.AdamwQkvReferenceIdeal.Facts] : Prop :=
  ∀ (m : (ℓ : Loc Cert.AdamwQkvReferenceIdeal.nD Cert.AdamwQkvReferenceIdeal.τ Cert.AdamwQkvReferenceIdeal.sig) → Buf (Elt Ideal) ℓ) (g : Dev Cert.AdamwQkvReferenceIdeal.nD → PrngReg), Pre_AdamwQkvReferenceIdeal m →
    θ_run (Cert.AdamwQkvReferenceIdeal.defs (F := Ideal)) (onTc (τ := Cert.AdamwQkvReferenceIdeal.τ) (Cert.AdamwQkvReferenceIdeal.main (F := Ideal))) ⟨m, fun _ => 0, g⟩ (fun r => (∀ c : Dev Cert.AdamwQkvReferenceIdeal.nD,
      r.2.mem ((c.tc : Thread Cert.AdamwQkvReferenceIdeal.nD Cert.AdamwQkvReferenceIdeal.τ).loc Cert.AdamwQkvReferenceIdeal.main_arg0) = m ((c.tc : Thread Cert.AdamwQkvReferenceIdeal.nD Cert.AdamwQkvReferenceIdeal.τ).loc Cert.AdamwQkvReferenceIdeal.main_arg0)
      ∧ r.2.mem ((c.tc : Thread Cert.AdamwQkvReferenceIdeal.nD Cert.AdamwQkvReferenceIdeal.τ).loc Cert.AdamwQkvReferenceIdeal.main_arg1) = m ((c.tc : Thread Cert.AdamwQkvReferenceIdeal.nD Cert.AdamwQkvReferenceIdeal.τ).loc Cert.AdamwQkvReferenceIdeal.main_arg1)
      ∧ r.2.mem ((c.tc : Thread Cert.AdamwQkvReferenceIdeal.nD Cert.AdamwQkvReferenceIdeal.τ).loc Cert.AdamwQkvReferenceIdeal.main_arg2) = m ((c.tc : Thread Cert.AdamwQkvReferenceIdeal.nD Cert.AdamwQkvReferenceIdeal.τ).loc Cert.AdamwQkvReferenceIdeal.main_arg2)
      ∧ r.2.mem ((c.tc : Thread Cert.AdamwQkvReferenceIdeal.nD Cert.AdamwQkvReferenceIdeal.τ).loc Cert.AdamwQkvReferenceIdeal.main_arg3) = m ((c.tc : Thread Cert.AdamwQkvReferenceIdeal.nD Cert.AdamwQkvReferenceIdeal.τ).loc Cert.AdamwQkvReferenceIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3)
      ∧ r.2.mem ((c.tc : Thread Cert.AdamwSmall.nD Cert.AdamwSmall.τ).loc Cert.AdamwSmall.main_arg4) = m ((c.tc : Thread Cert.AdamwSmall.nD Cert.AdamwSmall.τ).loc Cert.AdamwSmall.main_arg4)
      ∧ r.2.mem ((c.tc : Thread Cert.AdamwSmall.nD Cert.AdamwSmall.τ).loc Cert.AdamwSmall.main_arg5) = m ((c.tc : Thread Cert.AdamwSmall.nD Cert.AdamwSmall.τ).loc Cert.AdamwSmall.main_arg5)
      ∧ r.2.mem ((c.tc : Thread Cert.AdamwSmall.nD Cert.AdamwSmall.τ).loc Cert.AdamwSmall.main_arg6) = m ((c.tc : Thread Cert.AdamwSmall.nD Cert.AdamwSmall.τ).loc Cert.AdamwSmall.main_arg6)
      ∧ r.2.mem ((c.tc : Thread Cert.AdamwSmall.nD Cert.AdamwSmall.τ).loc Cert.AdamwSmall.main_arg7) = m ((c.tc : Thread Cert.AdamwSmall.nD Cert.AdamwSmall.τ).loc Cert.AdamwSmall.main_arg7)
      ∧ r.2.mem ((c.tc : Thread Cert.AdamwSmall.nD Cert.AdamwSmall.τ).loc Cert.AdamwSmall.main_arg8) = m ((c.tc : Thread Cert.AdamwSmall.nD Cert.AdamwSmall.τ).loc Cert.AdamwSmall.main_arg8)
      ∧ r.2.mem ((c.tc : Thread Cert.AdamwSmall.nD Cert.AdamwSmall.τ).loc Cert.AdamwSmall.main_arg9) = m ((c.tc : Thread Cert.AdamwSmall.nD Cert.AdamwSmall.τ).loc Cert.AdamwSmall.main_arg9)
      ∧ r.2.mem ((c.tc : Thread Cert.AdamwSmall.nD Cert.AdamwSmall.τ).loc Cert.AdamwSmall.main_arg10) = m ((c.tc : Thread Cert.AdamwSmall.nD Cert.AdamwSmall.τ).loc Cert.AdamwSmall.main_arg10)
      ∧ r.2.mem ((c.tc : Thread Cert.AdamwSmall.nD Cert.AdamwSmall.τ).loc Cert.AdamwSmall.main_arg11) = m ((c.tc : Thread Cert.AdamwSmall.nD Cert.AdamwSmall.τ).loc Cert.AdamwSmall.main_arg11)
      ∧ r.2.mem ((c.tc : Thread Cert.AdamwSmall.nD Cert.AdamwSmall.τ).loc Cert.AdamwSmall.main_arg12) = m ((c.tc : Thread Cert.AdamwSmall.nD Cert.AdamwSmall.τ).loc Cert.AdamwSmall.main_arg12)
      ∧ r.2.mem ((c.tc : Thread Cert.AdamwSmall.nD Cert.AdamwSmall.τ).loc Cert.AdamwSmall.main_arg13) = m ((c.tc : Thread Cert.AdamwSmall.nD Cert.AdamwSmall.τ).loc Cert.AdamwSmall.main_arg13)
      ∧ r.2.mem ((c.tc : Thread Cert.AdamwSmall.nD Cert.AdamwSmall.τ).loc Cert.AdamwSmall.main_arg14) = m ((c.tc : Thread Cert.AdamwSmall.nD Cert.AdamwSmall.τ).loc Cert.AdamwSmall.main_arg14)
      ∧ r.2.mem ((c.tc : Thread Cert.AdamwSmall.nD Cert.AdamwSmall.τ).loc Cert.AdamwSmall.main_arg15) = m ((c.tc : Thread Cert.AdamwSmall.nD Cert.AdamwSmall.τ).loc Cert.AdamwSmall.main_arg15)
      ∧ r.2.mem ((c.tc : Thread Cert.AdamwSmall.nD Cert.AdamwSmall.τ).loc Cert.AdamwSmall.main_arg16) = m ((c.tc : Thread Cert.AdamwSmall.nD Cert.AdamwSmall.τ).loc Cert.AdamwSmall.main_arg16)
      ∧ r.2.mem ((c.tc : Thread Cert.AdamwSmall.nD Cert.AdamwSmall.τ).loc Cert.AdamwSmall.main_arg17) = m ((c.tc : Thread Cert.AdamwSmall.nD Cert.AdamwSmall.τ).loc Cert.AdamwSmall.main_arg17)
      ∧ r.2.mem ((c.tc : Thread Cert.AdamwSmall.nD Cert.AdamwSmall.τ).loc Cert.AdamwSmall.main_arg18) = m ((c.tc : Thread Cert.AdamwSmall.nD Cert.AdamwSmall.τ).loc Cert.AdamwSmall.main_arg18)
      ∧ r.2.mem ((c.tc : Thread Cert.AdamwSmall.nD Cert.AdamwSmall.τ).loc Cert.AdamwSmall.main_arg19) = m ((c.tc : Thread Cert.AdamwSmall.nD Cert.AdamwSmall.τ).loc Cert.AdamwSmall.main_arg19)
      ∧ r.2.mem ((c.tc : Thread Cert.AdamwSmall.nD Cert.AdamwSmall.τ).loc Cert.AdamwSmall.main_arg20) = m ((c.tc : Thread Cert.AdamwSmall.nD Cert.AdamwSmall.τ).loc Cert.AdamwSmall.main_arg20)
      ∧ r.2.mem ((c.tc : Thread Cert.AdamwSmall.nD Cert.AdamwSmall.τ).loc Cert.AdamwSmall.main_arg21) = m ((c.tc : Thread Cert.AdamwSmall.nD Cert.AdamwSmall.τ).loc Cert.AdamwSmall.main_arg21)
      ∧ r.2.mem ((c.tc : Thread Cert.AdamwSmall.nD Cert.AdamwSmall.τ).loc Cert.AdamwSmall.main_arg22) = m ((c.tc : Thread Cert.AdamwSmall.nD Cert.AdamwSmall.τ).loc Cert.AdamwSmall.main_arg22)
      ∧ r.2.mem ((c.tc : Thread Cert.AdamwSmall.nD Cert.AdamwSmall.τ).loc Cert.AdamwSmall.main_arg23) = m ((c.tc : Thread Cert.AdamwSmall.nD Cert.AdamwSmall.τ).loc Cert.AdamwSmall.main_arg23)
      ∧ r.2.mem ((c.tc : Thread Cert.AdamwSmall.nD Cert.AdamwSmall.τ).loc Cert.AdamwSmall.main_arg24) = m ((c.tc : Thread Cert.AdamwSmall.nD Cert.AdamwSmall.τ).loc Cert.AdamwSmall.main_arg24)
      ∧ r.2.mem ((c.tc : Thread Cert.AdamwSmall.nD Cert.AdamwSmall.τ).loc Cert.AdamwSmall.main_arg25) = m ((c.tc : Thread Cert.AdamwSmall.nD Cert.AdamwSmall.τ).loc Cert.AdamwSmall.main_arg25)
      ∧ r.2.mem ((c.tc : Thread Cert.AdamwSmall.nD Cert.AdamwSmall.τ).loc Cert.AdamwSmall.main_arg26) = m ((c.tc : Thread Cert.AdamwSmall.nD Cert.AdamwSmall.τ).loc Cert.AdamwSmall.main_arg26)
      ∧ r.2.mem ((c.tc : Thread Cert.AdamwSmall.nD Cert.AdamwSmall.τ).loc Cert.AdamwSmall.main_arg27) = m ((c.tc : Thread Cert.AdamwSmall.nD Cert.AdamwSmall.τ).loc Cert.AdamwSmall.main_arg27)
      ∧ r.2.mem ((c.tc : Thread Cert.AdamwSmall.nD Cert.AdamwSmall.τ).loc Cert.AdamwSmall.main_arg28) = m ((c.tc : Thread Cert.AdamwSmall.nD Cert.AdamwSmall.τ).loc Cert.AdamwSmall.main_arg28)
      ∧ r.2.mem ((c.tc : Thread Cert.AdamwSmall.nD Cert.AdamwSmall.τ).loc Cert.AdamwSmall.main_arg29) = m ((c.tc : Thread Cert.AdamwSmall.nD Cert.AdamwSmall.τ).loc Cert.AdamwSmall.main_arg29)
      ∧ r.2.mem ((c.tc : Thread Cert.AdamwSmall.nD Cert.AdamwSmall.τ).loc Cert.AdamwSmall.main_arg30) = m ((c.tc : Thread Cert.AdamwSmall.nD Cert.AdamwSmall.τ).loc Cert.AdamwSmall.main_arg30)
      ∧ r.2.mem ((c.tc : Thread Cert.AdamwSmall.nD Cert.AdamwSmall.τ).loc Cert.AdamwSmall.main_arg31) = m ((c.tc : Thread Cert.AdamwSmall.nD Cert.AdamwSmall.τ).loc Cert.AdamwSmall.main_arg31)
      ∧ r.2.mem ((c.tc : Thread Cert.AdamwSmall.nD Cert.AdamwSmall.τ).loc Cert.AdamwSmall.main_arg32) = m ((c.tc : Thread Cert.AdamwSmall.nD Cert.AdamwSmall.τ).loc Cert.AdamwSmall.main_arg32)
      ∧ r.2.mem ((c.tc : Thread Cert.AdamwSmall.nD Cert.AdamwSmall.τ).loc Cert.AdamwSmall.main_arg33) = m ((c.tc : Thread Cert.AdamwSmall.nD Cert.AdamwSmall.τ).loc Cert.AdamwSmall.main_arg33)
      ∧ r.2.mem ((c.tc : Thread Cert.AdamwSmall.nD Cert.AdamwSmall.τ).loc Cert.AdamwSmall.main_arg34) = m ((c.tc : Thread Cert.AdamwSmall.nD Cert.AdamwSmall.τ).loc Cert.AdamwSmall.main_arg34)
      ∧ r.2.mem ((c.tc : Thread Cert.AdamwSmall.nD Cert.AdamwSmall.τ).loc Cert.AdamwSmall.main_arg35) = m ((c.tc : Thread Cert.AdamwSmall.nD Cert.AdamwSmall.τ).loc Cert.AdamwSmall.main_arg35))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3)
      ∧ r.2.mem ((c.tc : Thread Cert.AdamwSmallIdeal.nD Cert.AdamwSmallIdeal.τ).loc Cert.AdamwSmallIdeal.main_arg4) = m ((c.tc : Thread Cert.AdamwSmallIdeal.nD Cert.AdamwSmallIdeal.τ).loc Cert.AdamwSmallIdeal.main_arg4)
      ∧ r.2.mem ((c.tc : Thread Cert.AdamwSmallIdeal.nD Cert.AdamwSmallIdeal.τ).loc Cert.AdamwSmallIdeal.main_arg5) = m ((c.tc : Thread Cert.AdamwSmallIdeal.nD Cert.AdamwSmallIdeal.τ).loc Cert.AdamwSmallIdeal.main_arg5)
      ∧ r.2.mem ((c.tc : Thread Cert.AdamwSmallIdeal.nD Cert.AdamwSmallIdeal.τ).loc Cert.AdamwSmallIdeal.main_arg6) = m ((c.tc : Thread Cert.AdamwSmallIdeal.nD Cert.AdamwSmallIdeal.τ).loc Cert.AdamwSmallIdeal.main_arg6)
      ∧ r.2.mem ((c.tc : Thread Cert.AdamwSmallIdeal.nD Cert.AdamwSmallIdeal.τ).loc Cert.AdamwSmallIdeal.main_arg7) = m ((c.tc : Thread Cert.AdamwSmallIdeal.nD Cert.AdamwSmallIdeal.τ).loc Cert.AdamwSmallIdeal.main_arg7)
      ∧ r.2.mem ((c.tc : Thread Cert.AdamwSmallIdeal.nD Cert.AdamwSmallIdeal.τ).loc Cert.AdamwSmallIdeal.main_arg8) = m ((c.tc : Thread Cert.AdamwSmallIdeal.nD Cert.AdamwSmallIdeal.τ).loc Cert.AdamwSmallIdeal.main_arg8)
      ∧ r.2.mem ((c.tc : Thread Cert.AdamwSmallIdeal.nD Cert.AdamwSmallIdeal.τ).loc Cert.AdamwSmallIdeal.main_arg9) = m ((c.tc : Thread Cert.AdamwSmallIdeal.nD Cert.AdamwSmallIdeal.τ).loc Cert.AdamwSmallIdeal.main_arg9)
      ∧ r.2.mem ((c.tc : Thread Cert.AdamwSmallIdeal.nD Cert.AdamwSmallIdeal.τ).loc Cert.AdamwSmallIdeal.main_arg10) = m ((c.tc : Thread Cert.AdamwSmallIdeal.nD Cert.AdamwSmallIdeal.τ).loc Cert.AdamwSmallIdeal.main_arg10)
      ∧ r.2.mem ((c.tc : Thread Cert.AdamwSmallIdeal.nD Cert.AdamwSmallIdeal.τ).loc Cert.AdamwSmallIdeal.main_arg11) = m ((c.tc : Thread Cert.AdamwSmallIdeal.nD Cert.AdamwSmallIdeal.τ).loc Cert.AdamwSmallIdeal.main_arg11)
      ∧ r.2.mem ((c.tc : Thread Cert.AdamwSmallIdeal.nD Cert.AdamwSmallIdeal.τ).loc Cert.AdamwSmallIdeal.main_arg12) = m ((c.tc : Thread Cert.AdamwSmallIdeal.nD Cert.AdamwSmallIdeal.τ).loc Cert.AdamwSmallIdeal.main_arg12)
      ∧ r.2.mem ((c.tc : Thread Cert.AdamwSmallIdeal.nD Cert.AdamwSmallIdeal.τ).loc Cert.AdamwSmallIdeal.main_arg13) = m ((c.tc : Thread Cert.AdamwSmallIdeal.nD Cert.AdamwSmallIdeal.τ).loc Cert.AdamwSmallIdeal.main_arg13)
      ∧ r.2.mem ((c.tc : Thread Cert.AdamwSmallIdeal.nD Cert.AdamwSmallIdeal.τ).loc Cert.AdamwSmallIdeal.main_arg14) = m ((c.tc : Thread Cert.AdamwSmallIdeal.nD Cert.AdamwSmallIdeal.τ).loc Cert.AdamwSmallIdeal.main_arg14)
      ∧ r.2.mem ((c.tc : Thread Cert.AdamwSmallIdeal.nD Cert.AdamwSmallIdeal.τ).loc Cert.AdamwSmallIdeal.main_arg15) = m ((c.tc : Thread Cert.AdamwSmallIdeal.nD Cert.AdamwSmallIdeal.τ).loc Cert.AdamwSmallIdeal.main_arg15)
      ∧ r.2.mem ((c.tc : Thread Cert.AdamwSmallIdeal.nD Cert.AdamwSmallIdeal.τ).loc Cert.AdamwSmallIdeal.main_arg16) = m ((c.tc : Thread Cert.AdamwSmallIdeal.nD Cert.AdamwSmallIdeal.τ).loc Cert.AdamwSmallIdeal.main_arg16)
      ∧ r.2.mem ((c.tc : Thread Cert.AdamwSmallIdeal.nD Cert.AdamwSmallIdeal.τ).loc Cert.AdamwSmallIdeal.main_arg17) = m ((c.tc : Thread Cert.AdamwSmallIdeal.nD Cert.AdamwSmallIdeal.τ).loc Cert.AdamwSmallIdeal.main_arg17)
      ∧ r.2.mem ((c.tc : Thread Cert.AdamwSmallIdeal.nD Cert.AdamwSmallIdeal.τ).loc Cert.AdamwSmallIdeal.main_arg18) = m ((c.tc : Thread Cert.AdamwSmallIdeal.nD Cert.AdamwSmallIdeal.τ).loc Cert.AdamwSmallIdeal.main_arg18)
      ∧ r.2.mem ((c.tc : Thread Cert.AdamwSmallIdeal.nD Cert.AdamwSmallIdeal.τ).loc Cert.AdamwSmallIdeal.main_arg19) = m ((c.tc : Thread Cert.AdamwSmallIdeal.nD Cert.AdamwSmallIdeal.τ).loc Cert.AdamwSmallIdeal.main_arg19)
      ∧ r.2.mem ((c.tc : Thread Cert.AdamwSmallIdeal.nD Cert.AdamwSmallIdeal.τ).loc Cert.AdamwSmallIdeal.main_arg20) = m ((c.tc : Thread Cert.AdamwSmallIdeal.nD Cert.AdamwSmallIdeal.τ).loc Cert.AdamwSmallIdeal.main_arg20)
      ∧ r.2.mem ((c.tc : Thread Cert.AdamwSmallIdeal.nD Cert.AdamwSmallIdeal.τ).loc Cert.AdamwSmallIdeal.main_arg21) = m ((c.tc : Thread Cert.AdamwSmallIdeal.nD Cert.AdamwSmallIdeal.τ).loc Cert.AdamwSmallIdeal.main_arg21)
      ∧ r.2.mem ((c.tc : Thread Cert.AdamwSmallIdeal.nD Cert.AdamwSmallIdeal.τ).loc Cert.AdamwSmallIdeal.main_arg22) = m ((c.tc : Thread Cert.AdamwSmallIdeal.nD Cert.AdamwSmallIdeal.τ).loc Cert.AdamwSmallIdeal.main_arg22)
      ∧ r.2.mem ((c.tc : Thread Cert.AdamwSmallIdeal.nD Cert.AdamwSmallIdeal.τ).loc Cert.AdamwSmallIdeal.main_arg23) = m ((c.tc : Thread Cert.AdamwSmallIdeal.nD Cert.AdamwSmallIdeal.τ).loc Cert.AdamwSmallIdeal.main_arg23)
      ∧ r.2.mem ((c.tc : Thread Cert.AdamwSmallIdeal.nD Cert.AdamwSmallIdeal.τ).loc Cert.AdamwSmallIdeal.main_arg24) = m ((c.tc : Thread Cert.AdamwSmallIdeal.nD Cert.AdamwSmallIdeal.τ).loc Cert.AdamwSmallIdeal.main_arg24)
      ∧ r.2.mem ((c.tc : Thread Cert.AdamwSmallIdeal.nD Cert.AdamwSmallIdeal.τ).loc Cert.AdamwSmallIdeal.main_arg25) = m ((c.tc : Thread Cert.AdamwSmallIdeal.nD Cert.AdamwSmallIdeal.τ).loc Cert.AdamwSmallIdeal.main_arg25)
      ∧ r.2.mem ((c.tc : Thread Cert.AdamwSmallIdeal.nD Cert.AdamwSmallIdeal.τ).loc Cert.AdamwSmallIdeal.main_arg26) = m ((c.tc : Thread Cert.AdamwSmallIdeal.nD Cert.AdamwSmallIdeal.τ).loc Cert.AdamwSmallIdeal.main_arg26)
      ∧ r.2.mem ((c.tc : Thread Cert.AdamwSmallIdeal.nD Cert.AdamwSmallIdeal.τ).loc Cert.AdamwSmallIdeal.main_arg27) = m ((c.tc : Thread Cert.AdamwSmallIdeal.nD Cert.AdamwSmallIdeal.τ).loc Cert.AdamwSmallIdeal.main_arg27)
      ∧ r.2.mem ((c.tc : Thread Cert.AdamwSmallIdeal.nD Cert.AdamwSmallIdeal.τ).loc Cert.AdamwSmallIdeal.main_arg28) = m ((c.tc : Thread Cert.AdamwSmallIdeal.nD Cert.AdamwSmallIdeal.τ).loc Cert.AdamwSmallIdeal.main_arg28)
      ∧ r.2.mem ((c.tc : Thread Cert.AdamwSmallIdeal.nD Cert.AdamwSmallIdeal.τ).loc Cert.AdamwSmallIdeal.main_arg29) = m ((c.tc : Thread Cert.AdamwSmallIdeal.nD Cert.AdamwSmallIdeal.τ).loc Cert.AdamwSmallIdeal.main_arg29)
      ∧ r.2.mem ((c.tc : Thread Cert.AdamwSmallIdeal.nD Cert.AdamwSmallIdeal.τ).loc Cert.AdamwSmallIdeal.main_arg30) = m ((c.tc : Thread Cert.AdamwSmallIdeal.nD Cert.AdamwSmallIdeal.τ).loc Cert.AdamwSmallIdeal.main_arg30)
      ∧ r.2.mem ((c.tc : Thread Cert.AdamwSmallIdeal.nD Cert.AdamwSmallIdeal.τ).loc Cert.AdamwSmallIdeal.main_arg31) = m ((c.tc : Thread Cert.AdamwSmallIdeal.nD Cert.AdamwSmallIdeal.τ).loc Cert.AdamwSmallIdeal.main_arg31)
      ∧ r.2.mem ((c.tc : Thread Cert.AdamwSmallIdeal.nD Cert.AdamwSmallIdeal.τ).loc Cert.AdamwSmallIdeal.main_arg32) = m ((c.tc : Thread Cert.AdamwSmallIdeal.nD Cert.AdamwSmallIdeal.τ).loc Cert.AdamwSmallIdeal.main_arg32)
      ∧ r.2.mem ((c.tc : Thread Cert.AdamwSmallIdeal.nD Cert.AdamwSmallIdeal.τ).loc Cert.AdamwSmallIdeal.main_arg33) = m ((c.tc : Thread Cert.AdamwSmallIdeal.nD Cert.AdamwSmallIdeal.τ).loc Cert.AdamwSmallIdeal.main_arg33)
      ∧ r.2.mem ((c.tc : Thread Cert.AdamwSmallIdeal.nD Cert.AdamwSmallIdeal.τ).loc Cert.AdamwSmallIdeal.main_arg34) = m ((c.tc : Thread Cert.AdamwSmallIdeal.nD Cert.AdamwSmallIdeal.τ).loc Cert.AdamwSmallIdeal.main_arg34)
      ∧ r.2.mem ((c.tc : Thread Cert.AdamwSmallIdeal.nD Cert.AdamwSmallIdeal.τ).loc Cert.AdamwSmallIdeal.main_arg35) = m ((c.tc : Thread Cert.AdamwSmallIdeal.nD Cert.AdamwSmallIdeal.τ).loc Cert.AdamwSmallIdeal.main_arg35))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3)
      ∧ r.2.mem ((c.tc : Thread Cert.AdamwSmallReferenceIdeal.nD Cert.AdamwSmallReferenceIdeal.τ).loc Cert.AdamwSmallReferenceIdeal.main_arg4) = m ((c.tc : Thread Cert.AdamwSmallReferenceIdeal.nD Cert.AdamwSmallReferenceIdeal.τ).loc Cert.AdamwSmallReferenceIdeal.main_arg4)
      ∧ r.2.mem ((c.tc : Thread Cert.AdamwSmallReferenceIdeal.nD Cert.AdamwSmallReferenceIdeal.τ).loc Cert.AdamwSmallReferenceIdeal.main_arg5) = m ((c.tc : Thread Cert.AdamwSmallReferenceIdeal.nD Cert.AdamwSmallReferenceIdeal.τ).loc Cert.AdamwSmallReferenceIdeal.main_arg5)
      ∧ r.2.mem ((c.tc : Thread Cert.AdamwSmallReferenceIdeal.nD Cert.AdamwSmallReferenceIdeal.τ).loc Cert.AdamwSmallReferenceIdeal.main_arg6) = m ((c.tc : Thread Cert.AdamwSmallReferenceIdeal.nD Cert.AdamwSmallReferenceIdeal.τ).loc Cert.AdamwSmallReferenceIdeal.main_arg6)
      ∧ r.2.mem ((c.tc : Thread Cert.AdamwSmallReferenceIdeal.nD Cert.AdamwSmallReferenceIdeal.τ).loc Cert.AdamwSmallReferenceIdeal.main_arg7) = m ((c.tc : Thread Cert.AdamwSmallReferenceIdeal.nD Cert.AdamwSmallReferenceIdeal.τ).loc Cert.AdamwSmallReferenceIdeal.main_arg7)
      ∧ r.2.mem ((c.tc : Thread Cert.AdamwSmallReferenceIdeal.nD Cert.AdamwSmallReferenceIdeal.τ).loc Cert.AdamwSmallReferenceIdeal.main_arg8) = m ((c.tc : Thread Cert.AdamwSmallReferenceIdeal.nD Cert.AdamwSmallReferenceIdeal.τ).loc Cert.AdamwSmallReferenceIdeal.main_arg8)
      ∧ r.2.mem ((c.tc : Thread Cert.AdamwSmallReferenceIdeal.nD Cert.AdamwSmallReferenceIdeal.τ).loc Cert.AdamwSmallReferenceIdeal.main_arg9) = m ((c.tc : Thread Cert.AdamwSmallReferenceIdeal.nD Cert.AdamwSmallReferenceIdeal.τ).loc Cert.AdamwSmallReferenceIdeal.main_arg9)
      ∧ r.2.mem ((c.tc : Thread Cert.AdamwSmallReferenceIdeal.nD Cert.AdamwSmallReferenceIdeal.τ).loc Cert.AdamwSmallReferenceIdeal.main_arg10) = m ((c.tc : Thread Cert.AdamwSmallReferenceIdeal.nD Cert.AdamwSmallReferenceIdeal.τ).loc Cert.AdamwSmallReferenceIdeal.main_arg10)
      ∧ r.2.mem ((c.tc : Thread Cert.AdamwSmallReferenceIdeal.nD Cert.AdamwSmallReferenceIdeal.τ).loc Cert.AdamwSmallReferenceIdeal.main_arg11) = m ((c.tc : Thread Cert.AdamwSmallReferenceIdeal.nD Cert.AdamwSmallReferenceIdeal.τ).loc Cert.AdamwSmallReferenceIdeal.main_arg11)
      ∧ r.2.mem ((c.tc : Thread Cert.AdamwSmallReferenceIdeal.nD Cert.AdamwSmallReferenceIdeal.τ).loc Cert.AdamwSmallReferenceIdeal.main_arg12) = m ((c.tc : Thread Cert.AdamwSmallReferenceIdeal.nD Cert.AdamwSmallReferenceIdeal.τ).loc Cert.AdamwSmallReferenceIdeal.main_arg12)
      ∧ r.2.mem ((c.tc : Thread Cert.AdamwSmallReferenceIdeal.nD Cert.AdamwSmallReferenceIdeal.τ).loc Cert.AdamwSmallReferenceIdeal.main_arg13) = m ((c.tc : Thread Cert.AdamwSmallReferenceIdeal.nD Cert.AdamwSmallReferenceIdeal.τ).loc Cert.AdamwSmallReferenceIdeal.main_arg13)
      ∧ r.2.mem ((c.tc : Thread Cert.AdamwSmallReferenceIdeal.nD Cert.AdamwSmallReferenceIdeal.τ).loc Cert.AdamwSmallReferenceIdeal.main_arg14) = m ((c.tc : Thread Cert.AdamwSmallReferenceIdeal.nD Cert.AdamwSmallReferenceIdeal.τ).loc Cert.AdamwSmallReferenceIdeal.main_arg14)
      ∧ r.2.mem ((c.tc : Thread Cert.AdamwSmallReferenceIdeal.nD Cert.AdamwSmallReferenceIdeal.τ).loc Cert.AdamwSmallReferenceIdeal.main_arg15) = m ((c.tc : Thread Cert.AdamwSmallReferenceIdeal.nD Cert.AdamwSmallReferenceIdeal.τ).loc Cert.AdamwSmallReferenceIdeal.main_arg15)
      ∧ r.2.mem ((c.tc : Thread Cert.AdamwSmallReferenceIdeal.nD Cert.AdamwSmallReferenceIdeal.τ).loc Cert.AdamwSmallReferenceIdeal.main_arg16) = m ((c.tc : Thread Cert.AdamwSmallReferenceIdeal.nD Cert.AdamwSmallReferenceIdeal.τ).loc Cert.AdamwSmallReferenceIdeal.main_arg16)
      ∧ r.2.mem ((c.tc : Thread Cert.AdamwSmallReferenceIdeal.nD Cert.AdamwSmallReferenceIdeal.τ).loc Cert.AdamwSmallReferenceIdeal.main_arg17) = m ((c.tc : Thread Cert.AdamwSmallReferenceIdeal.nD Cert.AdamwSmallReferenceIdeal.τ).loc Cert.AdamwSmallReferenceIdeal.main_arg17)
      ∧ r.2.mem ((c.tc : Thread Cert.AdamwSmallReferenceIdeal.nD Cert.AdamwSmallReferenceIdeal.τ).loc Cert.AdamwSmallReferenceIdeal.main_arg18) = m ((c.tc : Thread Cert.AdamwSmallReferenceIdeal.nD Cert.AdamwSmallReferenceIdeal.τ).loc Cert.AdamwSmallReferenceIdeal.main_arg18)
      ∧ r.2.mem ((c.tc : Thread Cert.AdamwSmallReferenceIdeal.nD Cert.AdamwSmallReferenceIdeal.τ).loc Cert.AdamwSmallReferenceIdeal.main_arg19) = m ((c.tc : Thread Cert.AdamwSmallReferenceIdeal.nD Cert.AdamwSmallReferenceIdeal.τ).loc Cert.AdamwSmallReferenceIdeal.main_arg19)
      ∧ r.2.mem ((c.tc : Thread Cert.AdamwSmallReferenceIdeal.nD Cert.AdamwSmallReferenceIdeal.τ).loc Cert.AdamwSmallReferenceIdeal.main_arg20) = m ((c.tc : Thread Cert.AdamwSmallReferenceIdeal.nD Cert.AdamwSmallReferenceIdeal.τ).loc Cert.AdamwSmallReferenceIdeal.main_arg20)
      ∧ r.2.mem ((c.tc : Thread Cert.AdamwSmallReferenceIdeal.nD Cert.AdamwSmallReferenceIdeal.τ).loc Cert.AdamwSmallReferenceIdeal.main_arg21) = m ((c.tc : Thread Cert.AdamwSmallReferenceIdeal.nD Cert.AdamwSmallReferenceIdeal.τ).loc Cert.AdamwSmallReferenceIdeal.main_arg21)
      ∧ r.2.mem ((c.tc : Thread Cert.AdamwSmallReferenceIdeal.nD Cert.AdamwSmallReferenceIdeal.τ).loc Cert.AdamwSmallReferenceIdeal.main_arg22) = m ((c.tc : Thread Cert.AdamwSmallReferenceIdeal.nD Cert.AdamwSmallReferenceIdeal.τ).loc Cert.AdamwSmallReferenceIdeal.main_arg22)
      ∧ r.2.mem ((c.tc : Thread Cert.AdamwSmallReferenceIdeal.nD Cert.AdamwSmallReferenceIdeal.τ).loc Cert.AdamwSmallReferenceIdeal.main_arg23) = m ((c.tc : Thread Cert.AdamwSmallReferenceIdeal.nD Cert.AdamwSmallReferenceIdeal.τ).loc Cert.AdamwSmallReferenceIdeal.main_arg23)
      ∧ r.2.mem ((c.tc : Thread Cert.AdamwSmallReferenceIdeal.nD Cert.AdamwSmallReferenceIdeal.τ).loc Cert.AdamwSmallReferenceIdeal.main_arg24) = m ((c.tc : Thread Cert.AdamwSmallReferenceIdeal.nD Cert.AdamwSmallReferenceIdeal.τ).loc Cert.AdamwSmallReferenceIdeal.main_arg24)
      ∧ r.2.mem ((c.tc : Thread Cert.AdamwSmallReferenceIdeal.nD Cert.AdamwSmallReferenceIdeal.τ).loc Cert.AdamwSmallReferenceIdeal.main_arg25) = m ((c.tc : Thread Cert.AdamwSmallReferenceIdeal.nD Cert.AdamwSmallReferenceIdeal.τ).loc Cert.AdamwSmallReferenceIdeal.main_arg25)
      ∧ r.2.mem ((c.tc : Thread Cert.AdamwSmallReferenceIdeal.nD Cert.AdamwSmallReferenceIdeal.τ).loc Cert.AdamwSmallReferenceIdeal.main_arg26) = m ((c.tc : Thread Cert.AdamwSmallReferenceIdeal.nD Cert.AdamwSmallReferenceIdeal.τ).loc Cert.AdamwSmallReferenceIdeal.main_arg26)
      ∧ r.2.mem ((c.tc : Thread Cert.AdamwSmallReferenceIdeal.nD Cert.AdamwSmallReferenceIdeal.τ).loc Cert.AdamwSmallReferenceIdeal.main_arg27) = m ((c.tc : Thread Cert.AdamwSmallReferenceIdeal.nD Cert.AdamwSmallReferenceIdeal.τ).loc Cert.AdamwSmallReferenceIdeal.main_arg27)
      ∧ r.2.mem ((c.tc : Thread Cert.AdamwSmallReferenceIdeal.nD Cert.AdamwSmallReferenceIdeal.τ).loc Cert.AdamwSmallReferenceIdeal.main_arg28) = m ((c.tc : Thread Cert.AdamwSmallReferenceIdeal.nD Cert.AdamwSmallReferenceIdeal.τ).loc Cert.AdamwSmallReferenceIdeal.main_arg28)
      ∧ r.2.mem ((c.tc : Thread Cert.AdamwSmallReferenceIdeal.nD Cert.AdamwSmallReferenceIdeal.τ).loc Cert.AdamwSmallReferenceIdeal.main_arg29) = m ((c.tc : Thread Cert.AdamwSmallReferenceIdeal.nD Cert.AdamwSmallReferenceIdeal.τ).loc Cert.AdamwSmallReferenceIdeal.main_arg29)
      ∧ r.2.mem ((c.tc : Thread Cert.AdamwSmallReferenceIdeal.nD Cert.AdamwSmallReferenceIdeal.τ).loc Cert.AdamwSmallReferenceIdeal.main_arg30) = m ((c.tc : Thread Cert.AdamwSmallReferenceIdeal.nD Cert.AdamwSmallReferenceIdeal.τ).loc Cert.AdamwSmallReferenceIdeal.main_arg30)
      ∧ r.2.mem ((c.tc : Thread Cert.AdamwSmallReferenceIdeal.nD Cert.AdamwSmallReferenceIdeal.τ).loc Cert.AdamwSmallReferenceIdeal.main_arg31) = m ((c.tc : Thread Cert.AdamwSmallReferenceIdeal.nD Cert.AdamwSmallReferenceIdeal.τ).loc Cert.AdamwSmallReferenceIdeal.main_arg31)
      ∧ r.2.mem ((c.tc : Thread Cert.AdamwSmallReferenceIdeal.nD Cert.AdamwSmallReferenceIdeal.τ).loc Cert.AdamwSmallReferenceIdeal.main_arg32) = m ((c.tc : Thread Cert.AdamwSmallReferenceIdeal.nD Cert.AdamwSmallReferenceIdeal.τ).loc Cert.AdamwSmallReferenceIdeal.main_arg32)
      ∧ r.2.mem ((c.tc : Thread Cert.AdamwSmallReferenceIdeal.nD Cert.AdamwSmallReferenceIdeal.τ).loc Cert.AdamwSmallReferenceIdeal.main_arg33) = m ((c.tc : Thread Cert.AdamwSmallReferenceIdeal.nD Cert.AdamwSmallReferenceIdeal.τ).loc Cert.AdamwSmallReferenceIdeal.main_arg33)
      ∧ r.2.mem ((c.tc : Thread Cert.AdamwSmallReferenceIdeal.nD Cert.AdamwSmallReferenceIdeal.τ).loc Cert.AdamwSmallReferenceIdeal.main_arg34) = m ((c.tc : Thread Cert.AdamwSmallReferenceIdeal.nD Cert.AdamwSmallReferenceIdeal.τ).loc Cert.AdamwSmallReferenceIdeal.main_arg34)
      ∧ r.2.mem ((c.tc : Thread Cert.AdamwSmallReferenceIdeal.nD Cert.AdamwSmallReferenceIdeal.τ).loc Cert.AdamwSmallReferenceIdeal.main_arg35) = m ((c.tc : Thread Cert.AdamwSmallReferenceIdeal.nD Cert.AdamwSmallReferenceIdeal.τ).loc Cert.AdamwSmallReferenceIdeal.main_arg35))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3)
      ∧ r.2.mem ((c.tc : Thread Cert.SumSmall.nD Cert.SumSmall.τ).loc Cert.SumSmall.main_arg4) = m ((c.tc : Thread Cert.SumSmall.nD Cert.SumSmall.τ).loc Cert.SumSmall.main_arg4)
      ∧ r.2.mem ((c.tc : Thread Cert.SumSmall.nD Cert.SumSmall.τ).loc Cert.SumSmall.main_arg5) = m ((c.tc : Thread Cert.SumSmall.nD Cert.SumSmall.τ).loc Cert.SumSmall.main_arg5)
      ∧ r.2.mem ((c.tc : Thread Cert.SumSmall.nD Cert.SumSmall.τ).loc Cert.SumSmall.main_arg6) = m ((c.tc : Thread Cert.SumSmall.nD Cert.SumSmall.τ).loc Cert.SumSmall.main_arg6)
      ∧ r.2.mem ((c.tc : Thread Cert.SumSmall.nD Cert.SumSmall.τ).loc Cert.SumSmall.main_arg7) = m ((c.tc : Thread Cert.SumSmall.nD Cert.SumSmall.τ).loc Cert.SumSmall.main_arg7)
      ∧ r.2.mem ((c.tc : Thread Cert.SumSmall.nD Cert.SumSmall.τ).loc Cert.SumSmall.main_arg8) = m ((c.tc : Thread Cert.SumSmall.nD Cert.SumSmall.τ).loc Cert.SumSmall.main_arg8)
      ∧ r.2.mem ((c.tc : Thread Cert.SumSmall.nD Cert.SumSmall.τ).loc Cert.SumSmall.main_arg9) = m ((c.tc : Thread Cert.SumSmall.nD Cert.SumSmall.τ).loc Cert.SumSmall.main_arg9))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
      ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
      ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
      ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
      ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
      ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
      ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0)
      ∧ r.2.mem ((c.tc : Thread Cert.SumSmallReferenceIdeal.nD Cert.SumSmallReferenceIdeal.τ).loc Cert.SumSmallReferenceIdeal.main_arg1) = m ((c.tc : Thread Cert.SumSmallReferenceIdeal.nD Cert.SumSmallReferenceIdeal.τ).loc Cert.SumSmallReferenceIdeal.main_arg1)
      ∧ r.2.mem ((c.tc : Thread Cert.SumSmallReferenceIdeal.nD Cert.SumSmallReferenceIdeal.τ).loc Cert.SumSmallReferenceIdeal.main_arg2) = m ((c.tc : Thread Cert.SumSmallReferenceIdeal.nD Cert.SumSmallReferenceIdeal.τ).loc Cert.SumSmallReferenceIdeal.main_arg2)
      ∧ r.2.mem ((c.tc : Thread Cert.SumSmallReferenceIdeal.nD Cert.SumSmallReferenceIdeal.τ).loc Cert.SumSmallReferenceIdeal.main_arg3) = m ((c.tc : Thread Cert.SumSmallReferenceIdeal.nD Cert.SumSmallReferenceIdeal.τ).loc Cert.SumSmallReferenceIdeal.main_arg3)
      ∧ r.2.mem ((c.tc : Thread Cert.SumSmallReferenceIdeal.nD Cert.SumSmallReferenceIdeal.τ).loc Cert.SumSmallReferenceIdeal.main_arg4) = m ((c.tc : Thread Cert.SumSmallReferenceIdeal.nD Cert.SumSmallReferenceIdeal.τ).loc Cert.SumSmallReferenceIdeal.main_arg4)
      ∧ r.2.mem ((c.tc : Thread Cert.SumSmallReferenceIdeal.nD Cert.SumSmallReferenceIdeal.τ).loc Cert.SumSmallReferenceIdeal.main_arg5) = m ((c.tc : Thread Cert.SumSmallReferenceIdeal.nD Cert.SumSmallReferenceIdeal.τ).loc Cert.SumSmallReferenceIdeal.main_arg5)
      ∧ r.2.mem ((c.tc : Thread Cert.SumSmallReferenceIdeal.nD Cert.SumSmallReferenceIdeal.τ).loc Cert.SumSmallReferenceIdeal.main_arg6) = m ((c.tc : Thread Cert.SumSmallReferenceIdeal.nD Cert.SumSmallReferenceIdeal.τ).loc Cert.SumSmallReferenceIdeal.main_arg6)
      ∧ r.2.mem ((c.tc : Thread Cert.SumSmallReferenceIdeal.nD Cert.SumSmallReferenceIdeal.τ).loc Cert.SumSmallReferenceIdeal.main_arg7) = m ((c.tc : Thread Cert.SumSmallReferenceIdeal.nD Cert.SumSmallReferenceIdeal.τ).loc Cert.SumSmallReferenceIdeal.main_arg7)
      ∧ r.2.mem ((c.tc : Thread Cert.SumSmallReferenceIdeal.nD Cert.SumSmallReferenceIdeal.τ).loc Cert.SumSmallReferenceIdeal.main_arg8) = m ((c.tc : Thread Cert.SumSmallReferenceIdeal.nD Cert.SumSmallReferenceIdeal.τ).loc Cert.SumSmallReferenceIdeal.main_arg8)
      ∧ r.2.mem ((c.tc : Thread Cert.SumSmallReferenceIdeal.nD Cert.SumSmallReferenceIdeal.τ).loc Cert.SumSmallReferenceIdeal.main_arg9) = m ((c.tc : Thread Cert.SumSmallReferenceIdeal.nD Cert.SumSmallReferenceIdeal.τ).loc Cert.SumSmallReferenceIdeal.main_arg9))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3))
      ∧ r.2.sem = fun _ => 0)

def quiescent_NormBwdPair [hNormBwdPair : Cert.NormBwdPair.Facts] : Prop :=
  ∀ (m : (ℓ : Loc Cert.NormBwdPair.nD Cert.NormBwdPair.τ Cert.NormBwdPair.sig) → Buf (Elt Bits) ℓ) (g : Dev Cert.NormBwdPair.nD → PrngReg), Pre_NormBwdPair m →
    θ_run (Cert.NormBwdPair.defs (F := Bits)) (onTc (τ := Cert.NormBwdPair.τ) (Cert.NormBwdPair.main (F := Bits))) ⟨m, fun _ => 0, g⟩ (fun r => (∀ c : Dev Cert.NormBwdPair.nD,
      r.2.mem ((c.tc : Thread Cert.NormBwdPair.nD Cert.NormBwdPair.τ).loc Cert.NormBwdPair.main_arg0) = m ((c.tc : Thread Cert.NormBwdPair.nD Cert.NormBwdPair.τ).loc Cert.NormBwdPair.main_arg0)
      ∧ r.2.mem ((c.tc : Thread Cert.NormBwdPair.nD Cert.NormBwdPair.τ).loc Cert.NormBwdPair.main_arg1) = m ((c.tc : Thread Cert.NormBwdPair.nD Cert.NormBwdPair.τ).loc Cert.NormBwdPair.main_arg1)
      ∧ r.2.mem ((c.tc : Thread Cert.NormBwdPair.nD Cert.NormBwdPair.τ).loc Cert.NormBwdPair.main_arg2) = m ((c.tc : Thread Cert.NormBwdPair.nD Cert.NormBwdPair.τ).loc Cert.NormBwdPair.main_arg2)
      ∧ r.2.mem ((c.tc : Thread Cert.NormBwdPair.nD Cert.NormBwdPair.τ).loc Cert.NormBwdPair.main_arg3) = m ((c.tc : Thread Cert.NormBwdPair.nD Cert.NormBwdPair.τ).loc Cert.NormBwdPair.main_arg3)
      ∧ r.2.mem ((c.tc : Thread Cert.NormBwdPair.nD Cert.NormBwdPair.τ).loc Cert.NormBwdPair.main_arg4) = m ((c.tc : Thread Cert.NormBwdPair.nD Cert.NormBwdPair.τ).loc Cert.NormBwdPair.main_arg4)
      ∧ r.2.mem ((c.tc : Thread Cert.NormBwdPair.nD Cert.NormBwdPair.τ).loc Cert.NormBwdPair.main_arg5) = m ((c.tc : Thread Cert.NormBwdPair.nD Cert.NormBwdPair.τ).loc Cert.NormBwdPair.main_arg5))
      ∧ r.2.sem = fun _ => 0)

def quiescent_NormBwdPairIdeal [hNormBwdPairIdeal : Cert.NormBwdPairIdeal.Facts] : Prop :=
  ∀ (m : (ℓ : Loc Cert.NormBwdPairIdeal.nD Cert.NormBwdPairIdeal.τ Cert.NormBwdPairIdeal.sig) → Buf (Elt Ideal) ℓ) (g : Dev Cert.NormBwdPairIdeal.nD → PrngReg), Pre_NormBwdPairIdeal m →
    θ_run (Cert.NormBwdPairIdeal.defs (F := Ideal)) (onTc (τ := Cert.NormBwdPairIdeal.τ) (Cert.NormBwdPairIdeal.main (F := Ideal))) ⟨m, fun _ => 0, g⟩ (fun r => (∀ c : Dev Cert.NormBwdPairIdeal.nD,
      r.2.mem ((c.tc : Thread Cert.NormBwdPairIdeal.nD Cert.NormBwdPairIdeal.τ).loc Cert.NormBwdPairIdeal.main_arg0) = m ((c.tc : Thread Cert.NormBwdPairIdeal.nD Cert.NormBwdPairIdeal.τ).loc Cert.NormBwdPairIdeal.main_arg0)
      ∧ r.2.mem ((c.tc : Thread Cert.NormBwdPairIdeal.nD Cert.NormBwdPairIdeal.τ).loc Cert.NormBwdPairIdeal.main_arg1) = m ((c.tc : Thread Cert.NormBwdPairIdeal.nD Cert.NormBwdPairIdeal.τ).loc Cert.NormBwdPairIdeal.main_arg1)
      ∧ r.2.mem ((c.tc : Thread Cert.NormBwdPairIdeal.nD Cert.NormBwdPairIdeal.τ).loc Cert.NormBwdPairIdeal.main_arg2) = m ((c.tc : Thread Cert.NormBwdPairIdeal.nD Cert.NormBwdPairIdeal.τ).loc Cert.NormBwdPairIdeal.main_arg2)
      ∧ r.2.mem ((c.tc : Thread Cert.NormBwdPairIdeal.nD Cert.NormBwdPairIdeal.τ).loc Cert.NormBwdPairIdeal.main_arg3) = m ((c.tc : Thread Cert.NormBwdPairIdeal.nD Cert.NormBwdPairIdeal.τ).loc Cert.NormBwdPairIdeal.main_arg3)
      ∧ r.2.mem ((c.tc : Thread Cert.NormBwdPairIdeal.nD Cert.NormBwdPairIdeal.τ).loc Cert.NormBwdPairIdeal.main_arg4) = m ((c.tc : Thread Cert.NormBwdPairIdeal.nD Cert.NormBwdPairIdeal.τ).loc Cert.NormBwdPairIdeal.main_arg4)
      ∧ r.2.mem ((c.tc : Thread Cert.NormBwdPairIdeal.nD Cert.NormBwdPairIdeal.τ).loc Cert.NormBwdPairIdeal.main_arg5) = m ((c.tc : Thread Cert.NormBwdPairIdeal.nD Cert.NormBwdPairIdeal.τ).loc Cert.NormBwdPairIdeal.main_arg5))
      ∧ r.2.sem = fun _ => 0)

def quiescent_NormBwdPairReferenceIdeal [hNormBwdPairReferenceIdeal : Cert.NormBwdPairReferenceIdeal.Facts] : Prop :=
  ∀ (m : (ℓ : Loc Cert.NormBwdPairReferenceIdeal.nD Cert.NormBwdPairReferenceIdeal.τ Cert.NormBwdPairReferenceIdeal.sig) → Buf (Elt Ideal) ℓ) (g : Dev Cert.NormBwdPairReferenceIdeal.nD → PrngReg), Pre_NormBwdPairReferenceIdeal m →
    θ_run (Cert.NormBwdPairReferenceIdeal.defs (F := Ideal)) (onTc (τ := Cert.NormBwdPairReferenceIdeal.τ) (Cert.NormBwdPairReferenceIdeal.main (F := Ideal))) ⟨m, fun _ => 0, g⟩ (fun r => (∀ c : Dev Cert.NormBwdPairReferenceIdeal.nD,
      r.2.mem ((c.tc : Thread Cert.NormBwdPairReferenceIdeal.nD Cert.NormBwdPairReferenceIdeal.τ).loc Cert.NormBwdPairReferenceIdeal.main_arg0) = m ((c.tc : Thread Cert.NormBwdPairReferenceIdeal.nD Cert.NormBwdPairReferenceIdeal.τ).loc Cert.NormBwdPairReferenceIdeal.main_arg0)
      ∧ r.2.mem ((c.tc : Thread Cert.NormBwdPairReferenceIdeal.nD Cert.NormBwdPairReferenceIdeal.τ).loc Cert.NormBwdPairReferenceIdeal.main_arg1) = m ((c.tc : Thread Cert.NormBwdPairReferenceIdeal.nD Cert.NormBwdPairReferenceIdeal.τ).loc Cert.NormBwdPairReferenceIdeal.main_arg1)
      ∧ r.2.mem ((c.tc : Thread Cert.NormBwdPairReferenceIdeal.nD Cert.NormBwdPairReferenceIdeal.τ).loc Cert.NormBwdPairReferenceIdeal.main_arg2) = m ((c.tc : Thread Cert.NormBwdPairReferenceIdeal.nD Cert.NormBwdPairReferenceIdeal.τ).loc Cert.NormBwdPairReferenceIdeal.main_arg2)
      ∧ r.2.mem ((c.tc : Thread Cert.NormBwdPairReferenceIdeal.nD Cert.NormBwdPairReferenceIdeal.τ).loc Cert.NormBwdPairReferenceIdeal.main_arg3) = m ((c.tc : Thread Cert.NormBwdPairReferenceIdeal.nD Cert.NormBwdPairReferenceIdeal.τ).loc Cert.NormBwdPairReferenceIdeal.main_arg3)
      ∧ r.2.mem ((c.tc : Thread Cert.NormBwdPairReferenceIdeal.nD Cert.NormBwdPairReferenceIdeal.τ).loc Cert.NormBwdPairReferenceIdeal.main_arg4) = m ((c.tc : Thread Cert.NormBwdPairReferenceIdeal.nD Cert.NormBwdPairReferenceIdeal.τ).loc Cert.NormBwdPairReferenceIdeal.main_arg4)
      ∧ r.2.mem ((c.tc : Thread Cert.NormBwdPairReferenceIdeal.nD Cert.NormBwdPairReferenceIdeal.τ).loc Cert.NormBwdPairReferenceIdeal.main_arg5) = m ((c.tc : Thread Cert.NormBwdPairReferenceIdeal.nD Cert.NormBwdPairReferenceIdeal.τ).loc Cert.NormBwdPairReferenceIdeal.main_arg5))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1))
      ∧ r.2.sem = fun _ => 0)

def quiescent_ResidNorm [hResidNorm : Cert.ResidNorm.Facts] : Prop :=
  ∀ (m : (ℓ : Loc Cert.ResidNorm.nD Cert.ResidNorm.τ Cert.ResidNorm.sig) → Buf (Elt Bits) ℓ) (g : Dev Cert.ResidNorm.nD → PrngReg), Pre_ResidNorm m →
    θ_run (Cert.ResidNorm.defs (F := Bits)) (onTc (τ := Cert.ResidNorm.τ) (Cert.ResidNorm.main (F := Bits))) ⟨m, fun _ => 0, g⟩ (fun r => (∀ c : Dev Cert.ResidNorm.nD,
      r.2.mem ((c.tc : Thread Cert.ResidNorm.nD Cert.ResidNorm.τ).loc Cert.ResidNorm.main_arg0) = m ((c.tc : Thread Cert.ResidNorm.nD Cert.ResidNorm.τ).loc Cert.ResidNorm.main_arg0)
      ∧ r.2.mem ((c.tc : Thread Cert.ResidNorm.nD Cert.ResidNorm.τ).loc Cert.ResidNorm.main_arg1) = m ((c.tc : Thread Cert.ResidNorm.nD Cert.ResidNorm.τ).loc Cert.ResidNorm.main_arg1)
      ∧ r.2.mem ((c.tc : Thread Cert.ResidNorm.nD Cert.ResidNorm.τ).loc Cert.ResidNorm.main_arg2) = m ((c.tc : Thread Cert.ResidNorm.nD Cert.ResidNorm.τ).loc Cert.ResidNorm.main_arg2)
      ∧ r.2.mem ((c.tc : Thread Cert.ResidNorm.nD Cert.ResidNorm.τ).loc Cert.ResidNorm.main_arg3) = m ((c.tc : Thread Cert.ResidNorm.nD Cert.ResidNorm.τ).loc Cert.ResidNorm.main_arg3))
      ∧ r.2.sem = fun _ => 0)

def quiescent_ResidNormIdeal [hResidNormIdeal : Cert.ResidNormIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg), Pre_ResidNormIdeal m →
    θ_run (Cert.ResidNormIdeal.defs (F := Ideal)) (onTc (τ := Cert.ResidNormIdeal.τ) (Cert.ResidNormIdeal.main (F := Ideal))) ⟨m, fun _ => 0, g⟩ (fun r => (∀ c : Dev Cert.ResidNormIdeal.nD,
      r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
      ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
      ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
      ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3))
      ∧ r.2.sem = fun _ => 0)

def quiescent_ResidNormReferenceIdeal [hResidNormReferenceIdeal : Cert.ResidNormReferenceIdeal.Facts] : Prop :=
  ∀ (m : (ℓ : Loc Cert.ResidNormReferenceIdeal.nD Cert.ResidNormReferenceIdeal.τ Cert.ResidNormReferenceIdeal.sig) → Buf (Elt Ideal) ℓ) (g : Dev Cert.ResidNormReferenceIdeal.nD → PrngReg), Pre_ResidNormReferenceIdeal m →
    θ_run (Cert.ResidNormReferenceIdeal.defs (F := Ideal)) (onTc (τ := Cert.ResidNormReferenceIdeal.τ) (Cert.ResidNormReferenceIdeal.main (F := Ideal))) ⟨m, fun _ => 0, g⟩ (fun r => (∀ c : Dev Cert.ResidNormReferenceIdeal.nD,
      r.2.mem ((c.tc : Thread Cert.ResidNormReferenceIdeal.nD Cert.ResidNormReferenceIdeal.τ).loc Cert.ResidNormReferenceIdeal.main_arg0) = m ((c.tc : Thread Cert.ResidNormReferenceIdeal.nD Cert.ResidNormReferenceIdeal.τ).loc Cert.ResidNormReferenceIdeal.main_arg0)
      ∧ r.2.mem ((c.tc : Thread Cert.ResidNormReferenceIdeal.nD Cert.ResidNormReferenceIdeal.τ).loc Cert.ResidNormReferenceIdeal.main_arg1) = m ((c.tc : Thread Cert.ResidNormReferenceIdeal.nD Cert.ResidNormReferenceIdeal.τ).loc Cert.ResidNormReferenceIdeal.main_arg1)
      ∧ r.2.mem ((c.tc : Thread Cert.ResidNormReferenceIdeal.nD Cert.ResidNormReferenceIdeal.τ).loc Cert.ResidNormReferenceIdeal.main_arg2) = m ((c.tc : Thread Cert.ResidNormReferenceIdeal.nD Cert.ResidNormReferenceIdeal.τ).loc Cert.ResidNormReferenceIdeal.main_arg2)
      ∧ r.2.mem ((c.tc : Thread Cert.ResidNormReferenceIdeal.nD Cert.ResidNormReferenceIdeal.τ).loc Cert.ResidNormReferenceIdeal.main_arg3) = m ((c.tc : Thread Cert.ResidNormReferenceIdeal.nD Cert.ResidNormReferenceIdeal.τ).loc Cert.ResidNormReferenceIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3))
      ∧ r.2.sem = fun _ => 0)

def quiescent_FinalLossReferenceIdeal [hFinalLossReferenceIdeal : Cert.FinalLossReferenceIdeal.Facts] : Prop :=
  ∀ (m : (ℓ : Loc Cert.FinalLossReferenceIdeal.nD Cert.FinalLossReferenceIdeal.τ Cert.FinalLossReferenceIdeal.sig) → Buf (Elt Ideal) ℓ) (g : Dev Cert.FinalLossReferenceIdeal.nD → PrngReg), Pre_FinalLossReferenceIdeal m →
    θ_run (Cert.FinalLossReferenceIdeal.defs (F := Ideal)) (onTc (τ := Cert.FinalLossReferenceIdeal.τ) (Cert.FinalLossReferenceIdeal.main (F := Ideal))) ⟨m, fun _ => 0, g⟩ (fun r => (∀ c : Dev Cert.FinalLossReferenceIdeal.nD,
      r.2.mem ((c.tc : Thread Cert.FinalLossReferenceIdeal.nD Cert.FinalLossReferenceIdeal.τ).loc Cert.FinalLossReferenceIdeal.main_arg0) = m ((c.tc : Thread Cert.FinalLossReferenceIdeal.nD Cert.FinalLossReferenceIdeal.τ).loc Cert.FinalLossReferenceIdeal.main_arg0)
      ∧ r.2.mem ((c.tc : Thread Cert.FinalLossReferenceIdeal.nD Cert.FinalLossReferenceIdeal.τ).loc Cert.FinalLossReferenceIdeal.main_arg1) = m ((c.tc : Thread Cert.FinalLossReferenceIdeal.nD Cert.FinalLossReferenceIdeal.τ).loc Cert.FinalLossReferenceIdeal.main_arg1)
      ∧ r.2.mem ((c.tc : Thread Cert.FinalLossReferenceIdeal.nD Cert.FinalLossReferenceIdeal.τ).loc Cert.FinalLossReferenceIdeal.main_arg2) = m ((c.tc : Thread Cert.FinalLossReferenceIdeal.nD Cert.FinalLossReferenceIdeal.τ).loc Cert.FinalLossReferenceIdeal.main_arg2)
      ∧ r.2.mem ((c.tc : Thread Cert.FinalLossReferenceIdeal.nD Cert.FinalLossReferenceIdeal.τ).loc Cert.FinalLossReferenceIdeal.main_arg3) = m ((c.tc : Thread Cert.FinalLossReferenceIdeal.nD Cert.FinalLossReferenceIdeal.τ).loc Cert.FinalLossReferenceIdeal.main_arg3))
      ∧ r.2.sem = fun _ => 0)

def quiescent_MixerA [hMixerA : Cert.MixerA.Facts] : Prop :=
  ∀ (m : (ℓ : Loc Cert.MixerA.nD Cert.MixerA.τ Cert.MixerA.sig) → Buf (Elt Bits) ℓ) (g : Dev Cert.MixerA.nD → PrngReg), Pre_MixerA m →
    θ_run (Cert.MixerA.defs (F := Bits)) (onTc (τ := Cert.MixerA.τ) (Cert.MixerA.main (F := Bits))) ⟨m, fun _ => 0, g⟩ (fun r => (∀ c : Dev Cert.MixerA.nD,
      r.2.mem ((c.tc : Thread Cert.MixerA.nD Cert.MixerA.τ).loc Cert.MixerA.main_arg0) = m ((c.tc : Thread Cert.MixerA.nD Cert.MixerA.τ).loc Cert.MixerA.main_arg0)
      ∧ r.2.mem ((c.tc : Thread Cert.MixerA.nD Cert.MixerA.τ).loc Cert.MixerA.main_arg1) = m ((c.tc : Thread Cert.MixerA.nD Cert.MixerA.τ).loc Cert.MixerA.main_arg1))
      ∧ r.2.sem = fun _ => 0)

def quiescent_MixerAIdeal [hMixerAIdeal : Cert.MixerAIdeal.Facts] : Prop :=
  ∀ (m : (ℓ : Loc Cert.MixerAIdeal.nD Cert.MixerAIdeal.τ Cert.MixerAIdeal.sig) → Buf (Elt Ideal) ℓ) (g : Dev Cert.MixerAIdeal.nD → PrngReg), Pre_MixerAIdeal m →
    θ_run (Cert.MixerAIdeal.defs (F := Ideal)) (onTc (τ := Cert.MixerAIdeal.τ) (Cert.MixerAIdeal.main (F := Ideal))) ⟨m, fun _ => 0, g⟩ (fun r => (∀ c : Dev Cert.MixerAIdeal.nD,
      r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
      ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1))
      ∧ r.2.sem = fun _ => 0)

def quiescent_MixerAReferenceIdeal [hMixerAReferenceIdeal : Cert.MixerAReferenceIdeal.Facts] : Prop :=
  ∀ (m : (ℓ : Loc Cert.MixerAReferenceIdeal.nD Cert.MixerAReferenceIdeal.τ Cert.MixerAReferenceIdeal.sig) → Buf (Elt Ideal) ℓ) (g : Dev Cert.MixerAReferenceIdeal.nD → PrngReg), Pre_MixerAReferenceIdeal m →
    θ_run (Cert.MixerAReferenceIdeal.defs (F := Ideal)) (onTc (τ := Cert.MixerAReferenceIdeal.τ) (Cert.MixerAReferenceIdeal.main (F := Ideal))) ⟨m, fun _ => 0, g⟩ (fun r => (∀ c : Dev Cert.MixerAReferenceIdeal.nD,
      r.2.mem ((c.tc : Thread Cert.MixerAReferenceIdeal.nD Cert.MixerAReferenceIdeal.τ).loc Cert.MixerAReferenceIdeal.main_arg0) = m ((c.tc : Thread Cert.MixerAReferenceIdeal.nD Cert.MixerAReferenceIdeal.τ).loc Cert.MixerAReferenceIdeal.main_arg0)
      ∧ r.2.mem ((c.tc : Thread Cert.MixerAReferenceIdeal.nD Cert.MixerAReferenceIdeal.τ).loc Cert.MixerAReferenceIdeal.main_arg1) = m ((c.tc : Thread Cert.MixerAReferenceIdeal.nD Cert.MixerAReferenceIdeal.τ).loc Cert.MixerAReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpUp_MlpUpIdeal : Prop :=
  True

def algebraic_MlpUpIdeal_MlpUpReferenceIdeal [hMlpUpIdeal : Cert.MlpUpIdeal.Facts] [hMlpUpReferenceIdeal : Cert.MlpUpReferenceIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v5) = v0 c
          ∧ r.2.mem ((c.tc : Thread Cert.MlpUpReferenceIdeal.nD Cert.MlpUpReferenceIdeal.τ).loc Cert.MlpUpReferenceIdeal.main_v8) = v1 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v3) = v0 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1))

def preserves_MlpDownDw_MlpDownDwIdeal : Prop :=
  True

def algebraic_MlpDownDwIdeal_MlpDownDwReferenceIdeal [hMlpDownDwIdeal : Cert.MlpDownDwIdeal.Facts] [hMlpDownDwReferenceIdeal : Cert.MlpDownDwReferenceIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwReferenceIdeal.nD Cert.MlpDownDwReferenceIdeal.τ Cert.MlpDownDwReferenceIdeal.sig) → Buf (Elt Ideal) ℓ) (g' : Dev Cert.MlpDownDwReferenceIdeal.nD → PrngReg), Pre_MlpDownDwIdeal m →
    (∀ c : Dev Cert.MlpDownDwIdeal.nD,
      m' ((c.tc : Thread Cert.MlpDownDwReferenceIdeal.nD Cert.MlpDownDwReferenceIdeal.τ).loc Cert.MlpDownDwReferenceIdeal.main_arg0) = m ((c.tc : Thread Cert.MlpDownDwIdeal.nD Cert.MlpDownDwIdeal.τ).loc Cert.MlpDownDwIdeal.main_arg0)
      ∧ m' ((c.tc : Thread Cert.MlpDownDwReferenceIdeal.nD Cert.MlpDownDwReferenceIdeal.τ).loc Cert.MlpDownDwReferenceIdeal.main_arg1) = m ((c.tc : Thread Cert.MlpDownDwIdeal.nD Cert.MlpDownDwIdeal.τ).loc Cert.MlpDownDwIdeal.main_arg1)) →
    ∃ (v0 : (c : Dev Cert.MlpDownDwIdeal.nD) → Buf (Elt Ideal) ((c.tc : Thread Cert.MlpDownDwIdeal.nD Cert.MlpDownDwIdeal.τ).loc Cert.MlpDownDwIdeal.main_v0)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v0) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ θ_run (Cert.MlpDownDwReferenceIdeal.defs (F := Ideal)) (onTc (τ := Cert.MlpDownDwReferenceIdeal.τ) (Cert.MlpDownDwReferenceIdeal.main (F := Ideal))) ⟨m', fun _ => 0, g'⟩ (fun r => ∀ c : Dev Cert.MlpDownDwReferenceIdeal.nD,
          r.2.mem ((c.tc : Thread Cert.MlpDownDwReferenceIdeal.nD Cert.MlpDownDwReferenceIdeal.τ).loc Cert.MlpDownDwReferenceIdeal.main_v6) = v0 c
          ∧ r.2.mem ((c.tc : Thread Cert.MlpDownDwReferenceIdeal.nD Cert.MlpDownDwReferenceIdeal.τ).loc Cert.MlpDownDwReferenceIdeal.main_arg0) = m' ((c.tc : Thread Cert.MlpDownDwReferenceIdeal.nD Cert.MlpDownDwReferenceIdeal.τ).loc Cert.MlpDownDwReferenceIdeal.main_arg0)
          ∧ r.2.mem ((c.tc : Thread Cert.MlpDownDwReferenceIdeal.nD Cert.MlpDownDwReferenceIdeal.τ).loc Cert.MlpDownDwReferenceIdeal.main_arg1) = m' ((c.tc : Thread Cert.MlpDownDwReferenceIdeal.nD Cert.MlpDownDwReferenceIdeal.τ).loc Cert.MlpDownDwReferenceIdeal.main_arg1))

def preserves_MlpDownDx_MlpDownDxIdeal : Prop :=
  True

def algebraic_MlpDownDxIdeal_MlpDownDxReferenceIdeal [hMlpDownDxIdeal : Cert.MlpDownDxIdeal.Facts] [hMlpDownDxReferenceIdeal : Cert.MlpDownDxReferenceIdeal.Facts] : Prop :=
  ∀ (m : (ℓ : Loc Cert.MlpDownDxIdeal.nD Cert.MlpDownDxIdeal.τ Cert.MlpDownDxIdeal.sig) → Buf (Elt Ideal) ℓ) (g : Dev Cert.MlpDownDxIdeal.nD → PrngReg)
    (m' : (ℓ : Loc Cert.MlpDownDxReferenceIdeal.nD Cert.MlpDownDxReferenceIdeal.τ Cert.MlpDownDxReferenceIdeal.sig) → Buf (Elt Ideal) ℓ) (g' : Dev Cert.MlpDownDxReferenceIdeal.nD → PrngReg), Pre_MlpDownDxIdeal m →
    (∀ c : Dev Cert.MlpDownDxIdeal.nD,
      m' ((c.tc : Thread Cert.MlpDownDxReferenceIdeal.nD Cert.MlpDownDxReferenceIdeal.τ).loc Cert.MlpDownDxReferenceIdeal.main_arg0) = m ((c.tc : Thread Cert.MlpDownDxIdeal.nD Cert.MlpDownDxIdeal.τ).loc Cert.MlpDownDxIdeal.main_arg0)
      ∧ m' ((c.tc : Thread Cert.MlpDownDxReferenceIdeal.nD Cert.MlpDownDxReferenceIdeal.τ).loc Cert.MlpDownDxReferenceIdeal.main_arg1) = m ((c.tc : Thread Cert.MlpDownDxIdeal.nD Cert.MlpDownDxIdeal.τ).loc Cert.MlpDownDxIdeal.main_arg1)
      ∧ m' ((c.tc : Thread Cert.MlpDownDxReferenceIdeal.nD Cert.MlpDownDxReferenceIdeal.τ).loc Cert.MlpDownDxReferenceIdeal.main_arg2) = m ((c.tc : Thread Cert.MlpDownDxIdeal.nD Cert.MlpDownDxIdeal.τ).loc Cert.MlpDownDxIdeal.main_arg2)) →
    ∃ (v0 : (c : Dev Cert.MlpDownDxIdeal.nD) → Buf (Elt Ideal) ((c.tc : Thread Cert.MlpDownDxIdeal.nD Cert.MlpDownDxIdeal.τ).loc Cert.MlpDownDxIdeal.main_v0)),
      θ_run (Cert.MlpDownDxIdeal.defs (F := Ideal)) (onTc (τ := Cert.MlpDownDxIdeal.τ) (Cert.MlpDownDxIdeal.main (F := Ideal))) ⟨m, fun _ => 0, g⟩ (fun r => ∀ c : Dev Cert.MlpDownDxIdeal.nD,
          r.2.mem ((c.tc : Thread Cert.MlpDownDxIdeal.nD Cert.MlpDownDxIdeal.τ).loc Cert.MlpDownDxIdeal.main_v0) = v0 c
          ∧ r.2.mem ((c.tc : Thread Cert.MlpDownDxIdeal.nD Cert.MlpDownDxIdeal.τ).loc Cert.MlpDownDxIdeal.main_arg0) = m ((c.tc : Thread Cert.MlpDownDxIdeal.nD Cert.MlpDownDxIdeal.τ).loc Cert.MlpDownDxIdeal.main_arg0)
          ∧ r.2.mem ((c.tc : Thread Cert.MlpDownDxIdeal.nD Cert.MlpDownDxIdeal.τ).loc Cert.MlpDownDxIdeal.main_arg1) = m ((c.tc : Thread Cert.MlpDownDxIdeal.nD Cert.MlpDownDxIdeal.τ).loc Cert.MlpDownDxIdeal.main_arg1)
          ∧ r.2.mem ((c.tc : Thread Cert.MlpDownDxIdeal.nD Cert.MlpDownDxIdeal.τ).loc Cert.MlpDownDxIdeal.main_arg2) = m ((c.tc : Thread Cert.MlpDownDxIdeal.nD Cert.MlpDownDxIdeal.τ).loc Cert.MlpDownDxIdeal.main_arg2))
      ∧ θ_run (Cert.MlpDownDxReferenceIdeal.defs (F := Ideal)) (onTc (τ := Cert.MlpDownDxReferenceIdeal.τ) (Cert.MlpDownDxReferenceIdeal.main (F := Ideal))) ⟨m', fun _ => 0, g'⟩ (fun r => ∀ c : Dev Cert.MlpDownDxReferenceIdeal.nD,
          r.2.mem ((c.tc : Thread Cert.MlpDownDxReferenceIdeal.nD Cert.MlpDownDxReferenceIdeal.τ).loc Cert.MlpDownDxReferenceIdeal.main_v16) = v0 c
          ∧ r.2.mem ((c.tc : Thread Cert.MlpDownDxReferenceIdeal.nD Cert.MlpDownDxReferenceIdeal.τ).loc Cert.MlpDownDxReferenceIdeal.main_arg0) = m' ((c.tc : Thread Cert.MlpDownDxReferenceIdeal.nD Cert.MlpDownDxReferenceIdeal.τ).loc Cert.MlpDownDxReferenceIdeal.main_arg0)
          ∧ r.2.mem ((c.tc : Thread Cert.MlpDownDxReferenceIdeal.nD Cert.MlpDownDxReferenceIdeal.τ).loc Cert.MlpDownDxReferenceIdeal.main_arg1) = m' ((c.tc : Thread Cert.MlpDownDxReferenceIdeal.nD Cert.MlpDownDxReferenceIdeal.τ).loc Cert.MlpDownDxReferenceIdeal.main_arg1)
          ∧ r.2.mem ((c.tc : Thread Cert.MlpDownDxReferenceIdeal.nD Cert.MlpDownDxReferenceIdeal.τ).loc Cert.MlpDownDxReferenceIdeal.main_arg2) = m' ((c.tc : Thread Cert.MlpDownDxReferenceIdeal.nD Cert.MlpDownDxReferenceIdeal.τ).loc Cert.MlpDownDxReferenceIdeal.main_arg2))

def preserves_MlpUpDw_MlpUpDwIdeal : Prop :=
  True

def algebraic_MlpUpDwIdeal_MlpUpDwReferenceIdeal [hMlpUpDwIdeal : Cert.MlpUpDwIdeal.Facts] [hMlpUpDwReferenceIdeal : Cert.MlpUpDwReferenceIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwReferenceIdeal.nD Cert.MlpUpDwReferenceIdeal.τ Cert.MlpUpDwReferenceIdeal.sig) → Buf (Elt Ideal) ℓ) (g' : Dev Cert.MlpUpDwReferenceIdeal.nD → PrngReg), Pre_MlpUpDwIdeal m →
    (∀ c : Dev Cert.MlpUpDwIdeal.nD,
      m' ((c.tc : Thread Cert.MlpUpDwReferenceIdeal.nD Cert.MlpUpDwReferenceIdeal.τ).loc Cert.MlpUpDwReferenceIdeal.main_arg0) = m ((c.tc : Thread Cert.MlpUpDwIdeal.nD Cert.MlpUpDwIdeal.τ).loc Cert.MlpUpDwIdeal.main_arg0)
      ∧ m' ((c.tc : Thread Cert.MlpUpDwReferenceIdeal.nD Cert.MlpUpDwReferenceIdeal.τ).loc Cert.MlpUpDwReferenceIdeal.main_arg1) = m ((c.tc : Thread Cert.MlpUpDwIdeal.nD Cert.MlpUpDwIdeal.τ).loc Cert.MlpUpDwIdeal.main_arg1)) →
    ∃ (v0 : (c : Dev Cert.MlpUpDwIdeal.nD) → Buf (Elt Ideal) ((c.tc : Thread Cert.MlpUpDwIdeal.nD Cert.MlpUpDwIdeal.τ).loc Cert.MlpUpDwIdeal.main_v0)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v0) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ θ_run (Cert.MlpUpDwReferenceIdeal.defs (F := Ideal)) (onTc (τ := Cert.MlpUpDwReferenceIdeal.τ) (Cert.MlpUpDwReferenceIdeal.main (F := Ideal))) ⟨m', fun _ => 0, g'⟩ (fun r => ∀ c : Dev Cert.MlpUpDwReferenceIdeal.nD,
          r.2.mem ((c.tc : Thread Cert.MlpUpDwReferenceIdeal.nD Cert.MlpUpDwReferenceIdeal.τ).loc Cert.MlpUpDwReferenceIdeal.main_v10) = v0 c
          ∧ r.2.mem ((c.tc : Thread Cert.MlpUpDwReferenceIdeal.nD Cert.MlpUpDwReferenceIdeal.τ).loc Cert.MlpUpDwReferenceIdeal.main_arg0) = m' ((c.tc : Thread Cert.MlpUpDwReferenceIdeal.nD Cert.MlpUpDwReferenceIdeal.τ).loc Cert.MlpUpDwReferenceIdeal.main_arg0)
          ∧ r.2.mem ((c.tc : Thread Cert.MlpUpDwReferenceIdeal.nD Cert.MlpUpDwReferenceIdeal.τ).loc Cert.MlpUpDwReferenceIdeal.main_arg1) = m' ((c.tc : Thread Cert.MlpUpDwReferenceIdeal.nD Cert.MlpUpDwReferenceIdeal.τ).loc Cert.MlpUpDwReferenceIdeal.main_arg1))

def preserves_MlpUpDx_MlpUpDxIdeal : Prop :=
  True

def algebraic_MlpUpDxIdeal_MlpUpDxReferenceIdeal [hMlpUpDxIdeal : Cert.MlpUpDxIdeal.Facts] [hMlpUpDxReferenceIdeal : Cert.MlpUpDxReferenceIdeal.Facts] : Prop :=
  ∀ (m : (ℓ : Loc Cert.MlpUpDxIdeal.nD Cert.MlpUpDxIdeal.τ Cert.MlpUpDxIdeal.sig) → Buf (Elt Ideal) ℓ) (g : Dev Cert.MlpUpDxIdeal.nD → PrngReg)
    (m' : (ℓ : Loc Cert.MlpUpDxReferenceIdeal.nD Cert.MlpUpDxReferenceIdeal.τ Cert.MlpUpDxReferenceIdeal.sig) → Buf (Elt Ideal) ℓ) (g' : Dev Cert.MlpUpDxReferenceIdeal.nD → PrngReg), Pre_MlpUpDxIdeal m →
    (∀ c : Dev Cert.MlpUpDxIdeal.nD,
      m' ((c.tc : Thread Cert.MlpUpDxReferenceIdeal.nD Cert.MlpUpDxReferenceIdeal.τ).loc Cert.MlpUpDxReferenceIdeal.main_arg0) = m ((c.tc : Thread Cert.MlpUpDxIdeal.nD Cert.MlpUpDxIdeal.τ).loc Cert.MlpUpDxIdeal.main_arg0)
      ∧ m' ((c.tc : Thread Cert.MlpUpDxReferenceIdeal.nD Cert.MlpUpDxReferenceIdeal.τ).loc Cert.MlpUpDxReferenceIdeal.main_arg1) = m ((c.tc : Thread Cert.MlpUpDxIdeal.nD Cert.MlpUpDxIdeal.τ).loc Cert.MlpUpDxIdeal.main_arg1)) →
    ∃ (v0 : (c : Dev Cert.MlpUpDxIdeal.nD) → Buf (Elt Ideal) ((c.tc : Thread Cert.MlpUpDxIdeal.nD Cert.MlpUpDxIdeal.τ).loc Cert.MlpUpDxIdeal.main_v0)),
      θ_run (Cert.MlpUpDxIdeal.defs (F := Ideal)) (onTc (τ := Cert.MlpUpDxIdeal.τ) (Cert.MlpUpDxIdeal.main (F := Ideal))) ⟨m, fun _ => 0, g⟩ (fun r => ∀ c : Dev Cert.MlpUpDxIdeal.nD,
          r.2.mem ((c.tc : Thread Cert.MlpUpDxIdeal.nD Cert.MlpUpDxIdeal.τ).loc Cert.MlpUpDxIdeal.main_v0) = v0 c
          ∧ r.2.mem ((c.tc : Thread Cert.MlpUpDxIdeal.nD Cert.MlpUpDxIdeal.τ).loc Cert.MlpUpDxIdeal.main_arg0) = m ((c.tc : Thread Cert.MlpUpDxIdeal.nD Cert.MlpUpDxIdeal.τ).loc Cert.MlpUpDxIdeal.main_arg0)
          ∧ r.2.mem ((c.tc : Thread Cert.MlpUpDxIdeal.nD Cert.MlpUpDxIdeal.τ).loc Cert.MlpUpDxIdeal.main_arg1) = m ((c.tc : Thread Cert.MlpUpDxIdeal.nD Cert.MlpUpDxIdeal.τ).loc Cert.MlpUpDxIdeal.main_arg1))
      ∧ θ_run (Cert.MlpUpDxReferenceIdeal.defs (F := Ideal)) (onTc (τ := Cert.MlpUpDxReferenceIdeal.τ) (Cert.MlpUpDxReferenceIdeal.main (F := Ideal))) ⟨m', fun _ => 0, g'⟩ (fun r => ∀ c : Dev Cert.MlpUpDxReferenceIdeal.nD,
          r.2.mem ((c.tc : Thread Cert.MlpUpDxReferenceIdeal.nD Cert.MlpUpDxReferenceIdeal.τ).loc Cert.MlpUpDxReferenceIdeal.main_v7) = v0 c
          ∧ r.2.mem ((c.tc : Thread Cert.MlpUpDxReferenceIdeal.nD Cert.MlpUpDxReferenceIdeal.τ).loc Cert.MlpUpDxReferenceIdeal.main_arg0) = m' ((c.tc : Thread Cert.MlpUpDxReferenceIdeal.nD Cert.MlpUpDxReferenceIdeal.τ).loc Cert.MlpUpDxReferenceIdeal.main_arg0)
          ∧ r.2.mem ((c.tc : Thread Cert.MlpUpDxReferenceIdeal.nD Cert.MlpUpDxReferenceIdeal.τ).loc Cert.MlpUpDxReferenceIdeal.main_arg1) = m' ((c.tc : Thread Cert.MlpUpDxReferenceIdeal.nD Cert.MlpUpDxReferenceIdeal.τ).loc Cert.MlpUpDxReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v5) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_InProjDw_InProjDwIdeal : Prop :=
  True

def algebraic_InProjDwIdeal_InProjDwReferenceIdeal [hInProjDwIdeal : Cert.InProjDwIdeal.Facts] [hInProjDwReferenceIdeal : Cert.InProjDwReferenceIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwReferenceIdeal.nD Cert.InProjDwReferenceIdeal.τ Cert.InProjDwReferenceIdeal.sig) → Buf (Elt Ideal) ℓ) (g' : Dev Cert.InProjDwReferenceIdeal.nD → PrngReg), Pre_InProjDwIdeal m →
    (∀ c : Dev Cert.InProjDwIdeal.nD,
      m' ((c.tc : Thread Cert.InProjDwReferenceIdeal.nD Cert.InProjDwReferenceIdeal.τ).loc Cert.InProjDwReferenceIdeal.main_arg0) = m ((c.tc : Thread Cert.InProjDwIdeal.nD Cert.InProjDwIdeal.τ).loc Cert.InProjDwIdeal.main_arg0)
      ∧ m' ((c.tc : Thread Cert.InProjDwReferenceIdeal.nD Cert.InProjDwReferenceIdeal.τ).loc Cert.InProjDwReferenceIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwReferenceIdeal.defs (F := Ideal)) (onTc (τ := Cert.InProjDwReferenceIdeal.τ) (Cert.InProjDwReferenceIdeal.main (F := Ideal))) ⟨m', fun _ => 0, g'⟩ (fun r => ∀ c : Dev Cert.InProjDwReferenceIdeal.nD,
          r.2.mem ((c.tc : Thread Cert.InProjDwReferenceIdeal.nD Cert.InProjDwReferenceIdeal.τ).loc Cert.InProjDwReferenceIdeal.main_v10) = v0 c
          ∧ r.2.mem ((c.tc : Thread Cert.InProjDwReferenceIdeal.nD Cert.InProjDwReferenceIdeal.τ).loc Cert.InProjDwReferenceIdeal.main_arg0) = m' ((c.tc : Thread Cert.InProjDwReferenceIdeal.nD Cert.InProjDwReferenceIdeal.τ).loc Cert.InProjDwReferenceIdeal.main_arg0)
          ∧ r.2.mem ((c.tc : Thread Cert.InProjDwReferenceIdeal.nD Cert.InProjDwReferenceIdeal.τ).loc Cert.InProjDwReferenceIdeal.main_arg1) = m' ((c.tc : Thread Cert.InProjDwReferenceIdeal.nD Cert.InProjDwReferenceIdeal.τ).loc Cert.InProjDwReferenceIdeal.main_arg1))

def preserves_InProjDx_InProjDxIdeal : Prop :=
  True

def algebraic_InProjDxIdeal_InProjDxReferenceIdeal [hInProjDxIdeal : Cert.InProjDxIdeal.Facts] [hInProjDxReferenceIdeal : Cert.InProjDxReferenceIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxReferenceIdeal.nD Cert.InProjDxReferenceIdeal.τ Cert.InProjDxReferenceIdeal.sig) → Buf (Elt Ideal) ℓ) (g' : Dev Cert.InProjDxReferenceIdeal.nD → PrngReg), Pre_InProjDxIdeal m →
    (∀ c : Dev Cert.InProjDxIdeal.nD,
      m' ((c.tc : Thread Cert.InProjDxReferenceIdeal.nD Cert.InProjDxReferenceIdeal.τ).loc Cert.InProjDxReferenceIdeal.main_arg0) = m ((c.tc : Thread Cert.InProjDxIdeal.nD Cert.InProjDxIdeal.τ).loc Cert.InProjDxIdeal.main_arg0)
      ∧ m' ((c.tc : Thread Cert.InProjDxReferenceIdeal.nD Cert.InProjDxReferenceIdeal.τ).loc Cert.InProjDxReferenceIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InProjDxReferenceIdeal.defs (F := Ideal)) (onTc (τ := Cert.InProjDxReferenceIdeal.τ) (Cert.InProjDxReferenceIdeal.main (F := Ideal))) ⟨m', fun _ => 0, g'⟩ (fun r => ∀ c : Dev Cert.InProjDxReferenceIdeal.nD,
          r.2.mem ((c.tc : Thread Cert.InProjDxReferenceIdeal.nD Cert.InProjDxReferenceIdeal.τ).loc Cert.InProjDxReferenceIdeal.main_v9) = v0 c
          ∧ r.2.mem ((c.tc : Thread Cert.InProjDxReferenceIdeal.nD Cert.InProjDxReferenceIdeal.τ).loc Cert.InProjDxReferenceIdeal.main_arg0) = m' ((c.tc : Thread Cert.InProjDxReferenceIdeal.nD Cert.InProjDxReferenceIdeal.τ).loc Cert.InProjDxReferenceIdeal.main_arg0)
          ∧ r.2.mem ((c.tc : Thread Cert.InProjDxReferenceIdeal.nD Cert.InProjDxReferenceIdeal.τ).loc Cert.InProjDxReferenceIdeal.main_arg1) = m' ((c.tc : Thread Cert.InProjDxReferenceIdeal.nD Cert.InProjDxReferenceIdeal.τ).loc Cert.InProjDxReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_OutProjDw_OutProjDwIdeal : Prop :=
  True

def algebraic_OutProjDwIdeal_OutProjDwReferenceIdeal [hOutProjDwIdeal : Cert.OutProjDwIdeal.Facts] [hOutProjDwReferenceIdeal : Cert.OutProjDwReferenceIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwReferenceIdeal.nD Cert.OutProjDwReferenceIdeal.τ Cert.OutProjDwReferenceIdeal.sig) → Buf (Elt Ideal) ℓ) (g' : Dev Cert.OutProjDwReferenceIdeal.nD → PrngReg), Pre_OutProjDwIdeal m →
    (∀ c : Dev Cert.OutProjDwIdeal.nD,
      m' ((c.tc : Thread Cert.OutProjDwReferenceIdeal.nD Cert.OutProjDwReferenceIdeal.τ).loc Cert.OutProjDwReferenceIdeal.main_arg0) = m ((c.tc : Thread Cert.OutProjDwIdeal.nD Cert.OutProjDwIdeal.τ).loc Cert.OutProjDwIdeal.main_arg0)
      ∧ m' ((c.tc : Thread Cert.OutProjDwReferenceIdeal.nD Cert.OutProjDwReferenceIdeal.τ).loc Cert.OutProjDwReferenceIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwReferenceIdeal.defs (F := Ideal)) (onTc (τ := Cert.OutProjDwReferenceIdeal.τ) (Cert.OutProjDwReferenceIdeal.main (F := Ideal))) ⟨m', fun _ => 0, g'⟩ (fun r => ∀ c : Dev Cert.OutProjDwReferenceIdeal.nD,
          r.2.mem ((c.tc : Thread Cert.OutProjDwReferenceIdeal.nD Cert.OutProjDwReferenceIdeal.τ).loc Cert.OutProjDwReferenceIdeal.main_v8) = v0 c
          ∧ r.2.mem ((c.tc : Thread Cert.OutProjDwReferenceIdeal.nD Cert.OutProjDwReferenceIdeal.τ).loc Cert.OutProjDwReferenceIdeal.main_arg0) = m' ((c.tc : Thread Cert.OutProjDwReferenceIdeal.nD Cert.OutProjDwReferenceIdeal.τ).loc Cert.OutProjDwReferenceIdeal.main_arg0)
          ∧ r.2.mem ((c.tc : Thread Cert.OutProjDwReferenceIdeal.nD Cert.OutProjDwReferenceIdeal.τ).loc Cert.OutProjDwReferenceIdeal.main_arg1) = m' ((c.tc : Thread Cert.OutProjDwReferenceIdeal.nD Cert.OutProjDwReferenceIdeal.τ).loc Cert.OutProjDwReferenceIdeal.main_arg1))

def preserves_OutProjDx_OutProjDxIdeal : Prop :=
  True

def algebraic_OutProjDxIdeal_OutProjDxReferenceIdeal [hOutProjDxIdeal : Cert.OutProjDxIdeal.Facts] [hOutProjDxReferenceIdeal : Cert.OutProjDxReferenceIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxReferenceIdeal.nD Cert.OutProjDxReferenceIdeal.τ Cert.OutProjDxReferenceIdeal.sig) → Buf (Elt Ideal) ℓ) (g' : Dev Cert.OutProjDxReferenceIdeal.nD → PrngReg), Pre_OutProjDxIdeal m →
    (∀ c : Dev Cert.OutProjDxIdeal.nD,
      m' ((c.tc : Thread Cert.OutProjDxReferenceIdeal.nD Cert.OutProjDxReferenceIdeal.τ).loc Cert.OutProjDxReferenceIdeal.main_arg0) = m ((c.tc : Thread Cert.OutProjDxIdeal.nD Cert.OutProjDxIdeal.τ).loc Cert.OutProjDxIdeal.main_arg0)
      ∧ m' ((c.tc : Thread Cert.OutProjDxReferenceIdeal.nD Cert.OutProjDxReferenceIdeal.τ).loc Cert.OutProjDxReferenceIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxReferenceIdeal.defs (F := Ideal)) (onTc (τ := Cert.OutProjDxReferenceIdeal.τ) (Cert.OutProjDxReferenceIdeal.main (F := Ideal))) ⟨m', fun _ => 0, g'⟩ (fun r => ∀ c : Dev Cert.OutProjDxReferenceIdeal.nD,
          r.2.mem ((c.tc : Thread Cert.OutProjDxReferenceIdeal.nD Cert.OutProjDxReferenceIdeal.τ).loc Cert.OutProjDxReferenceIdeal.main_v8) = v0 c
          ∧ r.2.mem ((c.tc : Thread Cert.OutProjDxReferenceIdeal.nD Cert.OutProjDxReferenceIdeal.τ).loc Cert.OutProjDxReferenceIdeal.main_arg0) = m' ((c.tc : Thread Cert.OutProjDxReferenceIdeal.nD Cert.OutProjDxReferenceIdeal.τ).loc Cert.OutProjDxReferenceIdeal.main_arg0)
          ∧ r.2.mem ((c.tc : Thread Cert.OutProjDxReferenceIdeal.nD Cert.OutProjDxReferenceIdeal.τ).loc Cert.OutProjDxReferenceIdeal.main_arg1) = m' ((c.tc : Thread Cert.OutProjDxReferenceIdeal.nD Cert.OutProjDxReferenceIdeal.τ).loc Cert.OutProjDxReferenceIdeal.main_arg1))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v6) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_QkvDw_QkvDwIdeal : Prop :=
  True

def algebraic_QkvDwIdeal_QkvDwReferenceIdeal [hQkvDwIdeal : Cert.QkvDwIdeal.Facts] [hQkvDwReferenceIdeal : Cert.QkvDwReferenceIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwReferenceIdeal.nD Cert.QkvDwReferenceIdeal.τ Cert.QkvDwReferenceIdeal.sig) → Buf (Elt Ideal) ℓ) (g' : Dev Cert.QkvDwReferenceIdeal.nD → PrngReg), Pre_QkvDwIdeal m →
    (∀ c : Dev Cert.QkvDwIdeal.nD,
      m' ((c.tc : Thread Cert.QkvDwReferenceIdeal.nD Cert.QkvDwReferenceIdeal.τ).loc Cert.QkvDwReferenceIdeal.main_arg0) = m ((c.tc : Thread Cert.QkvDwIdeal.nD Cert.QkvDwIdeal.τ).loc Cert.QkvDwIdeal.main_arg0)
      ∧ m' ((c.tc : Thread Cert.QkvDwReferenceIdeal.nD Cert.QkvDwReferenceIdeal.τ).loc Cert.QkvDwReferenceIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwReferenceIdeal.defs (F := Ideal)) (onTc (τ := Cert.QkvDwReferenceIdeal.τ) (Cert.QkvDwReferenceIdeal.main (F := Ideal))) ⟨m', fun _ => 0, g'⟩ (fun r => ∀ c : Dev Cert.QkvDwReferenceIdeal.nD,
          r.2.mem ((c.tc : Thread Cert.QkvDwReferenceIdeal.nD Cert.QkvDwReferenceIdeal.τ).loc Cert.QkvDwReferenceIdeal.main_v9) = v0 c
          ∧ r.2.mem ((c.tc : Thread Cert.QkvDwReferenceIdeal.nD Cert.QkvDwReferenceIdeal.τ).loc Cert.QkvDwReferenceIdeal.main_arg0) = m' ((c.tc : Thread Cert.QkvDwReferenceIdeal.nD Cert.QkvDwReferenceIdeal.τ).loc Cert.QkvDwReferenceIdeal.main_arg0)
          ∧ r.2.mem ((c.tc : Thread Cert.QkvDwReferenceIdeal.nD Cert.QkvDwReferenceIdeal.τ).loc Cert.QkvDwReferenceIdeal.main_arg1) = m' ((c.tc : Thread Cert.QkvDwReferenceIdeal.nD Cert.QkvDwReferenceIdeal.τ).loc Cert.QkvDwReferenceIdeal.main_arg1))

def preserves_QkvDx_QkvDxIdeal : Prop :=
  True

def algebraic_QkvDxIdeal_QkvDxReferenceIdeal [hQkvDxIdeal : Cert.QkvDxIdeal.Facts] [hQkvDxReferenceIdeal : Cert.QkvDxReferenceIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxReferenceIdeal.nD Cert.QkvDxReferenceIdeal.τ Cert.QkvDxReferenceIdeal.sig) → Buf (Elt Ideal) ℓ) (g' : Dev Cert.QkvDxReferenceIdeal.nD → PrngReg), Pre_QkvDxIdeal m →
    (∀ c : Dev Cert.QkvDxIdeal.nD,
      m' ((c.tc : Thread Cert.QkvDxReferenceIdeal.nD Cert.QkvDxReferenceIdeal.τ).loc Cert.QkvDxReferenceIdeal.main_arg0) = m ((c.tc : Thread Cert.QkvDxIdeal.nD Cert.QkvDxIdeal.τ).loc Cert.QkvDxIdeal.main_arg0)
      ∧ m' ((c.tc : Thread Cert.QkvDxReferenceIdeal.nD Cert.QkvDxReferenceIdeal.τ).loc Cert.QkvDxReferenceIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxReferenceIdeal.defs (F := Ideal)) (onTc (τ := Cert.QkvDxReferenceIdeal.τ) (Cert.QkvDxReferenceIdeal.main (F := Ideal))) ⟨m', fun _ => 0, g'⟩ (fun r => ∀ c : Dev Cert.QkvDxReferenceIdeal.nD,
          r.2.mem ((c.tc : Thread Cert.QkvDxReferenceIdeal.nD Cert.QkvDxReferenceIdeal.τ).loc Cert.QkvDxReferenceIdeal.main_v8) = v0 c
          ∧ r.2.mem ((c.tc : Thread Cert.QkvDxReferenceIdeal.nD Cert.QkvDxReferenceIdeal.τ).loc Cert.QkvDxReferenceIdeal.main_arg0) = m' ((c.tc : Thread Cert.QkvDxReferenceIdeal.nD Cert.QkvDxReferenceIdeal.τ).loc Cert.QkvDxReferenceIdeal.main_arg0)
          ∧ r.2.mem ((c.tc : Thread Cert.QkvDxReferenceIdeal.nD Cert.QkvDxReferenceIdeal.τ).loc Cert.QkvDxReferenceIdeal.main_arg1) = m' ((c.tc : Thread Cert.QkvDxReferenceIdeal.nD Cert.QkvDxReferenceIdeal.τ).loc Cert.QkvDxReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v3) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1))

def preserves_AttnOutDw_AttnOutDwIdeal : Prop :=
  True

def algebraic_AttnOutDwIdeal_AttnOutDwReferenceIdeal [hAttnOutDwIdeal : Cert.AttnOutDwIdeal.Facts] [hAttnOutDwReferenceIdeal : Cert.AttnOutDwReferenceIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwReferenceIdeal.nD Cert.AttnOutDwReferenceIdeal.τ Cert.AttnOutDwReferenceIdeal.sig) → Buf (Elt Ideal) ℓ) (g' : Dev Cert.AttnOutDwReferenceIdeal.nD → PrngReg), Pre_AttnOutDwIdeal m →
    (∀ c : Dev Cert.AttnOutDwIdeal.nD,
      m' ((c.tc : Thread Cert.AttnOutDwReferenceIdeal.nD Cert.AttnOutDwReferenceIdeal.τ).loc Cert.AttnOutDwReferenceIdeal.main_arg0) = m ((c.tc : Thread Cert.AttnOutDwIdeal.nD Cert.AttnOutDwIdeal.τ).loc Cert.AttnOutDwIdeal.main_arg0)
      ∧ m' ((c.tc : Thread Cert.AttnOutDwReferenceIdeal.nD Cert.AttnOutDwReferenceIdeal.τ).loc Cert.AttnOutDwReferenceIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwReferenceIdeal.defs (F := Ideal)) (onTc (τ := Cert.AttnOutDwReferenceIdeal.τ) (Cert.AttnOutDwReferenceIdeal.main (F := Ideal))) ⟨m', fun _ => 0, g'⟩ (fun r => ∀ c : Dev Cert.AttnOutDwReferenceIdeal.nD,
          r.2.mem ((c.tc : Thread Cert.AttnOutDwReferenceIdeal.nD Cert.AttnOutDwReferenceIdeal.τ).loc Cert.AttnOutDwReferenceIdeal.main_v6) = v0 c
          ∧ r.2.mem ((c.tc : Thread Cert.AttnOutDwReferenceIdeal.nD Cert.AttnOutDwReferenceIdeal.τ).loc Cert.AttnOutDwReferenceIdeal.main_arg0) = m' ((c.tc : Thread Cert.AttnOutDwReferenceIdeal.nD Cert.AttnOutDwReferenceIdeal.τ).loc Cert.AttnOutDwReferenceIdeal.main_arg0)
          ∧ r.2.mem ((c.tc : Thread Cert.AttnOutDwReferenceIdeal.nD Cert.AttnOutDwReferenceIdeal.τ).loc Cert.AttnOutDwReferenceIdeal.main_arg1) = m' ((c.tc : Thread Cert.AttnOutDwReferenceIdeal.nD Cert.AttnOutDwReferenceIdeal.τ).loc Cert.AttnOutDwReferenceIdeal.main_arg1))

def preserves_AttnOutDx_AttnOutDxIdeal : Prop :=
  True

def algebraic_AttnOutDxIdeal_AttnOutDxReferenceIdeal [hAttnOutDxIdeal : Cert.AttnOutDxIdeal.Facts] [hAttnOutDxReferenceIdeal : Cert.AttnOutDxReferenceIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxReferenceIdeal.nD Cert.AttnOutDxReferenceIdeal.τ Cert.AttnOutDxReferenceIdeal.sig) → Buf (Elt Ideal) ℓ) (g' : Dev Cert.AttnOutDxReferenceIdeal.nD → PrngReg), Pre_AttnOutDxIdeal m →
    (∀ c : Dev Cert.AttnOutDxIdeal.nD,
      m' ((c.tc : Thread Cert.AttnOutDxReferenceIdeal.nD Cert.AttnOutDxReferenceIdeal.τ).loc Cert.AttnOutDxReferenceIdeal.main_arg0) = m ((c.tc : Thread Cert.AttnOutDxIdeal.nD Cert.AttnOutDxIdeal.τ).loc Cert.AttnOutDxIdeal.main_arg0)
      ∧ m' ((c.tc : Thread Cert.AttnOutDxReferenceIdeal.nD Cert.AttnOutDxReferenceIdeal.τ).loc Cert.AttnOutDxReferenceIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxReferenceIdeal.defs (F := Ideal)) (onTc (τ := Cert.AttnOutDxReferenceIdeal.τ) (Cert.AttnOutDxReferenceIdeal.main (F := Ideal))) ⟨m', fun _ => 0, g'⟩ (fun r => ∀ c : Dev Cert.AttnOutDxReferenceIdeal.nD,
          r.2.mem ((c.tc : Thread Cert.AttnOutDxReferenceIdeal.nD Cert.AttnOutDxReferenceIdeal.τ).loc Cert.AttnOutDxReferenceIdeal.main_v5) = v0 c
          ∧ r.2.mem ((c.tc : Thread Cert.AttnOutDxReferenceIdeal.nD Cert.AttnOutDxReferenceIdeal.τ).loc Cert.AttnOutDxReferenceIdeal.main_arg0) = m' ((c.tc : Thread Cert.AttnOutDxReferenceIdeal.nD Cert.AttnOutDxReferenceIdeal.τ).loc Cert.AttnOutDxReferenceIdeal.main_arg0)
          ∧ r.2.mem ((c.tc : Thread Cert.AttnOutDxReferenceIdeal.nD Cert.AttnOutDxReferenceIdeal.τ).loc Cert.AttnOutDxReferenceIdeal.main_arg1) = m' ((c.tc : Thread Cert.AttnOutDxReferenceIdeal.nD Cert.AttnOutDxReferenceIdeal.τ).loc Cert.AttnOutDxReferenceIdeal.main_arg1))

def preserves_AdamwDown_AdamwDownIdeal : Prop :=
  True

def algebraic_AdamwDownIdeal_AdamwDownReferenceIdeal [hAdamwDownIdeal : Cert.AdamwDownIdeal.Facts] [hAdamwDownReferenceIdeal : Cert.AdamwDownReferenceIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownReferenceIdeal.nD Cert.AdamwDownReferenceIdeal.τ Cert.AdamwDownReferenceIdeal.sig) → Buf (Elt Ideal) ℓ) (g' : Dev Cert.AdamwDownReferenceIdeal.nD → PrngReg), Pre_AdamwDownIdeal m →
    (∀ c : Dev Cert.AdamwDownIdeal.nD,
      m' ((c.tc : Thread Cert.AdamwDownReferenceIdeal.nD Cert.AdamwDownReferenceIdeal.τ).loc Cert.AdamwDownReferenceIdeal.main_arg0) = m ((c.tc : Thread Cert.AdamwDownIdeal.nD Cert.AdamwDownIdeal.τ).loc Cert.AdamwDownIdeal.main_arg0)
      ∧ m' ((c.tc : Thread Cert.AdamwDownReferenceIdeal.nD Cert.AdamwDownReferenceIdeal.τ).loc Cert.AdamwDownReferenceIdeal.main_arg1) = m ((c.tc : Thread Cert.AdamwDownIdeal.nD Cert.AdamwDownIdeal.τ).loc Cert.AdamwDownIdeal.main_arg1)
      ∧ m' ((c.tc : Thread Cert.AdamwDownReferenceIdeal.nD Cert.AdamwDownReferenceIdeal.τ).loc Cert.AdamwDownReferenceIdeal.main_arg2) = m ((c.tc : Thread Cert.AdamwDownIdeal.nD Cert.AdamwDownIdeal.τ).loc Cert.AdamwDownIdeal.main_arg2)
      ∧ m' ((c.tc : Thread Cert.AdamwDownReferenceIdeal.nD Cert.AdamwDownReferenceIdeal.τ).loc Cert.AdamwDownReferenceIdeal.main_arg3) = m ((c.tc : Thread Cert.AdamwDownIdeal.nD Cert.AdamwDownIdeal.τ).loc Cert.AdamwDownIdeal.main_arg3)
      ∧ m' ((c.tc : Thread Cert.AdamwDownReferenceIdeal.nD Cert.AdamwDownReferenceIdeal.τ).loc Cert.AdamwDownReferenceIdeal.main_arg4) = m ((c.tc : Thread Cert.AdamwDownIdeal.nD Cert.AdamwDownIdeal.τ).loc Cert.AdamwDownIdeal.main_arg4)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
          ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4))
      ∧ θ_run (Cert.AdamwDownReferenceIdeal.defs (F := Ideal)) (onTc (τ := Cert.AdamwDownReferenceIdeal.τ) (Cert.AdamwDownReferenceIdeal.main (F := Ideal))) ⟨m', fun _ => 0, g'⟩ (fun r => ∀ c : Dev Cert.AdamwDownReferenceIdeal.nD,
          r.2.mem ((c.tc : Thread Cert.AdamwDownReferenceIdeal.nD Cert.AdamwDownReferenceIdeal.τ).loc Cert.AdamwDownReferenceIdeal.main_v6) = v0 c
          ∧ r.2.mem ((c.tc : Thread Cert.AdamwDownReferenceIdeal.nD Cert.AdamwDownReferenceIdeal.τ).loc Cert.AdamwDownReferenceIdeal.main_v30) = v1 c
          ∧ r.2.mem ((c.tc : Thread Cert.AdamwDownReferenceIdeal.nD Cert.AdamwDownReferenceIdeal.τ).loc Cert.AdamwDownReferenceIdeal.main_v11) = v2 c
          ∧ r.2.mem ((c.tc : Thread Cert.AdamwDownReferenceIdeal.nD Cert.AdamwDownReferenceIdeal.τ).loc Cert.AdamwDownReferenceIdeal.main_v17) = v3 c
          ∧ r.2.mem ((c.tc : Thread Cert.AdamwDownReferenceIdeal.nD Cert.AdamwDownReferenceIdeal.τ).loc Cert.AdamwDownReferenceIdeal.main_arg0) = m' ((c.tc : Thread Cert.AdamwDownReferenceIdeal.nD Cert.AdamwDownReferenceIdeal.τ).loc Cert.AdamwDownReferenceIdeal.main_arg0)
          ∧ r.2.mem ((c.tc : Thread Cert.AdamwDownReferenceIdeal.nD Cert.AdamwDownReferenceIdeal.τ).loc Cert.AdamwDownReferenceIdeal.main_arg1) = m' ((c.tc : Thread Cert.AdamwDownReferenceIdeal.nD Cert.AdamwDownReferenceIdeal.τ).loc Cert.AdamwDownReferenceIdeal.main_arg1)
          ∧ r.2.mem ((c.tc : Thread Cert.AdamwDownReferenceIdeal.nD Cert.AdamwDownReferenceIdeal.τ).loc Cert.AdamwDownReferenceIdeal.main_arg2) = m' ((c.tc : Thread Cert.AdamwDownReferenceIdeal.nD Cert.AdamwDownReferenceIdeal.τ).loc Cert.AdamwDownReferenceIdeal.main_arg2)
          ∧ r.2.mem ((c.tc : Thread Cert.AdamwDownReferenceIdeal.nD Cert.AdamwDownReferenceIdeal.τ).loc Cert.AdamwDownReferenceIdeal.main_arg3) = m' ((c.tc : Thread Cert.AdamwDownReferenceIdeal.nD Cert.AdamwDownReferenceIdeal.τ).loc Cert.AdamwDownReferenceIdeal.main_arg3)
          ∧ r.2.mem ((c.tc : Thread Cert.AdamwDownReferenceIdeal.nD Cert.AdamwDownReferenceIdeal.τ).loc Cert.AdamwDownReferenceIdeal.main_arg4) = m' ((c.tc : Thread Cert.AdamwDownReferenceIdeal.nD Cert.AdamwDownReferenceIdeal.τ).loc Cert.AdamwDownReferenceIdeal.main_arg4))

def preserves_AdamwUp_AdamwUpIdeal : Prop :=
  True

def algebraic_AdamwUpIdeal_AdamwUpReferenceIdeal [hAdamwUpIdeal : Cert.AdamwUpIdeal.Facts] [hAdamwUpReferenceIdeal : Cert.AdamwUpReferenceIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpReferenceIdeal.nD Cert.AdamwUpReferenceIdeal.τ Cert.AdamwUpReferenceIdeal.sig) → Buf (Elt Ideal) ℓ) (g' : Dev Cert.AdamwUpReferenceIdeal.nD → PrngReg), Pre_AdamwUpIdeal m →
    (∀ c : Dev Cert.AdamwUpIdeal.nD,
      m' ((c.tc : Thread Cert.AdamwUpReferenceIdeal.nD Cert.AdamwUpReferenceIdeal.τ).loc Cert.AdamwUpReferenceIdeal.main_arg0) = m ((c.tc : Thread Cert.AdamwUpIdeal.nD Cert.AdamwUpIdeal.τ).loc Cert.AdamwUpIdeal.main_arg0)
      ∧ m' ((c.tc : Thread Cert.AdamwUpReferenceIdeal.nD Cert.AdamwUpReferenceIdeal.τ).loc Cert.AdamwUpReferenceIdeal.main_arg1) = m ((c.tc : Thread Cert.AdamwUpIdeal.nD Cert.AdamwUpIdeal.τ).loc Cert.AdamwUpIdeal.main_arg1)
      ∧ m' ((c.tc : Thread Cert.AdamwUpReferenceIdeal.nD Cert.AdamwUpReferenceIdeal.τ).loc Cert.AdamwUpReferenceIdeal.main_arg2) = m ((c.tc : Thread Cert.AdamwUpIdeal.nD Cert.AdamwUpIdeal.τ).loc Cert.AdamwUpIdeal.main_arg2)
      ∧ m' ((c.tc : Thread Cert.AdamwUpReferenceIdeal.nD Cert.AdamwUpReferenceIdeal.τ).loc Cert.AdamwUpReferenceIdeal.main_arg3) = m ((c.tc : Thread Cert.AdamwUpIdeal.nD Cert.AdamwUpIdeal.τ).loc Cert.AdamwUpIdeal.main_arg3)
      ∧ m' ((c.tc : Thread Cert.AdamwUpReferenceIdeal.nD Cert.AdamwUpReferenceIdeal.τ).loc Cert.AdamwUpReferenceIdeal.main_arg4) = m ((c.tc : Thread Cert.AdamwUpIdeal.nD Cert.AdamwUpIdeal.τ).loc Cert.AdamwUpIdeal.main_arg4)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)) (v3 : (c : Dev Cert.AdamwUpIdeal.nD) → Buf (Elt Ideal) ((c.tc : Thread Cert.AdamwUpIdeal.nD Cert.AdamwUpIdeal.τ).loc Cert.AdamwUpIdeal.main_v0_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_v0_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
          ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4))
      ∧ θ_run (Cert.AdamwUpReferenceIdeal.defs (F := Ideal)) (onTc (τ := Cert.AdamwUpReferenceIdeal.τ) (Cert.AdamwUpReferenceIdeal.main (F := Ideal))) ⟨m', fun _ => 0, g'⟩ (fun r => ∀ c : Dev Cert.AdamwUpReferenceIdeal.nD,
          r.2.mem ((c.tc : Thread Cert.AdamwUpReferenceIdeal.nD Cert.AdamwUpReferenceIdeal.τ).loc Cert.AdamwUpReferenceIdeal.main_v6) = v0 c
          ∧ r.2.mem ((c.tc : Thread Cert.AdamwUpReferenceIdeal.nD Cert.AdamwUpReferenceIdeal.τ).loc Cert.AdamwUpReferenceIdeal.main_v30) = v1 c
          ∧ r.2.mem ((c.tc : Thread Cert.AdamwUpReferenceIdeal.nD Cert.AdamwUpReferenceIdeal.τ).loc Cert.AdamwUpReferenceIdeal.main_v11) = v2 c
          ∧ r.2.mem ((c.tc : Thread Cert.AdamwUpReferenceIdeal.nD Cert.AdamwUpReferenceIdeal.τ).loc Cert.AdamwUpReferenceIdeal.main_v17) = v3 c
          ∧ r.2.mem ((c.tc : Thread Cert.AdamwUpReferenceIdeal.nD Cert.AdamwUpReferenceIdeal.τ).loc Cert.AdamwUpReferenceIdeal.main_arg0) = m' ((c.tc : Thread Cert.AdamwUpReferenceIdeal.nD Cert.AdamwUpReferenceIdeal.τ).loc Cert.AdamwUpReferenceIdeal.main_arg0)
          ∧ r.2.mem ((c.tc : Thread Cert.AdamwUpReferenceIdeal.nD Cert.AdamwUpReferenceIdeal.τ).loc Cert.AdamwUpReferenceIdeal.main_arg1) = m' ((c.tc : Thread Cert.AdamwUpReferenceIdeal.nD Cert.AdamwUpReferenceIdeal.τ).loc Cert.AdamwUpReferenceIdeal.main_arg1)
          ∧ r.2.mem ((c.tc : Thread Cert.AdamwUpReferenceIdeal.nD Cert.AdamwUpReferenceIdeal.τ).loc Cert.AdamwUpReferenceIdeal.main_arg2) = m' ((c.tc : Thread Cert.AdamwUpReferenceIdeal.nD Cert.AdamwUpReferenceIdeal.τ).loc Cert.AdamwUpReferenceIdeal.main_arg2)
          ∧ r.2.mem ((c.tc : Thread Cert.AdamwUpReferenceIdeal.nD Cert.AdamwUpReferenceIdeal.τ).loc Cert.AdamwUpReferenceIdeal.main_arg3) = m' ((c.tc : Thread Cert.AdamwUpReferenceIdeal.nD Cert.AdamwUpReferenceIdeal.τ).loc Cert.AdamwUpReferenceIdeal.main_arg3)
          ∧ r.2.mem ((c.tc : Thread Cert.AdamwUpReferenceIdeal.nD Cert.AdamwUpReferenceIdeal.τ).loc Cert.AdamwUpReferenceIdeal.main_arg4) = m' ((c.tc : Thread Cert.AdamwUpReferenceIdeal.nD Cert.AdamwUpReferenceIdeal.τ).loc Cert.AdamwUpReferenceIdeal.main_arg4))

def preserves_AdamwQkv_AdamwQkvIdeal : Prop :=
  True

def algebraic_AdamwQkvIdeal_AdamwQkvReferenceIdeal [hAdamwQkvIdeal : Cert.AdamwQkvIdeal.Facts] [hAdamwQkvReferenceIdeal : Cert.AdamwQkvReferenceIdeal.Facts] : Prop :=
  ∀ (m : (ℓ : Loc Cert.AdamwQkvIdeal.nD Cert.AdamwQkvIdeal.τ Cert.AdamwQkvIdeal.sig) → Buf (Elt Ideal) ℓ) (g : Dev Cert.AdamwQkvIdeal.nD → PrngReg)
    (m' : (ℓ : Loc Cert.AdamwQkvReferenceIdeal.nD Cert.AdamwQkvReferenceIdeal.τ Cert.AdamwQkvReferenceIdeal.sig) → Buf (Elt Ideal) ℓ) (g' : Dev Cert.AdamwQkvReferenceIdeal.nD → PrngReg), Pre_AdamwQkvIdeal m →
    (∀ c : Dev Cert.AdamwQkvIdeal.nD,
      m' ((c.tc : Thread Cert.AdamwQkvReferenceIdeal.nD Cert.AdamwQkvReferenceIdeal.τ).loc Cert.AdamwQkvReferenceIdeal.main_arg0) = m ((c.tc : Thread Cert.AdamwQkvIdeal.nD Cert.AdamwQkvIdeal.τ).loc Cert.AdamwQkvIdeal.main_arg0)
      ∧ m' ((c.tc : Thread Cert.AdamwQkvReferenceIdeal.nD Cert.AdamwQkvReferenceIdeal.τ).loc Cert.AdamwQkvReferenceIdeal.main_arg1) = m ((c.tc : Thread Cert.AdamwQkvIdeal.nD Cert.AdamwQkvIdeal.τ).loc Cert.AdamwQkvIdeal.main_arg1)
      ∧ m' ((c.tc : Thread Cert.AdamwQkvReferenceIdeal.nD Cert.AdamwQkvReferenceIdeal.τ).loc Cert.AdamwQkvReferenceIdeal.main_arg2) = m ((c.tc : Thread Cert.AdamwQkvIdeal.nD Cert.AdamwQkvIdeal.τ).loc Cert.AdamwQkvIdeal.main_arg2)
      ∧ m' ((c.tc : Thread Cert.AdamwQkvReferenceIdeal.nD Cert.AdamwQkvReferenceIdeal.τ).loc Cert.AdamwQkvReferenceIdeal.main_arg3) = m ((c.tc : Thread Cert.AdamwQkvIdeal.nD Cert.AdamwQkvIdeal.τ).loc Cert.AdamwQkvIdeal.main_arg3)) →
    ∃ (v0 : (c : Dev Cert.AdamwQkvIdeal.nD) → Buf (Elt Ideal) ((c.tc : Thread Cert.AdamwQkvIdeal.nD Cert.AdamwQkvIdeal.τ).loc Cert.AdamwQkvIdeal.main_v0_0)) (v1 : (c : Dev Cert.AdamwQkvIdeal.nD) → Buf (Elt Ideal) ((c.tc : Thread Cert.AdamwQkvIdeal.nD Cert.AdamwQkvIdeal.τ).loc Cert.AdamwQkvIdeal.main_v0_1)) (v2 : (c : Dev Cert.AdamwQkvIdeal.nD) → Buf (Elt Ideal) ((c.tc : Thread Cert.AdamwQkvIdeal.nD Cert.AdamwQkvIdeal.τ).loc Cert.AdamwQkvIdeal.main_v0_2)) (v3 : (c : Dev Cert.AdamwQkvIdeal.nD) → Buf (Elt Ideal) ((c.tc : Thread Cert.AdamwQkvIdeal.nD Cert.AdamwQkvIdeal.τ).loc Cert.AdamwQkvIdeal.main_v0_3)),
      θ_run (Cert.AdamwQkvIdeal.defs (F := Ideal)) (onTc (τ := Cert.AdamwQkvIdeal.τ) (Cert.AdamwQkvIdeal.main (F := Ideal))) ⟨m, fun _ => 0, g⟩ (fun r => ∀ c : Dev Cert.AdamwQkvIdeal.nD,
          r.2.mem ((c.tc : Thread Cert.AdamwQkvIdeal.nD Cert.AdamwQkvIdeal.τ).loc Cert.AdamwQkvIdeal.main_v0_0) = v0 c
          ∧ r.2.mem ((c.tc : Thread Cert.AdamwQkvIdeal.nD Cert.AdamwQkvIdeal.τ).loc Cert.AdamwQkvIdeal.main_v0_1) = v1 c
          ∧ r.2.mem ((c.tc : Thread Cert.AdamwQkvIdeal.nD Cert.AdamwQkvIdeal.τ).loc Cert.AdamwQkvIdeal.main_v0_2) = v2 c
          ∧ r.2.mem ((c.tc : Thread Cert.AdamwQkvIdeal.nD Cert.AdamwQkvIdeal.τ).loc Cert.AdamwQkvIdeal.main_v0_3) = v3 c
          ∧ r.2.mem ((c.tc : Thread Cert.AdamwQkvIdeal.nD Cert.AdamwQkvIdeal.τ).loc Cert.AdamwQkvIdeal.main_arg0) = m ((c.tc : Thread Cert.AdamwQkvIdeal.nD Cert.AdamwQkvIdeal.τ).loc Cert.AdamwQkvIdeal.main_arg0)
          ∧ r.2.mem ((c.tc : Thread Cert.AdamwQkvIdeal.nD Cert.AdamwQkvIdeal.τ).loc Cert.AdamwQkvIdeal.main_arg1) = m ((c.tc : Thread Cert.AdamwQkvIdeal.nD Cert.AdamwQkvIdeal.τ).loc Cert.AdamwQkvIdeal.main_arg1)
          ∧ r.2.mem ((c.tc : Thread Cert.AdamwQkvIdeal.nD Cert.AdamwQkvIdeal.τ).loc Cert.AdamwQkvIdeal.main_arg2) = m ((c.tc : Thread Cert.AdamwQkvIdeal.nD Cert.AdamwQkvIdeal.τ).loc Cert.AdamwQkvIdeal.main_arg2)
          ∧ r.2.mem ((c.tc : Thread Cert.AdamwQkvIdeal.nD Cert.AdamwQkvIdeal.τ).loc Cert.AdamwQkvIdeal.main_arg3) = m ((c.tc : Thread Cert.AdamwQkvIdeal.nD Cert.AdamwQkvIdeal.τ).loc Cert.AdamwQkvIdeal.main_arg3))
      ∧ θ_run (Cert.AdamwQkvReferenceIdeal.defs (F := Ideal)) (onTc (τ := Cert.AdamwQkvReferenceIdeal.τ) (Cert.AdamwQkvReferenceIdeal.main (F := Ideal))) ⟨m', fun _ => 0, g'⟩ (fun r => ∀ c : Dev Cert.AdamwQkvReferenceIdeal.nD,
          r.2.mem ((c.tc : Thread Cert.AdamwQkvReferenceIdeal.nD Cert.AdamwQkvReferenceIdeal.τ).loc Cert.AdamwQkvReferenceIdeal.main_v3) = v0 c
          ∧ r.2.mem ((c.tc : Thread Cert.AdamwQkvReferenceIdeal.nD Cert.AdamwQkvReferenceIdeal.τ).loc Cert.AdamwQkvReferenceIdeal.main_v27) = v1 c
          ∧ r.2.mem ((c.tc : Thread Cert.AdamwQkvReferenceIdeal.nD Cert.AdamwQkvReferenceIdeal.τ).loc Cert.AdamwQkvReferenceIdeal.main_v8) = v2 c
          ∧ r.2.mem ((c.tc : Thread Cert.AdamwQkvReferenceIdeal.nD Cert.AdamwQkvReferenceIdeal.τ).loc Cert.AdamwQkvReferenceIdeal.main_v14) = v3 c
          ∧ r.2.mem ((c.tc : Thread Cert.AdamwQkvReferenceIdeal.nD Cert.AdamwQkvReferenceIdeal.τ).loc Cert.AdamwQkvReferenceIdeal.main_arg0) = m' ((c.tc : Thread Cert.AdamwQkvReferenceIdeal.nD Cert.AdamwQkvReferenceIdeal.τ).loc Cert.AdamwQkvReferenceIdeal.main_arg0)
          ∧ r.2.mem ((c.tc : Thread Cert.AdamwQkvReferenceIdeal.nD Cert.AdamwQkvReferenceIdeal.τ).loc Cert.AdamwQkvReferenceIdeal.main_arg1) = m' ((c.tc : Thread Cert.AdamwQkvReferenceIdeal.nD Cert.AdamwQkvReferenceIdeal.τ).loc Cert.AdamwQkvReferenceIdeal.main_arg1)
          ∧ r.2.mem ((c.tc : Thread Cert.AdamwQkvReferenceIdeal.nD Cert.AdamwQkvReferenceIdeal.τ).loc Cert.AdamwQkvReferenceIdeal.main_arg2) = m' ((c.tc : Thread Cert.AdamwQkvReferenceIdeal.nD Cert.AdamwQkvReferenceIdeal.τ).loc Cert.AdamwQkvReferenceIdeal.main_arg2)
          ∧ r.2.mem ((c.tc : Thread Cert.AdamwQkvReferenceIdeal.nD Cert.AdamwQkvReferenceIdeal.τ).loc Cert.AdamwQkvReferenceIdeal.main_arg3) = m' ((c.tc : Thread Cert.AdamwQkvReferenceIdeal.nD Cert.AdamwQkvReferenceIdeal.τ).loc Cert.AdamwQkvReferenceIdeal.main_arg3))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v3) = v0 c
          ∧ r.2.mem ((c.tc : Thread Cert.AdamwInReferenceIdeal.nD Cert.AdamwInReferenceIdeal.τ).loc Cert.AdamwInReferenceIdeal.main_v27) = v1 c
          ∧ r.2.mem ((c.tc : Thread Cert.AdamwInReferenceIdeal.nD Cert.AdamwInReferenceIdeal.τ).loc Cert.AdamwInReferenceIdeal.main_v8) = v2 c
          ∧ r.2.mem ((c.tc : Thread Cert.AdamwInReferenceIdeal.nD Cert.AdamwInReferenceIdeal.τ).loc Cert.AdamwInReferenceIdeal.main_v14) = v3 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v2) = v0 c
          ∧ r.2.mem ((c.tc : Thread Cert.AdamwOutReferenceIdeal.nD Cert.AdamwOutReferenceIdeal.τ).loc Cert.AdamwOutReferenceIdeal.main_v26) = v1 c
          ∧ r.2.mem ((c.tc : Thread Cert.AdamwOutReferenceIdeal.nD Cert.AdamwOutReferenceIdeal.τ).loc Cert.AdamwOutReferenceIdeal.main_v7) = v2 c
          ∧ r.2.mem ((c.tc : Thread Cert.AdamwOutReferenceIdeal.nD Cert.AdamwOutReferenceIdeal.τ).loc Cert.AdamwOutReferenceIdeal.main_v13) = v3 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)
      ∧ m' ((c.tc : Thread Cert.AdamwSmallReferenceIdeal.nD Cert.AdamwSmallReferenceIdeal.τ).loc Cert.AdamwSmallReferenceIdeal.main_arg4) = m ((c.tc : Thread Cert.AdamwSmallIdeal.nD Cert.AdamwSmallIdeal.τ).loc Cert.AdamwSmallIdeal.main_arg4)
      ∧ m' ((c.tc : Thread Cert.AdamwSmallReferenceIdeal.nD Cert.AdamwSmallReferenceIdeal.τ).loc Cert.AdamwSmallReferenceIdeal.main_arg5) = m ((c.tc : Thread Cert.AdamwSmallIdeal.nD Cert.AdamwSmallIdeal.τ).loc Cert.AdamwSmallIdeal.main_arg5)
      ∧ m' ((c.tc : Thread Cert.AdamwSmallReferenceIdeal.nD Cert.AdamwSmallReferenceIdeal.τ).loc Cert.AdamwSmallReferenceIdeal.main_arg6) = m ((c.tc : Thread Cert.AdamwSmallIdeal.nD Cert.AdamwSmallIdeal.τ).loc Cert.AdamwSmallIdeal.main_arg6)
      ∧ m' ((c.tc : Thread Cert.AdamwSmallReferenceIdeal.nD Cert.AdamwSmallReferenceIdeal.τ).loc Cert.AdamwSmallReferenceIdeal.main_arg7) = m ((c.tc : Thread Cert.AdamwSmallIdeal.nD Cert.AdamwSmallIdeal.τ).loc Cert.AdamwSmallIdeal.main_arg7)
      ∧ m' ((c.tc : Thread Cert.AdamwSmallReferenceIdeal.nD Cert.AdamwSmallReferenceIdeal.τ).loc Cert.AdamwSmallReferenceIdeal.main_arg8) = m ((c.tc : Thread Cert.AdamwSmallIdeal.nD Cert.AdamwSmallIdeal.τ).loc Cert.AdamwSmallIdeal.main_arg8)
      ∧ m' ((c.tc : Thread Cert.AdamwSmallReferenceIdeal.nD Cert.AdamwSmallReferenceIdeal.τ).loc Cert.AdamwSmallReferenceIdeal.main_arg9) = m ((c.tc : Thread Cert.AdamwSmallIdeal.nD Cert.AdamwSmallIdeal.τ).loc Cert.AdamwSmallIdeal.main_arg9)
      ∧ m' ((c.tc : Thread Cert.AdamwSmallReferenceIdeal.nD Cert.AdamwSmallReferenceIdeal.τ).loc Cert.AdamwSmallReferenceIdeal.main_arg10) = m ((c.tc : Thread Cert.AdamwSmallIdeal.nD Cert.AdamwSmallIdeal.τ).loc Cert.AdamwSmallIdeal.main_arg10)
      ∧ m' ((c.tc : Thread Cert.AdamwSmallReferenceIdeal.nD Cert.AdamwSmallReferenceIdeal.τ).loc Cert.AdamwSmallReferenceIdeal.main_arg11) = m ((c.tc : Thread Cert.AdamwSmallIdeal.nD Cert.AdamwSmallIdeal.τ).loc Cert.AdamwSmallIdeal.main_arg11)
      ∧ m' ((c.tc : Thread Cert.AdamwSmallReferenceIdeal.nD Cert.AdamwSmallReferenceIdeal.τ).loc Cert.AdamwSmallReferenceIdeal.main_arg12) = m ((c.tc : Thread Cert.AdamwSmallIdeal.nD Cert.AdamwSmallIdeal.τ).loc Cert.AdamwSmallIdeal.main_arg12)
      ∧ m' ((c.tc : Thread Cert.AdamwSmallReferenceIdeal.nD Cert.AdamwSmallReferenceIdeal.τ).loc Cert.AdamwSmallReferenceIdeal.main_arg13) = m ((c.tc : Thread Cert.AdamwSmallIdeal.nD Cert.AdamwSmallIdeal.τ).loc Cert.AdamwSmallIdeal.main_arg13)
      ∧ m' ((c.tc : Thread Cert.AdamwSmallReferenceIdeal.nD Cert.AdamwSmallReferenceIdeal.τ).loc Cert.AdamwSmallReferenceIdeal.main_arg14) = m ((c.tc : Thread Cert.AdamwSmallIdeal.nD Cert.AdamwSmallIdeal.τ).loc Cert.AdamwSmallIdeal.main_arg14)
      ∧ m' ((c.tc : Thread Cert.AdamwSmallReferenceIdeal.nD Cert.AdamwSmallReferenceIdeal.τ).loc Cert.AdamwSmallReferenceIdeal.main_arg15) = m ((c.tc : Thread Cert.AdamwSmallIdeal.nD Cert.AdamwSmallIdeal.τ).loc Cert.AdamwSmallIdeal.main_arg15)
      ∧ m' ((c.tc : Thread Cert.AdamwSmallReferenceIdeal.nD Cert.AdamwSmallReferenceIdeal.τ).loc Cert.AdamwSmallReferenceIdeal.main_arg16) = m ((c.tc : Thread Cert.AdamwSmallIdeal.nD Cert.AdamwSmallIdeal.τ).loc Cert.AdamwSmallIdeal.main_arg16)
      ∧ m' ((c.tc : Thread Cert.AdamwSmallReferenceIdeal.nD Cert.AdamwSmallReferenceIdeal.τ).loc Cert.AdamwSmallReferenceIdeal.main_arg17) = m ((c.tc : Thread Cert.AdamwSmallIdeal.nD Cert.AdamwSmallIdeal.τ).loc Cert.AdamwSmallIdeal.main_arg17)
      ∧ m' ((c.tc : Thread Cert.AdamwSmallReferenceIdeal.nD Cert.AdamwSmallReferenceIdeal.τ).loc Cert.AdamwSmallReferenceIdeal.main_arg18) = m ((c.tc : Thread Cert.AdamwSmallIdeal.nD Cert.AdamwSmallIdeal.τ).loc Cert.AdamwSmallIdeal.main_arg18)
      ∧ m' ((c.tc : Thread Cert.AdamwSmallReferenceIdeal.nD Cert.AdamwSmallReferenceIdeal.τ).loc Cert.AdamwSmallReferenceIdeal.main_arg19) = m ((c.tc : Thread Cert.AdamwSmallIdeal.nD Cert.AdamwSmallIdeal.τ).loc Cert.AdamwSmallIdeal.main_arg19)
      ∧ m' ((c.tc : Thread Cert.AdamwSmallReferenceIdeal.nD Cert.AdamwSmallReferenceIdeal.τ).loc Cert.AdamwSmallReferenceIdeal.main_arg20) = m ((c.tc : Thread Cert.AdamwSmallIdeal.nD Cert.AdamwSmallIdeal.τ).loc Cert.AdamwSmallIdeal.main_arg20)
      ∧ m' ((c.tc : Thread Cert.AdamwSmallReferenceIdeal.nD Cert.AdamwSmallReferenceIdeal.τ).loc Cert.AdamwSmallReferenceIdeal.main_arg21) = m ((c.tc : Thread Cert.AdamwSmallIdeal.nD Cert.AdamwSmallIdeal.τ).loc Cert.AdamwSmallIdeal.main_arg21)
      ∧ m' ((c.tc : Thread Cert.AdamwSmallReferenceIdeal.nD Cert.AdamwSmallReferenceIdeal.τ).loc Cert.AdamwSmallReferenceIdeal.main_arg22) = m ((c.tc : Thread Cert.AdamwSmallIdeal.nD Cert.AdamwSmallIdeal.τ).loc Cert.AdamwSmallIdeal.main_arg22)
      ∧ m' ((c.tc : Thread Cert.AdamwSmallReferenceIdeal.nD Cert.AdamwSmallReferenceIdeal.τ).loc Cert.AdamwSmallReferenceIdeal.main_arg23) = m ((c.tc : Thread Cert.AdamwSmallIdeal.nD Cert.AdamwSmallIdeal.τ).loc Cert.AdamwSmallIdeal.main_arg23)
      ∧ m' ((c.tc : Thread Cert.AdamwSmallReferenceIdeal.nD Cert.AdamwSmallReferenceIdeal.τ).loc Cert.AdamwSmallReferenceIdeal.main_arg24) = m ((c.tc : Thread Cert.AdamwSmallIdeal.nD Cert.AdamwSmallIdeal.τ).loc Cert.AdamwSmallIdeal.main_arg24)
      ∧ m' ((c.tc : Thread Cert.AdamwSmallReferenceIdeal.nD Cert.AdamwSmallReferenceIdeal.τ).loc Cert.AdamwSmallReferenceIdeal.main_arg25) = m ((c.tc : Thread Cert.AdamwSmallIdeal.nD Cert.AdamwSmallIdeal.τ).loc Cert.AdamwSmallIdeal.main_arg25)
      ∧ m' ((c.tc : Thread Cert.AdamwSmallReferenceIdeal.nD Cert.AdamwSmallReferenceIdeal.τ).loc Cert.AdamwSmallReferenceIdeal.main_arg26) = m ((c.tc : Thread Cert.AdamwSmallIdeal.nD Cert.AdamwSmallIdeal.τ).loc Cert.AdamwSmallIdeal.main_arg26)
      ∧ m' ((c.tc : Thread Cert.AdamwSmallReferenceIdeal.nD Cert.AdamwSmallReferenceIdeal.τ).loc Cert.AdamwSmallReferenceIdeal.main_arg27) = m ((c.tc : Thread Cert.AdamwSmallIdeal.nD Cert.AdamwSmallIdeal.τ).loc Cert.AdamwSmallIdeal.main_arg27)
      ∧ m' ((c.tc : Thread Cert.AdamwSmallReferenceIdeal.nD Cert.AdamwSmallReferenceIdeal.τ).loc Cert.AdamwSmallReferenceIdeal.main_arg28) = m ((c.tc : Thread Cert.AdamwSmallIdeal.nD Cert.AdamwSmallIdeal.τ).loc Cert.AdamwSmallIdeal.main_arg28)
      ∧ m' ((c.tc : Thread Cert.AdamwSmallReferenceIdeal.nD Cert.AdamwSmallReferenceIdeal.τ).loc Cert.AdamwSmallReferenceIdeal.main_arg29) = m ((c.tc : Thread Cert.AdamwSmallIdeal.nD Cert.AdamwSmallIdeal.τ).loc Cert.AdamwSmallIdeal.main_arg29)
      ∧ m' ((c.tc : Thread Cert.AdamwSmallReferenceIdeal.nD Cert.AdamwSmallReferenceIdeal.τ).loc Cert.AdamwSmallReferenceIdeal.main_arg30) = m ((c.tc : Thread Cert.AdamwSmallIdeal.nD Cert.AdamwSmallIdeal.τ).loc Cert.AdamwSmallIdeal.main_arg30)
      ∧ m' ((c.tc : Thread Cert.AdamwSmallReferenceIdeal.nD Cert.AdamwSmallReferenceIdeal.τ).loc Cert.AdamwSmallReferenceIdeal.main_arg31) = m ((c.tc : Thread Cert.AdamwSmallIdeal.nD Cert.AdamwSmallIdeal.τ).loc Cert.AdamwSmallIdeal.main_arg31)
      ∧ m' ((c.tc : Thread Cert.AdamwSmallReferenceIdeal.nD Cert.AdamwSmallReferenceIdeal.τ).loc Cert.AdamwSmallReferenceIdeal.main_arg32) = m ((c.tc : Thread Cert.AdamwSmallIdeal.nD Cert.AdamwSmallIdeal.τ).loc Cert.AdamwSmallIdeal.main_arg32)
      ∧ m' ((c.tc : Thread Cert.AdamwSmallReferenceIdeal.nD Cert.AdamwSmallReferenceIdeal.τ).loc Cert.AdamwSmallReferenceIdeal.main_arg33) = m ((c.tc : Thread Cert.AdamwSmallIdeal.nD Cert.AdamwSmallIdeal.τ).loc Cert.AdamwSmallIdeal.main_arg33)
      ∧ m' ((c.tc : Thread Cert.AdamwSmallReferenceIdeal.nD Cert.AdamwSmallReferenceIdeal.τ).loc Cert.AdamwSmallReferenceIdeal.main_arg34) = m ((c.tc : Thread Cert.AdamwSmallIdeal.nD Cert.AdamwSmallIdeal.τ).loc Cert.AdamwSmallIdeal.main_arg34)
      ∧ m' ((c.tc : Thread Cert.AdamwSmallReferenceIdeal.nD Cert.AdamwSmallReferenceIdeal.τ).loc Cert.AdamwSmallReferenceIdeal.main_arg35) = m ((c.tc : Thread Cert.AdamwSmallIdeal.nD Cert.AdamwSmallIdeal.τ).loc Cert.AdamwSmallIdeal.main_arg35)) →
    ∃ (v0 : (c : Dev Cert.AdamwSmallIdeal.nD) → Buf (Elt Ideal) ((c.tc : Thread Cert.AdamwSmallIdeal.nD Cert.AdamwSmallIdeal.τ).loc Cert.AdamwSmallIdeal.main_v115)) (v1 : (c : Dev Cert.AdamwSmallIdeal.nD) → Buf (Elt Ideal) ((c.tc : Thread Cert.AdamwSmallIdeal.nD Cert.AdamwSmallIdeal.τ).loc Cert.AdamwSmallIdeal.main_v119)) (v2 : (c : Dev Cert.AdamwSmallIdeal.nD) → Buf (Elt Ideal) ((c.tc : Thread Cert.AdamwSmallIdeal.nD Cert.AdamwSmallIdeal.τ).loc Cert.AdamwSmallIdeal.main_v123)) (v3 : (c : Dev Cert.AdamwSmallIdeal.nD) → Buf (Elt Ideal) ((c.tc : Thread Cert.AdamwSmallIdeal.nD Cert.AdamwSmallIdeal.τ).loc Cert.AdamwSmallIdeal.main_v126)) (v4 : (c : Dev Cert.AdamwSmallIdeal.nD) → Buf (Elt Ideal) ((c.tc : Thread Cert.AdamwSmallIdeal.nD Cert.AdamwSmallIdeal.τ).loc Cert.AdamwSmallIdeal.main_v129)) (v5 : (c : Dev Cert.AdamwSmallIdeal.nD) → Buf (Elt Ideal) ((c.tc : Thread Cert.AdamwSmallIdeal.nD Cert.AdamwSmallIdeal.τ).loc Cert.AdamwSmallIdeal.main_v132)) (v6 : (c : Dev Cert.AdamwSmallIdeal.nD) → Buf (Elt Ideal) ((c.tc : Thread Cert.AdamwSmallIdeal.nD Cert.AdamwSmallIdeal.τ).loc Cert.AdamwSmallIdeal.main_v135)) (v7 : (c : Dev Cert.AdamwSmallIdeal.nD) → Buf (Elt Ideal) ((c.tc : Thread Cert.AdamwSmallIdeal.nD Cert.AdamwSmallIdeal.τ).loc Cert.AdamwSmallIdeal.main_v138)) (v8 : (c : Dev Cert.AdamwSmallIdeal.nD) → Buf (Elt Ideal) ((c.tc : Thread Cert.AdamwSmallIdeal.nD Cert.AdamwSmallIdeal.τ).loc Cert.AdamwSmallIdeal.main_v141)) (v9 : (c : Dev Cert.AdamwSmallIdeal.nD) → Buf (Elt Ideal) ((c.tc : Thread Cert.AdamwSmallIdeal.nD Cert.AdamwSmallIdeal.τ).loc Cert.AdamwSmallIdeal.main_v144)) (v10 : (c : Dev Cert.AdamwSmallIdeal.nD) → Buf (Elt Ideal) ((c.tc : Thread Cert.AdamwSmallIdeal.nD Cert.AdamwSmallIdeal.τ).loc Cert.AdamwSmallIdeal.main_v148)) (v11 : (c : Dev Cert.AdamwSmallIdeal.nD) → Buf (Elt Ideal) ((c.tc : Thread Cert.AdamwSmallIdeal.nD Cert.AdamwSmallIdeal.τ).loc Cert.AdamwSmallIdeal.main_v152)) (v12 : (c : Dev Cert.AdamwSmallIdeal.nD) → Buf (Elt Ideal) ((c.tc : Thread Cert.AdamwSmallIdeal.nD Cert.AdamwSmallIdeal.τ).loc Cert.AdamwSmallIdeal.main_v155)) (v13 : (c : Dev Cert.AdamwSmallIdeal.nD) → Buf (Elt Ideal) ((c.tc : Thread Cert.AdamwSmallIdeal.nD Cert.AdamwSmallIdeal.τ).loc Cert.AdamwSmallIdeal.main_v158)) (v14 : (c : Dev Cert.AdamwSmallIdeal.nD) → Buf (Elt Ideal) ((c.tc : Thread Cert.AdamwSmallIdeal.nD Cert.AdamwSmallIdeal.τ).loc Cert.AdamwSmallIdeal.main_v161)) (v15 : (c : Dev Cert.AdamwSmallIdeal.nD) → Buf (Elt Ideal) ((c.tc : Thread Cert.AdamwSmallIdeal.nD Cert.AdamwSmallIdeal.τ).loc Cert.AdamwSmallIdeal.main_v164)) (v16 : (c : Dev Cert.AdamwSmallIdeal.nD) → Buf (Elt Ideal) ((c.tc : Thread Cert.AdamwSmallIdeal.nD Cert.AdamwSmallIdeal.τ).loc Cert.AdamwSmallIdeal.main_v167)) (v17 : (c : Dev Cert.AdamwSmallIdeal.nD) → Buf (Elt Ideal) ((c.tc : Thread Cert.AdamwSmallIdeal.nD Cert.AdamwSmallIdeal.τ).loc Cert.AdamwSmallIdeal.main_v170)) (v18 : (c : Dev Cert.AdamwSmallIdeal.nD) → Buf (Elt Ideal) ((c.tc : Thread Cert.AdamwSmallIdeal.nD Cert.AdamwSmallIdeal.τ).loc Cert.AdamwSmallIdeal.main_v173)) (v19 : (c : Dev Cert.AdamwSmallIdeal.nD) → Buf (Elt Ideal) ((c.tc : Thread Cert.AdamwSmallIdeal.nD Cert.AdamwSmallIdeal.τ).loc Cert.AdamwSmallIdeal.main_v177)) (v20 : (c : Dev Cert.AdamwSmallIdeal.nD) → Buf (Elt Ideal) ((c.tc : Thread Cert.AdamwSmallIdeal.nD Cert.AdamwSmallIdeal.τ).loc Cert.AdamwSmallIdeal.main_v181)) (v21 : (c : Dev Cert.AdamwSmallIdeal.nD) → Buf (Elt Ideal) ((c.tc : Thread Cert.AdamwSmallIdeal.nD Cert.AdamwSmallIdeal.τ).loc Cert.AdamwSmallIdeal.main_v184)) (v22 : (c : Dev Cert.AdamwSmallIdeal.nD) → Buf (Elt Ideal) ((c.tc : Thread Cert.AdamwSmallIdeal.nD Cert.AdamwSmallIdeal.τ).loc Cert.AdamwSmallIdeal.main_v187)) (v23 : (c : Dev Cert.AdamwSmallIdeal.nD) → Buf (Elt Ideal) ((c.tc : Thread Cert.AdamwSmallIdeal.nD Cert.AdamwSmallIdeal.τ).loc Cert.AdamwSmallIdeal.main_v190)) (v24 : (c : Dev Cert.AdamwSmallIdeal.nD) → Buf (Elt Ideal) ((c.tc : Thread Cert.AdamwSmallIdeal.nD Cert.AdamwSmallIdeal.τ).loc Cert.AdamwSmallIdeal.main_v193)) (v25 : (c : Dev Cert.AdamwSmallIdeal.nD) → Buf (Elt Ideal) ((c.tc : Thread Cert.AdamwSmallIdeal.nD Cert.AdamwSmallIdeal.τ).loc Cert.AdamwSmallIdeal.main_v196)) (v26 : (c : Dev Cert.AdamwSmallIdeal.nD) → Buf (Elt Ideal) ((c.tc : Thread Cert.AdamwSmallIdeal.nD Cert.AdamwSmallIdeal.τ).loc Cert.AdamwSmallIdeal.main_v199)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v115) = v0 c
          ∧ r.2.mem ((c.tc : Thread Cert.AdamwSmallIdeal.nD Cert.AdamwSmallIdeal.τ).loc Cert.AdamwSmallIdeal.main_v119) = v1 c
          ∧ r.2.mem ((c.tc : Thread Cert.AdamwSmallIdeal.nD Cert.AdamwSmallIdeal.τ).loc Cert.AdamwSmallIdeal.main_v123) = v2 c
          ∧ r.2.mem ((c.tc : Thread Cert.AdamwSmallIdeal.nD Cert.AdamwSmallIdeal.τ).loc Cert.AdamwSmallIdeal.main_v126) = v3 c
          ∧ r.2.mem ((c.tc : Thread Cert.AdamwSmallIdeal.nD Cert.AdamwSmallIdeal.τ).loc Cert.AdamwSmallIdeal.main_v129) = v4 c
          ∧ r.2.mem ((c.tc : Thread Cert.AdamwSmallIdeal.nD Cert.AdamwSmallIdeal.τ).loc Cert.AdamwSmallIdeal.main_v132) = v5 c
          ∧ r.2.mem ((c.tc : Thread Cert.AdamwSmallIdeal.nD Cert.AdamwSmallIdeal.τ).loc Cert.AdamwSmallIdeal.main_v135) = v6 c
          ∧ r.2.mem ((c.tc : Thread Cert.AdamwSmallIdeal.nD Cert.AdamwSmallIdeal.τ).loc Cert.AdamwSmallIdeal.main_v138) = v7 c
          ∧ r.2.mem ((c.tc : Thread Cert.AdamwSmallIdeal.nD Cert.AdamwSmallIdeal.τ).loc Cert.AdamwSmallIdeal.main_v141) = v8 c
          ∧ r.2.mem ((c.tc : Thread Cert.AdamwSmallIdeal.nD Cert.AdamwSmallIdeal.τ).loc Cert.AdamwSmallIdeal.main_v144) = v9 c
          ∧ r.2.mem ((c.tc : Thread Cert.AdamwSmallIdeal.nD Cert.AdamwSmallIdeal.τ).loc Cert.AdamwSmallIdeal.main_v148) = v10 c
          ∧ r.2.mem ((c.tc : Thread Cert.AdamwSmallIdeal.nD Cert.AdamwSmallIdeal.τ).loc Cert.AdamwSmallIdeal.main_v152) = v11 c
          ∧ r.2.mem ((c.tc : Thread Cert.AdamwSmallIdeal.nD Cert.AdamwSmallIdeal.τ).loc Cert.AdamwSmallIdeal.main_v155) = v12 c
          ∧ r.2.mem ((c.tc : Thread Cert.AdamwSmallIdeal.nD Cert.AdamwSmallIdeal.τ).loc Cert.AdamwSmallIdeal.main_v158) = v13 c
          ∧ r.2.mem ((c.tc : Thread Cert.AdamwSmallIdeal.nD Cert.AdamwSmallIdeal.τ).loc Cert.AdamwSmallIdeal.main_v161) = v14 c
          ∧ r.2.mem ((c.tc : Thread Cert.AdamwSmallIdeal.nD Cert.AdamwSmallIdeal.τ).loc Cert.AdamwSmallIdeal.main_v164) = v15 c
          ∧ r.2.mem ((c.tc : Thread Cert.AdamwSmallIdeal.nD Cert.AdamwSmallIdeal.τ).loc Cert.AdamwSmallIdeal.main_v167) = v16 c
          ∧ r.2.mem ((c.tc : Thread Cert.AdamwSmallIdeal.nD Cert.AdamwSmallIdeal.τ).loc Cert.AdamwSmallIdeal.main_v170) = v17 c
          ∧ r.2.mem ((c.tc : Thread Cert.AdamwSmallIdeal.nD Cert.AdamwSmallIdeal.τ).loc Cert.AdamwSmallIdeal.main_v173) = v18 c
          ∧ r.2.mem ((c.tc : Thread Cert.AdamwSmallIdeal.nD Cert.AdamwSmallIdeal.τ).loc Cert.AdamwSmallIdeal.main_v177) = v19 c
          ∧ r.2.mem ((c.tc : Thread Cert.AdamwSmallIdeal.nD Cert.AdamwSmallIdeal.τ).loc Cert.AdamwSmallIdeal.main_v181) = v20 c
          ∧ r.2.mem ((c.tc : Thread Cert.AdamwSmallIdeal.nD Cert.AdamwSmallIdeal.τ).loc Cert.AdamwSmallIdeal.main_v184) = v21 c
          ∧ r.2.mem ((c.tc : Thread Cert.AdamwSmallIdeal.nD Cert.AdamwSmallIdeal.τ).loc Cert.AdamwSmallIdeal.main_v187) = v22 c
          ∧ r.2.mem ((c.tc : Thread Cert.AdamwSmallIdeal.nD Cert.AdamwSmallIdeal.τ).loc Cert.AdamwSmallIdeal.main_v190) = v23 c
          ∧ r.2.mem ((c.tc : Thread Cert.AdamwSmallIdeal.nD Cert.AdamwSmallIdeal.τ).loc Cert.AdamwSmallIdeal.main_v193) = v24 c
          ∧ r.2.mem ((c.tc : Thread Cert.AdamwSmallIdeal.nD Cert.AdamwSmallIdeal.τ).loc Cert.AdamwSmallIdeal.main_v196) = v25 c
          ∧ r.2.mem ((c.tc : Thread Cert.AdamwSmallIdeal.nD Cert.AdamwSmallIdeal.τ).loc Cert.AdamwSmallIdeal.main_v199) = v26 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3)
          ∧ r.2.mem ((c.tc : Thread Cert.AdamwSmallIdeal.nD Cert.AdamwSmallIdeal.τ).loc Cert.AdamwSmallIdeal.main_arg4) = m ((c.tc : Thread Cert.AdamwSmallIdeal.nD Cert.AdamwSmallIdeal.τ).loc Cert.AdamwSmallIdeal.main_arg4)
          ∧ r.2.mem ((c.tc : Thread Cert.AdamwSmallIdeal.nD Cert.AdamwSmallIdeal.τ).loc Cert.AdamwSmallIdeal.main_arg5) = m ((c.tc : Thread Cert.AdamwSmallIdeal.nD Cert.AdamwSmallIdeal.τ).loc Cert.AdamwSmallIdeal.main_arg5)
          ∧ r.2.mem ((c.tc : Thread Cert.AdamwSmallIdeal.nD Cert.AdamwSmallIdeal.τ).loc Cert.AdamwSmallIdeal.main_arg6) = m ((c.tc : Thread Cert.AdamwSmallIdeal.nD Cert.AdamwSmallIdeal.τ).loc Cert.AdamwSmallIdeal.main_arg6)
          ∧ r.2.mem ((c.tc : Thread Cert.AdamwSmallIdeal.nD Cert.AdamwSmallIdeal.τ).loc Cert.AdamwSmallIdeal.main_arg7) = m ((c.tc : Thread Cert.AdamwSmallIdeal.nD Cert.AdamwSmallIdeal.τ).loc Cert.AdamwSmallIdeal.main_arg7)
          ∧ r.2.mem ((c.tc : Thread Cert.AdamwSmallIdeal.nD Cert.AdamwSmallIdeal.τ).loc Cert.AdamwSmallIdeal.main_arg8) = m ((c.tc : Thread Cert.AdamwSmallIdeal.nD Cert.AdamwSmallIdeal.τ).loc Cert.AdamwSmallIdeal.main_arg8)
          ∧ r.2.mem ((c.tc : Thread Cert.AdamwSmallIdeal.nD Cert.AdamwSmallIdeal.τ).loc Cert.AdamwSmallIdeal.main_arg9) = m ((c.tc : Thread Cert.AdamwSmallIdeal.nD Cert.AdamwSmallIdeal.τ).loc Cert.AdamwSmallIdeal.main_arg9)
          ∧ r.2.mem ((c.tc : Thread Cert.AdamwSmallIdeal.nD Cert.AdamwSmallIdeal.τ).loc Cert.AdamwSmallIdeal.main_arg10) = m ((c.tc : Thread Cert.AdamwSmallIdeal.nD Cert.AdamwSmallIdeal.τ).loc Cert.AdamwSmallIdeal.main_arg10)
          ∧ r.2.mem ((c.tc : Thread Cert.AdamwSmallIdeal.nD Cert.AdamwSmallIdeal.τ).loc Cert.AdamwSmallIdeal.main_arg11) = m ((c.tc : Thread Cert.AdamwSmallIdeal.nD Cert.AdamwSmallIdeal.τ).loc Cert.AdamwSmallIdeal.main_arg11)
          ∧ r.2.mem ((c.tc : Thread Cert.AdamwSmallIdeal.nD Cert.AdamwSmallIdeal.τ).loc Cert.AdamwSmallIdeal.main_arg12) = m ((c.tc : Thread Cert.AdamwSmallIdeal.nD Cert.AdamwSmallIdeal.τ).loc Cert.AdamwSmallIdeal.main_arg12)
          ∧ r.2.mem ((c.tc : Thread Cert.AdamwSmallIdeal.nD Cert.AdamwSmallIdeal.τ).loc Cert.AdamwSmallIdeal.main_arg13) = m ((c.tc : Thread Cert.AdamwSmallIdeal.nD Cert.AdamwSmallIdeal.τ).loc Cert.AdamwSmallIdeal.main_arg13)
          ∧ r.2.mem ((c.tc : Thread Cert.AdamwSmallIdeal.nD Cert.AdamwSmallIdeal.τ).loc Cert.AdamwSmallIdeal.main_arg14) = m ((c.tc : Thread Cert.AdamwSmallIdeal.nD Cert.AdamwSmallIdeal.τ).loc Cert.AdamwSmallIdeal.main_arg14)
          ∧ r.2.mem ((c.tc : Thread Cert.AdamwSmallIdeal.nD Cert.AdamwSmallIdeal.τ).loc Cert.AdamwSmallIdeal.main_arg15) = m ((c.tc : Thread Cert.AdamwSmallIdeal.nD Cert.AdamwSmallIdeal.τ).loc Cert.AdamwSmallIdeal.main_arg15)
          ∧ r.2.mem ((c.tc : Thread Cert.AdamwSmallIdeal.nD Cert.AdamwSmallIdeal.τ).loc Cert.AdamwSmallIdeal.main_arg16) = m ((c.tc : Thread Cert.AdamwSmallIdeal.nD Cert.AdamwSmallIdeal.τ).loc Cert.AdamwSmallIdeal.main_arg16)
          ∧ r.2.mem ((c.tc : Thread Cert.AdamwSmallIdeal.nD Cert.AdamwSmallIdeal.τ).loc Cert.AdamwSmallIdeal.main_arg17) = m ((c.tc : Thread Cert.AdamwSmallIdeal.nD Cert.AdamwSmallIdeal.τ).loc Cert.AdamwSmallIdeal.main_arg17)
          ∧ r.2.mem ((c.tc : Thread Cert.AdamwSmallIdeal.nD Cert.AdamwSmallIdeal.τ).loc Cert.AdamwSmallIdeal.main_arg18) = m ((c.tc : Thread Cert.AdamwSmallIdeal.nD Cert.AdamwSmallIdeal.τ).loc Cert.AdamwSmallIdeal.main_arg18)
          ∧ r.2.mem ((c.tc : Thread Cert.AdamwSmallIdeal.nD Cert.AdamwSmallIdeal.τ).loc Cert.AdamwSmallIdeal.main_arg19) = m ((c.tc : Thread Cert.AdamwSmallIdeal.nD Cert.AdamwSmallIdeal.τ).loc Cert.AdamwSmallIdeal.main_arg19)
          ∧ r.2.mem ((c.tc : Thread Cert.AdamwSmallIdeal.nD Cert.AdamwSmallIdeal.τ).loc Cert.AdamwSmallIdeal.main_arg20) = m ((c.tc : Thread Cert.AdamwSmallIdeal.nD Cert.AdamwSmallIdeal.τ).loc Cert.AdamwSmallIdeal.main_arg20)
          ∧ r.2.mem ((c.tc : Thread Cert.AdamwSmallIdeal.nD Cert.AdamwSmallIdeal.τ).loc Cert.AdamwSmallIdeal.main_arg21) = m ((c.tc : Thread Cert.AdamwSmallIdeal.nD Cert.AdamwSmallIdeal.τ).loc Cert.AdamwSmallIdeal.main_arg21)
          ∧ r.2.mem ((c.tc : Thread Cert.AdamwSmallIdeal.nD Cert.AdamwSmallIdeal.τ).loc Cert.AdamwSmallIdeal.main_arg22) = m ((c.tc : Thread Cert.AdamwSmallIdeal.nD Cert.AdamwSmallIdeal.τ).loc Cert.AdamwSmallIdeal.main_arg22)
          ∧ r.2.mem ((c.tc : Thread Cert.AdamwSmallIdeal.nD Cert.AdamwSmallIdeal.τ).loc Cert.AdamwSmallIdeal.main_arg23) = m ((c.tc : Thread Cert.AdamwSmallIdeal.nD Cert.AdamwSmallIdeal.τ).loc Cert.AdamwSmallIdeal.main_arg23)
          ∧ r.2.mem ((c.tc : Thread Cert.AdamwSmallIdeal.nD Cert.AdamwSmallIdeal.τ).loc Cert.AdamwSmallIdeal.main_arg24) = m ((c.tc : Thread Cert.AdamwSmallIdeal.nD Cert.AdamwSmallIdeal.τ).loc Cert.AdamwSmallIdeal.main_arg24)
          ∧ r.2.mem ((c.tc : Thread Cert.AdamwSmallIdeal.nD Cert.AdamwSmallIdeal.τ).loc Cert.AdamwSmallIdeal.main_arg25) = m ((c.tc : Thread Cert.AdamwSmallIdeal.nD Cert.AdamwSmallIdeal.τ).loc Cert.AdamwSmallIdeal.main_arg25)
          ∧ r.2.mem ((c.tc : Thread Cert.AdamwSmallIdeal.nD Cert.AdamwSmallIdeal.τ).loc Cert.AdamwSmallIdeal.main_arg26) = m ((c.tc : Thread Cert.AdamwSmallIdeal.nD Cert.AdamwSmallIdeal.τ).loc Cert.AdamwSmallIdeal.main_arg26)
          ∧ r.2.mem ((c.tc : Thread Cert.AdamwSmallIdeal.nD Cert.AdamwSmallIdeal.τ).loc Cert.AdamwSmallIdeal.main_arg27) = m ((c.tc : Thread Cert.AdamwSmallIdeal.nD Cert.AdamwSmallIdeal.τ).loc Cert.AdamwSmallIdeal.main_arg27)
          ∧ r.2.mem ((c.tc : Thread Cert.AdamwSmallIdeal.nD Cert.AdamwSmallIdeal.τ).loc Cert.AdamwSmallIdeal.main_arg28) = m ((c.tc : Thread Cert.AdamwSmallIdeal.nD Cert.AdamwSmallIdeal.τ).loc Cert.AdamwSmallIdeal.main_arg28)
          ∧ r.2.mem ((c.tc : Thread Cert.AdamwSmallIdeal.nD Cert.AdamwSmallIdeal.τ).loc Cert.AdamwSmallIdeal.main_arg29) = m ((c.tc : Thread Cert.AdamwSmallIdeal.nD Cert.AdamwSmallIdeal.τ).loc Cert.AdamwSmallIdeal.main_arg29)
          ∧ r.2.mem ((c.tc : Thread Cert.AdamwSmallIdeal.nD Cert.AdamwSmallIdeal.τ).loc Cert.AdamwSmallIdeal.main_arg30) = m ((c.tc : Thread Cert.AdamwSmallIdeal.nD Cert.AdamwSmallIdeal.τ).loc Cert.AdamwSmallIdeal.main_arg30)
          ∧ r.2.mem ((c.tc : Thread Cert.AdamwSmallIdeal.nD Cert.AdamwSmallIdeal.τ).loc Cert.AdamwSmallIdeal.main_arg31) = m ((c.tc : Thread Cert.AdamwSmallIdeal.nD Cert.AdamwSmallIdeal.τ).loc Cert.AdamwSmallIdeal.main_arg31)
          ∧ r.2.mem ((c.tc : Thread Cert.AdamwSmallIdeal.nD Cert.AdamwSmallIdeal.τ).loc Cert.AdamwSmallIdeal.main_arg32) = m ((c.tc : Thread Cert.AdamwSmallIdeal.nD Cert.AdamwSmallIdeal.τ).loc Cert.AdamwSmallIdeal.main_arg32)
          ∧ r.2.mem ((c.tc : Thread Cert.AdamwSmallIdeal.nD Cert.AdamwSmallIdeal.τ).loc Cert.AdamwSmallIdeal.main_arg33) = m ((c.tc : Thread Cert.AdamwSmallIdeal.nD Cert.AdamwSmallIdeal.τ).loc Cert.AdamwSmallIdeal.main_arg33)
          ∧ r.2.mem ((c.tc : Thread Cert.AdamwSmallIdeal.nD Cert.AdamwSmallIdeal.τ).loc Cert.AdamwSmallIdeal.main_arg34) = m ((c.tc : Thread Cert.AdamwSmallIdeal.nD Cert.AdamwSmallIdeal.τ).loc Cert.AdamwSmallIdeal.main_arg34)
          ∧ r.2.mem ((c.tc : Thread Cert.AdamwSmallIdeal.nD Cert.AdamwSmallIdeal.τ).loc Cert.AdamwSmallIdeal.main_arg35) = m ((c.tc : Thread Cert.AdamwSmallIdeal.nD Cert.AdamwSmallIdeal.τ).loc Cert.AdamwSmallIdeal.main_arg35))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v23) = v0 c
          ∧ r.2.mem ((c.tc : Thread Cert.AdamwSmallReferenceIdeal.nD Cert.AdamwSmallReferenceIdeal.τ).loc Cert.AdamwSmallReferenceIdeal.main_v47) = v1 c
          ∧ r.2.mem ((c.tc : Thread Cert.AdamwSmallReferenceIdeal.nD Cert.AdamwSmallReferenceIdeal.τ).loc Cert.AdamwSmallReferenceIdeal.main_v71) = v2 c
          ∧ r.2.mem ((c.tc : Thread Cert.AdamwSmallReferenceIdeal.nD Cert.AdamwSmallReferenceIdeal.τ).loc Cert.AdamwSmallReferenceIdeal.main_v95) = v3 c
          ∧ r.2.mem ((c.tc : Thread Cert.AdamwSmallReferenceIdeal.nD Cert.AdamwSmallReferenceIdeal.τ).loc Cert.AdamwSmallReferenceIdeal.main_v119) = v4 c
          ∧ r.2.mem ((c.tc : Thread Cert.AdamwSmallReferenceIdeal.nD Cert.AdamwSmallReferenceIdeal.τ).loc Cert.AdamwSmallReferenceIdeal.main_v143) = v5 c
          ∧ r.2.mem ((c.tc : Thread Cert.AdamwSmallReferenceIdeal.nD Cert.AdamwSmallReferenceIdeal.τ).loc Cert.AdamwSmallReferenceIdeal.main_v167) = v6 c
          ∧ r.2.mem ((c.tc : Thread Cert.AdamwSmallReferenceIdeal.nD Cert.AdamwSmallReferenceIdeal.τ).loc Cert.AdamwSmallReferenceIdeal.main_v191) = v7 c
          ∧ r.2.mem ((c.tc : Thread Cert.AdamwSmallReferenceIdeal.nD Cert.AdamwSmallReferenceIdeal.τ).loc Cert.AdamwSmallReferenceIdeal.main_v215) = v8 c
          ∧ r.2.mem ((c.tc : Thread Cert.AdamwSmallReferenceIdeal.nD Cert.AdamwSmallReferenceIdeal.τ).loc Cert.AdamwSmallReferenceIdeal.main_v4) = v9 c
          ∧ r.2.mem ((c.tc : Thread Cert.AdamwSmallReferenceIdeal.nD Cert.AdamwSmallReferenceIdeal.τ).loc Cert.AdamwSmallReferenceIdeal.main_v28) = v10 c
          ∧ r.2.mem ((c.tc : Thread Cert.AdamwSmallReferenceIdeal.nD Cert.AdamwSmallReferenceIdeal.τ).loc Cert.AdamwSmallReferenceIdeal.main_v52) = v11 c
          ∧ r.2.mem ((c.tc : Thread Cert.AdamwSmallReferenceIdeal.nD Cert.AdamwSmallReferenceIdeal.τ).loc Cert.AdamwSmallReferenceIdeal.main_v76) = v12 c
          ∧ r.2.mem ((c.tc : Thread Cert.AdamwSmallReferenceIdeal.nD Cert.AdamwSmallReferenceIdeal.τ).loc Cert.AdamwSmallReferenceIdeal.main_v100) = v13 c
          ∧ r.2.mem ((c.tc : Thread Cert.AdamwSmallReferenceIdeal.nD Cert.AdamwSmallReferenceIdeal.τ).loc Cert.AdamwSmallReferenceIdeal.main_v124) = v14 c
          ∧ r.2.mem ((c.tc : Thread Cert.AdamwSmallReferenceIdeal.nD Cert.AdamwSmallReferenceIdeal.τ).loc Cert.AdamwSmallReferenceIdeal.main_v148) = v15 c
          ∧ r.2.mem ((c.tc : Thread Cert.AdamwSmallReferenceIdeal.nD Cert.AdamwSmallReferenceIdeal.τ).loc Cert.AdamwSmallReferenceIdeal.main_v172) = v16 c
          ∧ r.2.mem ((c.tc : Thread Cert.AdamwSmallReferenceIdeal.nD Cert.AdamwSmallReferenceIdeal.τ).loc Cert.AdamwSmallReferenceIdeal.main_v196) = v17 c
          ∧ r.2.mem ((c.tc : Thread Cert.AdamwSmallReferenceIdeal.nD Cert.AdamwSmallReferenceIdeal.τ).loc Cert.AdamwSmallReferenceIdeal.main_v10) = v18 c
          ∧ r.2.mem ((c.tc : Thread Cert.AdamwSmallReferenceIdeal.nD Cert.AdamwSmallReferenceIdeal.τ).loc Cert.AdamwSmallReferenceIdeal.main_v34) = v19 c
          ∧ r.2.mem ((c.tc : Thread Cert.AdamwSmallReferenceIdeal.nD Cert.AdamwSmallReferenceIdeal.τ).loc Cert.AdamwSmallReferenceIdeal.main_v58) = v20 c
          ∧ r.2.mem ((c.tc : Thread Cert.AdamwSmallReferenceIdeal.nD Cert.AdamwSmallReferenceIdeal.τ).loc Cert.AdamwSmallReferenceIdeal.main_v82) = v21 c
          ∧ r.2.mem ((c.tc : Thread Cert.AdamwSmallReferenceIdeal.nD Cert.AdamwSmallReferenceIdeal.τ).loc Cert.AdamwSmallReferenceIdeal.main_v106) = v22 c
          ∧ r.2.mem ((c.tc : Thread Cert.AdamwSmallReferenceIdeal.nD Cert.AdamwSmallReferenceIdeal.τ).loc Cert.AdamwSmallReferenceIdeal.main_v130) = v23 c
          ∧ r.2.mem ((c.tc : Thread Cert.AdamwSmallReferenceIdeal.nD Cert.AdamwSmallReferenceIdeal.τ).loc Cert.AdamwSmallReferenceIdeal.main_v154) = v24 c
          ∧ r.2.mem ((c.tc : Thread Cert.AdamwSmallReferenceIdeal.nD Cert.AdamwSmallReferenceIdeal.τ).loc Cert.AdamwSmallReferenceIdeal.main_v178) = v25 c
          ∧ r.2.mem ((c.tc : Thread Cert.AdamwSmallReferenceIdeal.nD Cert.AdamwSmallReferenceIdeal.τ).loc Cert.AdamwSmallReferenceIdeal.main_v202) = v26 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3)
          ∧ r.2.mem ((c.tc : Thread Cert.AdamwSmallReferenceIdeal.nD Cert.AdamwSmallReferenceIdeal.τ).loc Cert.AdamwSmallReferenceIdeal.main_arg4) = m' ((c.tc : Thread Cert.AdamwSmallReferenceIdeal.nD Cert.AdamwSmallReferenceIdeal.τ).loc Cert.AdamwSmallReferenceIdeal.main_arg4)
          ∧ r.2.mem ((c.tc : Thread Cert.AdamwSmallReferenceIdeal.nD Cert.AdamwSmallReferenceIdeal.τ).loc Cert.AdamwSmallReferenceIdeal.main_arg5) = m' ((c.tc : Thread Cert.AdamwSmallReferenceIdeal.nD Cert.AdamwSmallReferenceIdeal.τ).loc Cert.AdamwSmallReferenceIdeal.main_arg5)
          ∧ r.2.mem ((c.tc : Thread Cert.AdamwSmallReferenceIdeal.nD Cert.AdamwSmallReferenceIdeal.τ).loc Cert.AdamwSmallReferenceIdeal.main_arg6) = m' ((c.tc : Thread Cert.AdamwSmallReferenceIdeal.nD Cert.AdamwSmallReferenceIdeal.τ).loc Cert.AdamwSmallReferenceIdeal.main_arg6)
          ∧ r.2.mem ((c.tc : Thread Cert.AdamwSmallReferenceIdeal.nD Cert.AdamwSmallReferenceIdeal.τ).loc Cert.AdamwSmallReferenceIdeal.main_arg7) = m' ((c.tc : Thread Cert.AdamwSmallReferenceIdeal.nD Cert.AdamwSmallReferenceIdeal.τ).loc Cert.AdamwSmallReferenceIdeal.main_arg7)
          ∧ r.2.mem ((c.tc : Thread Cert.AdamwSmallReferenceIdeal.nD Cert.AdamwSmallReferenceIdeal.τ).loc Cert.AdamwSmallReferenceIdeal.main_arg8) = m' ((c.tc : Thread Cert.AdamwSmallReferenceIdeal.nD Cert.AdamwSmallReferenceIdeal.τ).loc Cert.AdamwSmallReferenceIdeal.main_arg8)
          ∧ r.2.mem ((c.tc : Thread Cert.AdamwSmallReferenceIdeal.nD Cert.AdamwSmallReferenceIdeal.τ).loc Cert.AdamwSmallReferenceIdeal.main_arg9) = m' ((c.tc : Thread Cert.AdamwSmallReferenceIdeal.nD Cert.AdamwSmallReferenceIdeal.τ).loc Cert.AdamwSmallReferenceIdeal.main_arg9)
          ∧ r.2.mem ((c.tc : Thread Cert.AdamwSmallReferenceIdeal.nD Cert.AdamwSmallReferenceIdeal.τ).loc Cert.AdamwSmallReferenceIdeal.main_arg10) = m' ((c.tc : Thread Cert.AdamwSmallReferenceIdeal.nD Cert.AdamwSmallReferenceIdeal.τ).loc Cert.AdamwSmallReferenceIdeal.main_arg10)
          ∧ r.2.mem ((c.tc : Thread Cert.AdamwSmallReferenceIdeal.nD Cert.AdamwSmallReferenceIdeal.τ).loc Cert.AdamwSmallReferenceIdeal.main_arg11) = m' ((c.tc : Thread Cert.AdamwSmallReferenceIdeal.nD Cert.AdamwSmallReferenceIdeal.τ).loc Cert.AdamwSmallReferenceIdeal.main_arg11)
          ∧ r.2.mem ((c.tc : Thread Cert.AdamwSmallReferenceIdeal.nD Cert.AdamwSmallReferenceIdeal.τ).loc Cert.AdamwSmallReferenceIdeal.main_arg12) = m' ((c.tc : Thread Cert.AdamwSmallReferenceIdeal.nD Cert.AdamwSmallReferenceIdeal.τ).loc Cert.AdamwSmallReferenceIdeal.main_arg12)
          ∧ r.2.mem ((c.tc : Thread Cert.AdamwSmallReferenceIdeal.nD Cert.AdamwSmallReferenceIdeal.τ).loc Cert.AdamwSmallReferenceIdeal.main_arg13) = m' ((c.tc : Thread Cert.AdamwSmallReferenceIdeal.nD Cert.AdamwSmallReferenceIdeal.τ).loc Cert.AdamwSmallReferenceIdeal.main_arg13)
          ∧ r.2.mem ((c.tc : Thread Cert.AdamwSmallReferenceIdeal.nD Cert.AdamwSmallReferenceIdeal.τ).loc Cert.AdamwSmallReferenceIdeal.main_arg14) = m' ((c.tc : Thread Cert.AdamwSmallReferenceIdeal.nD Cert.AdamwSmallReferenceIdeal.τ).loc Cert.AdamwSmallReferenceIdeal.main_arg14)
          ∧ r.2.mem ((c.tc : Thread Cert.AdamwSmallReferenceIdeal.nD Cert.AdamwSmallReferenceIdeal.τ).loc Cert.AdamwSmallReferenceIdeal.main_arg15) = m' ((c.tc : Thread Cert.AdamwSmallReferenceIdeal.nD Cert.AdamwSmallReferenceIdeal.τ).loc Cert.AdamwSmallReferenceIdeal.main_arg15)
          ∧ r.2.mem ((c.tc : Thread Cert.AdamwSmallReferenceIdeal.nD Cert.AdamwSmallReferenceIdeal.τ).loc Cert.AdamwSmallReferenceIdeal.main_arg16) = m' ((c.tc : Thread Cert.AdamwSmallReferenceIdeal.nD Cert.AdamwSmallReferenceIdeal.τ).loc Cert.AdamwSmallReferenceIdeal.main_arg16)
          ∧ r.2.mem ((c.tc : Thread Cert.AdamwSmallReferenceIdeal.nD Cert.AdamwSmallReferenceIdeal.τ).loc Cert.AdamwSmallReferenceIdeal.main_arg17) = m' ((c.tc : Thread Cert.AdamwSmallReferenceIdeal.nD Cert.AdamwSmallReferenceIdeal.τ).loc Cert.AdamwSmallReferenceIdeal.main_arg17)
          ∧ r.2.mem ((c.tc : Thread Cert.AdamwSmallReferenceIdeal.nD Cert.AdamwSmallReferenceIdeal.τ).loc Cert.AdamwSmallReferenceIdeal.main_arg18) = m' ((c.tc : Thread Cert.AdamwSmallReferenceIdeal.nD Cert.AdamwSmallReferenceIdeal.τ).loc Cert.AdamwSmallReferenceIdeal.main_arg18)
          ∧ r.2.mem ((c.tc : Thread Cert.AdamwSmallReferenceIdeal.nD Cert.AdamwSmallReferenceIdeal.τ).loc Cert.AdamwSmallReferenceIdeal.main_arg19) = m' ((c.tc : Thread Cert.AdamwSmallReferenceIdeal.nD Cert.AdamwSmallReferenceIdeal.τ).loc Cert.AdamwSmallReferenceIdeal.main_arg19)
          ∧ r.2.mem ((c.tc : Thread Cert.AdamwSmallReferenceIdeal.nD Cert.AdamwSmallReferenceIdeal.τ).loc Cert.AdamwSmallReferenceIdeal.main_arg20) = m' ((c.tc : Thread Cert.AdamwSmallReferenceIdeal.nD Cert.AdamwSmallReferenceIdeal.τ).loc Cert.AdamwSmallReferenceIdeal.main_arg20)
          ∧ r.2.mem ((c.tc : Thread Cert.AdamwSmallReferenceIdeal.nD Cert.AdamwSmallReferenceIdeal.τ).loc Cert.AdamwSmallReferenceIdeal.main_arg21) = m' ((c.tc : Thread Cert.AdamwSmallReferenceIdeal.nD Cert.AdamwSmallReferenceIdeal.τ).loc Cert.AdamwSmallReferenceIdeal.main_arg21)
          ∧ r.2.mem ((c.tc : Thread Cert.AdamwSmallReferenceIdeal.nD Cert.AdamwSmallReferenceIdeal.τ).loc Cert.AdamwSmallReferenceIdeal.main_arg22) = m' ((c.tc : Thread Cert.AdamwSmallReferenceIdeal.nD Cert.AdamwSmallReferenceIdeal.τ).loc Cert.AdamwSmallReferenceIdeal.main_arg22)
          ∧ r.2.mem ((c.tc : Thread Cert.AdamwSmallReferenceIdeal.nD Cert.AdamwSmallReferenceIdeal.τ).loc Cert.AdamwSmallReferenceIdeal.main_arg23) = m' ((c.tc : Thread Cert.AdamwSmallReferenceIdeal.nD Cert.AdamwSmallReferenceIdeal.τ).loc Cert.AdamwSmallReferenceIdeal.main_arg23)
          ∧ r.2.mem ((c.tc : Thread Cert.AdamwSmallReferenceIdeal.nD Cert.AdamwSmallReferenceIdeal.τ).loc Cert.AdamwSmallReferenceIdeal.main_arg24) = m' ((c.tc : Thread Cert.AdamwSmallReferenceIdeal.nD Cert.AdamwSmallReferenceIdeal.τ).loc Cert.AdamwSmallReferenceIdeal.main_arg24)
          ∧ r.2.mem ((c.tc : Thread Cert.AdamwSmallReferenceIdeal.nD Cert.AdamwSmallReferenceIdeal.τ).loc Cert.AdamwSmallReferenceIdeal.main_arg25) = m' ((c.tc : Thread Cert.AdamwSmallReferenceIdeal.nD Cert.AdamwSmallReferenceIdeal.τ).loc Cert.AdamwSmallReferenceIdeal.main_arg25)
          ∧ r.2.mem ((c.tc : Thread Cert.AdamwSmallReferenceIdeal.nD Cert.AdamwSmallReferenceIdeal.τ).loc Cert.AdamwSmallReferenceIdeal.main_arg26) = m' ((c.tc : Thread Cert.AdamwSmallReferenceIdeal.nD Cert.AdamwSmallReferenceIdeal.τ).loc Cert.AdamwSmallReferenceIdeal.main_arg26)
          ∧ r.2.mem ((c.tc : Thread Cert.AdamwSmallReferenceIdeal.nD Cert.AdamwSmallReferenceIdeal.τ).loc Cert.AdamwSmallReferenceIdeal.main_arg27) = m' ((c.tc : Thread Cert.AdamwSmallReferenceIdeal.nD Cert.AdamwSmallReferenceIdeal.τ).loc Cert.AdamwSmallReferenceIdeal.main_arg27)
          ∧ r.2.mem ((c.tc : Thread Cert.AdamwSmallReferenceIdeal.nD Cert.AdamwSmallReferenceIdeal.τ).loc Cert.AdamwSmallReferenceIdeal.main_arg28) = m' ((c.tc : Thread Cert.AdamwSmallReferenceIdeal.nD Cert.AdamwSmallReferenceIdeal.τ).loc Cert.AdamwSmallReferenceIdeal.main_arg28)
          ∧ r.2.mem ((c.tc : Thread Cert.AdamwSmallReferenceIdeal.nD Cert.AdamwSmallReferenceIdeal.τ).loc Cert.AdamwSmallReferenceIdeal.main_arg29) = m' ((c.tc : Thread Cert.AdamwSmallReferenceIdeal.nD Cert.AdamwSmallReferenceIdeal.τ).loc Cert.AdamwSmallReferenceIdeal.main_arg29)
          ∧ r.2.mem ((c.tc : Thread Cert.AdamwSmallReferenceIdeal.nD Cert.AdamwSmallReferenceIdeal.τ).loc Cert.AdamwSmallReferenceIdeal.main_arg30) = m' ((c.tc : Thread Cert.AdamwSmallReferenceIdeal.nD Cert.AdamwSmallReferenceIdeal.τ).loc Cert.AdamwSmallReferenceIdeal.main_arg30)
          ∧ r.2.mem ((c.tc : Thread Cert.AdamwSmallReferenceIdeal.nD Cert.AdamwSmallReferenceIdeal.τ).loc Cert.AdamwSmallReferenceIdeal.main_arg31) = m' ((c.tc : Thread Cert.AdamwSmallReferenceIdeal.nD Cert.AdamwSmallReferenceIdeal.τ).loc Cert.AdamwSmallReferenceIdeal.main_arg31)
          ∧ r.2.mem ((c.tc : Thread Cert.AdamwSmallReferenceIdeal.nD Cert.AdamwSmallReferenceIdeal.τ).loc Cert.AdamwSmallReferenceIdeal.main_arg32) = m' ((c.tc : Thread Cert.AdamwSmallReferenceIdeal.nD Cert.AdamwSmallReferenceIdeal.τ).loc Cert.AdamwSmallReferenceIdeal.main_arg32)
          ∧ r.2.mem ((c.tc : Thread Cert.AdamwSmallReferenceIdeal.nD Cert.AdamwSmallReferenceIdeal.τ).loc Cert.AdamwSmallReferenceIdeal.main_arg33) = m' ((c.tc : Thread Cert.AdamwSmallReferenceIdeal.nD Cert.AdamwSmallReferenceIdeal.τ).loc Cert.AdamwSmallReferenceIdeal.main_arg33)
          ∧ r.2.mem ((c.tc : Thread Cert.AdamwSmallReferenceIdeal.nD Cert.AdamwSmallReferenceIdeal.τ).loc Cert.AdamwSmallReferenceIdeal.main_arg34) = m' ((c.tc : Thread Cert.AdamwSmallReferenceIdeal.nD Cert.AdamwSmallReferenceIdeal.τ).loc Cert.AdamwSmallReferenceIdeal.main_arg34)
          ∧ r.2.mem ((c.tc : Thread Cert.AdamwSmallReferenceIdeal.nD Cert.AdamwSmallReferenceIdeal.τ).loc Cert.AdamwSmallReferenceIdeal.main_arg35) = m' ((c.tc : Thread Cert.AdamwSmallReferenceIdeal.nD Cert.AdamwSmallReferenceIdeal.τ).loc Cert.AdamwSmallReferenceIdeal.main_arg35))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)
      ∧ m' ((c.tc : Thread Cert.SumSmallReferenceIdeal.nD Cert.SumSmallReferenceIdeal.τ).loc Cert.SumSmallReferenceIdeal.main_arg1) = m ((c.tc : Thread Cert.SumSmallIdeal.nD Cert.SumSmallIdeal.τ).loc Cert.SumSmallIdeal.main_arg1)
      ∧ m' ((c.tc : Thread Cert.SumSmallReferenceIdeal.nD Cert.SumSmallReferenceIdeal.τ).loc Cert.SumSmallReferenceIdeal.main_arg2) = m ((c.tc : Thread Cert.SumSmallIdeal.nD Cert.SumSmallIdeal.τ).loc Cert.SumSmallIdeal.main_arg2)
      ∧ m' ((c.tc : Thread Cert.SumSmallReferenceIdeal.nD Cert.SumSmallReferenceIdeal.τ).loc Cert.SumSmallReferenceIdeal.main_arg3) = m ((c.tc : Thread Cert.SumSmallIdeal.nD Cert.SumSmallIdeal.τ).loc Cert.SumSmallIdeal.main_arg3)
      ∧ m' ((c.tc : Thread Cert.SumSmallReferenceIdeal.nD Cert.SumSmallReferenceIdeal.τ).loc Cert.SumSmallReferenceIdeal.main_arg4) = m ((c.tc : Thread Cert.SumSmallIdeal.nD Cert.SumSmallIdeal.τ).loc Cert.SumSmallIdeal.main_arg4)
      ∧ m' ((c.tc : Thread Cert.SumSmallReferenceIdeal.nD Cert.SumSmallReferenceIdeal.τ).loc Cert.SumSmallReferenceIdeal.main_arg5) = m ((c.tc : Thread Cert.SumSmallIdeal.nD Cert.SumSmallIdeal.τ).loc Cert.SumSmallIdeal.main_arg5)
      ∧ m' ((c.tc : Thread Cert.SumSmallReferenceIdeal.nD Cert.SumSmallReferenceIdeal.τ).loc Cert.SumSmallReferenceIdeal.main_arg6) = m ((c.tc : Thread Cert.SumSmallIdeal.nD Cert.SumSmallIdeal.τ).loc Cert.SumSmallIdeal.main_arg6)
      ∧ m' ((c.tc : Thread Cert.SumSmallReferenceIdeal.nD Cert.SumSmallReferenceIdeal.τ).loc Cert.SumSmallReferenceIdeal.main_arg7) = m ((c.tc : Thread Cert.SumSmallIdeal.nD Cert.SumSmallIdeal.τ).loc Cert.SumSmallIdeal.main_arg7)
      ∧ m' ((c.tc : Thread Cert.SumSmallReferenceIdeal.nD Cert.SumSmallReferenceIdeal.τ).loc Cert.SumSmallReferenceIdeal.main_arg8) = m ((c.tc : Thread Cert.SumSmallIdeal.nD Cert.SumSmallIdeal.τ).loc Cert.SumSmallIdeal.main_arg8)
      ∧ m' ((c.tc : Thread Cert.SumSmallReferenceIdeal.nD Cert.SumSmallReferenceIdeal.τ).loc Cert.SumSmallReferenceIdeal.main_arg9) = m ((c.tc : Thread Cert.SumSmallIdeal.nD Cert.SumSmallIdeal.τ).loc Cert.SumSmallIdeal.main_arg9)) →
    ∃ (v0 : (c : Dev Cert.SumSmallIdeal.nD) → Buf (Elt Ideal) ((c.tc : Thread Cert.SumSmallIdeal.nD Cert.SumSmallIdeal.τ).loc Cert.SumSmallIdeal.main_v75)) (v1 : (c : Dev Cert.SumSmallIdeal.nD) → Buf (Elt Ideal) ((c.tc : Thread Cert.SumSmallIdeal.nD Cert.SumSmallIdeal.τ).loc Cert.SumSmallIdeal.main_v78)) (v2 : (c : Dev Cert.SumSmallIdeal.nD) → Buf (Elt Ideal) ((c.tc : Thread Cert.SumSmallIdeal.nD Cert.SumSmallIdeal.τ).loc Cert.SumSmallIdeal.main_v103)) (v3 : (c : Dev Cert.SumSmallIdeal.nD) → Buf (Elt Ideal) ((c.tc : Thread Cert.SumSmallIdeal.nD Cert.SumSmallIdeal.τ).loc Cert.SumSmallIdeal.main_v104)) (v4 : (c : Dev Cert.SumSmallIdeal.nD) → Buf (Elt Ideal) ((c.tc : Thread Cert.SumSmallIdeal.nD Cert.SumSmallIdeal.τ).loc Cert.SumSmallIdeal.main_v87)) (v5 : (c : Dev Cert.SumSmallIdeal.nD) → Buf (Elt Ideal) ((c.tc : Thread Cert.SumSmallIdeal.nD Cert.SumSmallIdeal.τ).loc Cert.SumSmallIdeal.main_v105)) (v6 : (c : Dev Cert.SumSmallIdeal.nD) → Buf (Elt Ideal) ((c.tc : Thread Cert.SumSmallIdeal.nD Cert.SumSmallIdeal.τ).loc Cert.SumSmallIdeal.main_v93)) (v7 : (c : Dev Cert.SumSmallIdeal.nD) → Buf (Elt Ideal) ((c.tc : Thread Cert.SumSmallIdeal.nD Cert.SumSmallIdeal.τ).loc Cert.SumSmallIdeal.main_v106)) (v8 : (c : Dev Cert.SumSmallIdeal.nD) → Buf (Elt Ideal) ((c.tc : Thread Cert.SumSmallIdeal.nD Cert.SumSmallIdeal.τ).loc Cert.SumSmallIdeal.main_v99)) (v9 : (c : Dev Cert.SumSmallIdeal.nD) → Buf (Elt Ideal) ((c.tc : Thread Cert.SumSmallIdeal.nD Cert.SumSmallIdeal.τ).loc Cert.SumSmallIdeal.main_v102)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v75) = v0 c
          ∧ r.2.mem ((c.tc : Thread Cert.SumSmallIdeal.nD Cert.SumSmallIdeal.τ).loc Cert.SumSmallIdeal.main_v78) = v1 c
          ∧ r.2.mem ((c.tc : Thread Cert.SumSmallIdeal.nD Cert.SumSmallIdeal.τ).loc Cert.SumSmallIdeal.main_v103) = v2 c
          ∧ r.2.mem ((c.tc : Thread Cert.SumSmallIdeal.nD Cert.SumSmallIdeal.τ).loc Cert.SumSmallIdeal.main_v104) = v3 c
          ∧ r.2.mem ((c.tc : Thread Cert.SumSmallIdeal.nD Cert.SumSmallIdeal.τ).loc Cert.SumSmallIdeal.main_v87) = v4 c
          ∧ r.2.mem ((c.tc : Thread Cert.SumSmallIdeal.nD Cert.SumSmallIdeal.τ).loc Cert.SumSmallIdeal.main_v105) = v5 c
          ∧ r.2.mem ((c.tc : Thread Cert.SumSmallIdeal.nD Cert.SumSmallIdeal.τ).loc Cert.SumSmallIdeal.main_v93) = v6 c
          ∧ r.2.mem ((c.tc : Thread Cert.SumSmallIdeal.nD Cert.SumSmallIdeal.τ).loc Cert.SumSmallIdeal.main_v106) = v7 c
          ∧ r.2.mem ((c.tc : Thread Cert.SumSmallIdeal.nD Cert.SumSmallIdeal.τ).loc Cert.SumSmallIdeal.main_v99) = v8 c
          ∧ r.2.mem ((c.tc : Thread Cert.SumSmallIdeal.nD Cert.SumSmallIdeal.τ).loc Cert.SumSmallIdeal.main_v102) = v9 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
          ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
          ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
          ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
          ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
          ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
          ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v15) = v0 c
          ∧ r.2.mem ((c.tc : Thread Cert.SumSmallReferenceIdeal.nD Cert.SumSmallReferenceIdeal.τ).loc Cert.SumSmallReferenceIdeal.main_v0) = v1 c
          ∧ r.2.mem ((c.tc : Thread Cert.SumSmallReferenceIdeal.nD Cert.SumSmallReferenceIdeal.τ).loc Cert.SumSmallReferenceIdeal.main_v9) = v2 c
          ∧ r.2.mem ((c.tc : Thread Cert.SumSmallReferenceIdeal.nD Cert.SumSmallReferenceIdeal.τ).loc Cert.SumSmallReferenceIdeal.main_v10) = v3 c
          ∧ r.2.mem ((c.tc : Thread Cert.SumSmallReferenceIdeal.nD Cert.SumSmallReferenceIdeal.τ).loc Cert.SumSmallReferenceIdeal.main_v3) = v4 c
          ∧ r.2.mem ((c.tc : Thread Cert.SumSmallReferenceIdeal.nD Cert.SumSmallReferenceIdeal.τ).loc Cert.SumSmallReferenceIdeal.main_v11) = v5 c
          ∧ r.2.mem ((c.tc : Thread Cert.SumSmallReferenceIdeal.nD Cert.SumSmallReferenceIdeal.τ).loc Cert.SumSmallReferenceIdeal.main_v5) = v6 c
          ∧ r.2.mem ((c.tc : Thread Cert.SumSmallReferenceIdeal.nD Cert.SumSmallReferenceIdeal.τ).loc Cert.SumSmallReferenceIdeal.main_v12) = v7 c
          ∧ r.2.mem ((c.tc : Thread Cert.SumSmallReferenceIdeal.nD Cert.SumSmallReferenceIdeal.τ).loc Cert.SumSmallReferenceIdeal.main_v7) = v8 c
          ∧ r.2.mem ((c.tc : Thread Cert.SumSmallReferenceIdeal.nD Cert.SumSmallReferenceIdeal.τ).loc Cert.SumSmallReferenceIdeal.main_v8) = v9 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0)
          ∧ r.2.mem ((c.tc : Thread Cert.SumSmallReferenceIdeal.nD Cert.SumSmallReferenceIdeal.τ).loc Cert.SumSmallReferenceIdeal.main_arg1) = m' ((c.tc : Thread Cert.SumSmallReferenceIdeal.nD Cert.SumSmallReferenceIdeal.τ).loc Cert.SumSmallReferenceIdeal.main_arg1)
          ∧ r.2.mem ((c.tc : Thread Cert.SumSmallReferenceIdeal.nD Cert.SumSmallReferenceIdeal.τ).loc Cert.SumSmallReferenceIdeal.main_arg2) = m' ((c.tc : Thread Cert.SumSmallReferenceIdeal.nD Cert.SumSmallReferenceIdeal.τ).loc Cert.SumSmallReferenceIdeal.main_arg2)
          ∧ r.2.mem ((c.tc : Thread Cert.SumSmallReferenceIdeal.nD Cert.SumSmallReferenceIdeal.τ).loc Cert.SumSmallReferenceIdeal.main_arg3) = m' ((c.tc : Thread Cert.SumSmallReferenceIdeal.nD Cert.SumSmallReferenceIdeal.τ).loc Cert.SumSmallReferenceIdeal.main_arg3)
          ∧ r.2.mem ((c.tc : Thread Cert.SumSmallReferenceIdeal.nD Cert.SumSmallReferenceIdeal.τ).loc Cert.SumSmallReferenceIdeal.main_arg4) = m' ((c.tc : Thread Cert.SumSmallReferenceIdeal.nD Cert.SumSmallReferenceIdeal.τ).loc Cert.SumSmallReferenceIdeal.main_arg4)
          ∧ r.2.mem ((c.tc : Thread Cert.SumSmallReferenceIdeal.nD Cert.SumSmallReferenceIdeal.τ).loc Cert.SumSmallReferenceIdeal.main_arg5) = m' ((c.tc : Thread Cert.SumSmallReferenceIdeal.nD Cert.SumSmallReferenceIdeal.τ).loc Cert.SumSmallReferenceIdeal.main_arg5)
          ∧ r.2.mem ((c.tc : Thread Cert.SumSmallReferenceIdeal.nD Cert.SumSmallReferenceIdeal.τ).loc Cert.SumSmallReferenceIdeal.main_arg6) = m' ((c.tc : Thread Cert.SumSmallReferenceIdeal.nD Cert.SumSmallReferenceIdeal.τ).loc Cert.SumSmallReferenceIdeal.main_arg6)
          ∧ r.2.mem ((c.tc : Thread Cert.SumSmallReferenceIdeal.nD Cert.SumSmallReferenceIdeal.τ).loc Cert.SumSmallReferenceIdeal.main_arg7) = m' ((c.tc : Thread Cert.SumSmallReferenceIdeal.nD Cert.SumSmallReferenceIdeal.τ).loc Cert.SumSmallReferenceIdeal.main_arg7)
          ∧ r.2.mem ((c.tc : Thread Cert.SumSmallReferenceIdeal.nD Cert.SumSmallReferenceIdeal.τ).loc Cert.SumSmallReferenceIdeal.main_arg8) = m' ((c.tc : Thread Cert.SumSmallReferenceIdeal.nD Cert.SumSmallReferenceIdeal.τ).loc Cert.SumSmallReferenceIdeal.main_arg8)
          ∧ r.2.mem ((c.tc : Thread Cert.SumSmallReferenceIdeal.nD Cert.SumSmallReferenceIdeal.τ).loc Cert.SumSmallReferenceIdeal.main_arg9) = m' ((c.tc : Thread Cert.SumSmallReferenceIdeal.nD Cert.SumSmallReferenceIdeal.τ).loc Cert.SumSmallReferenceIdeal.main_arg9))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v38) = v0 c
          ∧ r.2.mem ((c.tc : Thread Cert.NormBwdReferenceIdeal.nD Cert.NormBwdReferenceIdeal.τ).loc Cert.NormBwdReferenceIdeal.main_v39) = v1 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3))

def preserves_NormBwdPair_NormBwdPairIdeal : Prop :=
  True

def algebraic_NormBwdPairIdeal_NormBwdPairReferenceIdeal [hNormBwdPairIdeal : Cert.NormBwdPairIdeal.Facts] [hNormBwdPairReferenceIdeal : Cert.NormBwdPairReferenceIdeal.Facts] : Prop :=
  ∀ (m : (ℓ : Loc Cert.NormBwdPairIdeal.nD Cert.NormBwdPairIdeal.τ Cert.NormBwdPairIdeal.sig) → Buf (Elt Ideal) ℓ) (g : Dev Cert.NormBwdPairIdeal.nD → PrngReg)
    (m' : (ℓ : Loc Cert.NormBwdPairReferenceIdeal.nD Cert.NormBwdPairReferenceIdeal.τ Cert.NormBwdPairReferenceIdeal.sig) → Buf (Elt Ideal) ℓ) (g' : Dev Cert.NormBwdPairReferenceIdeal.nD → PrngReg), Pre_NormBwdPairIdeal m →
    (∀ c : Dev Cert.NormBwdPairIdeal.nD,
      m' ((c.tc : Thread Cert.NormBwdPairReferenceIdeal.nD Cert.NormBwdPairReferenceIdeal.τ).loc Cert.NormBwdPairReferenceIdeal.main_arg0) = m ((c.tc : Thread Cert.NormBwdPairIdeal.nD Cert.NormBwdPairIdeal.τ).loc Cert.NormBwdPairIdeal.main_arg0)
      ∧ m' ((c.tc : Thread Cert.NormBwdPairReferenceIdeal.nD Cert.NormBwdPairReferenceIdeal.τ).loc Cert.NormBwdPairReferenceIdeal.main_arg1) = m ((c.tc : Thread Cert.NormBwdPairIdeal.nD Cert.NormBwdPairIdeal.τ).loc Cert.NormBwdPairIdeal.main_arg1)
      ∧ m' ((c.tc : Thread Cert.NormBwdPairReferenceIdeal.nD Cert.NormBwdPairReferenceIdeal.τ).loc Cert.NormBwdPairReferenceIdeal.main_arg2) = m ((c.tc : Thread Cert.NormBwdPairIdeal.nD Cert.NormBwdPairIdeal.τ).loc Cert.NormBwdPairIdeal.main_arg2)
      ∧ m' ((c.tc : Thread Cert.NormBwdPairReferenceIdeal.nD Cert.NormBwdPairReferenceIdeal.τ).loc Cert.NormBwdPairReferenceIdeal.main_arg3) = m ((c.tc : Thread Cert.NormBwdPairIdeal.nD Cert.NormBwdPairIdeal.τ).loc Cert.NormBwdPairIdeal.main_arg3)
      ∧ m' ((c.tc : Thread Cert.NormBwdPairReferenceIdeal.nD Cert.NormBwdPairReferenceIdeal.τ).loc Cert.NormBwdPairReferenceIdeal.main_arg4) = m ((c.tc : Thread Cert.NormBwdPairIdeal.nD Cert.NormBwdPairIdeal.τ).loc Cert.NormBwdPairIdeal.main_arg4)
      ∧ m' ((c.tc : Thread Cert.NormBwdPairReferenceIdeal.nD Cert.NormBwdPairReferenceIdeal.τ).loc Cert.NormBwdPairReferenceIdeal.main_arg5) = m ((c.tc : Thread Cert.NormBwdPairIdeal.nD Cert.NormBwdPairIdeal.τ).loc Cert.NormBwdPairIdeal.main_arg5)) →
    ∃ (v0 : (c : Dev Cert.NormBwdPairIdeal.nD) → Buf (Elt Ideal) ((c.tc : Thread Cert.NormBwdPairIdeal.nD Cert.NormBwdPairIdeal.τ).loc Cert.NormBwdPairIdeal.main_v0_0)) (v1 : (c : Dev Cert.NormBwdPairIdeal.nD) → Buf (Elt Ideal) ((c.tc : Thread Cert.NormBwdPairIdeal.nD Cert.NormBwdPairIdeal.τ).loc Cert.NormBwdPairIdeal.main_v0_1)) (v2 : (c : Dev Cert.NormBwdPairIdeal.nD) → Buf (Elt Ideal) ((c.tc : Thread Cert.NormBwdPairIdeal.nD Cert.NormBwdPairIdeal.τ).loc Cert.NormBwdPairIdeal.main_v0_2)) (v3 : (c : Dev Cert.NormBwdPairIdeal.nD) → Buf (Elt Ideal) ((c.tc : Thread Cert.NormBwdPairIdeal.nD Cert.NormBwdPairIdeal.τ).loc Cert.NormBwdPairIdeal.main_v0_3)),
      θ_run (Cert.NormBwdPairIdeal.defs (F := Ideal)) (onTc (τ := Cert.NormBwdPairIdeal.τ) (Cert.NormBwdPairIdeal.main (F := Ideal))) ⟨m, fun _ => 0, g⟩ (fun r => ∀ c : Dev Cert.NormBwdPairIdeal.nD,
          r.2.mem ((c.tc : Thread Cert.NormBwdPairIdeal.nD Cert.NormBwdPairIdeal.τ).loc Cert.NormBwdPairIdeal.main_v0_0) = v0 c
          ∧ r.2.mem ((c.tc : Thread Cert.NormBwdPairIdeal.nD Cert.NormBwdPairIdeal.τ).loc Cert.NormBwdPairIdeal.main_v0_1) = v1 c
          ∧ r.2.mem ((c.tc : Thread Cert.NormBwdPairIdeal.nD Cert.NormBwdPairIdeal.τ).loc Cert.NormBwdPairIdeal.main_v0_2) = v2 c
          ∧ r.2.mem ((c.tc : Thread Cert.NormBwdPairIdeal.nD Cert.NormBwdPairIdeal.τ).loc Cert.NormBwdPairIdeal.main_v0_3) = v3 c
          ∧ r.2.mem ((c.tc : Thread Cert.NormBwdPairIdeal.nD Cert.NormBwdPairIdeal.τ).loc Cert.NormBwdPairIdeal.main_arg0) = m ((c.tc : Thread Cert.NormBwdPairIdeal.nD Cert.NormBwdPairIdeal.τ).loc Cert.NormBwdPairIdeal.main_arg0)
          ∧ r.2.mem ((c.tc : Thread Cert.NormBwdPairIdeal.nD Cert.NormBwdPairIdeal.τ).loc Cert.NormBwdPairIdeal.main_arg1) = m ((c.tc : Thread Cert.NormBwdPairIdeal.nD Cert.NormBwdPairIdeal.τ).loc Cert.NormBwdPairIdeal.main_arg1)
          ∧ r.2.mem ((c.tc : Thread Cert.NormBwdPairIdeal.nD Cert.NormBwdPairIdeal.τ).loc Cert.NormBwdPairIdeal.main_arg2) = m ((c.tc : Thread Cert.NormBwdPairIdeal.nD Cert.NormBwdPairIdeal.τ).loc Cert.NormBwdPairIdeal.main_arg2)
          ∧ r.2.mem ((c.tc : Thread Cert.NormBwdPairIdeal.nD Cert.NormBwdPairIdeal.τ).loc Cert.NormBwdPairIdeal.main_arg3) = m ((c.tc : Thread Cert.NormBwdPairIdeal.nD Cert.NormBwdPairIdeal.τ).loc Cert.NormBwdPairIdeal.main_arg3)
          ∧ r.2.mem ((c.tc : Thread Cert.NormBwdPairIdeal.nD Cert.NormBwdPairIdeal.τ).loc Cert.NormBwdPairIdeal.main_arg4) = m ((c.tc : Thread Cert.NormBwdPairIdeal.nD Cert.NormBwdPairIdeal.τ).loc Cert.NormBwdPairIdeal.main_arg4)
          ∧ r.2.mem ((c.tc : Thread Cert.NormBwdPairIdeal.nD Cert.NormBwdPairIdeal.τ).loc Cert.NormBwdPairIdeal.main_arg5) = m ((c.tc : Thread Cert.NormBwdPairIdeal.nD Cert.NormBwdPairIdeal.τ).loc Cert.NormBwdPairIdeal.main_arg5))
      ∧ θ_run (Cert.NormBwdPairReferenceIdeal.defs (F := Ideal)) (onTc (τ := Cert.NormBwdPairReferenceIdeal.τ) (Cert.NormBwdPairReferenceIdeal.main (F := Ideal))) ⟨m', fun _ => 0, g'⟩ (fun r => ∀ c : Dev Cert.NormBwdPairReferenceIdeal.nD,
          r.2.mem ((c.tc : Thread Cert.NormBwdPairReferenceIdeal.nD Cert.NormBwdPairReferenceIdeal.τ).loc Cert.NormBwdPairReferenceIdeal.main_v38) = v0 c
          ∧ r.2.mem ((c.tc : Thread Cert.NormBwdPairReferenceIdeal.nD Cert.NormBwdPairReferenceIdeal.τ).loc Cert.NormBwdPairReferenceIdeal.main_v77) = v1 c
          ∧ r.2.mem ((c.tc : Thread Cert.NormBwdPairReferenceIdeal.nD Cert.NormBwdPairReferenceIdeal.τ).loc Cert.NormBwdPairReferenceIdeal.main_v78) = v2 c
          ∧ r.2.mem ((c.tc : Thread Cert.NormBwdPairReferenceIdeal.nD Cert.NormBwdPairReferenceIdeal.τ).loc Cert.NormBwdPairReferenceIdeal.main_v79) = v3 c
          ∧ r.2.mem ((c.tc : Thread Cert.NormBwdPairReferenceIdeal.nD Cert.NormBwdPairReferenceIdeal.τ).loc Cert.NormBwdPairReferenceIdeal.main_arg0) = m' ((c.tc : Thread Cert.NormBwdPairReferenceIdeal.nD Cert.NormBwdPairReferenceIdeal.τ).loc Cert.NormBwdPairReferenceIdeal.main_arg0)
          ∧ r.2.mem ((c.tc : Thread Cert.NormBwdPairReferenceIdeal.nD Cert.NormBwdPairReferenceIdeal.τ).loc Cert.NormBwdPairReferenceIdeal.main_arg1) = m' ((c.tc : Thread Cert.NormBwdPairReferenceIdeal.nD Cert.NormBwdPairReferenceIdeal.τ).loc Cert.NormBwdPairReferenceIdeal.main_arg1)
          ∧ r.2.mem ((c.tc : Thread Cert.NormBwdPairReferenceIdeal.nD Cert.NormBwdPairReferenceIdeal.τ).loc Cert.NormBwdPairReferenceIdeal.main_arg2) = m' ((c.tc : Thread Cert.NormBwdPairReferenceIdeal.nD Cert.NormBwdPairReferenceIdeal.τ).loc Cert.NormBwdPairReferenceIdeal.main_arg2)
          ∧ r.2.mem ((c.tc : Thread Cert.NormBwdPairReferenceIdeal.nD Cert.NormBwdPairReferenceIdeal.τ).loc Cert.NormBwdPairReferenceIdeal.main_arg3) = m' ((c.tc : Thread Cert.NormBwdPairReferenceIdeal.nD Cert.NormBwdPairReferenceIdeal.τ).loc Cert.NormBwdPairReferenceIdeal.main_arg3)
          ∧ r.2.mem ((c.tc : Thread Cert.NormBwdPairReferenceIdeal.nD Cert.NormBwdPairReferenceIdeal.τ).loc Cert.NormBwdPairReferenceIdeal.main_arg4) = m' ((c.tc : Thread Cert.NormBwdPairReferenceIdeal.nD Cert.NormBwdPairReferenceIdeal.τ).loc Cert.NormBwdPairReferenceIdeal.main_arg4)
          ∧ r.2.mem ((c.tc : Thread Cert.NormBwdPairReferenceIdeal.nD Cert.NormBwdPairReferenceIdeal.τ).loc Cert.NormBwdPairReferenceIdeal.main_arg5) = m' ((c.tc : Thread Cert.NormBwdPairReferenceIdeal.nD Cert.NormBwdPairReferenceIdeal.τ).loc Cert.NormBwdPairReferenceIdeal.main_arg5))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v14) = v0 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1))

def preserves_ResidNorm_ResidNormIdeal : Prop :=
  True

def algebraic_ResidNormIdeal_ResidNormReferenceIdeal [hResidNormIdeal : Cert.ResidNormIdeal.Facts] [hResidNormReferenceIdeal : Cert.ResidNormReferenceIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg)
    (m' : (ℓ : Loc Cert.ResidNormReferenceIdeal.nD Cert.ResidNormReferenceIdeal.τ Cert.ResidNormReferenceIdeal.sig) → Buf (Elt Ideal) ℓ) (g' : Dev Cert.ResidNormReferenceIdeal.nD → PrngReg), Pre_ResidNormIdeal m →
    (∀ c : Dev Cert.ResidNormIdeal.nD,
      m' ((c.tc : Thread Cert.ResidNormReferenceIdeal.nD Cert.ResidNormReferenceIdeal.τ).loc Cert.ResidNormReferenceIdeal.main_arg0) = m ((c.tc : Thread Cert.ResidNormIdeal.nD Cert.ResidNormIdeal.τ).loc Cert.ResidNormIdeal.main_arg0)
      ∧ m' ((c.tc : Thread Cert.ResidNormReferenceIdeal.nD Cert.ResidNormReferenceIdeal.τ).loc Cert.ResidNormReferenceIdeal.main_arg1) = m ((c.tc : Thread Cert.ResidNormIdeal.nD Cert.ResidNormIdeal.τ).loc Cert.ResidNormIdeal.main_arg1)
      ∧ m' ((c.tc : Thread Cert.ResidNormReferenceIdeal.nD Cert.ResidNormReferenceIdeal.τ).loc Cert.ResidNormReferenceIdeal.main_arg2) = m ((c.tc : Thread Cert.ResidNormIdeal.nD Cert.ResidNormIdeal.τ).loc Cert.ResidNormIdeal.main_arg2)
      ∧ m' ((c.tc : Thread Cert.ResidNormReferenceIdeal.nD Cert.ResidNormReferenceIdeal.τ).loc Cert.ResidNormReferenceIdeal.main_arg3) = m ((c.tc : Thread Cert.ResidNormIdeal.nD Cert.ResidNormIdeal.τ).loc Cert.ResidNormIdeal.main_arg3)) →
    ∃ (v0 : (c : Dev Cert.ResidNormIdeal.nD) → Buf (Elt Ideal) ((c.tc : Thread Cert.ResidNormIdeal.nD Cert.ResidNormIdeal.τ).loc Cert.ResidNormIdeal.main_v0_0)) (v1 : (c : Dev Cert.ResidNormIdeal.nD) → Buf (Elt Ideal) ((c.tc : Thread Cert.ResidNormIdeal.nD Cert.ResidNormIdeal.τ).loc Cert.ResidNormIdeal.main_v0_1)),
      θ_run (Cert.ResidNormIdeal.defs (F := Ideal)) (onTc (τ := Cert.ResidNormIdeal.τ) (Cert.ResidNormIdeal.main (F := Ideal))) ⟨m, fun _ => 0, g⟩ (fun r => ∀ c : Dev Cert.ResidNormIdeal.nD,
          r.2.mem ((c.tc : Thread Cert.ResidNormIdeal.nD Cert.ResidNormIdeal.τ).loc Cert.ResidNormIdeal.main_v0_0) = v0 c
          ∧ r.2.mem ((c.tc : Thread Cert.ResidNormIdeal.nD Cert.ResidNormIdeal.τ).loc Cert.ResidNormIdeal.main_v0_1) = v1 c
          ∧ r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
          ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
          ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
          ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3))
      ∧ θ_run (Cert.ResidNormReferenceIdeal.defs (F := Ideal)) (onTc (τ := Cert.ResidNormReferenceIdeal.τ) (Cert.ResidNormReferenceIdeal.main (F := Ideal))) ⟨m', fun _ => 0, g'⟩ (fun r => ∀ c : Dev Cert.ResidNormReferenceIdeal.nD,
          r.2.mem ((c.tc : Thread Cert.ResidNormReferenceIdeal.nD Cert.ResidNormReferenceIdeal.τ).loc Cert.ResidNormReferenceIdeal.main_v15) = v0 c
          ∧ r.2.mem ((c.tc : Thread Cert.ResidNormReferenceIdeal.nD Cert.ResidNormReferenceIdeal.τ).loc Cert.ResidNormReferenceIdeal.main_v30) = v1 c
          ∧ r.2.mem ((c.tc : Thread Cert.ResidNormReferenceIdeal.nD Cert.ResidNormReferenceIdeal.τ).loc Cert.ResidNormReferenceIdeal.main_arg0) = m' ((c.tc : Thread Cert.ResidNormReferenceIdeal.nD Cert.ResidNormReferenceIdeal.τ).loc Cert.ResidNormReferenceIdeal.main_arg0)
          ∧ r.2.mem ((c.tc : Thread Cert.ResidNormReferenceIdeal.nD Cert.ResidNormReferenceIdeal.τ).loc Cert.ResidNormReferenceIdeal.main_arg1) = m' ((c.tc : Thread Cert.ResidNormReferenceIdeal.nD Cert.ResidNormReferenceIdeal.τ).loc Cert.ResidNormReferenceIdeal.main_arg1)
          ∧ r.2.mem ((c.tc : Thread Cert.ResidNormReferenceIdeal.nD Cert.ResidNormReferenceIdeal.τ).loc Cert.ResidNormReferenceIdeal.main_arg2) = m' ((c.tc : Thread Cert.ResidNormReferenceIdeal.nD Cert.ResidNormReferenceIdeal.τ).loc Cert.ResidNormReferenceIdeal.main_arg2)
          ∧ r.2.mem ((c.tc : Thread Cert.ResidNormReferenceIdeal.nD Cert.ResidNormReferenceIdeal.τ).loc Cert.ResidNormReferenceIdeal.main_arg3) = m' ((c.tc : Thread Cert.ResidNormReferenceIdeal.nD Cert.ResidNormReferenceIdeal.τ).loc Cert.ResidNormReferenceIdeal.main_arg3))

def preserves_FinalLoss_FinalLossIdeal : Prop :=
  True

def algebraic_FinalLossIdeal_FinalLossReferenceIdeal [hFinalLossIdeal : Cert.FinalLossIdeal.Facts] [hFinalLossReferenceIdeal : Cert.FinalLossReferenceIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossReferenceIdeal.nD Cert.FinalLossReferenceIdeal.τ Cert.FinalLossReferenceIdeal.sig) → Buf (Elt Ideal) ℓ) (g' : Dev Cert.FinalLossReferenceIdeal.nD → PrngReg), Pre_FinalLossIdeal m →
    (∀ c : Dev Cert.FinalLossIdeal.nD,
      m' ((c.tc : Thread Cert.FinalLossReferenceIdeal.nD Cert.FinalLossReferenceIdeal.τ).loc Cert.FinalLossReferenceIdeal.main_arg0) = m ((c.tc : Thread Cert.FinalLossIdeal.nD Cert.FinalLossIdeal.τ).loc Cert.FinalLossIdeal.main_arg0)
      ∧ m' ((c.tc : Thread Cert.FinalLossReferenceIdeal.nD Cert.FinalLossReferenceIdeal.τ).loc Cert.FinalLossReferenceIdeal.main_arg1) = m ((c.tc : Thread Cert.FinalLossIdeal.nD Cert.FinalLossIdeal.τ).loc Cert.FinalLossIdeal.main_arg1)
      ∧ m' ((c.tc : Thread Cert.FinalLossReferenceIdeal.nD Cert.FinalLossReferenceIdeal.τ).loc Cert.FinalLossReferenceIdeal.main_arg2) = m ((c.tc : Thread Cert.FinalLossIdeal.nD Cert.FinalLossIdeal.τ).loc Cert.FinalLossIdeal.main_arg2)
      ∧ m' ((c.tc : Thread Cert.FinalLossReferenceIdeal.nD Cert.FinalLossReferenceIdeal.τ).loc Cert.FinalLossReferenceIdeal.main_arg3) = m ((c.tc : Thread Cert.FinalLossIdeal.nD Cert.FinalLossIdeal.τ).loc Cert.FinalLossIdeal.main_arg3)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v2) = v3 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3))
      ∧ θ_run (Cert.FinalLossReferenceIdeal.defs (F := Ideal)) (onTc (τ := Cert.FinalLossReferenceIdeal.τ) (Cert.FinalLossReferenceIdeal.main (F := Ideal))) ⟨m', fun _ => 0, g'⟩ (fun r => ∀ c : Dev Cert.FinalLossReferenceIdeal.nD,
          r.2.mem ((c.tc : Thread Cert.FinalLossReferenceIdeal.nD Cert.FinalLossReferenceIdeal.τ).loc Cert.FinalLossReferenceIdeal.main_v33) = v0 c
          ∧ r.2.mem ((c.tc : Thread Cert.FinalLossReferenceIdeal.nD Cert.FinalLossReferenceIdeal.τ).loc Cert.FinalLossReferenceIdeal.main_v54) = v1 c
          ∧ r.2.mem ((c.tc : Thread Cert.FinalLossReferenceIdeal.nD Cert.FinalLossReferenceIdeal.τ).loc Cert.FinalLossReferenceIdeal.main_v55) = v2 c
          ∧ r.2.mem ((c.tc : Thread Cert.FinalLossReferenceIdeal.nD Cert.FinalLossReferenceIdeal.τ).loc Cert.FinalLossReferenceIdeal.main_v73) = v3 c
          ∧ r.2.mem ((c.tc : Thread Cert.FinalLossReferenceIdeal.nD Cert.FinalLossReferenceIdeal.τ).loc Cert.FinalLossReferenceIdeal.main_arg0) = m' ((c.tc : Thread Cert.FinalLossReferenceIdeal.nD Cert.FinalLossReferenceIdeal.τ).loc Cert.FinalLossReferenceIdeal.main_arg0)
          ∧ r.2.mem ((c.tc : Thread Cert.FinalLossReferenceIdeal.nD Cert.FinalLossReferenceIdeal.τ).loc Cert.FinalLossReferenceIdeal.main_arg1) = m' ((c.tc : Thread Cert.FinalLossReferenceIdeal.nD Cert.FinalLossReferenceIdeal.τ).loc Cert.FinalLossReferenceIdeal.main_arg1)
          ∧ r.2.mem ((c.tc : Thread Cert.FinalLossReferenceIdeal.nD Cert.FinalLossReferenceIdeal.τ).loc Cert.FinalLossReferenceIdeal.main_arg2) = m' ((c.tc : Thread Cert.FinalLossReferenceIdeal.nD Cert.FinalLossReferenceIdeal.τ).loc Cert.FinalLossReferenceIdeal.main_arg2)
          ∧ r.2.mem ((c.tc : Thread Cert.FinalLossReferenceIdeal.nD Cert.FinalLossReferenceIdeal.τ).loc Cert.FinalLossReferenceIdeal.main_arg3) = m' ((c.tc : Thread Cert.FinalLossReferenceIdeal.nD Cert.FinalLossReferenceIdeal.τ).loc Cert.FinalLossReferenceIdeal.main_arg3))

def preserves_MixerA_MixerAIdeal : Prop :=
  True

def algebraic_MixerAIdeal_MixerAReferenceIdeal [hMixerAIdeal : Cert.MixerAIdeal.Facts] [hMixerAReferenceIdeal : Cert.MixerAReferenceIdeal.Facts] : Prop :=
  ∀ (m : (ℓ : Loc Cert.MixerAIdeal.nD Cert.MixerAIdeal.τ Cert.MixerAIdeal.sig) → Buf (Elt Ideal) ℓ) (g : Dev Cert.MixerAIdeal.nD → PrngReg)
    (m' : (ℓ : Loc Cert.MixerAReferenceIdeal.nD Cert.MixerAReferenceIdeal.τ Cert.MixerAReferenceIdeal.sig) → Buf (Elt Ideal) ℓ) (g' : Dev Cert.MixerAReferenceIdeal.nD → PrngReg), Pre_MixerAIdeal m →
    (∀ c : Dev Cert.MixerAIdeal.nD,
      m' ((c.tc : Thread Cert.MixerAReferenceIdeal.nD Cert.MixerAReferenceIdeal.τ).loc Cert.MixerAReferenceIdeal.main_arg0) = m ((c.tc : Thread Cert.MixerAIdeal.nD Cert.MixerAIdeal.τ).loc Cert.MixerAIdeal.main_arg0)
      ∧ m' ((c.tc : Thread Cert.MixerAReferenceIdeal.nD Cert.MixerAReferenceIdeal.τ).loc Cert.MixerAReferenceIdeal.main_arg1) = m ((c.tc : Thread Cert.MixerAIdeal.nD Cert.MixerAIdeal.τ).loc Cert.MixerAIdeal.main_arg1)) →
    ∃ (v0 : (c : Dev Cert.MixerAIdeal.nD) → Buf (Elt Ideal) ((c.tc : Thread Cert.MixerAIdeal.nD Cert.MixerAIdeal.τ).loc Cert.MixerAIdeal.main_v2)),
      θ_run (Cert.MixerAIdeal.defs (F := Ideal)) (onTc (τ := Cert.MixerAIdeal.τ) (Cert.MixerAIdeal.main (F := Ideal))) ⟨m, fun _ => 0, g⟩ (fun r => ∀ c : Dev Cert.MixerAIdeal.nD,
          r.2.mem ((c.tc : Thread Cert.MixerAIdeal.nD Cert.MixerAIdeal.τ).loc Cert.MixerAIdeal.main_v2) = v0 c
          ∧ r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
          ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1))
      ∧ θ_run (Cert.MixerAReferenceIdeal.defs (F := Ideal)) (onTc (τ := Cert.MixerAReferenceIdeal.τ) (Cert.MixerAReferenceIdeal.main (F := Ideal))) ⟨m', fun _ => 0, g'⟩ (fun r => ∀ c : Dev Cert.MixerAReferenceIdeal.nD,
          r.2.mem ((c.tc : Thread Cert.MixerAReferenceIdeal.nD Cert.MixerAReferenceIdeal.τ).loc Cert.MixerAReferenceIdeal.main_v27) = v0 c
          ∧ r.2.mem ((c.tc : Thread Cert.MixerAReferenceIdeal.nD Cert.MixerAReferenceIdeal.τ).loc Cert.MixerAReferenceIdeal.main_arg0) = m' ((c.tc : Thread Cert.MixerAReferenceIdeal.nD Cert.MixerAReferenceIdeal.τ).loc Cert.MixerAReferenceIdeal.main_arg0)
          ∧ r.2.mem ((c.tc : Thread Cert.MixerAReferenceIdeal.nD Cert.MixerAReferenceIdeal.τ).loc Cert.MixerAReferenceIdeal.main_arg1) = m' ((c.tc : Thread Cert.MixerAReferenceIdeal.nD Cert.MixerAReferenceIdeal.τ).loc Cert.MixerAReferenceIdeal.main_arg1))

def Claim : Prop :=
  ∃ (hKernel : Cert.Kernel.Facts) (hKernelIdeal : Cert.KernelIdeal.Facts) (hReferenceIdeal : Cert.ReferenceIdeal.Facts) (hMlpUp : Cert.MlpUp.Facts) (hMlpUpIdeal : Cert.MlpUpIdeal.Facts) (hMlpUpReferenceIdeal : Cert.MlpUpReferenceIdeal.Facts) (hMlpDown : Cert.MlpDown.Facts) (hMlpDownIdeal : Cert.MlpDownIdeal.Facts) (hMlpDownReferenceIdeal : Cert.MlpDownReferenceIdeal.Facts) (hMlpDownDw : Cert.MlpDownDw.Facts) (hMlpDownDwIdeal : Cert.MlpDownDwIdeal.Facts) (hMlpDownDwReferenceIdeal : Cert.MlpDownDwReferenceIdeal.Facts) (hMlpDownDx : Cert.MlpDownDx.Facts) (hMlpDownDxIdeal : Cert.MlpDownDxIdeal.Facts) (hMlpDownDxReferenceIdeal : Cert.MlpDownDxReferenceIdeal.Facts) (hMlpUpDw : Cert.MlpUpDw.Facts) (hMlpUpDwIdeal : Cert.MlpUpDwIdeal.Facts) (hMlpUpDwReferenceIdeal : Cert.MlpUpDwReferenceIdeal.Facts) (hMlpUpDx : Cert.MlpUpDx.Facts) (hMlpUpDxIdeal : Cert.MlpUpDxIdeal.Facts) (hMlpUpDxReferenceIdeal : Cert.MlpUpDxReferenceIdeal.Facts) (hInProj : Cert.InProj.Facts) (hInProjIdeal : Cert.InProjIdeal.Facts) (hInProjReferenceIdeal : Cert.InProjReferenceIdeal.Facts) (hInProjDw : Cert.InProjDw.Facts) (hInProjDwIdeal : Cert.InProjDwIdeal.Facts) (hInProjDwReferenceIdeal : Cert.InProjDwReferenceIdeal.Facts) (hInProjDx : Cert.InProjDx.Facts) (hInProjDxIdeal : Cert.InProjDxIdeal.Facts) (hInProjDxReferenceIdeal : Cert.InProjDxReferenceIdeal.Facts) (hOutProj : Cert.OutProj.Facts) (hOutProjIdeal : Cert.OutProjIdeal.Facts) (hOutProjReferenceIdeal : Cert.OutProjReferenceIdeal.Facts) (hOutProjDw : Cert.OutProjDw.Facts) (hOutProjDwIdeal : Cert.OutProjDwIdeal.Facts) (hOutProjDwReferenceIdeal : Cert.OutProjDwReferenceIdeal.Facts) (hOutProjDx : Cert.OutProjDx.Facts) (hOutProjDxIdeal : Cert.OutProjDxIdeal.Facts) (hOutProjDxReferenceIdeal : Cert.OutProjDxReferenceIdeal.Facts) (hQkv : Cert.Qkv.Facts) (hQkvIdeal : Cert.QkvIdeal.Facts) (hQkvReferenceIdeal : Cert.QkvReferenceIdeal.Facts) (hQkvDw : Cert.QkvDw.Facts) (hQkvDwIdeal : Cert.QkvDwIdeal.Facts) (hQkvDwReferenceIdeal : Cert.QkvDwReferenceIdeal.Facts) (hQkvDx : Cert.QkvDx.Facts) (hQkvDxIdeal : Cert.QkvDxIdeal.Facts) (hQkvDxReferenceIdeal : Cert.QkvDxReferenceIdeal.Facts) (hAttnOut : Cert.AttnOut.Facts) (hAttnOutIdeal : Cert.AttnOutIdeal.Facts) (hAttnOutReferenceIdeal : Cert.AttnOutReferenceIdeal.Facts) (hAttnOutDw : Cert.AttnOutDw.Facts) (hAttnOutDwIdeal : Cert.AttnOutDwIdeal.Facts) (hAttnOutDwReferenceIdeal : Cert.AttnOutDwReferenceIdeal.Facts) (hAttnOutDx : Cert.AttnOutDx.Facts) (hAttnOutDxIdeal : Cert.AttnOutDxIdeal.Facts) (hAttnOutDxReferenceIdeal : Cert.AttnOutDxReferenceIdeal.Facts) (hAdamwDown : Cert.AdamwDown.Facts) (hAdamwDownIdeal : Cert.AdamwDownIdeal.Facts) (hAdamwDownReferenceIdeal : Cert.AdamwDownReferenceIdeal.Facts) (hAdamwUp : Cert.AdamwUp.Facts) (hAdamwUpIdeal : Cert.AdamwUpIdeal.Facts) (hAdamwUpReferenceIdeal : Cert.AdamwUpReferenceIdeal.Facts) (hAdamwQkv : Cert.AdamwQkv.Facts) (hAdamwQkvIdeal : Cert.AdamwQkvIdeal.Facts) (hAdamwQkvReferenceIdeal : Cert.AdamwQkvReferenceIdeal.Facts) (hAdamwIn : Cert.AdamwIn.Facts) (hAdamwInIdeal : Cert.AdamwInIdeal.Facts) (hAdamwInReferenceIdeal : Cert.AdamwInReferenceIdeal.Facts) (hAdamwOut : Cert.AdamwOut.Facts) (hAdamwOutIdeal : Cert.AdamwOutIdeal.Facts) (hAdamwOutReferenceIdeal : Cert.AdamwOutReferenceIdeal.Facts) (hAdamwSmall : Cert.AdamwSmall.Facts) (hAdamwSmallIdeal : Cert.AdamwSmallIdeal.Facts) (hAdamwSmallReferenceIdeal : Cert.AdamwSmallReferenceIdeal.Facts) (hSumSmall : Cert.SumSmall.Facts) (hSumSmallIdeal : Cert.SumSmallIdeal.Facts) (hSumSmallReferenceIdeal : Cert.SumSmallReferenceIdeal.Facts) (hNormBwd : Cert.NormBwd.Facts) (hNormBwdIdeal : Cert.NormBwdIdeal.Facts) (hNormBwdReferenceIdeal : Cert.NormBwdReferenceIdeal.Facts) (hNormBwdPair : Cert.NormBwdPair.Facts) (hNormBwdPairIdeal : Cert.NormBwdPairIdeal.Facts) (hNormBwdPairReferenceIdeal : Cert.NormBwdPairReferenceIdeal.Facts) (hNormIn : Cert.NormIn.Facts) (hNormInIdeal : Cert.NormInIdeal.Facts) (hNormInReferenceIdeal : Cert.NormInReferenceIdeal.Facts) (hResidNorm : Cert.ResidNorm.Facts) (hResidNormIdeal : Cert.ResidNormIdeal.Facts) (hResidNormReferenceIdeal : Cert.ResidNormReferenceIdeal.Facts) (hFinalLoss : Cert.FinalLoss.Facts) (hFinalLossIdeal : Cert.FinalLossIdeal.Facts) (hFinalLossReferenceIdeal : Cert.FinalLossReferenceIdeal.Facts) (hMixerA : Cert.MixerA.Facts) (hMixerAIdeal : Cert.MixerAIdeal.Facts) (hMixerAReferenceIdeal : Cert.MixerAReferenceIdeal.Facts),
    quiescent_Kernel (hKernel := hKernel)
    ∧ quiescent_KernelIdeal (hKernelIdeal := hKernelIdeal)
    ∧ quiescent_ReferenceIdeal (hReferenceIdeal := hReferenceIdeal)
    ∧ quiescent_MlpUp (hMlpUp := hMlpUp)
    ∧ quiescent_MlpUpIdeal (hMlpUpIdeal := hMlpUpIdeal)
    ∧ quiescent_MlpUpReferenceIdeal (hMlpUpReferenceIdeal := hMlpUpReferenceIdeal)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_MlpDownDw (hMlpDownDw := hMlpDownDw)
    ∧ quiescent_MlpDownDwIdeal (hMlpDownDwIdeal := hMlpDownDwIdeal)
    ∧ quiescent_MlpDownDwReferenceIdeal (hMlpDownDwReferenceIdeal := hMlpDownDwReferenceIdeal)
    ∧ quiescent_MlpDownDx (hMlpDownDx := hMlpDownDx)
    ∧ quiescent_MlpDownDxIdeal (hMlpDownDxIdeal := hMlpDownDxIdeal)
    ∧ quiescent_MlpDownDxReferenceIdeal (hMlpDownDxReferenceIdeal := hMlpDownDxReferenceIdeal)
    ∧ quiescent_MlpUpDw (hMlpUpDw := hMlpUpDw)
    ∧ quiescent_MlpUpDwIdeal (hMlpUpDwIdeal := hMlpUpDwIdeal)
    ∧ quiescent_MlpUpDwReferenceIdeal (hMlpUpDwReferenceIdeal := hMlpUpDwReferenceIdeal)
    ∧ quiescent_MlpUpDx (hMlpUpDx := hMlpUpDx)
    ∧ quiescent_MlpUpDxIdeal (hMlpUpDxIdeal := hMlpUpDxIdeal)
    ∧ quiescent_MlpUpDxReferenceIdeal (hMlpUpDxReferenceIdeal := hMlpUpDxReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_InProjDw (hInProjDw := hInProjDw)
    ∧ quiescent_InProjDwIdeal (hInProjDwIdeal := hInProjDwIdeal)
    ∧ quiescent_InProjDwReferenceIdeal (hInProjDwReferenceIdeal := hInProjDwReferenceIdeal)
    ∧ quiescent_InProjDx (hInProjDx := hInProjDx)
    ∧ quiescent_InProjDxIdeal (hInProjDxIdeal := hInProjDxIdeal)
    ∧ quiescent_InProjDxReferenceIdeal (hInProjDxReferenceIdeal := hInProjDxReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OutProjDw (hOutProjDw := hOutProjDw)
    ∧ quiescent_OutProjDwIdeal (hOutProjDwIdeal := hOutProjDwIdeal)
    ∧ quiescent_OutProjDwReferenceIdeal (hOutProjDwReferenceIdeal := hOutProjDwReferenceIdeal)
    ∧ quiescent_OutProjDx (hOutProjDx := hOutProjDx)
    ∧ quiescent_OutProjDxIdeal (hOutProjDxIdeal := hOutProjDxIdeal)
    ∧ quiescent_OutProjDxReferenceIdeal (hOutProjDxReferenceIdeal := hOutProjDxReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_QkvDw (hQkvDw := hQkvDw)
    ∧ quiescent_QkvDwIdeal (hQkvDwIdeal := hQkvDwIdeal)
    ∧ quiescent_QkvDwReferenceIdeal (hQkvDwReferenceIdeal := hQkvDwReferenceIdeal)
    ∧ quiescent_QkvDx (hQkvDx := hQkvDx)
    ∧ quiescent_QkvDxIdeal (hQkvDxIdeal := hQkvDxIdeal)
    ∧ quiescent_QkvDxReferenceIdeal (hQkvDxReferenceIdeal := hQkvDxReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_AttnOutDw (hAttnOutDw := hAttnOutDw)
    ∧ quiescent_AttnOutDwIdeal (hAttnOutDwIdeal := hAttnOutDwIdeal)
    ∧ quiescent_AttnOutDwReferenceIdeal (hAttnOutDwReferenceIdeal := hAttnOutDwReferenceIdeal)
    ∧ quiescent_AttnOutDx (hAttnOutDx := hAttnOutDx)
    ∧ quiescent_AttnOutDxIdeal (hAttnOutDxIdeal := hAttnOutDxIdeal)
    ∧ quiescent_AttnOutDxReferenceIdeal (hAttnOutDxReferenceIdeal := hAttnOutDxReferenceIdeal)
    ∧ quiescent_AdamwDown (hAdamwDown := hAdamwDown)
    ∧ quiescent_AdamwDownIdeal (hAdamwDownIdeal := hAdamwDownIdeal)
    ∧ quiescent_AdamwDownReferenceIdeal (hAdamwDownReferenceIdeal := hAdamwDownReferenceIdeal)
    ∧ quiescent_AdamwUp (hAdamwUp := hAdamwUp)
    ∧ quiescent_AdamwUpIdeal (hAdamwUpIdeal := hAdamwUpIdeal)
    ∧ quiescent_AdamwUpReferenceIdeal (hAdamwUpReferenceIdeal := hAdamwUpReferenceIdeal)
    ∧ quiescent_AdamwQkv (hAdamwQkv := hAdamwQkv)
    ∧ quiescent_AdamwQkvIdeal (hAdamwQkvIdeal := hAdamwQkvIdeal)
    ∧ quiescent_AdamwQkvReferenceIdeal (hAdamwQkvReferenceIdeal := hAdamwQkvReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_NormBwdPair (hNormBwdPair := hNormBwdPair)
    ∧ quiescent_NormBwdPairIdeal (hNormBwdPairIdeal := hNormBwdPairIdeal)
    ∧ quiescent_NormBwdPairReferenceIdeal (hNormBwdPairReferenceIdeal := hNormBwdPairReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_ResidNorm (hResidNorm := hResidNorm)
    ∧ quiescent_ResidNormIdeal (hResidNormIdeal := hResidNormIdeal)
    ∧ quiescent_ResidNormReferenceIdeal (hResidNormReferenceIdeal := hResidNormReferenceIdeal)
    ∧ quiescent_FinalLoss (hFinalLoss := hFinalLoss)
    ∧ quiescent_FinalLossIdeal (hFinalLossIdeal := hFinalLossIdeal)
    ∧ quiescent_FinalLossReferenceIdeal (hFinalLossReferenceIdeal := hFinalLossReferenceIdeal)
    ∧ quiescent_MixerA (hMixerA := hMixerA)
    ∧ quiescent_MixerAIdeal (hMixerAIdeal := hMixerAIdeal)
    ∧ quiescent_MixerAReferenceIdeal (hMixerAReferenceIdeal := hMixerAReferenceIdeal)
    ∧ preserves_Kernel_KernelIdeal
    ∧ algebraic_KernelIdeal_ReferenceIdeal (hKernelIdeal := hKernelIdeal) (hReferenceIdeal := hReferenceIdeal)
    ∧ preserves_MlpUp_MlpUpIdeal
    ∧ algebraic_MlpUpIdeal_MlpUpReferenceIdeal (hMlpUpIdeal := hMlpUpIdeal) (hMlpUpReferenceIdeal := hMlpUpReferenceIdeal)
    ∧ preserves_MlpDown_MlpDownIdeal
    ∧ algebraic_MlpDownIdeal_MlpDownReferenceIdeal (hMlpDownIdeal := hMlpDownIdeal) (hMlpDownReferenceIdeal := hMlpDownReferenceIdeal)
    ∧ preserves_MlpDownDw_MlpDownDwIdeal
    ∧ algebraic_MlpDownDwIdeal_MlpDownDwReferenceIdeal (hMlpDownDwIdeal := hMlpDownDwIdeal) (hMlpDownDwReferenceIdeal := hMlpDownDwReferenceIdeal)
    ∧ preserves_MlpDownDx_MlpDownDxIdeal
    ∧ algebraic_MlpDownDxIdeal_MlpDownDxReferenceIdeal (hMlpDownDxIdeal := hMlpDownDxIdeal) (hMlpDownDxReferenceIdeal := hMlpDownDxReferenceIdeal)
    ∧ preserves_MlpUpDw_MlpUpDwIdeal
    ∧ algebraic_MlpUpDwIdeal_MlpUpDwReferenceIdeal (hMlpUpDwIdeal := hMlpUpDwIdeal) (hMlpUpDwReferenceIdeal := hMlpUpDwReferenceIdeal)
    ∧ preserves_MlpUpDx_MlpUpDxIdeal
    ∧ algebraic_MlpUpDxIdeal_MlpUpDxReferenceIdeal (hMlpUpDxIdeal := hMlpUpDxIdeal) (hMlpUpDxReferenceIdeal := hMlpUpDxReferenceIdeal)
    ∧ preserves_InProj_InProjIdeal
    ∧ algebraic_InProjIdeal_InProjReferenceIdeal (hInProjIdeal := hInProjIdeal) (hInProjReferenceIdeal := hInProjReferenceIdeal)
    ∧ preserves_InProjDw_InProjDwIdeal
    ∧ algebraic_InProjDwIdeal_InProjDwReferenceIdeal (hInProjDwIdeal := hInProjDwIdeal) (hInProjDwReferenceIdeal := hInProjDwReferenceIdeal)
    ∧ preserves_InProjDx_InProjDxIdeal
    ∧ algebraic_InProjDxIdeal_InProjDxReferenceIdeal (hInProjDxIdeal := hInProjDxIdeal) (hInProjDxReferenceIdeal := hInProjDxReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OutProjDw_OutProjDwIdeal
    ∧ algebraic_OutProjDwIdeal_OutProjDwReferenceIdeal (hOutProjDwIdeal := hOutProjDwIdeal) (hOutProjDwReferenceIdeal := hOutProjDwReferenceIdeal)
    ∧ preserves_OutProjDx_OutProjDxIdeal
    ∧ algebraic_OutProjDxIdeal_OutProjDxReferenceIdeal (hOutProjDxIdeal := hOutProjDxIdeal) (hOutProjDxReferenceIdeal := hOutProjDxReferenceIdeal)
    ∧ preserves_Qkv_QkvIdeal
    ∧ algebraic_QkvIdeal_QkvReferenceIdeal (hQkvIdeal := hQkvIdeal) (hQkvReferenceIdeal := hQkvReferenceIdeal)
    ∧ preserves_QkvDw_QkvDwIdeal
    ∧ algebraic_QkvDwIdeal_QkvDwReferenceIdeal (hQkvDwIdeal := hQkvDwIdeal) (hQkvDwReferenceIdeal := hQkvDwReferenceIdeal)
    ∧ preserves_QkvDx_QkvDxIdeal
    ∧ algebraic_QkvDxIdeal_QkvDxReferenceIdeal (hQkvDxIdeal := hQkvDxIdeal) (hQkvDxReferenceIdeal := hQkvDxReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_AttnOutDw_AttnOutDwIdeal
    ∧ algebraic_AttnOutDwIdeal_AttnOutDwReferenceIdeal (hAttnOutDwIdeal := hAttnOutDwIdeal) (hAttnOutDwReferenceIdeal := hAttnOutDwReferenceIdeal)
    ∧ preserves_AttnOutDx_AttnOutDxIdeal
    ∧ algebraic_AttnOutDxIdeal_AttnOutDxReferenceIdeal (hAttnOutDxIdeal := hAttnOutDxIdeal) (hAttnOutDxReferenceIdeal := hAttnOutDxReferenceIdeal)
    ∧ preserves_AdamwDown_AdamwDownIdeal
    ∧ algebraic_AdamwDownIdeal_AdamwDownReferenceIdeal (hAdamwDownIdeal := hAdamwDownIdeal) (hAdamwDownReferenceIdeal := hAdamwDownReferenceIdeal)
    ∧ preserves_AdamwUp_AdamwUpIdeal
    ∧ algebraic_AdamwUpIdeal_AdamwUpReferenceIdeal (hAdamwUpIdeal := hAdamwUpIdeal) (hAdamwUpReferenceIdeal := hAdamwUpReferenceIdeal)
    ∧ preserves_AdamwQkv_AdamwQkvIdeal
    ∧ algebraic_AdamwQkvIdeal_AdamwQkvReferenceIdeal (hAdamwQkvIdeal := hAdamwQkvIdeal) (hAdamwQkvReferenceIdeal := hAdamwQkvReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_NormBwdPair_NormBwdPairIdeal
    ∧ algebraic_NormBwdPairIdeal_NormBwdPairReferenceIdeal (hNormBwdPairIdeal := hNormBwdPairIdeal) (hNormBwdPairReferenceIdeal := hNormBwdPairReferenceIdeal)
    ∧ preserves_NormIn_NormInIdeal
    ∧ algebraic_NormInIdeal_NormInReferenceIdeal (hNormInIdeal := hNormInIdeal) (hNormInReferenceIdeal := hNormInReferenceIdeal)
    ∧ preserves_ResidNorm_ResidNormIdeal
    ∧ algebraic_ResidNormIdeal_ResidNormReferenceIdeal (hResidNormIdeal := hResidNormIdeal) (hResidNormReferenceIdeal := hResidNormReferenceIdeal)
    ∧ preserves_FinalLoss_FinalLossIdeal
    ∧ algebraic_FinalLossIdeal_FinalLossReferenceIdeal (hFinalLossIdeal := hFinalLossIdeal) (hFinalLossReferenceIdeal := hFinalLossReferenceIdeal)
    ∧ preserves_MixerA_MixerAIdeal
    ∧ algebraic_MixerAIdeal_MixerAReferenceIdeal (hMixerAIdeal := hMixerAIdeal) (hMixerAReferenceIdeal := hMixerAReferenceIdeal)
-- ==== Kernel.lean ====
abbrev S5x4096x1024 : Shape := ⟨3, ![5, 4096, 1024]⟩
abbrev S3x1024 : Shape := ⟨2, ![3, 1024]⟩
abbrev S2x4096x1024 : Shape := ⟨3, ![2, 4096, 1024]⟩
abbrev S6x4096x1024 : Shape := ⟨3, ![6, 4096, 1024]⟩
abbrev S8x8x128 : Shape := ⟨3, ![8, 8, 128]⟩
abbrev S1x4096x128 : Shape := ⟨3, ![1, 4096, 128]⟩
abbrev S3x128 : Shape := ⟨2, ![3, 128]⟩
abbrev S3x4096x128 : Shape := ⟨3, ![3, 4096, 128]⟩
abbrev S1x8x128 : Shape := ⟨3, ![1, 8, 128]⟩
abbrev S4104x128 : Shape := ⟨2, ![4104, 128]⟩
abbrev S8x128 : Shape := ⟨2, ![8, 128]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S3x4096x1024 : Shape := ⟨3, ![3, 4096, 1024]⟩
abbrev S8x3x128 : Shape := ⟨3, ![8, 3, 128]⟩
abbrev S3x8x128 : Shape := ⟨3, ![3, 8, 128]⟩

abbrev nBuf : Space → Nat
  | .hbm => 9
  | .vmem => 16
  | .smem => 0
  | _ => 0

abbrev bufTy : (tb : Table) → Fin (tcTables nBuf tb) → BufTy
  | .hbm, ⟨0, _⟩ => ⟨S5x4096x1024, .f32⟩
  | .hbm, ⟨1, _⟩ => ⟨S3x1024, .f32⟩
  | .hbm, ⟨2, _⟩ => ⟨S2x4096x1024, .f32⟩
  | .hbm, ⟨3, _⟩ => ⟨S6x4096x1024, .bf16⟩
  | .hbm, ⟨4, _⟩ => ⟨S8x8x128, .f32⟩
  | .hbm, ⟨5, _⟩ => ⟨S3x4096x1024, .bf16⟩
  | .hbm, ⟨6, _⟩ => ⟨S8x3x128, .f32⟩
  | .hbm, ⟨7, _⟩ => ⟨S3x8x128, .f32⟩
  | .hbm, ⟨8, _⟩ => ⟨S3x1024, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S3x128, .f32⟩
  | .local _ .vmem, ⟨7, _⟩ => ⟨S3x128, .f32⟩
  | .local _ .vmem, ⟨8, _⟩ => ⟨S1x4096x128, .f32⟩
  | .local _ .vmem, ⟨9, _⟩ => ⟨S1x4096x128, .f32⟩
  | .local _ .vmem, ⟨10, _⟩ => ⟨S3x4096x128, .bf16⟩
  | .local _ .vmem, ⟨11, _⟩ => ⟨S3x4096x128, .bf16⟩
  | .local _ .vmem, ⟨12, _⟩ => ⟨S1x8x128, .f32⟩
  | .local _ .vmem, ⟨13, _⟩ => ⟨S1x8x128, .f32⟩
  | .local _ .vmem, ⟨14, _⟩ => ⟨S4104x128, .f32⟩
  | .local _ .vmem, ⟨15, _⟩ => ⟨S4104x128, .f32⟩
  | _, _ => ⟨S5x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S5x4096x1024 : Shape := ⟨3, ![5, 4096, 1024]⟩
abbrev S3x1024 : Shape := ⟨2, ![3, 1024]⟩
abbrev S2x4096x1024 : Shape := ⟨3, ![2, 4096, 1024]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1024 : Shape := ⟨2, ![1, 1024]⟩
abbrev S1024 : Shape := ⟨1, ![1024]⟩
abbrev S1x1x1024 : Shape := ⟨3, ![1, 1, 1024]⟩
abbrev S3x4096x1024 : Shape := ⟨3, ![3, 4096, 1024]⟩

abbrev nBuf : Space → Nat
  | .hbm => 82
  | .vmem => 0
  | .smem => 0
  | _ => 0

abbrev bufTy : (tb : Table) → Fin (tcTables nBuf tb) → BufTy
  | .hbm, ⟨0, _⟩ => ⟨S5x4096x1024, .f32⟩
  | .hbm, ⟨1, _⟩ => ⟨S3x1024, .f32⟩
  | .hbm, ⟨2, _⟩ => ⟨S2x4096x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x2x1024, .f32⟩
  | .hbm, ⟨9, _⟩ => ⟨S1x4098x1024, .f32⟩
  | .hbm, ⟨10, _⟩ => ⟨S_, .f32⟩
  | .hbm, ⟨11, _⟩ => ⟨S1x2x1024, .f32⟩
  | .hbm, ⟨12, _⟩ => ⟨S1x1024, .f32⟩
  | .hbm, ⟨13, _⟩ => ⟨S1024, .f32⟩
  | .hbm, ⟨14, _⟩ => ⟨S1x1x1024, .f32⟩
  | .hbm, ⟨15, _⟩ => ⟨S1x4096x1024, .f32⟩
  | .hbm, ⟨16, _⟩ => ⟨S1x4096x1024, .f32⟩
  | .hbm, ⟨17, _⟩ => ⟨S1x1024, .f32⟩
  | .hbm, ⟨18, _⟩ => ⟨S1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x1024, .f32⟩
  | .hbm, ⟨25, _⟩ => ⟨S1024, .f32⟩
  | .hbm, ⟨26, _⟩ => ⟨S1x4096x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x1024, .f32⟩
  | .hbm, ⟨40, _⟩ => ⟨S1x1x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1x4098x1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S_, .f32⟩
  | .hbm, ⟨52, _⟩ => ⟨S1x1024, .f32⟩
  | .hbm, ⟨53, _⟩ => ⟨S1x1x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S1x4098x1024, .f32⟩
  | .hbm, ⟨58, _⟩ => ⟨S1x4098x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S_, .f32⟩
  | .hbm, ⟨67, _⟩ => ⟨S1x1024, .f32⟩
  | .hbm, ⟨68, _⟩ => ⟨S1x1x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S3x1024, .f32⟩
  | .hbm, ⟨74, _⟩ => ⟨S3x1024, .f32⟩
  | .hbm, ⟨75, _⟩ => ⟨S1x2x1024, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S3x4096x1024, .f32⟩
  | .hbm, ⟨81, _⟩ => ⟨S3x4096x1024, .bf16⟩
  | _, _ => ⟨S5x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== MlpUp.lean ====
abbrev S4096x2048 : Shape := ⟨2, ![4096, 2048]⟩
abbrev S8x2048x1024 : Shape := ⟨3, ![8, 2048, 1024]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpReferenceIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S4096x8192, .bf16⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MlpDown.lean ====
abbrev S4096x8192 : Shape := ⟨2, ![4096, 8192]⟩
abbrev S8192x2048 : Shape := ⟨2, ![8192, 2048]⟩
abbrev S4096x2048 : Shape := ⟨2, ![4096, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | .hbm, ⟨5, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlpDownDw.lean ====
abbrev S4096x8192 : Shape := ⟨2, ![4096, 8192]⟩
abbrev S4096x2048 : Shape := ⟨2, ![4096, 2048]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpDownDx.lean ====
abbrev S4096x2048 : Shape := ⟨2, ![4096, 2048]⟩
abbrev S8x1024x2048 : Shape := ⟨3, ![8, 1024, 2048]⟩
abbrev S4096x8192 : Shape := ⟨2, ![4096, 8192]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x1024x2048, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownDxReferenceIdeal.lean ====
abbrev S4096x2048 : Shape := ⟨2, ![4096, 2048]⟩
abbrev S8x1024x2048 : Shape := ⟨3, ![8, 1024, 2048]⟩
abbrev S4096x8192 : Shape := ⟨2, ![4096, 8192]⟩
abbrev S_ : Shape := ⟨0, ![]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S8x1024x2048, .f32⟩
  | .hbm, ⟨14, _⟩ => ⟨S8192x2048, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== MlpUpDw.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDwReferenceIdeal.lean ====
abbrev S4096x2048 : Shape := ⟨2, ![4096, 2048]⟩
abbrev S4096x8192 : Shape := ⟨2, ![4096, 8192]⟩
abbrev S_ : Shape := ⟨0, ![]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S8x2048x1024, .f32⟩
  | .hbm, ⟨4, _⟩ => ⟨S4096x2048, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MlpUpDx.lean ====
abbrev S4096x8192 : Shape := ⟨2, ![4096, 8192]⟩
abbrev S8x2048x1024 : Shape := ⟨3, ![8, 2048, 1024]⟩
abbrev S4096x2048 : Shape := ⟨2, ![4096, 2048]⟩
abbrev S2048x2048 : Shape := ⟨2, ![2048, 2048]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_12 : BitVec 32 := 3#32
  let v19 : BitVec 1 := Scalar.cmpi .eq arg2 c3_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDxReferenceIdeal.lean ====
abbrev S4096x8192 : Shape := ⟨2, ![4096, 8192]⟩
abbrev S8x2048x1024 : Shape := ⟨3, ![8, 2048, 1024]⟩
abbrev S_ : Shape := ⟨0, ![]⟩
abbrev S4096x2048 : Shape := ⟨2, ![4096, 2048]⟩
abbrev S2048x8x1024 : Shape := ⟨3, ![2048, 8, 1024]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S_, .f32⟩
  | .hbm, ⟨3, _⟩ => ⟨S4096x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InProj.lean ====
abbrev S4096x2048 : Shape := ⟨2, ![4096, 2048]⟩
abbrev S5120x2048 : Shape := ⟨2, ![5120, 2048]⟩
abbrev S5x4096x1024 : Shape := ⟨3, ![5, 4096, 1024]⟩
abbrev S2048x2048 : Shape := ⟨2, ![2048, 2048]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5120x2048, .bf16⟩
  | .hbm, ⟨2, _⟩ => ⟨S5x4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .f32⟩
  | .local _ .vmem, ⟨5, _⟩ => ⟨S1x2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S4096x2048 : Shape := ⟨2, ![4096, 2048]⟩
abbrev S5120x2048 : Shape := ⟨2, ![5120, 2048]⟩
abbrev S2048x5120 : Shape := ⟨2, ![2048, 5120]⟩
abbrev S4096x5120 : Shape := ⟨2, ![4096, 5120]⟩
abbrev S4096x5x1024 : Shape := ⟨3, ![4096, 5, 1024]⟩
abbrev S5x4096x1024 : Shape := ⟨3, ![5, 4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5120x2048, .bf16⟩
  | .hbm, ⟨2, _⟩ => ⟨S4096x2048, .f32⟩
  | .hbm, ⟨3, _⟩ => ⟨S5120x2048, .f32⟩
  | .hbm, ⟨4, _⟩ => ⟨S2048x5120, .f32⟩
  | .hbm, ⟨5, _⟩ => ⟨S4096x5120, .f32⟩
  | .hbm, ⟨6, _⟩ => ⟨S4096x5x1024, .f32⟩
  | .hbm, ⟨7, _⟩ => ⟨S5x4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InProjDw.lean ====
abbrev S6x4096x1024 : Shape := ⟨3, ![6, 4096, 1024]⟩
abbrev S4096x2048 : Shape := ⟨2, ![4096, 2048]⟩
abbrev S5120x2048 : Shape := ⟨2, ![5120, 2048]⟩
abbrev S1x4096x1024 : Shape := ⟨3, ![1, 4096, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S6x4096x1024, .bf16⟩
  | .hbm, ⟨1, _⟩ => ⟨S4096x2048, .bf16⟩
  | .hbm, ⟨2, _⟩ => ⟨S5120x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwReferenceIdeal.lean ====
abbrev S6x4096x1024 : Shape := ⟨3, ![6, 4096, 1024]⟩
abbrev S4096x2048 : Shape := ⟨2, ![4096, 2048]⟩
abbrev S5x4096x1024 : Shape := ⟨3, ![5, 4096, 1024]⟩
abbrev S4096x5x1024 : Shape := ⟨3, ![4096, 5, 1024]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 14
  | .vmem => 0
  | .smem => 0
  | _ => 0

abbrev bufTy : (tb : Table) → Fin (tcTables nBuf tb) → BufTy
  | .hbm, ⟨0, _⟩ => ⟨S6x4096x1024, .bf16⟩
  | .hbm, ⟨1, _⟩ => ⟨S4096x2048, .bf16⟩
  | .hbm, ⟨2, _⟩ => ⟨S5x4096x1024, .bf16⟩
  | .hbm, ⟨3, _⟩ => ⟨S5x4096x1024, .f32⟩
  | .hbm, ⟨4, _⟩ => ⟨S4096x5x1024, .f32⟩
  | .hbm, ⟨5, _⟩ => ⟨S4096x5120, .f32⟩
  | .hbm, ⟨6, _⟩ => ⟨S_, .f32⟩
  | .hbm, ⟨7, _⟩ => ⟨S2048x5120, .f32⟩
  | .hbm, ⟨8, _⟩ => ⟨S4096x2048, .f32⟩
  | .hbm, ⟨9, _⟩ => ⟨S4096x5120, .f32⟩
  | .hbm, ⟨10, _⟩ => ⟨S5120x2048, .f32⟩
  | .hbm, ⟨11, _⟩ => ⟨S2048x5120, .f32⟩
  | .hbm, ⟨12, _⟩ => ⟨S5120x2048, .f32⟩
  | .hbm, ⟨13, _⟩ => ⟨S5120x2048, .bf16⟩
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InProjDx.lean ====
abbrev S6x4096x1024 : Shape := ⟨3, ![6, 4096, 1024]⟩
abbrev S5120x2048 : Shape := ⟨2, ![5120, 2048]⟩
abbrev S4096x2048 : Shape := ⟨2, ![4096, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S6x4096x1024, .bf16⟩
  | .hbm, ⟨1, _⟩ => ⟨S5120x2048, .bf16⟩
  | .hbm, ⟨2, _⟩ => ⟨S4096x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond3 (i : grid0.Coords) : BitVec 1 :=
  let arg2 : BitVec 32 := BitVec.ofNat 32 (i 2).val
  let c4_i32_7 : BitVec 32 := 4#32
  let v12 : BitVec 1 := Scalar.cmpi .eq arg2 c4_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxReferenceIdeal.lean ====
abbrev S6x4096x1024 : Shape := ⟨3, ![6, 4096, 1024]⟩
abbrev S5120x2048 : Shape := ⟨2, ![5120, 2048]⟩
abbrev S5x4096x1024 : Shape := ⟨3, ![5, 4096, 1024]⟩
abbrev S4096x5x1024 : Shape := ⟨3, ![4096, 5, 1024]⟩
abbrev S4096x5120 : Shape := ⟨2, ![4096, 5120]⟩
abbrev S_ : Shape := ⟨0, ![]⟩
abbrev S4096x2048 : Shape := ⟨2, ![4096, 2048]⟩
abbrev S2048x5120 : Shape := ⟨2, ![2048, 5120]⟩

abbrev nBuf : Space → Nat
  | .hbm => 13
  | .vmem => 0
  | .smem => 0
  | _ => 0

abbrev bufTy : (tb : Table) → Fin (tcTables nBuf tb) → BufTy
  | .hbm, ⟨0, _⟩ => ⟨S6x4096x1024, .bf16⟩
  | .hbm, ⟨1, _⟩ => ⟨S5120x2048, .bf16⟩
  | .hbm, ⟨2, _⟩ => ⟨S5x4096x1024, .bf16⟩
  | .hbm, ⟨3, _⟩ => ⟨S5x4096x1024, .f32⟩
  | .hbm, ⟨4, _⟩ => ⟨S4096x5x1024, .f32⟩
  | .hbm, ⟨5, _⟩ => ⟨S4096x5120, .f32⟩
  | .hbm, ⟨6, _⟩ => ⟨S_, .f32⟩
  | .hbm, ⟨7, _⟩ => ⟨S4096x2048, .f32⟩
  | .hbm, ⟨8, _⟩ => ⟨S5120x2048, .f32⟩
  | .hbm, ⟨9, _⟩ => ⟨S2048x5120, .f32⟩
  | .hbm, ⟨10, _⟩ => ⟨S4096x5120, .f32⟩
  | .hbm, ⟨11, _⟩ => ⟨S4096x2048, .f32⟩
  | .hbm, ⟨12, _⟩ => ⟨S4096x2048, .bf16⟩
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OutProj.lean ====
abbrev S2x4096x1024 : Shape := ⟨3, ![2, 4096, 1024]⟩
abbrev S2048x2048 : Shape := ⟨2, ![2048, 2048]⟩
abbrev S4096x2048 : Shape := ⟨2, ![4096, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x1024, .bf16⟩
  | .hbm, ⟨1, _⟩ => ⟨S2048x2048, .bf16⟩
  | .hbm, ⟨2, _⟩ => ⟨S4096x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjReferenceIdeal.lean ====
abbrev S2x4096x1024 : Shape := ⟨3, ![2, 4096, 1024]⟩
abbrev S2048x2048 : Shape := ⟨2, ![2048, 2048]⟩
abbrev S4096x2x1024 : Shape := ⟨3, ![4096, 2, 1024]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2048x2048, .bf16⟩
  | .hbm, ⟨2, _⟩ => ⟨S2x4096x1024, .f32⟩
  | .hbm, ⟨3, _⟩ => ⟨S4096x2x1024, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProjDw.lean ====
abbrev S2x4096x1024 : Shape := ⟨3, ![2, 4096, 1024]⟩
abbrev S4096x2048 : Shape := ⟨2, ![4096, 2048]⟩
abbrev S2048x2048 : Shape := ⟨2, ![2048, 2048]⟩
abbrev S1x4096x1024 : Shape := ⟨3, ![1, 4096, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S4096x2048, .bf16⟩
  | .hbm, ⟨2, _⟩ => ⟨S2048x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwReferenceIdeal.lean ====
abbrev S2x4096x1024 : Shape := ⟨3, ![2, 4096, 1024]⟩
abbrev S4096x2048 : Shape := ⟨2, ![4096, 2048]⟩
abbrev S_ : Shape := ⟨0, ![]⟩
abbrev S2048x2048 : Shape := ⟨2, ![2048, 2048]⟩
abbrev S4096x2x1024 : Shape := ⟨3, ![4096, 2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S2x4096x1024, .f32⟩
  | .hbm, ⟨5, _⟩ => ⟨S4096x2x1024, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProjDx.lean ====
abbrev S4096x2048 : Shape := ⟨2, ![4096, 2048]⟩
abbrev S2048x2048 : Shape := ⟨2, ![2048, 2048]⟩
abbrev S2x4096x1024 : Shape := ⟨3, ![2, 4096, 1024]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2x4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .f32⟩
  | .local _ .vmem, ⟨5, _⟩ => ⟨S1x2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxReferenceIdeal.lean ====
abbrev S4096x2048 : Shape := ⟨2, ![4096, 2048]⟩
abbrev S2048x2048 : Shape := ⟨2, ![2048, 2048]⟩
abbrev S_ : Shape := ⟨0, ![]⟩
abbrev S2x4096x1024 : Shape := ⟨3, ![2, 4096, 1024]⟩
abbrev S4096x2x1024 : Shape := ⟨3, ![4096, 2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S2x4096x1024, .f32⟩
  | .hbm, ⟨4, _⟩ => ⟨S4096x2x1024, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2x1024, .f32⟩
  | .hbm, ⟨11, _⟩ => ⟨S2x4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Qkv.lean ====
abbrev S4096x2048 : Shape := ⟨2, ![4096, 2048]⟩
abbrev S6144x2048 : Shape := ⟨2, ![6144, 2048]⟩
abbrev S3x4096x2048 : Shape := ⟨3, ![3, 4096, 2048]⟩
abbrev S2048x2048 : Shape := ⟨2, ![2048, 2048]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S3x4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .bf16⟩
  | .local _ .vmem, ⟨5, _⟩ => ⟨S1x2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvReferenceIdeal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩
abbrev S4096x3x2048 : Shape := ⟨3, ![4096, 3, 2048]⟩
abbrev S3x4096x2048 : Shape := ⟨3, ![3, 4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x2048, .f32⟩
  | .hbm, ⟨3, _⟩ => ⟨S6144x2048, .f32⟩
  | .hbm, ⟨4, _⟩ => ⟨S2048x6144, .f32⟩
  | .hbm, ⟨5, _⟩ => ⟨S4096x6144, .f32⟩
  | .hbm, ⟨6, _⟩ => ⟨S4096x3x2048, .f32⟩
  | .hbm, ⟨7, _⟩ => ⟨S3x4096x2048, .f32⟩
  | .hbm, ⟨8, _⟩ => ⟨S3x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== QkvDw.lean ====
abbrev S3x4096x2048 : Shape := ⟨3, ![3, 4096, 2048]⟩
abbrev S4096x2048 : Shape := ⟨2, ![4096, 2048]⟩
abbrev S6144x2048 : Shape := ⟨2, ![6144, 2048]⟩
abbrev S1x4096x1024 : Shape := ⟨3, ![1, 4096, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S3x4096x2048, .bf16⟩
  | .hbm, ⟨1, _⟩ => ⟨S4096x2048, .bf16⟩
  | .hbm, ⟨2, _⟩ => ⟨S6144x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwReferenceIdeal.lean ====
abbrev S3x4096x2048 : Shape := ⟨3, ![3, 4096, 2048]⟩
abbrev S4096x2048 : Shape := ⟨2, ![4096, 2048]⟩
abbrev S4096x3x2048 : Shape := ⟨3, ![4096, 3, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 13
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S4096x2048, .bf16⟩
  | .hbm, ⟨2, _⟩ => ⟨S3x4096x2048, .f32⟩
  | .hbm, ⟨3, _⟩ => ⟨S4096x3x2048, .f32⟩
  | .hbm, ⟨4, _⟩ => ⟨S4096x6144, .f32⟩
  | .hbm, ⟨5, _⟩ => ⟨S_, .f32⟩
  | .hbm, ⟨6, _⟩ => ⟨S2048x6144, .f32⟩
  | .hbm, ⟨7, _⟩ => ⟨S4096x2048, .f32⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S6144x2048, .f32⟩
  | .hbm, ⟨12, _⟩ => ⟨S6144x2048, .bf16⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== QkvDx.lean ====
abbrev S3x4096x2048 : Shape := ⟨3, ![3, 4096, 2048]⟩
abbrev S6144x2048 : Shape := ⟨2, ![6144, 2048]⟩
abbrev S4096x2048 : Shape := ⟨2, ![4096, 2048]⟩
abbrev S1x2048x2048 : Shape := ⟨3, ![1, 2048, 2048]⟩
abbrev S2048x1024 : Shape := ⟨2, ![2048, 1024]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S3x4096x2048, .bf16⟩
  | .hbm, ⟨1, _⟩ => ⟨S6144x2048, .bf16⟩
  | .hbm, ⟨2, _⟩ => ⟨S4096x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_7 : BitVec 32 := 2#32
  let v12 : BitVec 1 := Scalar.cmpi .eq arg2 c2_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxReferenceIdeal.lean ====
abbrev S3x4096x2048 : Shape := ⟨3, ![3, 4096, 2048]⟩
abbrev S6144x2048 : Shape := ⟨2, ![6144, 2048]⟩
abbrev S4096x3x2048 : Shape := ⟨3, ![4096, 3, 2048]⟩
abbrev S4096x6144 : Shape := ⟨2, ![4096, 6144]⟩
abbrev S_ : Shape := ⟨0, ![]⟩
abbrev S4096x2048 : Shape := ⟨2, ![4096, 2048]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S6144x2048, .bf16⟩
  | .hbm, ⟨2, _⟩ => ⟨S3x4096x2048, .f32⟩
  | .hbm, ⟨3, _⟩ => ⟨S4096x3x2048, .f32⟩
  | .hbm, ⟨4, _⟩ => ⟨S4096x6144, .f32⟩
  | .hbm, ⟨5, _⟩ => ⟨S_, .f32⟩
  | .hbm, ⟨6, _⟩ => ⟨S4096x2048, .f32⟩
  | .hbm, ⟨7, _⟩ => ⟨S6144x2048, .f32⟩
  | .hbm, ⟨8, _⟩ => ⟨S2048x6144, .f32⟩
  | .hbm, ⟨9, _⟩ => ⟨S4096x6144, .f32⟩
  | .hbm, ⟨10, _⟩ => ⟨S4096x2048, .f32⟩
  | .hbm, ⟨11, _⟩ => ⟨S4096x2048, .bf16⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AttnOut.lean ====
abbrev S4096x2048 : Shape := ⟨2, ![4096, 2048]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutReferenceIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnOutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnOutDx.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamwDown.lean ====
abbrev S8x1024x2048 : Shape := ⟨3, ![8, 1024, 2048]⟩
abbrev S2x1024x2048 : Shape := ⟨3, ![2, 1024, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c8_i32_6 : BitVec 32 := 8#32
  let c0_i32_9 : BitVec 32 := 0#32
  let v26 : BitVec 1 := Scalar.cmpi .sgt c8_i32_6 c0_i32_9
  let v27 : BitVec 32 := Scalar.extui v26
  let c0_i32_10 : BitVec 32 := 0#32
  let v28 : BitVec 1 := Scalar.cmpi .slt c8_i32_6 c0_i32_10
  let v29 : BitVec 32 := Scalar.extui v28
  let v30 : BitVec 32 := Scalar.subi v27 v29
  let v31 : BitVec 1 := Scalar.cmpi .ne v25 v30
  let v32 : BitVec 32 := Scalar.remsi arg0 c8_i32_6
  let c0_i32_11 : BitVec 32 := 0#32
  let v33 : BitVec 1 := Scalar.cmpi .ne v32 c0_i32_11
  let v34 : BitVec 1 := Scalar.andi v31 v33
  let v20 : BitVec 32 := Scalar.divsi arg0 c8_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  let c0_i32_14 : BitVec 32 := 0#32
  ![c0_i32_12.toNat, v28.toNat, c0_i32_13.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  let c0_i32_14 : BitVec 32 := 0#32
  ![c0_i32_12.toNat, v28.toNat, c0_i32_13.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwDownReferenceIdeal.lean ====
abbrev S8x1024x2048 : Shape := ⟨3, ![8, 1024, 2048]⟩
abbrev S2x1024x2048 : Shape := ⟨3, ![2, 1024, 2048]⟩
abbrev S_ : Shape := ⟨0, ![]⟩
abbrev S1024x2048 : Shape := ⟨2, ![1024, 2048]⟩
abbrev S1x1024x2048 : Shape := ⟨3, ![1, 1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S8x1024x2048, .bf16⟩
  | .hbm, ⟨2, _⟩ => ⟨S2x1024x2048, .f32⟩
  | .hbm, ⟨3, _⟩ => ⟨S2x1024x2048, .f32⟩
  | .hbm, ⟨4, _⟩ => ⟨S2x1024x2048, .f32⟩
  | .hbm, ⟨5, _⟩ => ⟨S8x1024x2048, .f32⟩
  | .hbm, ⟨6, _⟩ => ⟨S_, .f32⟩
  | .hbm, ⟨7, _⟩ => ⟨S1024x2048, .f32⟩
  | .hbm, ⟨8, _⟩ => ⟨S8x1024x2048, .f32⟩
  | .hbm, ⟨9, _⟩ => ⟨S_, .f32⟩
  | .hbm, ⟨10, _⟩ => ⟨S1024x2048, .f32⟩
  | .hbm, ⟨11, _⟩ => ⟨S1x1024x2048, .f32⟩
  | .hbm, ⟨12, _⟩ => ⟨S1x1024x2048, .f32⟩
  | .hbm, ⟨13, _⟩ => ⟨S2x1024x2048, .f32⟩
  | .hbm, ⟨14, _⟩ => ⟨S_, .f32⟩
  | .hbm, ⟨15, _⟩ => ⟨S2x1024x2048, .f32⟩
  | .hbm, ⟨16, _⟩ => ⟨S2x1024x2048, .f32⟩
  | .hbm, ⟨17, _⟩ => ⟨S_, .f32⟩
  | .hbm, ⟨18, _⟩ => ⟨S2x1024x2048, .f32⟩
  | .hbm, ⟨19, _⟩ => ⟨S2x1024x2048, .f32⟩
  | .hbm, ⟨20, _⟩ => ⟨S2x1024x2048, .f32⟩
  | .hbm, ⟨21, _⟩ => ⟨S_, .f32⟩
  | .hbm, ⟨22, _⟩ => ⟨S2x1024x2048, .f32⟩
  | .hbm, ⟨23, _⟩ => ⟨S2x1024x2048, .f32⟩
  | .hbm, ⟨24, _⟩ => ⟨S2x1024x2048, .f32⟩
  | .hbm, ⟨25, _⟩ => ⟨S_, .f32⟩
  | .hbm, ⟨26, _⟩ => ⟨S2x1024x2048, .f32⟩
  | .hbm, ⟨27, _⟩ => ⟨S2x1024x2048, .f32⟩
  | .hbm, ⟨28, _⟩ => ⟨S2x1024x2048, .f32⟩
  | .hbm, ⟨29, _⟩ => ⟨S_, .f32⟩
  | .hbm, ⟨30, _⟩ => ⟨S2x1024x2048, .f32⟩
  | .hbm, ⟨31, _⟩ => ⟨S2x1024x2048, .f32⟩
  | .hbm, ⟨32, _⟩ => ⟨S_, .f32⟩
  | .hbm, ⟨33, _⟩ => ⟨S2x1024x2048, .f32⟩
  | .hbm, ⟨34, _⟩ => ⟨S2x1024x2048, .f32⟩
  | .hbm, ⟨35, _⟩ => ⟨S2x1024x2048, .f32⟩
  | .hbm, ⟨36, _⟩ => ⟨S_, .f32⟩
  | .hbm, ⟨37, _⟩ => ⟨S2x1024x2048, .f32⟩
  | .hbm, ⟨38, _⟩ => ⟨S2x1024x2048, .f32⟩
  | .hbm, ⟨39, _⟩ => ⟨S2x1024x2048, .f32⟩
  | .hbm, ⟨40, _⟩ => ⟨S_, .f32⟩
  | .hbm, ⟨41, _⟩ => ⟨S2x1024x2048, .f32⟩
  | .hbm, ⟨42, _⟩ => ⟨S2x1024x2048, .f32⟩
  | .hbm, ⟨43, _⟩ => ⟨S2x1024x2048, .f32⟩
  | .hbm, ⟨44, _⟩ => ⟨S_, .f32⟩
  | .hbm, ⟨45, _⟩ => ⟨S2x1024x2048, .f32⟩
  | .hbm, ⟨46, _⟩ => ⟨S2x1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamwUp.lean ====
abbrev S8x2048x1024 : Shape := ⟨3, ![8, 2048, 1024]⟩
abbrev S2x2048x1024 : Shape := ⟨3, ![2, 2048, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c8_i32_6 : BitVec 32 := 8#32
  let c0_i32_9 : BitVec 32 := 0#32
  let v26 : BitVec 1 := Scalar.cmpi .sgt c8_i32_6 c0_i32_9
  let v27 : BitVec 32 := Scalar.extui v26
  let c0_i32_10 : BitVec 32 := 0#32
  let v28 : BitVec 1 := Scalar.cmpi .slt c8_i32_6 c0_i32_10
  let v29 : BitVec 32 := Scalar.extui v28
  let v30 : BitVec 32 := Scalar.subi v27 v29
  let v31 : BitVec 1 := Scalar.cmpi .ne v25 v30
  let v32 : BitVec 32 := Scalar.remsi arg0 c8_i32_6
  let c0_i32_11 : BitVec 32 := 0#32
  let v33 : BitVec 1 := Scalar.cmpi .ne v32 c0_i32_11
  let v34 : BitVec 1 := Scalar.andi v31 v33
  let v20 : BitVec 32 := Scalar.divsi arg0 c8_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  let c0_i32_14 : BitVec 32 := 0#32
  ![c0_i32_12.toNat, v28.toNat, c0_i32_13.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  let c0_i32_14 : BitVec 32 := 0#32
  ![c0_i32_12.toNat, v28.toNat, c0_i32_13.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwUpReferenceIdeal.lean ====
abbrev S8x2048x1024 : Shape := ⟨3, ![8, 2048, 1024]⟩
abbrev S2x2048x1024 : Shape := ⟨3, ![2, 2048, 1024]⟩
abbrev S_ : Shape := ⟨0, ![]⟩
abbrev S2048x1024 : Shape := ⟨2, ![2048, 1024]⟩
abbrev S1x2048x1024 : Shape := ⟨3, ![1, 2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S8x2048x1024, .f32⟩
  | .hbm, ⟨6, _⟩ => ⟨S_, .f32⟩
  | .hbm, ⟨7, _⟩ => ⟨S2048x1024, .f32⟩
  | .hbm, ⟨8, _⟩ => ⟨S8x2048x1024, .f32⟩
  | .hbm, ⟨9, _⟩ => ⟨S_, .f32⟩
  | .hbm, ⟨10, _⟩ => ⟨S2048x1024, .f32⟩
  | .hbm, ⟨11, _⟩ => ⟨S1x2048x1024, .f32⟩
  | .hbm, ⟨12, _⟩ => ⟨S1x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamwQkv.lean ====
abbrev S8x768x2048 : Shape := ⟨3, ![8, 768, 2048]⟩
abbrev S1x2048x768 : Shape := ⟨3, ![1, 2048, 768]⟩
abbrev S8x768x256 : Shape := ⟨3, ![8, 768, 256]⟩
abbrev S1x256x768 : Shape := ⟨3, ![1, 256, 768]⟩
abbrev S1x768x256 : Shape := ⟨3, ![1, 768, 256]⟩
abbrev S768x256 : Shape := ⟨2, ![768, 256]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x768x2048, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .local _ .vmem, ⟨0, _⟩ => ⟨S8x768x256, .bf16⟩
  | .local _ .vmem, ⟨1, _⟩ => ⟨S8x768x256, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S8x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  let c0_i32_14 : BitVec 32 := 0#32
  ![c0_i32_12.toNat, c0_i32_13.toNat, v28.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwQkvReferenceIdeal.lean ====
abbrev S8x768x2048 : Shape := ⟨3, ![8, 768, 2048]⟩
abbrev S1x2048x768 : Shape := ⟨3, ![1, 2048, 768]⟩
abbrev S_ : Shape := ⟨0, ![]⟩
abbrev S768x2048 : Shape := ⟨2, ![768, 2048]⟩
abbrev S2048x768 : Shape := ⟨2, ![2048, 768]⟩

abbrev nBuf : Space → Nat
  | .hbm => 42
  | .vmem => 0
  | .smem => 0
  | _ => 0

abbrev bufTy : (tb : Table) → Fin (tcTables nBuf tb) → BufTy
  | .hbm, ⟨0, _⟩ => ⟨S8x768x2048, .bf16⟩
  | .hbm, ⟨1, _⟩ => ⟨S1x2048x768, .f32⟩
  | .hbm, ⟨2, _⟩ => ⟨S1x2048x768, .f32⟩
  | .hbm, ⟨3, _⟩ => ⟨S1x2048x768, .f32⟩
  | .hbm, ⟨4, _⟩ => ⟨S8x768x2048, .f32⟩
  | .hbm, ⟨5, _⟩ => ⟨S_, .f32⟩
  | .hbm, ⟨6, _⟩ => ⟨S768x2048, .f32⟩
  | .hbm, ⟨7, _⟩ => ⟨S2048x768, .f32⟩
  | .hbm, ⟨8, _⟩ => ⟨S1x2048x768, .f32⟩
  | .hbm, ⟨9, _⟩ => ⟨S_, .f32⟩
  | .hbm, ⟨10, _⟩ => ⟨S1x2048x768, .f32⟩
  | .hbm, ⟨11, _⟩ => ⟨S1x2048x768, .f32⟩
  | .hbm, ⟨12, _⟩ => ⟨S_, .f32⟩
  | .hbm, ⟨13, _⟩ => ⟨S1x2048x768, .f32⟩
  | .hbm, ⟨14, _⟩ => ⟨S1x2048x768, .f32⟩
  | .hbm, ⟨15, _⟩ => ⟨S1x2048x768, .f32⟩
  | .hbm, ⟨16, _⟩ => ⟨S_, .f32⟩
  | .hbm, ⟨17, _⟩ => ⟨S1x2048x768, .f32⟩
  | .hbm, ⟨18, _⟩ => ⟨S1x2048x768, .f32⟩
  | .hbm, ⟨19, _⟩ => ⟨S1x2048x768, .f32⟩
  | .hbm, ⟨20, _⟩ => ⟨S_, .f32⟩
  | .hbm, ⟨21, _⟩ => ⟨S1x2048x768, .f32⟩
  | .hbm, ⟨22, _⟩ => ⟨S1x2048x768, .f32⟩
  | .hbm, ⟨23, _⟩ => ⟨S1x2048x768, .f32⟩
  | .hbm, ⟨24, _⟩ => ⟨S_, .f32⟩
  | .hbm, ⟨25, _⟩ => ⟨S1x2048x768, .f32⟩
  | .hbm, ⟨26, _⟩ => ⟨S1x2048x768, .f32⟩
  | .hbm, ⟨27, _⟩ => ⟨S_, .f32⟩
  | .hbm, ⟨28, _⟩ => ⟨S1x2048x768, .f32⟩
  | .hbm, ⟨29, _⟩ => ⟨S1x2048x768, .f32⟩
  | .hbm, ⟨30, _⟩ => ⟨S1x2048x768, .f32⟩
  | .hbm, ⟨31, _⟩ => ⟨S_, .f32⟩
  | .hbm, ⟨32, _⟩ => ⟨S1x2048x768, .f32⟩
  | .hbm, ⟨33, _⟩ => ⟨S1x2048x768, .f32⟩
  | .hbm, ⟨34, _⟩ => ⟨S1x2048x768, .f32⟩
  | .hbm, ⟨35, _⟩ => ⟨S_, .f32⟩
  | .hbm, ⟨36, _⟩ => ⟨S1x2048x768, .f32⟩
  | .hbm, ⟨37, _⟩ => ⟨S1x2048x768, .f32⟩
  | .hbm, ⟨38, _⟩ => ⟨S1x2048x768, .f32⟩
  | .hbm, ⟨39, _⟩ => ⟨S_, .f32⟩
  | .hbm, ⟨40, _⟩ => ⟨S1x2048x768, .f32⟩
  | .hbm, ⟨41, _⟩ => ⟨S1x2048x768, .f32⟩
  | _, _ => ⟨S8x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamwIn.lean ====
abbrev S8x640x2048 : Shape := ⟨3, ![8, 640, 2048]⟩
abbrev S1x2048x640 : Shape := ⟨3, ![1, 2048, 640]⟩
abbrev S8x640x256 : Shape := ⟨3, ![8, 640, 256]⟩
abbrev S1x256x640 : Shape := ⟨3, ![1, 256, 640]⟩
abbrev S1x640x256 : Shape := ⟨3, ![1, 640, 256]⟩
abbrev S640x256 : Shape := ⟨2, ![640, 256]⟩
abbrev S256x640 : Shape := ⟨2, ![256, 640]⟩

abbrev nBuf : Space → Nat
  | .hbm => 8
  | .vmem => 16
  | .smem => 0
  | _ => 0

abbrev bufTy : (tb : Table) → Fin (tcTables nBuf tb) → BufTy
  | .hbm, ⟨0, _⟩ => ⟨S8x640x2048, .bf16⟩
  | .hbm, ⟨1, _⟩ => ⟨S1x2048x640, .f32⟩
  | .hbm, ⟨2, _⟩ => ⟨S1x2048x640, .f32⟩
  | .hbm, ⟨3, _⟩ => ⟨S1x2048x640, .f32⟩
  | .hbm, ⟨4, _⟩ => ⟨S1x2048x640, .f32⟩
  | .hbm, ⟨5, _⟩ => ⟨S1x2048x640, .f32⟩
  | .hbm, ⟨6, _⟩ => ⟨S1x2048x640, .f32⟩
  | .hbm, ⟨7, _⟩ => ⟨S1x2048x640, .f32⟩
  | .local _ .vmem, ⟨0, _⟩ => ⟨S8x640x256, .bf16⟩
  | .local _ .vmem, ⟨1, _⟩ => ⟨S8x640x256, .bf16⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | _, _ => ⟨S8x640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  let c0_i32_14 : BitVec 32 := 0#32
  ![c0_i32_12.toNat, c0_i32_13.toNat, v28.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInReferenceIdeal.lean ====
abbrev S8x640x2048 : Shape := ⟨3, ![8, 640, 2048]⟩
abbrev S1x2048x640 : Shape := ⟨3, ![1, 2048, 640]⟩
abbrev S_ : Shape := ⟨0, ![]⟩
abbrev S640x2048 : Shape := ⟨2, ![640, 2048]⟩
abbrev S2048x640 : Shape := ⟨2, ![2048, 640]⟩

abbrev nBuf : Space → Nat
  | .hbm => 42
  | .vmem => 0
  | .smem => 0
  | _ => 0

abbrev bufTy : (tb : Table) → Fin (tcTables nBuf tb) → BufTy
  | .hbm, ⟨0, _⟩ => ⟨S8x640x2048, .bf16⟩
  | .hbm, ⟨1, _⟩ => ⟨S1x2048x640, .f32⟩
  | .hbm, ⟨2, _⟩ => ⟨S1x2048x640, .f32⟩
  | .hbm, ⟨3, _⟩ => ⟨S1x2048x640, .f32⟩
  | .hbm, ⟨4, _⟩ => ⟨S8x640x2048, .f32⟩
  | .hbm, ⟨5, _⟩ => ⟨S_, .f32⟩
  | .hbm, ⟨6, _⟩ => ⟨S640x2048, .f32⟩
  | .hbm, ⟨7, _⟩ => ⟨S2048x640, .f32⟩
  | .hbm, ⟨8, _⟩ => ⟨S1x2048x640, .f32⟩
  | .hbm, ⟨9, _⟩ => ⟨S_, .f32⟩
  | .hbm, ⟨10, _⟩ => ⟨S1x2048x640, .f32⟩
  | .hbm, ⟨11, _⟩ => ⟨S1x2048x640, .f32⟩
  | .hbm, ⟨12, _⟩ => ⟨S_, .f32⟩
  | .hbm, ⟨13, _⟩ => ⟨S1x2048x640, .f32⟩
  | .hbm, ⟨14, _⟩ => ⟨S1x2048x640, .f32⟩
  | .hbm, ⟨15, _⟩ => ⟨S1x2048x640, .f32⟩
  | .hbm, ⟨16, _⟩ => ⟨S_, .f32⟩
  | .hbm, ⟨17, _⟩ => ⟨S1x2048x640, .f32⟩
  | .hbm, ⟨18, _⟩ => ⟨S1x2048x640, .f32⟩
  | .hbm, ⟨19, _⟩ => ⟨S1x2048x640, .f32⟩
  | .hbm, ⟨20, _⟩ => ⟨S_, .f32⟩
  | .hbm, ⟨21, _⟩ => ⟨S1x2048x640, .f32⟩
  | .hbm, ⟨22, _⟩ => ⟨S1x2048x640, .f32⟩
  | .hbm, ⟨23, _⟩ => ⟨S1x2048x640, .f32⟩
  | .hbm, ⟨24, _⟩ => ⟨S_, .f32⟩
  | .hbm, ⟨25, _⟩ => ⟨S1x2048x640, .f32⟩
  | .hbm, ⟨26, _⟩ => ⟨S1x2048x640, .f32⟩
  | .hbm, ⟨27, _⟩ => ⟨S_, .f32⟩
  | .hbm, ⟨28, _⟩ => ⟨S1x2048x640, .f32⟩
  | .hbm, ⟨29, _⟩ => ⟨S1x2048x640, .f32⟩
  | .hbm, ⟨30, _⟩ => ⟨S1x2048x640, .f32⟩
  | .hbm, ⟨31, _⟩ => ⟨S_, .f32⟩
  | .hbm, ⟨32, _⟩ => ⟨S1x2048x640, .f32⟩
  | .hbm, ⟨33, _⟩ => ⟨S1x2048x640, .f32⟩
  | .hbm, ⟨34, _⟩ => ⟨S1x2048x640, .f32⟩
  | .hbm, ⟨35, _⟩ => ⟨S_, .f32⟩
  | .hbm, ⟨36, _⟩ => ⟨S1x2048x640, .f32⟩
  | .hbm, ⟨37, _⟩ => ⟨S1x2048x640, .f32⟩
  | .hbm, ⟨38, _⟩ => ⟨S1x2048x640, .f32⟩
  | .hbm, ⟨39, _⟩ => ⟨S_, .f32⟩
  | .hbm, ⟨40, _⟩ => ⟨S1x2048x640, .f32⟩
  | .hbm, ⟨41, _⟩ => ⟨S1x2048x640, .f32⟩
  | _, _ => ⟨S8x640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamwOut.lean ====
abbrev S8x256x2048 : Shape := ⟨3, ![8, 256, 2048]⟩
abbrev S1x256x2048 : Shape := ⟨3, ![1, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 v27 c0_i32_11
  let c0_i32_12 : BitVec 32 := 0#32
  let c0_i32_13 : BitVec 32 := 0#32
  let c0_i32_14 : BitVec 32 := 0#32
  ![c0_i32_12.toNat, v28.toNat, c0_i32_13.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOutReferenceIdeal.lean ====
abbrev S8x256x2048 : Shape := ⟨3, ![8, 256, 2048]⟩
abbrev S1x256x2048 : Shape := ⟨3, ![1, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamwSmall.lean ====
abbrev S2x4x256 : Shape := ⟨3, ![2, 4, 256]⟩
abbrev S1x3x128 : Shape := ⟨3, ![1, 3, 128]⟩
abbrev S1x4x128 : Shape := ⟨3, ![1, 4, 128]⟩
abbrev S1x1024 : Shape := ⟨2, ![1, 1024]⟩
abbrev S1x16x64x64 : Shape := ⟨4, ![1, 16, 64, 64]⟩
abbrev S2048 : Shape := ⟨1, ![2048]⟩
abbrev S_ : Shape := ⟨0, ![]⟩
abbrev S16x128 : Shape := ⟨2, ![16, 128]⟩
abbrev S384 : Shape := ⟨1, ![384]⟩
abbrev S1024 : Shape := ⟨1, ![1024]⟩
abbrev S8x128 : Shape := ⟨2, ![8, 128]⟩
abbrev S512 : Shape := ⟨1, ![512]⟩
abbrev S65536 : Shape := ⟨1, ![65536]⟩
abbrev S512x128 : Shape := ⟨2, ![512, 128]⟩
abbrev S1088x128 : Shape := ⟨2, ![1088, 128]⟩

abbrev nBuf : Space → Nat
  | .hbm => 310
  | .vmem => 7
  | .smem => 0
  | _ => 0

abbrev hbmTy0_0 (i : Nat) : BufTy := match i % 128 with
  | 0 => ⟨S2x4x256, .f32⟩
  | 1 => ⟨S1x3x128, .f32⟩
  | 2 => ⟨S1x4x128, .f32⟩
  | 3 => ⟨S1x1024, .f32⟩
  | 4 => ⟨S1x16x64x64, .f32⟩
  | 5 => ⟨S1x1024, .f32⟩
  | 6 => ⟨S1x16x64x64, .f32⟩
  | 7 => ⟨S1x1024, .f32⟩
  | 8 => ⟨S1x1024, .f32⟩
  | 9 => ⟨S2x4x256, .f32⟩
  | 10 => ⟨S1x3x128, .f32⟩
  | 11 => ⟨S1x4x128, .f32⟩
  | 12 => ⟨S1x1024, .f32⟩
  | 13 => ⟨S1x16x64x64, .f32⟩
  | 14 => ⟨S1x1024, .f32⟩
  | 15 => ⟨S1x16x64x64, .f32⟩
  | 16 => ⟨S1x1024, .f32⟩
  | 17 => ⟨S1x1024, .f32⟩
  | 18 => ⟨S2x4x256, .f32⟩
  | 19 => ⟨S1x3x128, .f32⟩
  | 20 => ⟨S1x4x128, .f32⟩
  | 21 => ⟨S1x1024, .f32⟩
  | 22 => ⟨S1x16x64x64, .f32⟩
  | 23 => ⟨S1x1024, .f32⟩
  | 24 => ⟨S1x16x64x64, .f32⟩
  | 25 => ⟨S1x1024, .f32⟩
  | 26 => ⟨S1x1024, .f32⟩
  | 27 => ⟨S2x4x256, .f32⟩
  | 28 => ⟨S1x3x128, .f32⟩
  | 29 => ⟨S1x4x128, .f32⟩
  | 30 => ⟨S1x1024, .f32⟩
  | 31 => ⟨S1x16x64x64, .f32⟩
  | 32 => ⟨S1x1024, .f32⟩
  | 33 => ⟨S1x16x64x64, .f32⟩
  | 34 => ⟨S1x1024, .f32⟩
  | 35 => ⟨S1x1024, .f32⟩
  | 36 => ⟨S2048, .f32⟩
  | 37 => ⟨S_, .i32⟩
  | 38 => ⟨S_, .f32⟩
  | 39 => ⟨S2048, .f32⟩
  | 40 => ⟨S16x128, .f32⟩
  | 41 => ⟨S384, .f32⟩
  | 42 => ⟨S_, .i32⟩
  | 43 => ⟨S_, .f32⟩
  | 44 => ⟨S1024, .f32⟩
  | 45 => ⟨S8x128, .f32⟩
  | 46 => ⟨S512, .f32⟩
  | 47 => ⟨S_, .i32⟩
  | 48 => ⟨S_, .f32⟩
  | 49 => ⟨S1024, .f32⟩
  | 50 => ⟨S8x128, .f32⟩
  | 51 => ⟨S1024, .f32⟩
  | 52 => ⟨S_, .i32⟩
  | 53 => ⟨S_, .f32⟩
  | 54 => ⟨S1024, .f32⟩
  | 55 => ⟨S8x128, .f32⟩
  | 56 => ⟨S65536, .f32⟩
  | 57 => ⟨S_, .i32⟩
  | 58 => ⟨S_, .f32⟩
  | 59 => ⟨S65536, .f32⟩
  | 60 => ⟨S512x128, .f32⟩
  | 61 => ⟨S1024, .f32⟩
  | 62 => ⟨S_, .i32⟩
  | 63 => ⟨S_, .f32⟩
  | 64 => ⟨S1024, .f32⟩
  | 65 => ⟨S8x128, .f32⟩
  | 66 => ⟨S65536, .f32⟩
  | 67 => ⟨S_, .i32⟩
  | 68 => ⟨S_, .f32⟩
  | 69 => ⟨S65536, .f32⟩
  | 70 => ⟨S512x128, .f32⟩
  | 71 => ⟨S1024, .f32⟩
  | 72 => ⟨S_, .i32⟩
  | 73 => ⟨S_, .f32⟩
  | 74 => ⟨S1024, .f32⟩
  | 75 => ⟨S8x128, .f32⟩
  | 76 => ⟨S1024, .f32⟩
  | 77 => ⟨S_, .i32⟩
  | 78 => ⟨S_, .f32⟩
  | 79 => ⟨S1024, .f32⟩
  | 80 => ⟨S8x128, .f32⟩
  | 81 => ⟨S1088x128, .f32⟩
  | 82 => ⟨S2048, .f32⟩
  | 83 => ⟨S_, .i32⟩
  | 84 => ⟨S_, .f32⟩
  | 85 => ⟨S2048, .f32⟩
  | 86 => ⟨S16x128, .f32⟩
  | 87 => ⟨S384, .f32⟩
  | 88 => ⟨S_, .i32⟩
  | 89 => ⟨S_, .f32⟩
  | 90 => ⟨S1024, .f32⟩
  | 91 => ⟨S8x128, .f32⟩
  | 92 => ⟨S512, .f32⟩
  | 93 => ⟨S_, .i32⟩
  | 94 => ⟨S_, .f32⟩
  | 95 => ⟨S1024, .f32⟩
  | 96 => ⟨S8x128, .f32⟩
  | 97 => ⟨S1024, .f32⟩
  | 98 => ⟨S_, .i32⟩
  | 99 => ⟨S_, .f32⟩
  | 100 => ⟨S1024, .f32⟩
  | 101 => ⟨S8x128, .f32⟩
  | 102 => ⟨S65536, .f32⟩
  | 103 => ⟨S_, .i32⟩
  | 104 => ⟨S_, .f32⟩
  | 105 => ⟨S65536, .f32⟩
  | 106 => ⟨S512x128, .f32⟩
  | 107 => ⟨S1024, .f32⟩
  | 108 => ⟨S_, .i32⟩
  | 109 => ⟨S_, .f32⟩
  | 110 => ⟨S1024, .f32⟩
  | 111 => ⟨S8x128, .f32⟩
  | 112 => ⟨S65536, .f32⟩
  | 113 => ⟨S_, .i32⟩
  | 114 => ⟨S_, .f32⟩
  | 115 => ⟨S65536, .f32⟩
  | 116 => ⟨S512x128, .f32⟩
  | 117 => ⟨S1024, .f32⟩
  | 118 => ⟨S_, .i32⟩
  | 119 => ⟨S_, .f32⟩
  | 120 => ⟨S1024, .f32⟩
  | 121 => ⟨S8x128, .f32⟩
  | 122 => ⟨S1024, .f32⟩
  | 123 => ⟨S_, .i32⟩
  | 124 => ⟨S_, .f32⟩
  | 125 => ⟨S1024, .f32⟩
  | 126 => ⟨S8x128, .f32⟩
  | 127 => ⟨S1088x128, .f32⟩
  | _ => ⟨S2x4x256, .f32⟩

abbrev hbmTy0_1 (i : Nat) : BufTy := match i % 128 with
  | 0 => ⟨S2048, .f32⟩
  | 1 => ⟨S_, .i32⟩
  | 2 => ⟨S_, .f32⟩
  | 3 => ⟨S2048, .f32⟩
  | 4 => ⟨S16x128, .f32⟩
  | 5 => ⟨S384, .f32⟩
  | 6 => ⟨S_, .i32⟩
  | 7 => ⟨S_, .f32⟩
  | 8 => ⟨S1024, .f32⟩
  | 9 => ⟨S8x128, .f32⟩
  | 10 => ⟨S512, .f32⟩
  | 11 => ⟨S_, .i32⟩
  | 12 => ⟨S_, .f32⟩
  | 13 => ⟨S1024, .f32⟩
  | 14 => ⟨S8x128, .f32⟩
  | 15 => ⟨S1024, .f32⟩
  | 16 => ⟨S_, .i32⟩
  | 17 => ⟨S_, .f32⟩
  | 18 => ⟨S1024, .f32⟩
  | 19 => ⟨S8x128, .f32⟩
  | 20 => ⟨S65536, .f32⟩
  | 21 => ⟨S_, .i32⟩
  | 22 => ⟨S_, .f32⟩
  | 23 => ⟨S65536, .f32⟩
  | 24 => ⟨S512x128, .f32⟩
  | 25 => ⟨S1024, .f32⟩
  | 26 => ⟨S_, .i32⟩
  | 27 => ⟨S_, .f32⟩
  | 28 => ⟨S1024, .f32⟩
  | 29 => ⟨S8x128, .f32⟩
  | 30 => ⟨S65536, .f32⟩
  | 31 => ⟨S_, .i32⟩
  | 32 => ⟨S_, .f32⟩
  | 33 => ⟨S65536, .f32⟩
  | 34 => ⟨S512x128, .f32⟩
  | 35 => ⟨S1024, .f32⟩
  | 36 => ⟨S_, .i32⟩
  | 37 => ⟨S_, .f32⟩
  | 38 => ⟨S1024, .f32⟩
  | 39 => ⟨S8x128, .f32⟩
  | 40 => ⟨S1024, .f32⟩
  | 41 => ⟨S_, .i32⟩
  | 42 => ⟨S_, .f32⟩
  | 43 => ⟨S1024, .f32⟩
  | 44 => ⟨S8x128, .f32⟩
  | 45 => ⟨S1088x128, .f32⟩
  | 46 => ⟨S2048, .f32⟩
  | 47 => ⟨S_, .i32⟩
  | 48 => ⟨S_, .f32⟩
  | 49 => ⟨S2048, .f32⟩
  | 50 => ⟨S16x128, .f32⟩
  | 51 => ⟨S384, .f32⟩
  | 52 => ⟨S_, .i32⟩
  | 53 => ⟨S_, .f32⟩
  | 54 => ⟨S1024, .f32⟩
  | 55 => ⟨S8x128, .f32⟩
  | 56 => ⟨S512, .f32⟩
  | 57 => ⟨S_, .i32⟩
  | 58 => ⟨S_, .f32⟩
  | 59 => ⟨S1024, .f32⟩
  | 60 => ⟨S8x128, .f32⟩
  | 61 => ⟨S1024, .f32⟩
  | 62 => ⟨S_, .i32⟩
  | 63 => ⟨S_, .f32⟩
  | 64 => ⟨S1024, .f32⟩
  | 65 => ⟨S8x128, .f32⟩
  | 66 => ⟨S65536, .f32⟩
  | 67 => ⟨S_, .i32⟩
  | 68 => ⟨S_, .f32⟩
  | 69 => ⟨S65536, .f32⟩
  | 70 => ⟨S512x128, .f32⟩
  | 71 => ⟨S1024, .f32⟩
  | 72 => ⟨S_, .i32⟩
  | 73 => ⟨S_, .f32⟩
  | 74 => ⟨S1024, .f32⟩
  | 75 => ⟨S8x128, .f32⟩
  | 76 => ⟨S65536, .f32⟩
  | 77 => ⟨S_, .i32⟩
  | 78 => ⟨S_, .f32⟩
  | 79 => ⟨S65536, .f32⟩
  | 80 => ⟨S512x128, .f32⟩
  | 81 => ⟨S1024, .f32⟩
  | 82 => ⟨S_, .i32⟩
  | 83 => ⟨S_, .f32⟩
  | 84 => ⟨S1024, .f32⟩
  | 85 => ⟨S8x128, .f32⟩
  | 86 => ⟨S1024, .f32⟩
  | 87 => ⟨S_, .i32⟩
  | 88 => ⟨S_, .f32⟩
  | 89 => ⟨S1024, .f32⟩
  | 90 => ⟨S8x128, .f32⟩
  | 91 => ⟨S1088x128, .f32⟩
  | 92 => ⟨S1088x128, .f32⟩
  | 93 => ⟨S1088x128, .f32⟩
  | 94 => ⟨S1088x128, .f32⟩
  | 95 => ⟨S16x128, .f32⟩
  | 96 => ⟨S2048, .f32⟩
  | 97 => ⟨S2x4x256, .f32⟩
  | 98 => ⟨S8x128, .f32⟩
  | 99 => ⟨S1024, .f32⟩
  | 100 => ⟨S384, .f32⟩
  | 101 => ⟨S1x3x128, .f32⟩
  | 102 => ⟨S8x128, .f32⟩
  | 103 => ⟨S1024, .f32⟩
  | 104 => ⟨S512, .f32⟩
  | 105 => ⟨S1x4x128, .f32⟩
  | 106 => ⟨S8x128, .f32⟩
  | 107 => ⟨S1024, .f32⟩
  | 108 => ⟨S1x1024, .f32⟩
  | 109 => ⟨S512x128, .f32⟩
  | 110 => ⟨S65536, .f32⟩
  | 111 => ⟨S1x16x64x64, .f32⟩
  | 112 => ⟨S8x128, .f32⟩
  | 113 => ⟨S1024, .f32⟩
  | 114 => ⟨S1x1024, .f32⟩
  | 115 => ⟨S512x128, .f32⟩
  | 116 => ⟨S65536, .f32⟩
  | 117 => ⟨S1x16x64x64, .f32⟩
  | 118 => ⟨S8x128, .f32⟩
  | 119 => ⟨S1024, .f32⟩
  | 120 => ⟨S1x1024, .f32⟩
  | 121 => ⟨S8x128, .f32⟩
  | 122 => ⟨S1024, .f32⟩
  | 123 => ⟨S1x1024, .f32⟩
  | 124 => ⟨S16x128, .f32⟩
  | 125 => ⟨S2048, .f32⟩
  | 126 => ⟨S2x4x256, .f32⟩
  | 127 => ⟨S8x128, .f32⟩
  | _ => ⟨S2x4x256, .f32⟩

abbrev hbmTy0_2 (i : Nat) : BufTy := match i % 128 with
  | 0 => ⟨S1024, .f32⟩
  | 1 => ⟨S384, .f32⟩
  | 2 => ⟨S1x3x128, .f32⟩
  | 3 => ⟨S8x128, .f32⟩
  | 4 => ⟨S1024, .f32⟩
  | 5 => ⟨S512, .f32⟩
  | 6 => ⟨S1x4x128, .f32⟩
  | 7 => ⟨S8x128, .f32⟩
  | 8 => ⟨S1024, .f32⟩
  | 9 => ⟨S1x1024, .f32⟩
  | 10 => ⟨S512x128, .f32⟩
  | 11 => ⟨S65536, .f32⟩
  | 12 => ⟨S1x16x64x64, .f32⟩
  | 13 => ⟨S8x128, .f32⟩
  | 14 => ⟨S1024, .f32⟩
  | 15 => ⟨S1x1024, .f32⟩
  | 16 => ⟨S512x128, .f32⟩
  | 17 => ⟨S65536, .f32⟩
  | 18 => ⟨S1x16x64x64, .f32⟩
  | 19 => ⟨S8x128, .f32⟩
  | 20 => ⟨S1024, .f32⟩
  | 21 => ⟨S1x1024, .f32⟩
  | 22 => ⟨S8x128, .f32⟩
  | 23 => ⟨S1024, .f32⟩
  | 24 => ⟨S1x1024, .f32⟩
  | 25 => ⟨S16x128, .f32⟩
  | 26 => ⟨S2048, .f32⟩
  | 27 => ⟨S2x4x256, .f32⟩
  | 28 => ⟨S8x128, .f32⟩
  | 29 => ⟨S1024, .f32⟩
  | 30 => ⟨S384, .f32⟩
  | 31 => ⟨S1x3x128, .f32⟩
  | 32 => ⟨S8x128, .f32⟩
  | 33 => ⟨S1024, .f32⟩
  | 34 => ⟨S512, .f32⟩
  | 35 => ⟨S1x4x128, .f32⟩
  | 36 => ⟨S8x128, .f32⟩
  | 37 => ⟨S1024, .f32⟩
  | 38 => ⟨S1x1024, .f32⟩
  | 39 => ⟨S512x128, .f32⟩
  | 40 => ⟨S65536, .f32⟩
  | 41 => ⟨S1x16x64x64, .f32⟩
  | 42 => ⟨S8x128, .f32⟩
  | 43 => ⟨S1024, .f32⟩
  | 44 => ⟨S1x1024, .f32⟩
  | 45 => ⟨S512x128, .f32⟩
  | 46 => ⟨S65536, .f32⟩
  | 47 => ⟨S1x16x64x64, .f32⟩
  | 48 => ⟨S8x128, .f32⟩
  | 49 => ⟨S1024, .f32⟩
  | 50 => ⟨S1x1024, .f32⟩
  | 51 => ⟨S8x128, .f32⟩
  | 52 => ⟨S1024, .f32⟩
  | 53 => ⟨S1x1024, .f32⟩
  | _ => ⟨S2x4x256, .f32⟩

abbrev hbmTy (i : Nat) : BufTy := match i / 128 with
  | 0 => hbmTy0_0 i
  | 1 => hbmTy0_1 i
  | 2 => hbmTy0_2 i
  | _ => ⟨S2x4x256, .f32⟩

abbrev bufTy : (tb : Table) → Fin (tcTables nBuf tb) → BufTy
  | .hbm, ⟨i, _⟩ => hbmTy i
  | .local _ .vmem, ⟨0, _⟩ => ⟨S1088x128, .f32⟩
  | .local _ .vmem, ⟨1, _⟩ => ⟨S1088x128, .f32⟩
  | .local _ .vmem, ⟨2, _⟩ => ⟨S1088x128, .f32⟩
  | .local _ .vmem, ⟨3, _⟩ => ⟨S1088x128, .f32⟩
  | .local _ .vmem, ⟨4, _⟩ => ⟨S1088x128, .f32⟩
  | .local _ .vmem, ⟨5, _⟩ => ⟨S1088x128, .f32⟩
  | .local _ .vmem, ⟨6, _⟩ => ⟨S1088x128, .f32⟩
  | _, _ => ⟨S2x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_c : Ref sig .tc := ⟨.hbm, 37, rfl⟩
abbrev main_call0_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c_0 : Ref sig .tc := ⟨.hbm, 42, rfl⟩
abbrev main_call1_v0 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_c_1 : Ref sig .tc := ⟨.hbm, 47, rfl⟩
abbrev main_call2_v0 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c_2 : Ref sig .tc := ⟨.hbm, 52, rfl⟩
abbrev main_call3_v0 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_3 : Ref sig .tc := ⟨.hbm, 57, rfl⟩
abbrev main_call4_v0 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_c_4 : Ref sig .tc := ⟨.hbm, 62, rfl⟩
abbrev main_call5_v0 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_c_5 : Ref sig .tc := ⟨.hbm, 67, rfl⟩
abbrev main_call6_v0 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_6 : Ref sig .tc := ⟨.hbm, 72, rfl⟩
abbrev main_call7_v0 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c_7 : Ref sig .tc := ⟨.hbm, 77, rfl⟩
abbrev main_call8_v0 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_c_8 : Ref sig .tc := ⟨.hbm, 83, rfl⟩
abbrev main_call9_v0 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_c_9 : Ref sig .tc := ⟨.hbm, 88, rfl⟩
abbrev main_call10_v0 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_c_10 : Ref sig .tc := ⟨.hbm, 93, rfl⟩
abbrev main_call11_v0 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_c_11 : Ref sig .tc := ⟨.hbm, 98, rfl⟩
abbrev main_call12_v0 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_c_12 : Ref sig .tc := ⟨.hbm, 103, rfl⟩
abbrev main_call13_v0 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_c_13 : Ref sig .tc := ⟨.hbm, 108, rfl⟩
abbrev main_call14_v0 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_c_14 : Ref sig .tc := ⟨.hbm, 113, rfl⟩
abbrev main_call15_v0 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_c_15 : Ref sig .tc := ⟨.hbm, 118, rfl⟩
abbrev main_call16_v0 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_c_16 : Ref sig .tc := ⟨.hbm, 123, rfl⟩
abbrev main_call17_v0 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_c_17 : Ref sig .tc := ⟨.hbm, 129, rfl⟩
abbrev main_call18_v0 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_c_18 : Ref sig .tc := ⟨.hbm, 134, rfl⟩
abbrev main_call19_v0 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_c_19 : Ref sig .tc := ⟨.hbm, 139, rfl⟩
abbrev main_call20_v0 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_c_20 : Ref sig .tc := ⟨.hbm, 144, rfl⟩
abbrev main_call21_v0 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_c_21 : Ref sig .tc := ⟨.hbm, 149, rfl⟩
abbrev main_call22_v0 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_c_22 : Ref sig .tc := ⟨.hbm, 154, rfl⟩
abbrev main_call23_v0 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_c_23 : Ref sig .tc := ⟨.hbm, 159, rfl⟩
abbrev main_call24_v0 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_c_24 : Ref sig .tc := ⟨.hbm, 164, rfl⟩
abbrev main_call25_v0 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_c_25 : Ref sig .tc := ⟨.hbm, 169, rfl⟩
abbrev main_call26_v0 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_c_26 : Ref sig .tc := ⟨.hbm, 175, rfl⟩
abbrev main_call27_v0 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_c_27 : Ref sig .tc := ⟨.hbm, 180, rfl⟩
abbrev main_call28_v0 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_c_28 : Ref sig .tc := ⟨.hbm, 185, rfl⟩
abbrev main_call29_v0 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_c_29 : Ref sig .tc := ⟨.hbm, 190, rfl⟩
abbrev main_call30_v0 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_c_30 : Ref sig .tc := ⟨.hbm, 195, rfl⟩
abbrev main_call31_v0 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_c_31 : Ref sig .tc := ⟨.hbm, 200, rfl⟩
abbrev main_call32_v0 : Ref sig .tc := ⟨.hbm, 201, rfl⟩
abbrev main_v100 : Ref sig .tc := ⟨.hbm, 202, rfl⟩
abbrev main_v101 : Ref sig .tc := ⟨.hbm, 203, rfl⟩
abbrev main_v102 : Ref sig .tc := ⟨.hbm, 204, rfl⟩
abbrev main_c_32 : Ref sig .tc := ⟨.hbm, 205, rfl⟩
abbrev main_call33_v0 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_c_33 : Ref sig .tc := ⟨.hbm, 210, rfl⟩
abbrev main_call34_v0 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_c_34 : Ref sig .tc := ⟨.hbm, 215, rfl⟩
abbrev main_call35_v0 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112_0 : Ref sig .tc := ⟨.hbm, 220, rfl⟩
abbrev main_v112_1 : Ref sig .tc := ⟨.hbm, 221, rfl⟩
abbrev main_v112_2 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1088x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1088x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1088x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1088x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1088x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1088x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1088x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamwSmallReferenceIdeal.lean ====
abbrev S2x4x256 : Shape := ⟨3, ![2, 4, 256]⟩
abbrev S1x3x128 : Shape := ⟨3, ![1, 3, 128]⟩
abbrev S1x4x128 : Shape := ⟨3, ![1, 4, 128]⟩
abbrev S1x1024 : Shape := ⟨2, ![1, 1024]⟩
abbrev S1x16x64x64 : Shape := ⟨4, ![1, 16, 64, 64]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S2x4x256, .f32⟩
  | 1 => ⟨S1x3x128, .f32⟩
  | 2 => ⟨S1x4x128, .f32⟩
  | 3 => ⟨S1x1024, .f32⟩
  | 4 => ⟨S1x16x64x64, .f32⟩
  | 5 => ⟨S1x1024, .f32⟩
  | 6 => ⟨S1x16x64x64, .f32⟩
  | 7 => ⟨S1x1024, .f32⟩
  | 8 => ⟨S1x1024, .f32⟩
  | 9 => ⟨S2x4x256, .f32⟩
  | 10 => ⟨S1x3x128, .f32⟩
  | 11 => ⟨S1x4x128, .f32⟩
  | 12 => ⟨S1x1024, .f32⟩
  | 13 => ⟨S1x16x64x64, .f32⟩
  | 14 => ⟨S1x1024, .f32⟩
  | 15 => ⟨S1x16x64x64, .f32⟩
  | 16 => ⟨S1x1024, .f32⟩
  | 17 => ⟨S1x1024, .f32⟩
  | 18 => ⟨S2x4x256, .f32⟩
  | 19 => ⟨S1x3x128, .f32⟩
  | 20 => ⟨S1x4x128, .f32⟩
  | 21 => ⟨S1x1024, .f32⟩
  | 22 => ⟨S1x16x64x64, .f32⟩
  | 23 => ⟨S1x1024, .f32⟩
  | 24 => ⟨S1x16x64x64, .f32⟩
  | 25 => ⟨S1x1024, .f32⟩
  | 26 => ⟨S1x1024, .f32⟩
  | 27 => ⟨S2x4x256, .f32⟩
  | 28 => ⟨S1x3x128, .f32⟩
  | 29 => ⟨S1x4x128, .f32⟩
  | 30 => ⟨S1x1024, .f32⟩
  | 31 => ⟨S1x16x64x64, .f32⟩
  | 32 => ⟨S1x1024, .f32⟩
  | 33 => ⟨S1x16x64x64, .f32⟩
  | 34 => ⟨S1x1024, .f32⟩
  | 35 => ⟨S1x1024, .f32⟩
  | 36 => ⟨S_, .f32⟩
  | 37 => ⟨S2x4x256, .f32⟩
  | 38 => ⟨S2x4x256, .f32⟩
  | 39 => ⟨S_, .f32⟩
  | 40 => ⟨S2x4x256, .f32⟩
  | 41 => ⟨S2x4x256, .f32⟩
  | 42 => ⟨S2x4x256, .f32⟩
  | 43 => ⟨S_, .f32⟩
  | 44 => ⟨S2x4x256, .f32⟩
  | 45 => ⟨S2x4x256, .f32⟩
  | 46 => ⟨S2x4x256, .f32⟩
  | 47 => ⟨S_, .f32⟩
  | 48 => ⟨S2x4x256, .f32⟩
  | 49 => ⟨S2x4x256, .f32⟩
  | 50 => ⟨S2x4x256, .f32⟩
  | 51 => ⟨S_, .f32⟩
  | 52 => ⟨S2x4x256, .f32⟩
  | 53 => ⟨S2x4x256, .f32⟩
  | 54 => ⟨S_, .f32⟩
  | 55 => ⟨S2x4x256, .f32⟩
  | 56 => ⟨S2x4x256, .f32⟩
  | 57 => ⟨S2x4x256, .f32⟩
  | 58 => ⟨S_, .f32⟩
  | 59 => ⟨S2x4x256, .f32⟩
  | 60 => ⟨S2x4x256, .f32⟩
  | 61 => ⟨S2x4x256, .f32⟩
  | 62 => ⟨S_, .f32⟩
  | 63 => ⟨S2x4x256, .f32⟩
  | 64 => ⟨S2x4x256, .f32⟩
  | 65 => ⟨S2x4x256, .f32⟩
  | 66 => ⟨S_, .f32⟩
  | 67 => ⟨S2x4x256, .f32⟩
  | 68 => ⟨S2x4x256, .f32⟩
  | 69 => ⟨S_, .f32⟩
  | 70 => ⟨S1x3x128, .f32⟩
  | 71 => ⟨S1x3x128, .f32⟩
  | 72 => ⟨S_, .f32⟩
  | 73 => ⟨S1x3x128, .f32⟩
  | 74 => ⟨S1x3x128, .f32⟩
  | 75 => ⟨S1x3x128, .f32⟩
  | 76 => ⟨S_, .f32⟩
  | 77 => ⟨S1x3x128, .f32⟩
  | 78 => ⟨S1x3x128, .f32⟩
  | 79 => ⟨S1x3x128, .f32⟩
  | 80 => ⟨S_, .f32⟩
  | 81 => ⟨S1x3x128, .f32⟩
  | 82 => ⟨S1x3x128, .f32⟩
  | 83 => ⟨S1x3x128, .f32⟩
  | 84 => ⟨S_, .f32⟩
  | 85 => ⟨S1x3x128, .f32⟩
  | 86 => ⟨S1x3x128, .f32⟩
  | 87 => ⟨S_, .f32⟩
  | 88 => ⟨S1x3x128, .f32⟩
  | 89 => ⟨S1x3x128, .f32⟩
  | 90 => ⟨S1x3x128, .f32⟩
  | 91 => ⟨S_, .f32⟩
  | 92 => ⟨S1x3x128, .f32⟩
  | 93 => ⟨S1x3x128, .f32⟩
  | 94 => ⟨S1x3x128, .f32⟩
  | 95 => ⟨S_, .f32⟩
  | 96 => ⟨S1x3x128, .f32⟩
  | 97 => ⟨S1x3x128, .f32⟩
  | 98 => ⟨S1x3x128, .f32⟩
  | 99 => ⟨S_, .f32⟩
  | 100 => ⟨S1x3x128, .f32⟩
  | 101 => ⟨S1x3x128, .f32⟩
  | 102 => ⟨S_, .f32⟩
  | 103 => ⟨S1x4x128, .f32⟩
  | 104 => ⟨S1x4x128, .f32⟩
  | 105 => ⟨S_, .f32⟩
  | 106 => ⟨S1x4x128, .f32⟩
  | 107 => ⟨S1x4x128, .f32⟩
  | 108 => ⟨S1x4x128, .f32⟩
  | 109 => ⟨S_, .f32⟩
  | 110 => ⟨S1x4x128, .f32⟩
  | 111 => ⟨S1x4x128, .f32⟩
  | 112 => ⟨S1x4x128, .f32⟩
  | 113 => ⟨S_, .f32⟩
  | 114 => ⟨S1x4x128, .f32⟩
  | 115 => ⟨S1x4x128, .f32⟩
  | 116 => ⟨S1x4x128, .f32⟩
  | 117 => ⟨S_, .f32⟩
  | 118 => ⟨S1x4x128, .f32⟩
  | 119 => ⟨S1x4x128, .f32⟩
  | 120 => ⟨S_, .f32⟩
  | 121 => ⟨S1x4x128, .f32⟩
  | 122 => ⟨S1x4x128, .f32⟩
  | 123 => ⟨S1x4x128, .f32⟩
  | 124 => ⟨S_, .f32⟩
  | 125 => ⟨S1x4x128, .f32⟩
  | 126 => ⟨S1x4x128, .f32⟩
  | 127 => ⟨S1x4x128, .f32⟩
  | _ => ⟨S2x4x256, .f32⟩

abbrev hbmTy0_1 (i : Nat) : BufTy := match i % 128 with
  | 0 => ⟨S_, .f32⟩
  | 1 => ⟨S1x4x128, .f32⟩
  | 2 => ⟨S1x4x128, .f32⟩
  | 3 => ⟨S1x4x128, .f32⟩
  | 4 => ⟨S_, .f32⟩
  | 5 => ⟨S1x4x128, .f32⟩
  | 6 => ⟨S1x4x128, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S_, .f32⟩
  | 41 => ⟨S1x16x64x64, .f32⟩
  | 42 => ⟨S1x16x64x64, .f32⟩
  | 43 => ⟨S_, .f32⟩
  | 44 => ⟨S1x16x64x64, .f32⟩
  | 45 => ⟨S1x16x64x64, .f32⟩
  | 46 => ⟨S1x16x64x64, .f32⟩
  | 47 => ⟨S_, .f32⟩
  | 48 => ⟨S1x16x64x64, .f32⟩
  | 49 => ⟨S1x16x64x64, .f32⟩
  | 50 => ⟨S1x16x64x64, .f32⟩
  | 51 => ⟨S_, .f32⟩
  | 52 => ⟨S1x16x64x64, .f32⟩
  | 53 => ⟨S1x16x64x64, .f32⟩
  | 54 => ⟨S1x16x64x64, .f32⟩
  | 55 => ⟨S_, .f32⟩
  | 56 => ⟨S1x16x64x64, .f32⟩
  | 57 => ⟨S1x16x64x64, .f32⟩
  | 58 => ⟨S_, .f32⟩
  | 59 => ⟨S1x16x64x64, .f32⟩
  | 60 => ⟨S1x16x64x64, .f32⟩
  | 61 => ⟨S1x16x64x64, .f32⟩
  | 62 => ⟨S_, .f32⟩
  | 63 => ⟨S1x16x64x64, .f32⟩
  | 64 => ⟨S1x16x64x64, .f32⟩
  | 65 => ⟨S1x16x64x64, .f32⟩
  | 66 => ⟨S_, .f32⟩
  | 67 => ⟨S1x16x64x64, .f32⟩
  | 68 => ⟨S1x16x64x64, .f32⟩
  | 69 => ⟨S1x16x64x64, .f32⟩
  | 70 => ⟨S_, .f32⟩
  | 71 => ⟨S1x16x64x64, .f32⟩
  | 72 => ⟨S1x16x64x64, .f32⟩
  | 73 => ⟨S_, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S_, .f32⟩
  | 107 => ⟨S1x16x64x64, .f32⟩
  | 108 => ⟨S1x16x64x64, .f32⟩
  | 109 => ⟨S_, .f32⟩
  | 110 => ⟨S1x16x64x64, .f32⟩
  | 111 => ⟨S1x16x64x64, .f32⟩
  | 112 => ⟨S1x16x64x64, .f32⟩
  | 113 => ⟨S_, .f32⟩
  | 114 => ⟨S1x16x64x64, .f32⟩
  | 115 => ⟨S1x16x64x64, .f32⟩
  | 116 => ⟨S1x16x64x64, .f32⟩
  | 117 => ⟨S_, .f32⟩
  | 118 => ⟨S1x16x64x64, .f32⟩
  | 119 => ⟨S1x16x64x64, .f32⟩
  | 120 => ⟨S1x16x64x64, .f32⟩
  | 121 => ⟨S_, .f32⟩
  | 122 => ⟨S1x16x64x64, .f32⟩
  | 123 => ⟨S1x16x64x64, .f32⟩
  | 124 => ⟨S_, .f32⟩
  | 125 => ⟨S1x16x64x64, .f32⟩
  | 126 => ⟨S1x16x64x64, .f32⟩
  | 127 => ⟨S1x16x64x64, .f32⟩
  | _ => ⟨S2x4x256, .f32⟩

abbrev hbmTy0_2 (i : Nat) : BufTy := match i % 128 with
  | 0 => ⟨S_, .f32⟩
  | 1 => ⟨S1x16x64x64, .f32⟩
  | 2 => ⟨S1x16x64x64, .f32⟩
  | 3 => ⟨S1x16x64x64, .f32⟩
  | 4 => ⟨S_, .f32⟩
  | 5 => ⟨S1x16x64x64, .f32⟩
  | 6 => ⟨S1x16x64x64, .f32⟩
  | 7 => ⟨S1x16x64x64, .f32⟩
  | 8 => ⟨S_, .f32⟩
  | 9 => ⟨S1x16x64x64, .f32⟩
  | 10 => ⟨S1x16x64x64, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | _ => ⟨S2x4x256, .f32⟩

abbrev hbmTy (i : Nat) : BufTy := match i / 128 with
  | 0 => hbmTy0_0 i
  | 1 => hbmTy0_1 i
  | 2 => hbmTy0_2 i
  | _ => ⟨S2x4x256, .f32⟩

abbrev bufTy : (tb : Table) → Fin (tcTables nBuf tb) → BufTy
  | .hbm, ⟨i, _⟩ => hbmTy i
  | _, _ => ⟨S2x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== SumSmall.lean ====
abbrev S8x2x4x2048 : Shape := ⟨4, ![8, 2, 4, 2048]⟩
abbrev S8x3x1024 : Shape := ⟨3, ![8, 3, 1024]⟩
abbrev S8x4x1024 : Shape := ⟨3, ![8, 4, 1024]⟩
abbrev S8x1x1024 : Shape := ⟨3, ![8, 1, 1024]⟩
abbrev S8x16x64x64 : Shape := ⟨4, ![8, 16, 64, 64]⟩
abbrev S8x1 : Shape := ⟨2, ![8, 1]⟩
abbrev S_ : Shape := ⟨0, ![]⟩
abbrev S2x4x2048 : Shape := ⟨3, ![2, 4, 2048]⟩
abbrev S3x1024 : Shape := ⟨2, ![3, 1024]⟩
abbrev S4x1024 : Shape := ⟨2, ![4, 1024]⟩
abbrev S1x1024 : Shape := ⟨2, ![1, 1024]⟩
abbrev S16x64x64 : Shape := ⟨3, ![16, 64, 64]⟩
abbrev S1 : Shape := ⟨1, ![1]⟩
abbrev S16384 : Shape := ⟨1, ![16384]⟩
abbrev S128x128 : Shape := ⟨2, ![128, 128]⟩
abbrev S3072 : Shape := ⟨1, ![3072]⟩
abbrev S24x128 : Shape := ⟨2, ![24, 128]⟩
abbrev S4096 : Shape := ⟨1, ![4096]⟩
abbrev S32x128 : Shape := ⟨2, ![32, 128]⟩
abbrev S1024 : Shape := ⟨1, ![1024]⟩
abbrev S8x128 : Shape := ⟨2, ![8, 128]⟩
abbrev S65536 : Shape := ⟨1, ![65536]⟩
abbrev S512x128 : Shape := ⟨2, ![512, 128]⟩
abbrev S1248x128 : Shape := ⟨2, ![1248, 128]⟩
abbrev S8x16384 : Shape := ⟨2, ![8, 16384]⟩
abbrev S8x128x128 : Shape := ⟨3, ![8, 128, 128]⟩
abbrev S8x3072 : Shape := ⟨2, ![8, 3072]⟩
abbrev S8x24x128 : Shape := ⟨3, ![8, 24, 128]⟩
abbrev S8x4096 : Shape := ⟨2, ![8, 4096]⟩
abbrev S8x32x128 : Shape := ⟨3, ![8, 32, 128]⟩
abbrev S8x1024 : Shape := ⟨2, ![8, 1024]⟩
abbrev S8x8x128 : Shape := ⟨3, ![8, 8, 128]⟩
abbrev S8x65536 : Shape := ⟨2, ![8, 65536]⟩
abbrev S8x512x128 : Shape := ⟨3, ![8, 512, 128]⟩
abbrev S8x1248x128 : Shape := ⟨3, ![8, 1248, 128]⟩
abbrev S1x1248x128 : Shape := ⟨3, ![1, 1248, 128]⟩
abbrev S1x3x1024 : Shape := ⟨3, ![1, 3, 1024]⟩
abbrev S1x4x1024 : Shape := ⟨3, ![1, 4, 1024]⟩
abbrev S1x16x64x64 : Shape := ⟨4, ![1, 16, 64, 64]⟩

abbrev nBuf : Space → Nat
  | .hbm => 168
  | .vmem => 2
  | .smem => 0
  | _ => 0

abbrev hbmTy0_0 (i : Nat) : BufTy := match i % 128 with
  | 0 => ⟨S8x2x4x2048, .f32⟩
  | 1 => ⟨S8x3x1024, .f32⟩
  | 2 => ⟨S8x4x1024, .f32⟩
  | 3 => ⟨S8x1x1024, .f32⟩
  | 4 => ⟨S8x16x64x64, .f32⟩
  | 5 => ⟨S8x1x1024, .f32⟩
  | 6 => ⟨S8x16x64x64, .f32⟩
  | 7 => ⟨S8x1x1024, .f32⟩
  | 8 => ⟨S8x1x1024, .f32⟩
  | 9 => ⟨S8x1, .f32⟩
  | 10 => ⟨S_, .f32⟩
  | 11 => ⟨S2x4x2048, .f32⟩
  | 12 => ⟨S_, .f32⟩
  | 13 => ⟨S3x1024, .f32⟩
  | 14 => ⟨S_, .f32⟩
  | 15 => ⟨S4x1024, .f32⟩
  | 16 => ⟨S_, .f32⟩
  | 17 => ⟨S1x1024, .f32⟩
  | 18 => ⟨S_, .f32⟩
  | 19 => ⟨S16x64x64, .f32⟩
  | 20 => ⟨S_, .f32⟩
  | 21 => ⟨S1x1024, .f32⟩
  | 22 => ⟨S_, .f32⟩
  | 23 => ⟨S16x64x64, .f32⟩
  | 24 => ⟨S_, .f32⟩
  | 25 => ⟨S1x1024, .f32⟩
  | 26 => ⟨S_, .f32⟩
  | 27 => ⟨S1x1024, .f32⟩
  | 28 => ⟨S_, .f32⟩
  | 29 => ⟨S1, .f32⟩
  | 30 => ⟨S16384, .f32⟩
  | 31 => ⟨S_, .i32⟩
  | 32 => ⟨S_, .f32⟩
  | 33 => ⟨S16384, .f32⟩
  | 34 => ⟨S128x128, .f32⟩
  | 35 => ⟨S3072, .f32⟩
  | 36 => ⟨S_, .i32⟩
  | 37 => ⟨S_, .f32⟩
  | 38 => ⟨S3072, .f32⟩
  | 39 => ⟨S24x128, .f32⟩
  | 40 => ⟨S4096, .f32⟩
  | 41 => ⟨S_, .i32⟩
  | 42 => ⟨S_, .f32⟩
  | 43 => ⟨S4096, .f32⟩
  | 44 => ⟨S32x128, .f32⟩
  | 45 => ⟨S1024, .f32⟩
  | 46 => ⟨S_, .i32⟩
  | 47 => ⟨S_, .f32⟩
  | 48 => ⟨S1024, .f32⟩
  | 49 => ⟨S8x128, .f32⟩
  | 50 => ⟨S65536, .f32⟩
  | 51 => ⟨S_, .i32⟩
  | 52 => ⟨S_, .f32⟩
  | 53 => ⟨S65536, .f32⟩
  | 54 => ⟨S512x128, .f32⟩
  | 55 => ⟨S1024, .f32⟩
  | 56 => ⟨S_, .i32⟩
  | 57 => ⟨S_, .f32⟩
  | 58 => ⟨S1024, .f32⟩
  | 59 => ⟨S8x128, .f32⟩
  | 60 => ⟨S65536, .f32⟩
  | 61 => ⟨S_, .i32⟩
  | 62 => ⟨S_, .f32⟩
  | 63 => ⟨S65536, .f32⟩
  | 64 => ⟨S512x128, .f32⟩
  | 65 => ⟨S1024, .f32⟩
  | 66 => ⟨S_, .i32⟩
  | 67 => ⟨S_, .f32⟩
  | 68 => ⟨S1024, .f32⟩
  | 69 => ⟨S8x128, .f32⟩
  | 70 => ⟨S1024, .f32⟩
  | 71 => ⟨S_, .i32⟩
  | 72 => ⟨S_, .f32⟩
  | 73 => ⟨S1024, .f32⟩
  | 74 => ⟨S8x128, .f32⟩
  | 75 => ⟨S_, .i32⟩
  | 76 => ⟨S_, .f32⟩
  | 77 => ⟨S1024, .f32⟩
  | 78 => ⟨S8x128, .f32⟩
  | 79 => ⟨S1248x128, .f32⟩
  | 80 => ⟨S8x16384, .f32⟩
  | 81 => ⟨S_, .i32⟩
  | 82 => ⟨S_, .f32⟩
  | 83 => ⟨S8x16384, .f32⟩
  | 84 => ⟨S8x128x128, .f32⟩
  | 85 => ⟨S8x3072, .f32⟩
  | 86 => ⟨S_, .i32⟩
  | 87 => ⟨S_, .f32⟩
  | 88 => ⟨S8x3072, .f32⟩
  | 89 => ⟨S8x24x128, .f32⟩
  | 90 => ⟨S8x4096, .f32⟩
  | 91 => ⟨S_, .i32⟩
  | 92 => ⟨S_, .f32⟩
  | 93 => ⟨S8x4096, .f32⟩
  | 94 => ⟨S8x32x128, .f32⟩
  | 95 => ⟨S8x1024, .f32⟩
  | 96 => ⟨S_, .i32⟩
  | 97 => ⟨S_, .f32⟩
  | 98 => ⟨S8x1024, .f32⟩
  | 99 => ⟨S8x8x128, .f32⟩
  | 100 => ⟨S8x65536, .f32⟩
  | 101 => ⟨S_, .i32⟩
  | 102 => ⟨S_, .f32⟩
  | 103 => ⟨S8x65536, .f32⟩
  | 104 => ⟨S8x512x128, .f32⟩
  | 105 => ⟨S8x1024, .f32⟩
  | 106 => ⟨S_, .i32⟩
  | 107 => ⟨S_, .f32⟩
  | 108 => ⟨S8x1024, .f32⟩
  | 109 => ⟨S8x8x128, .f32⟩
  | 110 => ⟨S8x65536, .f32⟩
  | 111 => ⟨S_, .i32⟩
  | 112 => ⟨S_, .f32⟩
  | 113 => ⟨S8x65536, .f32⟩
  | 114 => ⟨S8x512x128, .f32⟩
  | 115 => ⟨S8x1024, .f32⟩
  | 116 => ⟨S_, .i32⟩
  | 117 => ⟨S_, .f32⟩
  | 118 => ⟨S8x1024, .f32⟩
  | 119 => ⟨S8x8x128, .f32⟩
  | 120 => ⟨S8x1024, .f32⟩
  | 121 => ⟨S_, .i32⟩
  | 122 => ⟨S_, .f32⟩
  | 123 => ⟨S8x1024, .f32⟩
  | 124 => ⟨S8x8x128, .f32⟩
  | 125 => ⟨S_, .i32⟩
  | 126 => ⟨S_, .f32⟩
  | 127 => ⟨S8x1024, .f32⟩
  | _ => ⟨S8x2x4x2048, .f32⟩

abbrev hbmTy0_1 (i : Nat) : BufTy := match i % 128 with
  | 0 => ⟨S8x8x128, .f32⟩
  | 1 => ⟨S8x1248x128, .f32⟩
  | 2 => ⟨S1248x128, .f32⟩
  | 3 => ⟨S8x128, .f32⟩
  | 4 => ⟨S1024, .f32⟩
  | 5 => ⟨S1, .f32⟩
  | 6 => ⟨S_, .f32⟩
  | 7 => ⟨S_, .f32⟩
  | 8 => ⟨S_, .f32⟩
  | 9 => ⟨S128x128, .f32⟩
  | 10 => ⟨S16384, .f32⟩
  | 11 => ⟨S2x4x2048, .f32⟩
  | 12 => ⟨S24x128, .f32⟩
  | 13 => ⟨S3072, .f32⟩
  | 14 => ⟨S3x1024, .f32⟩
  | 15 => ⟨S32x128, .f32⟩
  | 16 => ⟨S4096, .f32⟩
  | 17 => ⟨S4x1024, .f32⟩
  | 18 => ⟨S8x128, .f32⟩
  | 19 => ⟨S1024, .f32⟩
  | 20 => ⟨S1x1024, .f32⟩
  | 21 => ⟨S512x128, .f32⟩
  | 22 => ⟨S65536, .f32⟩
  | 23 => ⟨S16x64x64, .f32⟩
  | 24 => ⟨S8x128, .f32⟩
  | 25 => ⟨S1024, .f32⟩
  | 26 => ⟨S1x1024, .f32⟩
  | 27 => ⟨S512x128, .f32⟩
  | 28 => ⟨S65536, .f32⟩
  | 29 => ⟨S16x64x64, .f32⟩
  | 30 => ⟨S8x128, .f32⟩
  | 31 => ⟨S1024, .f32⟩
  | 32 => ⟨S1x1024, .f32⟩
  | 33 => ⟨S8x128, .f32⟩
  | 34 => ⟨S1024, .f32⟩
  | 35 => ⟨S1x1024, .f32⟩
  | 36 => ⟨S1x3x1024, .f32⟩
  | 37 => ⟨S1x4x1024, .f32⟩
  | 38 => ⟨S1x16x64x64, .f32⟩
  | 39 => ⟨S1x16x64x64, .f32⟩
  | _ => ⟨S8x2x4x2048, .f32⟩

abbrev hbmTy (i : Nat) : BufTy := match i / 128 with
  | 0 => hbmTy0_0 i
  | 1 => hbmTy0_1 i
  | _ => ⟨S8x2x4x2048, .f32⟩

abbrev bufTy : (tb : Table) → Fin (tcTables nBuf tb) → BufTy
  | .hbm, ⟨i, _⟩ => hbmTy i
  | .local _ .vmem, ⟨0, _⟩ => ⟨S8x1248x128, .f32⟩
  | .local _ .vmem, ⟨1, _⟩ => ⟨S1248x128, .f32⟩
  | _, _ => ⟨S8x2x4x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_cst_4 : Ref sig .tc := ⟨.hbm, 20, rfl⟩
abbrev main_v5 : Ref sig .tc := ⟨.hbm, 21, rfl⟩
abbrev main_cst_5 : Ref sig .tc := ⟨.hbm, 22, rfl⟩
abbrev main_v6 : Ref sig .tc := ⟨.hbm, 23, rfl⟩
abbrev main_cst_6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_cst_8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_call0_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_9 : Ref sig .tc := ⟨.hbm, 36, rfl⟩
abbrev main_call1_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_10 : Ref sig .tc := ⟨.hbm, 41, rfl⟩
abbrev main_call2_v0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_11 : Ref sig .tc := ⟨.hbm, 46, rfl⟩
abbrev main_call3_v0 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_12 : Ref sig .tc := ⟨.hbm, 51, rfl⟩
abbrev main_call4_v0 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_13 : Ref sig .tc := ⟨.hbm, 56, rfl⟩
abbrev main_call5_v0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_14 : Ref sig .tc := ⟨.hbm, 61, rfl⟩
abbrev main_call6_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_15 : Ref sig .tc := ⟨.hbm, 66, rfl⟩
abbrev main_call7_v0 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_16 : Ref sig .tc := ⟨.hbm, 71, rfl⟩
abbrev main_call8_v0 : Ref sig .tc := ⟨.hbm, 72, rfl⟩
abbrev main_v35 : Ref sig .tc := ⟨.hbm, 73, rfl⟩
abbrev main_v36 : Ref sig .tc := ⟨.hbm, 74, rfl⟩
abbrev main_c_17 : Ref sig .tc := ⟨.hbm, 75, rfl⟩
abbrev main_call9_v0 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_c_18 : Ref sig .tc := ⟨.hbm, 81, rfl⟩
abbrev main_call10_v0 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_19 : Ref sig .tc := ⟨.hbm, 86, rfl⟩
abbrev main_call11_v0 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_20 : Ref sig .tc := ⟨.hbm, 91, rfl⟩
abbrev main_call12_v0 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_c_21 : Ref sig .tc := ⟨.hbm, 96, rfl⟩
abbrev main_call13_v0 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_c_22 : Ref sig .tc := ⟨.hbm, 101, rfl⟩
abbrev main_call14_v0 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_23 : Ref sig .tc := ⟨.hbm, 106, rfl⟩
abbrev main_call15_v0 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_c_24 : Ref sig .tc := ⟨.hbm, 111, rfl⟩
abbrev main_call16_v0 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_c_25 : Ref sig .tc := ⟨.hbm, 116, rfl⟩
abbrev main_call17_v0 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_c_26 : Ref sig .tc := ⟨.hbm, 121, rfl⟩
abbrev main_call18_v0 : Ref sig .tc := ⟨.hbm, 122, rfl⟩
abbrev main_v65 : Ref sig .tc := ⟨.hbm, 123, rfl⟩
abbrev main_v66 : Ref sig .tc := ⟨.hbm, 124, rfl⟩
abbrev main_c_27 : Ref sig .tc := ⟨.hbm, 125, rfl⟩
abbrev main_call19_v0 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_28 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallReferenceIdeal.lean ====
abbrev S8x2x4x2048 : Shape := ⟨4, ![8, 2, 4, 2048]⟩
abbrev S8x3x1024 : Shape := ⟨3, ![8, 3, 1024]⟩
abbrev S8x4x1024 : Shape := ⟨3, ![8, 4, 1024]⟩
abbrev S8x1x1024 : Shape := ⟨3, ![8, 1, 1024]⟩
abbrev S8x16x64x64 : Shape := ⟨4, ![8, 16, 64, 64]⟩
abbrev S8x1 : Shape := ⟨2, ![8, 1]⟩
abbrev S_ : Shape := ⟨0, ![]⟩
abbrev S2x4x2048 : Shape := ⟨3, ![2, 4, 2048]⟩
abbrev S3x1024 : Shape := ⟨2, ![3, 1024]⟩
abbrev S4x1024 : Shape := ⟨2, ![4, 1024]⟩
abbrev S1x1024 : Shape := ⟨2, ![1, 1024]⟩
abbrev S16x64x64 : Shape := ⟨3, ![16, 64, 64]⟩
abbrev S1x3x1024 : Shape := ⟨3, ![1, 3, 1024]⟩
abbrev S1x4x1024 : Shape := ⟨3, ![1, 4, 1024]⟩
abbrev S1x16x64x64 : Shape := ⟨4, ![1, 16, 64, 64]⟩

abbrev nBuf : Space → Nat
  | .hbm => 38
  | .vmem => 0
  | .smem => 0
  | _ => 0

abbrev bufTy : (tb : Table) → Fin (tcTables nBuf tb) → BufTy
  | .hbm, ⟨0, _⟩ => ⟨S8x2x4x2048, .f32⟩
  | .hbm, ⟨1, _⟩ => ⟨S8x3x1024, .f32⟩
  | .hbm, ⟨2, _⟩ => ⟨S8x4x1024, .f32⟩
  | .hbm, ⟨3, _⟩ => ⟨S8x1x1024, .f32⟩
  | .hbm, ⟨4, _⟩ => ⟨S8x16x64x64, .f32⟩
  | .hbm, ⟨5, _⟩ => ⟨S8x1x1024, .f32⟩
  | .hbm, ⟨6, _⟩ => ⟨S8x16x64x64, .f32⟩
  | .hbm, ⟨7, _⟩ => ⟨S8x1x1024, .f32⟩
  | .hbm, ⟨8, _⟩ => ⟨S8x1x1024, .f32⟩
  | .hbm, ⟨9, _⟩ => ⟨S8x1, .f32⟩
  | .hbm, ⟨10, _⟩ => ⟨S_, .f32⟩
  | .hbm, ⟨11, _⟩ => ⟨S2x4x2048, .f32⟩
  | .hbm, ⟨12, _⟩ => ⟨S_, .f32⟩
  | .hbm, ⟨13, _⟩ => ⟨S3x1024, .f32⟩
  | .hbm, ⟨14, _⟩ => ⟨S_, .f32⟩
  | .hbm, ⟨15, _⟩ => ⟨S4x1024, .f32⟩
  | .hbm, ⟨16, _⟩ => ⟨S_, .f32⟩
  | .hbm, ⟨17, _⟩ => ⟨S1x1024, .f32⟩
  | .hbm, ⟨18, _⟩ => ⟨S_, .f32⟩
  | .hbm, ⟨19, _⟩ => ⟨S16x64x64, .f32⟩
  | .hbm, ⟨20, _⟩ => ⟨S_, .f32⟩
  | .hbm, ⟨21, _⟩ => ⟨S1x1024, .f32⟩
  | .hbm, ⟨22, _⟩ => ⟨S_, .f32⟩
  | .hbm, ⟨23, _⟩ => ⟨S16x64x64, .f32⟩
  | .hbm, ⟨24, _⟩ => ⟨S_, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x3x1024, .f32⟩
  | .hbm, ⟨29, _⟩ => ⟨S1x4x1024, .f32⟩
  | .hbm, ⟨30, _⟩ => ⟨S1x16x64x64, .f32⟩
  | .hbm, ⟨31, _⟩ => ⟨S1x16x64x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8x2x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_cst_4 : Ref sig .tc := ⟨.hbm, 20, rfl⟩
abbrev main_v5 : Ref sig .tc := ⟨.hbm, 21, rfl⟩
abbrev main_cst_5 : Ref sig .tc := ⟨.hbm, 22, rfl⟩
abbrev main_v6 : Ref sig .tc := ⟨.hbm, 23, rfl⟩
abbrev main_cst_6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_8 : Ref sig .tc := ⟨.hbm, 32, rfl⟩
abbrev main_v13 : Ref sig .tc := ⟨.hbm, 33, rfl⟩
abbrev main_cst_9 : Ref sig .tc := ⟨.hbm, 34, rfl⟩
abbrev main_v14 : Ref sig .tc := ⟨.hbm, 35, rfl⟩
abbrev main_cst_10 : Ref sig .tc := ⟨.hbm, 36, rfl⟩
abbrev main_v15 : Ref sig .tc := ⟨.hbm, 37, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormBwdPair.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdPairReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 104
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x2048, .f32⟩
  | .hbm, ⟨72, _⟩ => ⟨S4096x2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S2048, .f32⟩
  | .hbm, ⟨84, _⟩ => ⟨S4096x2048, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x2048, .f32⟩
  | .hbm, ⟨89, _⟩ => ⟨S4096x2048, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S4096x2048, .f32⟩
  | .hbm, ⟨100, _⟩ => ⟨S4096x2048, .f32⟩
  | .hbm, ⟨101, _⟩ => ⟨S4096x2048, .bf16⟩
  | .hbm, ⟨102, _⟩ => ⟨S1x2048, .f32⟩
  | .hbm, ⟨103, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== NormIn.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ResidNorm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidNormReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== FinalLoss.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x256x2048 : Shape := ⟨3, ![1, 256, 2048]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S8x128, .f32⟩
  | .hbm, ⟨8, _⟩ => ⟨S1x1, .f32⟩
  | .hbm, ⟨9, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FinalLossReferenceIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 99
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .bf16⟩
  | .hbm, ⟨76, _⟩ => ⟨S1x2048, .f32⟩
  | .hbm, ⟨77, _⟩ => ⟨S2048, .f32⟩
  | .hbm, ⟨78, _⟩ => ⟨S4096x2048, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S4096x1, .f32⟩
  | .hbm, ⟨89, _⟩ => ⟨S4096x2048, .f32⟩
  | .hbm, ⟨90, _⟩ => ⟨S4096x2048, .f32⟩
  | .hbm, ⟨91, _⟩ => ⟨S1x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_cst_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== MixerA.lean ====
abbrev S5x4096x1024 : Shape := ⟨3, ![5, 4096, 1024]⟩
abbrev S3x1024 : Shape := ⟨2, ![3, 1024]⟩
abbrev S2x4096x1024 : Shape := ⟨3, ![2, 4096, 1024]⟩
abbrev S1x4096x128 : Shape := ⟨3, ![1, 4096, 128]⟩
abbrev S3x128 : Shape := ⟨2, ![3, 128]⟩
abbrev S4104x128 : Shape := ⟨2, ![4104, 128]⟩
abbrev S8x128 : Shape := ⟨2, ![8, 128]⟩
abbrev S1x512x128 : Shape := ⟨3, ![1, 512, 128]⟩
abbrev S512x128 : Shape := ⟨2, ![512, 128]⟩
abbrev S1x128 : Shape := ⟨2, ![1, 128]⟩
abbrev S1x4096x1024 : Shape := ⟨3, ![1, 4096, 1024]⟩
abbrev S4096x1024 : Shape := ⟨2, ![4096, 1024]⟩

abbrev nBuf : Space → Nat
  | .hbm => 5
  | .vmem => 11
  | .smem => 0
  | _ => 0

abbrev bufTy : (tb : Table) → Fin (tcTables nBuf tb) → BufTy
  | .hbm, ⟨0, _⟩ => ⟨S5x4096x1024, .f32⟩
  | .hbm, ⟨1, _⟩ => ⟨S3x1024, .f32⟩
  | .hbm, ⟨2, _⟩ => ⟨S2x4096x1024, .bf16⟩
  | .hbm, ⟨3, _⟩ => ⟨S1x4096x1024, .bf16⟩
  | .hbm, ⟨4, _⟩ => ⟨S4096x1024, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S3x128, .f32⟩
  | .local _ .vmem, ⟨7, _⟩ => ⟨S3x128, .f32⟩
  | .local _ .vmem, ⟨8, _⟩ => ⟨S1x4096x128, .bf16⟩
  | .local _ .vmem, ⟨9, _⟩ => ⟨S1x4096x128, .bf16⟩
  | .local _ .vmem, ⟨10, _⟩ => ⟨S4104x128, .f32⟩
  | _, _ => ⟨S5x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixerAReferenceIdeal.lean ====
abbrev S5x4096x1024 : Shape := ⟨3, ![5, 4096, 1024]⟩
abbrev S3x1024 : Shape := ⟨2, ![3, 1024]⟩
abbrev S1x4096x1024 : Shape := ⟨3, ![1, 4096, 1024]⟩
abbrev S_ : Shape := ⟨0, ![]⟩
abbrev S1x2x1024 : Shape := ⟨3, ![1, 2, 1024]⟩
abbrev S1x4098x1024 : Shape := ⟨3, ![1, 4098, 1024]⟩
abbrev S1x1024 : Shape := ⟨2, ![1, 1024]⟩
abbrev S1024 : Shape := ⟨1, ![1024]⟩
abbrev S1x1x1024 : Shape := ⟨3, ![1, 1, 1024]⟩
abbrev S4096x1024 : Shape := ⟨2, ![4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S5x4096x1024, .f32⟩
  | .hbm, ⟨1, _⟩ => ⟨S3x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S1x4096x1024, .f32⟩
  | .hbm, ⟨6, _⟩ => ⟨S_, .f32⟩
  | .hbm, ⟨7, _⟩ => ⟨S1x2x1024, .f32⟩
  | .hbm, ⟨8, _⟩ => ⟨S1x4098x1024, .f32⟩
  | .hbm, ⟨9, _⟩ => ⟨S1x1024, .f32⟩
  | .hbm, ⟨10, _⟩ => ⟨S1024, .f32⟩
  | .hbm, ⟨11, _⟩ => ⟨S1x1x1024, .f32⟩
  | .hbm, ⟨12, _⟩ => ⟨S1x4096x1024, .f32⟩
  | .hbm, ⟨13, _⟩ => ⟨S1x4096x1024, .f32⟩
  | .hbm, ⟨14, _⟩ => ⟨S1x1024, .f32⟩
  | .hbm, ⟨15, _⟩ => ⟨S1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x1024, .f32⟩
  | .hbm, ⟨22, _⟩ => ⟨S1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S4096x1024, .f32⟩
  | .hbm, ⟨30, _⟩ => ⟨S4096x1024, .bf16⟩
  | _, _ => ⟨S5x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Proof.Mat.lean ====
/- Sums of products over the extended reals: the few facts the matrix products share. -/
module

public import Idealize.ShloMosaic.Lib.Pipeline.ValueKit
public import Idealize.ShloMosaic.Lib.Pipeline.ReadBack

@[expose] public section

noncomputable section

namespace Cert.Mat

theorem mul_eq {a b c d : EReal} (h : a = c) (k : b = d) : a * b = c * d := congr (congrArg _ h) k

theorem add_eq {a b c d : EReal} (h : a = c) (k : b = d) : a + b = c + d := congr (congrArg _ h) k

/-- Two sums of products with equal factors. -/
theorem sum_eq {n : ℕ} {f g f' g' : Fin n → EReal} (h : ∀ k, f k = f' k) (k : ∀ k, g k = g' k) :
    ∑ j, f j * g j = ∑ j, f' j * g' j :=
  Finset.sum_congr rfl fun j _ => mul_eq (h j) (k j)

theorem sq_eq {a b : EReal} (h : a = b) : max a 0 * max a 0 = max b 0 * max b 0 := by rw [h]

/-- The f32 pattern of two. -/
theorem ofBits_two : Idealize.ShloMosaic.Ideal.ofBits .f32 0x40000000#32 = 2 := by
  rw [show (2 : EReal) = ((2 : ℝ) : EReal) by norm_cast]
  simp [Idealize.ShloMosaic.Ideal.ofBits, Idealize.ShloMosaic.Ideal.ieee, -EReal.coe_mul]; norm_num

theorem two_mul (x : EReal) : 2 * x = x + x := by
  have h := EReal.right_distrib_of_nonneg (a := 1) (b := 1) (c := x) zero_le_one zero_le_one
  rw [one_add_one_eq_two, one_mul] at h
  exact h

/-- The derivative of the squared positive part, as its product rule writes it. -/
theorem relu_grad (r u : EReal) : (if 0 < u then max u 0 * r + r * max u 0 else 0) = r * (2 * max u 0) := by
  by_cases h : 0 < u
  · rw [if_pos h, mul_comm (max u 0) r, ← two_mul, ← mul_assoc, ← mul_assoc, mul_comm 2 r]
  · rw [if_neg h, max_eq_right (not_lt.mp h), mul_zero, mul_zero]

/-- A sum over `J * K` numbers, chunk by chunk. -/
theorem sum_chunks (f : ℕ → EReal) (J K : ℕ) :
    ∑ k : Fin (J * K), f k.val = ∑ q ∈ Finset.range J, ∑ k : Fin K, f (q * K + k.val) := by
  rw [Fin.sum_univ_eq_sum_range]
  induction J with
  | zero => simp
  | succ J ih =>
    rw [Nat.succ_mul, Finset.sum_range_add, ih, Finset.sum_range_succ, Fin.sum_univ_eq_sum_range fun x => f (J * K + x)]

/-- Two sums of products whose factors are exchanged. -/
theorem sum_swap {n : ℕ} {f g f' g' : Fin n → EReal} (h : ∀ k, f k = g' k) (k : ∀ k, g k = f' k) :
    ∑ j, f j * g j = ∑ j, f' j * g' j :=
  Finset.sum_congr rfl fun j _ => (mul_eq (h j) (k j)).trans (mul_comm _ _)

end Cert.Mat

end
-- ==== Proof.MlpUp.lean ====
/- The first product of the squared-ReLU layer: what the call writes and what the reference computes, index by index. -/
module

public import proofs.«01_k».proof.Proof.Gen.MlpUpIdeal.Value
public import proofs.«01_k».proof.Proof.Gen.MlpUpReferenceIdeal.Run
public import proofs.«01_k».proof.Proof.Gen.MlpUpReferenceIdeal.Read
public import proofs.«01_k».proof.Proof.Mat

@[expose] public section

set_option maxRecDepth 16384

noncomputable section

namespace Cert.MlpUpIdeal.Whole

open Idealize.ShloMosaic Idealize.ShloMosaic.TcCoe Idealize.ShloMosaic.Tactic Idealize.SL.Sem
open Cert.MlpUpIdeal Cert.MlpUpIdeal.Gen
open Cert.Mat

/-- Row `i 0` of the input against column `i 1` of the weight, whose columns come in blocks of 1024. -/
def up (h : S4096x2048.Idx → EReal) (w : S8x2048x1024.Idx → EReal) (i : S4096x8192.Idx) : EReal :=
  ∑ k : Fin 2048, h (ix2 (i 0) k)
    * w (ix3 ⟨(i 1).val / 1024, Nat.div_lt_of_lt_mul (i 1).isLt⟩ k ⟨(i 1).val % 1024, Nat.mod_lt _ (by decide)⟩)

/-- The square of the positive part. -/
def act (h : S4096x2048.Idx → EReal) (w : S8x2048x1024.Idx → EReal) (i : S4096x8192.Idx) : EReal :=
  max (up h w i) 0 * max (up h w i) 0

variable (m : (ℓ : Loc nD τ sig) → Buf (Elt Ideal) ℓ) (c : Dev nD)

abbrev a0 : S4096x2048.Idx → EReal := m ((c.tc : Thread nD τ).loc main_arg0)
abbrev a1 : S8x2048x1024.Idx → EReal := m ((c.tc : Thread nD τ).loc main_arg1)

theorem cov2 : (cfg0.win 2).Covers := by decide +kernel
theorem cov3 : (cfg0.win 3).Covers := by decide +kernel
theorem idx2 : ∀ t : Fin cfg0.N, win0_0.index t = ![win0_2.index t 0, 0] ∧ win0_1.index t = ![win0_2.index t 1, 0, 0] := by
  decide +kernel
theorem idx3 : ∀ t : Fin cfg0.N, win0_0.index t = ![win0_3.index t 0, 0] ∧ win0_1.index t = ![win0_3.index t 1, 0, 0] := by
  decide +kernel

theorem final2 : (dats m 0 c).arrAt 2 cfg0.N = up (a0 m c) (a1 m c) := by
  refine (dats m 0 c).arrAt_eq_of_covers 2 _ cov2 fun t hf y => ?_
  blk_simp
  rw [after0_2]
  frame_out
  obtain ⟨e0, e1⟩ := idx2 t
  open_payloads
  pointwise
  unfold up
  refine sum_eq (fun k => ?_) (fun k => ?_)
  · blk_ext [iblk, V, e0]
  · blk_ext [iblk, V, e1]

theorem final3 : (dats m 0 c).arrAt 3 cfg0.N = act (a0 m c) (a1 m c) := by
  refine (dats m 0 c).arrAt_eq_of_covers 3 _ cov3 fun t hf y => ?_
  blk_simp
  rw [after0_3]
  frame_out
  obtain ⟨e0, e1⟩ := idx3 t
  open_payloads
  pointwise
  refine sq_eq ?_
  unfold up
  refine sum_eq (fun k => ?_) (fun k => ?_)
  · blk_ext [iblk, V, e0]
  · blk_ext [iblk, V, e1]

theorem read5 (h : S4096x2048.Idx → EReal) (w : S8x2048x1024.Idx → EReal) (i : S4096x8192.Idx) :
    Cert.MlpUpReferenceIdeal.Read.val_main_v4 (F := Ideal) h w i = up h w i := by
  refine (Cert.MlpUpReferenceIdeal.Read.val_main_v4_apply h w i).trans ?_
  refine sum_eq (fun k => congrArg h ?_) (fun k => ?_)
  · blk_ext
  · refine (Cert.MlpUpReferenceIdeal.Read.val_main_v3_apply (F := Ideal) w _).trans
      ((Cert.MlpUpReferenceIdeal.Read.val_main_v2_apply (F := Ideal) w _).trans (congrArg w ?_))
    blk_ext

theorem read8 (h : S4096x2048.Idx → EReal) (w : S8x2048x1024.Idx → EReal) (i : S4096x8192.Idx) :
    Cert.MlpUpReferenceIdeal.Read.val_main_v8 (F := Ideal) h w i = act h w i := by
  refine (Cert.MlpUpReferenceIdeal.Read.val_main_v7_apply (F := Ideal) h w i).trans ?_
  simp only [Cert.MlpUpReferenceIdeal.Read.val_main_v6_apply, read5, Cert.MlpUpReferenceIdeal.Read.val_main_call0_v0_apply,
    Cert.MlpUpReferenceIdeal.Read.val_main_call0_cst_apply]
  pointwise
  rfl

end Cert.MlpUpIdeal.Whole

end
-- ==== Proof.MlpDown.lean ====
/- The second product of the squared-ReLU layer: what the call writes after its four passes over the hidden width, and what the reference
   computes, index by index. -/
module

public import proofs.«01_k».proof.Proof.Gen.MlpDownIdeal.Value
public import proofs.«01_k».proof.Proof.Gen.MlpDownReferenceIdeal.Run
public import proofs.«01_k».proof.Proof.Gen.MlpDownReferenceIdeal.Read
public import proofs.«01_k».proof.Proof.Mat

@[expose] public section

set_option maxRecDepth 16384

noncomputable section

namespace Cert.MlpDownIdeal.Whole

open Idealize.ShloMosaic Idealize.ShloMosaic.TcCoe Idealize.ShloMosaic.Tactic Idealize.SL.Sem
open Cert.MlpDownIdeal Cert.MlpDownIdeal.Gen
open Cert.Mat

/-- Row `i 0` of the activations against column `i 1` of the weight. -/
def prod (a : S4096x8192.Idx → EReal) (w : S8192x2048.Idx → EReal) (i : S4096x2048.Idx) : EReal :=
  ∑ k : Fin 8192, a (ix2 (i 0) k) * w (ix2 k (i 1))

/-- One term of that sum, by its number. -/
def term (a : S4096x8192.Idx → EReal) (w : S8192x2048.Idx → EReal) (i : S4096x2048.Idx) (n : ℕ) : EReal :=
  if h : n < 8192 then a (ix2 (i 0) ⟨n, h⟩) * w (ix2 ⟨n, h⟩ (i 1)) else 0

theorem prod_chunks (a : S4096x8192.Idx → EReal) (w : S8192x2048.Idx → EReal) (i : S4096x2048.Idx) :
    prod a w i = ∑ q ∈ Finset.range 4, ∑ k : Fin 2048, term a w i (q * 2048 + k.val) := by
  rw [← sum_chunks (term a w i) 4 2048]
  exact Finset.sum_congr rfl fun k _ => ((dif_pos k.isLt).symm : _ = term a w i k.val)

variable (m : (ℓ : Loc nD τ sig) → Buf (Elt Ideal) ℓ) (c : Dev nD)

abbrev a0 : S4096x8192.Idx → EReal := m ((c.tc : Thread nD τ).loc main_arg0)
abbrev a1 : S8192x2048.Idx → EReal := m ((c.tc : Thread nD τ).loc main_arg1)

abbrev b0 (n : ℕ) (h : n < cfg0.N) : S2048x2048.Idx → EReal := iblk m c 0 ⟨n, h⟩
abbrev b1 (n : ℕ) (h : n < cfg0.N) : S2048x1024.Idx → EReal := iblk m c 1 ⟨n, h⟩

/-- What one pass adds: the product of the two blocks at grid point `n`. -/
def pass (n : ℕ) (h : n < cfg0.N) (j : S2048x1024.Idx) : EReal :=
  ∑ k : Fin 2048, b0 m c n h (ix2 (j 0) k) * b1 m c n h (ix2 k (j 1))

theorem first (t : Fin cfg0.N) (h : t.val % 4 = 0) (j : S2048x1024.Idx) :
    (outsAt0 m c t.val t.isLt).2 j = pass m c t.val t.isLt j := by
  rw [outsAt0_A m c t h (by omega) (by omega)]
  frame_out
  open_payloads
  pointwise
  rfl

theorem next (t : Fin cfg0.N) (h : 1 ≤ t.val % 4 ∧ t.val % 4 ≤ 2) (j : S2048x1024.Idx) :
    (outsAt0 m c t.val t.isLt).2 j
      = (outsAt0 m c (t.val - 1) (Nat.lt_of_le_of_lt (Nat.sub_le _ _) t.isLt)).2 j + pass m c t.val t.isLt j := by
  rw [outsAt0_B m c t (by omega) h (by omega)]
  frame_out
  open_payloads
  pointwise
  refine add_eq (congrFun (Memref.IsWhole.read_unread _ _) j) ?_
  rfl

theorem last (t : Fin cfg0.N) (h : t.val % 4 = 3) (j : S2048x1024.Idx) :
    (outsAt0 m c t.val t.isLt).1 j
      = (outsAt0 m c (t.val - 1) (Nat.lt_of_le_of_lt (Nat.sub_le _ _) t.isLt)).2 j + pass m c t.val t.isLt j := by
  rw [outsAt0_C m c t (by omega) (by omega) h]
  frame_out
  open_payloads
  pointwise
  refine add_eq (congrFun (Memref.IsWhole.read_unread _ _) j) ?_
  rfl

theorem cov : (cfg0.win 2).Covers := by decide +kernel
theorem idx : ∀ t : Fin cfg0.N, win0_0.index t = ![t.val / 8, t.val % 4] ∧ win0_1.index t = ![t.val % 4, t.val / 4 % 2]
    ∧ win0_2.index t = ![t.val / 8, t.val / 4 % 2] := by
  decide +kernel

/-- One pass of the run that ends at `t`, as a chunk of the sum. -/
theorem chunk (t : Fin cfg0.N) (j : S2048x1024.Idx) (i : S4096x2048.Idx) (n q : ℕ) (h : n < cfg0.N) (hq : n % 4 = q) (hn : n / 4 = t.val / 4)
    (hi : (i 0).val = t.val / 8 * 2048 + (j 0).val) (hj : (i 1).val = t.val / 4 % 2 * 1024 + (j 1).val) :
    pass m c n h j = ∑ k : Fin 2048, term (a0 m c) (a1 m c) i (q * 2048 + k.val) := by
  obtain ⟨e0, e1, -⟩ := idx ⟨n, h⟩
  dsimp only at e0 e1
  have hq4 : q < 4 := by omega
  have hn8 : n / 8 = t.val / 8 := by omega
  refine Finset.sum_congr rfl fun k _ => ?_
  unfold term
  rw [dif_pos (by omega)]
  refine mul_eq ?_ ?_
  · blk_ext [b0, iblk, V, e0]
  · blk_ext [b1, iblk, V, e1]

theorem final : (dats m 0 c).arrAt 2 cfg0.N = prod (a0 m c) (a1 m c) := by
  refine (dats m 0 c).arrAt_eq_of_covers 2 _ cov fun t hf y => ?_
  have h3 : t.val % 4 = 3 := (flush0_2 t).mp hf
  blk_simp
  rw [after0_2]
  have h1 : t.val < cfg0.N := t.isLt
  refine (last m c t h3 y).trans ?_
  have e2 := next m c ⟨t.val - 1, by omega⟩ (by dsimp only; omega) y
  have e1 := next m c ⟨t.val - 1 - 1, by omega⟩ (by dsimp only; omega) y
  have e0 := first m c ⟨t.val - 1 - 1 - 1, by omega⟩ (by dsimp only; omega) y
  dsimp only at e2 e1 e0
  rw [e2, e1, e0, prod_chunks]
  simp only [Finset.sum_range_succ, Finset.sum_range_zero, zero_add]
  obtain ⟨-, -, e⟩ := idx t
  have hi : ((((cfg0.win 2).blk t).view.emb y : S4096x2048.Idx) 0).val = t.val / 8 * 2048 + (y 0).val := by blk_simp [e]
  have hj : ((((cfg0.win 2).blk t).view.emb y : S4096x2048.Idx) 1).val = t.val / 4 % 2 * 1024 + (y 1).val := by blk_simp [e]
  refine add_eq (add_eq (add_eq ?_ ?_) ?_) ?_ <;> exact chunk m c t y _ _ _ _ (by omega) (by omega) hi hj

theorem read (a : S4096x8192.Idx → EReal) (w : S8192x2048.Idx → EReal) (i : S4096x2048.Idx) :
    Cert.MlpDownReferenceIdeal.Read.val_main_v3 (F := Ideal) a w i = prod a w i := by
  refine (Cert.MlpDownReferenceIdeal.Read.val_main_v2_apply a w i).trans ?_
  refine sum_eq (fun k => congrArg a ?_) (fun k => congrArg w ?_) <;> blk_ext

end Cert.MlpDownIdeal.Whole

end
-- ==== Proof.MlpDownDw.lean ====
/- The gradient of the second weight of the squared-ReLU layer: what the call writes and what the reference computes, index by
   index. -/
module

public import proofs.«01_k».proof.Proof.Gen.MlpDownDwIdeal.Value

public import proofs.«01_k».proof.Proof.Mat
public import proofs.«01_k».proof.Proof.Gen.MlpDownDwReferenceIdeal.Run
public import proofs.«01_k».proof.Proof.Gen.MlpDownDwReferenceIdeal.Read

@[expose] public section

set_option maxRecDepth 16384

noncomputable section

namespace Cert.MlpDownDwIdeal.Whole

open Idealize.ShloMosaic Idealize.ShloMosaic.TcCoe Idealize.ShloMosaic.Tactic Idealize.SL.Sem
open Cert.MlpDownDwIdeal Cert.MlpDownDwIdeal.Gen
open Cert.Mat

/-- Row `i 0` of the transposed activations against column `i 1` of the gradient. -/
def prod (a : S4096x8192.Idx → EReal) (d : S4096x2048.Idx → EReal) (i : S8192x2048.Idx) : EReal :=
  ∑ k : Fin 4096, a (ix2 k (i 0)) * d (ix2 k (i 1))

variable (m : (ℓ : Loc nD τ sig) → Buf (Elt Ideal) ℓ) (c : Dev nD)

abbrev a0 : S4096x8192.Idx → EReal := m ((c.tc : Thread nD τ).loc main_arg0)
abbrev a1 : S4096x2048.Idx → EReal := m ((c.tc : Thread nD τ).loc main_arg1)

theorem cov : (cfg0.win 2).Covers := by decide +kernel
theorem idx : ∀ t : Fin cfg0.N, win0_0.index t = ![0, win0_2.index t 0] ∧ win0_1.index t = ![0, win0_2.index t 1] := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1⟩ := idx t
  open_payloads
  pointwise
  unfold prod
  refine sum_eq (fun k => ?_) (fun k => ?_)
  · blk_ext [iblk, V, e0]
  · blk_ext [iblk, V, e1]

theorem read (a : S4096x8192.Idx → EReal) (d : S4096x2048.Idx → EReal) (i : S8192x2048.Idx) :
    Cert.MlpDownDwReferenceIdeal.Read.val_main_v6 (F := Ideal) a d i = prod a d i := by
  refine (Cert.MlpDownDwReferenceIdeal.Read.val_main_v5_apply (F := Ideal) a d i).trans
    ((Cert.MlpDownDwReferenceIdeal.Read.val_main_v4_apply a d _).trans ?_)
  refine sum_swap (fun k => congrArg d ?_) (fun k => congrArg a ?_) <;> blk_ext

end Cert.MlpDownDwIdeal.Whole

end
-- ==== Proof.MlpDownDx.lean ====
/- The gradient reaching the first product of the squared-ReLU layer: what the call writes and what the reference computes, index by index. -/
module

public import proofs.«01_k».proof.Proof.Gen.MlpDownDxIdeal.Value
public import proofs.«01_k».proof.Proof.Gen.MlpDownDxReferenceIdeal.Run
public import proofs.«01_k».proof.Proof.Gen.MlpDownDxReferenceIdeal.Read
public import proofs.«01_k».proof.Proof.Mat

@[expose] public section

set_option maxRecDepth 16384

noncomputable section

namespace Cert.MlpDownDxIdeal.Whole

open Idealize.ShloMosaic Idealize.ShloMosaic.TcCoe Idealize.ShloMosaic.Tactic Idealize.SL.Sem
open Cert.MlpDownDxIdeal Cert.MlpDownDxIdeal.Gen
open Cert.Mat

/-- Row `i 0` of the gradient against row `i 1` of the weight, whose rows come in blocks of 1024, times twice the positive
    part. -/
def prod (d : S4096x2048.Idx → EReal) (w : S8x1024x2048.Idx → EReal) (i : S4096x8192.Idx) : EReal :=
  ∑ k : Fin 2048, d (ix2 (i 0) k)
    * w (ix3 ⟨(i 1).val / 1024, Nat.div_lt_of_lt_mul (i 1).isLt⟩ ⟨(i 1).val % 1024, Nat.mod_lt _ (by decide)⟩ k)

def grad (d : S4096x2048.Idx → EReal) (w : S8x1024x2048.Idx → EReal) (u : S4096x8192.Idx → EReal) (i : S4096x8192.Idx) : EReal :=
  prod d w i * (2 * max (u i) 0)

variable (m : (ℓ : Loc nD τ sig) → Buf (Elt Ideal) ℓ) (c : Dev nD)

abbrev a0 : S4096x2048.Idx → EReal := m ((c.tc : Thread nD τ).loc main_arg0)
abbrev a1 : S8x1024x2048.Idx → EReal := m ((c.tc : Thread nD τ).loc main_arg1)
abbrev a2 : S4096x8192.Idx → EReal := m ((c.tc : Thread nD τ).loc main_arg2)

theorem cov : (cfg0.win 3).Covers := by decide +kernel
theorem idx : ∀ t : Fin cfg0.N, win0_0.index t = ![win0_3.index t 0, 0] ∧ win0_1.index t = ![win0_3.index t 1, 0, 0]
    ∧ win0_2.index t = win0_3.index t := by
  decide +kernel

theorem final : (dats m 0 c).arrAt 3 cfg0.N = grad (a0 m c) (a1 m c) (a2 m c) := by
  refine (dats m 0 c).arrAt_eq_of_covers 3 _ cov fun t hf y => ?_
  blk_simp
  rw [after0_3]
  frame_out
  obtain ⟨e0, e1, e2⟩ := idx t
  open_payloads
  pointwise
  unfold grad prod
  refine mul_eq (sum_eq (fun k => ?_) (fun k => ?_)) (mul_eq ofBits_two ?_)
  · blk_ext [iblk, V, e0]
  · blk_ext [iblk, V, e1]
  · refine congrArg (max · 0) ?_
    blk_ext [iblk, V, e2]

theorem read10 (d : S4096x2048.Idx → EReal) (w : S8x1024x2048.Idx → EReal) (i : S4096x8192.Idx) :
    Cert.MlpDownDxReferenceIdeal.Read.val_main_v10 (F := Ideal) d w i = prod d w i := by
  refine (Cert.MlpDownDxReferenceIdeal.Read.val_main_v10_apply d w i).trans ?_
  refine sum_eq (fun k => congrArg d ?_) (fun k => ?_)
  · blk_ext
  · refine (Cert.MlpDownDxReferenceIdeal.Read.val_main_v7_apply (F := Ideal) w _).trans (congrArg w ?_)
    blk_ext

theorem read16 (d : S4096x2048.Idx → EReal) (w : S8x1024x2048.Idx → EReal) (u : S4096x8192.Idx → EReal) (i : S4096x8192.Idx) :
    Cert.MlpDownDxReferenceIdeal.Read.val_main_v16 (F := Ideal) d w u i = grad d w u i := by
  refine (Cert.MlpDownDxReferenceIdeal.Read.val_main_v15_apply (F := Ideal) d w u i).trans ?_
  simp only [Cert.MlpDownDxReferenceIdeal.Read.val_main_v13_apply, Cert.MlpDownDxReferenceIdeal.Read.val_main_v12_apply,
    Cert.MlpDownDxReferenceIdeal.Read.val_main_v11_apply, Cert.MlpDownDxReferenceIdeal.Read.val_main_v3_apply,
    Cert.MlpDownDxReferenceIdeal.Read.val_main_v1_apply, Cert.MlpDownDxReferenceIdeal.Read.val_main_v0_apply,
    Cert.MlpDownDxReferenceIdeal.Read.val_main_v2_apply, Cert.MlpDownDxReferenceIdeal.Read.val_main_v14_apply,
    Cert.MlpDownDxReferenceIdeal.Read.val_main_cst_apply, Cert.MlpDownDxReferenceIdeal.Read.val_main_cst_1_apply,
    Cert.MlpDownDxReferenceIdeal.Read.val_main_call0_v0_apply, Cert.MlpDownDxReferenceIdeal.Read.val_main_call0_cst_apply]
  pointwise
  exact (relu_grad _ _).trans (congrArg (· * (2 * max (u i) 0)) (read10 d w i))

end Cert.MlpDownDxIdeal.Whole

end
-- ==== Proof.MlpUpDw.lean ====
/- The gradient of the first weight of the squared-ReLU layer: what the call writes and what the reference computes, index by index. -/
module

public import proofs.«01_k».proof.Proof.Gen.MlpUpDwIdeal.Value
public import proofs.«01_k».proof.Proof.Gen.MlpUpDwReferenceIdeal.Run
public import proofs.«01_k».proof.Proof.Gen.MlpUpDwReferenceIdeal.Read
public import proofs.«01_k».proof.Proof.Mat

@[expose] public section

set_option maxRecDepth 16384

noncomputable section

namespace Cert.MlpUpDwIdeal.Whole

open Idealize.ShloMosaic Idealize.ShloMosaic.TcCoe Idealize.ShloMosaic.Tactic Idealize.SL.Sem
open Cert.MlpUpDwIdeal Cert.MlpUpDwIdeal.Gen
open Cert.Mat

/-- Column `i 1` of the input against column `i 0 * 1024 + i 2` of the gradient. -/
def prod (h : S4096x2048.Idx → EReal) (d : S4096x8192.Idx → EReal) (i : S8x2048x1024.Idx) : EReal :=
  ∑ k : Fin 4096, h (ix2 k (i 1)) * d (ix2 k ⟨(i 0).val * 1024 + (i 2).val, by
    have h0 : (i 0).val < 8 := (i 0).isLt
    have h2 : (i 2).val < 1024 := (i 2).isLt
    omega⟩)

variable (m : (ℓ : Loc nD τ sig) → Buf (Elt Ideal) ℓ) (c : Dev nD)

abbrev a0 : S4096x2048.Idx → EReal := m ((c.tc : Thread nD τ).loc main_arg0)
abbrev a1 : S4096x8192.Idx → EReal := m ((c.tc : Thread nD τ).loc main_arg1)

theorem cov : (cfg0.win 2).Covers := by decide +kernel
theorem idx : ∀ t : Fin cfg0.N, win0_0.index t = ![0, win0_2.index t 1] ∧ win0_1.index t = ![0, win0_2.index t 0]
    ∧ win0_2.index t 2 = 0 := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1, e2⟩ := idx t
  open_payloads
  pointwise
  unfold prod
  refine sum_eq (fun k => ?_) (fun k => ?_)
  · blk_ext [iblk, V, e0]
  · blk_ext [iblk, V, e1, e2]

theorem read (h : S4096x2048.Idx → EReal) (d : S4096x8192.Idx → EReal) (i : S8x2048x1024.Idx) :
    Cert.MlpUpDwReferenceIdeal.Read.val_main_v10 (F := Ideal) h d i = prod h d i := by
  refine (Cert.MlpUpDwReferenceIdeal.Read.val_main_v9_apply (F := Ideal) h d i).trans
    ((Cert.MlpUpDwReferenceIdeal.Read.val_main_v8_apply (F := Ideal) h d _).trans
      ((Cert.MlpUpDwReferenceIdeal.Read.val_main_v7_apply (F := Ideal) h d _).trans
        ((Cert.MlpUpDwReferenceIdeal.Read.val_main_v6_apply h d _).trans ?_)))
  refine sum_swap (fun k => congrArg d ?_) (fun k => congrArg h ?_) <;> blk_ext

end Cert.MlpUpDwIdeal.Whole

end
-- ==== Proof.MlpUpDx.lean ====
/- The gradient of the input of the squared-ReLU layer: what the call writes after its four passes over the hidden width, and what the reference
   computes, index by index. -/
module

public import proofs.«01_k».proof.Proof.Gen.MlpUpDxIdeal.Value
public import proofs.«01_k».proof.Proof.Gen.MlpUpDxReferenceIdeal.Run
public import proofs.«01_k».proof.Proof.Gen.MlpUpDxReferenceIdeal.Read
public import proofs.«01_k».proof.Proof.Mat

@[expose] public section

set_option maxRecDepth 16384

noncomputable section

namespace Cert.MlpUpDxIdeal.Whole

open Idealize.ShloMosaic Idealize.ShloMosaic.TcCoe Idealize.ShloMosaic.Tactic Idealize.SL.Sem
open Cert.MlpUpDxIdeal Cert.MlpUpDxIdeal.Gen
open Cert.Mat

/-- Row `i 0` of the gradient against row `i 1` of the weight, whose columns come in blocks of 1024. -/
def prod (a : S4096x8192.Idx → EReal) (w : S8x2048x1024.Idx → EReal) (i : S4096x2048.Idx) : EReal :=
  ∑ k : Fin 8192, a (ix2 (i 0) k) * w (ix3 ⟨k.val / 1024, Nat.div_lt_of_lt_mul k.isLt⟩ (i 1) ⟨k.val % 1024, Nat.mod_lt _ (by decide)⟩)

/-- One term of that sum, by its number. -/
def term (a : S4096x8192.Idx → EReal) (w : S8x2048x1024.Idx → EReal) (i : S4096x2048.Idx) (n : ℕ) : EReal :=
  if h : n < 8192 then a (ix2 (i 0) ⟨n, h⟩) * w (ix3 ⟨n / 1024, Nat.div_lt_of_lt_mul h⟩ (i 1) ⟨n % 1024, Nat.mod_lt _ (by decide)⟩) else 0

theorem prod_chunks (a : S4096x8192.Idx → EReal) (w : S8x2048x1024.Idx → EReal) (i : S4096x2048.Idx) :
    prod a w i = ∑ q ∈ Finset.range 4, ∑ k : Fin 2048, term a w i (q * 2048 + k.val) := by
  rw [← sum_chunks (term a w i) 4 2048]
  exact Finset.sum_congr rfl fun k _ => ((dif_pos k.isLt).symm : _ = term a w i k.val)

variable (m : (ℓ : Loc nD τ sig) → Buf (Elt Ideal) ℓ) (c : Dev nD)

abbrev a0 : S4096x8192.Idx → EReal := m ((c.tc : Thread nD τ).loc main_arg0)
abbrev a1 : S8x2048x1024.Idx → EReal := m ((c.tc : Thread nD τ).loc main_arg1)

abbrev b0 (n : ℕ) (h : n < cfg0.N) : S2048x2048.Idx → EReal := iblk m c 0 ⟨n, h⟩
abbrev b1 (n : ℕ) (h : n < cfg0.N) : S2x1024x1024.Idx → EReal := iblk m c 1 ⟨n, h⟩

/-- What one pass adds: the product of the two blocks at grid point `n`. -/
def pass (n : ℕ) (h : n < cfg0.N) (j : S2048x1024.Idx) : EReal :=
  (∑ k : Fin 1024, b0 m c n h (ix2 (j 0) ⟨k.val, by omega⟩) * b1 m c n h (ix3 0 (j 1) k))
    + ∑ k : Fin 1024, b0 m c n h (ix2 (j 0) ⟨1024 + k.val, by omega⟩) * b1 m c n h (ix3 1 (j 1) k)

theorem first (t : Fin cfg0.N) (h : t.val % 4 = 0) (j : S2048x1024.Idx) :
    (outsAt0 m c t.val t.isLt).2 j = pass m c t.val t.isLt j := by
  rw [outsAt0_A m c t h (by omega) (by omega)]
  frame_out
  open_payloads
  pointwise
  rfl

theorem next (t : Fin cfg0.N) (h : 1 ≤ t.val % 4 ∧ t.val % 4 ≤ 2) (j : S2048x1024.Idx) :
    (outsAt0 m c t.val t.isLt).2 j
      = (outsAt0 m c (t.val - 1) (Nat.lt_of_le_of_lt (Nat.sub_le _ _) t.isLt)).2 j + pass m c t.val t.isLt j := by
  rw [outsAt0_B m c t (by omega) h (by omega)]
  frame_out
  open_payloads
  pointwise
  refine add_eq (congrFun (Memref.IsWhole.read_unread _ _) j) ?_
  rfl

theorem last (t : Fin cfg0.N) (h : t.val % 4 = 3) (j : S2048x1024.Idx) :
    (outsAt0 m c t.val t.isLt).1 j
      = (outsAt0 m c (t.val - 1) (Nat.lt_of_le_of_lt (Nat.sub_le _ _) t.isLt)).2 j + pass m c t.val t.isLt j := by
  rw [outsAt0_C m c t (by omega) (by omega) h]
  frame_out
  open_payloads
  pointwise
  refine add_eq (congrFun (Memref.IsWhole.read_unread _ _) j) ?_
  rfl

theorem cov : (cfg0.win 2).Covers := by decide +kernel
theorem idx : ∀ t : Fin cfg0.N, win0_0.index t = ![t.val / 8, t.val % 4] ∧ win0_1.index t = ![t.val % 4, t.val / 4 % 2, 0]
    ∧ win0_2.index t = ![t.val / 8, t.val / 4 % 2] := by
  decide +kernel

/-- One pass of the run that ends at `t`, as a chunk of the sum. -/
theorem chunk (t : Fin cfg0.N) (j : S2048x1024.Idx) (i : S4096x2048.Idx) (n q : ℕ) (h : n < cfg0.N) (hq : n % 4 = q) (hn : n / 4 = t.val / 4)
    (hi : (i 0).val = t.val / 8 * 2048 + (j 0).val) (hj : (i 1).val = t.val / 4 % 2 * 1024 + (j 1).val) :
    pass m c n h j = ∑ k : Fin 2048, term (a0 m c) (a1 m c) i (q * 2048 + k.val) := by
  obtain ⟨e0, e1, -⟩ := idx ⟨n, h⟩
  dsimp only at e0 e1
  have hq4 : q < 4 := by omega
  have hn8 : n / 8 = t.val / 8 := by omega
  rw [sum_chunks (fun k => term (a0 m c) (a1 m c) i (q * 2048 + k)) 2 1024]
  simp only [Finset.sum_range_succ, Finset.sum_range_zero, zero_add]
  refine add_eq ?_ ?_ <;> refine Finset.sum_congr rfl fun k _ => ?_ <;> unfold term <;> rw [dif_pos (by omega)] <;> refine mul_eq ?_ ?_
  · blk_ext [b0, iblk, V, e0]
  · blk_ext [b1, iblk, V, e1]
  · blk_ext [b0, iblk, V, e0]
  · blk_ext [b1, iblk, V, e1]

theorem final : (dats m 0 c).arrAt 2 cfg0.N = prod (a0 m c) (a1 m c) := by
  refine (dats m 0 c).arrAt_eq_of_covers 2 _ cov fun t hf y => ?_
  have h3 : t.val % 4 = 3 := (flush0_2 t).mp hf
  blk_simp
  rw [after0_2]
  have h1 : t.val < cfg0.N := t.isLt
  refine (last m c t h3 y).trans ?_
  have e2 := next m c ⟨t.val - 1, by omega⟩ (by dsimp only; omega) y
  have e1 := next m c ⟨t.val - 1 - 1, by omega⟩ (by dsimp only; omega) y
  have e0 := first m c ⟨t.val - 1 - 1 - 1, by omega⟩ (by dsimp only; omega) y
  dsimp only at e2 e1 e0
  rw [e2, e1, e0, prod_chunks]
  simp only [Finset.sum_range_succ, Finset.sum_range_zero, zero_add]
  obtain ⟨-, -, e⟩ := idx t
  have hi : ((((cfg0.win 2).blk t).view.emb y : S4096x2048.Idx) 0).val = t.val / 8 * 2048 + (y 0).val := by blk_simp [e]
  have hj : ((((cfg0.win 2).blk t).view.emb y : S4096x2048.Idx) 1).val = t.val / 4 % 2 * 1024 + (y 1).val := by blk_simp [e]
  refine add_eq (add_eq (add_eq ?_ ?_) ?_) ?_ <;> exact chunk m c t y _ _ _ _ (by omega) (by omega) hi hj

theorem read (a : S4096x8192.Idx → EReal) (w : S8x2048x1024.Idx → EReal) (i : S4096x2048.Idx) :
    Cert.MlpUpDxReferenceIdeal.Read.val_main_v7 (F := Ideal) a w i = prod a w i := by
  refine (Cert.MlpUpDxReferenceIdeal.Read.val_main_v6_apply a w i).trans ?_
  refine sum_eq (fun k => congrArg a ?_) (fun k => ?_)
  · blk_ext
  · refine (Cert.MlpUpDxReferenceIdeal.Read.val_main_v3_apply (F := Ideal) w _).trans
      ((Cert.MlpUpDxReferenceIdeal.Read.val_main_v2_apply (F := Ideal) w _).trans (congrArg w ?_))
    blk_ext

end Cert.MlpUpDxIdeal.Whole

end
-- ==== Proof.InProj.lean ====
/- The input projection of the mixers: what the call writes and what the reference computes, index by
   index. -/
module

public import proofs.«01_k».proof.Proof.Gen.InProjIdeal.Value
public import proofs.«01_k».proof.Proof.Gen.InProjReferenceIdeal.Run
public import proofs.«01_k».proof.Proof.Gen.InProjReferenceIdeal.Read
public import proofs.«01_k».proof.Proof.Mat

@[expose] public section

set_option maxRecDepth 16384

noncomputable section

namespace Cert.InProjIdeal.Whole

open Idealize.ShloMosaic Idealize.ShloMosaic.TcCoe Idealize.ShloMosaic.Tactic Idealize.SL.Sem
open Cert.InProjIdeal Cert.InProjIdeal.Gen
open Cert.Mat

/-- Row `i 1` of the input against the weight's column that segment `i 0` holds at `i 2`. -/
def prod (a : S4096x2048.Idx → EReal) (b : S5120x2048.Idx → EReal) (i : S5x4096x1024.Idx) : EReal :=
  ∑ k : Fin 2048, a (ix2 (i 1) k) * b (ix2 ⟨(i 0).val * 1024 + (i 2).val, by
    have h0 : (i 0).val < 5 := (i 0).isLt
    have h2 : (i 2).val < 1024 := (i 2).isLt
    omega⟩ k)

variable (m : (ℓ : Loc nD τ sig) → Buf (Elt Ideal) ℓ) (c : Dev nD)

abbrev a0 : S4096x2048.Idx → EReal := m ((c.tc : Thread nD τ).loc main_arg0)
abbrev a1 : S5120x2048.Idx → EReal := m ((c.tc : Thread nD τ).loc main_arg1)

theorem cov : (cfg0.win 2).Covers := by decide +kernel
theorem idx : ∀ t : Fin cfg0.N, win0_0.index t = ![win0_2.index t 1, 0] ∧ win0_1.index t = ![win0_2.index t 0, 0]
    ∧ win0_2.index t 2 = 0 := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1, e2⟩ := idx t
  open_payloads
  pointwise
  unfold prod
  refine sum_eq (fun k => ?_) (fun k => ?_)
  · blk_ext [iblk, V, e0, e1, e2]
  · blk_ext [iblk, V, e0, e1, e2]

theorem read (a : S4096x2048.Idx → EReal) (b : S5120x2048.Idx → EReal) (i : S5x4096x1024.Idx) :
    Cert.InProjReferenceIdeal.Read.val_main_v5 (F := Ideal) a b i = prod a b i := by
  refine (Cert.InProjReferenceIdeal.Read.val_main_v5_apply (F := Ideal) a b _).trans ((Cert.InProjReferenceIdeal.Read.val_main_v4_apply (F := Ideal) a b _).trans ((Cert.InProjReferenceIdeal.Read.val_main_v3_apply a b _).trans ?_))
  refine sum_eq (fun k => ?_) (fun k => ?_)
  · refine congrArg a ?_
    blk_ext
  · refine ((Cert.InProjReferenceIdeal.Read.val_main_v2_apply (F := Ideal) b _).trans (congrArg b ?_))
    blk_ext

end Cert.InProjIdeal.Whole

end
-- ==== Proof.InProjDw.lean ====
/- The gradient of the weight of the input projection: what the call writes and what the reference computes, index by
   index. -/
module

public import proofs.«01_k».proof.Proof.Gen.InProjDwIdeal.Value
public import proofs.«01_k».proof.Proof.Gen.InProjDwReferenceIdeal.Run
public import proofs.«01_k».proof.Proof.Gen.InProjDwReferenceIdeal.Read
public import proofs.«01_k».proof.Proof.Mat

@[expose] public section

set_option maxRecDepth 16384

noncomputable section

namespace Cert.InProjDwIdeal.Whole

open Idealize.ShloMosaic Idealize.ShloMosaic.TcCoe Idealize.ShloMosaic.Tactic Idealize.SL.Sem
open Cert.InProjDwIdeal Cert.InProjDwIdeal.Gen
open Cert.Mat

/-- Column `i 0` of the gradient, which comes in segments of 1024 columns, against column `i 1` of the input. -/
def prod (a : S6x4096x1024.Idx → EReal) (b : S4096x2048.Idx → EReal) (i : S5120x2048.Idx) : EReal :=
  ∑ k : Fin 4096, a (ix3 ⟨(i 0).val / 1024, by
    have h : (i 0).val < 5120 := (i 0).isLt
    omega⟩ k ⟨(i 0).val % 1024, Nat.mod_lt _ (by decide)⟩) * b (ix2 k (i 1))

variable (m : (ℓ : Loc nD τ sig) → Buf (Elt Ideal) ℓ) (c : Dev nD)

abbrev a0 : S6x4096x1024.Idx → EReal := m ((c.tc : Thread nD τ).loc main_arg0)
abbrev a1 : S4096x2048.Idx → EReal := m ((c.tc : Thread nD τ).loc main_arg1)

theorem cov : (cfg0.win 2).Covers := by decide +kernel
theorem idx : ∀ t : Fin cfg0.N, win0_0.index t = ![win0_2.index t 0, 0, 0] ∧ win0_1.index t = ![0, win0_2.index t 1] := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1⟩ := idx t
  open_payloads
  pointwise
  unfold prod
  refine sum_eq (fun k => ?_) (fun k => ?_)
  · blk_ext [iblk, V, e0, e1]
  · blk_ext [iblk, V, e0, e1]

theorem read (a : S6x4096x1024.Idx → EReal) (b : S4096x2048.Idx → EReal) (i : S5120x2048.Idx) :
    Cert.InProjDwReferenceIdeal.Read.val_main_v10 (F := Ideal) a b i = prod a b i := by
  refine (Cert.InProjDwReferenceIdeal.Read.val_main_v9_apply (F := Ideal) a b _).trans ((Cert.InProjDwReferenceIdeal.Read.val_main_v8_apply (F := Ideal) a b _).trans ((Cert.InProjDwReferenceIdeal.Read.val_main_v7_apply a b _).trans ?_))
  refine sum_eq (fun k => ?_) (fun k => ?_)
  · refine ((Cert.InProjDwReferenceIdeal.Read.val_main_v3_apply (F := Ideal) a _).trans ((Cert.InProjDwReferenceIdeal.Read.val_main_v2_apply (F := Ideal) a _).trans ((Cert.InProjDwReferenceIdeal.Read.val_main_v0_apply (F := Ideal) a _).trans (congrArg a ?_))))
    blk_ext
  · refine congrArg b ?_
    blk_ext

end Cert.InProjDwIdeal.Whole

end
-- ==== Proof.InProjDx.lean ====
/- The gradient of the input of the input projection: what the call writes after its five passes, and what the reference computes, index
   by index. -/
module

public import proofs.«01_k».proof.Proof.Gen.InProjDxIdeal.Value
public import proofs.«01_k».proof.Proof.Gen.InProjDxReferenceIdeal.Run
public import proofs.«01_k».proof.Proof.Gen.InProjDxReferenceIdeal.Read
public import proofs.«01_k».proof.Proof.Mat

@[expose] public section

set_option maxRecDepth 16384

noncomputable section

namespace Cert.InProjDxIdeal.Whole

open Idealize.ShloMosaic Idealize.ShloMosaic.TcCoe Idealize.ShloMosaic.Tactic Idealize.SL.Sem
open Cert.InProjDxIdeal Cert.InProjDxIdeal.Gen
open Cert.Mat

/-- Row `i 0` of the segments, side by side, against column `i 1` of the weight, which is held by its columns. -/
def prod (a : S6x4096x1024.Idx → EReal) (w : S5120x2048.Idx → EReal) (i : S4096x2048.Idx) : EReal :=
  ∑ k : Fin 5120, a (ix3 ⟨k.val / 1024, by omega⟩ (i 0) ⟨k.val % 1024, Nat.mod_lt _ (by decide)⟩) * w (ix2 k (i 1))

/-- One term of that sum, by its number. -/
def term (a : S6x4096x1024.Idx → EReal) (w : S5120x2048.Idx → EReal) (i : S4096x2048.Idx) (n : ℕ) : EReal :=
  if h : n < 5120 then a (ix3 ⟨n / 1024, by omega⟩ (i 0) ⟨n % 1024, Nat.mod_lt _ (by decide)⟩) * w (ix2 ⟨n, h⟩ (i 1)) else 0

theorem prod_chunks (a : S6x4096x1024.Idx → EReal) (w : S5120x2048.Idx → EReal) (i : S4096x2048.Idx) :
    prod a w i = ∑ q ∈ Finset.range 5, ∑ k : Fin 1024, term a w i (q * 1024 + k.val) := by
  rw [← sum_chunks (term a w i) 5 1024]
  exact Finset.sum_congr rfl fun k _ => ((dif_pos k.isLt).symm : _ = term a w i k.val)

variable (m : (ℓ : Loc nD τ sig) → Buf (Elt Ideal) ℓ) (c : Dev nD)

abbrev a0 : S6x4096x1024.Idx → EReal := m ((c.tc : Thread nD τ).loc main_arg0)
abbrev a1 : S5120x2048.Idx → EReal := m ((c.tc : Thread nD τ).loc main_arg1)

abbrev b0 (n : ℕ) (h : n < cfg0.N) : S1x2048x1024.Idx → EReal := iblk m c 0 ⟨n, h⟩
abbrev b1 (n : ℕ) (h : n < cfg0.N) : S1024x1024.Idx → EReal := iblk m c 1 ⟨n, h⟩

/-- What one pass adds: the product of the two blocks at grid point `n`. -/
def pass (n : ℕ) (h : n < cfg0.N) (j : S2048x1024.Idx) : EReal :=
  ∑ k : Fin 1024, b0 m c n h (ix3 0 (j 0) k) * b1 m c n h (ix2 k (j 1))

theorem first (t : Fin cfg0.N) (h : t.val % 5 = 0) (j : S2048x1024.Idx) :
    (outsAt0 m c t.val t.isLt).2 j = pass m c t.val t.isLt j := by
  rw [outsAt0_A m c t h (by omega) (by omega)]
  frame_out
  open_payloads
  pointwise
  rfl

theorem next (t : Fin cfg0.N) (h : 1 ≤ t.val % 5 ∧ t.val % 5 ≤ 3) (j : S2048x1024.Idx) :
    (outsAt0 m c t.val t.isLt).2 j
      = (outsAt0 m c (t.val - 1) (Nat.lt_of_le_of_lt (Nat.sub_le _ _) t.isLt)).2 j + pass m c t.val t.isLt j := by
  rw [outsAt0_B m c t (by omega) h (by omega)]
  frame_out
  open_payloads
  pointwise
  refine add_eq (congrFun (Memref.IsWhole.read_unread _ _) j) ?_
  rfl

theorem last (t : Fin cfg0.N) (h : t.val % 5 = 4) (j : S2048x1024.Idx) :
    (outsAt0 m c t.val t.isLt).1 j
      = (outsAt0 m c (t.val - 1) (Nat.lt_of_le_of_lt (Nat.sub_le _ _) t.isLt)).2 j + pass m c t.val t.isLt j := by
  rw [outsAt0_C m c t (by omega) (by omega) h]
  frame_out
  open_payloads
  pointwise
  refine add_eq (congrFun (Memref.IsWhole.read_unread _ _) j) ?_
  rfl

theorem cov : (cfg0.win 2).Covers := by decide +kernel
theorem idx : ∀ t : Fin cfg0.N, win0_0.index t = ![t.val % 5, t.val / 10, 0] ∧ win0_1.index t = ![t.val % 5, t.val / 5 % 2]
    ∧ win0_2.index t = ![t.val / 10, t.val / 5 % 2] := by
  decide +kernel

/-- One pass of the run that ends at `t`, as a chunk of the sum. -/
theorem chunk (t : Fin cfg0.N) (j : S2048x1024.Idx) (i : S4096x2048.Idx) (n q : ℕ) (h : n < cfg0.N) (hq : n % 5 = q) (hn : n / 5 = t.val / 5)
    (hi : (i 0).val = t.val / 10 * 2048 + (j 0).val) (hj : (i 1).val = t.val / 5 % 2 * 1024 + (j 1).val) :
    pass m c n h j = ∑ k : Fin 1024, term (a0 m c) (a1 m c) i (q * 1024 + k.val) := by
  obtain ⟨e0, e1, -⟩ := idx ⟨n, h⟩
  dsimp only at e0 e1
  have hqn : q < 5 := by omega
  have hn2 : n / 10 = t.val / 10 := by omega
  refine Finset.sum_congr rfl fun k _ => ?_
  unfold term
  rw [dif_pos (by omega)]
  refine mul_eq ?_ ?_
  · blk_ext [b0, iblk, V, e0]
  · blk_ext [b1, iblk, V, e1]

theorem final : (dats m 0 c).arrAt 2 cfg0.N = prod (a0 m c) (a1 m c) := by
  refine (dats m 0 c).arrAt_eq_of_covers 2 _ cov fun t hf y => ?_
  have h3 : t.val % 5 = 4 := (flush0_2 t).mp hf
  blk_simp
  rw [after0_2]
  have h1 : t.val < cfg0.N := t.isLt
  refine (last m c t h3 y).trans ?_
  have e3 := next m c ⟨t.val - 1, by omega⟩ (by dsimp only; omega) y
  have e2 := next m c ⟨t.val - 1 - 1, by omega⟩ (by dsimp only; omega) y
  have e1 := next m c ⟨t.val - 1 - 1 - 1, by omega⟩ (by dsimp only; omega) y
  have e0 := first m c ⟨t.val - 1 - 1 - 1 - 1, by omega⟩ (by dsimp only; omega) y
  dsimp only at e3 e2 e1 e0
  rw [e3, e2, e1, e0, prod_chunks]
  simp only [Finset.sum_range_succ, Finset.sum_range_zero, zero_add]
  obtain ⟨-, -, e⟩ := idx t
  have hi : ((((cfg0.win 2).blk t).view.emb y : S4096x2048.Idx) 0).val = t.val / 10 * 2048 + (y 0).val := by blk_simp [e]
  have hj : ((((cfg0.win 2).blk t).view.emb y : S4096x2048.Idx) 1).val = t.val / 5 % 2 * 1024 + (y 1).val := by blk_simp [e]
  refine add_eq (add_eq (add_eq (add_eq ?_ ?_) ?_) ?_) ?_ <;> exact chunk m c t y _ _ _ _ (by omega) (by omega) hi hj

theorem read (a : S6x4096x1024.Idx → EReal) (b : S5120x2048.Idx → EReal) (i : S4096x2048.Idx) :
    Cert.InProjDxReferenceIdeal.Read.val_main_v9 (F := Ideal) a b i = prod a b i := by
  refine (Cert.InProjDxReferenceIdeal.Read.val_main_v8_apply a b _).trans ?_
  refine sum_eq (fun k => ?_) (fun k => ?_)
  · refine ((Cert.InProjDxReferenceIdeal.Read.val_main_v3_apply (F := Ideal) a _).trans ((Cert.InProjDxReferenceIdeal.Read.val_main_v2_apply (F := Ideal) a _).trans ((Cert.InProjDxReferenceIdeal.Read.val_main_v0_apply (F := Ideal) a _).trans (congrArg a ?_))))
    blk_ext
  · refine ((Cert.InProjDxReferenceIdeal.Read.val_main_v6_apply (F := Ideal) b _).trans (congrArg b ?_))
    blk_ext

end Cert.InProjDxIdeal.Whole

end
-- ==== Proof.OutProj.lean ====
/- The output projection of the mixers: what the call writes after its two passes, and what the reference computes, index
   by index. -/
module

public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Mat

@[expose] public section

set_option maxRecDepth 16384

noncomputable section

namespace Cert.OutProjIdeal.Whole

open Idealize.ShloMosaic Idealize.ShloMosaic.TcCoe Idealize.ShloMosaic.Tactic Idealize.SL.Sem
open Cert.OutProjIdeal Cert.OutProjIdeal.Gen
open Cert.Mat

/-- Row `i 0` of the segments, side by side, against column `i 1` of the weight. -/
def prod (a : S2x4096x1024.Idx → EReal) (w : S2048x2048.Idx → EReal) (i : S4096x2048.Idx) : EReal :=
  ∑ k : Fin 2048, a (ix3 ⟨k.val / 1024, by omega⟩ (i 0) ⟨k.val % 1024, Nat.mod_lt _ (by decide)⟩) * w (ix2 k (i 1))

/-- One term of that sum, by its number. -/
def term (a : S2x4096x1024.Idx → EReal) (w : S2048x2048.Idx → EReal) (i : S4096x2048.Idx) (n : ℕ) : EReal :=
  if h : n < 2048 then a (ix3 ⟨n / 1024, by omega⟩ (i 0) ⟨n % 1024, Nat.mod_lt _ (by decide)⟩) * w (ix2 ⟨n, h⟩ (i 1)) else 0

theorem prod_chunks (a : S2x4096x1024.Idx → EReal) (w : S2048x2048.Idx → EReal) (i : S4096x2048.Idx) :
    prod a w i = ∑ q ∈ Finset.range 2, ∑ k : Fin 1024, term a w i (q * 1024 + k.val) := by
  rw [← sum_chunks (term a w i) 2 1024]
  exact Finset.sum_congr rfl fun k _ => ((dif_pos k.isLt).symm : _ = term a w i k.val)

variable (m : (ℓ : Loc nD τ sig) → Buf (Elt Ideal) ℓ) (c : Dev nD)

abbrev a0 : S2x4096x1024.Idx → EReal := m ((c.tc : Thread nD τ).loc main_arg0)
abbrev a1 : S2048x2048.Idx → EReal := m ((c.tc : Thread nD τ).loc main_arg1)

abbrev b0 (n : ℕ) (h : n < cfg0.N) : S1x2048x1024.Idx → EReal := iblk m c 0 ⟨n, h⟩
abbrev b1 (n : ℕ) (h : n < cfg0.N) : S1024x1024.Idx → EReal := iblk m c 1 ⟨n, h⟩

/-- What one pass adds: the product of the two blocks at grid point `n`. -/
def pass (n : ℕ) (h : n < cfg0.N) (j : S2048x1024.Idx) : EReal :=
  ∑ k : Fin 1024, b0 m c n h (ix3 0 (j 0) k) * b1 m c n h (ix2 k (j 1))

theorem first (t : Fin cfg0.N) (h : t.val % 2 = 0) (j : S2048x1024.Idx) :
    (outsAt0 m c t.val t.isLt).2 j = pass m c t.val t.isLt j := by
  rw [outsAt0_A m c t h (by omega)]
  frame_out
  open_payloads
  pointwise
  rfl

theorem last (t : Fin cfg0.N) (h : t.val % 2 = 1) (j : S2048x1024.Idx) :
    (outsAt0 m c t.val t.isLt).1 j
      = (outsAt0 m c (t.val - 1) (Nat.lt_of_le_of_lt (Nat.sub_le _ _) t.isLt)).2 j + pass m c t.val t.isLt j := by
  rw [outsAt0_B m c t (by omega) h]
  frame_out
  open_payloads
  pointwise
  refine add_eq (congrFun (Memref.IsWhole.read_unread _ _) j) ?_
  rfl

theorem cov : (cfg0.win 2).Covers := by decide +kernel
theorem idx : ∀ t : Fin cfg0.N, win0_0.index t = ![t.val % 2, t.val / 4, 0] ∧ win0_1.index t = ![t.val % 2, t.val / 2 % 2]
    ∧ win0_2.index t = ![t.val / 4, t.val / 2 % 2] := by
  decide +kernel

/-- One pass of the run that ends at `t`, as a chunk of the sum. -/
theorem chunk (t : Fin cfg0.N) (j : S2048x1024.Idx) (i : S4096x2048.Idx) (n q : ℕ) (h : n < cfg0.N) (hq : n % 2 = q) (hn : n / 2 = t.val / 2)
    (hi : (i 0).val = t.val / 4 * 2048 + (j 0).val) (hj : (i 1).val = t.val / 2 % 2 * 1024 + (j 1).val) :
    pass m c n h j = ∑ k : Fin 1024, term (a0 m c) (a1 m c) i (q * 1024 + k.val) := by
  obtain ⟨e0, e1, -⟩ := idx ⟨n, h⟩
  dsimp only at e0 e1
  have hqn : q < 2 := by omega
  have hn2 : n / 4 = t.val / 4 := by omega
  refine Finset.sum_congr rfl fun k _ => ?_
  unfold term
  rw [dif_pos (by omega)]
  refine mul_eq ?_ ?_
  · blk_ext [b0, iblk, V, e0]
  · blk_ext [b1, iblk, V, e1]

theorem final : (dats m 0 c).arrAt 2 cfg0.N = prod (a0 m c) (a1 m c) := by
  refine (dats m 0 c).arrAt_eq_of_covers 2 _ cov fun t hf y => ?_
  have h3 : t.val % 2 = 1 := (flush0_2 t).mp hf
  blk_simp
  rw [after0_2]
  have h1 : t.val < cfg0.N := t.isLt
  refine (last m c t h3 y).trans ?_
  have e0 := first m c ⟨t.val - 1, by omega⟩ (by dsimp only; omega) y
  dsimp only at e0
  rw [e0, prod_chunks]
  simp only [Finset.sum_range_succ, Finset.sum_range_zero, zero_add]
  obtain ⟨-, -, e⟩ := idx t
  have hi : ((((cfg0.win 2).blk t).view.emb y : S4096x2048.Idx) 0).val = t.val / 4 * 2048 + (y 0).val := by blk_simp [e]
  have hj : ((((cfg0.win 2).blk t).view.emb y : S4096x2048.Idx) 1).val = t.val / 2 % 2 * 1024 + (y 1).val := by blk_simp [e]
  refine add_eq ?_ ?_ <;> exact chunk m c t y _ _ _ _ (by omega) (by omega) hi hj

theorem read (a : S2x4096x1024.Idx → EReal) (b : S2048x2048.Idx → EReal) (i : S4096x2048.Idx) :
    Cert.OutProjReferenceIdeal.Read.val_main_v5 (F := Ideal) a b i = prod a b i := by
  refine (Cert.OutProjReferenceIdeal.Read.val_main_v4_apply a b _).trans ?_
  refine sum_eq (fun k => ?_) (fun k => ?_)
  · refine ((Cert.OutProjReferenceIdeal.Read.val_main_v2_apply (F := Ideal) a _).trans ((Cert.OutProjReferenceIdeal.Read.val_main_v1_apply (F := Ideal) a _).trans (congrArg a ?_)))
    blk_ext
  · refine congrArg b ?_
    blk_ext

end Cert.OutProjIdeal.Whole

end
-- ==== Proof.OutProjDw.lean ====
/- The gradient of the weight of the output projection: what the call writes and what the reference computes, index by
   index. -/
module

public import proofs.«01_k».proof.Proof.Gen.OutProjDwIdeal.Value
public import proofs.«01_k».proof.Proof.Gen.OutProjDwReferenceIdeal.Run
public import proofs.«01_k».proof.Proof.Gen.OutProjDwReferenceIdeal.Read
public import proofs.«01_k».proof.Proof.Mat

@[expose] public section

set_option maxRecDepth 16384

noncomputable section

namespace Cert.OutProjDwIdeal.Whole

open Idealize.ShloMosaic Idealize.ShloMosaic.TcCoe Idealize.ShloMosaic.Tactic Idealize.SL.Sem
open Cert.OutProjDwIdeal Cert.OutProjDwIdeal.Gen
open Cert.Mat

/-- Column `i 0` of the mixers' results, which come in segments of 1024 columns, against column `i 1` of the gradient. -/
def prod (a : S2x4096x1024.Idx → EReal) (b : S4096x2048.Idx → EReal) (i : S2048x2048.Idx) : EReal :=
  ∑ k : Fin 4096, a (ix3 ⟨(i 0).val / 1024, by
    have h : (i 0).val < 2048 := (i 0).isLt
    omega⟩ k ⟨(i 0).val % 1024, Nat.mod_lt _ (by decide)⟩) * b (ix2 k (i 1))

variable (m : (ℓ : Loc nD τ sig) → Buf (Elt Ideal) ℓ) (c : Dev nD)

abbrev a0 : S2x4096x1024.Idx → EReal := m ((c.tc : Thread nD τ).loc main_arg0)
abbrev a1 : S4096x2048.Idx → EReal := m ((c.tc : Thread nD τ).loc main_arg1)

theorem cov : (cfg0.win 2).Covers := by decide +kernel
theorem idx : ∀ t : Fin cfg0.N, win0_0.index t = ![win0_2.index t 0, 0, 0] ∧ win0_1.index t = ![0, win0_2.index t 1] := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1⟩ := idx t
  open_payloads
  pointwise
  unfold prod
  refine sum_eq (fun k => ?_) (fun k => ?_)
  · blk_ext [iblk, V, e0, e1]
  · blk_ext [iblk, V, e0, e1]

theorem read (a : S2x4096x1024.Idx → EReal) (b : S4096x2048.Idx → EReal) (i : S2048x2048.Idx) :
    Cert.OutProjDwReferenceIdeal.Read.val_main_v8 (F := Ideal) a b i = prod a b i := by
  refine (Cert.OutProjDwReferenceIdeal.Read.val_main_v7_apply (F := Ideal) a b _).trans ((Cert.OutProjDwReferenceIdeal.Read.val_main_v6_apply a b _).trans ?_)
  refine sum_swap (fun k => ?_) (fun k => ?_)
  · refine congrArg b ?_
    blk_ext
  · refine ((Cert.OutProjDwReferenceIdeal.Read.val_main_v3_apply (F := Ideal) a _).trans ((Cert.OutProjDwReferenceIdeal.Read.val_main_v2_apply (F := Ideal) a _).trans (congrArg a ?_)))
    blk_ext

end Cert.OutProjDwIdeal.Whole

end
-- ==== Proof.OutProjDx.lean ====
/- The gradient of the mixers' results: what the call writes and what the reference computes, index by
   index. -/
module

public import proofs.«01_k».proof.Proof.Gen.OutProjDxIdeal.Value
public import proofs.«01_k».proof.Proof.Gen.OutProjDxReferenceIdeal.Run
public import proofs.«01_k».proof.Proof.Gen.OutProjDxReferenceIdeal.Read
public import proofs.«01_k».proof.Proof.Mat

@[expose] public section

set_option maxRecDepth 16384

noncomputable section

namespace Cert.OutProjDxIdeal.Whole

open Idealize.ShloMosaic Idealize.ShloMosaic.TcCoe Idealize.ShloMosaic.Tactic Idealize.SL.Sem
open Cert.OutProjDxIdeal Cert.OutProjDxIdeal.Gen
open Cert.Mat

/-- Row `i 1` of the gradient against the weight's row that segment `i 0` holds at `i 2`. -/
def prod (a : S4096x2048.Idx → EReal) (b : S2048x2048.Idx → EReal) (i : S2x4096x1024.Idx) : EReal :=
  ∑ k : Fin 2048, a (ix2 (i 1) k) * b (ix2 ⟨(i 0).val * 1024 + (i 2).val, by
    have h0 : (i 0).val < 2 := (i 0).isLt
    have h2 : (i 2).val < 1024 := (i 2).isLt
    omega⟩ k)

variable (m : (ℓ : Loc nD τ sig) → Buf (Elt Ideal) ℓ) (c : Dev nD)

abbrev a0 : S4096x2048.Idx → EReal := m ((c.tc : Thread nD τ).loc main_arg0)
abbrev a1 : S2048x2048.Idx → EReal := m ((c.tc : Thread nD τ).loc main_arg1)

theorem cov : (cfg0.win 2).Covers := by decide +kernel
theorem idx : ∀ t : Fin cfg0.N, win0_0.index t = ![win0_2.index t 1, 0] ∧ win0_1.index t = ![win0_2.index t 0, 0]
    ∧ win0_2.index t 2 = 0 := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1, e2⟩ := idx t
  open_payloads
  pointwise
  unfold prod
  refine sum_eq (fun k => ?_) (fun k => ?_)
  · blk_ext [iblk, V, e0, e1, e2]
  · blk_ext [iblk, V, e0, e1, e2]

theorem read (a : S4096x2048.Idx → EReal) (b : S2048x2048.Idx → EReal) (i : S2x4096x1024.Idx) :
    Cert.OutProjDxReferenceIdeal.Read.val_main_v8 (F := Ideal) a b i = prod a b i := by
  refine (Cert.OutProjDxReferenceIdeal.Read.val_main_v8_apply (F := Ideal) a b _).trans ((Cert.OutProjDxReferenceIdeal.Read.val_main_v7_apply (F := Ideal) a b _).trans ((Cert.OutProjDxReferenceIdeal.Read.val_main_v6_apply a b _).trans ?_))
  refine sum_eq (fun k => ?_) (fun k => ?_)
  · refine congrArg a ?_
    blk_ext
  · refine congrArg b ?_
    blk_ext

end Cert.OutProjDxIdeal.Whole

end
-- ==== Proof.Qkv.lean ====
/- The queries, keys and values: what the call writes and what the reference computes, index by
   index. -/
module

public import proofs.«01_k».proof.Proof.Gen.QkvIdeal.Value
public import proofs.«01_k».proof.Proof.Gen.QkvReferenceIdeal.Run
public import proofs.«01_k».proof.Proof.Gen.QkvReferenceIdeal.Read
public import proofs.«01_k».proof.Proof.Mat

@[expose] public section

set_option maxRecDepth 16384

noncomputable section

namespace Cert.QkvIdeal.Whole

open Idealize.ShloMosaic Idealize.ShloMosaic.TcCoe Idealize.ShloMosaic.Tactic Idealize.SL.Sem
open Cert.QkvIdeal Cert.QkvIdeal.Gen
open Cert.Mat

/-- Row `i 1` of the input against the weight's column that segment `i 0` holds at `i 2`. -/
def prod (a : S4096x2048.Idx → EReal) (b : S6144x2048.Idx → EReal) (i : S3x4096x2048.Idx) : EReal :=
  ∑ k : Fin 2048, a (ix2 (i 1) k) * b (ix2 ⟨(i 0).val * 2048 + (i 2).val, by
    have h0 : (i 0).val < 3 := (i 0).isLt
    have h2 : (i 2).val < 2048 := (i 2).isLt
    omega⟩ k)

variable (m : (ℓ : Loc nD τ sig) → Buf (Elt Ideal) ℓ) (c : Dev nD)

abbrev a0 : S4096x2048.Idx → EReal := m ((c.tc : Thread nD τ).loc main_arg0)
abbrev a1 : S6144x2048.Idx → EReal := m ((c.tc : Thread nD τ).loc main_arg1)

theorem cov : (cfg0.win 2).Covers := by decide +kernel
theorem idx : ∀ t : Fin cfg0.N, win0_0.index t = ![win0_2.index t 1, 0] ∧ win0_1.index t = ![win0_2.index t 0 * 2 + win0_2.index t 2, 0] := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1⟩ := idx t
  open_payloads
  pointwise
  unfold prod
  refine sum_eq (fun k => ?_) (fun k => ?_)
  · blk_ext [iblk, V, e0, e1]
  · blk_ext [iblk, V, e0, e1]

theorem read (a : S4096x2048.Idx → EReal) (b : S6144x2048.Idx → EReal) (i : S3x4096x2048.Idx) :
    Cert.QkvReferenceIdeal.Read.val_main_v6 (F := Ideal) a b i = prod a b i := by
  refine (Cert.QkvReferenceIdeal.Read.val_main_v5_apply (F := Ideal) a b _).trans ((Cert.QkvReferenceIdeal.Read.val_main_v4_apply (F := Ideal) a b _).trans ((Cert.QkvReferenceIdeal.Read.val_main_v3_apply a b _).trans ?_))
  refine sum_eq (fun k => ?_) (fun k => ?_)
  · refine congrArg a ?_
    blk_ext
  · refine ((Cert.QkvReferenceIdeal.Read.val_main_v2_apply (F := Ideal) b _).trans (congrArg b ?_))
    blk_ext

end Cert.QkvIdeal.Whole

end
-- ==== Proof.QkvDw.lean ====
/- The gradient of the weight of the queries, keys and values: what the call writes and what the reference computes, index by
   index. -/
module

public import proofs.«01_k».proof.Proof.Gen.QkvDwIdeal.Value
public import proofs.«01_k».proof.Proof.Gen.QkvDwReferenceIdeal.Run
public import proofs.«01_k».proof.Proof.Gen.QkvDwReferenceIdeal.Read
public import proofs.«01_k».proof.Proof.Mat

@[expose] public section

set_option maxRecDepth 16384

noncomputable section

namespace Cert.QkvDwIdeal.Whole

open Idealize.ShloMosaic Idealize.ShloMosaic.TcCoe Idealize.ShloMosaic.Tactic Idealize.SL.Sem
open Cert.QkvDwIdeal Cert.QkvDwIdeal.Gen
open Cert.Mat

/-- Column `i 0` of the gradient, which comes in segments of 2048 columns, against column `i 1` of the input. -/
def prod (a : S3x4096x2048.Idx → EReal) (b : S4096x2048.Idx → EReal) (i : S6144x2048.Idx) : EReal :=
  ∑ k : Fin 4096, a (ix3 ⟨(i 0).val / 2048, by
    have h : (i 0).val < 6144 := (i 0).isLt
    omega⟩ k ⟨(i 0).val % 2048, Nat.mod_lt _ (by decide)⟩) * b (ix2 k (i 1))

variable (m : (ℓ : Loc nD τ sig) → Buf (Elt Ideal) ℓ) (c : Dev nD)

abbrev a0 : S3x4096x2048.Idx → EReal := m ((c.tc : Thread nD τ).loc main_arg0)
abbrev a1 : S4096x2048.Idx → EReal := m ((c.tc : Thread nD τ).loc main_arg1)

theorem cov : (cfg0.win 2).Covers := by decide +kernel
theorem idx : ∀ t : Fin cfg0.N, win0_0.index t = ![win0_2.index t 0 / 2, 0, win0_2.index t 0 % 2] ∧ win0_1.index t = ![0, win0_2.index t 1] := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1⟩ := idx t
  open_payloads
  pointwise
  unfold prod
  refine sum_eq (fun k => ?_) (fun k => ?_)
  · blk_ext [iblk, V, e0, e1]
  · blk_ext [iblk, V, e0, e1]

theorem read (a : S3x4096x2048.Idx → EReal) (b : S4096x2048.Idx → EReal) (i : S6144x2048.Idx) :
    Cert.QkvDwReferenceIdeal.Read.val_main_v9 (F := Ideal) a b i = prod a b i := by
  refine (Cert.QkvDwReferenceIdeal.Read.val_main_v8_apply (F := Ideal) a b _).trans ((Cert.QkvDwReferenceIdeal.Read.val_main_v7_apply (F := Ideal) a b _).trans ((Cert.QkvDwReferenceIdeal.Read.val_main_v6_apply a b _).trans ?_))
  refine sum_eq (fun k => ?_) (fun k => ?_)
  · refine ((Cert.QkvDwReferenceIdeal.Read.val_main_v2_apply (F := Ideal) a _).trans ((Cert.QkvDwReferenceIdeal.Read.val_main_v1_apply (F := Ideal) a _).trans (congrArg a ?_)))
    blk_ext
  · refine congrArg b ?_
    blk_ext

end Cert.QkvDwIdeal.Whole

end
-- ==== Proof.QkvDx.lean ====
/- The gradient of the input of the queries, keys and values: what the call writes after its three passes, and what the reference computes, index
   by index. -/
module

public import proofs.«01_k».proof.Proof.Gen.QkvDxIdeal.Value
public import proofs.«01_k».proof.Proof.Gen.QkvDxReferenceIdeal.Run
public import proofs.«01_k».proof.Proof.Gen.QkvDxReferenceIdeal.Read
public import proofs.«01_k».proof.Proof.Mat

@[expose] public section

set_option maxRecDepth 16384

noncomputable section

namespace Cert.QkvDxIdeal.Whole

open Idealize.ShloMosaic Idealize.ShloMosaic.TcCoe Idealize.ShloMosaic.Tactic Idealize.SL.Sem
open Cert.QkvDxIdeal Cert.QkvDxIdeal.Gen
open Cert.Mat

/-- Row `i 0` of the segments, side by side, against column `i 1` of the weight, which is held by its columns. -/
def prod (a : S3x4096x2048.Idx → EReal) (w : S6144x2048.Idx → EReal) (i : S4096x2048.Idx) : EReal :=
  ∑ k : Fin 6144, a (ix3 ⟨k.val / 2048, by omega⟩ (i 0) ⟨k.val % 2048, Nat.mod_lt _ (by decide)⟩) * w (ix2 k (i 1))

/-- One term of that sum, by its number. -/
def term (a : S3x4096x2048.Idx → EReal) (w : S6144x2048.Idx → EReal) (i : S4096x2048.Idx) (n : ℕ) : EReal :=
  if h : n < 6144 then a (ix3 ⟨n / 2048, by omega⟩ (i 0) ⟨n % 2048, Nat.mod_lt _ (by decide)⟩) * w (ix2 ⟨n, h⟩ (i 1)) else 0

theorem prod_chunks (a : S3x4096x2048.Idx → EReal) (w : S6144x2048.Idx → EReal) (i : S4096x2048.Idx) :
    prod a w i = ∑ q ∈ Finset.range 3, ∑ k : Fin 2048, term a w i (q * 2048 + k.val) := by
  rw [← sum_chunks (term a w i) 3 2048]
  exact Finset.sum_congr rfl fun k _ => ((dif_pos k.isLt).symm : _ = term a w i k.val)

variable (m : (ℓ : Loc nD τ sig) → Buf (Elt Ideal) ℓ) (c : Dev nD)

abbrev a0 : S3x4096x2048.Idx → EReal := m ((c.tc : Thread nD τ).loc main_arg0)
abbrev a1 : S6144x2048.Idx → EReal := m ((c.tc : Thread nD τ).loc main_arg1)

abbrev b0 (n : ℕ) (h : n < cfg0.N) : S1x2048x2048.Idx → EReal := iblk m c 0 ⟨n, h⟩
abbrev b1 (n : ℕ) (h : n < cfg0.N) : S2048x1024.Idx → EReal := iblk m c 1 ⟨n, h⟩

/-- What one pass adds: the product of the two blocks at grid point `n`. -/
def pass (n : ℕ) (h : n < cfg0.N) (j : S2048x1024.Idx) : EReal :=
  ∑ k : Fin 2048, b0 m c n h (ix3 0 (j 0) k) * b1 m c n h (ix2 k (j 1))

theorem first (t : Fin cfg0.N) (h : t.val % 3 = 0) (j : S2048x1024.Idx) :
    (outsAt0 m c t.val t.isLt).2 j = pass m c t.val t.isLt j := by
  rw [outsAt0_A m c t h (by omega) (by omega)]
  frame_out
  open_payloads
  pointwise
  rfl

theorem next (t : Fin cfg0.N) (h : t.val % 3 = 1) (j : S2048x1024.Idx) :
    (outsAt0 m c t.val t.isLt).2 j
      = (outsAt0 m c (t.val - 1) (Nat.lt_of_le_of_lt (Nat.sub_le _ _) t.isLt)).2 j + pass m c t.val t.isLt j := by
  rw [outsAt0_B m c t (by omega) (by omega) (by omega)]
  frame_out
  open_payloads
  pointwise
  refine add_eq (congrFun (Memref.IsWhole.read_unread _ _) j) ?_
  rfl

theorem last (t : Fin cfg0.N) (h : t.val % 3 = 2) (j : S2048x1024.Idx) :
    (outsAt0 m c t.val t.isLt).1 j
      = (outsAt0 m c (t.val - 1) (Nat.lt_of_le_of_lt (Nat.sub_le _ _) t.isLt)).2 j + pass m c t.val t.isLt j := by
  rw [outsAt0_C m c t (by omega) (by omega) h]
  frame_out
  open_payloads
  pointwise
  refine add_eq (congrFun (Memref.IsWhole.read_unread _ _) j) ?_
  rfl

theorem cov : (cfg0.win 2).Covers := by decide +kernel
theorem idx : ∀ t : Fin cfg0.N, win0_0.index t = ![t.val % 3, t.val / 6, 0] ∧ win0_1.index t = ![t.val % 3, t.val / 3 % 2]
    ∧ win0_2.index t = ![t.val / 6, t.val / 3 % 2] := by
  decide +kernel

/-- One pass of the run that ends at `t`, as a chunk of the sum. -/
theorem chunk (t : Fin cfg0.N) (j : S2048x1024.Idx) (i : S4096x2048.Idx) (n q : ℕ) (h : n < cfg0.N) (hq : n % 3 = q) (hn : n / 3 = t.val / 3)
    (hi : (i 0).val = t.val / 6 * 2048 + (j 0).val) (hj : (i 1).val = t.val / 3 % 2 * 1024 + (j 1).val) :
    pass m c n h j = ∑ k : Fin 2048, term (a0 m c) (a1 m c) i (q * 2048 + k.val) := by
  obtain ⟨e0, e1, -⟩ := idx ⟨n, h⟩
  dsimp only at e0 e1
  have hqn : q < 3 := by omega
  have hn2 : n / 6 = t.val / 6 := by omega
  refine Finset.sum_congr rfl fun k _ => ?_
  unfold term
  rw [dif_pos (by omega)]
  refine mul_eq ?_ ?_
  · blk_ext [b0, iblk, V, e0]
  · blk_ext [b1, iblk, V, e1]

theorem final : (dats m 0 c).arrAt 2 cfg0.N = prod (a0 m c) (a1 m c) := by
  refine (dats m 0 c).arrAt_eq_of_covers 2 _ cov fun t hf y => ?_
  have h3 : t.val % 3 = 2 := (flush0_2 t).mp hf
  blk_simp
  rw [after0_2]
  have h1 : t.val < cfg0.N := t.isLt
  refine (last m c t h3 y).trans ?_
  have e1 := next m c ⟨t.val - 1, by omega⟩ (by dsimp only; omega) y
  have e0 := first m c ⟨t.val - 1 - 1, by omega⟩ (by dsimp only; omega) y
  dsimp only at e1 e0
  rw [e1, e0, prod_chunks]
  simp only [Finset.sum_range_succ, Finset.sum_range_zero, zero_add]
  obtain ⟨-, -, e⟩ := idx t
  have hi : ((((cfg0.win 2).blk t).view.emb y : S4096x2048.Idx) 0).val = t.val / 6 * 2048 + (y 0).val := by blk_simp [e]
  have hj : ((((cfg0.win 2).blk t).view.emb y : S4096x2048.Idx) 1).val = t.val / 3 % 2 * 1024 + (y 1).val := by blk_simp [e]
  refine add_eq (add_eq ?_ ?_) ?_ <;> exact chunk m c t y _ _ _ _ (by omega) (by omega) hi hj

theorem read (a : S3x4096x2048.Idx → EReal) (b : S6144x2048.Idx → EReal) (i : S4096x2048.Idx) :
    Cert.QkvDxReferenceIdeal.Read.val_main_v8 (F := Ideal) a b i = prod a b i := by
  refine (Cert.QkvDxReferenceIdeal.Read.val_main_v7_apply a b _).trans ?_
  refine sum_eq (fun k => ?_) (fun k => ?_)
  · refine ((Cert.QkvDxReferenceIdeal.Read.val_main_v2_apply (F := Ideal) a _).trans ((Cert.QkvDxReferenceIdeal.Read.val_main_v1_apply (F := Ideal) a _).trans (congrArg a ?_)))
    blk_ext
  · refine ((Cert.QkvDxReferenceIdeal.Read.val_main_v5_apply (F := Ideal) b _).trans (congrArg b ?_))
    blk_ext

end Cert.QkvDxIdeal.Whole

end
-- ==== Proof.AttnOut.lean ====
/- The output projection of attention: what the call writes and what the reference computes, index by
   index. -/
module

public import proofs.«01_k».proof.Proof.Gen.AttnOutIdeal.Value
public import proofs.«01_k».proof.Proof.Gen.AttnOutReferenceIdeal.Run
public import proofs.«01_k».proof.Proof.Gen.AttnOutReferenceIdeal.Read
public import proofs.«01_k».proof.Proof.Mat

@[expose] public section

set_option maxRecDepth 16384

noncomputable section

namespace Cert.AttnOutIdeal.Whole

open Idealize.ShloMosaic Idealize.ShloMosaic.TcCoe Idealize.ShloMosaic.Tactic Idealize.SL.Sem
open Cert.AttnOutIdeal Cert.AttnOutIdeal.Gen
open Cert.Mat

/-- Row `i 0` of the heads against column `i 1` of the weight. -/
def prod (a : S4096x2048.Idx → EReal) (b : S2048x2048.Idx → EReal) (i : S4096x2048.Idx) : EReal :=
  ∑ k : Fin 2048, a (ix2 (i 0) k) * b (ix2 k (i 1))

variable (m : (ℓ : Loc nD τ sig) → Buf (Elt Ideal) ℓ) (c : Dev nD)

abbrev a0 : S4096x2048.Idx → EReal := m ((c.tc : Thread nD τ).loc main_arg0)
abbrev a1 : S2048x2048.Idx → EReal := m ((c.tc : Thread nD τ).loc main_arg1)

theorem cov : (cfg0.win 2).Covers := by decide +kernel
theorem idx : ∀ t : Fin cfg0.N, win0_0.index t = ![win0_2.index t 0, 0] ∧ win0_1.index t = ![0, win0_2.index t 1] := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1⟩ := idx t
  open_payloads
  pointwise
  unfold prod
  refine sum_eq (fun k => ?_) (fun k => ?_)
  · blk_ext [iblk, V, e0, e1]
  · blk_ext [iblk, V, e0, e1]

theorem read (a : S4096x2048.Idx → EReal) (b : S2048x2048.Idx → EReal) (i : S4096x2048.Idx) :
    Cert.AttnOutReferenceIdeal.Read.val_main_v3 (F := Ideal) a b i = prod a b i := by
  refine (Cert.AttnOutReferenceIdeal.Read.val_main_v2_apply a b _).trans ?_
  refine sum_eq (fun k => ?_) (fun k => ?_)
  · refine congrArg a ?_
    blk_ext
  · refine congrArg b ?_
    blk_ext

end Cert.AttnOutIdeal.Whole

end
-- ==== Proof.AttnOutDw.lean ====
/- The gradient of the weight of the output projection of attention: what the call writes and what the reference computes, index by
   index. -/
module

public import proofs.«01_k».proof.Proof.Gen.AttnOutDwIdeal.Value
public import proofs.«01_k».proof.Proof.Gen.AttnOutDwReferenceIdeal.Run
public import proofs.«01_k».proof.Proof.Gen.AttnOutDwReferenceIdeal.Read
public import proofs.«01_k».proof.Proof.Mat

@[expose] public section

set_option maxRecDepth 16384

noncomputable section

namespace Cert.AttnOutDwIdeal.Whole

open Idealize.ShloMosaic Idealize.ShloMosaic.TcCoe Idealize.ShloMosaic.Tactic Idealize.SL.Sem
open Cert.AttnOutDwIdeal Cert.AttnOutDwIdeal.Gen
open Cert.Mat

/-- Column `i 0` of the heads against column `i 1` of the gradient. -/
def prod (a : S4096x2048.Idx → EReal) (b : S4096x2048.Idx → EReal) (i : S2048x2048.Idx) : EReal :=
  ∑ k : Fin 4096, a (ix2 k (i 0)) * b (ix2 k (i 1))

variable (m : (ℓ : Loc nD τ sig) → Buf (Elt Ideal) ℓ) (c : Dev nD)

abbrev a0 : S4096x2048.Idx → EReal := m ((c.tc : Thread nD τ).loc main_arg0)
abbrev a1 : S4096x2048.Idx → EReal := m ((c.tc : Thread nD τ).loc main_arg1)

theorem cov : (cfg0.win 2).Covers := by decide +kernel
theorem idx : ∀ t : Fin cfg0.N, win0_0.index t = ![0, win0_2.index t 0] ∧ win0_1.index t = ![0, win0_2.index t 1] := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1⟩ := idx t
  open_payloads
  pointwise
  unfold prod
  refine sum_eq (fun k => ?_) (fun k => ?_)
  · blk_ext [iblk, V, e0, e1]
  · blk_ext [iblk, V, e0, e1]

theorem read (a : S4096x2048.Idx → EReal) (b : S4096x2048.Idx → EReal) (i : S2048x2048.Idx) :
    Cert.AttnOutDwReferenceIdeal.Read.val_main_v6 (F := Ideal) a b i = prod a b i := by
  refine (Cert.AttnOutDwReferenceIdeal.Read.val_main_v5_apply (F := Ideal) a b _).trans ((Cert.AttnOutDwReferenceIdeal.Read.val_main_v4_apply a b _).trans ?_)
  refine sum_swap (fun k => ?_) (fun k => ?_)
  · refine congrArg b ?_
    blk_ext
  · refine congrArg a ?_
    blk_ext

end Cert.AttnOutDwIdeal.Whole

end
-- ==== Proof.AttnOutDx.lean ====
/- The gradient of the heads: what the call writes and what the reference computes, index by
   index. -/
module

public import proofs.«01_k».proof.Proof.Gen.AttnOutDxIdeal.Value
public import proofs.«01_k».proof.Proof.Gen.AttnOutDxReferenceIdeal.Run
public import proofs.«01_k».proof.Proof.Gen.AttnOutDxReferenceIdeal.Read
public import proofs.«01_k».proof.Proof.Mat

@[expose] public section

set_option maxRecDepth 16384

noncomputable section

namespace Cert.AttnOutDxIdeal.Whole

open Idealize.ShloMosaic Idealize.ShloMosaic.TcCoe Idealize.ShloMosaic.Tactic Idealize.SL.Sem
open Cert.AttnOutDxIdeal Cert.AttnOutDxIdeal.Gen
open Cert.Mat

/-- Row `i 0` of the gradient against row `i 1` of the weight. -/
def prod (a : S4096x2048.Idx → EReal) (b : S2048x2048.Idx → EReal) (i : S4096x2048.Idx) : EReal :=
  ∑ k : Fin 2048, a (ix2 (i 0) k) * b (ix2 (i 1) k)

variable (m : (ℓ : Loc nD τ sig) → Buf (Elt Ideal) ℓ) (c : Dev nD)

abbrev a0 : S4096x2048.Idx → EReal := m ((c.tc : Thread nD τ).loc main_arg0)
abbrev a1 : S2048x2048.Idx → EReal := m ((c.tc : Thread nD τ).loc main_arg1)

theorem cov : (cfg0.win 2).Covers := by decide +kernel
theorem idx : ∀ t : Fin cfg0.N, win0_0.index t = ![win0_2.index t 0, 0] ∧ win0_1.index t = ![win0_2.index t 1, 0] := by
  decide +kernel

theorem final : (dats m 0 c).arrAt 2 cfg0.N = prod (a0 m c) (a1 m c) := by
  refine (dats m 0 c).arrAt_eq_of_covers 2 _ cov fun t hf y => ?_
  blk_simp
  rw [after0_2]
  frame_out
  obtain ⟨e0, e1⟩ := idx t
  open_payloads
  pointwise
  unfold prod
  refine sum_eq (fun k => ?_) (fun k => ?_)
  · blk_ext [iblk, V, e0, e1]
  · blk_ext [iblk, V, e0, e1]

theorem read (a : S4096x2048.Idx → EReal) (b : S2048x2048.Idx → EReal) (i : S4096x2048.Idx) :
    Cert.AttnOutDxReferenceIdeal.Read.val_main_v5 (F := Ideal) a b i = prod a b i := by
  refine (Cert.AttnOutDxReferenceIdeal.Read.val_main_v4_apply a b _).trans ?_
  refine sum_eq (fun k => ?_) (fun k => ?_)
  · refine congrArg a ?_
    blk_ext
  · refine congrArg b ?_
    blk_ext

end Cert.AttnOutDxIdeal.Whole

end
-- ==== Proof.Adamw.lean ====
/- One entry's optimiser step over the extended reals, and the sum of the devices' contributions. -/
module

public import Idealize.ShloMosaic.Lib.Pipeline.ValueKit
public import Idealize.ShloMosaic.Lib.Pipeline.ReadBack

@[expose] public section

noncomputable section

namespace Cert.Adamw

open Idealize.ShloMosaic

/-- The new first moment, from the old one and the gradient. -/
def mom (m g : EReal) : EReal := Ideal.ofBits .f32 0x3F666666#32 * m + Ideal.ofBits .f32 0x3DCCCCCD#32 * g

/-- The new second moment, from the old one and the gradient. -/
def vel (v g : EReal) : EReal := Ideal.ofBits .f32 0x3F7FBE77#32 * v + Ideal.ofBits .f32 0x3A83126F#32 * (g * g)

/-- The step, from the weight, the new moments. -/
def step (w m v : EReal) : EReal :=
  Ideal.ofBits .f32 0xBA83126F#32 *
    (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- Eight contributions one after another are their sum. -/
theorem sum_eight (f g : Fin 8 → EReal) (h : ∀ d, f d = g d) :
    f 0 + f 1 + f 2 + f 3 + f 4 + f 5 + f 6 + f 7 = ∑ d, g d := by
  rw [Fin.sum_univ_eight, h, h, h, h, h, h, h, h]

end Cert.Adamw

end
-- ==== Proof.AdamwDown.lean ====
/- The optimiser's step for the second MLP weight of both layers: what the call writes and what the reference
   computes, index by index. -/
module

public import proofs.«01_k».proof.Proof.Gen.AdamwDownIdeal.Value
public import proofs.«01_k».proof.Proof.Gen.AdamwDownReferenceIdeal.Run
public import proofs.«01_k».proof.Proof.Gen.AdamwDownReferenceIdeal.Read
public import proofs.«01_k».proof.Proof.Mat
public import proofs.«01_k».proof.Proof.Adamw

@[expose] public section

set_option maxRecDepth 16384

noncomputable section

namespace Cert.AdamwDownIdeal.Whole

open Idealize.ShloMosaic Idealize.ShloMosaic.TcCoe Idealize.ShloMosaic.Tactic Idealize.SL.Sem
open Cert.AdamwDownIdeal Cert.AdamwDownIdeal.Gen
open Cert.Mat Cert.Adamw

/-- The gradient: the sum of the devices' contributions. -/
def grad (l0 l1 : S8x1024x2048.Idx → EReal) (i : S2x1024x2048.Idx) : EReal :=
  if (i 0).val = 0 then ∑ d : Fin 8, l0 (ix3 d (i 1) (i 2)) else ∑ d : Fin 8, l1 (ix3 d (i 1) (i 2))
def newM (l0 l1 : S8x1024x2048.Idx → EReal) (a : S2x1024x2048.Idx → EReal) (i : S2x1024x2048.Idx) : EReal := mom (a i) (grad l0 l1 i)
def newV (l0 l1 : S8x1024x2048.Idx → EReal) (b : S2x1024x2048.Idx → EReal) (i : S2x1024x2048.Idx) : EReal := vel (b i) (grad l0 l1 i)
def delta (l0 l1 : S8x1024x2048.Idx → EReal) (w a b : S2x1024x2048.Idx → EReal) (i : S2x1024x2048.Idx) : EReal :=
  step (w i) (newM l0 l1 a i) (newV l0 l1 b i)

variable (m : (ℓ : Loc nD τ sig) → Buf (Elt Ideal) ℓ) (c : Dev nD)

abbrev a0 : S8x1024x2048.Idx → EReal := m ((c.tc : Thread nD τ).loc main_arg0)
abbrev a1 : S8x1024x2048.Idx → EReal := m ((c.tc : Thread nD τ).loc main_arg1)
abbrev a2 : S2x1024x2048.Idx → EReal := m ((c.tc : Thread nD τ).loc main_arg2)
abbrev a3 : S2x1024x2048.Idx → EReal := m ((c.tc : Thread nD τ).loc main_arg3)
abbrev a4 : S2x1024x2048.Idx → EReal := m ((c.tc : Thread nD τ).loc main_arg4)
abbrev slot0 (t : Fin cfg0.N) : S8x128x2048.Idx → EReal := iblk m c 0 t
abbrev slot1 (t : Fin cfg0.N) : S8x128x2048.Idx → EReal := iblk m c 1 t

theorem cov5 : (cfg0.win 5).Covers := by decide +kernel
theorem cov6 : (cfg0.win 6).Covers := by decide +kernel
theorem cov7 : (cfg0.win 7).Covers := by decide +kernel
theorem cov8 : (cfg0.win 8).Covers := by decide +kernel
theorem idxL : ∀ t : Fin cfg0.N, (t.val < 8 → win0_0.index t = ![0, t.val % 8, 0]) ∧ (8 ≤ t.val → win0_1.index t = ![0, t.val % 8, 0]) := by decide +kernel
theorem idx : ∀ t : Fin cfg0.N, win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] := by
  decide +kernel

/-- The contributions a block holds, added up. -/
theorem contrib0 (t : Fin cfg0.N) (ht : t.val < 8) (y : S1x128x2048.Idx) (i : S2x1024x2048.Idx)
    (h0 : (i 0).val = t.val / 8) (h1 : (i 1).val = t.val % 8 * 128 + (y 1).val) (h2 : (i 2).val = (y 2).val) :
    slot0 m c t (ix3 0 (y 1) (y 2)) + slot0 m c t (ix3 1 (y 1) (y 2)) + slot0 m c t (ix3 2 (y 1) (y 2)) + slot0 m c t (ix3 3 (y 1) (y 2))
      + slot0 m c t (ix3 4 (y 1) (y 2)) + slot0 m c t (ix3 5 (y 1) (y 2)) + slot0 m c t (ix3 6 (y 1) (y 2)) + slot0 m c t (ix3 7 (y 1) (y 2))
      = grad (a0 m c) (a1 m c) i := by
  have e := (idxL t).1 ht
  unfold grad
  rw [if_pos (by omega)]
  refine sum_eight (fun d => slot0 m c t (ix3 d (y 1) (y 2))) _ fun d => ?_
  blk_ext [slot0, iblk, V, e]

/-- The contributions a block holds, added up. -/
theorem contrib1 (t : Fin cfg0.N) (ht : 8 ≤ t.val) (y : S1x128x2048.Idx) (i : S2x1024x2048.Idx)
    (h0 : (i 0).val = t.val / 8) (h1 : (i 1).val = t.val % 8 * 128 + (y 1).val) (h2 : (i 2).val = (y 2).val) :
    slot1 m c t (ix3 0 (y 1) (y 2)) + slot1 m c t (ix3 1 (y 1) (y 2)) + slot1 m c t (ix3 2 (y 1) (y 2)) + slot1 m c t (ix3 3 (y 1) (y 2))
      + slot1 m c t (ix3 4 (y 1) (y 2)) + slot1 m c t (ix3 5 (y 1) (y 2)) + slot1 m c t (ix3 6 (y 1) (y 2)) + slot1 m c t (ix3 7 (y 1) (y 2))
      = grad (a0 m c) (a1 m c) i := by
  have e := (idxL t).2 ht
  have hN : t.val < cfg0.N := t.isLt
  unfold grad
  rw [if_neg (by omega)]
  refine sum_eight (fun d => slot1 m c t (ix3 d (y 1) (y 2))) _ fun d => ?_
  blk_ext [slot1, iblk, V, e]

theorem row0 (t : Fin cfg0.N) (y : S1x128x2048.Idx) (i : S2x1024x2048.Idx)
    (h0 : (i 0).val = t.val / 8) (h1 : (i 1).val = t.val % 8 * 128 + (y 1).val) (h2 : (i 2).val = (y 2).val) :
    iblk m c 2 t y = a2 m c i := by
  have e : win0_2.index t = ![t.val / 8, t.val % 8, 0] := by simp only [idx t]
  blk_ext [iblk, V, e]

theorem row1 (t : Fin cfg0.N) (y : S1x128x2048.Idx) (i : S2x1024x2048.Idx)
    (h0 : (i 0).val = t.val / 8) (h1 : (i 1).val = t.val % 8 * 128 + (y 1).val) (h2 : (i 2).val = (y 2).val) :
    iblk m c 3 t y = a3 m c i := by
  have e : win0_3.index t = ![t.val / 8, t.val % 8, 0] := by simp only [idx t]
  blk_ext [iblk, V, e]

theorem row2 (t : Fin cfg0.N) (y : S1x128x2048.Idx) (i : S2x1024x2048.Idx)
    (h0 : (i 0).val = t.val / 8) (h1 : (i 1).val = t.val % 8 * 128 + (y 1).val) (h2 : (i 2).val = (y 2).val) :
    iblk m c 4 t y = a4 m c i := by
  have e : win0_4.index t = ![t.val / 8, t.val % 8, 0] := by simp only [idx t]
  blk_ext [iblk, V, e]

theorem final0 : (dats m 0 c).arrAt 5 cfg0.N = grad (a0 m c) (a1 m c) := by
  refine (dats m 0 c).arrAt_eq_of_covers 5 _ cov5 fun t hf y => ?_
  have e : win0_5.index t = ![t.val / 8, t.val % 8, 0] := by simp only [idx t]
  have h0 : ((((cfg0.win 5).blk t).view.emb y : S2x1024x2048.Idx) 0).val = t.val / 8 := by
    have hy : (y 0).val < 1 := (y 0).isLt
    blk_simp [e] <;> omega
  have h1 : ((((cfg0.win 5).blk t).view.emb y : S2x1024x2048.Idx) 1).val = t.val % 8 * 128 + (y 1).val := by blk_simp [e]
  have h2 : ((((cfg0.win 5).blk t).view.emb y : S2x1024x2048.Idx) 2).val = (y 2).val := by blk_simp [e]
  blk_simp
  rw [after0_5]
  by_cases ht : t.val < 8
  · rw [outsAt0_A m c t ht (by omega)]
    frame_out
    open_payloads
    pointwise
    exact contrib0 m c t ht y _ h0 h1 h2
  · rw [outsAt0_B m c t ht (by omega)]
    frame_out
    open_payloads
    pointwise
    exact contrib1 m c t (by omega) y _ h0 h1 h2

theorem final1 : (dats m 0 c).arrAt 6 cfg0.N = delta (a0 m c) (a1 m c) (a2 m c) (a3 m c) (a4 m c) := by
  refine (dats m 0 c).arrAt_eq_of_covers 6 _ cov6 fun t hf y => ?_
  have e : win0_6.index t = ![t.val / 8, t.val % 8, 0] := by simp only [idx t]
  have h0 : ((((cfg0.win 6).blk t).view.emb y : S2x1024x2048.Idx) 0).val = t.val / 8 := by
    have hy : (y 0).val < 1 := (y 0).isLt
    blk_simp [e] <;> omega
  have h1 : ((((cfg0.win 6).blk t).view.emb y : S2x1024x2048.Idx) 1).val = t.val % 8 * 128 + (y 1).val := by blk_simp [e]
  have h2 : ((((cfg0.win 6).blk t).view.emb y : S2x1024x2048.Idx) 2).val = (y 2).val := by blk_simp [e]
  blk_simp
  rw [after0_6]
  by_cases ht : t.val < 8
  · rw [outsAt0_A m c t ht (by omega)]
    frame_out
    open_payloads
    pointwise
    rw [contrib0 m c t ht y _ h0 h1 h2, row0 m c t y _ h0 h1 h2, row1 m c t y _ h0 h1 h2, row2 m c t y _ h0 h1 h2]
    rfl
  · rw [outsAt0_B m c t ht (by omega)]
    frame_out
    open_payloads
    pointwise
    rw [contrib1 m c t (by omega) y _ h0 h1 h2, row0 m c t y _ h0 h1 h2, row1 m c t y _ h0 h1 h2, row2 m c t y _ h0 h1 h2]
    rfl

theorem final2 : (dats m 0 c).arrAt 7 cfg0.N = newM (a0 m c) (a1 m c) (a3 m c) := by
  refine (dats m 0 c).arrAt_eq_of_covers 7 _ cov7 fun t hf y => ?_
  have e : win0_7.index t = ![t.val / 8, t.val % 8, 0] := by simp only [idx t]
  have h0 : ((((cfg0.win 7).blk t).view.emb y : S2x1024x2048.Idx) 0).val = t.val / 8 := by
    have hy : (y 0).val < 1 := (y 0).isLt
    blk_simp [e] <;> omega
  have h1 : ((((cfg0.win 7).blk t).view.emb y : S2x1024x2048.Idx) 1).val = t.val % 8 * 128 + (y 1).val := by blk_simp [e]
  have h2 : ((((cfg0.win 7).blk t).view.emb y : S2x1024x2048.Idx) 2).val = (y 2).val := by blk_simp [e]
  blk_simp
  rw [after0_7]
  by_cases ht : t.val < 8
  · rw [outsAt0_A m c t ht (by omega)]
    frame_out
    open_payloads
    pointwise
    rw [contrib0 m c t ht y _ h0 h1 h2, row1 m c t y _ h0 h1 h2]
    rfl
  · rw [outsAt0_B m c t ht (by omega)]
    frame_out
    open_payloads
    pointwise
    rw [contrib1 m c t (by omega) y _ h0 h1 h2, row1 m c t y _ h0 h1 h2]
    rfl

theorem final3 : (dats m 0 c).arrAt 8 cfg0.N = newV (a0 m c) (a1 m c) (a4 m c) := by
  refine (dats m 0 c).arrAt_eq_of_covers 8 _ cov8 fun t hf y => ?_
  have e : win0_8.index t = ![t.val / 8, t.val % 8, 0] := by simp only [idx t]
  have h0 : ((((cfg0.win 8).blk t).view.emb y : S2x1024x2048.Idx) 0).val = t.val / 8 := by
    have hy : (y 0).val < 1 := (y 0).isLt
    blk_simp [e] <;> omega
  have h1 : ((((cfg0.win 8).blk t).view.emb y : S2x1024x2048.Idx) 1).val = t.val % 8 * 128 + (y 1).val := by blk_simp [e]
  have h2 : ((((cfg0.win 8).blk t).view.emb y : S2x1024x2048.Idx) 2).val = (y 2).val := by blk_simp [e]
  blk_simp
  rw [after0_8]
  by_cases ht : t.val < 8
  · rw [outsAt0_A m c t ht (by omega)]
    frame_out
    open_payloads
    pointwise
    rw [contrib0 m c t ht y _ h0 h1 h2, row2 m c t y _ h0 h1 h2]
    rfl
  · rw [outsAt0_B m c t ht (by omega)]
    frame_out
    open_payloads
    pointwise
    rw [contrib1 m c t (by omega) y _ h0 h1 h2, row2 m c t y _ h0 h1 h2]
    rfl

theorem slots0 (l0 : S8x1024x2048.Idx → EReal) (j : Cert.AdamwDownReferenceIdeal.S1024x2048.Idx) (i : S2x1024x2048.Idx) (h1 : (j 0).val = (i 1).val) (h2 : (j 1).val = (i 2).val) :
    Cert.AdamwDownReferenceIdeal.Read.val_main_v1 (F := Ideal) l0 j = ∑ d : Fin 8, l0 (ix3 d (i 1) (i 2)) := by
  refine (Cert.AdamwDownReferenceIdeal.Read.val_main_v1_apply l0 _).trans ?_
  refine (congrArg (· + _) Ideal.ofBits_zero_f32).trans ((zero_add _).trans (Finset.sum_congr rfl fun d _ => congrArg l0 ?_))
  blk_ext

theorem slots1 (l1 : S8x1024x2048.Idx → EReal) (j : Cert.AdamwDownReferenceIdeal.S1024x2048.Idx) (i : S2x1024x2048.Idx) (h1 : (j 0).val = (i 1).val) (h2 : (j 1).val = (i 2).val) :
    Cert.AdamwDownReferenceIdeal.Read.val_main_v3 (F := Ideal) l1 j = ∑ d : Fin 8, l1 (ix3 d (i 1) (i 2)) := by
  refine (Cert.AdamwDownReferenceIdeal.Read.val_main_v3_apply l1 _).trans ?_
  refine (congrArg (· + _) Ideal.ofBits_zero_f32).trans ((zero_add _).trans (Finset.sum_congr rfl fun d _ => congrArg l1 ?_))
  blk_ext

theorem read0 (l0 l1 : S8x1024x2048.Idx → EReal) (i : S2x1024x2048.Idx) : Cert.AdamwDownReferenceIdeal.Read.val_main_v6 (F := Ideal) l0 l1 i = grad l0 l1 i := by
  have hi : (i 0).val < 2 := (i 0).isLt
  unfold Cert.AdamwDownReferenceIdeal.Read.val_main_v6 grad
  pointwise
  by_cases h : (i 0).val = 0
  · rw [if_pos h, dif_pos (by omega)]
    exact (Cert.AdamwDownReferenceIdeal.Read.val_main_v4_apply (F := Ideal) l0 _).trans (slots0 l0 _ i rfl rfl)
  · rw [if_neg h, dif_neg (by omega)]
    exact (Cert.AdamwDownReferenceIdeal.Read.val_main_v5_apply (F := Ideal) l1 _).trans (slots1 l1 _ i rfl rfl)

open Cert.AdamwDownReferenceIdeal.Read in
theorem read2 (l0 l1 : S8x1024x2048.Idx → EReal) (a : S2x1024x2048.Idx → EReal) (i : S2x1024x2048.Idx) :
    Cert.AdamwDownReferenceIdeal.Read.val_main_v11 (F := Ideal) l0 l1 a i = newM l0 l1 a i := by
  simp only [val_main_cst_apply, val_main_cst_0_apply, val_main_cst_1_apply, val_main_v7_apply, val_main_v8_apply, val_main_cst_2_apply, val_main_v9_apply, val_main_v10_apply, val_main_v11_apply, val_main_cst_3_apply, val_main_v12_apply, val_main_v13_apply, val_main_v14_apply, val_main_cst_4_apply, val_main_v15_apply, val_main_v16_apply, val_main_v17_apply, val_main_cst_5_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, val_main_v28_apply, val_main_cst_9_apply, val_main_v29_apply, val_main_v30_apply, read0]
  rfl

open Cert.AdamwDownReferenceIdeal.Read in
theorem read3 (l0 l1 : S8x1024x2048.Idx → EReal) (b : S2x1024x2048.Idx → EReal) (i : S2x1024x2048.Idx) :
    Cert.AdamwDownReferenceIdeal.Read.val_main_v17 (F := Ideal) l0 l1 b i = newV l0 l1 b i := by
  simp only [val_main_cst_apply, val_main_cst_0_apply, val_main_cst_1_apply, val_main_v7_apply, val_main_v8_apply, val_main_cst_2_apply, val_main_v9_apply, val_main_v10_apply, val_main_v11_apply, val_main_cst_3_apply, val_main_v12_apply, val_main_v13_apply, val_main_v14_apply, val_main_cst_4_apply, val_main_v15_apply, val_main_v16_apply, val_main_v17_apply, val_main_cst_5_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, val_main_v28_apply, val_main_cst_9_apply, val_main_v29_apply, val_main_v30_apply, read0]
  rfl

open Cert.AdamwDownReferenceIdeal.Read in
theorem read1 (l0 l1 : S8x1024x2048.Idx → EReal) (w a b : S2x1024x2048.Idx → EReal) (i : S2x1024x2048.Idx) :
    Cert.AdamwDownReferenceIdeal.Read.val_main_v30 (F := Ideal) l0 l1 w a b i = delta l0 l1 w a b i := by
  simp only [val_main_cst_apply, val_main_cst_0_apply, val_main_cst_1_apply, val_main_v7_apply, val_main_v8_apply, val_main_cst_2_apply, val_main_v9_apply, val_main_v10_apply, val_main_cst_3_apply, val_main_v12_apply, val_main_v13_apply, val_main_v14_apply, val_main_cst_4_apply, val_main_v15_apply, val_main_v16_apply, val_main_cst_5_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, val_main_v28_apply, val_main_cst_9_apply, val_main_v29_apply, val_main_v30_apply, read2, read3]
  rfl

end Cert.AdamwDownIdeal.Whole

end
-- ==== Proof.AdamwUp.lean ====
/- The optimiser's step for the first MLP weight of both layers: what the call writes and what the reference
   computes, index by index. -/
module

public import proofs.«01_k».proof.Proof.Gen.AdamwUpIdeal.Value
public import proofs.«01_k».proof.Proof.Gen.AdamwUpReferenceIdeal.Run
public import proofs.«01_k».proof.Proof.Gen.AdamwUpReferenceIdeal.Read
public import proofs.«01_k».proof.Proof.Mat
public import proofs.«01_k».proof.Proof.Adamw

@[expose] public section

set_option maxRecDepth 16384

noncomputable section

namespace Cert.AdamwUpIdeal.Whole

open Idealize.ShloMosaic Idealize.ShloMosaic.TcCoe Idealize.ShloMosaic.Tactic Idealize.SL.Sem
open Cert.AdamwUpIdeal Cert.AdamwUpIdeal.Gen
open Cert.Mat Cert.Adamw

/-- The gradient: the sum of the devices' contributions. -/
def grad (l0 l1 : S8x2048x1024.Idx → EReal) (i : S2x2048x1024.Idx) : EReal :=
  if (i 0).val = 0 then ∑ d : Fin 8, l0 (ix3 d (i 1) (i 2)) else ∑ d : Fin 8, l1 (ix3 d (i 1) (i 2))
def newM (l0 l1 : S8x2048x1024.Idx → EReal) (a : S2x2048x1024.Idx → EReal) (i : S2x2048x1024.Idx) : EReal := mom (a i) (grad l0 l1 i)
def newV (l0 l1 : S8x2048x1024.Idx → EReal) (b : S2x2048x1024.Idx → EReal) (i : S2x2048x1024.Idx) : EReal := vel (b i) (grad l0 l1 i)
def delta (l0 l1 : S8x2048x1024.Idx → EReal) (w a b : S2x2048x1024.Idx → EReal) (i : S2x2048x1024.Idx) : EReal :=
  step (w i) (newM l0 l1 a i) (newV l0 l1 b i)

variable (m : (ℓ : Loc nD τ sig) → Buf (Elt Ideal) ℓ) (c : Dev nD)

abbrev a0 : S8x2048x1024.Idx → EReal := m ((c.tc : Thread nD τ).loc main_arg0)
abbrev a1 : S8x2048x1024.Idx → EReal := m ((c.tc : Thread nD τ).loc main_arg1)
abbrev a2 : S2x2048x1024.Idx → EReal := m ((c.tc : Thread nD τ).loc main_arg2)
abbrev a3 : S2x2048x1024.Idx → EReal := m ((c.tc : Thread nD τ).loc main_arg3)
abbrev a4 : S2x2048x1024.Idx → EReal := m ((c.tc : Thread nD τ).loc main_arg4)
abbrev slot0 (t : Fin cfg0.N) : S8x256x1024.Idx → EReal := iblk m c 0 t
abbrev slot1 (t : Fin cfg0.N) : S8x256x1024.Idx → EReal := iblk m c 1 t

theorem cov5 : (cfg0.win 5).Covers := by decide +kernel
theorem cov6 : (cfg0.win 6).Covers := by decide +kernel
theorem cov7 : (cfg0.win 7).Covers := by decide +kernel
theorem cov8 : (cfg0.win 8).Covers := by decide +kernel
theorem idxL : ∀ t : Fin cfg0.N, (t.val < 8 → win0_0.index t = ![0, t.val % 8, 0]) ∧ (8 ≤ t.val → win0_1.index t = ![0, t.val % 8, 0]) := by decide +kernel
theorem idx : ∀ t : Fin cfg0.N, win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] := by
  decide +kernel

/-- The contributions a block holds, added up. -/
theorem contrib0 (t : Fin cfg0.N) (ht : t.val < 8) (y : S1x256x1024.Idx) (i : S2x2048x1024.Idx)
    (h0 : (i 0).val = t.val / 8) (h1 : (i 1).val = t.val % 8 * 256 + (y 1).val) (h2 : (i 2).val = (y 2).val) :
    slot0 m c t (ix3 0 (y 1) (y 2)) + slot0 m c t (ix3 1 (y 1) (y 2)) + slot0 m c t (ix3 2 (y 1) (y 2)) + slot0 m c t (ix3 3 (y 1) (y 2))
      + slot0 m c t (ix3 4 (y 1) (y 2)) + slot0 m c t (ix3 5 (y 1) (y 2)) + slot0 m c t (ix3 6 (y 1) (y 2)) + slot0 m c t (ix3 7 (y 1) (y 2))
      = grad (a0 m c) (a1 m c) i := by
  have e := (idxL t).1 ht
  unfold grad
  rw [if_pos (by omega)]
  refine sum_eight (fun d => slot0 m c t (ix3 d (y 1) (y 2))) _ fun d => ?_
  blk_ext [slot0, iblk, V, e]

/-- The contributions a block holds, added up. -/
theorem contrib1 (t : Fin cfg0.N) (ht : 8 ≤ t.val) (y : S1x256x1024.Idx) (i : S2x2048x1024.Idx)
    (h0 : (i 0).val = t.val / 8) (h1 : (i 1).val = t.val % 8 * 256 + (y 1).val) (h2 : (i 2).val = (y 2).val) :
    slot1 m c t (ix3 0 (y 1) (y 2)) + slot1 m c t (ix3 1 (y 1) (y 2)) + slot1 m c t (ix3 2 (y 1) (y 2)) + slot1 m c t (ix3 3 (y 1) (y 2))
      + slot1 m c t (ix3 4 (y 1) (y 2)) + slot1 m c t (ix3 5 (y 1) (y 2)) + slot1 m c t (ix3 6 (y 1) (y 2)) + slot1 m c t (ix3 7 (y 1) (y 2))
      = grad (a0 m c) (a1 m c) i := by
  have e := (idxL t).2 ht
  have hN : t.val < cfg0.N := t.isLt
  unfold grad
  rw [if_neg (by omega)]
  refine sum_eight (fun d => slot1 m c t (ix3 d (y 1) (y 2))) _ fun d => ?_
  blk_ext [slot1, iblk, V, e]

theorem row0 (t : Fin cfg0.N) (y : S1x256x1024.Idx) (i : S2x2048x1024.Idx)
    (h0 : (i 0).val = t.val / 8) (h1 : (i 1).val = t.val % 8 * 256 + (y 1).val) (h2 : (i 2).val = (y 2).val) :
    iblk m c 2 t y = a2 m c i := by
  have e : win0_2.index t = ![t.val / 8, t.val % 8, 0] := by simp only [idx t]
  blk_ext [iblk, V, e]

theorem row1 (t : Fin cfg0.N) (y : S1x256x1024.Idx) (i : S2x2048x1024.Idx)
    (h0 : (i 0).val = t.val / 8) (h1 : (i 1).val = t.val % 8 * 256 + (y 1).val) (h2 : (i 2).val = (y 2).val) :
    iblk m c 3 t y = a3 m c i := by
  have e : win0_3.index t = ![t.val / 8, t.val % 8, 0] := by simp only [idx t]
  blk_ext [iblk, V, e]

theorem row2 (t : Fin cfg0.N) (y : S1x256x1024.Idx) (i : S2x2048x1024.Idx)
    (h0 : (i 0).val = t.val / 8) (h1 : (i 1).val = t.val % 8 * 256 + (y 1).val) (h2 : (i 2).val = (y 2).val) :
    iblk m c 4 t y = a4 m c i := by
  have e : win0_4.index t = ![t.val / 8, t.val % 8, 0] := by simp only [idx t]
  blk_ext [iblk, V, e]

theorem final0 : (dats m 0 c).arrAt 5 cfg0.N = grad (a0 m c) (a1 m c) := by
  refine (dats m 0 c).arrAt_eq_of_covers 5 _ cov5 fun t hf y => ?_
  have e : win0_5.index t = ![t.val / 8, t.val % 8, 0] := by simp only [idx t]
  have h0 : ((((cfg0.win 5).blk t).view.emb y : S2x2048x1024.Idx) 0).val = t.val / 8 := by
    have hy : (y 0).val < 1 := (y 0).isLt
    blk_simp [e] <;> omega
  have h1 : ((((cfg0.win 5).blk t).view.emb y : S2x2048x1024.Idx) 1).val = t.val % 8 * 256 + (y 1).val := by blk_simp [e]
  have h2 : ((((cfg0.win 5).blk t).view.emb y : S2x2048x1024.Idx) 2).val = (y 2).val := by blk_simp [e]
  blk_simp
  rw [after0_5]
  by_cases ht : t.val < 8
  · rw [outsAt0_A m c t ht (by omega)]
    frame_out
    open_payloads
    pointwise
    exact contrib0 m c t ht y _ h0 h1 h2
  · rw [outsAt0_B m c t ht (by omega)]
    frame_out
    open_payloads
    pointwise
    exact contrib1 m c t (by omega) y _ h0 h1 h2

theorem final1 : (dats m 0 c).arrAt 6 cfg0.N = delta (a0 m c) (a1 m c) (a2 m c) (a3 m c) (a4 m c) := by
  refine (dats m 0 c).arrAt_eq_of_covers 6 _ cov6 fun t hf y => ?_
  have e : win0_6.index t = ![t.val / 8, t.val % 8, 0] := by simp only [idx t]
  have h0 : ((((cfg0.win 6).blk t).view.emb y : S2x2048x1024.Idx) 0).val = t.val / 8 := by
    have hy : (y 0).val < 1 := (y 0).isLt
    blk_simp [e] <;> omega
  have h1 : ((((cfg0.win 6).blk t).view.emb y : S2x2048x1024.Idx) 1).val = t.val % 8 * 256 + (y 1).val := by blk_simp [e]
  have h2 : ((((cfg0.win 6).blk t).view.emb y : S2x2048x1024.Idx) 2).val = (y 2).val := by blk_simp [e]
  blk_simp
  rw [after0_6]
  by_cases ht : t.val < 8
  · rw [outsAt0_A m c t ht (by omega)]
    frame_out
    open_payloads
    pointwise
    rw [contrib0 m c t ht y _ h0 h1 h2, row0 m c t y _ h0 h1 h2, row1 m c t y _ h0 h1 h2, row2 m c t y _ h0 h1 h2]
    rfl
  · rw [outsAt0_B m c t ht (by omega)]
    frame_out
    open_payloads
    pointwise
    rw [contrib1 m c t (by omega) y _ h0 h1 h2, row0 m c t y _ h0 h1 h2, row1 m c t y _ h0 h1 h2, row2 m c t y _ h0 h1 h2]
    rfl

theorem final2 : (dats m 0 c).arrAt 7 cfg0.N = newM (a0 m c) (a1 m c) (a3 m c) := by
  refine (dats m 0 c).arrAt_eq_of_covers 7 _ cov7 fun t hf y => ?_
  have e : win0_7.index t = ![t.val / 8, t.val % 8, 0] := by simp only [idx t]
  have h0 : ((((cfg0.win 7).blk t).view.emb y : S2x2048x1024.Idx) 0).val = t.val / 8 := by
    have hy : (y 0).val < 1 := (y 0).isLt
    blk_simp [e] <;> omega
  have h1 : ((((cfg0.win 7).blk t).view.emb y : S2x2048x1024.Idx) 1).val = t.val % 8 * 256 + (y 1).val := by blk_simp [e]
  have h2 : ((((cfg0.win 7).blk t).view.emb y : S2x2048x1024.Idx) 2).val = (y 2).val := by blk_simp [e]
  blk_simp
  rw [after0_7]
  by_cases ht : t.val < 8
  · rw [outsAt0_A m c t ht (by omega)]
    frame_out
    open_payloads
    pointwise
    rw [contrib0 m c t ht y _ h0 h1 h2, row1 m c t y _ h0 h1 h2]
    rfl
  · rw [outsAt0_B m c t ht (by omega)]
    frame_out
    open_payloads
    pointwise
    rw [contrib1 m c t (by omega) y _ h0 h1 h2, row1 m c t y _ h0 h1 h2]
    rfl

theorem final3 : (dats m 0 c).arrAt 8 cfg0.N = newV (a0 m c) (a1 m c) (a4 m c) := by
  refine (dats m 0 c).arrAt_eq_of_covers 8 _ cov8 fun t hf y => ?_
  have e : win0_8.index t = ![t.val / 8, t.val % 8, 0] := by simp only [idx t]
  have h0 : ((((cfg0.win 8).blk t).view.emb y : S2x2048x1024.Idx) 0).val = t.val / 8 := by
    have hy : (y 0).val < 1 := (y 0).isLt
    blk_simp [e] <;> omega
  have h1 : ((((cfg0.win 8).blk t).view.emb y : S2x2048x1024.Idx) 1).val = t.val % 8 * 256 + (y 1).val := by blk_simp [e]
  have h2 : ((((cfg0.win 8).blk t).view.emb y : S2x2048x1024.Idx) 2).val = (y 2).val := by blk_simp [e]
  blk_simp
  rw [after0_8]
  by_cases ht : t.val < 8
  · rw [outsAt0_A m c t ht (by omega)]
    frame_out
    open_payloads
    pointwise
    rw [contrib0 m c t ht y _ h0 h1 h2, row2 m c t y _ h0 h1 h2]
    rfl
  · rw [outsAt0_B m c t ht (by omega)]
    frame_out
    open_payloads
    pointwise
    rw [contrib1 m c t (by omega) y _ h0 h1 h2, row2 m c t y _ h0 h1 h2]
    rfl

theorem slots0 (l0 : S8x2048x1024.Idx → EReal) (j : Cert.AdamwUpReferenceIdeal.S2048x1024.Idx) (i : S2x2048x1024.Idx) (h1 : (j 0).val = (i 1).val) (h2 : (j 1).val = (i 2).val) :
    Cert.AdamwUpReferenceIdeal.Read.val_main_v1 (F := Ideal) l0 j = ∑ d : Fin 8, l0 (ix3 d (i 1) (i 2)) := by
  refine (Cert.AdamwUpReferenceIdeal.Read.val_main_v1_apply l0 _).trans ?_
  refine (congrArg (· + _) Ideal.ofBits_zero_f32).trans ((zero_add _).trans (Finset.sum_congr rfl fun d _ => congrArg l0 ?_))
  blk_ext

theorem slots1 (l1 : S8x2048x1024.Idx → EReal) (j : Cert.AdamwUpReferenceIdeal.S2048x1024.Idx) (i : S2x2048x1024.Idx) (h1 : (j 0).val = (i 1).val) (h2 : (j 1).val = (i 2).val) :
    Cert.AdamwUpReferenceIdeal.Read.val_main_v3 (F := Ideal) l1 j = ∑ d : Fin 8, l1 (ix3 d (i 1) (i 2)) := by
  refine (Cert.AdamwUpReferenceIdeal.Read.val_main_v3_apply l1 _).trans ?_
  refine (congrArg (· + _) Ideal.ofBits_zero_f32).trans ((zero_add _).trans (Finset.sum_congr rfl fun d _ => congrArg l1 ?_))
  blk_ext

theorem read0 (l0 l1 : S8x2048x1024.Idx → EReal) (i : S2x2048x1024.Idx) : Cert.AdamwUpReferenceIdeal.Read.val_main_v6 (F := Ideal) l0 l1 i = grad l0 l1 i := by
  have hi : (i 0).val < 2 := (i 0).isLt
  unfold Cert.AdamwUpReferenceIdeal.Read.val_main_v6 grad
  pointwise
  by_cases h : (i 0).val = 0
  · rw [if_pos h, dif_pos (by omega)]
    exact (Cert.AdamwUpReferenceIdeal.Read.val_main_v4_apply (F := Ideal) l0 _).trans (slots0 l0 _ i rfl rfl)
  · rw [if_neg h, dif_neg (by omega)]
    exact (Cert.AdamwUpReferenceIdeal.Read.val_main_v5_apply (F := Ideal) l1 _).trans (slots1 l1 _ i rfl rfl)

open Cert.AdamwUpReferenceIdeal.Read in
theorem read2 (l0 l1 : S8x2048x1024.Idx → EReal) (a : S2x2048x1024.Idx → EReal) (i : S2x2048x1024.Idx) :
    Cert.AdamwUpReferenceIdeal.Read.val_main_v11 (F := Ideal) l0 l1 a i = newM l0 l1 a i := by
  simp only [val_main_cst_apply, val_main_cst_0_apply, val_main_cst_1_apply, val_main_v7_apply, val_main_v8_apply, val_main_cst_2_apply, val_main_v9_apply, val_main_v10_apply, val_main_v11_apply, val_main_cst_3_apply, val_main_v12_apply, val_main_v13_apply, val_main_v14_apply, val_main_cst_4_apply, val_main_v15_apply, val_main_v16_apply, val_main_v17_apply, val_main_cst_5_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, val_main_v28_apply, val_main_cst_9_apply, val_main_v29_apply, val_main_v30_apply, read0]
  rfl

open Cert.AdamwUpReferenceIdeal.Read in
theorem read3 (l0 l1 : S8x2048x1024.Idx → EReal) (b : S2x2048x1024.Idx → EReal) (i : S2x2048x1024.Idx) :
    Cert.AdamwUpReferenceIdeal.Read.val_main_v17 (F := Ideal) l0 l1 b i = newV l0 l1 b i := by
  simp only [val_main_cst_apply, val_main_cst_0_apply, val_main_cst_1_apply, val_main_v7_apply, val_main_v8_apply, val_main_cst_2_apply, val_main_v9_apply, val_main_v10_apply, val_main_v11_apply, val_main_cst_3_apply, val_main_v12_apply, val_main_v13_apply, val_main_v14_apply, val_main_cst_4_apply, val_main_v15_apply, val_main_v16_apply, val_main_v17_apply, val_main_cst_5_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, val_main_v28_apply, val_main_cst_9_apply, val_main_v29_apply, val_main_v30_apply, read0]
  rfl

open Cert.AdamwUpReferenceIdeal.Read in
theorem read1 (l0 l1 : S8x2048x1024.Idx → EReal) (w a b : S2x2048x1024.Idx → EReal) (i : S2x2048x1024.Idx) :
    Cert.AdamwUpReferenceIdeal.Read.val_main_v30 (F := Ideal) l0 l1 w a b i = delta l0 l1 w a b i := by
  simp only [val_main_cst_apply, val_main_cst_0_apply, val_main_cst_1_apply, val_main_v7_apply, val_main_v8_apply, val_main_cst_2_apply, val_main_v9_apply, val_main_v10_apply, val_main_cst_3_apply, val_main_v12_apply, val_main_v13_apply, val_main_v14_apply, val_main_cst_4_apply, val_main_v15_apply, val_main_v16_apply, val_main_cst_5_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, val_main_v28_apply, val_main_cst_9_apply, val_main_v29_apply, val_main_v30_apply, read2, read3]
  rfl

end Cert.AdamwUpIdeal.Whole

end
-- ==== Proof.AdamwQkv.lean ====
/- The optimiser's step for the weight of the queries, keys and values: what the call writes and what the reference
   computes, index by index. -/
module

public import proofs.«01_k».proof.Proof.Gen.AdamwQkvIdeal.Value
public import proofs.«01_k».proof.Proof.Gen.AdamwQkvReferenceIdeal.Run
public import proofs.«01_k».proof.Proof.Gen.AdamwQkvReferenceIdeal.Read
public import proofs.«01_k».proof.Proof.Mat
public import proofs.«01_k».proof.Proof.Adamw

@[expose] public section

set_option maxRecDepth 16384

noncomputable section

namespace Cert.AdamwQkvIdeal.Whole

open Idealize.ShloMosaic Idealize.ShloMosaic.TcCoe Idealize.ShloMosaic.Tactic Idealize.SL.Sem
open Cert.AdamwQkvIdeal Cert.AdamwQkvIdeal.Gen
open Cert.Mat Cert.Adamw

/-- The gradient: the sum of the devices' contributions. -/
def grad (l0 : S8x768x2048.Idx → EReal) (i : S1x2048x768.Idx) : EReal :=
  ∑ d : Fin 8, l0 (ix3 d (i 2) (i 1))
def newM (l0 : S8x768x2048.Idx → EReal) (a : S1x2048x768.Idx → EReal) (i : S1x2048x768.Idx) : EReal := mom (a i) (grad l0 i)
def newV (l0 : S8x768x2048.Idx → EReal) (b : S1x2048x768.Idx → EReal) (i : S1x2048x768.Idx) : EReal := vel (b i) (grad l0 i)
def delta (l0 : S8x768x2048.Idx → EReal) (w a b : S1x2048x768.Idx → EReal) (i : S1x2048x768.Idx) : EReal :=
  step (w i) (newM l0 a i) (newV l0 b i)

variable (m : (ℓ : Loc nD τ sig) → Buf (Elt Ideal) ℓ) (c : Dev nD)

abbrev a0 : S8x768x2048.Idx → EReal := m ((c.tc : Thread nD τ).loc main_arg0)
abbrev a1 : S1x2048x768.Idx → EReal := m ((c.tc : Thread nD τ).loc main_arg1)
abbrev a2 : S1x2048x768.Idx → EReal := m ((c.tc : Thread nD τ).loc main_arg2)
abbrev a3 : S1x2048x768.Idx → EReal := m ((c.tc : Thread nD τ).loc main_arg3)
abbrev slot0 (t : Fin cfg0.N) : S8x768x256.Idx → EReal := iblk m c 0 t

theorem cov4 : (cfg0.win 4).Covers := by decide +kernel
theorem cov5 : (cfg0.win 5).Covers := by decide +kernel
theorem cov6 : (cfg0.win 6).Covers := by decide +kernel
theorem cov7 : (cfg0.win 7).Covers := by decide +kernel
theorem idxL : ∀ t : Fin cfg0.N, win0_0.index t = ![0, 0, t.val] := by decide +kernel
theorem idx : ∀ t : Fin cfg0.N, win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The contributions a block holds, added up. -/
theorem contrib0 (t : Fin cfg0.N) (y : S1x256x768.Idx) (i : S1x2048x768.Idx)
    (h0 : (i 0).val = 0) (h1 : (i 1).val = t.val * 256 + (y 1).val) (h2 : (i 2).val = (y 2).val) :
    slot0 m c t (ix3 0 (y 2) (y 1)) + slot0 m c t (ix3 1 (y 2) (y 1)) + slot0 m c t (ix3 2 (y 2) (y 1)) + slot0 m c t (ix3 3 (y 2) (y 1))
      + slot0 m c t (ix3 4 (y 2) (y 1)) + slot0 m c t (ix3 5 (y 2) (y 1)) + slot0 m c t (ix3 6 (y 2) (y 1)) + slot0 m c t (ix3 7 (y 2) (y 1))
      = grad (a0 m c) i := by
  have e := idxL t
  refine sum_eight (fun d => slot0 m c t (ix3 d (y 2) (y 1))) _ fun d => ?_
  blk_ext [slot0, iblk, V, e]

theorem row0 (t : Fin cfg0.N) (y : S1x256x768.Idx) (i : S1x2048x768.Idx)
    (h0 : (i 0).val = 0) (h1 : (i 1).val = t.val * 256 + (y 1).val) (h2 : (i 2).val = (y 2).val) :
    iblk m c 1 t y = a1 m c i := by
  have e : win0_1.index t = ![0, t.val, 0] := by simp only [idx t]
  blk_ext [iblk, V, e]

theorem row1 (t : Fin cfg0.N) (y : S1x256x768.Idx) (i : S1x2048x768.Idx)
    (h0 : (i 0).val = 0) (h1 : (i 1).val = t.val * 256 + (y 1).val) (h2 : (i 2).val = (y 2).val) :
    iblk m c 2 t y = a2 m c i := by
  have e : win0_2.index t = ![0, t.val, 0] := by simp only [idx t]
  blk_ext [iblk, V, e]

theorem row2 (t : Fin cfg0.N) (y : S1x256x768.Idx) (i : S1x2048x768.Idx)
    (h0 : (i 0).val = 0) (h1 : (i 1).val = t.val * 256 + (y 1).val) (h2 : (i 2).val = (y 2).val) :
    iblk m c 3 t y = a3 m c i := by
  have e : win0_3.index t = ![0, t.val, 0] := by simp only [idx t]
  blk_ext [iblk, V, e]

theorem final0 : (dats m 0 c).arrAt 4 cfg0.N = grad (a0 m c) := by
  refine (dats m 0 c).arrAt_eq_of_covers 4 _ cov4 fun t hf y => ?_
  have e : win0_4.index t = ![0, t.val, 0] := by simp only [idx t]
  have h0 : ((((cfg0.win 4).blk t).view.emb y : S1x2048x768.Idx) 0).val = 0 := by
    have hy : (y 0).val < 1 := (y 0).isLt
    blk_simp [e] <;> omega
  have h1 : ((((cfg0.win 4).blk t).view.emb y : S1x2048x768.Idx) 1).val = t.val * 256 + (y 1).val := by blk_simp [e]
  have h2 : ((((cfg0.win 4).blk t).view.emb y : S1x2048x768.Idx) 2).val = (y 2).val := by blk_simp [e]
  blk_simp
  rw [after0_4]
  unfold outsAt0
  dsimp only
  frame_out
  open_payloads
  pointwise
  exact contrib0 m c t y _ h0 h1 h2

theorem final1 : (dats m 0 c).arrAt 5 cfg0.N = delta (a0 m c) (a1 m c) (a2 m c) (a3 m c) := by
  refine (dats m 0 c).arrAt_eq_of_covers 5 _ cov5 fun t hf y => ?_
  have e : win0_5.index t = ![0, t.val, 0] := by simp only [idx t]
  have h0 : ((((cfg0.win 5).blk t).view.emb y : S1x2048x768.Idx) 0).val = 0 := by
    have hy : (y 0).val < 1 := (y 0).isLt
    blk_simp [e] <;> omega
  have h1 : ((((cfg0.win 5).blk t).view.emb y : S1x2048x768.Idx) 1).val = t.val * 256 + (y 1).val := by blk_simp [e]
  have h2 : ((((cfg0.win 5).blk t).view.emb y : S1x2048x768.Idx) 2).val = (y 2).val := by blk_simp [e]
  blk_simp
  rw [after0_5]
  unfold outsAt0
  dsimp only
  frame_out
  open_payloads
  pointwise
  rw [contrib0 m c t y _ h0 h1 h2, row0 m c t y _ h0 h1 h2, row1 m c t y _ h0 h1 h2, row2 m c t y _ h0 h1 h2]
  rfl

theorem final2 : (dats m 0 c).arrAt 6 cfg0.N = newM (a0 m c) (a2 m c) := by
  refine (dats m 0 c).arrAt_eq_of_covers 6 _ cov6 fun t hf y => ?_
  have e : win0_6.index t = ![0, t.val, 0] := by simp only [idx t]
  have h0 : ((((cfg0.win 6).blk t).view.emb y : S1x2048x768.Idx) 0).val = 0 := by
    have hy : (y 0).val < 1 := (y 0).isLt
    blk_simp [e] <;> omega
  have h1 : ((((cfg0.win 6).blk t).view.emb y : S1x2048x768.Idx) 1).val = t.val * 256 + (y 1).val := by blk_simp [e]
  have h2 : ((((cfg0.win 6).blk t).view.emb y : S1x2048x768.Idx) 2).val = (y 2).val := by blk_simp [e]
  blk_simp
  rw [after0_6]
  unfold outsAt0
  dsimp only
  frame_out
  open_payloads
  pointwise
  rw [contrib0 m c t y _ h0 h1 h2, row1 m c t y _ h0 h1 h2]
  rfl

theorem final3 : (dats m 0 c).arrAt 7 cfg0.N = newV (a0 m c) (a3 m c) := by
  refine (dats m 0 c).arrAt_eq_of_covers 7 _ cov7 fun t hf y => ?_
  have e : win0_7.index t = ![0, t.val, 0] := by simp only [idx t]
  have h0 : ((((cfg0.win 7).blk t).view.emb y : S1x2048x768.Idx) 0).val = 0 := by
    have hy : (y 0).val < 1 := (y 0).isLt
    blk_simp [e] <;> omega
  have h1 : ((((cfg0.win 7).blk t).view.emb y : S1x2048x768.Idx) 1).val = t.val * 256 + (y 1).val := by blk_simp [e]
  have h2 : ((((cfg0.win 7).blk t).view.emb y : S1x2048x768.Idx) 2).val = (y 2).val := by blk_simp [e]
  blk_simp
  rw [after0_7]
  unfold outsAt0
  dsimp only
  frame_out
  open_payloads
  pointwise
  rw [contrib0 m c t y _ h0 h1 h2, row2 m c t y _ h0 h1 h2]
  rfl

theorem read0 (l0 : S8x768x2048.Idx → EReal) (i : S1x2048x768.Idx) : Cert.AdamwQkvReferenceIdeal.Read.val_main_v3 (F := Ideal) l0 i = grad l0 i := by
  refine (Cert.AdamwQkvReferenceIdeal.Read.val_main_v3_apply (F := Ideal) l0 _).trans ((Cert.AdamwQkvReferenceIdeal.Read.val_main_v2_apply (F := Ideal) l0 _).trans ((Cert.AdamwQkvReferenceIdeal.Read.val_main_v1_apply l0 _).trans ?_))
  refine (congrArg (· + _) Ideal.ofBits_zero_f32).trans ((zero_add _).trans (Finset.sum_congr rfl fun d _ => congrArg l0 ?_))
  blk_ext

open Cert.AdamwQkvReferenceIdeal.Read in
theorem read2 (l0 : S8x768x2048.Idx → EReal) (a : S1x2048x768.Idx → EReal) (i : S1x2048x768.Idx) :
    Cert.AdamwQkvReferenceIdeal.Read.val_main_v8 (F := Ideal) l0 a i = newM l0 a i := by
  simp only [val_main_cst_apply, val_main_cst_0_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_v14_apply, val_main_cst_4_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, read0]
  rfl

open Cert.AdamwQkvReferenceIdeal.Read in
theorem read3 (l0 : S8x768x2048.Idx → EReal) (b : S1x2048x768.Idx → EReal) (i : S1x2048x768.Idx) :
    Cert.AdamwQkvReferenceIdeal.Read.val_main_v14 (F := Ideal) l0 b i = newV l0 b i := by
  simp only [val_main_cst_apply, val_main_cst_0_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_v14_apply, val_main_cst_4_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, read0]
  rfl

open Cert.AdamwQkvReferenceIdeal.Read in
theorem read1 (l0 : S8x768x2048.Idx → EReal) (w a b : S1x2048x768.Idx → EReal) (i : S1x2048x768.Idx) :
    Cert.AdamwQkvReferenceIdeal.Read.val_main_v27 (F := Ideal) l0 w a b i = delta l0 w a b i := by
  simp only [val_main_cst_apply, val_main_cst_0_apply, val_main_v4_apply, val_main_v5_apply, val_main_cst_1_apply, val_main_v6_apply, val_main_v7_apply, val_main_cst_2_apply, val_main_v9_apply, val_main_v10_apply, val_main_v11_apply, val_main_cst_3_apply, val_main_v12_apply, val_main_v13_apply, val_main_cst_4_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, read2, read3]
  rfl

end Cert.AdamwQkvIdeal.Whole

end
-- ==== Proof.AdamwIn.lean ====
/- The optimiser's step for the mixers' input weight: what the call writes and what the reference
   computes, index by index. -/
module

public import proofs.«01_k».proof.Proof.Gen.AdamwInIdeal.Value
public import proofs.«01_k».proof.Proof.Gen.AdamwInReferenceIdeal.Run
public import proofs.«01_k».proof.Proof.Gen.AdamwInReferenceIdeal.Read
public import proofs.«01_k».proof.Proof.Mat
public import proofs.«01_k».proof.Proof.Adamw

@[expose] public section

set_option maxRecDepth 16384

noncomputable section

namespace Cert.AdamwInIdeal.Whole

open Idealize.ShloMosaic Idealize.ShloMosaic.TcCoe Idealize.ShloMosaic.Tactic Idealize.SL.Sem
open Cert.AdamwInIdeal Cert.AdamwInIdeal.Gen
open Cert.Mat Cert.Adamw

/-- The gradient: the sum of the devices' contributions. -/
def grad (l0 : S8x640x2048.Idx → EReal) (i : S1x2048x640.Idx) : EReal :=
  ∑ d : Fin 8, l0 (ix3 d (i 2) (i 1))
def newM (l0 : S8x640x2048.Idx → EReal) (a : S1x2048x640.Idx → EReal) (i : S1x2048x640.Idx) : EReal := mom (a i) (grad l0 i)
def newV (l0 : S8x640x2048.Idx → EReal) (b : S1x2048x640.Idx → EReal) (i : S1x2048x640.Idx) : EReal := vel (b i) (grad l0 i)
def delta (l0 : S8x640x2048.Idx → EReal) (w a b : S1x2048x640.Idx → EReal) (i : S1x2048x640.Idx) : EReal :=
  step (w i) (newM l0 a i) (newV l0 b i)

variable (m : (ℓ : Loc nD τ sig) → Buf (Elt Ideal) ℓ) (c : Dev nD)

abbrev a0 : S8x640x2048.Idx → EReal := m ((c.tc : Thread nD τ).loc main_arg0)
abbrev a1 : S1x2048x640.Idx → EReal := m ((c.tc : Thread nD τ).loc main_arg1)
abbrev a2 : S1x2048x640.Idx → EReal := m ((c.tc : Thread nD τ).loc main_arg2)
abbrev a3 : S1x2048x640.Idx → EReal := m ((c.tc : Thread nD τ).loc main_arg3)
abbrev slot0 (t : Fin cfg0.N) : S8x640x256.Idx → EReal := iblk m c 0 t

theorem cov4 : (cfg0.win 4).Covers := by decide +kernel
theorem cov5 : (cfg0.win 5).Covers := by decide +kernel
theorem cov6 : (cfg0.win 6).Covers := by decide +kernel
theorem cov7 : (cfg0.win 7).Covers := by decide +kernel
theorem idxL : ∀ t : Fin cfg0.N, win0_0.index t = ![0, 0, t.val] := by decide +kernel
theorem idx : ∀ t : Fin cfg0.N, win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The contributions a block holds, added up. -/
theorem contrib0 (t : Fin cfg0.N) (y : S1x256x640.Idx) (i : S1x2048x640.Idx)
    (h0 : (i 0).val = 0) (h1 : (i 1).val = t.val * 256 + (y 1).val) (h2 : (i 2).val = (y 2).val) :
    slot0 m c t (ix3 0 (y 2) (y 1)) + slot0 m c t (ix3 1 (y 2) (y 1)) + slot0 m c t (ix3 2 (y 2) (y 1)) + slot0 m c t (ix3 3 (y 2) (y 1))
      + slot0 m c t (ix3 4 (y 2) (y 1)) + slot0 m c t (ix3 5 (y 2) (y 1)) + slot0 m c t (ix3 6 (y 2) (y 1)) + slot0 m c t (ix3 7 (y 2) (y 1))
      = grad (a0 m c) i := by
  have e := idxL t
  refine sum_eight (fun d => slot0 m c t (ix3 d (y 2) (y 1))) _ fun d => ?_
  blk_ext [slot0, iblk, V, e]

theorem row0 (t : Fin cfg0.N) (y : S1x256x640.Idx) (i : S1x2048x640.Idx)
    (h0 : (i 0).val = 0) (h1 : (i 1).val = t.val * 256 + (y 1).val) (h2 : (i 2).val = (y 2).val) :
    iblk m c 1 t y = a1 m c i := by
  have e : win0_1.index t = ![0, t.val, 0] := by simp only [idx t]
  blk_ext [iblk, V, e]

theorem row1 (t : Fin cfg0.N) (y : S1x256x640.Idx) (i : S1x2048x640.Idx)
    (h0 : (i 0).val = 0) (h1 : (i 1).val = t.val * 256 + (y 1).val) (h2 : (i 2).val = (y 2).val) :
    iblk m c 2 t y = a2 m c i := by
  have e : win0_2.index t = ![0, t.val, 0] := by simp only [idx t]
  blk_ext [iblk, V, e]

theorem row2 (t : Fin cfg0.N) (y : S1x256x640.Idx) (i : S1x2048x640.Idx)
    (h0 : (i 0).val = 0) (h1 : (i 1).val = t.val * 256 + (y 1).val) (h2 : (i 2).val = (y 2).val) :
    iblk m c 3 t y = a3 m c i := by
  have e : win0_3.index t = ![0, t.val, 0] := by simp only [idx t]
  blk_ext [iblk, V, e]

theorem final0 : (dats m 0 c).arrAt 4 cfg0.N = grad (a0 m c) := by
  refine (dats m 0 c).arrAt_eq_of_covers 4 _ cov4 fun t hf y => ?_
  have e : win0_4.index t = ![0, t.val, 0] := by simp only [idx t]
  have h0 : ((((cfg0.win 4).blk t).view.emb y : S1x2048x640.Idx) 0).val = 0 := by
    have hy : (y 0).val < 1 := (y 0).isLt
    blk_simp [e] <;> omega
  have h1 : ((((cfg0.win 4).blk t).view.emb y : S1x2048x640.Idx) 1).val = t.val * 256 + (y 1).val := by blk_simp [e]
  have h2 : ((((cfg0.win 4).blk t).view.emb y : S1x2048x640.Idx) 2).val = (y 2).val := by blk_simp [e]
  blk_simp
  rw [after0_4]
  unfold outsAt0
  dsimp only
  frame_out
  open_payloads
  pointwise
  exact contrib0 m c t y _ h0 h1 h2

theorem final1 : (dats m 0 c).arrAt 5 cfg0.N = delta (a0 m c) (a1 m c) (a2 m c) (a3 m c) := by
  refine (dats m 0 c).arrAt_eq_of_covers 5 _ cov5 fun t hf y => ?_
  have e : win0_5.index t = ![0, t.val, 0] := by simp only [idx t]
  have h0 : ((((cfg0.win 5).blk t).view.emb y : S1x2048x640.Idx) 0).val = 0 := by
    have hy : (y 0).val < 1 := (y 0).isLt
    blk_simp [e] <;> omega
  have h1 : ((((cfg0.win 5).blk t).view.emb y : S1x2048x640.Idx) 1).val = t.val * 256 + (y 1).val := by blk_simp [e]
  have h2 : ((((cfg0.win 5).blk t).view.emb y : S1x2048x640.Idx) 2).val = (y 2).val := by blk_simp [e]
  blk_simp
  rw [after0_5]
  unfold outsAt0
  dsimp only
  frame_out
  open_payloads
  pointwise
  rw [contrib0 m c t y _ h0 h1 h2, row0 m c t y _ h0 h1 h2, row1 m c t y _ h0 h1 h2, row2 m c t y _ h0 h1 h2]
  rfl

theorem final2 : (dats m 0 c).arrAt 6 cfg0.N = newM (a0 m c) (a2 m c) := by
  refine (dats m 0 c).arrAt_eq_of_covers 6 _ cov6 fun t hf y => ?_
  have e : win0_6.index t = ![0, t.val, 0] := by simp only [idx t]
  have h0 : ((((cfg0.win 6).blk t).view.emb y : S1x2048x640.Idx) 0).val = 0 := by
    have hy : (y 0).val < 1 := (y 0).isLt
    blk_simp [e] <;> omega
  have h1 : ((((cfg0.win 6).blk t).view.emb y : S1x2048x640.Idx) 1).val = t.val * 256 + (y 1).val := by blk_simp [e]
  have h2 : ((((cfg0.win 6).blk t).view.emb y : S1x2048x640.Idx) 2).val = (y 2).val := by blk_simp [e]
  blk_simp
  rw [after0_6]
  unfold outsAt0
  dsimp only
  frame_out
  open_payloads
  pointwise
  rw [contrib0 m c t y _ h0 h1 h2, row1 m c t y _ h0 h1 h2]
  rfl

theorem final3 : (dats m 0 c).arrAt 7 cfg0.N = newV (a0 m c) (a3 m c) := by
  refine (dats m 0 c).arrAt_eq_of_covers 7 _ cov7 fun t hf y => ?_
  have e : win0_7.index t = ![0, t.val, 0] := by simp only [idx t]
  have h0 : ((((cfg0.win 7).blk t).view.emb y : S1x2048x640.Idx) 0).val = 0 := by
    have hy : (y 0).val < 1 := (y 0).isLt
    blk_simp [e] <;> omega
  have h1 : ((((cfg0.win 7).blk t).view.emb y : S1x2048x640.Idx) 1).val = t.val * 256 + (y 1).val := by blk_simp [e]
  have h2 : ((((cfg0.win 7).blk t).view.emb y : S1x2048x640.Idx) 2).val = (y 2).val := by blk_simp [e]
  blk_simp
  rw [after0_7]
  unfold outsAt0
  dsimp only
  frame_out
  open_payloads
  pointwise
  rw [contrib0 m c t y _ h0 h1 h2, row2 m c t y _ h0 h1 h2]
  rfl

theorem read0 (l0 : S8x640x2048.Idx → EReal) (i : S1x2048x640.Idx) : Cert.AdamwInReferenceIdeal.Read.val_main_v3 (F := Ideal) l0 i = grad l0 i := by
  refine (Cert.AdamwInReferenceIdeal.Read.val_main_v3_apply (F := Ideal) l0 _).trans ((Cert.AdamwInReferenceIdeal.Read.val_main_v2_apply (F := Ideal) l0 _).trans ((Cert.AdamwInReferenceIdeal.Read.val_main_v1_apply l0 _).trans ?_))
  refine (congrArg (· + _) Ideal.ofBits_zero_f32).trans ((zero_add _).trans (Finset.sum_congr rfl fun d _ => congrArg l0 ?_))
  blk_ext

open Cert.AdamwInReferenceIdeal.Read in
theorem read2 (l0 : S8x640x2048.Idx → EReal) (a : S1x2048x640.Idx → EReal) (i : S1x2048x640.Idx) :
    Cert.AdamwInReferenceIdeal.Read.val_main_v8 (F := Ideal) l0 a i = newM l0 a i := by
  simp only [val_main_cst_apply, val_main_cst_0_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_v14_apply, val_main_cst_4_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, read0]
  rfl

open Cert.AdamwInReferenceIdeal.Read in
theorem read3 (l0 : S8x640x2048.Idx → EReal) (b : S1x2048x640.Idx → EReal) (i : S1x2048x640.Idx) :
    Cert.AdamwInReferenceIdeal.Read.val_main_v14 (F := Ideal) l0 b i = newV l0 b i := by
  simp only [val_main_cst_apply, val_main_cst_0_apply, val_main_v4_apply, val_main_v5_apply, val_main_cst_1_apply, val_main_v6_apply, val_main_v7_apply, val_main_v8_apply, val_main_cst_2_apply, val_main_v9_apply, val_main_v10_apply, val_main_v11_apply, val_main_cst_3_apply, val_main_v12_apply, val_main_v13_apply, val_main_v14_apply, val_main_cst_4_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, read0]
  rfl

open Cert.AdamwInReferenceIdeal.Read in
theorem read1 (l0 : S8x640x2048.Idx → EReal) (w a b : S1x2048x640.Idx → EReal) (i : S1x2048x640.Idx) :
    Cert.AdamwInReferenceIdeal.Read.val_main_v27 (F := Ideal) l0 w a b i = delta l0 w a b i := by
  simp only [val_main_cst_apply, val_main_cst_0_apply, val_main_v4_apply, val_main_v5_apply, val_main_cst_1_apply, val_main_v6_apply, val_main_v7_apply, val_main_cst_2_apply, val_main_v9_apply, val_main_v10_apply, val_main_v11_apply, val_main_cst_3_apply, val_main_v12_apply, val_main_v13_apply, val_main_cst_4_apply, val_main_v15_apply, val_main_v16_apply, val_main_cst_5_apply, val_main_v17_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, read2, read3]
  rfl

end Cert.AdamwInIdeal.Whole

end
-- ==== Proof.AdamwOut.lean ====
/- The optimiser's step for an output weight, of the mixers or of attention: what the call writes and what the reference
   computes, index by index. -/
module

public import proofs.«01_k».proof.Proof.Gen.AdamwOutIdeal.Value
public import proofs.«01_k».proof.Proof.Gen.AdamwOutReferenceIdeal.Run
public import proofs.«01_k».proof.Proof.Gen.AdamwOutReferenceIdeal.Read
public import proofs.«01_k».proof.Proof.Mat
public import proofs.«01_k».proof.Proof.Adamw

@[expose] public section

set_option maxRecDepth 16384

noncomputable section

namespace Cert.AdamwOutIdeal.Whole

open Idealize.ShloMosaic Idealize.ShloMosaic.TcCoe Idealize.ShloMosaic.Tactic Idealize.SL.Sem
open Cert.AdamwOutIdeal Cert.AdamwOutIdeal.Gen
open Cert.Mat Cert.Adamw

/-- The gradient: the sum of the devices' contributions. -/
def grad (l0 : S8x256x2048.Idx → EReal) (i : S1x256x2048.Idx) : EReal :=
  ∑ d : Fin 8, l0 (ix3 d (i 1) (i 2))
def newM (l0 : S8x256x2048.Idx → EReal) (a : S1x256x2048.Idx → EReal) (i : S1x256x2048.Idx) : EReal := mom (a i) (grad l0 i)
def newV (l0 : S8x256x2048.Idx → EReal) (b : S1x256x2048.Idx → EReal) (i : S1x256x2048.Idx) : EReal := vel (b i) (grad l0 i)
def delta (l0 : S8x256x2048.Idx → EReal) (w a b : S1x256x2048.Idx → EReal) (i : S1x256x2048.Idx) : EReal :=
  step (w i) (newM l0 a i) (newV l0 b i)

variable (m : (ℓ : Loc nD τ sig) → Buf (Elt Ideal) ℓ) (c : Dev nD)

abbrev a0 : S8x256x2048.Idx → EReal := m ((c.tc : Thread nD τ).loc main_arg0)
abbrev a1 : S1x256x2048.Idx → EReal := m ((c.tc : Thread nD τ).loc main_arg1)
abbrev a2 : S1x256x2048.Idx → EReal := m ((c.tc : Thread nD τ).loc main_arg2)
abbrev a3 : S1x256x2048.Idx → EReal := m ((c.tc : Thread nD τ).loc main_arg3)
abbrev slot0 (t : Fin cfg0.N) : S8x128x2048.Idx → EReal := iblk m c 0 t

theorem cov4 : (cfg0.win 4).Covers := by decide +kernel
theorem cov5 : (cfg0.win 5).Covers := by decide +kernel
theorem cov6 : (cfg0.win 6).Covers := by decide +kernel
theorem cov7 : (cfg0.win 7).Covers := by decide +kernel
theorem idxL : ∀ t : Fin cfg0.N, win0_0.index t = ![0, t.val, 0] := by decide +kernel
theorem idx : ∀ t : Fin cfg0.N, win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] := by
  decide +kernel

/-- The contributions a block holds, added up. -/
theorem contrib0 (t : Fin cfg0.N) (y : S1x128x2048.Idx) (i : S1x256x2048.Idx)
    (h0 : (i 0).val = 0) (h1 : (i 1).val = t.val * 128 + (y 1).val) (h2 : (i 2).val = (y 2).val) :
    slot0 m c t (ix3 0 (y 1) (y 2)) + slot0 m c t (ix3 1 (y 1) (y 2)) + slot0 m c t (ix3 2 (y 1) (y 2)) + slot0 m c t (ix3 3 (y 1) (y 2))
      + slot0 m c t (ix3 4 (y 1) (y 2)) + slot0 m c t (ix3 5 (y 1) (y 2)) + slot0 m c t (ix3 6 (y 1) (y 2)) + slot0 m c t (ix3 7 (y 1) (y 2))
      = grad (a0 m c) i := by
  have e := idxL t
  refine sum_eight (fun d => slot0 m c t (ix3 d (y 1) (y 2))) _ fun d => ?_
  blk_ext [slot0, iblk, V, e]

theorem row0 (t : Fin cfg0.N) (y : S1x128x2048.Idx) (i : S1x256x2048.Idx)
    (h0 : (i 0).val = 0) (h1 : (i 1).val = t.val * 128 + (y 1).val) (h2 : (i 2).val = (y 2).val) :
    iblk m c 1 t y = a1 m c i := by
  have e : win0_1.index t = ![0, t.val, 0] := by simp only [idx t]
  blk_ext [iblk, V, e]

theorem row1 (t : Fin cfg0.N) (y : S1x128x2048.Idx) (i : S1x256x2048.Idx)
    (h0 : (i 0).val = 0) (h1 : (i 1).val = t.val * 128 + (y 1).val) (h2 : (i 2).val = (y 2).val) :
    iblk m c 2 t y = a2 m c i := by
  have e : win0_2.index t = ![0, t.val, 0] := by simp only [idx t]
  blk_ext [iblk, V, e]

theorem row2 (t : Fin cfg0.N) (y : S1x128x2048.Idx) (i : S1x256x2048.Idx)
    (h0 : (i 0).val = 0) (h1 : (i 1).val = t.val * 128 + (y 1).val) (h2 : (i 2).val = (y 2).val) :
    iblk m c 3 t y = a3 m c i := by
  have e : win0_3.index t = ![0, t.val, 0] := by simp only [idx t]
  blk_ext [iblk, V, e]

theorem final0 : (dats m 0 c).arrAt 4 cfg0.N = grad (a0 m c) := by
  refine (dats m 0 c).arrAt_eq_of_covers 4 _ cov4 fun t hf y => ?_
  have e : win0_4.index t = ![0, t.val, 0] := by simp only [idx t]
  have h0 : ((((cfg0.win 4).blk t).view.emb y : S1x256x2048.Idx) 0).val = 0 := by
    have hy : (y 0).val < 1 := (y 0).isLt
    blk_simp [e] <;> omega
  have h1 : ((((cfg0.win 4).blk t).view.emb y : S1x256x2048.Idx) 1).val = t.val * 128 + (y 1).val := by blk_simp [e]
  have h2 : ((((cfg0.win 4).blk t).view.emb y : S1x256x2048.Idx) 2).val = (y 2).val := by blk_simp [e]
  blk_simp
  rw [after0_4]
  unfold outsAt0
  dsimp only
  frame_out
  open_payloads
  pointwise
  exact contrib0 m c t y _ h0 h1 h2

theorem final1 : (dats m 0 c).arrAt 5 cfg0.N = delta (a0 m c) (a1 m c) (a2 m c) (a3 m c) := by
  refine (dats m 0 c).arrAt_eq_of_covers 5 _ cov5 fun t hf y => ?_
  have e : win0_5.index t = ![0, t.val, 0] := by simp only [idx t]
  have h0 : ((((cfg0.win 5).blk t).view.emb y : S1x256x2048.Idx) 0).val = 0 := by
    have hy : (y 0).val < 1 := (y 0).isLt
    blk_simp [e] <;> omega
  have h1 : ((((cfg0.win 5).blk t).view.emb y : S1x256x2048.Idx) 1).val = t.val * 128 + (y 1).val := by blk_simp [e]
  have h2 : ((((cfg0.win 5).blk t).view.emb y : S1x256x2048.Idx) 2).val = (y 2).val := by blk_simp [e]
  blk_simp
  rw [after0_5]
  unfold outsAt0
  dsimp only
  frame_out
  open_payloads
  pointwise
  rw [contrib0 m c t y _ h0 h1 h2, row0 m c t y _ h0 h1 h2, row1 m c t y _ h0 h1 h2, row2 m c t y _ h0 h1 h2]
  rfl

theorem final2 : (dats m 0 c).arrAt 6 cfg0.N = newM (a0 m c) (a2 m c) := by
  refine (dats m 0 c).arrAt_eq_of_covers 6 _ cov6 fun t hf y => ?_
  have e : win0_6.index t = ![0, t.val, 0] := by simp only [idx t]
  have h0 : ((((cfg0.win 6).blk t).view.emb y : S1x256x2048.Idx) 0).val = 0 := by
    have hy : (y 0).val < 1 := (y 0).isLt
    blk_simp [e] <;> omega
  have h1 : ((((cfg0.win 6).blk t).view.emb y : S1x256x2048.Idx) 1).val = t.val * 128 + (y 1).val := by blk_simp [e]
  have h2 : ((((cfg0.win 6).blk t).view.emb y : S1x256x2048.Idx) 2).val = (y 2).val := by blk_simp [e]
  blk_simp
  rw [after0_6]
  unfold outsAt0
  dsimp only
  frame_out
  open_payloads
  pointwise
  rw [contrib0 m c t y _ h0 h1 h2, row1 m c t y _ h0 h1 h2]
  rfl

theorem final3 : (dats m 0 c).arrAt 7 cfg0.N = newV (a0 m c) (a3 m c) := by
  refine (dats m 0 c).arrAt_eq_of_covers 7 _ cov7 fun t hf y => ?_
  have e : win0_7.index t = ![0, t.val, 0] := by simp only [idx t]
  have h0 : ((((cfg0.win 7).blk t).view.emb y : S1x256x2048.Idx) 0).val = 0 := by
    have hy : (y 0).val < 1 := (y 0).isLt
    blk_simp [e] <;> omega
  have h1 : ((((cfg0.win 7).blk t).view.emb y : S1x256x2048.Idx) 1).val = t.val * 128 + (y 1).val := by blk_simp [e]
  have h2 : ((((cfg0.win 7).blk t).view.emb y : S1x256x2048.Idx) 2).val = (y 2).val := by blk_simp [e]
  blk_simp
  rw [after0_7]
  unfold outsAt0
  dsimp only
  frame_out
  open_payloads
  pointwise
  rw [contrib0 m c t y _ h0 h1 h2, row2 m c t y _ h0 h1 h2]
  rfl

theorem read0 (l0 : S8x256x2048.Idx → EReal) (i : S1x256x2048.Idx) : Cert.AdamwOutReferenceIdeal.Read.val_main_v2 (F := Ideal) l0 i = grad l0 i := by
  refine (Cert.AdamwOutReferenceIdeal.Read.val_main_v2_apply (F := Ideal) l0 _).trans ((Cert.AdamwOutReferenceIdeal.Read.val_main_v1_apply l0 _).trans ?_)
  refine (congrArg (· + _) Ideal.ofBits_zero_f32).trans ((zero_add _).trans (Finset.sum_congr rfl fun d _ => congrArg l0 ?_))
  blk_ext

open Cert.AdamwOutReferenceIdeal.Read in
theorem read2 (l0 : S8x256x2048.Idx → EReal) (a : S1x256x2048.Idx → EReal) (i : S1x256x2048.Idx) :
    Cert.AdamwOutReferenceIdeal.Read.val_main_v7 (F := Ideal) l0 a i = newM l0 a i := by
  simp only [val_main_cst_apply, val_main_cst_0_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_v13_apply, val_main_cst_4_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply, val_main_v24_apply, val_main_cst_8_apply, val_main_v25_apply, val_main_v26_apply, read0]
  rfl

open Cert.AdamwOutReferenceIdeal.Read in
theorem read3 (l0 : S8x256x2048.Idx → EReal) (b : S1x256x2048.Idx → EReal) (i : S1x256x2048.Idx) :
    Cert.AdamwOutReferenceIdeal.Read.val_main_v13 (F := Ideal) l0 b i = newV l0 b i := by
  simp only [val_main_cst_apply, val_main_cst_0_apply, val_main_v3_apply, val_main_v4_apply, val_main_cst_1_apply, val_main_v5_apply, val_main_v6_apply, val_main_v7_apply, val_main_cst_2_apply, val_main_v8_apply, val_main_v9_apply, val_main_v10_apply, val_main_cst_3_apply, val_main_v11_apply, val_main_v12_apply, val_main_v13_apply, val_main_cst_4_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply, val_main_v24_apply, val_main_cst_8_apply, val_main_v25_apply, val_main_v26_apply, read0]
  rfl

open Cert.AdamwOutReferenceIdeal.Read in
theorem read1 (l0 : S8x256x2048.Idx → EReal) (w a b : S1x256x2048.Idx → EReal) (i : S1x256x2048.Idx) :
    Cert.AdamwOutReferenceIdeal.Read.val_main_v26 (F := Ideal) l0 w a b i = delta l0 w a b i := by
  simp only [val_main_cst_apply, val_main_cst_0_apply, val_main_v3_apply, val_main_v4_apply, val_main_cst_1_apply, val_main_v5_apply, val_main_v6_apply, val_main_cst_2_apply, val_main_v8_apply, val_main_v9_apply, val_main_v10_apply, val_main_cst_3_apply, val_main_v11_apply, val_main_v12_apply, val_main_cst_4_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply, val_main_v24_apply, val_main_cst_8_apply, val_main_v25_apply, val_main_v26_apply, read2, read3]
  rfl

end Cert.AdamwOutIdeal.Whole

end
-- ==== Proof.Pack.lean ====
/- The packing of the small parameters' arrays into rows of 128 lanes, and the cutting apart again: the two are inverse, array
   by array, whatever fills the padding. -/
module

public import proofs.«01_k».proof.Proof.Gen.AdamwSmallIdeal
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.AdamwSmallIdeal.Pack

open Idealize.ShloMosaic
open Cert.AdamwSmallIdeal Facts₀ Facts

/-- What fills the padding. -/
abbrev fill : S_.Idx → EReal := (sitofp .f32 (constantI S_ 32 0#32) : FVec Ideal S_ .f32)

/-- An array of shape `S2x4x256` as 16 rows. -/
def rows_S2x4x256 (x : S2x4x256.Idx → EReal) : S16x128.Idx → EReal :=
  shapeCast S16x128 (pad S2048 ![0] ![0] ![0] (shapeCast S2048 x shapeCasts_S2x4x256_S2048) fill pads_S2048_S2048_000 h_S_) shapeCasts_S2048_S16x128

/-- An array of shape `S2x4x256` back from its 16 rows. -/
def back_S2x4x256 (y : S16x128.Idx → EReal) : S2x4x256.Idx → EReal :=
  shapeCast S2x4x256 (shapeCast S2048 y shapeCasts_S16x128_S2048) shapeCasts_S2048_S2x4x256

theorem back_rows_S2x4x256 (x : S2x4x256.Idx → EReal) : back_S2x4x256 (rows_S2x4x256 x) = x := by
  unfold back_S2x4x256 rows_S2x4x256
  rw [shapeCast_shapeCast]
  have h : pad S2048 ![0] ![0] ![0] (shapeCast S2048 x shapeCasts_S2x4x256_S2048) fill pads_S2048_S2048_000 h_S_ = shapeCast S2048 x shapeCasts_S2x4x256_S2048 :=
    funext fun j => pad_apply_of_inside _ _ _ _ _ _ _ j j fun a => by fin_cases a; simp
  rw [h, shapeCast_shapeCast]

/-- An array of shape `S1x3x128` as 8 rows. -/
def rows_S1x3x128 (x : S1x3x128.Idx → EReal) : S8x128.Idx → EReal :=
  shapeCast S8x128 (pad S1024 ![0] ![640] ![0] (shapeCast S384 x shapeCasts_S1x3x128_S384) fill pads_S384_S1024_06400 h_S_) shapeCasts_S1024_S8x128

/-- An array of shape `S1x3x128` back from its 8 rows. -/
def back_S1x3x128 (y : S8x128.Idx → EReal) : S1x3x128.Idx → EReal :=
  shapeCast S1x3x128 (extractStridedSlice S384 ![0] (shapeCast S1024 y shapeCasts_S8x128_S1024) slices_S1024_S384_0) shapeCasts_S384_S1x3x128

theorem back_rows_S1x3x128 (x : S1x3x128.Idx → EReal) : back_S1x3x128 (rows_S1x3x128 x) = x := by
  unfold back_S1x3x128 rows_S1x3x128
  rw [shapeCast_shapeCast]
  have h : extractStridedSlice S384 ![0] (pad S1024 ![0] ![640] ![0] (shapeCast S384 x shapeCasts_S1x3x128_S384) fill pads_S384_S1024_06400 h_S_) slices_S1024_S384_0
      = shapeCast S384 x shapeCasts_S1x3x128_S384 :=
    funext fun j => pad_apply_of_inside _ _ _ _ _ _ _ _ j fun a => by fin_cases a; simp
  rw [h, shapeCast_shapeCast]

/-- An array of shape `S1x4x128` as 8 rows. -/
def rows_S1x4x128 (x : S1x4x128.Idx → EReal) : S8x128.Idx → EReal :=
  shapeCast S8x128 (pad S1024 ![0] ![512] ![0] (shapeCast S512 x shapeCasts_S1x4x128_S512) fill pads_S512_S1024_05120 h_S_) shapeCasts_S1024_S8x128

/-- An array of shape `S1x4x128` back from its 8 rows. -/
def back_S1x4x128 (y : S8x128.Idx → EReal) : S1x4x128.Idx → EReal :=
  shapeCast S1x4x128 (extractStridedSlice S512 ![0] (shapeCast S1024 y shapeCasts_S8x128_S1024) slices_S1024_S512_0) shapeCasts_S512_S1x4x128

theorem back_rows_S1x4x128 (x : S1x4x128.Idx → EReal) : back_S1x4x128 (rows_S1x4x128 x) = x := by
  unfold back_S1x4x128 rows_S1x4x128
  rw [shapeCast_shapeCast]
  have h : extractStridedSlice S512 ![0] (pad S1024 ![0] ![512] ![0] (shapeCast S512 x shapeCasts_S1x4x128_S512) fill pads_S512_S1024_05120 h_S_) slices_S1024_S512_0
      = shapeCast S512 x shapeCasts_S1x4x128_S512 :=
    funext fun j => pad_apply_of_inside _ _ _ _ _ _ _ _ j fun a => by fin_cases a; simp
  rw [h, shapeCast_shapeCast]

/-- An array of shape `S1x1024` as 8 rows. -/
def rows_S1x1024 (x : S1x1024.Idx → EReal) : S8x128.Idx → EReal :=
  shapeCast S8x128 (pad S1024 ![0] ![0] ![0] (shapeCast S1024 x shapeCasts_S1x1024_S1024) fill pads_S1024_S1024_000 h_S_) shapeCasts_S1024_S8x128

/-- An array of shape `S1x1024` back from its 8 rows. -/
def back_S1x1024 (y : S8x128.Idx → EReal) : S1x1024.Idx → EReal :=
  shapeCast S1x1024 (shapeCast S1024 y shapeCasts_S8x128_S1024) shapeCasts_S1024_S1x1024

theorem back_rows_S1x1024 (x : S1x1024.Idx → EReal) : back_S1x1024 (rows_S1x1024 x) = x := by
  unfold back_S1x1024 rows_S1x1024
  rw [shapeCast_shapeCast]
  have h : pad S1024 ![0] ![0] ![0] (shapeCast S1024 x shapeCasts_S1x1024_S1024) fill pads_S1024_S1024_000 h_S_ = shapeCast S1024 x shapeCasts_S1x1024_S1024 :=
    funext fun j => pad_apply_of_inside _ _ _ _ _ _ _ j j fun a => by fin_cases a; simp
  rw [h, shapeCast_shapeCast]

/-- An array of shape `S1x16x64x64` as 512 rows. -/
def rows_S1x16x64x64 (x : S1x16x64x64.Idx → EReal) : S512x128.Idx → EReal :=
  shapeCast S512x128 (pad S65536 ![0] ![0] ![0] (shapeCast S65536 x shapeCasts_S1x16x64x64_S65536) fill pads_S65536_S65536_000 h_S_) shapeCasts_S65536_S512x128

/-- An array of shape `S1x16x64x64` back from its 512 rows. -/
def back_S1x16x64x64 (y : S512x128.Idx → EReal) : S1x16x64x64.Idx → EReal :=
  shapeCast S1x16x64x64 (shapeCast S65536 y shapeCasts_S512x128_S65536) shapeCasts_S65536_S1x16x64x64

theorem back_rows_S1x16x64x64 (x : S1x16x64x64.Idx → EReal) : back_S1x16x64x64 (rows_S1x16x64x64 x) = x := by
  unfold back_S1x16x64x64 rows_S1x16x64x64
  rw [shapeCast_shapeCast]
  have h : pad S65536 ![0] ![0] ![0] (shapeCast S65536 x shapeCasts_S1x16x64x64_S65536) fill pads_S65536_S65536_000 h_S_ = shapeCast S65536 x shapeCasts_S1x16x64x64_S65536 :=
    funext fun j => pad_apply_of_inside _ _ _ _ _ _ _ j j fun a => by fin_cases a; simp
  rw [h, shapeCast_shapeCast]

/-- The nine arrays, each as rows. -/
abbrev parts (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : List ((s : Shape) × (s.Idx → EReal)) :=
  [⟨S16x128, rows_S2x4x256 x0⟩, ⟨S8x128, rows_S1x3x128 x1⟩, ⟨S8x128, rows_S1x4x128 x2⟩, ⟨S8x128, rows_S1x1024 x3⟩, ⟨S512x128, rows_S1x16x64x64 x4⟩, ⟨S8x128, rows_S1x1024 x5⟩, ⟨S512x128, rows_S1x16x64x64 x6⟩, ⟨S8x128, rows_S1x1024 x7⟩, ⟨S8x128, rows_S1x1024 x8⟩]

/-- The nine arrays one after another. -/
def pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : S1088x128.Idx → EReal :=
  concatenate S1088x128 0 (parts x0 x1 x2 x3 x4 x5 x6 x7 x8)
    concatenates_S16x128_S8x128_S8x128_S8x128_S512x128_S8x128_S512x128_S8x128_S8x128_S1088x128_d0

/-- Array 0 cut out of the packed rows. -/
def cut0 (X : S1088x128.Idx → EReal) : S2x4x256.Idx → EReal :=
  back_S2x4x256 (extractStridedSlice S16x128 ![0, 0] X slices_S1088x128_S16x128_0_0)

theorem cut0_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut0 (pack x0 x1 x2 x3 x4 x5 x6 x7 x8) = x0 := by
  refine (congrArg back_S2x4x256 (funext fun j => ?_)).trans (back_rows_S2x4x256 x0)
  unfold extractStridedSlice pack
  refine concatenate_apply_piece (t := S1088x128) (0 : Fin 2) (parts x0 x1 x2 x3 x4 x5 x6 x7 x8) _ _ 0 (show 0 < 9 by decide) S16x128 (rows_S2x4x256 x0) rfl rfl 0 rfl j (fun b hb => ?_) ?_
  · fin_cases b
    · exact absurd rfl hb
    · exact (Nat.zero_add _).symm
  · rfl

/-- Array 1 cut out of the packed rows. -/
def cut1 (X : S1088x128.Idx → EReal) : S1x3x128.Idx → EReal :=
  back_S1x3x128 (extractStridedSlice S8x128 ![16, 0] X slices_S1088x128_S8x128_16_0)

theorem cut1_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut1 (pack x0 x1 x2 x3 x4 x5 x6 x7 x8) = x1 := by
  refine (congrArg back_S1x3x128 (funext fun j => ?_)).trans (back_rows_S1x3x128 x1)
  unfold extractStridedSlice pack
  refine concatenate_apply_piece (t := S1088x128) (0 : Fin 2) (parts x0 x1 x2 x3 x4 x5 x6 x7 x8) _ _ 1 (show 1 < 9 by decide) S8x128 (rows_S1x3x128 x1) rfl rfl 16 rfl j (fun b hb => ?_) ?_
  · fin_cases b
    · exact absurd rfl hb
    · exact (Nat.zero_add _).symm
  · rfl

/-- Array 2 cut out of the packed rows. -/
def cut2 (X : S1088x128.Idx → EReal) : S1x4x128.Idx → EReal :=
  back_S1x4x128 (extractStridedSlice S8x128 ![24, 0] X slices_S1088x128_S8x128_24_0)

theorem cut2_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut2 (pack x0 x1 x2 x3 x4 x5 x6 x7 x8) = x2 := by
  refine (congrArg back_S1x4x128 (funext fun j => ?_)).trans (back_rows_S1x4x128 x2)
  unfold extractStridedSlice pack
  refine concatenate_apply_piece (t := S1088x128) (0 : Fin 2) (parts x0 x1 x2 x3 x4 x5 x6 x7 x8) _ _ 2 (show 2 < 9 by decide) S8x128 (rows_S1x4x128 x2) rfl rfl 24 rfl j (fun b hb => ?_) ?_
  · fin_cases b
    · exact absurd rfl hb
    · exact (Nat.zero_add _).symm
  · rfl

/-- Array 3 cut out of the packed rows. -/
def cut3 (X : S1088x128.Idx → EReal) : S1x1024.Idx → EReal :=
  back_S1x1024 (extractStridedSlice S8x128 ![32, 0] X slices_S1088x128_S8x128_32_0)

theorem cut3_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut3 (pack x0 x1 x2 x3 x4 x5 x6 x7 x8) = x3 := by
  refine (congrArg back_S1x1024 (funext fun j => ?_)).trans (back_rows_S1x1024 x3)
  unfold extractStridedSlice pack
  refine concatenate_apply_piece (t := S1088x128) (0 : Fin 2) (parts x0 x1 x2 x3 x4 x5 x6 x7 x8) _ _ 3 (show 3 < 9 by decide) S8x128 (rows_S1x1024 x3) rfl rfl 32 rfl j (fun b hb => ?_) ?_
  · fin_cases b
    · exact absurd rfl hb
    · exact (Nat.zero_add _).symm
  · rfl

/-- Array 4 cut out of the packed rows. -/
def cut4 (X : S1088x128.Idx → EReal) : S1x16x64x64.Idx → EReal :=
  back_S1x16x64x64 (extractStridedSlice S512x128 ![40, 0] X slices_S1088x128_S512x128_40_0)

theorem cut4_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut4 (pack x0 x1 x2 x3 x4 x5 x6 x7 x8) = x4 := by
  refine (congrArg back_S1x16x64x64 (funext fun j => ?_)).trans (back_rows_S1x16x64x64 x4)
  unfold extractStridedSlice pack
  refine concatenate_apply_piece (t := S1088x128) (0 : Fin 2) (parts x0 x1 x2 x3 x4 x5 x6 x7 x8) _ _ 4 (show 4 < 9 by decide) S512x128 (rows_S1x16x64x64 x4) rfl rfl 40 rfl j (fun b hb => ?_) ?_
  · fin_cases b
    · exact absurd rfl hb
    · exact (Nat.zero_add _).symm
  · rfl

/-- Array 5 cut out of the packed rows. -/
def cut5 (X : S1088x128.Idx → EReal) : S1x1024.Idx → EReal :=
  back_S1x1024 (extractStridedSlice S8x128 ![552, 0] X slices_S1088x128_S8x128_552_0)

theorem cut5_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut5 (pack x0 x1 x2 x3 x4 x5 x6 x7 x8) = x5 := by
  refine (congrArg back_S1x1024 (funext fun j => ?_)).trans (back_rows_S1x1024 x5)
  unfold extractStridedSlice pack
  refine concatenate_apply_piece (t := S1088x128) (0 : Fin 2) (parts x0 x1 x2 x3 x4 x5 x6 x7 x8) _ _ 5 (show 5 < 9 by decide) S8x128 (rows_S1x1024 x5) rfl rfl 552 rfl j (fun b hb => ?_) ?_
  · fin_cases b
    · exact absurd rfl hb
    · exact (Nat.zero_add _).symm
  · rfl

/-- Array 6 cut out of the packed rows. -/
def cut6 (X : S1088x128.Idx → EReal) : S1x16x64x64.Idx → EReal :=
  back_S1x16x64x64 (extractStridedSlice S512x128 ![560, 0] X slices_S1088x128_S512x128_560_0)

theorem cut6_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut6 (pack x0 x1 x2 x3 x4 x5 x6 x7 x8) = x6 := by
  refine (congrArg back_S1x16x64x64 (funext fun j => ?_)).trans (back_rows_S1x16x64x64 x6)
  unfold extractStridedSlice pack
  refine concatenate_apply_piece (t := S1088x128) (0 : Fin 2) (parts x0 x1 x2 x3 x4 x5 x6 x7 x8) _ _ 6 (show 6 < 9 by decide) S512x128 (rows_S1x16x64x64 x6) rfl rfl 560 rfl j (fun b hb => ?_) ?_
  · fin_cases b
    · exact absurd rfl hb
    · exact (Nat.zero_add _).symm
  · rfl

/-- Array 7 cut out of the packed rows. -/
def cut7 (X : S1088x128.Idx → EReal) : S1x1024.Idx → EReal :=
  back_S1x1024 (extractStridedSlice S8x128 ![1072, 0] X slices_S1088x128_S8x128_1072_0)

theorem cut7_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut7 (pack x0 x1 x2 x3 x4 x5 x6 x7 x8) = x7 := by
  refine (congrArg back_S1x1024 (funext fun j => ?_)).trans (back_rows_S1x1024 x7)
  unfold extractStridedSlice pack
  refine concatenate_apply_piece (t := S1088x128) (0 : Fin 2) (parts x0 x1 x2 x3 x4 x5 x6 x7 x8) _ _ 7 (show 7 < 9 by decide) S8x128 (rows_S1x1024 x7) rfl rfl 1072 rfl j (fun b hb => ?_) ?_
  · fin_cases b
    · exact absurd rfl hb
    · exact (Nat.zero_add _).symm
  · rfl

/-- Array 8 cut out of the packed rows. -/
def cut8 (X : S1088x128.Idx → EReal) : S1x1024.Idx → EReal :=
  back_S1x1024 (extractStridedSlice S8x128 ![1080, 0] X slices_S1088x128_S8x128_1080_0)

theorem cut8_pack (x0 : S2x4x256.Idx → EReal) (x1 : S1x3x128.Idx → EReal) (x2 : S1x4x128.Idx → EReal) (x3 : S1x1024.Idx → EReal) (x4 : S1x16x64x64.Idx → EReal) (x5 : S1x1024.Idx → EReal) (x6 : S1x16x64x64.Idx → EReal) (x7 : S1x1024.Idx → EReal) (x8 : S1x1024.Idx → EReal) : cut8 (pack x0 x1 x2 x3 x4 x5 x6 x7 x8) = x8 := by
  refine (congrArg back_S1x1024 (funext fun j => ?_)).trans (back_rows_S1x1024 x8)
  unfold extractStridedSlice pack
  refine concatenate_apply_piece (t := S1088x128) (0 : Fin 2) (parts x0 x1 x2 x3 x4 x5 x6 x7 x8) _ _ 8 (show 8 < 9 by decide) S8x128 (rows_S1x1024 x8) rfl rfl 1080 rfl j (fun b hb => ?_) ?_
  · fin_cases b
    · exact absurd rfl hb
    · exact (Nat.zero_add _).symm
  · rfl

end Cert.AdamwSmallIdeal.Pack

end
-- ==== Proof.AdamwSmall.lean ====
/- The optimiser's step for the small parameters, packed into rows of 128 lanes: what the call writes, cut apart again, and what
   the reference computes parameter by parameter. -/
module

public import proofs.«01_k».proof.Proof.Gen.AdamwSmallIdeal.Frame
public import proofs.«01_k».proof.Proof.Gen.AdamwSmallReferenceIdeal.Run
public import proofs.«01_k».proof.Proof.Gen.AdamwSmallReferenceIdeal.Read
public import proofs.«01_k».proof.Proof.Pack
public import proofs.«01_k».proof.Proof.Adamw

@[expose] public section

set_option maxRecDepth 16384
set_option maxHeartbeats 4000000

noncomputable section

namespace Cert.AdamwSmallIdeal.Whole

open Idealize.ShloMosaic Idealize.ShloMosaic.TcCoe Idealize.ShloMosaic.Tactic Idealize.SL.Sem
open Cert.AdamwSmallIdeal Cert.AdamwSmallIdeal.Gen
open Cert.Adamw Cert.AdamwSmallIdeal.Pack

/-- The new first moment of an array. -/
def newM {S : Shape} (g m : S.Idx → EReal) (i : S.Idx) : EReal := mom (m i) (g i)
/-- The new second moment of an array. -/
def newV {S : Shape} (g v : S.Idx → EReal) (i : S.Idx) : EReal := vel (v i) (g i)
/-- The step of an array. -/
def delta {S : Shape} (g w m v : S.Idx → EReal) (i : S.Idx) : EReal := step (w i) (newM g m i) (newV g v i)

theorem newM_congr {S : Shape} {g g' m m' : S.Idx → EReal} (hg : g = g') (hm : m = m') : newM g m = newM g' m' := by rw [hg, hm]
theorem newV_congr {S : Shape} {g g' v v' : S.Idx → EReal} (hg : g = g') (hv : v = v') : newV g v = newV g' v' := by rw [hg, hv]
theorem delta_congr {S : Shape} {g g' w w' m m' v v' : S.Idx → EReal} (hg : g = g') (hw : w = w') (hm : m = m') (hv : v = v') :
    delta g w m v = delta g' w' m' v' := by rw [hg, hw, hm, hv]

variable (m : (ℓ : Loc nD τ sig) → Buf (Elt Ideal) ℓ) (c : Dev nD)

abbrev a0 : S2x4x256.Idx → EReal := m ((c.tc : Thread nD τ).loc main_arg0)
abbrev a1 : S1x3x128.Idx → EReal := m ((c.tc : Thread nD τ).loc main_arg1)
abbrev a2 : S1x4x128.Idx → EReal := m ((c.tc : Thread nD τ).loc main_arg2)
abbrev a3 : S1x1024.Idx → EReal := m ((c.tc : Thread nD τ).loc main_arg3)
abbrev a4 : S1x16x64x64.Idx → EReal := m ((c.tc : Thread nD τ).loc main_arg4)
abbrev a5 : S1x1024.Idx → EReal := m ((c.tc : Thread nD τ).loc main_arg5)
abbrev a6 : S1x16x64x64.Idx → EReal := m ((c.tc : Thread nD τ).loc main_arg6)
abbrev a7 : S1x1024.Idx → EReal := m ((c.tc : Thread nD τ).loc main_arg7)
abbrev a8 : S1x1024.Idx → EReal := m ((c.tc : Thread nD τ).loc main_arg8)
abbrev a9 : S2x4x256.Idx → EReal := m ((c.tc : Thread nD τ).loc main_arg9)
abbrev a10 : S1x3x128.Idx → EReal := m ((c.tc : Thread nD τ).loc main_arg10)
abbrev a11 : S1x4x128.Idx → EReal := m ((c.tc : Thread nD τ).loc main_arg11)
abbrev a12 : S1x1024.Idx → EReal := m ((c.tc : Thread nD τ).loc main_arg12)
abbrev a13 : S1x16x64x64.Idx → EReal := m ((c.tc : Thread nD τ).loc main_arg13)
abbrev a14 : S1x1024.Idx → EReal := m ((c.tc : Thread nD τ).loc main_arg14)
abbrev a15 : S1x16x64x64.Idx → EReal := m ((c.tc : Thread nD τ).loc main_arg15)
abbrev a16 : S1x1024.Idx → EReal := m ((c.tc : Thread nD τ).loc main_arg16)
abbrev a17 : S1x1024.Idx → EReal := m ((c.tc : Thread nD τ).loc main_arg17)
abbrev a18 : S2x4x256.Idx → EReal := m ((c.tc : Thread nD τ).loc main_arg18)
abbrev a19 : S1x3x128.Idx → EReal := m ((c.tc : Thread nD τ).loc main_arg19)
abbrev a20 : S1x4x128.Idx → EReal := m ((c.tc : Thread nD τ).loc main_arg20)
abbrev a21 : S1x1024.Idx → EReal := m ((c.tc : Thread nD τ).loc main_arg21)
abbrev a22 : S1x16x64x64.Idx → EReal := m ((c.tc : Thread nD τ).loc main_arg22)
abbrev a23 : S1x1024.Idx → EReal := m ((c.tc : Thread nD τ).loc main_arg23)
abbrev a24 : S1x16x64x64.Idx → EReal := m ((c.tc : Thread nD τ).loc main_arg24)
abbrev a25 : S1x1024.Idx → EReal := m ((c.tc : Thread nD τ).loc main_arg25)
abbrev a26 : S1x1024.Idx → EReal := m ((c.tc : Thread nD τ).loc main_arg26)
abbrev a27 : S2x4x256.Idx → EReal := m ((c.tc : Thread nD τ).loc main_arg27)
abbrev a28 : S1x3x128.Idx → EReal := m ((c.tc : Thread nD τ).loc main_arg28)
abbrev a29 : S1x4x128.Idx → EReal := m ((c.tc : Thread nD τ).loc main_arg29)
abbrev a30 : S1x1024.Idx → EReal := m ((c.tc : Thread nD τ).loc main_arg30)
abbrev a31 : S1x16x64x64.Idx → EReal := m ((c.tc : Thread nD τ).loc main_arg31)
abbrev a32 : S1x1024.Idx → EReal := m ((c.tc : Thread nD τ).loc main_arg32)
abbrev a33 : S1x16x64x64.Idx → EReal := m ((c.tc : Thread nD τ).loc main_arg33)
abbrev a34 : S1x1024.Idx → EReal := m ((c.tc : Thread nD τ).loc main_arg34)
abbrev a35 : S1x1024.Idx → EReal := m ((c.tc : Thread nD τ).loc main_arg35)

/-- The gradients, packed. -/
abbrev packG : S1088x128.Idx → EReal :=
  pack (a0 m c) (a1 m c) (a2 m c) (a3 m c) (a4 m c) (a5 m c) (a6 m c) (a7 m c) (a8 m c)
/-- The weights, packed. -/
abbrev packW : S1088x128.Idx → EReal :=
  pack (a9 m c) (a10 m c) (a11 m c) (a12 m c) (a13 m c) (a14 m c) (a15 m c) (a16 m c) (a17 m c)
/-- The first moments, packed. -/
abbrev packM : S1088x128.Idx → EReal :=
  pack (a18 m c) (a19 m c) (a20 m c) (a21 m c) (a22 m c) (a23 m c) (a24 m c) (a25 m c) (a26 m c)
/-- The second moments, packed. -/
abbrev packV : S1088x128.Idx → EReal :=
  pack (a27 m c) (a28 m c) (a29 m c) (a30 m c) (a31 m c) (a32 m c) (a33 m c) (a34 m c) (a35 m c)

/-! ## What the host lays before the call -/

theorem entry0 : V m c main_v27 = packG m c := by
  entry_read
  rfl

theorem entry1 : V m c main_v55 = packW m c := by
  entry_read
  rfl

theorem entry2 : V m c main_v83 = packM m c := by
  entry_read
  rfl

theorem entry3 : V m c main_v111 = packV m c := by
  entry_read
  rfl

/-! ## What the call writes -/

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel
theorem cov4 : (cfg0.win 4).Covers := by decide +kernel
theorem cov5 : (cfg0.win 5).Covers := by decide +kernel
theorem cov6 : (cfg0.win 6).Covers := by decide +kernel

theorem whole0 (t : Fin cfg0.N) (y : S1088x128.Idx) : iblk m c 0 t y = packG m c y := by
  have e : win0_0.index t = ![0, 0] := by simp only [idx t]
  refine Eq.trans ?_ (congrFun (entry0 m c) y)
  blk_ext [iblk, e]

theorem whole1 (t : Fin cfg0.N) (y : S1088x128.Idx) : iblk m c 1 t y = packW m c y := by
  have e : win0_1.index t = ![0, 0] := by simp only [idx t]
  refine Eq.trans ?_ (congrFun (entry1 m c) y)
  blk_ext [iblk, e]

theorem whole2 (t : Fin cfg0.N) (y : S1088x128.Idx) : iblk m c 2 t y = packM m c y := by
  have e : win0_2.index t = ![0, 0] := by simp only [idx t]
  refine Eq.trans ?_ (congrFun (entry2 m c) y)
  blk_ext [iblk, e]

theorem whole3 (t : Fin cfg0.N) (y : S1088x128.Idx) : iblk m c 3 t y = packV m c y := by
  have e : win0_3.index t = ![0, 0] := by simp only [idx t]
  refine Eq.trans ?_ (congrFun (entry3 m c) y)
  blk_ext [iblk, e]

theorem final4 : (dats m 0 c).arrAt 4 cfg0.N = delta (packG m c) (packW m c) (packM m c) (packV m c) := by
  refine (dats m 0 c).arrAt_eq_of_covers 4 _ cov4 fun t hf y => ?_
  have e : win0_4.index t = ![0, 0] := by simp only [idx t]
  have hi : ((cfg0.win 4).blk t).view.emb y = y := by blk_ext [e]
  rw [hi]
  blk_simp
  rw [after0_4]
  frame_out
  open_payloads
  pointwise
  rw [whole0 m c t y, whole1 m c t y, whole2 m c t y, whole3 m c t y]
  rfl

theorem final5 : (dats m 0 c).arrAt 5 cfg0.N = newM (packG m c) (packM m c) := by
  refine (dats m 0 c).arrAt_eq_of_covers 5 _ cov5 fun t hf y => ?_
  have e : win0_5.index t = ![0, 0] := by simp only [idx t]
  have hi : ((cfg0.win 5).blk t).view.emb y = y := by blk_ext [e]
  rw [hi]
  blk_simp
  rw [after0_5]
  frame_out
  open_payloads
  pointwise
  rw [whole0 m c t y, whole2 m c t y]
  rfl

theorem final6 : (dats m 0 c).arrAt 6 cfg0.N = newV (packG m c) (packV m c) := by
  refine (dats m 0 c).arrAt_eq_of_covers 6 _ cov6 fun t hf y => ?_
  have e : win0_6.index t = ![0, 0] := by simp only [idx t]
  have hi : ((cfg0.win 6).blk t).view.emb y = y := by blk_ext [e]
  rw [hi]
  blk_simp
  rw [after0_6]
  frame_out
  open_payloads
  pointwise
  rw [whole0 m c t y, whole3 m c t y]
  rfl

/-! ## What the host cuts out after the call -/

theorem out_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w cfg0.N :=
  Pipeline.withArrays_arr (cfgs 0).spec (by decide) c _ _ w

variable (σ : Valuation τ sig (Elt Ideal)) in
theorem cutD0 : StableHlo.after hostOps1 σ (Proc.devRef .tc main_v115) = cut0 (σ (Proc.devRef .tc main_v112_0)) := by rfl
variable (σ : Valuation τ sig (Elt Ideal)) in
theorem cutM0 : StableHlo.after hostOps1 σ (Proc.devRef .tc main_v144) = cut0 (σ (Proc.devRef .tc main_v112_1)) := by rfl
variable (σ : Valuation τ sig (Elt Ideal)) in
theorem cutV0 : StableHlo.after hostOps1 σ (Proc.devRef .tc main_v173) = cut0 (σ (Proc.devRef .tc main_v112_2)) := by rfl
variable (σ : Valuation τ sig (Elt Ideal)) in
theorem cutD1 : StableHlo.after hostOps1 σ (Proc.devRef .tc main_v119) = cut1 (σ (Proc.devRef .tc main_v112_0)) := by rfl
variable (σ : Valuation τ sig (Elt Ideal)) in
theorem cutM1 : StableHlo.after hostOps1 σ (Proc.devRef .tc main_v148) = cut1 (σ (Proc.devRef .tc main_v112_1)) := by rfl
variable (σ : Valuation τ sig (Elt Ideal)) in
theorem cutV1 : StableHlo.after hostOps1 σ (Proc.devRef .tc main_v177) = cut1 (σ (Proc.devRef .tc main_v112_2)) := by rfl
variable (σ : Valuation τ sig (Elt Ideal)) in
theorem cutD2 : StableHlo.after hostOps1 σ (Proc.devRef .tc main_v123) = cut2 (σ (Proc.devRef .tc main_v112_0)) := by rfl
variable (σ : Valuation τ sig (Elt Ideal)) in
theorem cutM2 : StableHlo.after hostOps1 σ (Proc.devRef .tc main_v152) = cut2 (σ (Proc.devRef .tc main_v112_1)) := by rfl
variable (σ : Valuation τ sig (Elt Ideal)) in
theorem cutV2 : StableHlo.after hostOps1 σ (Proc.devRef .tc main_v181) = cut2 (σ (Proc.devRef .tc main_v112_2)) := by rfl
variable (σ : Valuation τ sig (Elt Ideal)) in
theorem cutD3 : StableHlo.after hostOps1 σ (Proc.devRef .tc main_v126) = cut3 (σ (Proc.devRef .tc main_v112_0)) := by rfl
variable (σ : Valuation τ sig (Elt Ideal)) in
theorem cutM3 : StableHlo.after hostOps1 σ (Proc.devRef .tc main_v155) = cut3 (σ (Proc.devRef .tc main_v112_1)) := by rfl
variable (σ : Valuation τ sig (Elt Ideal)) in
theorem cutV3 : StableHlo.after hostOps1 σ (Proc.devRef .tc main_v184) = cut3 (σ (Proc.devRef .tc main_v112_2)) := by rfl
variable (σ : Valuation τ sig (Elt Ideal)) in
theorem cutD4 : StableHlo.after hostOps1 σ (Proc.devRef .tc main_v129) = cut4 (σ (Proc.devRef .tc main_v112_0)) := by rfl
variable (σ : Valuation τ sig (Elt Ideal)) in
theorem cutM4 : StableHlo.after hostOps1 σ (Proc.devRef .tc main_v158) = cut4 (σ (Proc.devRef .tc main_v112_1)) := by rfl
variable (σ : Valuation τ sig (Elt Ideal)) in
theorem cutV4 : StableHlo.after hostOps1 σ (Proc.devRef .tc main_v187) = cut4 (σ (Proc.devRef .tc main_v112_2)) := by rfl
variable (σ : Valuation τ sig (Elt Ideal)) in
theorem cutD5 : StableHlo.after hostOps1 σ (Proc.devRef .tc main_v132) = cut5 (σ (Proc.devRef .tc main_v112_0)) := by rfl
variable (σ : Valuation τ sig (Elt Ideal)) in
theorem cutM5 : StableHlo.after hostOps1 σ (Proc.devRef .tc main_v161) = cut5 (σ (Proc.devRef .tc main_v112_1)) := by rfl
variable (σ : Valuation τ sig (Elt Ideal)) in
theorem cutV5 : StableHlo.after hostOps1 σ (Proc.devRef .tc main_v190) = cut5 (σ (Proc.devRef .tc main_v112_2)) := by rfl
variable (σ : Valuation τ sig (Elt Ideal)) in
theorem cutD6 : StableHlo.after hostOps1 σ (Proc.devRef .tc main_v135) = cut6 (σ (Proc.devRef .tc main_v112_0)) := by rfl
variable (σ : Valuation τ sig (Elt Ideal)) in
theorem cutM6 : StableHlo.after hostOps1 σ (Proc.devRef .tc main_v164) = cut6 (σ (Proc.devRef .tc main_v112_1)) := by rfl
variable (σ : Valuation τ sig (Elt Ideal)) in
theorem cutV6 : StableHlo.after hostOps1 σ (Proc.devRef .tc main_v193) = cut6 (σ (Proc.devRef .tc main_v112_2)) := by rfl
variable (σ : Valuation τ sig (Elt Ideal)) in
theorem cutD7 : StableHlo.after hostOps1 σ (Proc.devRef .tc main_v138) = cut7 (σ (Proc.devRef .tc main_v112_0)) := by rfl
variable (σ : Valuation τ sig (Elt Ideal)) in
theorem cutM7 : StableHlo.after hostOps1 σ (Proc.devRef .tc main_v167) = cut7 (σ (Proc.devRef .tc main_v112_1)) := by rfl
variable (σ : Valuation τ sig (Elt Ideal)) in
theorem cutV7 : StableHlo.after hostOps1 σ (Proc.devRef .tc main_v196) = cut7 (σ (Proc.devRef .tc main_v112_2)) := by rfl
variable (σ : Valuation τ sig (Elt Ideal)) in
theorem cutD8 : StableHlo.after hostOps1 σ (Proc.devRef .tc main_v141) = cut8 (σ (Proc.devRef .tc main_v112_0)) := by rfl
variable (σ : Valuation τ sig (Elt Ideal)) in
theorem cutM8 : StableHlo.after hostOps1 σ (Proc.devRef .tc main_v170) = cut8 (σ (Proc.devRef .tc main_v112_1)) := by rfl
variable (σ : Valuation τ sig (Elt Ideal)) in
theorem cutV8 : StableHlo.after hostOps1 σ (Proc.devRef .tc main_v199) = cut8 (σ (Proc.devRef .tc main_v112_2)) := by rfl

theorem isD0 : cut0 (delta (packG m c) (packW m c) (packM m c) (packV m c)) = delta (a0 m c) (a9 m c) (a18 m c) (a27 m c) :=
  (rfl : _ = delta (cut0 (packG m c)) (cut0 (packW m c)) (cut0 (packM m c)) (cut0 (packV m c))).trans
    (delta_congr (cut0_pack (a0 m c) (a1 m c) (a2 m c) (a3 m c) (a4 m c) (a5 m c) (a6 m c) (a7 m c) (a8 m c)) (cut0_pack (a9 m c) (a10 m c) (a11 m c) (a12 m c) (a13 m c) (a14 m c) (a15 m c) (a16 m c) (a17 m c))
      (cut0_pack (a18 m c) (a19 m c) (a20 m c) (a21 m c) (a22 m c) (a23 m c) (a24 m c) (a25 m c) (a26 m c)) (cut0_pack (a27 m c) (a28 m c) (a29 m c) (a30 m c) (a31 m c) (a32 m c) (a33 m c) (a34 m c) (a35 m c)))
theorem isM0 : cut0 (newM (packG m c) (packM m c)) = newM (a0 m c) (a18 m c) :=
  (rfl : _ = newM (cut0 (packG m c)) (cut0 (packM m c))).trans (newM_congr (cut0_pack (a0 m c) (a1 m c) (a2 m c) (a3 m c) (a4 m c) (a5 m c) (a6 m c) (a7 m c) (a8 m c)) (cut0_pack (a18 m c) (a19 m c) (a20 m c) (a21 m c) (a22 m c) (a23 m c) (a24 m c) (a25 m c) (a26 m c)))
theorem isV0 : cut0 (newV (packG m c) (packV m c)) = newV (a0 m c) (a27 m c) :=
  (rfl : _ = newV (cut0 (packG m c)) (cut0 (packV m c))).trans (newV_congr (cut0_pack (a0 m c) (a1 m c) (a2 m c) (a3 m c) (a4 m c) (a5 m c) (a6 m c) (a7 m c) (a8 m c)) (cut0_pack (a27 m c) (a28 m c) (a29 m c) (a30 m c) (a31 m c) (a32 m c) (a33 m c) (a34 m c) (a35 m c)))
theorem isD1 : cut1 (delta (packG m c) (packW m c) (packM m c) (packV m c)) = delta (a1 m c) (a10 m c) (a19 m c) (a28 m c) :=
  (rfl : _ = delta (cut1 (packG m c)) (cut1 (packW m c)) (cut1 (packM m c)) (cut1 (packV m c))).trans
    (delta_congr (cut1_pack (a0 m c) (a1 m c) (a2 m c) (a3 m c) (a4 m c) (a5 m c) (a6 m c) (a7 m c) (a8 m c)) (cut1_pack (a9 m c) (a10 m c) (a11 m c) (a12 m c) (a13 m c) (a14 m c) (a15 m c) (a16 m c) (a17 m c))
      (cut1_pack (a18 m c) (a19 m c) (a20 m c) (a21 m c) (a22 m c) (a23 m c) (a24 m c) (a25 m c) (a26 m c)) (cut1_pack (a27 m c) (a28 m c) (a29 m c) (a30 m c) (a31 m c) (a32 m c) (a33 m c) (a34 m c) (a35 m c)))
theorem isM1 : cut1 (newM (packG m c) (packM m c)) = newM (a1 m c) (a19 m c) :=
  (rfl : _ = newM (cut1 (packG m c)) (cut1 (packM m c))).trans (newM_congr (cut1_pack (a0 m c) (a1 m c) (a2 m c) (a3 m c) (a4 m c) (a5 m c) (a6 m c) (a7 m c) (a8 m c)) (cut1_pack (a18 m c) (a19 m c) (a20 m c) (a21 m c) (a22 m c) (a23 m c) (a24 m c) (a25 m c) (a26 m c)))
theorem isV1 : cut1 (newV (packG m c) (packV m c)) = newV (a1 m c) (a28 m c) :=
  (rfl : _ = newV (cut1 (packG m c)) (cut1 (packV m c))).trans (newV_congr (cut1_pack (a0 m c) (a1 m c) (a2 m c) (a3 m c) (a4 m c) (a5 m c) (a6 m c) (a7 m c) (a8 m c)) (cut1_pack (a27 m c) (a28 m c) (a29 m c) (a30 m c) (a31 m c) (a32 m c) (a33 m c) (a34 m c) (a35 m c)))
theorem isD2 : cut2 (delta (packG m c) (packW m c) (packM m c) (packV m c)) = delta (a2 m c) (a11 m c) (a20 m c) (a29 m c) :=
  (rfl : _ = delta (cut2 (packG m c)) (cut2 (packW m c)) (cut2 (packM m c)) (cut2 (packV m c))).trans
    (delta_congr (cut2_pack (a0 m c) (a1 m c) (a2 m c) (a3 m c) (a4 m c) (a5 m c) (a6 m c) (a7 m c) (a8 m c)) (cut2_pack (a9 m c) (a10 m c) (a11 m c) (a12 m c) (a13 m c) (a14 m c) (a15 m c) (a16 m c) (a17 m c))
      (cut2_pack (a18 m c) (a19 m c) (a20 m c) (a21 m c) (a22 m c) (a23 m c) (a24 m c) (a25 m c) (a26 m c)) (cut2_pack (a27 m c) (a28 m c) (a29 m c) (a30 m c) (a31 m c) (a32 m c) (a33 m c) (a34 m c) (a35 m c)))
theorem isM2 : cut2 (newM (packG m c) (packM m c)) = newM (a2 m c) (a20 m c) :=
  (rfl : _ = newM (cut2 (packG m c)) (cut2 (packM m c))).trans (newM_congr (cut2_pack (a0 m c) (a1 m c) (a2 m c) (a3 m c) (a4 m c) (a5 m c) (a6 m c) (a7 m c) (a8 m c)) (cut2_pack (a18 m c) (a19 m c) (a20 m c) (a21 m c) (a22 m c) (a23 m c) (a24 m c) (a25 m c) (a26 m c)))
theorem isV2 : cut2 (newV (packG m c) (packV m c)) = newV (a2 m c) (a29 m c) :=
  (rfl : _ = newV (cut2 (packG m c)) (cut2 (packV m c))).trans (newV_congr (cut2_pack (a0 m c) (a1 m c) (a2 m c) (a3 m c) (a4 m c) (a5 m c) (a6 m c) (a7 m c) (a8 m c)) (cut2_pack (a27 m c) (a28 m c) (a29 m c) (a30 m c) (a31 m c) (a32 m c) (a33 m c) (a34 m c) (a35 m c)))
theorem isD3 : cut3 (delta (packG m c) (packW m c) (packM m c) (packV m c)) = delta (a3 m c) (a12 m c) (a21 m c) (a30 m c) :=
  (rfl : _ = delta (cut3 (packG m c)) (cut3 (packW m c)) (cut3 (packM m c)) (cut3 (packV m c))).trans
    (delta_congr (cut3_pack (a0 m c) (a1 m c) (a2 m c) (a3 m c) (a4 m c) (a5 m c) (a6 m c) (a7 m c) (a8 m c)) (cut3_pack (a9 m c) (a10 m c) (a11 m c) (a12 m c) (a13 m c) (a14 m c) (a15 m c) (a16 m c) (a17 m c))
      (cut3_pack (a18 m c) (a19 m c) (a20 m c) (a21 m c) (a22 m c) (a23 m c) (a24 m c) (a25 m c) (a26 m c)) (cut3_pack (a27 m c) (a28 m c) (a29 m c) (a30 m c) (a31 m c) (a32 m c) (a33 m c) (a34 m c) (a35 m c)))
theorem isM3 : cut3 (newM (packG m c) (packM m c)) = newM (a3 m c) (a21 m c) :=
  (rfl : _ = newM (cut3 (packG m c)) (cut3 (packM m c))).trans (newM_congr (cut3_pack (a0 m c) (a1 m c) (a2 m c) (a3 m c) (a4 m c) (a5 m c) (a6 m c) (a7 m c) (a8 m c)) (cut3_pack (a18 m c) (a19 m c) (a20 m c) (a21 m c) (a22 m c) (a23 m c) (a24 m c) (a25 m c) (a26 m c)))
theorem isV3 : cut3 (newV (packG m c) (packV m c)) = newV (a3 m c) (a30 m c) :=
  (rfl : _ = newV (cut3 (packG m c)) (cut3 (packV m c))).trans (newV_congr (cut3_pack (a0 m c) (a1 m c) (a2 m c) (a3 m c) (a4 m c) (a5 m c) (a6 m c) (a7 m c) (a8 m c)) (cut3_pack (a27 m c) (a28 m c) (a29 m c) (a30 m c) (a31 m c) (a32 m c) (a33 m c) (a34 m c) (a35 m c)))
theorem isD4 : cut4 (delta (packG m c) (packW m c) (packM m c) (packV m c)) = delta (a4 m c) (a13 m c) (a22 m c) (a31 m c) :=
  (rfl : _ = delta (cut4 (packG m c)) (cut4 (packW m c)) (cut4 (packM m c)) (cut4 (packV m c))).trans
    (delta_congr (cut4_pack (a0 m c) (a1 m c) (a2 m c) (a3 m c) (a4 m c) (a5 m c) (a6 m c) (a7 m c) (a8 m c)) (cut4_pack (a9 m c) (a10 m c) (a11 m c) (a12 m c) (a13 m c) (a14 m c) (a15 m c) (a16 m c) (a17 m c))
      (cut4_pack (a18 m c) (a19 m c) (a20 m c) (a21 m c) (a22 m c) (a23 m c) (a24 m c) (a25 m c) (a26 m c)) (cut4_pack (a27 m c) (a28 m c) (a29 m c) (a30 m c) (a31 m c) (a32 m c) (a33 m c) (a34 m c) (a35 m c)))
theorem isM4 : cut4 (newM (packG m c) (packM m c)) = newM (a4 m c) (a22 m c) :=
  (rfl : _ = newM (cut4 (packG m c)) (cut4 (packM m c))).trans (newM_congr (cut4_pack (a0 m c) (a1 m c) (a2 m c) (a3 m c) (a4 m c) (a5 m c) (a6 m c) (a7 m c) (a8 m c)) (cut4_pack (a18 m c) (a19 m c) (a20 m c) (a21 m c) (a22 m c) (a23 m c) (a24 m c) (a25 m c) (a26 m c)))
theorem isV4 : cut4 (newV (packG m c) (packV m c)) = newV (a4 m c) (a31 m c) :=
  (rfl : _ = newV (cut4 (packG m c)) (cut4 (packV m c))).trans (newV_congr (cut4_pack (a0 m c) (a1 m c) (a2 m c) (a3 m c) (a4 m c) (a5 m c) (a6 m c) (a7 m c) (a8 m c)) (cut4_pack (a27 m c) (a28 m c) (a29 m c) (a30 m c) (a31 m c) (a32 m c) (a33 m c) (a34 m c) (a35 m c)))
theorem isD5 : cut5 (delta (packG m c) (packW m c) (packM m c) (packV m c)) = delta (a5 m c) (a14 m c) (a23 m c) (a32 m c) :=
  (rfl : _ = delta (cut5 (packG m c)) (cut5 (packW m c)) (cut5 (packM m c)) (cut5 (packV m c))).trans
    (delta_congr (cut5_pack (a0 m c) (a1 m c) (a2 m c) (a3 m c) (a4 m c) (a5 m c) (a6 m c) (a7 m c) (a8 m c)) (cut5_pack (a9 m c) (a10 m c) (a11 m c) (a12 m c) (a13 m c) (a14 m c) (a15 m c) (a16 m c) (a17 m c))
      (cut5_pack (a18 m c) (a19 m c) (a20 m c) (a21 m c) (a22 m c) (a23 m c) (a24 m c) (a25 m c) (a26 m c)) (cut5_pack (a27 m c) (a28 m c) (a29 m c) (a30 m c) (a31 m c) (a32 m c) (a33 m c) (a34 m c) (a35 m c)))
theorem isM5 : cut5 (newM (packG m c) (packM m c)) = newM (a5 m c) (a23 m c) :=
  (rfl : _ = newM (cut5 (packG m c)) (cut5 (packM m c))).trans (newM_congr (cut5_pack (a0 m c) (a1 m c) (a2 m c) (a3 m c) (a4 m c) (a5 m c) (a6 m c) (a7 m c) (a8 m c)) (cut5_pack (a18 m c) (a19 m c) (a20 m c) (a21 m c) (a22 m c) (a23 m c) (a24 m c) (a25 m c) (a26 m c)))
theorem isV5 : cut5 (newV (packG m c) (packV m c)) = newV (a5 m c) (a32 m c) :=
  (rfl : _ = newV (cut5 (packG m c)) (cut5 (packV m c))).trans (newV_congr (cut5_pack (a0 m c) (a1 m c) (a2 m c) (a3 m c) (a4 m c) (a5 m c) (a6 m c) (a7 m c) (a8 m c)) (cut5_pack (a27 m c) (a28 m c) (a29 m c) (a30 m c) (a31 m c) (a32 m c) (a33 m c) (a34 m c) (a35 m c)))
theorem isD6 : cut6 (delta (packG m c) (packW m c) (packM m c) (packV m c)) = delta (a6 m c) (a15 m c) (a24 m c) (a33 m c) :=
  (rfl : _ = delta (cut6 (packG m c)) (cut6 (packW m c)) (cut6 (packM m c)) (cut6 (packV m c))).trans
    (delta_congr (cut6_pack (a0 m c) (a1 m c) (a2 m c) (a3 m c) (a4 m c) (a5 m c) (a6 m c) (a7 m c) (a8 m c)) (cut6_pack (a9 m c) (a10 m c) (a11 m c) (a12 m c) (a13 m c) (a14 m c) (a15 m c) (a16 m c) (a17 m c))
      (cut6_pack (a18 m c) (a19 m c) (a20 m c) (a21 m c) (a22 m c) (a23 m c) (a24 m c) (a25 m c) (a26 m c)) (cut6_pack (a27 m c) (a28 m c) (a29 m c) (a30 m c) (a31 m c) (a32 m c) (a33 m c) (a34 m c) (a35 m c)))
theorem isM6 : cut6 (newM (packG m c) (packM m c)) = newM (a6 m c) (a24 m c) :=
  (rfl : _ = newM (cut6 (packG m c)) (cut6 (packM m c))).trans (newM_congr (cut6_pack (a0 m c) (a1 m c) (a2 m c) (a3 m c) (a4 m c) (a5 m c) (a6 m c) (a7 m c) (a8 m c)) (cut6_pack (a18 m c) (a19 m c) (a20 m c) (a21 m c) (a22 m c) (a23 m c) (a24 m c) (a25 m c) (a26 m c)))
theorem isV6 : cut6 (newV (packG m c) (packV m c)) = newV (a6 m c) (a33 m c) :=
  (rfl : _ = newV (cut6 (packG m c)) (cut6 (packV m c))).trans (newV_congr (cut6_pack (a0 m c) (a1 m c) (a2 m c) (a3 m c) (a4 m c) (a5 m c) (a6 m c) (a7 m c) (a8 m c)) (cut6_pack (a27 m c) (a28 m c) (a29 m c) (a30 m c) (a31 m c) (a32 m c) (a33 m c) (a34 m c) (a35 m c)))
theorem isD7 : cut7 (delta (packG m c) (packW m c) (packM m c) (packV m c)) = delta (a7 m c) (a16 m c) (a25 m c) (a34 m c) :=
  (rfl : _ = delta (cut7 (packG m c)) (cut7 (packW m c)) (cut7 (packM m c)) (cut7 (packV m c))).trans
    (delta_congr (cut7_pack (a0 m c) (a1 m c) (a2 m c) (a3 m c) (a4 m c) (a5 m c) (a6 m c) (a7 m c) (a8 m c)) (cut7_pack (a9 m c) (a10 m c) (a11 m c) (a12 m c) (a13 m c) (a14 m c) (a15 m c) (a16 m c) (a17 m c))
      (cut7_pack (a18 m c) (a19 m c) (a20 m c) (a21 m c) (a22 m c) (a23 m c) (a24 m c) (a25 m c) (a26 m c)) (cut7_pack (a27 m c) (a28 m c) (a29 m c) (a30 m c) (a31 m c) (a32 m c) (a33 m c) (a34 m c) (a35 m c)))
theorem isM7 : cut7 (newM (packG m c) (packM m c)) = newM (a7 m c) (a25 m c) :=
  (rfl : _ = newM (cut7 (packG m c)) (cut7 (packM m c))).trans (newM_congr (cut7_pack (a0 m c) (a1 m c) (a2 m c) (a3 m c) (a4 m c) (a5 m c) (a6 m c) (a7 m c) (a8 m c)) (cut7_pack (a18 m c) (a19 m c) (a20 m c) (a21 m c) (a22 m c) (a23 m c) (a24 m c) (a25 m c) (a26 m c)))
theorem isV7 : cut7 (newV (packG m c) (packV m c)) = newV (a7 m c) (a34 m c) :=
  (rfl : _ = newV (cut7 (packG m c)) (cut7 (packV m c))).trans (newV_congr (cut7_pack (a0 m c) (a1 m c) (a2 m c) (a3 m c) (a4 m c) (a5 m c) (a6 m c) (a7 m c) (a8 m c)) (cut7_pack (a27 m c) (a28 m c) (a29 m c) (a30 m c) (a31 m c) (a32 m c) (a33 m c) (a34 m c) (a35 m c)))
theorem isD8 : cut8 (delta (packG m c) (packW m c) (packM m c) (packV m c)) = delta (a8 m c) (a17 m c) (a26 m c) (a35 m c) :=
  (rfl : _ = delta (cut8 (packG m c)) (cut8 (packW m c)) (cut8 (packM m c)) (cut8 (packV m c))).trans
    (delta_congr (cut8_pack (a0 m c) (a1 m c) (a2 m c) (a3 m c) (a4 m c) (a5 m c) (a6 m c) (a7 m c) (a8 m c)) (cut8_pack (a9 m c) (a10 m c) (a11 m c) (a12 m c) (a13 m c) (a14 m c) (a15 m c) (a16 m c) (a17 m c))
      (cut8_pack (a18 m c) (a19 m c) (a20 m c) (a21 m c) (a22 m c) (a23 m c) (a24 m c) (a25 m c) (a26 m c)) (cut8_pack (a27 m c) (a28 m c) (a29 m c) (a30 m c) (a31 m c) (a32 m c) (a33 m c) (a34 m c) (a35 m c)))
theorem isM8 : cut8 (newM (packG m c) (packM m c)) = newM (a8 m c) (a26 m c) :=
  (rfl : _ = newM (cut8 (packG m c)) (cut8 (packM m c))).trans (newM_congr (cut8_pack (a0 m c) (a1 m c) (a2 m c) (a3 m c) (a4 m c) (a5 m c) (a6 m c) (a7 m c) (a8 m c)) (cut8_pack (a18 m c) (a19 m c) (a20 m c) (a21 m c) (a22 m c) (a23 m c) (a24 m c) (a25 m c) (a26 m c)))
theorem isV8 : cut8 (newV (packG m c) (packV m c)) = newV (a8 m c) (a35 m c) :=
  (rfl : _ = newV (cut8 (packG m c)) (cut8 (packV m c))).trans (newV_congr (cut8_pack (a0 m c) (a1 m c) (a2 m c) (a3 m c) (a4 m c) (a5 m c) (a6 m c) (a7 m c) (a8 m c)) (cut8_pack (a27 m c) (a28 m c) (a29 m c) (a30 m c) (a31 m c) (a32 m c) (a33 m c) (a34 m c) (a35 m c)))

/-! ## The run -/

theorem run (ρ : Dev nD → PrngReg) : θ_run defs (onTc (τ := τ) (main (F := Ideal))) ⟨m, fun _ => 0, ρ⟩ fun r => ∀ c : Dev nD,
      r.2.mem ((c.tc : Thread nD τ).loc main_v115) = (delta (a0 m c) (a9 m c) (a18 m c) (a27 m c) : S2x4x256.Idx → EReal)
      ∧ r.2.mem ((c.tc : Thread nD τ).loc main_v119) = (delta (a1 m c) (a10 m c) (a19 m c) (a28 m c) : S1x3x128.Idx → EReal)
      ∧ r.2.mem ((c.tc : Thread nD τ).loc main_v123) = (delta (a2 m c) (a11 m c) (a20 m c) (a29 m c) : S1x4x128.Idx → EReal)
      ∧ r.2.mem ((c.tc : Thread nD τ).loc main_v126) = (delta (a3 m c) (a12 m c) (a21 m c) (a30 m c) : S1x1024.Idx → EReal)
      ∧ r.2.mem ((c.tc : Thread nD τ).loc main_v129) = (delta (a4 m c) (a13 m c) (a22 m c) (a31 m c) : S1x16x64x64.Idx → EReal)
      ∧ r.2.mem ((c.tc : Thread nD τ).loc main_v132) = (delta (a5 m c) (a14 m c) (a23 m c) (a32 m c) : S1x1024.Idx → EReal)
      ∧ r.2.mem ((c.tc : Thread nD τ).loc main_v135) = (delta (a6 m c) (a15 m c) (a24 m c) (a33 m c) : S1x16x64x64.Idx → EReal)
      ∧ r.2.mem ((c.tc : Thread nD τ).loc main_v138) = (delta (a7 m c) (a16 m c) (a25 m c) (a34 m c) : S1x1024.Idx → EReal)
      ∧ r.2.mem ((c.tc : Thread nD τ).loc main_v141) = (delta (a8 m c) (a17 m c) (a26 m c) (a35 m c) : S1x1024.Idx → EReal)
      ∧ r.2.mem ((c.tc : Thread nD τ).loc main_v144) = (newM (a0 m c) (a18 m c) : S2x4x256.Idx → EReal)
      ∧ r.2.mem ((c.tc : Thread nD τ).loc main_v148) = (newM (a1 m c) (a19 m c) : S1x3x128.Idx → EReal)
      ∧ r.2.mem ((c.tc : Thread nD τ).loc main_v152) = (newM (a2 m c) (a20 m c) : S1x4x128.Idx → EReal)
      ∧ r.2.mem ((c.tc : Thread nD τ).loc main_v155) = (newM (a3 m c) (a21 m c) : S1x1024.Idx → EReal)
      ∧ r.2.mem ((c.tc : Thread nD τ).loc main_v158) = (newM (a4 m c) (a22 m c) : S1x16x64x64.Idx → EReal)
      ∧ r.2.mem ((c.tc : Thread nD τ).loc main_v161) = (newM (a5 m c) (a23 m c) : S1x1024.Idx → EReal)
      ∧ r.2.mem ((c.tc : Thread nD τ).loc main_v164) = (newM (a6 m c) (a24 m c) : S1x16x64x64.Idx → EReal)
      ∧ r.2.mem ((c.tc : Thread nD τ).loc main_v167) = (newM (a7 m c) (a25 m c) : S1x1024.Idx → EReal)
      ∧ r.2.mem ((c.tc : Thread nD τ).loc main_v170) = (newM (a8 m c) (a26 m c) : S1x1024.Idx → EReal)
      ∧ r.2.mem ((c.tc : Thread nD τ).loc main_v173) = (newV (a0 m c) (a27 m c) : S2x4x256.Idx → EReal)
      ∧ r.2.mem ((c.tc : Thread nD τ).loc main_v177) = (newV (a1 m c) (a28 m c) : S1x3x128.Idx → EReal)
      ∧ r.2.mem ((c.tc : Thread nD τ).loc main_v181) = (newV (a2 m c) (a29 m c) : S1x4x128.Idx → EReal)
      ∧ r.2.mem ((c.tc : Thread nD τ).loc main_v184) = (newV (a3 m c) (a30 m c) : S1x1024.Idx → EReal)
      ∧ r.2.mem ((c.tc : Thread nD τ).loc main_v187) = (newV (a4 m c) (a31 m c) : S1x16x64x64.Idx → EReal)
      ∧ r.2.mem ((c.tc : Thread nD τ).loc main_v190) = (newV (a5 m c) (a32 m c) : S1x1024.Idx → EReal)
      ∧ r.2.mem ((c.tc : Thread nD τ).loc main_v193) = (newV (a6 m c) (a33 m c) : S1x16x64x64.Idx → EReal)
      ∧ r.2.mem ((c.tc : Thread nD τ).loc main_v196) = (newV (a7 m c) (a34 m c) : S1x1024.Idx → EReal)
      ∧ r.2.mem ((c.tc : Thread nD τ).loc main_v199) = (newV (a8 m c) (a35 m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35) := by
  refine (θ_run defs _ _).mono (fun r h c => ?_) (θ_run_and (run_main m ρ) (unchanged m ρ))
  obtain ⟨h, hu⟩ := h
  refine ⟨?_, ?_, ?_, ?_, ?_, ?_, ?_, ?_, ?_, ?_, ?_, ?_, ?_, ?_, ?_, ?_, ?_, ?_, ?_, ?_, ?_, ?_, ?_, ?_, ?_, ?_, ?_, hu c⟩
  · exact ((h c).2 main_v115 (by decide)).trans ((cutD0 _).trans ((congrArg cut0 ((out_arr m c 4).trans (final4 m c))).trans (isD0 m c)))
  · exact ((h c).2 main_v119 (by decide)).trans ((cutD1 _).trans ((congrArg cut1 ((out_arr m c 4).trans (final4 m c))).trans (isD1 m c)))
  · exact ((h c).2 main_v123 (by decide)).trans ((cutD2 _).trans ((congrArg cut2 ((out_arr m c 4).trans (final4 m c))).trans (isD2 m c)))
  · exact ((h c).2 main_v126 (by decide)).trans ((cutD3 _).trans ((congrArg cut3 ((out_arr m c 4).trans (final4 m c))).trans (isD3 m c)))
  · exact ((h c).2 main_v129 (by decide)).trans ((cutD4 _).trans ((congrArg cut4 ((out_arr m c 4).trans (final4 m c))).trans (isD4 m c)))
  · exact ((h c).2 main_v132 (by decide)).trans ((cutD5 _).trans ((congrArg cut5 ((out_arr m c 4).trans (final4 m c))).trans (isD5 m c)))
  · exact ((h c).2 main_v135 (by decide)).trans ((cutD6 _).trans ((congrArg cut6 ((out_arr m c 4).trans (final4 m c))).trans (isD6 m c)))
  · exact ((h c).2 main_v138 (by decide)).trans ((cutD7 _).trans ((congrArg cut7 ((out_arr m c 4).trans (final4 m c))).trans (isD7 m c)))
  · exact ((h c).2 main_v141 (by decide)).trans ((cutD8 _).trans ((congrArg cut8 ((out_arr m c 4).trans (final4 m c))).trans (isD8 m c)))
  · exact ((h c).2 main_v144 (by decide)).trans ((cutM0 _).trans ((congrArg cut0 ((out_arr m c 5).trans (final5 m c))).trans (isM0 m c)))
  · exact ((h c).2 main_v148 (by decide)).trans ((cutM1 _).trans ((congrArg cut1 ((out_arr m c 5).trans (final5 m c))).trans (isM1 m c)))
  · exact ((h c).2 main_v152 (by decide)).trans ((cutM2 _).trans ((congrArg cut2 ((out_arr m c 5).trans (final5 m c))).trans (isM2 m c)))
  · exact ((h c).2 main_v155 (by decide)).trans ((cutM3 _).trans ((congrArg cut3 ((out_arr m c 5).trans (final5 m c))).trans (isM3 m c)))
  · exact ((h c).2 main_v158 (by decide)).trans ((cutM4 _).trans ((congrArg cut4 ((out_arr m c 5).trans (final5 m c))).trans (isM4 m c)))
  · exact ((h c).2 main_v161 (by decide)).trans ((cutM5 _).trans ((congrArg cut5 ((out_arr m c 5).trans (final5 m c))).trans (isM5 m c)))
  · exact ((h c).2 main_v164 (by decide)).trans ((cutM6 _).trans ((congrArg cut6 ((out_arr m c 5).trans (final5 m c))).trans (isM6 m c)))
  · exact ((h c).2 main_v167 (by decide)).trans ((cutM7 _).trans ((congrArg cut7 ((out_arr m c 5).trans (final5 m c))).trans (isM7 m c)))
  · exact ((h c).2 main_v170 (by decide)).trans ((cutM8 _).trans ((congrArg cut8 ((out_arr m c 5).trans (final5 m c))).trans (isM8 m c)))
  · exact ((h c).2 main_v173 (by decide)).trans ((cutV0 _).trans ((congrArg cut0 ((out_arr m c 6).trans (final6 m c))).trans (isV0 m c)))
  · exact ((h c).2 main_v177 (by decide)).trans ((cutV1 _).trans ((congrArg cut1 ((out_arr m c 6).trans (final6 m c))).trans (isV1 m c)))
  · exact ((h c).2 main_v181 (by decide)).trans ((cutV2 _).trans ((congrArg cut2 ((out_arr m c 6).trans (final6 m c))).trans (isV2 m c)))
  · exact ((h c).2 main_v184 (by decide)).trans ((cutV3 _).trans ((congrArg cut3 ((out_arr m c 6).trans (final6 m c))).trans (isV3 m c)))
  · exact ((h c).2 main_v187 (by decide)).trans ((cutV4 _).trans ((congrArg cut4 ((out_arr m c 6).trans (final6 m c))).trans (isV4 m c)))
  · exact ((h c).2 main_v190 (by decide)).trans ((cutV5 _).trans ((congrArg cut5 ((out_arr m c 6).trans (final6 m c))).trans (isV5 m c)))
  · exact ((h c).2 main_v193 (by decide)).trans ((cutV6 _).trans ((congrArg cut6 ((out_arr m c 6).trans (final6 m c))).trans (isV6 m c)))
  · exact ((h c).2 main_v196 (by decide)).trans ((cutV7 _).trans ((congrArg cut7 ((out_arr m c 6).trans (final6 m c))).trans (isV7 m c)))
  · exact ((h c).2 main_v199 (by decide)).trans ((cutV8 _).trans ((congrArg cut8 ((out_arr m c 6).trans (final6 m c))).trans (isV8 m c)))

/-! ## The reference -/

theorem readD0 (g w m v : S2x4x256.Idx → EReal) : Cert.AdamwSmallReferenceIdeal.Read.val_main_v23 (F := Ideal) g w m v = delta g w m v := rfl
theorem readM0 (g m : S2x4x256.Idx → EReal) : Cert.AdamwSmallReferenceIdeal.Read.val_main_v4 (F := Ideal) g m = newM g m := rfl
theorem readV0 (g v : S2x4x256.Idx → EReal) : Cert.AdamwSmallReferenceIdeal.Read.val_main_v10 (F := Ideal) g v = newV g v := rfl
theorem readD1 (g w m v : S1x3x128.Idx → EReal) : Cert.AdamwSmallReferenceIdeal.Read.val_main_v47 (F := Ideal) g w m v = delta g w m v := rfl
theorem readM1 (g m : S1x3x128.Idx → EReal) : Cert.AdamwSmallReferenceIdeal.Read.val_main_v28 (F := Ideal) g m = newM g m := rfl
theorem readV1 (g v : S1x3x128.Idx → EReal) : Cert.AdamwSmallReferenceIdeal.Read.val_main_v34 (F := Ideal) g v = newV g v := rfl
theorem readD2 (g w m v : S1x4x128.Idx → EReal) : Cert.AdamwSmallReferenceIdeal.Read.val_main_v71 (F := Ideal) g w m v = delta g w m v := rfl
theorem readM2 (g m : S1x4x128.Idx → EReal) : Cert.AdamwSmallReferenceIdeal.Read.val_main_v52 (F := Ideal) g m = newM g m := rfl
theorem readV2 (g v : S1x4x128.Idx → EReal) : Cert.AdamwSmallReferenceIdeal.Read.val_main_v58 (F := Ideal) g v = newV g v := rfl
theorem readD3 (g w m v : S1x1024.Idx → EReal) : Cert.AdamwSmallReferenceIdeal.Read.val_main_v95 (F := Ideal) g w m v = delta g w m v := rfl
theorem readM3 (g m : S1x1024.Idx → EReal) : Cert.AdamwSmallReferenceIdeal.Read.val_main_v76 (F := Ideal) g m = newM g m := rfl
theorem readV3 (g v : S1x1024.Idx → EReal) : Cert.AdamwSmallReferenceIdeal.Read.val_main_v82 (F := Ideal) g v = newV g v := rfl
theorem readD4 (g w m v : S1x16x64x64.Idx → EReal) : Cert.AdamwSmallReferenceIdeal.Read.val_main_v119 (F := Ideal) g w m v = delta g w m v := rfl
theorem readM4 (g m : S1x16x64x64.Idx → EReal) : Cert.AdamwSmallReferenceIdeal.Read.val_main_v100 (F := Ideal) g m = newM g m := rfl
theorem readV4 (g v : S1x16x64x64.Idx → EReal) : Cert.AdamwSmallReferenceIdeal.Read.val_main_v106 (F := Ideal) g v = newV g v := rfl
theorem readD5 (g w m v : S1x1024.Idx → EReal) : Cert.AdamwSmallReferenceIdeal.Read.val_main_v143 (F := Ideal) g w m v = delta g w m v := rfl
theorem readM5 (g m : S1x1024.Idx → EReal) : Cert.AdamwSmallReferenceIdeal.Read.val_main_v124 (F := Ideal) g m = newM g m := rfl
theorem readV5 (g v : S1x1024.Idx → EReal) : Cert.AdamwSmallReferenceIdeal.Read.val_main_v130 (F := Ideal) g v = newV g v := rfl
theorem readD6 (g w m v : S1x16x64x64.Idx → EReal) : Cert.AdamwSmallReferenceIdeal.Read.val_main_v167 (F := Ideal) g w m v = delta g w m v := rfl
theorem readM6 (g m : S1x16x64x64.Idx → EReal) : Cert.AdamwSmallReferenceIdeal.Read.val_main_v148 (F := Ideal) g m = newM g m := rfl
theorem readV6 (g v : S1x16x64x64.Idx → EReal) : Cert.AdamwSmallReferenceIdeal.Read.val_main_v154 (F := Ideal) g v = newV g v := rfl
theorem readD7 (g w m v : S1x1024.Idx → EReal) : Cert.AdamwSmallReferenceIdeal.Read.val_main_v191 (F := Ideal) g w m v = delta g w m v := rfl
theorem readM7 (g m : S1x1024.Idx → EReal) : Cert.AdamwSmallReferenceIdeal.Read.val_main_v172 (F := Ideal) g m = newM g m := rfl
theorem readV7 (g v : S1x1024.Idx → EReal) : Cert.AdamwSmallReferenceIdeal.Read.val_main_v178 (F := Ideal) g v = newV g v := rfl
theorem readD8 (g w m v : S1x1024.Idx → EReal) : Cert.AdamwSmallReferenceIdeal.Read.val_main_v215 (F := Ideal) g w m v = delta g w m v := rfl
theorem readM8 (g m : S1x1024.Idx → EReal) : Cert.AdamwSmallReferenceIdeal.Read.val_main_v196 (F := Ideal) g m = newM g m := rfl
theorem readV8 (g v : S1x1024.Idx → EReal) : Cert.AdamwSmallReferenceIdeal.Read.val_main_v202 (F := Ideal) g v = newV g v := rfl

end Cert.AdamwSmallIdeal.Whole

end
-- ==== Proof.Norm.lean ====
/- A row's root-mean-square normalisation over the extended reals, and the two ways of writing its gradient: gathered around the
   row's mean, or as the sum of the three terms the chain rule gives. They are equal whatever the row holds. -/
module

public import Idealize.ShloMosaic.Lib.Pipeline.ValueKit
public import Idealize.ShloMosaic.Lib.Pipeline.ReadBack
public import proofs.«01_k».proof.Proof.Mat

@[expose] public section

noncomputable section

namespace Cert.Norm

open Idealize.ShloMosaic

/-- The mean of a row's squares, the small constant added. -/
def sq (x : Fin 2048 → EReal) : EReal :=
  Ideal.div (∑ j, x j * x j) (Ideal.ofBits .f32 0x45000000#32) + Ideal.ofBits .f32 0x358637BD#32

/-- The factor a row is multiplied by. -/
def inv (x : Fin 2048 → EReal) : EReal := Ideal.rsqrt (sq x)

/-- The gradient at entry `i` of a row `x`, given the gradient `u` of the normalised row. -/
def back (x u : Fin 2048 → EReal) (i : Fin 2048) : EReal :=
  inv x * (u i - x i * inv x * Ideal.div (∑ j, u j * (x j * inv x)) (Ideal.ofBits .f32 0x45000000#32))

/-- The factor the chain rule gives through the mean of the squares. -/
def chain (x u : Fin 2048 → EReal) : EReal :=
  Ideal.div ((∑ j, x j * u j) * (Ideal.ofBits .f32 0xBF000000#32 * Ideal.div (inv x) (sq x))) (Ideal.ofBits .f32 0x45000000#32)

theorem ofBits_width : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_small : ∃ e : ℝ, 0 < e ∧ Ideal.ofBits .f32 0x358637BD#32 = (e : EReal) := by
  refine ⟨_, ?_, by simp only [Ideal.ofBits, Ideal.ieee]; rfl⟩
  rw [if_neg (by decide)]
  positivity

theorem sum_coe {n : ℕ} (f : Fin n → ℝ) : ∑ j, (f j : EReal) = ((∑ j, f j : ℝ) : EReal) := by
  induction n with
  | zero => simp
  | succ n ih => rw [Fin.sum_univ_succ, Fin.sum_univ_succ, ih, EReal.coe_add]

/-- A non-negative real factor goes through a sum. -/
theorem sum_mul_coe {n : ℕ} (f : Fin n → EReal) (p : ℝ) (hp : 0 ≤ p) : ∑ j, f j * (p : EReal) = (∑ j, f j) * (p : EReal) := by
  induction n with
  | zero => simp
  | succ n ih =>
    rw [Fin.sum_univ_succ, Fin.sum_univ_succ, ih, EReal.right_distrib_of_nonneg_of_ne_top (EReal.coe_nonneg.mpr hp) (EReal.coe_ne_top p)]

theorem sq_nonneg (a : EReal) : 0 ≤ a * a := by
  rcases le_total 0 a with h | h
  · exact mul_nonneg h h
  · have h' : 0 ≤ -a := EReal.neg_nonneg.mpr h
    have := mul_nonneg h' h'
    rwa [neg_mul_neg] at this

/-- A row with an infinite entry has an infinite mean square. -/
theorem sq_top (x : Fin 2048 → EReal) (k : Fin 2048) (h : x k = ⊤ ∨ x k = ⊥) : sq x = ⊤ := by
  obtain ⟨e, -, he⟩ := ofBits_small
  have hk : x k * x k = ⊤ := by rcases h with h | h <;> rw [h] <;> simp
  have hs : ∑ j, x j * x j = ⊤ :=
    top_le_iff.mp (hk ▸ Finset.single_le_sum (fun j _ => sq_nonneg (x j)) (Finset.mem_univ k))
  unfold sq
  rw [hs, he, ofBits_width, Ideal.div_coe (by norm_num), EReal.top_mul_coe_of_pos (by norm_num), EReal.top_add_coe]

/-- A row of reals has a positive real mean square. -/
theorem sq_coe (a : Fin 2048 → ℝ) : ∃ v : ℝ, 0 < v ∧ sq (fun j => (a j : EReal)) = (v : EReal) := by
  obtain ⟨e, h0, he⟩ := ofBits_small
  refine ⟨(∑ j, a j * a j) * (1 / 2048) + e, add_pos_of_nonneg_of_pos (mul_nonneg (Finset.sum_nonneg fun j _ => mul_self_nonneg _)
    (by norm_num)) h0, ?_⟩
  unfold sq
  rw [he, ofBits_width, Ideal.div_coe (by norm_num), EReal.coe_add, EReal.coe_mul, ← sum_coe]
  simp only [EReal.coe_mul]

theorem back_eq (x u : Fin 2048 → EReal) (i : Fin 2048) : back x u i = u i * inv x + x i * chain x u + chain x u * x i := by
  by_cases hx : ∃ k, x k = ⊤ ∨ x k = ⊥
  · obtain ⟨k, hk⟩ := hx
    have hi : inv x = 0 := by rw [inv, sq_top x k hk]; rfl
    have hc : chain x u = 0 := by
      unfold chain
      rw [hi, sq_top x k hk, ofBits_width, Ideal.div_coe (by norm_num)]
      have : Ideal.div 0 ⊤ = 0 := by simp [Ideal.div]
      rw [this, mul_zero, mul_zero, zero_mul]
    rw [back, hi, hc, zero_mul, mul_zero, mul_zero, zero_mul, add_zero, add_zero]
  · have hr : ∀ k, ∃ a : ℝ, x k = (a : EReal) := fun k => by
      have h1 : x k ≠ ⊤ := fun h => hx ⟨k, Or.inl h⟩
      have h2 : x k ≠ ⊥ := fun h => hx ⟨k, Or.inr h⟩
      exact ⟨(x k).toReal, (EReal.coe_toReal h1 h2).symm⟩
    choose a ha using hr
    obtain rfl : x = fun k => (a k : EReal) := funext ha
    obtain ⟨v, hv, hs⟩ := sq_coe a
    have hp : 0 < (Real.sqrt v)⁻¹ := inv_pos.mpr (Real.sqrt_pos.mpr hv)
    have hi : inv (fun k => (a k : EReal)) = (((Real.sqrt v)⁻¹ : ℝ) : EReal) := by
      rw [inv, hs, Ideal.rsqrt_coe, if_neg hv.not_gt, if_neg hv.ne']
    have hq : (Real.sqrt v)⁻¹ * (Real.sqrt v)⁻¹ = 1 / v := by
      rw [← mul_inv, Real.mul_self_sqrt hv.le, one_div]
    unfold back chain
    rw [hi, hs, ofBits_width, ofBits_neg_half, Ideal.div_coe (by norm_num), Ideal.div_coe (by norm_num), Ideal.div_coe hv.ne']
    generalize (Real.sqrt v)⁻¹ = p at hp hq
    have hsum : ∑ j, u j * ((a j : EReal) * (p : EReal)) = (∑ j, (a j : EReal) * u j) * (p : EReal) := by
      rw [← sum_mul_coe _ _ hp.le]
      exact Finset.sum_congr rfl fun j _ => by rw [← mul_assoc, mul_comm (u j)]
    rw [hsum, sub_eq_add_neg, EReal.left_distrib_of_nonneg_of_ne_top (EReal.coe_nonneg.mpr hp.le) (EReal.coe_ne_top p)]
    generalize ∑ j, (a j : EReal) * u j = S
    have e1 : (a i : EReal) * (S * ((((-(1 / 2) : ℝ) : EReal)) * ((p : EReal) * ((1 / v : ℝ) : EReal))) * ((1 / 2048 : ℝ) : EReal))
        = S * ((a i * (-(1 / 2) * (p * (1 / v))) * (1 / 2048) : ℝ) : EReal) := by
      simp only [EReal.coe_mul]; ac_rfl
    have e2 : (p : EReal) * -((a i : EReal) * (p : EReal) * (S * (p : EReal) * ((1 / 2048 : ℝ) : EReal)))
        = S * ((2 * (a i * (-(1 / 2) * (p * (1 / v))) * (1 / 2048)) : ℝ) : EReal) := by
      rw [← hq, mul_neg, ← neg_mul, ← EReal.coe_neg]
      have : (2 * (a i * (-(1 / 2) * (p * (p * p))) * (1 / 2048)) : ℝ) = -p * (a i * p) * (p * (1 / 2048)) := by ring
      rw [this]
      simp only [EReal.coe_mul]; ac_rfl
    rw [mul_comm _ (a i : EReal), e1, e2, add_assoc, EReal.coe_mul, ← Cert.Mat.two_mul, mul_comm (p : EReal)]
    congr 1
    rw [show ((2 : ℝ) : EReal) = 2 from rfl]
    ac_rfl

end Cert.Norm

end
-- ==== Proof.SumSmall.lean ====
/- The small gradients of the eight devices, packed into rows of 128 lanes and added up: what the call writes, cut apart again, and
   what the reference computes, index by index. -/
module

public import proofs.«01_k».proof.Proof.Gen.SumSmallIdeal.Frame
public import proofs.«01_k».proof.Proof.Gen.SumSmallReferenceIdeal.Run
public import proofs.«01_k».proof.Proof.Gen.SumSmallReferenceIdeal.Read
public import Idealize.ShloMosaic.Lib.KernelVsHost
public import proofs.«01_k».proof.Proof.Mat
public import proofs.«01_k».proof.Proof.Adamw
public import proofs.«01_k».proof.Proof.Norm

@[expose] public section

set_option maxRecDepth 16384
set_option maxHeartbeats 400000

noncomputable section

namespace Cert.SumSmallIdeal.Whole

open Idealize.ShloMosaic Idealize.ShloMosaic.TcCoe Idealize.ShloMosaic.Tactic Idealize.SL.Sem
open Cert.SumSmallIdeal Cert.SumSmallIdeal.Gen
open Cert.Mat Cert.Adamw

/-- What fills the padding. -/
abbrev fill : S_.Idx → EReal := (sitofp .f32 (constantI S_ 32 0#32) : FVec Ideal S_ .f32)

/-! ## The packing -/

/-- The contributions of shape `2x4x2048`, one per device, as 128 rows each. -/
def rows_2x4x2048 (x : S8x2x4x2048.Idx → EReal) : S8x128x128.Idx → EReal :=
  shapeCast S8x128x128 (pad S8x16384 ![0, 0] ![0, 0] ![0, 0] (shapeCast S8x16384 x shapeCasts_S8x2x4x2048_S8x16384) fill pads_S8x16384_S8x16384_000_000 h_S_) shapeCasts_S8x16384_S8x128x128

theorem rows_2x4x2048_apply (x : S8x2x4x2048.Idx → EReal) (d : Fin 8) (i : S2x4x2048.Idx) (y : S128x128.Idx)
    (h : (y 0).val * 128 + (y 1).val = (((i 0).val * 4 + (i 1).val) * 2048 + (i 2).val)) : rows_2x4x2048 x (ix3 d (y 0) (y 1)) = x (ix4 d (i 0) (i 1) (i 2)) := by
  have i0 : (i 0).val < 2 := (i 0).isLt
  have i1 : (i 1).val < 4 := (i 1).isLt
  have i2 : (i 2).val < 2048 := (i 2).isLt
  have hd : d.val < 8 := d.isLt
  have hq : (((i 0).val * 4 + (i 1).val) * 2048 + (i 2).val) < 16384 := by omega
  unfold rows_2x4x2048
  refine (shapeCast_apply _ _ (ix3 d (y 0) (y 1)) (ix2 d ⟨(((i 0).val * 4 + (i 1).val) * 2048 + (i 2).val), hq⟩) ?_).trans
    ((pad_apply_of_inside _ _ _ _ _ _ _ _ (ix2 d ⟨(((i 0).val * 4 + (i 1).val) * 2048 + (i 2).val), hq⟩) fun a => by fin_cases a <;> simp).trans
      (shapeCast_apply _ _ _ (ix4 d (i 0) (i 1) (i 2)) ?_))
  · rw [Shape.rowMajor_val_two, Shape.rowMajor_val_three]
    show d.val * 16384 + (((i 0).val * 4 + (i 1).val) * 2048 + (i 2).val) = (d.val * 128 + (y 0).val) * 128 + (y 1).val
    omega
  · rw [Shape.rowMajor_val_four, Shape.rowMajor_val_two]
    show (((d.val * 2 + (i 0).val) * 4 + (i 1).val) * 2048 + (i 2).val) = d.val * 16384 + (((i 0).val * 4 + (i 1).val) * 2048 + (i 2).val)
    omega

/-- The contributions of shape `3x1024`, one per device, as 24 rows each. -/
def rows_3x1024 (x : S8x3x1024.Idx → EReal) : S8x24x128.Idx → EReal :=
  shapeCast S8x24x128 (pad S8x3072 ![0, 0] ![0, 0] ![0, 0] (shapeCast S8x3072 x shapeCasts_S8x3x1024_S8x3072) fill pads_S8x3072_S8x3072_000_000 h_S_) shapeCasts_S8x3072_S8x24x128

theorem rows_3x1024_apply (x : S8x3x1024.Idx → EReal) (d : Fin 8) (i : S3x1024.Idx) (y : S24x128.Idx)
    (h : (y 0).val * 128 + (y 1).val = ((i 0).val * 1024 + (i 1).val)) : rows_3x1024 x (ix3 d (y 0) (y 1)) = x (ix3 d (i 0) (i 1)) := by
  have i0 : (i 0).val < 3 := (i 0).isLt
  have i1 : (i 1).val < 1024 := (i 1).isLt
  have hd : d.val < 8 := d.isLt
  have hq : ((i 0).val * 1024 + (i 1).val) < 3072 := by omega
  unfold rows_3x1024
  refine (shapeCast_apply _ _ (ix3 d (y 0) (y 1)) (ix2 d ⟨((i 0).val * 1024 + (i 1).val), hq⟩) ?_).trans
    ((pad_apply_of_inside _ _ _ _ _ _ _ _ (ix2 d ⟨((i 0).val * 1024 + (i 1).val), hq⟩) fun a => by fin_cases a <;> simp).trans
      (shapeCast_apply _ _ _ (ix3 d (i 0) (i 1)) ?_))
  · rw [Shape.rowMajor_val_two, Shape.rowMajor_val_three]
    show d.val * 3072 + ((i 0).val * 1024 + (i 1).val) = (d.val * 24 + (y 0).val) * 128 + (y 1).val
    omega
  · rw [Shape.rowMajor_val_three, Shape.rowMajor_val_two]
    show ((d.val * 3 + (i 0).val) * 1024 + (i 1).val) = d.val * 3072 + ((i 0).val * 1024 + (i 1).val)
    omega

/-- The contributions of shape `4x1024`, one per device, as 32 rows each. -/
def rows_4x1024 (x : S8x4x1024.Idx → EReal) : S8x32x128.Idx → EReal :=
  shapeCast S8x32x128 (pad S8x4096 ![0, 0] ![0, 0] ![0, 0] (shapeCast S8x4096 x shapeCasts_S8x4x1024_S8x4096) fill pads_S8x4096_S8x4096_000_000 h_S_) shapeCasts_S8x4096_S8x32x128

theorem rows_4x1024_apply (x : S8x4x1024.Idx → EReal) (d : Fin 8) (i : S4x1024.Idx) (y : S32x128.Idx)
    (h : (y 0).val * 128 + (y 1).val = ((i 0).val * 1024 + (i 1).val)) : rows_4x1024 x (ix3 d (y 0) (y 1)) = x (ix3 d (i 0) (i 1)) := by
  have i0 : (i 0).val < 4 := (i 0).isLt
  have i1 : (i 1).val < 1024 := (i 1).isLt
  have hd : d.val < 8 := d.isLt
  have hq : ((i 0).val * 1024 + (i 1).val) < 4096 := by omega
  unfold rows_4x1024
  refine (shapeCast_apply _ _ (ix3 d (y 0) (y 1)) (ix2 d ⟨((i 0).val * 1024 + (i 1).val), hq⟩) ?_).trans
    ((pad_apply_of_inside _ _ _ _ _ _ _ _ (ix2 d ⟨((i 0).val * 1024 + (i 1).val), hq⟩) fun a => by fin_cases a <;> simp).trans
      (shapeCast_apply _ _ _ (ix3 d (i 0) (i 1)) ?_))
  · rw [Shape.rowMajor_val_two, Shape.rowMajor_val_three]
    show d.val * 4096 + ((i 0).val * 1024 + (i 1).val) = (d.val * 32 + (y 0).val) * 128 + (y 1).val
    omega
  · rw [Shape.rowMajor_val_three, Shape.rowMajor_val_two]
    show ((d.val * 4 + (i 0).val) * 1024 + (i 1).val) = d.val * 4096 + ((i 0).val * 1024 + (i 1).val)
    omega

/-- The contributions of shape `1x1024`, one per device, as 8 rows each. -/
def rows_1x1024 (x : S8x1x1024.Idx → EReal) : S8x8x128.Idx → EReal :=
  shapeCast S8x8x128 (pad S8x1024 ![0, 0] ![0, 0] ![0, 0] (shapeCast S8x1024 x shapeCasts_S8x1x1024_S8x1024) fill pads_S8x1024_S8x1024_000_000 h_S_) shapeCasts_S8x1024_S8x8x128

theorem rows_1x1024_apply (x : S8x1x1024.Idx → EReal) (d : Fin 8) (i : S1x1024.Idx) (y : S8x128.Idx)
    (h : (y 0).val * 128 + (y 1).val = ((i 0).val * 1024 + (i 1).val)) : rows_1x1024 x (ix3 d (y 0) (y 1)) = x (ix3 d (i 0) (i 1)) := by
  have i0 : (i 0).val < 1 := (i 0).isLt
  have i1 : (i 1).val < 1024 := (i 1).isLt
  have hd : d.val < 8 := d.isLt
  have hq : ((i 0).val * 1024 + (i 1).val) < 1024 := by omega
  unfold rows_1x1024
  refine (shapeCast_apply _ _ (ix3 d (y 0) (y 1)) (ix2 d ⟨((i 0).val * 1024 + (i 1).val), hq⟩) ?_).trans
    ((pad_apply_of_inside _ _ _ _ _ _ _ _ (ix2 d ⟨((i 0).val * 1024 + (i 1).val), hq⟩) fun a => by fin_cases a <;> simp).trans
      (shapeCast_apply _ _ _ (ix3 d (i 0) (i 1)) ?_))
  · rw [Shape.rowMajor_val_two, Shape.rowMajor_val_three]
    show d.val * 1024 + ((i 0).val * 1024 + (i 1).val) = (d.val * 8 + (y 0).val) * 128 + (y 1).val
    omega
  · rw [Shape.rowMajor_val_three, Shape.rowMajor_val_two]
    show ((d.val * 1 + (i 0).val) * 1024 + (i 1).val) = d.val * 1024 + ((i 0).val * 1024 + (i 1).val)
    omega

/-- The contributions of shape `16x64x64`, one per device, as 512 rows each. -/
def rows_16x64x64 (x : S8x16x64x64.Idx → EReal) : S8x512x128.Idx → EReal :=
  shapeCast S8x512x128 (pad S8x65536 ![0, 0] ![0, 0] ![0, 0] (shapeCast S8x65536 x shapeCasts_S8x16x64x64_S8x65536) fill pads_S8x65536_S8x65536_000_000 h_S_) shapeCasts_S8x65536_S8x512x128

theorem rows_16x64x64_apply (x : S8x16x64x64.Idx → EReal) (d : Fin 8) (i : S16x64x64.Idx) (y : S512x128.Idx)
    (h : (y 0).val * 128 + (y 1).val = (((i 0).val * 64 + (i 1).val) * 64 + (i 2).val)) : rows_16x64x64 x (ix3 d (y 0) (y 1)) = x (ix4 d (i 0) (i 1) (i 2)) := by
  have i0 : (i 0).val < 16 := (i 0).isLt
  have i1 : (i 1).val < 64 := (i 1).isLt
  have i2 : (i 2).val < 64 := (i 2).isLt
  have hd : d.val < 8 := d.isLt
  have hq : (((i 0).val * 64 + (i 1).val) * 64 + (i 2).val) < 65536 := by omega
  unfold rows_16x64x64
  refine (shapeCast_apply _ _ (ix3 d (y 0) (y 1)) (ix2 d ⟨(((i 0).val * 64 + (i 1).val) * 64 + (i 2).val), hq⟩) ?_).trans
    ((pad_apply_of_inside _ _ _ _ _ _ _ _ (ix2 d ⟨(((i 0).val * 64 + (i 1).val) * 64 + (i 2).val), hq⟩) fun a => by fin_cases a <;> simp).trans
      (shapeCast_apply _ _ _ (ix4 d (i 0) (i 1) (i 2)) ?_))
  · rw [Shape.rowMajor_val_two, Shape.rowMajor_val_three]
    show d.val * 65536 + (((i 0).val * 64 + (i 1).val) * 64 + (i 2).val) = (d.val * 512 + (y 0).val) * 128 + (y 1).val
    omega
  · rw [Shape.rowMajor_val_four, Shape.rowMajor_val_two]
    show (((d.val * 16 + (i 0).val) * 64 + (i 1).val) * 64 + (i 2).val) = d.val * 65536 + (((i 0).val * 64 + (i 1).val) * 64 + (i 2).val)
    omega

/-- The contributions of shape `1`, one per device, as 8 rows each. -/
def rows_1 (x : S8x1.Idx → EReal) : S8x8x128.Idx → EReal :=
  shapeCast S8x8x128 (pad S8x1024 ![0, 0] ![0, 1023] ![0, 0] x fill pads_S8x1_S8x1024_000_010230 h_S_) shapeCasts_S8x1024_S8x8x128

theorem rows_1_apply (x : S8x1.Idx → EReal) (d : Fin 8) (y : S8x128.Idx)
    (h : (y 0).val * 128 + (y 1).val = 0) : rows_1 x (ix3 d (y 0) (y 1)) = x (ix2 d 0) := by
  unfold rows_1
  refine (shapeCast_apply _ _ (ix3 d (y 0) (y 1)) (ix2 d ⟨0, by decide⟩) ?_).trans
    (pad_apply_of_inside _ _ _ _ _ _ _ _ (ix2 d 0) fun a => by fin_cases a <;> simp)
  rw [Shape.rowMajor_val_two, Shape.rowMajor_val_three]
  show d.val * 1024 + 0 = (d.val * 8 + (y 0).val) * 128 + (y 1).val
  omega

/-- The pieces, one after another. -/
abbrev parts (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) : List ((s : Shape) × (s.Idx → EReal)) :=
  [⟨S8x128x128, rows_2x4x2048 x0⟩, ⟨S8x24x128, rows_3x1024 x1⟩, ⟨S8x32x128, rows_4x1024 x2⟩, ⟨S8x8x128, rows_1x1024 x3⟩, ⟨S8x512x128, rows_16x64x64 x4⟩, ⟨S8x8x128, rows_1x1024 x5⟩, ⟨S8x512x128, rows_16x64x64 x6⟩, ⟨S8x8x128, rows_1x1024 x7⟩, ⟨S8x8x128, rows_1x1024 x8⟩, ⟨S8x8x128, rows_1 x9⟩]

/-- All contributions, packed. -/
def pack (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) : S8x1248x128.Idx → EReal :=
  concatenate S8x1248x128 1 (parts x0 x1 x2 x3 x4 x5 x6 x7 x8 x9) concatenates_S8x128x128_S8x24x128_S8x32x128_S8x8x128_S8x512x128_S8x8x128_S8x512x128_S8x8x128_S8x8x128_S8x8x128_S8x1248x128_d1

theorem pack_apply0 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S2x4x2048.Idx) (y : S1248x128.Idx) (h : (y 0).val * 128 + (y 1).val = 0 + (((i 0).val * 4 + (i 1).val) * 2048 + (i 2).val)) :
    pack x0 x1 x2 x3 x4 x5 x6 x7 x8 x9 (ix3 d (y 0) (y 1)) = x0 (ix4 d (i 0) (i 1) (i 2)) := by
  have i0 : (i 0).val < 2 := (i 0).isLt
  have i1 : (i 1).val < 4 := (i 1).isLt
  have i2 : (i 2).val < 2048 := (i 2).isLt
  have y1 : (y 1).val < 128 := (y 1).isLt
  have hr : (y 0).val - 0 < 128 := by omega
  unfold pack
  refine (concatenate_apply_piece (t := S8x1248x128) (1 : Fin 3) (parts x0 x1 x2 x3 x4 x5 x6 x7 x8 x9) _ _ 0 (show 0 < 10 by decide) S8x128x128 (rows_2x4x2048 x0) rfl rfl 0 rfl
    (ix3 d ⟨(y 0).val - 0, hr⟩ (y 1)) (fun b hb => ?_) ?_).trans (rows_2x4x2048_apply x0 d i (ix2 ⟨(y 0).val - 0, hr⟩ (y 1)) (by show ((y 0).val - 0) * 128 + (y 1).val = (((i 0).val * 4 + (i 1).val) * 2048 + (i 2).val); omega))
  · fin_cases b
    · rfl
    · exact absurd rfl hb
    · rfl
  · show 0 + ((y 0).val - 0) = (y 0).val
    omega

theorem pack_apply1 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S3x1024.Idx) (y : S1248x128.Idx) (h : (y 0).val * 128 + (y 1).val = 16384 + ((i 0).val * 1024 + (i 1).val)) :
    pack x0 x1 x2 x3 x4 x5 x6 x7 x8 x9 (ix3 d (y 0) (y 1)) = x1 (ix3 d (i 0) (i 1)) := by
  have i0 : (i 0).val < 3 := (i 0).isLt
  have i1 : (i 1).val < 1024 := (i 1).isLt
  have y1 : (y 1).val < 128 := (y 1).isLt
  have hr : (y 0).val - 128 < 24 := by omega
  unfold pack
  refine (concatenate_apply_piece (t := S8x1248x128) (1 : Fin 3) (parts x0 x1 x2 x3 x4 x5 x6 x7 x8 x9) _ _ 1 (show 1 < 10 by decide) S8x24x128 (rows_3x1024 x1) rfl rfl 128 rfl
    (ix3 d ⟨(y 0).val - 128, hr⟩ (y 1)) (fun b hb => ?_) ?_).trans (rows_3x1024_apply x1 d i (ix2 ⟨(y 0).val - 128, hr⟩ (y 1)) (by show ((y 0).val - 128) * 128 + (y 1).val = ((i 0).val * 1024 + (i 1).val); omega))
  · fin_cases b
    · rfl
    · exact absurd rfl hb
    · rfl
  · show 128 + ((y 0).val - 128) = (y 0).val
    omega

theorem pack_apply2 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S4x1024.Idx) (y : S1248x128.Idx) (h : (y 0).val * 128 + (y 1).val = 19456 + ((i 0).val * 1024 + (i 1).val)) :
    pack x0 x1 x2 x3 x4 x5 x6 x7 x8 x9 (ix3 d (y 0) (y 1)) = x2 (ix3 d (i 0) (i 1)) := by
  have i0 : (i 0).val < 4 := (i 0).isLt
  have i1 : (i 1).val < 1024 := (i 1).isLt
  have y1 : (y 1).val < 128 := (y 1).isLt
  have hr : (y 0).val - 152 < 32 := by omega
  unfold pack
  refine (concatenate_apply_piece (t := S8x1248x128) (1 : Fin 3) (parts x0 x1 x2 x3 x4 x5 x6 x7 x8 x9) _ _ 2 (show 2 < 10 by decide) S8x32x128 (rows_4x1024 x2) rfl rfl 152 rfl
    (ix3 d ⟨(y 0).val - 152, hr⟩ (y 1)) (fun b hb => ?_) ?_).trans (rows_4x1024_apply x2 d i (ix2 ⟨(y 0).val - 152, hr⟩ (y 1)) (by show ((y 0).val - 152) * 128 + (y 1).val = ((i 0).val * 1024 + (i 1).val); omega))
  · fin_cases b
    · rfl
    · exact absurd rfl hb
    · rfl
  · show 152 + ((y 0).val - 152) = (y 0).val
    omega

theorem pack_apply3 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S1x1024.Idx) (y : S1248x128.Idx) (h : (y 0).val * 128 + (y 1).val = 23552 + ((i 0).val * 1024 + (i 1).val)) :
    pack x0 x1 x2 x3 x4 x5 x6 x7 x8 x9 (ix3 d (y 0) (y 1)) = x3 (ix3 d (i 0) (i 1)) := by
  have i0 : (i 0).val < 1 := (i 0).isLt
  have i1 : (i 1).val < 1024 := (i 1).isLt
  have y1 : (y 1).val < 128 := (y 1).isLt
  have hr : (y 0).val - 184 < 8 := by omega
  unfold pack
  refine (concatenate_apply_piece (t := S8x1248x128) (1 : Fin 3) (parts x0 x1 x2 x3 x4 x5 x6 x7 x8 x9) _ _ 3 (show 3 < 10 by decide) S8x8x128 (rows_1x1024 x3) rfl rfl 184 rfl
    (ix3 d ⟨(y 0).val - 184, hr⟩ (y 1)) (fun b hb => ?_) ?_).trans (rows_1x1024_apply x3 d i (ix2 ⟨(y 0).val - 184, hr⟩ (y 1)) (by show ((y 0).val - 184) * 128 + (y 1).val = ((i 0).val * 1024 + (i 1).val); omega))
  · fin_cases b
    · rfl
    · exact absurd rfl hb
    · rfl
  · show 184 + ((y 0).val - 184) = (y 0).val
    omega

theorem pack_apply4 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S16x64x64.Idx) (y : S1248x128.Idx) (h : (y 0).val * 128 + (y 1).val = 24576 + (((i 0).val * 64 + (i 1).val) * 64 + (i 2).val)) :
    pack x0 x1 x2 x3 x4 x5 x6 x7 x8 x9 (ix3 d (y 0) (y 1)) = x4 (ix4 d (i 0) (i 1) (i 2)) := by
  have i0 : (i 0).val < 16 := (i 0).isLt
  have i1 : (i 1).val < 64 := (i 1).isLt
  have i2 : (i 2).val < 64 := (i 2).isLt
  have y1 : (y 1).val < 128 := (y 1).isLt
  have hr : (y 0).val - 192 < 512 := by omega
  unfold pack
  refine (concatenate_apply_piece (t := S8x1248x128) (1 : Fin 3) (parts x0 x1 x2 x3 x4 x5 x6 x7 x8 x9) _ _ 4 (show 4 < 10 by decide) S8x512x128 (rows_16x64x64 x4) rfl rfl 192 rfl
    (ix3 d ⟨(y 0).val - 192, hr⟩ (y 1)) (fun b hb => ?_) ?_).trans (rows_16x64x64_apply x4 d i (ix2 ⟨(y 0).val - 192, hr⟩ (y 1)) (by show ((y 0).val - 192) * 128 + (y 1).val = (((i 0).val * 64 + (i 1).val) * 64 + (i 2).val); omega))
  · fin_cases b
    · rfl
    · exact absurd rfl hb
    · rfl
  · show 192 + ((y 0).val - 192) = (y 0).val
    omega

theorem pack_apply5 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S1x1024.Idx) (y : S1248x128.Idx) (h : (y 0).val * 128 + (y 1).val = 90112 + ((i 0).val * 1024 + (i 1).val)) :
    pack x0 x1 x2 x3 x4 x5 x6 x7 x8 x9 (ix3 d (y 0) (y 1)) = x5 (ix3 d (i 0) (i 1)) := by
  have i0 : (i 0).val < 1 := (i 0).isLt
  have i1 : (i 1).val < 1024 := (i 1).isLt
  have y1 : (y 1).val < 128 := (y 1).isLt
  have hr : (y 0).val - 704 < 8 := by omega
  unfold pack
  refine (concatenate_apply_piece (t := S8x1248x128) (1 : Fin 3) (parts x0 x1 x2 x3 x4 x5 x6 x7 x8 x9) _ _ 5 (show 5 < 10 by decide) S8x8x128 (rows_1x1024 x5) rfl rfl 704 rfl
    (ix3 d ⟨(y 0).val - 704, hr⟩ (y 1)) (fun b hb => ?_) ?_).trans (rows_1x1024_apply x5 d i (ix2 ⟨(y 0).val - 704, hr⟩ (y 1)) (by show ((y 0).val - 704) * 128 + (y 1).val = ((i 0).val * 1024 + (i 1).val); omega))
  · fin_cases b
    · rfl
    · exact absurd rfl hb
    · rfl
  · show 704 + ((y 0).val - 704) = (y 0).val
    omega

theorem pack_apply6 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S16x64x64.Idx) (y : S1248x128.Idx) (h : (y 0).val * 128 + (y 1).val = 91136 + (((i 0).val * 64 + (i 1).val) * 64 + (i 2).val)) :
    pack x0 x1 x2 x3 x4 x5 x6 x7 x8 x9 (ix3 d (y 0) (y 1)) = x6 (ix4 d (i 0) (i 1) (i 2)) := by
  have i0 : (i 0).val < 16 := (i 0).isLt
  have i1 : (i 1).val < 64 := (i 1).isLt
  have i2 : (i 2).val < 64 := (i 2).isLt
  have y1 : (y 1).val < 128 := (y 1).isLt
  have hr : (y 0).val - 712 < 512 := by omega
  unfold pack
  refine (concatenate_apply_piece (t := S8x1248x128) (1 : Fin 3) (parts x0 x1 x2 x3 x4 x5 x6 x7 x8 x9) _ _ 6 (show 6 < 10 by decide) S8x512x128 (rows_16x64x64 x6) rfl rfl 712 rfl
    (ix3 d ⟨(y 0).val - 712, hr⟩ (y 1)) (fun b hb => ?_) ?_).trans (rows_16x64x64_apply x6 d i (ix2 ⟨(y 0).val - 712, hr⟩ (y 1)) (by show ((y 0).val - 712) * 128 + (y 1).val = (((i 0).val * 64 + (i 1).val) * 64 + (i 2).val); omega))
  · fin_cases b
    · rfl
    · exact absurd rfl hb
    · rfl
  · show 712 + ((y 0).val - 712) = (y 0).val
    omega

theorem pack_apply7 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S1x1024.Idx) (y : S1248x128.Idx) (h : (y 0).val * 128 + (y 1).val = 156672 + ((i 0).val * 1024 + (i 1).val)) :
    pack x0 x1 x2 x3 x4 x5 x6 x7 x8 x9 (ix3 d (y 0) (y 1)) = x7 (ix3 d (i 0) (i 1)) := by
  have i0 : (i 0).val < 1 := (i 0).isLt
  have i1 : (i 1).val < 1024 := (i 1).isLt
  have y1 : (y 1).val < 128 := (y 1).isLt
  have hr : (y 0).val - 1224 < 8 := by omega
  unfold pack
  refine (concatenate_apply_piece (t := S8x1248x128) (1 : Fin 3) (parts x0 x1 x2 x3 x4 x5 x6 x7 x8 x9) _ _ 7 (show 7 < 10 by decide) S8x8x128 (rows_1x1024 x7) rfl rfl 1224 rfl
    (ix3 d ⟨(y 0).val - 1224, hr⟩ (y 1)) (fun b hb => ?_) ?_).trans (rows_1x1024_apply x7 d i (ix2 ⟨(y 0).val - 1224, hr⟩ (y 1)) (by show ((y 0).val - 1224) * 128 + (y 1).val = ((i 0).val * 1024 + (i 1).val); omega))
  · fin_cases b
    · rfl
    · exact absurd rfl hb
    · rfl
  · show 1224 + ((y 0).val - 1224) = (y 0).val
    omega

theorem pack_apply8 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (i : S1x1024.Idx) (y : S1248x128.Idx) (h : (y 0).val * 128 + (y 1).val = 157696 + ((i 0).val * 1024 + (i 1).val)) :
    pack x0 x1 x2 x3 x4 x5 x6 x7 x8 x9 (ix3 d (y 0) (y 1)) = x8 (ix3 d (i 0) (i 1)) := by
  have i0 : (i 0).val < 1 := (i 0).isLt
  have i1 : (i 1).val < 1024 := (i 1).isLt
  have y1 : (y 1).val < 128 := (y 1).isLt
  have hr : (y 0).val - 1232 < 8 := by omega
  unfold pack
  refine (concatenate_apply_piece (t := S8x1248x128) (1 : Fin 3) (parts x0 x1 x2 x3 x4 x5 x6 x7 x8 x9) _ _ 8 (show 8 < 10 by decide) S8x8x128 (rows_1x1024 x8) rfl rfl 1232 rfl
    (ix3 d ⟨(y 0).val - 1232, hr⟩ (y 1)) (fun b hb => ?_) ?_).trans (rows_1x1024_apply x8 d i (ix2 ⟨(y 0).val - 1232, hr⟩ (y 1)) (by show ((y 0).val - 1232) * 128 + (y 1).val = ((i 0).val * 1024 + (i 1).val); omega))
  · fin_cases b
    · rfl
    · exact absurd rfl hb
    · rfl
  · show 1232 + ((y 0).val - 1232) = (y 0).val
    omega

theorem pack_apply9 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal)
    (d : Fin 8) (y : S1248x128.Idx) (h : (y 0).val * 128 + (y 1).val = 158720) :
    pack x0 x1 x2 x3 x4 x5 x6 x7 x8 x9 (ix3 d (y 0) (y 1)) = x9 (ix2 d 0) := by
  have y1 : (y 1).val < 128 := (y 1).isLt
  have hr : (y 0).val - 1240 < 8 := by omega
  unfold pack
  refine (concatenate_apply_piece (t := S8x1248x128) (1 : Fin 3) (parts x0 x1 x2 x3 x4 x5 x6 x7 x8 x9) _ _ 9 (show 9 < 10 by decide) S8x8x128 (rows_1 x9) rfl rfl 1240 rfl
    (ix3 d ⟨(y 0).val - 1240, hr⟩ (y 1)) (fun b hb => ?_) ?_).trans (rows_1_apply x9 d (ix2 ⟨(y 0).val - 1240, hr⟩ (y 1)) (by show ((y 0).val - 1240) * 128 + (y 1).val = 0; omega))
  · fin_cases b
    · rfl
    · exact absurd rfl hb
    · rfl
  · show 1240 + ((y 0).val - 1240) = (y 0).val
    omega

/-! ## Cutting apart -/

/-- Array 0 cut out of the sum. -/
def piece0 (Y : S1248x128.Idx → EReal) : S2x4x2048.Idx → EReal :=
  shapeCast S2x4x2048 (shapeCast S16384 (extractStridedSlice S128x128 ![0, 0] Y slices_S1248x128_S128x128_0_0) shapeCasts_S128x128_S16384) shapeCasts_S16384_S2x4x2048

theorem piece0_apply (Y : S1248x128.Idx → EReal) (i : S2x4x2048.Idx) :
    ∃ y : S1248x128.Idx, (y 0).val * 128 + (y 1).val = 0 + (((i 0).val * 4 + (i 1).val) * 2048 + (i 2).val) ∧ piece0 Y i = Y y := by
  have i0 : (i 0).val < 2 := (i 0).isLt
  have i1 : (i 1).val < 4 := (i 1).isLt
  have i2 : (i 2).val < 2048 := (i 2).isLt
  have hq : (((i 0).val * 4 + (i 1).val) * 2048 + (i 2).val) < 16384 := by omega
  generalize hg : (((i 0).val * 4 + (i 1).val) * 2048 + (i 2).val) = q at hq
  refine ⟨ix2 ⟨0 + q / 128, by omega⟩ ⟨q % 128, by omega⟩, by show (0 + q / 128) * 128 + q % 128 = 0 + q; omega, ?_⟩
  unfold piece0
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_three]
    exact hg.symm
  · rw [Shape.rowMajor_val_one, Shape.rowMajor_val_two]
    show q / 128 * 128 + q % 128 = q
    omega

/-- Result 0 cut out of the sum. -/
abbrev cut0 (Y : S1248x128.Idx → EReal) : S2x4x2048.Idx → EReal := piece0 Y

/-- Array 1 cut out of the sum. -/
def piece1 (Y : S1248x128.Idx → EReal) : S3x1024.Idx → EReal :=
  shapeCast S3x1024 (shapeCast S3072 (extractStridedSlice S24x128 ![128, 0] Y slices_S1248x128_S24x128_128_0) shapeCasts_S24x128_S3072) shapeCasts_S3072_S3x1024

theorem piece1_apply (Y : S1248x128.Idx → EReal) (i : S3x1024.Idx) :
    ∃ y : S1248x128.Idx, (y 0).val * 128 + (y 1).val = 16384 + ((i 0).val * 1024 + (i 1).val) ∧ piece1 Y i = Y y := by
  have i0 : (i 0).val < 3 := (i 0).isLt
  have i1 : (i 1).val < 1024 := (i 1).isLt
  have hq : ((i 0).val * 1024 + (i 1).val) < 3072 := by omega
  generalize hg : ((i 0).val * 1024 + (i 1).val) = q at hq
  refine ⟨ix2 ⟨128 + q / 128, by omega⟩ ⟨q % 128, by omega⟩, by show (128 + q / 128) * 128 + q % 128 = 16384 + q; omega, ?_⟩
  unfold piece1
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_two]
    exact hg.symm
  · rw [Shape.rowMajor_val_one, Shape.rowMajor_val_two]
    show q / 128 * 128 + q % 128 = q
    omega

/-- Result 1 cut out of the sum. -/
def cut1 (Y : S1248x128.Idx → EReal) : S1x3x1024.Idx → EReal :=
  broadcastInDim S1x3x1024 ![1, 2] bcast_S3x1024_S1x3x1024_1_2 (piece1 Y)

theorem cut1_apply (Y : S1248x128.Idx → EReal) (i : S1x3x1024.Idx) : cut1 Y i = piece1 Y (ix2 (i 1) (i 2)) :=
  broadcastInDim_apply _ _ _ _ _ fun a => by fin_cases a <;> rfl

/-- Array 2 cut out of the sum. -/
def piece2 (Y : S1248x128.Idx → EReal) : S4x1024.Idx → EReal :=
  shapeCast S4x1024 (shapeCast S4096 (extractStridedSlice S32x128 ![152, 0] Y slices_S1248x128_S32x128_152_0) shapeCasts_S32x128_S4096) shapeCasts_S4096_S4x1024

theorem piece2_apply (Y : S1248x128.Idx → EReal) (i : S4x1024.Idx) :
    ∃ y : S1248x128.Idx, (y 0).val * 128 + (y 1).val = 19456 + ((i 0).val * 1024 + (i 1).val) ∧ piece2 Y i = Y y := by
  have i0 : (i 0).val < 4 := (i 0).isLt
  have i1 : (i 1).val < 1024 := (i 1).isLt
  have hq : ((i 0).val * 1024 + (i 1).val) < 4096 := by omega
  generalize hg : ((i 0).val * 1024 + (i 1).val) = q at hq
  refine ⟨ix2 ⟨152 + q / 128, by omega⟩ ⟨q % 128, by omega⟩, by show (152 + q / 128) * 128 + q % 128 = 19456 + q; omega, ?_⟩
  unfold piece2
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_two]
    exact hg.symm
  · rw [Shape.rowMajor_val_one, Shape.rowMajor_val_two]
    show q / 128 * 128 + q % 128 = q
    omega

/-- Result 2 cut out of the sum. -/
def cut2 (Y : S1248x128.Idx → EReal) : S1x4x1024.Idx → EReal :=
  broadcastInDim S1x4x1024 ![1, 2] bcast_S4x1024_S1x4x1024_1_2 (piece2 Y)

theorem cut2_apply (Y : S1248x128.Idx → EReal) (i : S1x4x1024.Idx) : cut2 Y i = piece2 Y (ix2 (i 1) (i 2)) :=
  broadcastInDim_apply _ _ _ _ _ fun a => by fin_cases a <;> rfl

/-- Array 3 cut out of the sum. -/
def piece3 (Y : S1248x128.Idx → EReal) : S1x1024.Idx → EReal :=
  shapeCast S1x1024 (shapeCast S1024 (extractStridedSlice S8x128 ![184, 0] Y slices_S1248x128_S8x128_184_0) shapeCasts_S8x128_S1024) shapeCasts_S1024_S1x1024

theorem piece3_apply (Y : S1248x128.Idx → EReal) (i : S1x1024.Idx) :
    ∃ y : S1248x128.Idx, (y 0).val * 128 + (y 1).val = 23552 + ((i 0).val * 1024 + (i 1).val) ∧ piece3 Y i = Y y := by
  have i0 : (i 0).val < 1 := (i 0).isLt
  have i1 : (i 1).val < 1024 := (i 1).isLt
  have hq : ((i 0).val * 1024 + (i 1).val) < 1024 := by omega
  generalize hg : ((i 0).val * 1024 + (i 1).val) = q at hq
  refine ⟨ix2 ⟨184 + q / 128, by omega⟩ ⟨q % 128, by omega⟩, by show (184 + q / 128) * 128 + q % 128 = 23552 + q; omega, ?_⟩
  unfold piece3
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_two]
    exact hg.symm
  · rw [Shape.rowMajor_val_one, Shape.rowMajor_val_two]
    show q / 128 * 128 + q % 128 = q
    omega

/-- Result 3 cut out of the sum. -/
abbrev cut3 (Y : S1248x128.Idx → EReal) : S1x1024.Idx → EReal := piece3 Y

/-- Array 4 cut out of the sum. -/
def piece4 (Y : S1248x128.Idx → EReal) : S16x64x64.Idx → EReal :=
  shapeCast S16x64x64 (shapeCast S65536 (extractStridedSlice S512x128 ![192, 0] Y slices_S1248x128_S512x128_192_0) shapeCasts_S512x128_S65536) shapeCasts_S65536_S16x64x64

theorem piece4_apply (Y : S1248x128.Idx → EReal) (i : S16x64x64.Idx) :
    ∃ y : S1248x128.Idx, (y 0).val * 128 + (y 1).val = 24576 + (((i 0).val * 64 + (i 1).val) * 64 + (i 2).val) ∧ piece4 Y i = Y y := by
  have i0 : (i 0).val < 16 := (i 0).isLt
  have i1 : (i 1).val < 64 := (i 1).isLt
  have i2 : (i 2).val < 64 := (i 2).isLt
  have hq : (((i 0).val * 64 + (i 1).val) * 64 + (i 2).val) < 65536 := by omega
  generalize hg : (((i 0).val * 64 + (i 1).val) * 64 + (i 2).val) = q at hq
  refine ⟨ix2 ⟨192 + q / 128, by omega⟩ ⟨q % 128, by omega⟩, by show (192 + q / 128) * 128 + q % 128 = 24576 + q; omega, ?_⟩
  unfold piece4
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_three]
    exact hg.symm
  · rw [Shape.rowMajor_val_one, Shape.rowMajor_val_two]
    show q / 128 * 128 + q % 128 = q
    omega

/-- Result 4 cut out of the sum. -/
def cut4 (Y : S1248x128.Idx → EReal) : S1x16x64x64.Idx → EReal :=
  broadcastInDim S1x16x64x64 ![1, 2, 3] bcast_S16x64x64_S1x16x64x64_1_2_3 (piece4 Y)

theorem cut4_apply (Y : S1248x128.Idx → EReal) (i : S1x16x64x64.Idx) : cut4 Y i = piece4 Y (ix3 (i 1) (i 2) (i 3)) :=
  broadcastInDim_apply _ _ _ _ _ fun a => by fin_cases a <;> rfl

/-- Array 5 cut out of the sum. -/
def piece5 (Y : S1248x128.Idx → EReal) : S1x1024.Idx → EReal :=
  shapeCast S1x1024 (shapeCast S1024 (extractStridedSlice S8x128 ![704, 0] Y slices_S1248x128_S8x128_704_0) shapeCasts_S8x128_S1024) shapeCasts_S1024_S1x1024

theorem piece5_apply (Y : S1248x128.Idx → EReal) (i : S1x1024.Idx) :
    ∃ y : S1248x128.Idx, (y 0).val * 128 + (y 1).val = 90112 + ((i 0).val * 1024 + (i 1).val) ∧ piece5 Y i = Y y := by
  have i0 : (i 0).val < 1 := (i 0).isLt
  have i1 : (i 1).val < 1024 := (i 1).isLt
  have hq : ((i 0).val * 1024 + (i 1).val) < 1024 := by omega
  generalize hg : ((i 0).val * 1024 + (i 1).val) = q at hq
  refine ⟨ix2 ⟨704 + q / 128, by omega⟩ ⟨q % 128, by omega⟩, by show (704 + q / 128) * 128 + q % 128 = 90112 + q; omega, ?_⟩
  unfold piece5
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_two]
    exact hg.symm
  · rw [Shape.rowMajor_val_one, Shape.rowMajor_val_two]
    show q / 128 * 128 + q % 128 = q
    omega

/-- Result 5 cut out of the sum. -/
abbrev cut5 (Y : S1248x128.Idx → EReal) : S1x1024.Idx → EReal := piece5 Y

/-- Array 6 cut out of the sum. -/
def piece6 (Y : S1248x128.Idx → EReal) : S16x64x64.Idx → EReal :=
  shapeCast S16x64x64 (shapeCast S65536 (extractStridedSlice S512x128 ![712, 0] Y slices_S1248x128_S512x128_712_0) shapeCasts_S512x128_S65536) shapeCasts_S65536_S16x64x64

theorem piece6_apply (Y : S1248x128.Idx → EReal) (i : S16x64x64.Idx) :
    ∃ y : S1248x128.Idx, (y 0).val * 128 + (y 1).val = 91136 + (((i 0).val * 64 + (i 1).val) * 64 + (i 2).val) ∧ piece6 Y i = Y y := by
  have i0 : (i 0).val < 16 := (i 0).isLt
  have i1 : (i 1).val < 64 := (i 1).isLt
  have i2 : (i 2).val < 64 := (i 2).isLt
  have hq : (((i 0).val * 64 + (i 1).val) * 64 + (i 2).val) < 65536 := by omega
  generalize hg : (((i 0).val * 64 + (i 1).val) * 64 + (i 2).val) = q at hq
  refine ⟨ix2 ⟨712 + q / 128, by omega⟩ ⟨q % 128, by omega⟩, by show (712 + q / 128) * 128 + q % 128 = 91136 + q; omega, ?_⟩
  unfold piece6
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_three]
    exact hg.symm
  · rw [Shape.rowMajor_val_one, Shape.rowMajor_val_two]
    show q / 128 * 128 + q % 128 = q
    omega

/-- Result 6 cut out of the sum. -/
def cut6 (Y : S1248x128.Idx → EReal) : S1x16x64x64.Idx → EReal :=
  broadcastInDim S1x16x64x64 ![1, 2, 3] bcast_S16x64x64_S1x16x64x64_1_2_3 (piece6 Y)

theorem cut6_apply (Y : S1248x128.Idx → EReal) (i : S1x16x64x64.Idx) : cut6 Y i = piece6 Y (ix3 (i 1) (i 2) (i 3)) :=
  broadcastInDim_apply _ _ _ _ _ fun a => by fin_cases a <;> rfl

/-- Array 7 cut out of the sum. -/
def piece7 (Y : S1248x128.Idx → EReal) : S1x1024.Idx → EReal :=
  shapeCast S1x1024 (shapeCast S1024 (extractStridedSlice S8x128 ![1224, 0] Y slices_S1248x128_S8x128_1224_0) shapeCasts_S8x128_S1024) shapeCasts_S1024_S1x1024

theorem piece7_apply (Y : S1248x128.Idx → EReal) (i : S1x1024.Idx) :
    ∃ y : S1248x128.Idx, (y 0).val * 128 + (y 1).val = 156672 + ((i 0).val * 1024 + (i 1).val) ∧ piece7 Y i = Y y := by
  have i0 : (i 0).val < 1 := (i 0).isLt
  have i1 : (i 1).val < 1024 := (i 1).isLt
  have hq : ((i 0).val * 1024 + (i 1).val) < 1024 := by omega
  generalize hg : ((i 0).val * 1024 + (i 1).val) = q at hq
  refine ⟨ix2 ⟨1224 + q / 128, by omega⟩ ⟨q % 128, by omega⟩, by show (1224 + q / 128) * 128 + q % 128 = 156672 + q; omega, ?_⟩
  unfold piece7
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_two]
    exact hg.symm
  · rw [Shape.rowMajor_val_one, Shape.rowMajor_val_two]
    show q / 128 * 128 + q % 128 = q
    omega

/-- Result 7 cut out of the sum. -/
abbrev cut7 (Y : S1248x128.Idx → EReal) : S1x1024.Idx → EReal := piece7 Y

/-- Array 8 cut out of the sum. -/
def piece8 (Y : S1248x128.Idx → EReal) : S1x1024.Idx → EReal :=
  shapeCast S1x1024 (shapeCast S1024 (extractStridedSlice S8x128 ![1232, 0] Y slices_S1248x128_S8x128_1232_0) shapeCasts_S8x128_S1024) shapeCasts_S1024_S1x1024

theorem piece8_apply (Y : S1248x128.Idx → EReal) (i : S1x1024.Idx) :
    ∃ y : S1248x128.Idx, (y 0).val * 128 + (y 1).val = 157696 + ((i 0).val * 1024 + (i 1).val) ∧ piece8 Y i = Y y := by
  have i0 : (i 0).val < 1 := (i 0).isLt
  have i1 : (i 1).val < 1024 := (i 1).isLt
  have hq : ((i 0).val * 1024 + (i 1).val) < 1024 := by omega
  generalize hg : ((i 0).val * 1024 + (i 1).val) = q at hq
  refine ⟨ix2 ⟨1232 + q / 128, by omega⟩ ⟨q % 128, by omega⟩, by show (1232 + q / 128) * 128 + q % 128 = 157696 + q; omega, ?_⟩
  unfold piece8
  refine (shapeCast_apply _ _ i (ix1 ⟨q, hq⟩) ?_).trans ((shapeCast_apply _ _ _ (ix2 ⟨q / 128, by omega⟩ ⟨q % 128, by omega⟩) ?_).trans
    (extractStridedSlice_apply _ _ _ _ _ fun a => by fin_cases a <;> simp))
  · rw [Shape.rowMajor_val_one, Shape.rowMajor_val_two]
    exact hg.symm
  · rw [Shape.rowMajor_val_one, Shape.rowMajor_val_two]
    show q / 128 * 128 + q % 128 = q
    omega

/-- Result 8 cut out of the sum. -/
abbrev cut8 (Y : S1248x128.Idx → EReal) : S1x1024.Idx → EReal := piece8 Y

/-- The squared error cut out of the sum. -/
def piece9 (Y : S1248x128.Idx → EReal) : S_.Idx → EReal :=
  shapeCast S_ (extractStridedSlice S1 ![0] (shapeCast S1024 (extractStridedSlice S8x128 ![1240, 0] Y slices_S1248x128_S8x128_1240_0) shapeCasts_S8x128_S1024) slices_S1024_S1_0) shapeCasts_S1_S_

theorem piece9_apply (Y : S1248x128.Idx → EReal) (i : S_.Idx) :
    ∃ y : S1248x128.Idx, (y 0).val * 128 + (y 1).val = 158720 ∧ piece9 Y i = Y y := by
  refine ⟨ix2 ⟨1240, by omega⟩ ⟨0, by omega⟩, rfl, ?_⟩
  unfold piece9
  refine (shapeCast_apply _ _ i (ix1 ⟨0, by omega⟩) ?_).trans ((extractStridedSlice_apply _ _ _ _ (ix1 ⟨0, by omega⟩) fun a => by fin_cases a; rfl).trans
    ((shapeCast_apply _ _ _ (ix2 ⟨0, by omega⟩ ⟨0, by omega⟩) ?_).trans
      (extractStridedSlice_apply _ _ _ _ _ fun a => by fin_cases a <;> rfl)))
  · rw [Shape.rowMajor_val_one]
    have h1 : (S_.rowMajor i).val < 1 := (S_.rowMajor i).isLt
    show 0 = (S_.rowMajor i).val
    omega
  · rw [Shape.rowMajor_val_one, Shape.rowMajor_val_two]
    rfl

/-- The loss from the squared error cut out of the sum. -/
def cut9 (Y : S1248x128.Idx → EReal) : S_.Idx → EReal :=
  (mulf (piece9 Y : FVec Ideal S_ .f32) (constant S_ .f32 0x39800000#32) : FVec Ideal S_ .f32)

/-! ## The results -/

/-- The contributions of the eight devices, one after another. -/
def total (Z : S8x1248x128.Idx → EReal) (y : S1248x128.Idx) : EReal :=
  Z (ix3 0 (y 0) (y 1)) + Z (ix3 1 (y 0) (y 1)) + Z (ix3 2 (y 0) (y 1)) + Z (ix3 3 (y 0) (y 1))
    + Z (ix3 4 (y 0) (y 1)) + Z (ix3 5 (y 0) (y 1)) + Z (ix3 6 (y 0) (y 1)) + Z (ix3 7 (y 0) (y 1))

/-- The sum over the devices of contributions of shape `2x4x2048`. -/
def sum_2x4x2048 (x : S8x2x4x2048.Idx → EReal) (i : S2x4x2048.Idx) : EReal := ∑ d : Fin 8, x (ix4 d (i 0) (i 1) (i 2))

/-- The sum over the devices of contributions of shape `3x1024`. -/
def sum_3x1024 (x : S8x3x1024.Idx → EReal) (i : S1x3x1024.Idx) : EReal := ∑ d : Fin 8, x (ix3 d (i 1) (i 2))

/-- The sum over the devices of contributions of shape `4x1024`. -/
def sum_4x1024 (x : S8x4x1024.Idx → EReal) (i : S1x4x1024.Idx) : EReal := ∑ d : Fin 8, x (ix3 d (i 1) (i 2))

/-- The sum over the devices of contributions of shape `1x1024`. -/
def sum_1x1024 (x : S8x1x1024.Idx → EReal) (i : S1x1024.Idx) : EReal := ∑ d : Fin 8, x (ix3 d (i 0) (i 1))

/-- The sum over the devices of contributions of shape `16x64x64`. -/
def sum_16x64x64 (x : S8x16x64x64.Idx → EReal) (i : S1x16x64x64.Idx) : EReal := ∑ d : Fin 8, x (ix4 d (i 1) (i 2) (i 3))

/-- The loss: half the squared error, over the width. -/
def loss (x : S8x1.Idx → EReal) (_ : S_.Idx) : EReal :=
  Ideal.ofBits .f32 0x3F000000#32 * Ideal.div (∑ d : Fin 8, x (ix2 d 0)) (Ideal.ofBits .f32 0x45000000#32)

theorem ofBits_half : Ideal.ofBits .f32 0x3F000000#32 = ((1 / 2 : ℝ) : EReal) := by
  simp [Ideal.ofBits, Ideal.ieee, -EReal.coe_mul]; norm_num

theorem ofBits_scale : Ideal.ofBits .f32 0x39800000#32 = ((1 / 4096 : ℝ) : EReal) := by
  simp [Ideal.ofBits, Ideal.ieee, -EReal.coe_mul]; norm_num

theorem scale_eq (s : EReal) : s * Ideal.ofBits .f32 0x39800000#32
    = Ideal.ofBits .f32 0x3F000000#32 * Ideal.div s (Ideal.ofBits .f32 0x45000000#32) := by
  rw [ofBits_half, ofBits_scale, Cert.Norm.ofBits_width, Ideal.div_coe (by norm_num), mul_left_comm, ← EReal.coe_mul]
  norm_num

theorem is0 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut0 (total (pack x0 x1 x2 x3 x4 x5 x6 x7 x8 x9)) = sum_2x4x2048 x0 := by
  funext i
  obtain ⟨y, hy, e⟩ := piece0_apply (total (pack x0 x1 x2 x3 x4 x5 x6 x7 x8 x9)) i
  refine e.trans ?_
  exact sum_eight (fun d => pack x0 x1 x2 x3 x4 x5 x6 x7 x8 x9 (ix3 d (y 0) (y 1))) (fun d => x0 (ix4 d (i 0) (i 1) (i 2))) fun d => pack_apply0 x0 x1 x2 x3 x4 x5 x6 x7 x8 x9 d i y hy

theorem is1 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut1 (total (pack x0 x1 x2 x3 x4 x5 x6 x7 x8 x9)) = sum_3x1024 x1 := by
  funext i
  rw [cut1_apply]
  obtain ⟨y, hy, e⟩ := piece1_apply (total (pack x0 x1 x2 x3 x4 x5 x6 x7 x8 x9)) (ix2 (i 1) (i 2))
  refine e.trans ?_
  exact sum_eight (fun d => pack x0 x1 x2 x3 x4 x5 x6 x7 x8 x9 (ix3 d (y 0) (y 1))) (fun d => x1 (ix3 d (i 1) (i 2))) fun d => pack_apply1 x0 x1 x2 x3 x4 x5 x6 x7 x8 x9 d (ix2 (i 1) (i 2)) y hy

theorem is2 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut2 (total (pack x0 x1 x2 x3 x4 x5 x6 x7 x8 x9)) = sum_4x1024 x2 := by
  funext i
  rw [cut2_apply]
  obtain ⟨y, hy, e⟩ := piece2_apply (total (pack x0 x1 x2 x3 x4 x5 x6 x7 x8 x9)) (ix2 (i 1) (i 2))
  refine e.trans ?_
  exact sum_eight (fun d => pack x0 x1 x2 x3 x4 x5 x6 x7 x8 x9 (ix3 d (y 0) (y 1))) (fun d => x2 (ix3 d (i 1) (i 2))) fun d => pack_apply2 x0 x1 x2 x3 x4 x5 x6 x7 x8 x9 d (ix2 (i 1) (i 2)) y hy

theorem is3 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut3 (total (pack x0 x1 x2 x3 x4 x5 x6 x7 x8 x9)) = sum_1x1024 x3 := by
  funext i
  obtain ⟨y, hy, e⟩ := piece3_apply (total (pack x0 x1 x2 x3 x4 x5 x6 x7 x8 x9)) i
  refine e.trans ?_
  exact sum_eight (fun d => pack x0 x1 x2 x3 x4 x5 x6 x7 x8 x9 (ix3 d (y 0) (y 1))) (fun d => x3 (ix3 d (i 0) (i 1))) fun d => pack_apply3 x0 x1 x2 x3 x4 x5 x6 x7 x8 x9 d i y hy

theorem is4 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut4 (total (pack x0 x1 x2 x3 x4 x5 x6 x7 x8 x9)) = sum_16x64x64 x4 := by
  funext i
  rw [cut4_apply]
  obtain ⟨y, hy, e⟩ := piece4_apply (total (pack x0 x1 x2 x3 x4 x5 x6 x7 x8 x9)) (ix3 (i 1) (i 2) (i 3))
  refine e.trans ?_
  exact sum_eight (fun d => pack x0 x1 x2 x3 x4 x5 x6 x7 x8 x9 (ix3 d (y 0) (y 1))) (fun d => x4 (ix4 d (i 1) (i 2) (i 3))) fun d => pack_apply4 x0 x1 x2 x3 x4 x5 x6 x7 x8 x9 d (ix3 (i 1) (i 2) (i 3)) y hy

theorem is5 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut5 (total (pack x0 x1 x2 x3 x4 x5 x6 x7 x8 x9)) = sum_1x1024 x5 := by
  funext i
  obtain ⟨y, hy, e⟩ := piece5_apply (total (pack x0 x1 x2 x3 x4 x5 x6 x7 x8 x9)) i
  refine e.trans ?_
  exact sum_eight (fun d => pack x0 x1 x2 x3 x4 x5 x6 x7 x8 x9 (ix3 d (y 0) (y 1))) (fun d => x5 (ix3 d (i 0) (i 1))) fun d => pack_apply5 x0 x1 x2 x3 x4 x5 x6 x7 x8 x9 d i y hy

theorem is6 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut6 (total (pack x0 x1 x2 x3 x4 x5 x6 x7 x8 x9)) = sum_16x64x64 x6 := by
  funext i
  rw [cut6_apply]
  obtain ⟨y, hy, e⟩ := piece6_apply (total (pack x0 x1 x2 x3 x4 x5 x6 x7 x8 x9)) (ix3 (i 1) (i 2) (i 3))
  refine e.trans ?_
  exact sum_eight (fun d => pack x0 x1 x2 x3 x4 x5 x6 x7 x8 x9 (ix3 d (y 0) (y 1))) (fun d => x6 (ix4 d (i 1) (i 2) (i 3))) fun d => pack_apply6 x0 x1 x2 x3 x4 x5 x6 x7 x8 x9 d (ix3 (i 1) (i 2) (i 3)) y hy

theorem is7 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut7 (total (pack x0 x1 x2 x3 x4 x5 x6 x7 x8 x9)) = sum_1x1024 x7 := by
  funext i
  obtain ⟨y, hy, e⟩ := piece7_apply (total (pack x0 x1 x2 x3 x4 x5 x6 x7 x8 x9)) i
  refine e.trans ?_
  exact sum_eight (fun d => pack x0 x1 x2 x3 x4 x5 x6 x7 x8 x9 (ix3 d (y 0) (y 1))) (fun d => x7 (ix3 d (i 0) (i 1))) fun d => pack_apply7 x0 x1 x2 x3 x4 x5 x6 x7 x8 x9 d i y hy

theorem is8 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut8 (total (pack x0 x1 x2 x3 x4 x5 x6 x7 x8 x9)) = sum_1x1024 x8 := by
  funext i
  obtain ⟨y, hy, e⟩ := piece8_apply (total (pack x0 x1 x2 x3 x4 x5 x6 x7 x8 x9)) i
  refine e.trans ?_
  exact sum_eight (fun d => pack x0 x1 x2 x3 x4 x5 x6 x7 x8 x9 (ix3 d (y 0) (y 1))) (fun d => x8 (ix3 d (i 0) (i 1))) fun d => pack_apply8 x0 x1 x2 x3 x4 x5 x6 x7 x8 x9 d i y hy

theorem is9 (x0 : S8x2x4x2048.Idx → EReal) (x1 : S8x3x1024.Idx → EReal) (x2 : S8x4x1024.Idx → EReal) (x3 : S8x1x1024.Idx → EReal) (x4 : S8x16x64x64.Idx → EReal) (x5 : S8x1x1024.Idx → EReal) (x6 : S8x16x64x64.Idx → EReal) (x7 : S8x1x1024.Idx → EReal) (x8 : S8x1x1024.Idx → EReal) (x9 : S8x1.Idx → EReal) :
    cut9 (total (pack x0 x1 x2 x3 x4 x5 x6 x7 x8 x9)) = loss x9 := by
  funext i
  obtain ⟨y, hy, e⟩ := piece9_apply (total (pack x0 x1 x2 x3 x4 x5 x6 x7 x8 x9)) i
  show piece9 (total (pack x0 x1 x2 x3 x4 x5 x6 x7 x8 x9)) i * Ideal.ofBits .f32 0x39800000#32 = _
  rw [e, scale_eq]
  exact congrArg (fun s => Ideal.ofBits .f32 0x3F000000#32 * Ideal.div s (Ideal.ofBits .f32 0x45000000#32))
    (sum_eight (fun d => pack x0 x1 x2 x3 x4 x5 x6 x7 x8 x9 (ix3 d (y 0) (y 1))) (fun d => x9 (ix2 d 0)) fun d => pack_apply9 x0 x1 x2 x3 x4 x5 x6 x7 x8 x9 d y hy)

variable (m : (ℓ : Loc nD τ sig) → Buf (Elt Ideal) ℓ) (c : Dev nD)

abbrev a0 : S8x2x4x2048.Idx → EReal := m ((c.tc : Thread nD τ).loc main_arg0)
abbrev a1 : S8x3x1024.Idx → EReal := m ((c.tc : Thread nD τ).loc main_arg1)
abbrev a2 : S8x4x1024.Idx → EReal := m ((c.tc : Thread nD τ).loc main_arg2)
abbrev a3 : S8x1x1024.Idx → EReal := m ((c.tc : Thread nD τ).loc main_arg3)
abbrev a4 : S8x16x64x64.Idx → EReal := m ((c.tc : Thread nD τ).loc main_arg4)
abbrev a5 : S8x1x1024.Idx → EReal := m ((c.tc : Thread nD τ).loc main_arg5)
abbrev a6 : S8x16x64x64.Idx → EReal := m ((c.tc : Thread nD τ).loc main_arg6)
abbrev a7 : S8x1x1024.Idx → EReal := m ((c.tc : Thread nD τ).loc main_arg7)
abbrev a8 : S8x1x1024.Idx → EReal := m ((c.tc : Thread nD τ).loc main_arg8)
abbrev a9 : S8x1.Idx → EReal := m ((c.tc : Thread nD τ).loc main_arg9)

/-- The contributions, packed. -/
abbrev packed : S8x1248x128.Idx → EReal := pack (a0 m c) (a1 m c) (a2 m c) (a3 m c) (a4 m c) (a5 m c) (a6 m c) (a7 m c) (a8 m c) (a9 m c)

/-! ## What the host lays before the call, and what the call writes -/

theorem entry : V m c main_v69 = packed m c := by
  entry_read
  rfl

theorem idx : ∀ t : Fin cfg0.N, win0_0.index t = ![0, 0, 0] ∧ win0_1.index t = ![0, 0] := by decide +kernel
theorem cov1 : (cfg0.win 1).Covers := by decide +kernel

theorem whole (t : Fin cfg0.N) (y : S8x1248x128.Idx) : iblk m c 0 t y = packed m c y := by
  have e : win0_0.index t = ![0, 0, 0] := by simp only [idx t]
  refine Eq.trans ?_ (congrFun (entry m c) y)
  blk_ext [iblk, e]

theorem final1 : (dats m 0 c).arrAt 1 cfg0.N = total (packed m c) := by
  refine (dats m 0 c).arrAt_eq_of_covers 1 _ cov1 fun t hf y => ?_
  have e : win0_1.index t = ![0, 0] := by simp only [idx t]
  have hi : ((cfg0.win 1).blk t).view.emb y = y := by blk_ext [e]
  rw [hi]
  blk_simp
  rw [after0_1]
  frame_out
  open_payloads
  pointwise
  simp only [whole m c t]
  rfl

/-! ## What the host cuts out after the call -/

theorem out_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w cfg0.N :=
  Pipeline.withArrays_arr (cfgs 0).spec (by decide) c _ _ w

variable (σ : Valuation τ sig (Elt Ideal)) in
theorem tail0 : StableHlo.after hostOps1 σ (Proc.devRef .tc main_v78) = cut0 (σ (Proc.devRef .tc main_v70)) := by rfl
variable (σ : Valuation τ sig (Elt Ideal)) in
theorem tail1 : StableHlo.after hostOps1 σ (Proc.devRef .tc main_v103) = cut1 (σ (Proc.devRef .tc main_v70)) := by rfl
variable (σ : Valuation τ sig (Elt Ideal)) in
theorem tail2 : StableHlo.after hostOps1 σ (Proc.devRef .tc main_v104) = cut2 (σ (Proc.devRef .tc main_v70)) := by rfl
variable (σ : Valuation τ sig (Elt Ideal)) in
theorem tail3 : StableHlo.after hostOps1 σ (Proc.devRef .tc main_v87) = cut3 (σ (Proc.devRef .tc main_v70)) := by rfl
variable (σ : Valuation τ sig (Elt Ideal)) in
theorem tail4 : StableHlo.after hostOps1 σ (Proc.devRef .tc main_v105) = cut4 (σ (Proc.devRef .tc main_v70)) := by rfl
variable (σ : Valuation τ sig (Elt Ideal)) in
theorem tail5 : StableHlo.after hostOps1 σ (Proc.devRef .tc main_v93) = cut5 (σ (Proc.devRef .tc main_v70)) := by rfl
variable (σ : Valuation τ sig (Elt Ideal)) in
theorem tail6 : StableHlo.after hostOps1 σ (Proc.devRef .tc main_v106) = cut6 (σ (Proc.devRef .tc main_v70)) := by rfl
variable (σ : Valuation τ sig (Elt Ideal)) in
theorem tail7 : StableHlo.after hostOps1 σ (Proc.devRef .tc main_v99) = cut7 (σ (Proc.devRef .tc main_v70)) := by rfl
variable (σ : Valuation τ sig (Elt Ideal)) in
theorem tail8 : StableHlo.after hostOps1 σ (Proc.devRef .tc main_v102) = cut8 (σ (Proc.devRef .tc main_v70)) := by rfl
variable (σ : Valuation τ sig (Elt Ideal)) in
theorem tail9 : StableHlo.after hostOps1 σ (Proc.devRef .tc main_v75) = cut9 (σ (Proc.devRef .tc main_v70)) := by rfl

theorem run (ρ : Dev nD → PrngReg) : θ_run defs (onTc (τ := τ) (main (F := Ideal))) ⟨m, fun _ => 0, ρ⟩ fun r => ∀ c : Dev nD,
      r.2.mem ((c.tc : Thread nD τ).loc main_v75) = (loss (a9 m c) : S_.Idx → EReal)
      ∧ r.2.mem ((c.tc : Thread nD τ).loc main_v78) = (sum_2x4x2048 (a0 m c) : S2x4x2048.Idx → EReal)
      ∧ r.2.mem ((c.tc : Thread nD τ).loc main_v103) = (sum_3x1024 (a1 m c) : S1x3x1024.Idx → EReal)
      ∧ r.2.mem ((c.tc : Thread nD τ).loc main_v104) = (sum_4x1024 (a2 m c) : S1x4x1024.Idx → EReal)
      ∧ r.2.mem ((c.tc : Thread nD τ).loc main_v87) = (sum_1x1024 (a3 m c) : S1x1024.Idx → EReal)
      ∧ r.2.mem ((c.tc : Thread nD τ).loc main_v105) = (sum_16x64x64 (a4 m c) : S1x16x64x64.Idx → EReal)
      ∧ r.2.mem ((c.tc : Thread nD τ).loc main_v93) = (sum_1x1024 (a5 m c) : S1x1024.Idx → EReal)
      ∧ r.2.mem ((c.tc : Thread nD τ).loc main_v106) = (sum_16x64x64 (a6 m c) : S1x16x64x64.Idx → EReal)
      ∧ r.2.mem ((c.tc : Thread nD τ).loc main_v99) = (sum_1x1024 (a7 m c) : S1x1024.Idx → EReal)
      ∧ r.2.mem ((c.tc : Thread nD τ).loc main_v102) = (sum_1x1024 (a8 m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (θ_run_and (run_main m ρ) (unchanged m ρ))
  obtain ⟨h, hu⟩ := h
  refine ⟨?_, ?_, ?_, ?_, ?_, ?_, ?_, ?_, ?_, ?_, hu c⟩
  · exact ((h c).2 main_v75 (by decide)).trans ((tail9 _).trans ((congrArg cut9 ((out_arr m c 1).trans (final1 m c))).trans (is9 (a0 m c) (a1 m c) (a2 m c) (a3 m c) (a4 m c) (a5 m c) (a6 m c) (a7 m c) (a8 m c) (a9 m c))))
  · exact ((h c).2 main_v78 (by decide)).trans ((tail0 _).trans ((congrArg cut0 ((out_arr m c 1).trans (final1 m c))).trans (is0 (a0 m c) (a1 m c) (a2 m c) (a3 m c) (a4 m c) (a5 m c) (a6 m c) (a7 m c) (a8 m c) (a9 m c))))
  · exact ((h c).2 main_v103 (by decide)).trans ((tail1 _).trans ((congrArg cut1 ((out_arr m c 1).trans (final1 m c))).trans (is1 (a0 m c) (a1 m c) (a2 m c) (a3 m c) (a4 m c) (a5 m c) (a6 m c) (a7 m c) (a8 m c) (a9 m c))))
  · exact ((h c).2 main_v104 (by decide)).trans ((tail2 _).trans ((congrArg cut2 ((out_arr m c 1).trans (final1 m c))).trans (is2 (a0 m c) (a1 m c) (a2 m c) (a3 m c) (a4 m c) (a5 m c) (a6 m c) (a7 m c) (a8 m c) (a9 m c))))
  · exact ((h c).2 main_v87 (by decide)).trans ((tail3 _).trans ((congrArg cut3 ((out_arr m c 1).trans (final1 m c))).trans (is3 (a0 m c) (a1 m c) (a2 m c) (a3 m c) (a4 m c) (a5 m c) (a6 m c) (a7 m c) (a8 m c) (a9 m c))))
  · exact ((h c).2 main_v105 (by decide)).trans ((tail4 _).trans ((congrArg cut4 ((out_arr m c 1).trans (final1 m c))).trans (is4 (a0 m c) (a1 m c) (a2 m c) (a3 m c) (a4 m c) (a5 m c) (a6 m c) (a7 m c) (a8 m c) (a9 m c))))
  · exact ((h c).2 main_v93 (by decide)).trans ((tail5 _).trans ((congrArg cut5 ((out_arr m c 1).trans (final1 m c))).trans (is5 (a0 m c) (a1 m c) (a2 m c) (a3 m c) (a4 m c) (a5 m c) (a6 m c) (a7 m c) (a8 m c) (a9 m c))))
  · exact ((h c).2 main_v106 (by decide)).trans ((tail6 _).trans ((congrArg cut6 ((out_arr m c 1).trans (final1 m c))).trans (is6 (a0 m c) (a1 m c) (a2 m c) (a3 m c) (a4 m c) (a5 m c) (a6 m c) (a7 m c) (a8 m c) (a9 m c))))
  · exact ((h c).2 main_v99 (by decide)).trans ((tail7 _).trans ((congrArg cut7 ((out_arr m c 1).trans (final1 m c))).trans (is7 (a0 m c) (a1 m c) (a2 m c) (a3 m c) (a4 m c) (a5 m c) (a6 m c) (a7 m c) (a8 m c) (a9 m c))))
  · exact ((h c).2 main_v102 (by decide)).trans ((tail8 _).trans ((congrArg cut8 ((out_arr m c 1).trans (final1 m c))).trans (is8 (a0 m c) (a1 m c) (a2 m c) (a3 m c) (a4 m c) (a5 m c) (a6 m c) (a7 m c) (a8 m c) (a9 m c))))

/-! ## The reference -/

open Cert.SumSmallReferenceIdeal.Read

theorem read0 (x : S8x2x4x2048.Idx → EReal) (i : S2x4x2048.Idx) : val_main_v0 (F := Ideal) x i = sum_2x4x2048 x i := by
  refine (val_main_v0_apply x _).trans ?_
  refine (congrArg (· + _) Ideal.ofBits_zero_f32).trans ((zero_add _).trans (Finset.sum_congr rfl fun d _ => congrArg x ?_))
  blk_ext

theorem read1 (x : S8x3x1024.Idx → EReal) (i : S1x3x1024.Idx) : val_main_v9 (F := Ideal) x i = sum_3x1024 x i := by
  refine (val_main_v9_apply (F := Ideal) x _).trans ((val_main_v1_apply x _).trans ?_)
  refine (congrArg (· + _) Ideal.ofBits_zero_f32).trans ((zero_add _).trans (Finset.sum_congr rfl fun d _ => congrArg x ?_))
  blk_ext

theorem read2 (x : S8x4x1024.Idx → EReal) (i : S1x4x1024.Idx) : val_main_v10 (F := Ideal) x i = sum_4x1024 x i := by
  refine (val_main_v10_apply (F := Ideal) x _).trans ((val_main_v2_apply x _).trans ?_)
  refine (congrArg (· + _) Ideal.ofBits_zero_f32).trans ((zero_add _).trans (Finset.sum_congr rfl fun d _ => congrArg x ?_))
  blk_ext

theorem read3 (x : S8x1x1024.Idx → EReal) (i : S1x1024.Idx) : val_main_v3 (F := Ideal) x i = sum_1x1024 x i := by
  refine (val_main_v3_apply x _).trans ?_
  refine (congrArg (· + _) Ideal.ofBits_zero_f32).trans ((zero_add _).trans (Finset.sum_congr rfl fun d _ => congrArg x ?_))
  blk_ext

theorem read4 (x : S8x16x64x64.Idx → EReal) (i : S1x16x64x64.Idx) : val_main_v11 (F := Ideal) x i = sum_16x64x64 x i := by
  refine (val_main_v11_apply (F := Ideal) x _).trans ((val_main_v4_apply x _).trans ?_)
  refine (congrArg (· + _) Ideal.ofBits_zero_f32).trans ((zero_add _).trans (Finset.sum_congr rfl fun d _ => congrArg x ?_))
  blk_ext

theorem read5 (x : S8x1x1024.Idx → EReal) (i : S1x1024.Idx) : val_main_v5 (F := Ideal) x i = sum_1x1024 x i := by
  refine (val_main_v5_apply x _).trans ?_
  refine (congrArg (· + _) Ideal.ofBits_zero_f32).trans ((zero_add _).trans (Finset.sum_congr rfl fun d _ => congrArg x ?_))
  blk_ext

theorem read6 (x : S8x16x64x64.Idx → EReal) (i : S1x16x64x64.Idx) : val_main_v12 (F := Ideal) x i = sum_16x64x64 x i := by
  refine (val_main_v12_apply (F := Ideal) x _).trans ((val_main_v6_apply x _).trans ?_)
  refine (congrArg (· + _) Ideal.ofBits_zero_f32).trans ((zero_add _).trans (Finset.sum_congr rfl fun d _ => congrArg x ?_))
  blk_ext

theorem read7 (x : S8x1x1024.Idx → EReal) (i : S1x1024.Idx) : val_main_v7 (F := Ideal) x i = sum_1x1024 x i := by
  refine (val_main_v7_apply x _).trans ?_
  refine (congrArg (· + _) Ideal.ofBits_zero_f32).trans ((zero_add _).trans (Finset.sum_congr rfl fun d _ => congrArg x ?_))
  blk_ext

theorem read8 (x : S8x1x1024.Idx → EReal) (i : S1x1024.Idx) : val_main_v8 (F := Ideal) x i = sum_1x1024 x i := by
  refine (val_main_v8_apply x _).trans ?_
  refine (congrArg (· + _) Ideal.ofBits_zero_f32).trans ((zero_add _).trans (Finset.sum_congr rfl fun d _ => congrArg x ?_))
  blk_ext

theorem read9 (x : S8x1.Idx → EReal) (i : S_.Idx) : val_main_v15 (F := Ideal) x i = loss x i := by
  have h : val_main_v13 (F := Ideal) x i = ∑ d : Fin 8, x (ix2 d 0) := by
    refine (val_main_v13_apply x _).trans ((congrArg (· + _) Ideal.ofBits_zero_f32).trans ((zero_add _).trans ?_))
    refine (Fintype.sum_bijective (fun d : Fin 8 => (ix2 d 0 : S8x1.Idx)) ⟨fun a b e => congrFun e 0, fun j => ⟨j 0, ?_⟩⟩ _ _ fun d => rfl).symm
    funext a
    fin_cases a
    · rfl
    · exact Subsingleton.elim (α := Fin 1) _ _
  exact congrArg (fun s => Ideal.ofBits .f32 0x3F000000#32 * Ideal.div s (Ideal.ofBits .f32 0x45000000#32)) h

end Cert.SumSmallIdeal.Whole

end
-- ==== Proof.NormBwd.lean ====
/- The gradient of the normalisation that feeds a layer, added to the gradient that passes by it: what the call writes after its
   sixteen groups of rows, and what the reference computes, index by index. -/
module

public import proofs.«01_k».proof.Proof.Gen.NormBwdIdeal.Value
public import proofs.«01_k».proof.Proof.Gen.NormBwdReferenceIdeal.Run
public import proofs.«01_k».proof.Proof.Gen.NormBwdReferenceIdeal.Read
public import proofs.«01_k».proof.Proof.Mat
public import proofs.«01_k».proof.Proof.Norm

@[expose] public section

set_option maxRecDepth 16384

noncomputable section

namespace Cert.NormBwdIdeal.Whole

open Idealize.ShloMosaic Idealize.ShloMosaic.TcCoe Idealize.ShloMosaic.Tactic Idealize.SL.Sem
open Cert.NormBwdIdeal Cert.NormBwdIdeal.Gen
open Cert.Mat Cert.Norm

/-- The gradient of the layer's input: row `i 0` of the input, of the gradient, and what passes by. -/
def dx (x : S4096x2048.Idx → EReal) (g : S1x2048.Idx → EReal) (dy : S4096x2048.Idx → EReal) (ad : S4096x2048.Idx → EReal)
    (i : S4096x2048.Idx) : EReal :=
  back (fun j => x (ix2 (i 0) j)) (fun j => dy (ix2 (i 0) j) * g (ix2 0 j)) (i 1) + ad i

/-- One row's part of the gain's gradient. -/
def part (x dy : S4096x2048.Idx → EReal) (i : S1x2048.Idx) (k : Fin 4096) : EReal :=
  dy (ix2 k (i 1)) * (x (ix2 k (i 1)) * inv fun j => x (ix2 k j))

/-- The gradient of the gain. -/
def dg (x dy : S4096x2048.Idx → EReal) (i : S1x2048.Idx) : EReal := ∑ k : Fin 4096, part x dy i k

/-- One row's part by its number, zero outside. -/
def term (x dy : S4096x2048.Idx → EReal) (i : S1x2048.Idx) (n : ℕ) : EReal := if h : n < 4096 then part x dy i ⟨n, h⟩ else 0

theorem dg_chunks (x dy : S4096x2048.Idx → EReal) (i : S1x2048.Idx) :
    dg x dy i = ∑ q ∈ Finset.range 16, ∑ k : Fin 256, term x dy i (q * 256 + k.val) := by
  rw [← sum_chunks (term x dy i) 16 256]
  exact Finset.sum_congr rfl fun k _ => ((dif_pos k.isLt).symm : _ = term x dy i k.val)

variable (m : (ℓ : Loc nD τ sig) → Buf (Elt Ideal) ℓ) (c : Dev nD)

abbrev a0 : S4096x2048.Idx → EReal := m ((c.tc : Thread nD τ).loc main_arg0)
abbrev a1 : S1x2048.Idx → EReal := m ((c.tc : Thread nD τ).loc main_arg1)
abbrev a2 : S4096x2048.Idx → EReal := m ((c.tc : Thread nD τ).loc main_arg2)
abbrev a3 : S4096x2048.Idx → EReal := m ((c.tc : Thread nD τ).loc main_arg3)

abbrev b0 (n : ℕ) (h : n < cfg0.N) : S256x2048.Idx → EReal := iblk m c 0 ⟨n, h⟩
abbrev b1 (n : ℕ) (h : n < cfg0.N) : S1x2048.Idx → EReal := iblk m c 1 ⟨n, h⟩
abbrev b2 (n : ℕ) (h : n < cfg0.N) : S256x2048.Idx → EReal := iblk m c 2 ⟨n, h⟩
abbrev b3 (n : ℕ) (h : n < cfg0.N) : S256x2048.Idx → EReal := iblk m c 3 ⟨n, h⟩

/-- The input's gradient on one group of rows. -/
def blockDx (n : ℕ) (h : n < cfg0.N) (y : S256x2048.Idx) : EReal :=
  back (fun j => b0 m c n h (ix2 (y 0) j)) (fun j => b2 m c n h (ix2 (y 0) j) * b1 m c n h (ix2 0 j)) (y 1) + b3 m c n h y

/-- One group's part of the gain's gradient. -/
def pass (n : ℕ) (h : n < cfg0.N) (j : S1x2048.Idx) : EReal :=
  ∑ k : Fin 256, b2 m c n h (ix2 k (j 1)) * (b0 m c n h (ix2 k (j 1)) * inv fun l => b0 m c n h (ix2 k l))

theorem eta (y : S256x2048.Idx) : (ix2 (y 0) (y 1) : S256x2048.Idx) = y := funext fun d => by
  fin_cases d <;> rfl

theorem outDx (t : Fin cfg0.N) (y : S256x2048.Idx) : (outsAt0 m c t.val t.isLt).1 y = blockDx m c t.val t.isLt y := by
  by_cases h : t.val % 16 = 0
  · rw [outsAt0_A m c t h]
    frame_out
    open_payloads
    pointwise
    unfold blockDx back
    dsimp only
    rw [eta]
    rfl
  · rw [outsAt0_B m c t h]
    frame_out
    open_payloads
    pointwise
    unfold blockDx back
    dsimp only
    rw [eta]
    rfl

theorem first (t : Fin cfg0.N) (h : t.val % 16 = 0) (j : S1x2048.Idx) :
    (outsAt0 m c t.val t.isLt).2 j = pass m c t.val t.isLt j := by
  rw [outsAt0_A m c t h]
  frame_out
  open_payloads
  pointwise
  rfl

theorem next (t : Fin cfg0.N) (h : ¬t.val % 16 = 0) (j : S1x2048.Idx) :
    (outsAt0 m c t.val t.isLt).2 j
      = (outsAt0 m c (t.val - 1) (Nat.lt_of_le_of_lt (Nat.sub_le _ _) t.isLt)).2 j + pass m c t.val t.isLt j := by
  rw [outsAt0_B m c t h]
  frame_out
  open_payloads
  pointwise
  rfl

theorem cov4 : (cfg0.win 4).Covers := by decide +kernel
theorem cov5 : (cfg0.win 5).Covers := by decide +kernel
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

theorem final0 : (dats m 0 c).arrAt 4 cfg0.N = dx (a0 m c) (a1 m c) (a2 m c) (a3 m c) := by
  refine (dats m 0 c).arrAt_eq_of_covers 4 _ cov4 fun t hf y => ?_
  obtain ⟨e0, e1, e2, e3, e4, -⟩ := idx t
  have h0 : ((((cfg0.win 4).blk t).view.emb y : S4096x2048.Idx) 0).val = t.val * 256 + (y 0).val := by blk_simp [e4]
  have h1 : ((((cfg0.win 4).blk t).view.emb y : S4096x2048.Idx) 1).val = (y 1).val := by blk_simp [e4]
  blk_simp
  rw [after0_4]
  refine (outDx m c t y).trans ?_
  unfold blockDx dx
  refine add_eq (congr (congr (congrArg back (funext fun j => ?_)) (funext fun j => mul_eq ?_ ?_)) (Fin.ext h1.symm)) ?_
  · blk_ext [b0, iblk, V, e0, e4]
  · blk_ext [b2, iblk, V, e2, e4]
  · blk_ext [b1, iblk, V, e1]
  · blk_ext [b3, iblk, V, e3, e4]

/-- One group's part, as a chunk of the sum over all rows. -/
theorem chunk (n : ℕ) (h : n < cfg0.N) (j : S1x2048.Idx) :
    pass m c n h j = ∑ k : Fin 256, term (a0 m c) (a2 m c) j (n * 256 + k.val) := by
  obtain ⟨e0, -, e2, -⟩ := idx ⟨n, h⟩
  dsimp only at e0 e2
  have hn : n < 16 := h
  refine Finset.sum_congr rfl fun k _ => ?_
  unfold term part
  rw [dif_pos (by omega)]
  refine mul_eq ?_ (mul_eq ?_ (congrArg inv (funext fun l => ?_)))
  · blk_ext [b2, iblk, V, e2]
  · blk_ext [b0, iblk, V, e0]
  · blk_ext [b0, iblk, V, e0]

/-- What the accumulated block holds after the groups up to the `n`-th. -/
theorem upTo (n : ℕ) (h : n < cfg0.N) (j : S1x2048.Idx) :
    (outsAt0 m c n h).2 j = ∑ q ∈ Finset.range (n + 1), ∑ k : Fin 256, term (a0 m c) (a2 m c) j (q * 256 + k.val) := by
  induction n with
  | zero => rw [Finset.sum_range_one, ← chunk m c 0 h j]; exact first m c ⟨0, h⟩ rfl j
  | succ n ih =>
    have hn : n + 1 < 16 := h
    rw [Finset.sum_range_succ, ← chunk m c (n + 1) h j, ← ih (by omega)]
    exact next m c ⟨n + 1, h⟩ (by dsimp only; omega) j

theorem final1 : (dats m 0 c).arrAt 5 cfg0.N = dg (a0 m c) (a2 m c) := by
  refine (dats m 0 c).arrAt_eq_of_covers 5 _ cov5 fun t hf y => ?_
  have h15 : t.val % 16 = 15 := (flush0_5 t).mp hf
  have ht : t.val < 16 := t.isLt
  obtain ⟨-, -, -, -, -, e⟩ := idx t
  have hi : ((cfg0.win 5).blk t).view.emb y = y := by blk_ext [e]
  blk_simp
  rw [after0_5, hi, dg_chunks]
  refine (upTo m c t.val t.isLt y).trans ?_
  rw [show t.val + 1 = 16 by omega]

/-! ## The reference -/

open Cert.NormBwdReferenceIdeal.Read

/-- Row `r` of an array. -/
abbrev row (x : S4096x2048.Idx → EReal) (r : Fin 4096) (j : Fin 2048) : EReal := x (ix2 r j)

/-- Row `r` of the gradient of the normalised row. -/
abbrev urow (g : S1x2048.Idx → EReal) (dy : S4096x2048.Idx → EReal) (r : Fin 4096) (j : Fin 2048) : EReal := dy (ix2 r j) * g (ix2 0 j)

theorem ref_sq (x : S4096x2048.Idx → EReal) (q : Cert.NormBwdReferenceIdeal.S4096x1.Idx) :
    val_main_v7 (F := Ideal) x q = Cert.Norm.sq (row x (q 0)) := by
  rw [val_main_v7_apply, val_main_v5_apply, val_main_v3_apply, val_main_v2_apply, val_main_v4_apply, val_main_v6_apply]
  refine congrArg (fun s => Ideal.div s (Ideal.ofBits .f32 0x45000000#32) + Ideal.ofBits .f32 0x358637BD#32) ?_
  refine (congrArg (· + _) Ideal.ofBits_zero_f32).trans ((zero_add _).trans (Finset.sum_congr rfl fun k _ => ?_))
  refine mul_eq (congrArg x ?_) (congrArg x ?_) <;> blk_ext

theorem ref_inv (x : S4096x2048.Idx → EReal) (q : Cert.NormBwdReferenceIdeal.S4096x1.Idx) :
    val_main_v8 (F := Ideal) x q = inv (row x (q 0)) := congrArg Ideal.rsqrt (ref_sq x q)

theorem ref_u (g : S1x2048.Idx → EReal) (dy : S4096x2048.Idx → EReal) (i : S4096x2048.Idx) :
    val_main_v22 (F := Ideal) g dy i = urow g dy (i 0) (i 1) := by
  rw [val_main_v22_apply, val_main_v21_apply, val_main_v14_apply, val_main_v0_apply]
  refine mul_eq (congrArg dy ?_) (congrArg g ?_) <;> blk_ext

theorem ref_chain (x : S4096x2048.Idx → EReal) (g : S1x2048.Idx → EReal) (dy : S4096x2048.Idx → EReal)
    (i : Cert.NormBwdReferenceIdeal.S4096.Idx) : val_main_v32 (F := Ideal) x g dy i = chain (row x (i 0)) (urow g dy (i 0)) := by
  rw [val_main_v32_apply, Fin.sum_univ_one]
  refine (congrArg (· + _) Ideal.ofBits_zero_f32).trans ((zero_add _).trans ?_)
  rw [val_main_v31_apply, val_main_v29_apply, val_main_v30_apply, val_main_v26_apply, val_main_v25_apply, val_main_v11_apply,
    val_main_v10_apply, val_main_v9_apply, ref_inv, ref_sq]
  refine congrArg (fun s => Ideal.div s (Ideal.ofBits .f32 0x45000000#32)) (mul_eq ?_ ?_)
  · refine (congrArg (· + _) Ideal.ofBits_zero_f32).trans ((zero_add _).trans (Finset.sum_congr rfl fun k _ => ?_))
    rw [val_main_v24_apply, ref_u]
    refine mul_eq (congrArg x ?_) (mul_eq (congrArg dy ?_) (congrArg g ?_)) <;> blk_ext
  · rfl

theorem read0 (x : S4096x2048.Idx → EReal) (g : S1x2048.Idx → EReal) (dy : S4096x2048.Idx → EReal) (ad : S4096x2048.Idx → EReal)
    (i : S4096x2048.Idx) : val_main_v38 (F := Ideal) x g dy ad i = dx x g dy ad i := by
  unfold dx
  rw [val_main_v38_apply, val_main_v37_apply, val_main_v35_apply, val_main_v36_apply, val_main_v34_apply, val_main_v28_apply,
    val_main_v27_apply, val_main_v33_apply, ref_u, ref_inv, ref_chain]
  refine Eq.trans ?_ (congrArg (· + ad i) (back_eq (row x (i 0)) (urow g dy (i 0)) (i 1)).symm)
  have hi : row x (i 0) (i 1) = x i := congrArg x (by blk_ext)
  rw [hi]
  rfl

theorem read1 (x dy : S4096x2048.Idx → EReal) (i : S1x2048.Idx) : val_main_v39 (F := Ideal) x dy i = dg x dy i := by
  rw [val_main_v39_apply, val_main_v23_apply, Fin.sum_univ_one]
  refine (congrArg (· + _) Ideal.ofBits_zero_f32).trans ((zero_add _).trans ?_)
  rw [val_main_v20_apply, val_main_v19_apply]
  refine (congrArg (· + _) Ideal.ofBits_zero_f32).trans ((zero_add _).trans (Finset.sum_congr rfl fun k _ => ?_))
  rw [val_main_v18_apply, val_main_v13_apply, val_main_v12_apply, ref_inv]
  refine (mul_comm _ _).trans (mul_eq (congrArg dy ?_) (mul_eq (congrArg x ?_) rfl)) <;> blk_ext

end Cert.NormBwdIdeal.Whole

end
-- ==== Proof.NormBwdPair.lean ====
/- Two normalisations' gradients in one call, the one that feeds a layer and the one that follows the branch before it: what the
   call writes after its sixteen groups of rows, and what the reference computes, index by index. -/
module

public import proofs.«01_k».proof.Proof.Gen.NormBwdPairIdeal.Value
public import proofs.«01_k».proof.Proof.Gen.NormBwdPairReferenceIdeal.Run
public import proofs.«01_k».proof.Proof.Gen.NormBwdPairReferenceIdeal.Read
public import proofs.«01_k».proof.Proof.Mat
public import proofs.«01_k».proof.Proof.NormBwd

@[expose] public section

set_option maxRecDepth 16384
set_option maxHeartbeats 400000

noncomputable section

namespace Cert.NormBwdPairIdeal.Whole

open Idealize.ShloMosaic Idealize.ShloMosaic.TcCoe Idealize.ShloMosaic.Tactic Idealize.SL.Sem
open Cert.NormBwdPairIdeal Cert.NormBwdPairIdeal.Gen
open Cert.Mat Cert.Norm
open Cert.NormBwdIdeal.Whole (dx part dg term dg_chunks row urow eta)

/-- The gradient of the branch's result. -/
def dbr (x : S4096x2048.Idx → EReal) (g : S1x2048.Idx → EReal) (dy : S4096x2048.Idx → EReal) (ad : S4096x2048.Idx → EReal)
    (br : S4096x2048.Idx → EReal) (h : S1x2048.Idx → EReal) (i : S4096x2048.Idx) : EReal :=
  back (row br (i 0)) (urow h (dx x g dy ad) (i 0)) (i 1)

/-- The gradient of the branch's gains. -/
def dpost (x : S4096x2048.Idx → EReal) (g : S1x2048.Idx → EReal) (dy : S4096x2048.Idx → EReal) (ad : S4096x2048.Idx → EReal)
    (br : S4096x2048.Idx → EReal) (i : S1x2048.Idx) : EReal := dg br (dx x g dy ad) i

variable (m : (ℓ : Loc nD τ sig) → Buf (Elt Ideal) ℓ) (c : Dev nD)

abbrev a0 : S4096x2048.Idx → EReal := m ((c.tc : Thread nD τ).loc main_arg0)
abbrev a1 : S1x2048.Idx → EReal := m ((c.tc : Thread nD τ).loc main_arg1)
abbrev a2 : S4096x2048.Idx → EReal := m ((c.tc : Thread nD τ).loc main_arg2)
abbrev a3 : S4096x2048.Idx → EReal := m ((c.tc : Thread nD τ).loc main_arg3)
abbrev a4 : S4096x2048.Idx → EReal := m ((c.tc : Thread nD τ).loc main_arg4)
abbrev a5 : S1x2048.Idx → EReal := m ((c.tc : Thread nD τ).loc main_arg5)

abbrev b0 (n : ℕ) (h : n < cfg0.N) : S256x2048.Idx → EReal := iblk m c 0 ⟨n, h⟩
abbrev b1 (n : ℕ) (h : n < cfg0.N) : S1x2048.Idx → EReal := iblk m c 1 ⟨n, h⟩
abbrev b2 (n : ℕ) (h : n < cfg0.N) : S256x2048.Idx → EReal := iblk m c 2 ⟨n, h⟩
abbrev b3 (n : ℕ) (h : n < cfg0.N) : S256x2048.Idx → EReal := iblk m c 3 ⟨n, h⟩
abbrev b4 (n : ℕ) (h : n < cfg0.N) : S256x2048.Idx → EReal := iblk m c 4 ⟨n, h⟩
abbrev b5 (n : ℕ) (h : n < cfg0.N) : S1x2048.Idx → EReal := iblk m c 5 ⟨n, h⟩

/-- The input's gradient on one group of rows. -/
def blockDx (n : ℕ) (h : n < cfg0.N) (y : S256x2048.Idx) : EReal :=
  back (fun j => b0 m c n h (ix2 (y 0) j)) (fun j => b2 m c n h (ix2 (y 0) j) * b1 m c n h (ix2 0 j)) (y 1) + b3 m c n h y

/-- The branch's gradient on one group of rows. -/
def blockDbr (n : ℕ) (h : n < cfg0.N) (y : S256x2048.Idx) : EReal :=
  back (fun j => b4 m c n h (ix2 (y 0) j)) (fun j => blockDx m c n h (ix2 (y 0) j) * b5 m c n h (ix2 0 j)) (y 1)

/-- One group's part of the gradient of the layer's gains. -/
def passPre (n : ℕ) (h : n < cfg0.N) (j : S1x2048.Idx) : EReal :=
  ∑ k : Fin 256, b2 m c n h (ix2 k (j 1)) * (b0 m c n h (ix2 k (j 1)) * inv fun l => b0 m c n h (ix2 k l))

/-- One group's part of the gradient of the branch's gains. -/
def passPost (n : ℕ) (h : n < cfg0.N) (j : S1x2048.Idx) : EReal :=
  ∑ k : Fin 256, blockDx m c n h (ix2 k (j 1)) * (b4 m c n h (ix2 k (j 1)) * inv fun l => b4 m c n h (ix2 k l))

theorem outDx (t : Fin cfg0.N) (y : S256x2048.Idx) : (outsAt0 m c t.val t.isLt).1 y = blockDx m c t.val t.isLt y := by
  by_cases h : t.val % 16 = 0
  · rw [outsAt0_A m c t h]
    frame_out
    open_payloads
    pointwise
    unfold blockDx back
    dsimp only
    rw [eta]
    rfl
  · rw [outsAt0_B m c t h]
    frame_out
    open_payloads
    pointwise
    unfold blockDx back
    dsimp only
    rw [eta]
    rfl

theorem pay_dx (t : Fin cfg0.N) :
    k0_pay12 (F := Ideal) (iblk m c 0 t) (iblk m c 1 t) (iblk m c 2 t) (iblk m c 3 t) = blockDx m c t.val t.isLt := by
  funext y
  open_payloads
  pointwise
  unfold blockDx back
  dsimp only
  rw [eta]
  rfl

theorem pay_dbr (d : S256x2048.Idx → EReal) (t : Fin cfg0.N) (y : S256x2048.Idx) :
    k0_pay3 (F := Ideal) d (k0_pay13 (iblk m c 4 t)) (iblk m c 5 t) (k0_pay14 (iblk m c 4 t)) y
      = back (fun j => b4 m c t.val t.isLt (ix2 (y 0) j)) (fun j => d (ix2 (y 0) j) * b5 m c t.val t.isLt (ix2 0 j)) (y 1) := by
  open_payloads
  pointwise
  unfold back
  dsimp only
  rw [eta]
  rfl

theorem outDbr (t : Fin cfg0.N) (y : S256x2048.Idx) : (outsAt0 m c t.val t.isLt).2.1 y = blockDbr m c t.val t.isLt y := by
  by_cases h : t.val % 16 = 0
  · rw [outsAt0_A m c t h]
    frame_out
    rw [pay_dx]
    exact pay_dbr m c _ t y
  · rw [outsAt0_B m c t h]
    frame_out
    rw [pay_dx]
    exact pay_dbr m c _ t y

theorem firstPre (t : Fin cfg0.N) (h : t.val % 16 = 0) (j : S1x2048.Idx) :
    (outsAt0 m c t.val t.isLt).2.2.1 j = passPre m c t.val t.isLt j := by
  rw [outsAt0_A m c t h]
  frame_out
  open_payloads
  pointwise
  rfl

theorem nextPre (t : Fin cfg0.N) (h : ¬t.val % 16 = 0) (j : S1x2048.Idx) :
    (outsAt0 m c t.val t.isLt).2.2.1 j
      = (outsAt0 m c (t.val - 1) (Nat.lt_of_le_of_lt (Nat.sub_le _ _) t.isLt)).2.2.1 j + passPre m c t.val t.isLt j := by
  rw [outsAt0_B m c t h]
  frame_out
  open_payloads
  pointwise
  rfl

theorem firstPost (t : Fin cfg0.N) (h : t.val % 16 = 0) (j : S1x2048.Idx) :
    (outsAt0 m c t.val t.isLt).2.2.2 j = passPost m c t.val t.isLt j := by
  rw [outsAt0_A m c t h]
  frame_out
  open_payloads
  pointwise
  rfl

theorem nextPost (t : Fin cfg0.N) (h : ¬t.val % 16 = 0) (j : S1x2048.Idx) :
    (outsAt0 m c t.val t.isLt).2.2.2 j
      = (outsAt0 m c (t.val - 1) (Nat.lt_of_le_of_lt (Nat.sub_le _ _) t.isLt)).2.2.2 j + passPost m c t.val t.isLt j := by
  rw [outsAt0_B m c t h]
  frame_out
  open_payloads
  pointwise
  rfl

theorem cov6 : (cfg0.win 6).Covers := by decide +kernel
theorem cov7 : (cfg0.win 7).Covers := by decide +kernel
theorem cov8 : (cfg0.win 8).Covers := by decide +kernel
theorem cov9 : (cfg0.win 9).Covers := by decide +kernel
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel
theorem idx_out : ∀ t : Fin cfg0.N, win0_6.index t = ![t.val, 0] ∧ win0_7.index t = ![t.val, 0] ∧ win0_8.index t = ![0, 0]
    ∧ win0_9.index t = ![0, 0] := by
  decide +kernel

abbrev wholeDx : S4096x2048.Idx → EReal := dx (a0 m c) (a1 m c) (a2 m c) (a3 m c)

/-- One group's gradient is the whole gradient at the group's rows. -/
theorem block_dx (n : ℕ) (h : n < cfg0.N) (y : S256x2048.Idx) (i : S4096x2048.Idx) (h0 : (i 0).val = n * 256 + (y 0).val)
    (h1 : (i 1).val = (y 1).val) : blockDx m c n h y = wholeDx m c i := by
  obtain ⟨e0, e1, e2, e3, -, -⟩ := idx ⟨n, h⟩
  dsimp only at e0 e1 e2 e3
  unfold blockDx wholeDx dx
  refine add_eq (congr (congr (congrArg back (funext fun j => ?_)) (funext fun j => mul_eq ?_ ?_)) (Fin.ext h1.symm)) ?_
  · blk_ext [b0, iblk, V, e0, h0, h1]
  · blk_ext [b2, iblk, V, e2, h0, h1]
  · blk_ext [b1, iblk, V, e1, h0, h1]
  · blk_ext [b3, iblk, V, e3, h0, h1]

theorem block_dbr (n : ℕ) (h : n < cfg0.N) (y : S256x2048.Idx) (i : S4096x2048.Idx) (h0 : (i 0).val = n * 256 + (y 0).val)
    (h1 : (i 1).val = (y 1).val) :
    blockDbr m c n h y = dbr (a0 m c) (a1 m c) (a2 m c) (a3 m c) (a4 m c) (a5 m c) i := by
  obtain ⟨-, -, -, -, e4, e5⟩ := idx ⟨n, h⟩
  dsimp only at e4 e5
  unfold blockDbr dbr
  refine congr (congr (congrArg back (funext fun j => ?_)) (funext fun j => mul_eq (block_dx m c n h _ _ h0 rfl) ?_)) (Fin.ext h1.symm)
  · blk_ext [b4, iblk, V, e4, h0, h1]
  · blk_ext [b5, iblk, V, e5, h0, h1]

theorem final0 : (dats m 0 c).arrAt 6 cfg0.N = wholeDx m c := by
  refine (dats m 0 c).arrAt_eq_of_covers 6 _ cov6 fun t hf y => ?_
  obtain ⟨e6, e7, -⟩ := idx_out t
  have h0 : ((((cfg0.win 6).blk t).view.emb y : S4096x2048.Idx) 0).val = t.val * 256 + (y 0).val := by blk_simp [e6]
  have h1 : ((((cfg0.win 6).blk t).view.emb y : S4096x2048.Idx) 1).val = (y 1).val := by blk_simp [e6]
  blk_simp
  rw [after0_6]
  exact (outDx m c t y).trans (block_dx m c t.val t.isLt y _ h0 h1)

theorem final1 : (dats m 0 c).arrAt 7 cfg0.N = dbr (a0 m c) (a1 m c) (a2 m c) (a3 m c) (a4 m c) (a5 m c) := by
  refine (dats m 0 c).arrAt_eq_of_covers 7 _ cov7 fun t hf y => ?_
  obtain ⟨e6, e7, -⟩ := idx_out t
  have h0 : ((((cfg0.win 7).blk t).view.emb y : S4096x2048.Idx) 0).val = t.val * 256 + (y 0).val := by blk_simp [e7]
  have h1 : ((((cfg0.win 7).blk t).view.emb y : S4096x2048.Idx) 1).val = (y 1).val := by blk_simp [e7]
  blk_simp
  rw [after0_7]
  exact (outDbr m c t y).trans (block_dbr m c t.val t.isLt y _ h0 h1)

theorem chunkPre (n : ℕ) (h : n < cfg0.N) (j : S1x2048.Idx) :
    passPre m c n h j = ∑ k : Fin 256, term (a0 m c) (a2 m c) j (n * 256 + k.val) := by
  obtain ⟨e0, -, e2, -, e4, -⟩ := idx ⟨n, h⟩
  dsimp only at e0 e2 e4
  have hn : n < 16 := h
  refine Finset.sum_congr rfl fun k _ => ?_
  unfold term part
  rw [dif_pos (by omega)]
  refine mul_eq ?_ (mul_eq ?_ (congrArg inv (funext fun l => ?_)))
  · blk_ext [b2, iblk, V, e2]
  · blk_ext [b0, iblk, V, e0]
  · blk_ext [b0, iblk, V, e0]

theorem upToPre (n : ℕ) (h : n < cfg0.N) (j : S1x2048.Idx) :
    (outsAt0 m c n h).2.2.1 j = ∑ q ∈ Finset.range (n + 1), ∑ k : Fin 256, term (a0 m c) (a2 m c) j (q * 256 + k.val) := by
  induction n with
  | zero => rw [Finset.sum_range_one, ← chunkPre m c 0 h j]; exact firstPre m c ⟨0, h⟩ rfl j
  | succ n ih =>
    have hn : n + 1 < 16 := h
    rw [Finset.sum_range_succ, ← chunkPre m c (n + 1) h j, ← ih (by omega)]
    exact nextPre m c ⟨n + 1, h⟩ (by dsimp only; omega) j

theorem final2 : (dats m 0 c).arrAt 8 cfg0.N = dg (a0 m c) (a2 m c) := by
  refine (dats m 0 c).arrAt_eq_of_covers 8 _ cov8 fun t hf y => ?_
  have h15 : t.val % 16 = 15 := (flush0_8 t).mp hf
  have ht : t.val < 16 := t.isLt
  obtain ⟨-, -, e8, e9⟩ := idx_out t
  have hi : ((cfg0.win 8).blk t).view.emb y = y := by blk_ext [e8]
  blk_simp
  rw [after0_8, hi]
  refine (upToPre m c t.val t.isLt y).trans (Eq.trans ?_ (dg_chunks (a0 m c) (a2 m c) y).symm)
  rw [show t.val + 1 = 16 by omega]

theorem chunkPost (n : ℕ) (h : n < cfg0.N) (j : S1x2048.Idx) :
    passPost m c n h j = ∑ k : Fin 256, term (a4 m c) (wholeDx m c) j (n * 256 + k.val) := by
  obtain ⟨e0, -, e2, -, e4, -⟩ := idx ⟨n, h⟩
  dsimp only at e0 e2 e4
  have hn : n < 16 := h
  refine Finset.sum_congr rfl fun k _ => ?_
  unfold term part
  rw [dif_pos (by omega)]
  refine mul_eq (block_dx m c n h _ _ rfl rfl) (mul_eq ?_ (congrArg inv (funext fun l => ?_)))
  · blk_ext [b4, iblk, V, e4]
  · blk_ext [b4, iblk, V, e4]

theorem upToPost (n : ℕ) (h : n < cfg0.N) (j : S1x2048.Idx) :
    (outsAt0 m c n h).2.2.2 j = ∑ q ∈ Finset.range (n + 1), ∑ k : Fin 256, term (a4 m c) (wholeDx m c) j (q * 256 + k.val) := by
  induction n with
  | zero => rw [Finset.sum_range_one, ← chunkPost m c 0 h j]; exact firstPost m c ⟨0, h⟩ rfl j
  | succ n ih =>
    have hn : n + 1 < 16 := h
    rw [Finset.sum_range_succ, ← chunkPost m c (n + 1) h j, ← ih (by omega)]
    exact nextPost m c ⟨n + 1, h⟩ (by dsimp only; omega) j

theorem final3 : (dats m 0 c).arrAt 9 cfg0.N = dpost (a0 m c) (a1 m c) (a2 m c) (a3 m c) (a4 m c) := by
  refine (dats m 0 c).arrAt_eq_of_covers 9 _ cov9 fun t hf y => ?_
  have h15 : t.val % 16 = 15 := (flush0_9 t).mp hf
  have ht : t.val < 16 := t.isLt
  obtain ⟨-, -, e8, e9⟩ := idx_out t
  have hi : ((cfg0.win 9).blk t).view.emb y = y := by blk_ext [e9]
  blk_simp
  rw [after0_9, hi]
  refine (upToPost m c t.val t.isLt y).trans (Eq.trans ?_ (dg_chunks (a4 m c) (wholeDx m c) y).symm)
  rw [show t.val + 1 = 16 by omega]

/-! ## The reference -/

open Cert.NormBwdPairReferenceIdeal.Read

theorem ref_sq (x : S4096x2048.Idx → EReal) (q : Cert.NormBwdPairReferenceIdeal.S4096x1.Idx) :
    val_main_v7 (F := Ideal) x q = Cert.Norm.sq (row x (q 0)) := by
  rw [val_main_v7_apply, val_main_v5_apply, val_main_v3_apply, val_main_v2_apply, val_main_v4_apply, val_main_v6_apply]
  refine congrArg (fun s => Ideal.div s (Ideal.ofBits .f32 0x45000000#32) + Ideal.ofBits .f32 0x358637BD#32) ?_
  refine (congrArg (· + _) Ideal.ofBits_zero_f32).trans ((zero_add _).trans (Finset.sum_congr rfl fun k _ => ?_))
  refine mul_eq (congrArg x ?_) (congrArg x ?_) <;> blk_ext

theorem ref_inv (x : S4096x2048.Idx → EReal) (q : Cert.NormBwdPairReferenceIdeal.S4096x1.Idx) :
    val_main_v8 (F := Ideal) x q = inv (row x (q 0)) := congrArg Ideal.rsqrt (ref_sq x q)

theorem ref_u (g : S1x2048.Idx → EReal) (dy : S4096x2048.Idx → EReal) (i : S4096x2048.Idx) :
    val_main_v22 (F := Ideal) g dy i = urow g dy (i 0) (i 1) := by
  rw [val_main_v22_apply, val_main_v21_apply, val_main_v14_apply, val_main_v0_apply]
  refine mul_eq (congrArg dy ?_) (congrArg g ?_) <;> blk_ext

theorem ref_chain (x : S4096x2048.Idx → EReal) (g : S1x2048.Idx → EReal) (dy : S4096x2048.Idx → EReal)
    (i : Cert.NormBwdPairReferenceIdeal.S4096.Idx) : val_main_v32 (F := Ideal) x g dy i = chain (row x (i 0)) (urow g dy (i 0)) := by
  rw [val_main_v32_apply, Fin.sum_univ_one]
  refine (congrArg (· + _) Ideal.ofBits_zero_f32).trans ((zero_add _).trans ?_)
  rw [val_main_v31_apply, val_main_v29_apply, val_main_v30_apply, val_main_v26_apply, val_main_v25_apply, val_main_v11_apply,
    val_main_v10_apply, val_main_v9_apply, ref_inv, ref_sq]
  refine congrArg (fun s => Ideal.div s (Ideal.ofBits .f32 0x45000000#32)) (mul_eq ?_ ?_)
  · refine (congrArg (· + _) Ideal.ofBits_zero_f32).trans ((zero_add _).trans (Finset.sum_congr rfl fun k _ => ?_))
    rw [val_main_v24_apply, ref_u]
    refine mul_eq (congrArg x ?_) (mul_eq (congrArg dy ?_) (congrArg g ?_)) <;> blk_ext
  · rfl

theorem read0 (x : S4096x2048.Idx → EReal) (g : S1x2048.Idx → EReal) (dy : S4096x2048.Idx → EReal) (ad : S4096x2048.Idx → EReal)
    (i : S4096x2048.Idx) : val_main_v38 (F := Ideal) x g dy ad i = dx x g dy ad i := by
  unfold dx
  rw [val_main_v38_apply, val_main_v37_apply, val_main_v35_apply, val_main_v36_apply, val_main_v34_apply, val_main_v28_apply,
    val_main_v27_apply, val_main_v33_apply, ref_u, ref_inv, ref_chain]
  refine Eq.trans ?_ (congrArg (· + ad i) (back_eq (row x (i 0)) (urow g dy (i 0)) (i 1)).symm)
  have hi : row x (i 0) (i 1) = x i := congrArg x (by blk_ext)
  rw [hi]
  rfl

theorem read2 (x dy : S4096x2048.Idx → EReal) (i : S1x2048.Idx) : val_main_v78 (F := Ideal) x dy i = dg x dy i := by
  rw [val_main_v78_apply, val_main_v23_apply, Fin.sum_univ_one]
  refine (congrArg (· + _) Ideal.ofBits_zero_f32).trans ((zero_add _).trans ?_)
  rw [val_main_v20_apply, val_main_v19_apply]
  refine (congrArg (· + _) Ideal.ofBits_zero_f32).trans ((zero_add _).trans (Finset.sum_congr rfl fun k _ => ?_))
  rw [val_main_v18_apply, val_main_v13_apply, val_main_v12_apply, ref_inv]
  refine (mul_comm _ _).trans (mul_eq (congrArg dy ?_) (mul_eq (congrArg x ?_) rfl)) <;> blk_ext

theorem post_sq (br : S4096x2048.Idx → EReal) (q : Cert.NormBwdPairReferenceIdeal.S4096x1.Idx) :
    val_main_v47 (F := Ideal) br q = Cert.Norm.sq (row br (q 0)) := by
  rw [val_main_v47_apply, val_main_v45_apply, val_main_v43_apply, val_main_v42_apply, val_main_v44_apply, val_main_v46_apply]
  refine congrArg (fun s => Ideal.div s (Ideal.ofBits .f32 0x45000000#32) + Ideal.ofBits .f32 0x358637BD#32) ?_
  refine (congrArg (· + _) Ideal.ofBits_zero_f32).trans ((zero_add _).trans (Finset.sum_congr rfl fun k _ => ?_))
  refine mul_eq (congrArg br ?_) (congrArg br ?_) <;> blk_ext

theorem post_inv (br : S4096x2048.Idx → EReal) (q : Cert.NormBwdPairReferenceIdeal.S4096x1.Idx) :
    val_main_v48 (F := Ideal) br q = inv (row br (q 0)) := congrArg Ideal.rsqrt (post_sq br q)

theorem post_u (x : S4096x2048.Idx → EReal) (g : S1x2048.Idx → EReal) (dy ad : S4096x2048.Idx → EReal) (h : S1x2048.Idx → EReal) (i : S4096x2048.Idx) :
    val_main_v61 (F := Ideal) x g dy ad h i = urow h (dx x g dy ad) (i 0) (i 1) := by
  rw [val_main_v61_apply, read0, val_main_v60_apply, val_main_v54_apply, val_main_v40_apply]
  refine mul_eq (congrArg (dx x g dy ad) ?_) (congrArg h ?_) <;> blk_ext

theorem post_chain (x : S4096x2048.Idx → EReal) (g : S1x2048.Idx → EReal) (dy ad br : S4096x2048.Idx → EReal) (h : S1x2048.Idx → EReal)
    (i : Cert.NormBwdPairReferenceIdeal.S4096.Idx) : val_main_v71 (F := Ideal) x g dy ad br h i = chain (row br (i 0)) (urow h (dx x g dy ad) (i 0)) := by
  rw [val_main_v71_apply, Fin.sum_univ_one]
  refine (congrArg (· + _) Ideal.ofBits_zero_f32).trans ((zero_add _).trans ?_)
  rw [val_main_v70_apply, val_main_v68_apply, val_main_v69_apply, val_main_v65_apply, val_main_v64_apply, val_main_v51_apply,
    val_main_v50_apply, val_main_v49_apply, post_inv, post_sq]
  refine congrArg (fun s => Ideal.div s (Ideal.ofBits .f32 0x45000000#32)) (mul_eq ?_ ?_)
  · refine (congrArg (· + _) Ideal.ofBits_zero_f32).trans ((zero_add _).trans (Finset.sum_congr rfl fun k _ => ?_))
    rw [val_main_v63_apply, post_u]
    refine mul_eq (congrArg br ?_) (mul_eq (congrArg (dx x g dy ad) ?_) (congrArg h ?_)) <;> blk_ext
  · rfl

theorem read1 (x : S4096x2048.Idx → EReal) (g : S1x2048.Idx → EReal) (dy ad br : S4096x2048.Idx → EReal) (h : S1x2048.Idx → EReal)
    (i : S4096x2048.Idx) : val_main_v77 (F := Ideal) x g dy ad br h i = dbr x g dy ad br h i := by
  unfold dbr
  rw [val_main_v77_apply, val_main_v76_apply, val_main_v74_apply, val_main_v75_apply, val_main_v73_apply, val_main_v67_apply,
    val_main_v66_apply, val_main_v72_apply, post_u, post_inv, post_chain, val_main_v39_apply]
  refine Eq.trans ?_ (back_eq (row br (i 0)) (urow h (dx x g dy ad) (i 0)) (i 1)).symm
  have hi : row br (i 0) (i 1) = br i := congrArg br (by blk_ext)
  rw [hi]
  rfl

theorem read3 (x : S4096x2048.Idx → EReal) (g : S1x2048.Idx → EReal) (dy ad br : S4096x2048.Idx → EReal) (i : S1x2048.Idx) :
    val_main_v79 (F := Ideal) x g dy ad br i = dpost x g dy ad br i := by
  rw [val_main_v79_apply, val_main_v62_apply, Fin.sum_univ_one]
  refine (congrArg (· + _) Ideal.ofBits_zero_f32).trans ((zero_add _).trans ?_)
  rw [val_main_v59_apply, val_main_v58_apply]
  refine (congrArg (· + _) Ideal.ofBits_zero_f32).trans ((zero_add _).trans (Finset.sum_congr rfl fun k _ => ?_))
  rw [val_main_v57_apply, val_main_v53_apply, val_main_v52_apply, post_inv, read0]
  refine (mul_comm _ _).trans (mul_eq (congrArg (dx x g dy ad) ?_) (mul_eq (congrArg br ?_) rfl)) <;> blk_ext

end Cert.NormBwdPairIdeal.Whole

end
-- ==== Proof.NormIn.lean ====
/- The first normalisation of the step: what the call writes, sixteen groups of rows one after another, and what the reference
   computes, index by index. -/
module

public import proofs.«01_k».proof.Proof.Gen.NormInIdeal.Value
public import proofs.«01_k».proof.Proof.Gen.NormInReferenceIdeal.Run
public import proofs.«01_k».proof.Proof.Gen.NormInReferenceIdeal.Read
public import proofs.«01_k».proof.Proof.Mat
public import proofs.«01_k».proof.Proof.Norm

@[expose] public section

set_option maxRecDepth 16384

noncomputable section

namespace Cert.NormInIdeal.Whole

open Idealize.ShloMosaic Idealize.ShloMosaic.TcCoe Idealize.ShloMosaic.Tactic Idealize.SL.Sem
open Cert.NormInIdeal Cert.NormInIdeal.Gen
open Cert.Mat Cert.Norm

/-- The normalised rows times the gains. -/
def normed (x : S4096x2048.Idx → EReal) (g : S1x2048.Idx → EReal) (i : S4096x2048.Idx) : EReal :=
  x i * inv (fun j => x (ix2 (i 0) j)) * g (ix2 0 (i 1))

variable (m : (ℓ : Loc nD τ sig) → Buf (Elt Ideal) ℓ) (c : Dev nD)

abbrev a0 : S4096x2048.Idx → EReal := m ((c.tc : Thread nD τ).loc main_arg0)
abbrev a1 : S1x2048.Idx → EReal := m ((c.tc : Thread nD τ).loc main_arg1)

abbrev b0 (t : Fin cfg0.N) : S256x2048.Idx → EReal := iblk m c 0 t
abbrev b1 (t : Fin cfg0.N) : S1x2048.Idx → EReal := iblk m c 1 t

theorem cov2 : (cfg0.win 2).Covers := by decide +kernel
theorem idx : ∀ t : Fin cfg0.N, win0_0.index t = ![t.val, 0] ∧ win0_1.index t = ![0, 0] ∧ win0_2.index t = ![t.val, 0] := by
  decide +kernel

theorem final : (dats m 0 c).arrAt 2 cfg0.N = normed (a0 m c) (a1 m c) := by
  refine (dats m 0 c).arrAt_eq_of_covers 2 _ cov2 fun t hf y => ?_
  obtain ⟨e0, e1, e2⟩ := idx t
  blk_simp
  rw [after0_2]
  frame_out
  open_payloads
  pointwise
  show b0 m c t y * inv (fun j => b0 m c t (ix2 (y 0) j)) * b1 m c t (ix2 0 (y 1)) = _
  unfold normed
  refine mul_eq (mul_eq ?_ (congrArg inv (funext fun j => ?_))) ?_
  · blk_ext [b0, iblk, V, e0, e2]
  · blk_ext [b0, iblk, V, e0, e2]
  · blk_ext [b1, iblk, V, e1, e2]

/-! ## The reference -/

open Cert.NormInReferenceIdeal.Read

theorem ref_inv (x : S4096x2048.Idx → EReal) (q : Cert.NormInReferenceIdeal.S4096x1.Idx) :
    val_main_v8 (F := Ideal) x q = inv (fun j => x (ix2 (q 0) j)) := by
  refine congrArg Ideal.rsqrt (?_ : val_main_v7 (F := Ideal) x q = _)
  rw [val_main_v7_apply, val_main_v5_apply, val_main_v3_apply, val_main_v2_apply, val_main_v4_apply, val_main_v6_apply]
  refine congrArg (fun s => Ideal.div s (Ideal.ofBits .f32 0x45000000#32) + Ideal.ofBits .f32 0x358637BD#32) ?_
  refine (congrArg (· + _) Ideal.ofBits_zero_f32).trans ((zero_add _).trans (Finset.sum_congr rfl fun k _ => ?_))
  refine mul_eq (congrArg x ?_) (congrArg x ?_) <;> blk_ext

theorem read (x : S4096x2048.Idx → EReal) (g : S1x2048.Idx → EReal) (i : S4096x2048.Idx) :
    val_main_v14 (F := Ideal) x g i = normed x g i := by
  rw [val_main_v14_apply, val_main_v13_apply, val_main_v10_apply, val_main_v9_apply, ref_inv, val_main_v12_apply, val_main_v11_apply,
    val_main_v0_apply]
  refine mul_eq rfl (congrArg g ?_)
  blk_ext

end Cert.NormInIdeal.Whole

end
-- ==== Proof.ResidNorm.lean ====
/- A branch's normalised result added to what it started from, and the next branch's normalisation of the sum: what the call
   writes, sixteen groups of rows one after another, and what the reference computes, index by index. -/
module

public import proofs.«01_k».proof.Proof.Gen.ResidNormIdeal.Value
public import proofs.«01_k».proof.Proof.Gen.ResidNormReferenceIdeal.Run
public import proofs.«01_k».proof.Proof.Gen.ResidNormReferenceIdeal.Read
public import proofs.«01_k».proof.Proof.Mat
public import proofs.«01_k».proof.Proof.Norm

@[expose] public section

set_option maxRecDepth 16384

noncomputable section

namespace Cert.ResidNormIdeal.Whole

open Idealize.ShloMosaic Idealize.ShloMosaic.TcCoe Idealize.ShloMosaic.Tactic Idealize.SL.Sem
open Cert.ResidNormIdeal Cert.ResidNormIdeal.Gen
open Cert.Mat Cert.Norm

/-- What the branch started from plus the branch's normalised rows times their gains. -/
def plus (x br : S4096x2048.Idx → EReal) (g : S1x2048.Idx → EReal) (i : S4096x2048.Idx) : EReal :=
  x i + br i * inv (fun j => br (ix2 (i 0) j)) * g (ix2 0 (i 1))

/-- The sum's normalised rows times the next gains. -/
def next (x br : S4096x2048.Idx → EReal) (g h : S1x2048.Idx → EReal) (i : S4096x2048.Idx) : EReal :=
  plus x br g i * inv (fun j => plus x br g (ix2 (i 0) j)) * h (ix2 0 (i 1))

variable (m : (ℓ : Loc nD τ sig) → Buf (Elt Ideal) ℓ) (c : Dev nD)

abbrev a0 : S4096x2048.Idx → EReal := m ((c.tc : Thread nD τ).loc main_arg0)
abbrev a1 : S4096x2048.Idx → EReal := m ((c.tc : Thread nD τ).loc main_arg1)
abbrev a2 : S1x2048.Idx → EReal := m ((c.tc : Thread nD τ).loc main_arg2)
abbrev a3 : S1x2048.Idx → EReal := m ((c.tc : Thread nD τ).loc main_arg3)

abbrev b0 (t : Fin cfg0.N) : S256x2048.Idx → EReal := iblk m c 0 t
abbrev b1 (t : Fin cfg0.N) : S256x2048.Idx → EReal := iblk m c 1 t
abbrev b2 (t : Fin cfg0.N) : S1x2048.Idx → EReal := iblk m c 2 t
abbrev b3 (t : Fin cfg0.N) : S1x2048.Idx → EReal := iblk m c 3 t

/-- The sum on one group of rows. -/
def blockPlus (t : Fin cfg0.N) (y : S256x2048.Idx) : EReal :=
  b0 m c t y + b1 m c t y * inv (fun j => b1 m c t (ix2 (y 0) j)) * b2 m c t (ix2 0 (y 1))

theorem cov4 : (cfg0.win 4).Covers := by decide +kernel
theorem cov5 : (cfg0.win 5).Covers := by decide +kernel
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] := by
  decide +kernel

/-- One group's sum is the whole sum at the group's rows. -/
theorem block_plus (t : Fin cfg0.N) (y : S256x2048.Idx) (i : S4096x2048.Idx) (h0 : (i 0).val = t.val * 256 + (y 0).val)
    (h1 : (i 1).val = (y 1).val) : blockPlus m c t y = plus (a0 m c) (a1 m c) (a2 m c) i := by
  obtain ⟨e0, e1, e2, -⟩ := idx t
  unfold blockPlus plus
  refine add_eq ?_ (mul_eq (mul_eq ?_ (congrArg inv (funext fun j => ?_))) ?_)
  · blk_ext [b0, iblk, V, e0, h0, h1]
  · blk_ext [b1, iblk, V, e1, h0, h1]
  · blk_ext [b1, iblk, V, e1, h0, h1]
  · blk_ext [b2, iblk, V, e2, h0, h1]

theorem final0 : (dats m 0 c).arrAt 4 cfg0.N = plus (a0 m c) (a1 m c) (a2 m c) := by
  refine (dats m 0 c).arrAt_eq_of_covers 4 _ cov4 fun t hf y => ?_
  obtain ⟨-, -, -, -, e4, -⟩ := idx t
  have h0 : ((((cfg0.win 4).blk t).view.emb y : S4096x2048.Idx) 0).val = t.val * 256 + (y 0).val := by blk_simp [e4]
  have h1 : ((((cfg0.win 4).blk t).view.emb y : S4096x2048.Idx) 1).val = (y 1).val := by blk_simp [e4]
  blk_simp
  rw [after0_4]
  frame_out
  open_payloads
  pointwise
  exact block_plus m c t y _ h0 h1

theorem final1 : (dats m 0 c).arrAt 5 cfg0.N = next (a0 m c) (a1 m c) (a2 m c) (a3 m c) := by
  refine (dats m 0 c).arrAt_eq_of_covers 5 _ cov5 fun t hf y => ?_
  obtain ⟨-, -, -, e3, -, e5⟩ := idx t
  have h0 : ((((cfg0.win 5).blk t).view.emb y : S4096x2048.Idx) 0).val = t.val * 256 + (y 0).val := by blk_simp [e5]
  have h1 : ((((cfg0.win 5).blk t).view.emb y : S4096x2048.Idx) 1).val = (y 1).val := by blk_simp [e5]
  blk_simp
  rw [after0_5]
  frame_out
  open_payloads
  pointwise
  show blockPlus m c t y * inv (fun j => blockPlus m c t (ix2 (y 0) j)) * b3 m c t (ix2 0 (y 1)) = _
  unfold next
  refine mul_eq (mul_eq (block_plus m c t y _ h0 h1) (congrArg inv (funext fun j => block_plus m c t _ _ h0 rfl))) ?_
  blk_ext [b3, iblk, V, e3, e5]

/-! ## The reference -/

open Cert.ResidNormReferenceIdeal.Read

theorem ref_inv (x : S4096x2048.Idx → EReal) (q : Cert.ResidNormReferenceIdeal.S4096x1.Idx) :
    val_main_v9 (F := Ideal) x q = inv (fun j => x (ix2 (q 0) j)) := by
  refine congrArg Ideal.rsqrt (?_ : val_main_v8 (F := Ideal) x q = _)
  rw [val_main_v8_apply, val_main_v6_apply, val_main_v4_apply, val_main_v3_apply, val_main_v5_apply, val_main_v7_apply]
  refine congrArg (fun s => Ideal.div s (Ideal.ofBits .f32 0x45000000#32) + Ideal.ofBits .f32 0x358637BD#32) ?_
  refine (congrArg (· + _) Ideal.ofBits_zero_f32).trans ((zero_add _).trans (Finset.sum_congr rfl fun k _ => ?_))
  refine mul_eq (congrArg x ?_) (congrArg x ?_) <;> blk_ext

theorem read0 (x br : S4096x2048.Idx → EReal) (g : S1x2048.Idx → EReal) (i : S4096x2048.Idx) :
    val_main_v15 (F := Ideal) x br g i = plus x br g i := by
  rw [val_main_v15_apply, val_main_v14_apply, val_main_v11_apply, val_main_v10_apply, ref_inv, val_main_v13_apply, val_main_v12_apply,
    val_main_v1_apply]
  refine add_eq rfl (mul_eq rfl (congrArg g ?_))
  blk_ext

theorem ref_inv_next (x br : S4096x2048.Idx → EReal) (g : S1x2048.Idx → EReal) (q : Cert.ResidNormReferenceIdeal.S4096x1.Idx) :
    val_main_v24 (F := Ideal) x br g q = inv (fun j => plus x br g (ix2 (q 0) j)) := by
  refine congrArg Ideal.rsqrt (?_ : val_main_v23 (F := Ideal) x br g q = _)
  rw [val_main_v23_apply, val_main_v21_apply, val_main_v19_apply, val_main_v18_apply, val_main_v20_apply, val_main_v22_apply]
  refine congrArg (fun s => Ideal.div s (Ideal.ofBits .f32 0x45000000#32) + Ideal.ofBits .f32 0x358637BD#32) ?_
  refine (congrArg (· + _) Ideal.ofBits_zero_f32).trans ((zero_add _).trans (Finset.sum_congr rfl fun k _ => ?_))
  rw [val_main_v17_apply, read0]
  refine mul_eq (congrArg (plus x br g) ?_) (congrArg (plus x br g) ?_) <;> blk_ext

theorem read1 (x br : S4096x2048.Idx → EReal) (g h : S1x2048.Idx → EReal) (i : S4096x2048.Idx) :
    val_main_v30 (F := Ideal) x br g h i = next x br g h i := by
  rw [val_main_v30_apply, val_main_v29_apply, val_main_v26_apply, val_main_v25_apply, ref_inv_next, read0, val_main_v28_apply,
    val_main_v27_apply, val_main_v16_apply]
  refine mul_eq rfl (congrArg h ?_)
  blk_ext

end Cert.ResidNormIdeal.Whole

end
-- ==== Proof.FinalLoss.lean ====
/- The last residual addition, its error against the target, and the gradients it starts: what the call writes after its sixteen
   groups of rows, and what the reference computes, index by index. -/
module

public import proofs.«01_k».proof.Proof.Gen.FinalLossIdeal.Frame
public import proofs.«01_k».proof.Proof.Gen.FinalLossReferenceIdeal.Run
public import proofs.«01_k».proof.Proof.Gen.FinalLossReferenceIdeal.Read
public import proofs.«01_k».proof.Proof.Mat
public import proofs.«01_k».proof.Proof.NormBwd

@[expose] public section

set_option maxRecDepth 16384
set_option maxHeartbeats 400000

noncomputable section

namespace Cert.FinalLossIdeal.Whole

open Idealize.ShloMosaic Idealize.ShloMosaic.TcCoe Idealize.ShloMosaic.Tactic Idealize.SL.Sem
open Cert.FinalLossIdeal Cert.FinalLossIdeal.Gen
open Cert.Mat Cert.Norm
open Cert.NormBwdIdeal.Whole (dg term part dg_chunks row urow eta)

/-- The error: the input, plus the branch's normalised result, minus the target. -/
def err (x br : S4096x2048.Idx → EReal) (g : S1x2048.Idx → EReal) (y : S4096x2048.Idx → EReal) (i : S4096x2048.Idx) : EReal :=
  x i + br i * inv (row br (i 0)) * g (ix2 0 (i 1)) - y i

/-- The gradient of half the mean square, row by row. -/
def dy (x br : S4096x2048.Idx → EReal) (g : S1x2048.Idx → EReal) (y : S4096x2048.Idx → EReal) (i : S4096x2048.Idx) : EReal :=
  err x br g y i * Ideal.ofBits .f32 0x3A000000#32

/-- The gradient of the branch's result. -/
def dbr (x br : S4096x2048.Idx → EReal) (g : S1x2048.Idx → EReal) (y : S4096x2048.Idx → EReal) (i : S4096x2048.Idx) : EReal :=
  back (row br (i 0)) (urow g (dy x br g y) (i 0)) (i 1)

/-- The gradient of the branch's gains. -/
def dgain (x br : S4096x2048.Idx → EReal) (g : S1x2048.Idx → EReal) (y : S4096x2048.Idx → EReal) (i : S1x2048.Idx) : EReal :=
  dg br (dy x br g y) i

/-- One row's sum of squared errors, at a row given as a number. -/
def rowSq (x br : S4096x2048.Idx → EReal) (g : S1x2048.Idx → EReal) (y : S4096x2048.Idx → EReal) (r : ℕ) : EReal :=
  if h : r < 4096 then ∑ l : Fin 2048, err x br g y (ix2 ⟨r, h⟩ l) * err x br g y (ix2 ⟨r, h⟩ l) else 0

/-- The sum of the squared errors. -/
def total (x br : S4096x2048.Idx → EReal) (g : S1x2048.Idx → EReal) (y : S4096x2048.Idx → EReal) (_ : S_.Idx) : EReal :=
  ∑ r ∈ Finset.range 4096, rowSq x br g y r

variable (m : (ℓ : Loc nD τ sig) → Buf (Elt Ideal) ℓ) (c : Dev nD)

abbrev a0 : S4096x2048.Idx → EReal := m ((c.tc : Thread nD τ).loc main_arg0)
abbrev a1 : S4096x2048.Idx → EReal := m ((c.tc : Thread nD τ).loc main_arg1)
abbrev a2 : S1x2048.Idx → EReal := m ((c.tc : Thread nD τ).loc main_arg2)
abbrev a3 : S4096x2048.Idx → EReal := m ((c.tc : Thread nD τ).loc main_arg3)

abbrev b0 (n : ℕ) (h : n < cfg0.N) : S256x2048.Idx → EReal := iblk m c 0 ⟨n, h⟩
abbrev b1 (n : ℕ) (h : n < cfg0.N) : S256x2048.Idx → EReal := iblk m c 1 ⟨n, h⟩
abbrev b2 (n : ℕ) (h : n < cfg0.N) : S1x2048.Idx → EReal := iblk m c 2 ⟨n, h⟩
abbrev b3 (n : ℕ) (h : n < cfg0.N) : S256x2048.Idx → EReal := iblk m c 3 ⟨n, h⟩

def blockErr (n : ℕ) (h : n < cfg0.N) (y : S256x2048.Idx) : EReal :=
  b0 m c n h y + b1 m c n h y * (inv fun j => b1 m c n h (ix2 (y 0) j)) * b2 m c n h (ix2 0 (y 1)) - b3 m c n h y

def blockDy (n : ℕ) (h : n < cfg0.N) (y : S256x2048.Idx) : EReal := blockErr m c n h y * Ideal.ofBits .f32 0x3A000000#32

def blockDbr (n : ℕ) (h : n < cfg0.N) (y : S256x2048.Idx) : EReal :=
  back (fun j => b1 m c n h (ix2 (y 0) j)) (fun j => blockDy m c n h (ix2 (y 0) j) * b2 m c n h (ix2 0 j)) (y 1)

/-- One group's part of the gradient of the gains. -/
def passG (n : ℕ) (h : n < cfg0.N) (j : S1x2048.Idx) : EReal :=
  ∑ k : Fin 256, blockDy m c n h (ix2 k (j 1)) * (b1 m c n h (ix2 k (j 1)) * inv fun l => b1 m c n h (ix2 k l))

/-- One group's part of the sum of squares. -/
def passS (n : ℕ) (h : n < cfg0.N) : EReal :=
  ∑ k : Fin 256, ∑ l : Fin 2048, blockErr m c n h (ix2 k l) * blockErr m c n h (ix2 k l)

theorem pay_err (t : Fin cfg0.N) :
    k0_pay7 (F := Ideal) (iblk m c 1 t) (iblk m c 0 t) (iblk m c 2 t) (iblk m c 3 t) = blockErr m c t.val t.isLt := by
  funext y
  open_payloads
  pointwise
  rfl

theorem pay_dy (t : Fin cfg0.N) :
    k0_pay8 (F := Ideal) (iblk m c 1 t) (iblk m c 0 t) (iblk m c 2 t) (iblk m c 3 t) = blockDy m c t.val t.isLt := by
  have e := pay_err m c t
  unfold k0_pay8
  dsimp only
  rw [e]
  rfl

theorem pay_sum (e : S256x2048.Idx → EReal) (s : S8x128.Idx → EReal) (y : S8x128.Idx) :
    k0_pay4 (F := Ideal) e s y = s y + ∑ k : Fin 256, ∑ l : Fin 2048, e (ix2 k l) * e (ix2 k l) := by
  open_payloads
  pointwise

theorem outDy (t : Fin cfg0.N) (y : S256x2048.Idx) : (outsAt0 m c t.val t.isLt).1 y = blockDy m c t.val t.isLt y := by
  by_cases h : t.val % 16 = 0
  · rw [outsAt0_A m c t h]
    frame_out
    rw [pay_dy]
  · rw [outsAt0_B m c t h]
    frame_out
    rw [pay_dy]

theorem outDbr (t : Fin cfg0.N) (y : S256x2048.Idx) : (outsAt0 m c t.val t.isLt).2.1 y = blockDbr m c t.val t.isLt y := by
  by_cases h : t.val % 16 = 0
  · rw [outsAt0_A m c t h]
    frame_out
    unfold k0_pay12 k0_pay11 blockDbr
    dsimp only
    rw [pay_dy]
    generalize blockDy m c t.val t.isLt = d
    open_payloads
    pointwise
    unfold back
    dsimp only
    rw [eta]
    rfl
  · rw [outsAt0_B m c t h]
    frame_out
    unfold k0_pay12 k0_pay11 blockDbr
    dsimp only
    rw [pay_dy]
    generalize blockDy m c t.val t.isLt = d
    open_payloads
    pointwise
    unfold back
    dsimp only
    rw [eta]
    rfl

theorem firstG (t : Fin cfg0.N) (h : t.val % 16 = 0) (j : S1x2048.Idx) :
  (outsAt0 m c t.val t.isLt).2.2.1 j = passG m c t.val t.isLt j := by
  rw [outsAt0_A m c t h]
  frame_out
  rw [pay_dy]
  unfold passG
  generalize blockDy m c t.val t.isLt = d
  open_payloads
  pointwise
  rfl

theorem nextG (t : Fin cfg0.N) (h : ¬t.val % 16 = 0) (j : S1x2048.Idx) :
  (outsAt0 m c t.val t.isLt).2.2.1 j
    = (outsAt0 m c (t.val - 1) (Nat.lt_of_le_of_lt (Nat.sub_le _ _) t.isLt)).2.2.1 j + passG m c t.val t.isLt j := by
  rw [outsAt0_B m c t h]
  frame_out
  rw [pay_dy]
  unfold passG
  generalize blockDy m c t.val t.isLt = d
  open_payloads
  pointwise
  rfl

theorem firstS (t : Fin cfg0.N) (h : t.val % 16 = 0) (j : S8x128.Idx) :
  (outsAt0 m c t.val t.isLt).2.2.2 j = passS m c t.val t.isLt := by
  rw [outsAt0_A m c t h]
  frame_out
  rw [pay_err]
  unfold passS
  refine (pay_sum _ _ j).trans ?_
  exact (congrArg (· + _) Ideal.ofBits_zero_f32).trans (zero_add _)

theorem nextS (t : Fin cfg0.N) (h : ¬t.val % 16 = 0) (j : S8x128.Idx) :
  (outsAt0 m c t.val t.isLt).2.2.2 j
    = (outsAt0 m c (t.val - 1) (Nat.lt_of_le_of_lt (Nat.sub_le _ _) t.isLt)).2.2.2 j + passS m c t.val t.isLt := by
  rw [outsAt0_B m c t h]
  frame_out
  rw [pay_err]
  unfold passS
  refine (pay_sum _ _ j).trans ?_
  rfl

theorem cov4 : (cfg0.win 4).Covers := by decide +kernel
theorem cov5 : (cfg0.win 5).Covers := by decide +kernel
theorem cov6 : (cfg0.win 6).Covers := by decide +kernel
theorem cov7 : (cfg0.win 7).Covers := by decide +kernel
theorem idx : ∀ t : Fin cfg0.N, win0_0.index t = ![t.val, 0] ∧ win0_1.index t = ![t.val, 0] ∧ win0_2.index t = ![0, 0]
    ∧ win0_3.index t = ![t.val, 0] := by
  decide +kernel
theorem idx_out : ∀ t : Fin cfg0.N, win0_4.index t = ![t.val, 0] ∧ win0_5.index t = ![t.val, 0] ∧ win0_6.index t = ![0, 0]
    ∧ win0_7.index t = ![0, 0] := by
  decide +kernel

/-- One group's errors are the whole error at the group's rows. -/
theorem block_err (n : ℕ) (h : n < cfg0.N) (y : S256x2048.Idx) (i : S4096x2048.Idx) (h0 : (i 0).val = n * 256 + (y 0).val)
    (h1 : (i 1).val = (y 1).val) : blockErr m c n h y = err (a0 m c) (a1 m c) (a2 m c) (a3 m c) i := by
  obtain ⟨e0, e1, e2, e3⟩ := idx ⟨n, h⟩
  dsimp only at e0 e1 e2 e3
  unfold blockErr err
  refine congr (congrArg (fun u v : EReal => u - v) (add_eq ?_ (mul_eq (mul_eq ?_ (congrArg inv (funext fun j => ?_))) ?_))) ?_
  · blk_ext [b0, iblk, V, e0, h0, h1]
  · blk_ext [b1, iblk, V, e1, h0, h1]
  · blk_ext [b1, iblk, V, e1, h0, h1]
  · blk_ext [b2, iblk, V, e2, h0, h1]
  · blk_ext [b3, iblk, V, e3, h0, h1]

theorem block_dy (n : ℕ) (h : n < cfg0.N) (y : S256x2048.Idx) (i : S4096x2048.Idx) (h0 : (i 0).val = n * 256 + (y 0).val)
    (h1 : (i 1).val = (y 1).val) : blockDy m c n h y = dy (a0 m c) (a1 m c) (a2 m c) (a3 m c) i :=
  congrArg (· * Ideal.ofBits .f32 0x3A000000#32) (block_err m c n h y i h0 h1)

theorem block_dbr (n : ℕ) (h : n < cfg0.N) (y : S256x2048.Idx) (i : S4096x2048.Idx) (h0 : (i 0).val = n * 256 + (y 0).val)
    (h1 : (i 1).val = (y 1).val) : blockDbr m c n h y = dbr (a0 m c) (a1 m c) (a2 m c) (a3 m c) i := by
  obtain ⟨-, e1, e2, -⟩ := idx ⟨n, h⟩
  dsimp only at e1 e2
  unfold blockDbr dbr
  refine congr (congr (congrArg back (funext fun j => ?_)) (funext fun j => mul_eq (block_dy m c n h _ _ h0 rfl) ?_)) (Fin.ext h1.symm)
  · blk_ext [b1, iblk, V, e1, h0, h1]
  · blk_ext [b2, iblk, V, e2, h0, h1]

theorem final0 : (dats m 0 c).arrAt 4 cfg0.N = dy (a0 m c) (a1 m c) (a2 m c) (a3 m c) := by
  refine (dats m 0 c).arrAt_eq_of_covers 4 _ cov4 fun t hf y => ?_
  obtain ⟨e4, e5, -⟩ := idx_out t
  have h0 : ((((cfg0.win 4).blk t).view.emb y : S4096x2048.Idx) 0).val = t.val * 256 + (y 0).val := by blk_simp [e4]
  have h1 : ((((cfg0.win 4).blk t).view.emb y : S4096x2048.Idx) 1).val = (y 1).val := by blk_simp [e4]
  blk_simp
  rw [after0_4]
  exact (outDy m c t y).trans (block_dy m c t.val t.isLt y _ h0 h1)

theorem final1 : (dats m 0 c).arrAt 5 cfg0.N = dbr (a0 m c) (a1 m c) (a2 m c) (a3 m c) := by
  refine (dats m 0 c).arrAt_eq_of_covers 5 _ cov5 fun t hf y => ?_
  obtain ⟨e4, e5, -⟩ := idx_out t
  have h0 : ((((cfg0.win 5).blk t).view.emb y : S4096x2048.Idx) 0).val = t.val * 256 + (y 0).val := by blk_simp [e5]
  have h1 : ((((cfg0.win 5).blk t).view.emb y : S4096x2048.Idx) 1).val = (y 1).val := by blk_simp [e5]
  blk_simp
  rw [after0_5]
  exact (outDbr m c t y).trans (block_dbr m c t.val t.isLt y _ h0 h1)

abbrev wholeDy : S4096x2048.Idx → EReal := dy (a0 m c) (a1 m c) (a2 m c) (a3 m c)

theorem chunkG (n : ℕ) (h : n < cfg0.N) (j : S1x2048.Idx) :
    passG m c n h j = ∑ k : Fin 256, term (a1 m c) (wholeDy m c) j (n * 256 + k.val) := by
  obtain ⟨-, e1, -, -⟩ := idx ⟨n, h⟩
  dsimp only at e1
  have hn : n < 16 := h
  refine Finset.sum_congr rfl fun k _ => ?_
  unfold term part
  rw [dif_pos (by omega)]
  refine mul_eq (block_dy m c n h _ _ rfl rfl) (mul_eq ?_ (congrArg inv (funext fun l => ?_)))
  · blk_ext [b1, iblk, V, e1]
  · blk_ext [b1, iblk, V, e1]

theorem upToG (n : ℕ) (h : n < cfg0.N) (j : S1x2048.Idx) :
    (outsAt0 m c n h).2.2.1 j = ∑ q ∈ Finset.range (n + 1), ∑ k : Fin 256, term (a1 m c) (wholeDy m c) j (q * 256 + k.val) := by
  induction n with
  | zero => rw [Finset.sum_range_one, ← chunkG m c 0 h j]; exact firstG m c ⟨0, h⟩ rfl j
  | succ n ih =>
    have hn : n + 1 < 16 := h
    rw [Finset.sum_range_succ, ← chunkG m c (n + 1) h j, ← ih (by omega)]
    exact nextG m c ⟨n + 1, h⟩ (by dsimp only; omega) j

theorem final2 : (dats m 0 c).arrAt 6 cfg0.N = dgain (a0 m c) (a1 m c) (a2 m c) (a3 m c) := by
  refine (dats m 0 c).arrAt_eq_of_covers 6 _ cov6 fun t hf y => ?_
  have h15 : t.val % 16 = 15 := (flush0_6 t).mp hf
  have ht : t.val < 16 := t.isLt
  obtain ⟨-, -, e6, -⟩ := idx_out t
  have hi : ((cfg0.win 6).blk t).view.emb y = y := by blk_ext [e6]
  blk_simp
  rw [after0_6, hi]
  refine (upToG m c t.val t.isLt y).trans (Eq.trans ?_ (dg_chunks (a1 m c) (wholeDy m c) y).symm)
  rw [show t.val + 1 = 16 by omega]

theorem chunkS (n : ℕ) (h : n < cfg0.N) :
    passS m c n h = ∑ k : Fin 256, rowSq (a0 m c) (a1 m c) (a2 m c) (a3 m c) (n * 256 + k.val) := by
  have hn : n < 16 := h
  refine Finset.sum_congr rfl fun k _ => ?_
  unfold rowSq
  rw [dif_pos (by omega)]
  exact Finset.sum_congr rfl fun l _ => mul_eq (block_err m c n h _ _ rfl rfl) (block_err m c n h _ _ rfl rfl)

theorem upToS (n : ℕ) (h : n < cfg0.N) (j : S8x128.Idx) : (outsAt0 m c n h).2.2.2 j
    = ∑ q ∈ Finset.range (n + 1), ∑ k : Fin 256, rowSq (a0 m c) (a1 m c) (a2 m c) (a3 m c) (q * 256 + k.val) := by
  induction n with
  | zero => rw [Finset.sum_range_one, ← chunkS m c 0 h]; exact firstS m c ⟨0, h⟩ rfl j
  | succ n ih =>
    have hn : n + 1 < 16 := h
    rw [Finset.sum_range_succ, ← chunkS m c (n + 1) h, ← ih (by omega)]
    exact nextS m c ⟨n + 1, h⟩ (by dsimp only; omega) j

theorem final7 : (dats m 0 c).arrAt 7 cfg0.N
    = fun _ : S8x128.Idx => total (a0 m c) (a1 m c) (a2 m c) (a3 m c) ix0 := by
  refine (dats m 0 c).arrAt_eq_of_covers 7 _ cov7 fun t hf y => ?_
  have h15 : t.val % 16 = 15 := (flush0_7 t).mp hf
  have ht : t.val < 16 := t.isLt
  blk_simp
  rw [after0_7]
  refine (upToS m c t.val t.isLt y).trans ?_
  rw [show t.val + 1 = 16 by omega, ← sum_chunks (rowSq (a0 m c) (a1 m c) (a2 m c) (a3 m c)) 16 256]
  exact Fin.sum_univ_eq_sum_range (rowSq (a0 m c) (a1 m c) (a2 m c) (a3 m c)) 4096

/-! ## The run -/

theorem out_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w cfg0.N :=
  Pipeline.withArrays_arr (cfgs 0).spec (by decide) c _ _ w

theorem run (ρ : Dev nD → PrngReg) : θ_run defs (onTc (τ := τ) (main (F := Ideal))) ⟨m, fun _ => 0, ρ⟩ fun r => ∀ c : Dev nD,
      r.2.mem ((c.tc : Thread nD τ).loc main_v0_0) = dy (a0 m c) (a1 m c) (a2 m c) (a3 m c)
      ∧ r.2.mem ((c.tc : Thread nD τ).loc main_v0_1) = dbr (a0 m c) (a1 m c) (a2 m c) (a3 m c)
      ∧ r.2.mem ((c.tc : Thread nD τ).loc main_v0_2) = dgain (a0 m c) (a1 m c) (a2 m c) (a3 m c)
      ∧ r.2.mem ((c.tc : Thread nD τ).loc main_v2) = total (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (unchanged m ρ))
  obtain ⟨h, hu⟩ := h
  refine ⟨((h c).1 4).trans (final0 m c), ((h c).1 5).trans (final1 m c), ((h c).1 6).trans (final2 m c), ?_, hu c⟩
  refine ((h c).2 main_v2 (by decide)).trans ?_
  unfold Pipeline.afterTail₀
  simp only [List.flatten_cons, List.flatten_nil, List.append_nil]
  unfold hostOps1
  after_results
  refine (congrArg (fun X => shapeCast S_ (extractStridedSlice S1x1 ![0, 0] X slices_S8x128_S1x1_0_0) shapeCasts_S1x1_S_)
    ((out_arr m c 7).trans (final7 m c))).trans ?_
  funext i
  rfl

/-! ## The reference -/

open Cert.FinalLossReferenceIdeal.Read

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_inv_width : Ideal.ofBits .f32 0x3A000000#32 = ((1 / 2048 : ℝ) : EReal) := by
  simp [Ideal.ofBits, Ideal.ieee, -EReal.coe_mul]; norm_num

/-- Half the mean's two factors. -/
theorem factor (e : EReal) : Ideal.div (Ideal.ofBits .f32 0x3F000000#32 * Ideal.ofBits .f32 0x3F800000#32) (Ideal.ofBits .f32 0x45000000#32)
    * (Ideal.ofBits .f32 0x40000000#32 * e) = e * Ideal.ofBits .f32 0x3A000000#32 := by
  rw [ofBits_width, ofBits_half, ofBits_one, ofBits_inv_width, Ideal.div_coe (by norm_num), Cert.Mat.ofBits_two,
    show (2 : EReal) = ((2 : ℝ) : EReal) from rfl, ← mul_assoc, mul_comm e]
  refine congrArg (· * e) ?_
  rw [← EReal.coe_mul, ← EReal.coe_mul, ← EReal.coe_mul]
  norm_num

theorem ref_sq (br : S4096x2048.Idx → EReal) (q : Cert.FinalLossReferenceIdeal.S4096x1.Idx) :
    val_main_v8 (F := Ideal) br q = Cert.Norm.sq (row br (q 0)) := by
  rw [val_main_v8_apply, val_main_v6_apply, val_main_v4_apply, val_main_v3_apply, val_main_v5_apply, val_main_v7_apply]
  refine congrArg (fun s => Ideal.div s (Ideal.ofBits .f32 0x45000000#32) + Ideal.ofBits .f32 0x358637BD#32) ?_
  refine (congrArg (· + _) Ideal.ofBits_zero_f32).trans ((zero_add _).trans (Finset.sum_congr rfl fun k _ => ?_))
  refine mul_eq (congrArg br ?_) (congrArg br ?_) <;> blk_ext

theorem ref_inv (br : S4096x2048.Idx → EReal) (q : Cert.FinalLossReferenceIdeal.S4096x1.Idx) :
    val_main_v9 (F := Ideal) br q = inv (row br (q 0)) := congrArg Ideal.rsqrt (ref_sq br q)

theorem ref_err (x br : S4096x2048.Idx → EReal) (g : S1x2048.Idx → EReal) (y : S4096x2048.Idx → EReal) (i : S4096x2048.Idx) : val_main_v19 (F := Ideal) x br g y i = err x br g y i := by
  rw [val_main_v19_apply, val_main_v18_apply, val_main_v17_apply, val_main_v14_apply, val_main_v13_apply, ref_inv,
    val_main_v16_apply, val_main_v15_apply, val_main_v1_apply]
  refine congrArg (fun s => x i + s - y i) (mul_eq rfl (congrArg g ?_))
  blk_ext

theorem read0 (x br : S4096x2048.Idx → EReal) (g : S1x2048.Idx → EReal) (y : S4096x2048.Idx → EReal) (i : S4096x2048.Idx) : val_main_v33 (F := Ideal) x br g y i = dy x br g y i := by
  rw [val_main_v33_apply, val_main_v32_apply, val_main_v31_apply, val_main_v29_apply, val_main_v28_apply, val_main_v30_apply,
    val_main_v22_apply, val_main_v21_apply, ref_err]
  exact factor _

theorem ref_u (x br : S4096x2048.Idx → EReal) (g : S1x2048.Idx → EReal) (y : S4096x2048.Idx → EReal) (i : S4096x2048.Idx) :
    val_main_v38 (F := Ideal) x br g y i = urow g (dy x br g y) (i 0) (i 1) := by
  rw [val_main_v38_apply, read0, val_main_v37_apply, val_main_v15_apply, val_main_v1_apply]
  refine mul_eq (congrArg (dy x br g y) ?_) (congrArg g ?_) <;> blk_ext

theorem ref_chain (x br : S4096x2048.Idx → EReal) (g : S1x2048.Idx → EReal) (y : S4096x2048.Idx → EReal) (i : Cert.FinalLossReferenceIdeal.S4096.Idx) :
    val_main_v48 (F := Ideal) x br g y i = chain (row br (i 0)) (urow g (dy x br g y) (i 0)) := by
  rw [val_main_v48_apply, Fin.sum_univ_one]
  refine (congrArg (· + _) Ideal.ofBits_zero_f32).trans ((zero_add _).trans ?_)
  rw [val_main_v47_apply, val_main_v45_apply, val_main_v46_apply, val_main_v42_apply, val_main_v41_apply, val_main_v12_apply,
    val_main_v11_apply, val_main_v10_apply, ref_inv, ref_sq]
  refine congrArg (fun s => Ideal.div s (Ideal.ofBits .f32 0x45000000#32)) (mul_eq ?_ ?_)
  · refine (congrArg (· + _) Ideal.ofBits_zero_f32).trans ((zero_add _).trans (Finset.sum_congr rfl fun k _ => ?_))
    rw [val_main_v40_apply, ref_u]
    refine mul_eq (congrArg br ?_) (mul_eq (congrArg (dy x br g y) ?_) (congrArg g ?_)) <;> blk_ext
  · rfl

theorem read1 (x br : S4096x2048.Idx → EReal) (g : S1x2048.Idx → EReal) (y : S4096x2048.Idx → EReal) (i : S4096x2048.Idx) : val_main_v54 (F := Ideal) x br g y i = dbr x br g y i := by
  unfold dbr
  rw [val_main_v54_apply, val_main_v53_apply, val_main_v51_apply, val_main_v52_apply, val_main_v50_apply, val_main_v44_apply,
    val_main_v43_apply, val_main_v49_apply, ref_u, ref_inv, ref_chain, val_main_v0_apply]
  refine Eq.trans ?_ (back_eq (row br (i 0)) (urow g (dy x br g y) (i 0)) (i 1)).symm
  have hi : row br (i 0) (i 1) = br i := congrArg br (by blk_ext)
  rw [hi]
  rfl

theorem read2 (x br : S4096x2048.Idx → EReal) (g : S1x2048.Idx → EReal) (y : S4096x2048.Idx → EReal) (i : S1x2048.Idx) : val_main_v55 (F := Ideal) x br g y i = dgain x br g y i := by
  rw [val_main_v55_apply, val_main_v39_apply, Fin.sum_univ_one]
  refine (congrArg (· + _) Ideal.ofBits_zero_f32).trans ((zero_add _).trans ?_)
  rw [val_main_v36_apply, val_main_v35_apply]
  refine (congrArg (· + _) Ideal.ofBits_zero_f32).trans ((zero_add _).trans (Finset.sum_congr rfl fun k _ => ?_))
  rw [val_main_v34_apply, val_main_v14_apply, val_main_v13_apply, ref_inv, read0]
  refine (mul_comm _ _).trans (mul_eq (congrArg (dy x br g y) ?_) (mul_eq (congrArg br ?_) rfl)) <;> blk_ext

theorem last_inv (br : S4096x2048.Idx → EReal) (q : Cert.FinalLossReferenceIdeal.S4096x1.Idx) :
    val_main_v64 (F := Ideal) br q = inv (row br (q 0)) := by
  refine congrArg Ideal.rsqrt ?_
  rw [val_main_v63_apply, val_main_v61_apply, val_main_v59_apply, val_main_v58_apply, val_main_v60_apply, val_main_v62_apply]
  refine congrArg (fun s => Ideal.div s (Ideal.ofBits .f32 0x45000000#32) + Ideal.ofBits .f32 0x358637BD#32) ?_
  refine (congrArg (· + _) Ideal.ofBits_zero_f32).trans ((zero_add _).trans (Finset.sum_congr rfl fun k _ => ?_))
  refine mul_eq (congrArg br ?_) (congrArg br ?_) <;> blk_ext

theorem last_err (x br : S4096x2048.Idx → EReal) (g : S1x2048.Idx → EReal) (y : S4096x2048.Idx → EReal) (i : S4096x2048.Idx) : val_main_v71 (F := Ideal) x br g y i = err x br g y i := by
  rw [val_main_v71_apply, val_main_v70_apply, val_main_v69_apply, val_main_v66_apply, val_main_v65_apply, last_inv,
    val_main_v68_apply, val_main_v67_apply, val_main_v56_apply]
  refine congrArg (fun s => x i + s - y i) (mul_eq rfl (congrArg g ?_))
  blk_ext

theorem read3 (x br : S4096x2048.Idx → EReal) (g : S1x2048.Idx → EReal) (y : S4096x2048.Idx → EReal) (i : S_.Idx) : val_main_v73 (F := Ideal) x br g y i = total x br g y i := by
  rw [val_main_v73_apply]
  refine (congrArg (· + _) Ideal.ofBits_zero_f32).trans ((zero_add _).trans ?_)
  refine (sum_idx2 _).trans (Eq.trans ?_ (Fin.sum_univ_eq_sum_range (rowSq x br g y) 4096))
  refine Finset.sum_congr rfl fun r _ => ?_
  unfold rowSq
  rw [dif_pos r.isLt]
  refine Finset.sum_congr rfl fun l _ => ?_
  rw [val_main_v72_apply, last_err]
  rfl

end Cert.FinalLossIdeal.Whole

end
-- ==== Proof.Block.lean ====
/- What one grid point of the gradient of the short gated convolution leaves in its two output blocks, as plain
   functions of the five input blocks, over the extended reals.

   The body keeps two scratch arrays of 4104 rows: the product of the second gate and the input, below eight rows of
   zeros (`ps`), and the gradient reaching the convolution's result, above eight rows of zeros (`dc`). Both are written
   in pieces of 512 rows and then read through windows shifted by one or two rows. Here every such read is a window of
   one function, and so is every store of the results. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Mixer

open Idealize.ShloMosaic Idealize.ShloMosaic.TcCoe Idealize.ShloMosaic.Tactic Idealize.SL.Sem
open Cert.KernelIdeal Cert.KernelIdeal.Gen

/-! ## Blocks read at numbers -/

/-- A block of one input at row `r` and lane `l`, zero outside the block. -/
def rd (X : S1x4096x128.Idx → EReal) (r l : ℕ) : EReal :=
  if h : r < 4096 ∧ l < 128 then X (ix3 0 ⟨r, h.1⟩ ⟨l, h.2⟩) else 0

theorem rd_at (X : S1x4096x128.Idx → EReal) (r : Fin 4096) (l : Fin 128) {n k : ℕ} (hn : n = r.val) (hk : k = l.val) :
    X (ix3 0 r l) = rd X n k := by
  subst hn hk
  rw [rd, dif_pos ⟨r.isLt, l.isLt⟩]

/-- Tap `k` of the convolution at lane `l`, zero outside the block. -/
def rdw (W : S3x128.Idx → EReal) (k l : ℕ) : EReal :=
  if h : k < 3 ∧ l < 128 then W (ix2 ⟨k, h.1⟩ ⟨l, h.2⟩) else 0

theorem rdw_at (W : S3x128.Idx → EReal) (r : Fin 3) (l : Fin 128) {n k : ℕ} (hn : n = r.val) (hk : k = l.val) :
    W (ix2 r l) = rdw W n k := by
  subst hn hk
  rw [rdw, dif_pos ⟨r.isLt, l.isLt⟩]

theorem mul_eq {a b c d : EReal} (h : a = c) (k : b = d) : a * b = c * d := congr (congrArg _ h) k
theorem add_eq {a b c d : EReal} (h : a = c) (k : b = d) : a + b = c + d := congr (congrArg _ h) k

/-- The product of the second gate and the input, moved down by eight rows, zeros above. -/
def ps (cg ax : ℕ → ℕ → EReal) (n l : ℕ) : EReal :=
  if 8 ≤ n then cg (n - 8) l * ax (n - 8) l else 0

/-- The gradient reaching the convolution's result; zero from row 4096 on. -/
def dc (dy bg : ℕ → ℕ → EReal) (n l : ℕ) : EReal := dy n l * bg n l

/-- `ps` as the contents of the first scratch array. -/
def PS (cg ax : S1x4096x128.Idx → EReal) (y : S4104x128.Idx) : EReal := ps (rd cg) (rd ax) (y 0).val (y 1).val

/-- `dc` as the contents of the second scratch array. -/
def DC (dy bg : S1x4096x128.Idx → EReal) (y : S4104x128.Idx) : EReal := dc (rd dy) (rd bg) (y 0).val (y 1).val

theorem PS_at (X Y : S1x4096x128.Idx → EReal) (r : Fin 4104) (l : Fin 128) {n k : ℕ} (hn : n = r.val) (hk : k = l.val) :
    PS X Y (ix2 r l) = ps (rd X) (rd Y) n k := by subst hn hk; rfl
theorem DC_at (X Y : S1x4096x128.Idx → EReal) (r : Fin 4104) (l : Fin 128) {n k : ℕ} (hn : n = r.val) (hk : k = l.val) :
    DC X Y (ix2 r l) = dc (rd X) (rd Y) n k := by subst hn hk; rfl

/-! ## The two scratch arrays -/

/-- The stores into the first scratch array, last first. -/
abbrev LP (X Y : S1x4096x128.Idx → Elt Ideal .f32) : List (View.Piece (Elt Ideal) S4104x128 .f32) :=
  [⟨Rect.unit ![3592, 0] ![512, 128] inb_S4104x128_S512x128_3592_0, k0_pay12 (View.ld X (Rect.unit ![0, 3584, 0] ![1, 512, 128] inb_S1x4096x128_S1x512x128_0_3584_0)) (View.ld Y (Rect.unit ![0, 3584, 0] ![1, 512, 128] inb_S1x4096x128_S1x512x128_0_3584_0))⟩,
   ⟨Rect.unit ![3080, 0] ![512, 128] inb_S4104x128_S512x128_3080_0, k0_pay11 (View.ld X (Rect.unit ![0, 3072, 0] ![1, 512, 128] inb_S1x4096x128_S1x512x128_0_3072_0)) (View.ld Y (Rect.unit ![0, 3072, 0] ![1, 512, 128] inb_S1x4096x128_S1x512x128_0_3072_0))⟩,
   ⟨Rect.unit ![2568, 0] ![512, 128] inb_S4104x128_S512x128_2568_0, k0_pay10 (View.ld X (Rect.unit ![0, 2560, 0] ![1, 512, 128] inb_S1x4096x128_S1x512x128_0_2560_0)) (View.ld Y (Rect.unit ![0, 2560, 0] ![1, 512, 128] inb_S1x4096x128_S1x512x128_0_2560_0))⟩,
   ⟨Rect.unit ![2056, 0] ![512, 128] inb_S4104x128_S512x128_2056_0, k0_pay9 (View.ld X (Rect.unit ![0, 2048, 0] ![1, 512, 128] inb_S1x4096x128_S1x512x128_0_2048_0)) (View.ld Y (Rect.unit ![0, 2048, 0] ![1, 512, 128] inb_S1x4096x128_S1x512x128_0_2048_0))⟩,
   ⟨Rect.unit ![1544, 0] ![512, 128] inb_S4104x128_S512x128_1544_0, k0_pay8 (View.ld X (Rect.unit ![0, 1536, 0] ![1, 512, 128] inb_S1x4096x128_S1x512x128_0_1536_0)) (View.ld Y (Rect.unit ![0, 1536, 0] ![1, 512, 128] inb_S1x4096x128_S1x512x128_0_1536_0))⟩,
   ⟨Rect.unit ![1032, 0] ![512, 128] inb_S4104x128_S512x128_1032_0, k0_pay7 (k0_pay6 (View.ld X (Rect.unit ![0, 1024, 0] ![1, 512, 128] inb_S1x4096x128_S1x512x128_0_1024_0))) (View.ld Y (Rect.unit ![0, 1024, 0] ![1, 512, 128] inb_S1x4096x128_S1x512x128_0_1024_0))⟩,
   ⟨Rect.unit ![520, 0] ![512, 128] inb_S4104x128_S512x128_520_0, k0_pay5 (View.ld X (Rect.unit ![0, 512, 0] ![1, 512, 128] inb_S1x4096x128_S1x512x128_0_512_0)) (View.ld Y (Rect.unit ![0, 512, 0] ![1, 512, 128] inb_S1x4096x128_S1x512x128_0_512_0))⟩,
   ⟨Rect.unit ![8, 0] ![512, 128] inb_S4104x128_S512x128_8_0, k0_pay4 (View.ld X (Rect.unit ![0, 0, 0] ![1, 512, 128] inb_S1x4096x128_S1x512x128_0_0_0)) (View.ld Y (Rect.unit ![0, 0, 0] ![1, 512, 128] inb_S1x4096x128_S1x512x128_0_0_0))⟩,
   ⟨Rect.unit ![0, 0] ![8, 128] inb_S4104x128_S8x128_0_0, k0_pay2 (F := Ideal)⟩]

/-- The stores into the second scratch array, last first. -/
abbrev LD (X Y : S1x4096x128.Idx → Elt Ideal .f32) : List (View.Piece (Elt Ideal) S4104x128 .f32) :=
  [⟨Rect.unit ![3584, 0] ![512, 128] inb_S4104x128_S512x128_3584_0, k0_pay40 (View.ld X (Rect.unit ![0, 3584, 0] ![1, 512, 128] inb_S1x4096x128_S1x512x128_0_3584_0)) (View.ld Y (Rect.unit ![0, 3584, 0] ![1, 512, 128] inb_S1x4096x128_S1x512x128_0_3584_0))⟩,
   ⟨Rect.unit ![3072, 0] ![512, 128] inb_S4104x128_S512x128_3072_0, k0_pay36 (View.ld X (Rect.unit ![0, 3072, 0] ![1, 512, 128] inb_S1x4096x128_S1x512x128_0_3072_0)) (View.ld Y (Rect.unit ![0, 3072, 0] ![1, 512, 128] inb_S1x4096x128_S1x512x128_0_3072_0))⟩,
   ⟨Rect.unit ![2560, 0] ![512, 128] inb_S4104x128_S512x128_2560_0, k0_pay33 (k0_pay31 (View.ld X (Rect.unit ![0, 2560, 0] ![1, 512, 128] inb_S1x4096x128_S1x512x128_0_2560_0))) (View.ld Y (Rect.unit ![0, 2560, 0] ![1, 512, 128] inb_S1x4096x128_S1x512x128_0_2560_0))⟩,
   ⟨Rect.unit ![2048, 0] ![512, 128] inb_S4104x128_S512x128_2048_0, k0_pay30 (View.ld X (Rect.unit ![0, 2048, 0] ![1, 512, 128] inb_S1x4096x128_S1x512x128_0_2048_0)) (View.ld Y (Rect.unit ![0, 2048, 0] ![1, 512, 128] inb_S1x4096x128_S1x512x128_0_2048_0))⟩,
   ⟨Rect.unit ![1536, 0] ![512, 128] inb_S4104x128_S512x128_1536_0, k0_pay26 (View.ld X (Rect.unit ![0, 1536, 0] ![1, 512, 128] inb_S1x4096x128_S1x512x128_0_1536_0)) (View.ld Y (Rect.unit ![0, 1536, 0] ![1, 512, 128] inb_S1x4096x128_S1x512x128_0_1536_0))⟩,
   ⟨Rect.unit ![1024, 0] ![512, 128] inb_S4104x128_S512x128_1024_0, k0_pay22 (View.ld X (Rect.unit ![0, 1024, 0] ![1, 512, 128] inb_S1x4096x128_S1x512x128_0_1024_0)) (View.ld Y (Rect.unit ![0, 1024, 0] ![1, 512, 128] inb_S1x4096x128_S1x512x128_0_1024_0))⟩,
   ⟨Rect.unit ![512, 0] ![512, 128] inb_S4104x128_S512x128_512_0, k0_pay19 (k0_pay17 (View.ld X (Rect.unit ![0, 512, 0] ![1, 512, 128] inb_S1x4096x128_S1x512x128_0_512_0))) (View.ld Y (Rect.unit ![0, 512, 0] ![1, 512, 128] inb_S1x4096x128_S1x512x128_0_512_0))⟩,
   ⟨Rect.unit ![0, 0] ![512, 128] inb_S4104x128_S512x128_0_0, k0_pay16 (View.ld X (Rect.unit ![0, 0, 0] ![1, 512, 128] inb_S1x4096x128_S1x512x128_0_0_0)) (View.ld Y (Rect.unit ![0, 0, 0] ![1, 512, 128] inb_S1x4096x128_S1x512x128_0_0_0))⟩,
   ⟨Rect.unit ![4096, 0] ![8, 128] inb_S4104x128_S8x128_4096_0, k0_pay3 (F := Ideal)⟩]

theorem coverP (X Y : S1x4096x128.Idx → Elt Ideal .f32) (y : S4104x128.Idx) : ∃ p ∈ LP X Y, y ∈ p.1.set :=
  View.cover_of_tiledBy _ ![8, 128] (by sl_kernel_rfl) y

theorem coverD (X Y : S1x4096x128.Idx → Elt Ideal .f32) (y : S4104x128.Idx) : ∃ p ∈ LD X Y, y ∈ p.1.set :=
  View.cover_of_tiledBy _ ![8, 128] (by sl_kernel_rfl) y

theorem canonP (X Y : S1x4096x128.Idx → Elt Ideal .f32) (y : S4104x128.Idx) (h : ∃ p ∈ LP X Y, y ∈ p.1.set) :
    View.canon (LP X Y) y = PS X Y y := by
  unfold LP
  canon_tiles x hx using h
  all_goals
    open_payloads
    unfold PS ps
    pointwise
    first
      | (rw [if_pos (by omega)]; exact mul_eq (rd_at _ _ _ (by dsimp only; omega) hx1) (rd_at _ _ _ (by dsimp only; omega) hx1))
      | rw [if_neg (by omega)]

theorem canonD (X Y : S1x4096x128.Idx → Elt Ideal .f32) (y : S4104x128.Idx) (h : ∃ p ∈ LD X Y, y ∈ p.1.set) :
    View.canon (LD X Y) y = DC X Y y := by
  unfold LD
  canon_tiles x hx using h
  all_goals
    open_payloads
    unfold DC dc
    pointwise
    first
      | exact mul_eq (rd_at _ _ _ hx0 hx1) (rd_at _ _ _ hx0 hx1)
      | (rw [rd, rd, dif_neg (by omega), dif_neg (by omega), mul_zero])

/-- A load of the first scratch array is a window of `PS`. -/
theorem readP (X Y : S1x4096x128.Idx → Elt Ideal .f32) (r : Rect S4104x128) :
    (View.whole cc0_scratch0).readCov (LP X Y) r.toLoadRect = View.ld (PS X Y : S4104x128.Idx → Elt Ideal .f32) r := by
  rw [View.readCov_eq_canon_ld _ _ _ (fun y => coverP X Y y)]
  exact congrArg (fun G => View.ld G r) (funext fun y => canonP X Y y (coverP X Y y))

/-- A load of the second scratch array is a window of `DC`. -/
theorem readD (X Y : S1x4096x128.Idx → Elt Ideal .f32) (r : Rect S4104x128) :
    (View.whole cc0_scratch1).readCov (LD X Y) r.toLoadRect = View.ld (DC X Y : S4104x128.Idx → Elt Ideal .f32) r := by
  rw [View.readCov_eq_canon_ld _ _ _ (fun y => coverD X Y y)]
  exact congrArg (fun G => View.ld G r) (funext fun y => canonD X Y y (coverD X Y y))

/-! ## The results of a grid point -/

/-- The convolution. -/
def conv (W cg ax : ℕ → ℕ → EReal) (r l : ℕ) : EReal :=
  W 2 l * ps cg ax (r + 8) l + W 1 l * ps cg ax (r + 7) l + W 0 l * ps cg ax (r + 6) l

/-- The gradient reaching the convolution's input. -/
def dpv (W dy bg : ℕ → ℕ → EReal) (r l : ℕ) : EReal :=
  W 2 l * dc dy bg r l + W 1 l * dc dy bg (r + 1) l + W 0 l * dc dy bg (r + 2) l

/-- The first output block: the gradients of the three slots of the projection. -/
def G5 (bg cg ax W dy : ℕ → ℕ → EReal) (s r l : ℕ) : EReal :=
  if s = 0 then dy r l * conv W cg ax r l
  else if s = 1 then dpv W dy bg r l * ax r l
  else dpv W dy bg r l * cg r l

/-- The second output block: the gradients of the three taps, one per row, and rows of zeros. -/
def G6 (bg cg ax dy : ℕ → ℕ → EReal) (k l : ℕ) : EReal :=
  if k < 3 then ∑ r ∈ Finset.range 4096, dc dy bg r l * ps cg ax (r + (6 + k)) l else 0

variable (m : (ℓ : Loc nD τ sig) → Buf (Elt Ideal) ℓ)

theorem out5 (c : Dev nD) (t : Fin cfg0.N) (y : S3x4096x128.Idx) :
    (outsAt0 m c t).1 y = G5 (rd (iblk m c 0 t)) (rd (iblk m c 1 t)) (rd (iblk m c 2 t)) (rdw (iblk m c 3 t)) (rd (iblk m c 4 t)) (y 0).val (y 1).val (y 2).val := by
  unfold outsAt0
  frame_out
  simp only [readP, readD]
  canon_tiles x hx
  all_goals
    open_payloads
    pointwise
    first
      | (rw [G5, if_pos (by omega), conv]
         refine mul_eq (rd_at _ _ _ hx1 hx2) (add_eq (add_eq (mul_eq ?_ ?_) (mul_eq ?_ ?_)) (mul_eq ?_ ?_)))
      | (rw [G5, if_neg (by omega), if_pos (by omega), dpv]
         refine mul_eq (add_eq (add_eq (mul_eq ?_ ?_) (mul_eq ?_ ?_)) (mul_eq ?_ ?_)) (rd_at _ _ _ hx1 hx2))
      | (rw [G5, if_neg (by omega), if_neg (by omega), dpv]
         refine mul_eq (add_eq (add_eq (mul_eq ?_ ?_) (mul_eq ?_ ?_)) (mul_eq ?_ ?_)) (rd_at _ _ _ hx1 hx2))
    all_goals first
      | exact rdw_at _ _ _ rfl hx2
      | exact PS_at _ _ _ _ (by dsimp only; omega) hx2
      | exact DC_at _ _ _ _ (by dsimp only; omega) hx2

/-- A sum over 4096 rows from its eight parts of 512 rows. -/
theorem sum_rows (f : ℕ → EReal) : ∑ r ∈ Finset.range 4096, f r =
    ∑ x : Fin 512, f (0 + x.val) + ∑ x : Fin 512, f (512 + x.val) + ∑ x : Fin 512, f (1024 + x.val) + ∑ x : Fin 512, f (1536 + x.val)
      + ∑ x : Fin 512, f (2048 + x.val) + ∑ x : Fin 512, f (2560 + x.val) + ∑ x : Fin 512, f (3072 + x.val)
      + ∑ x : Fin 512, f (3584 + x.val) := by
  simp only [Nat.zero_add, Fin.sum_univ_eq_sum_range (fun n => f n), Fin.sum_univ_eq_sum_range (fun n => f (512 + n)),
    Fin.sum_univ_eq_sum_range (fun n => f (1024 + n)), Fin.sum_univ_eq_sum_range (fun n => f (1536 + n)),
    Fin.sum_univ_eq_sum_range (fun n => f (2048 + n)), Fin.sum_univ_eq_sum_range (fun n => f (2560 + n)),
    Fin.sum_univ_eq_sum_range (fun n => f (3072 + n)), Fin.sum_univ_eq_sum_range (fun n => f (3584 + n)),
    ← Finset.sum_range_add f, Nat.reduceAdd]

/-- Row `r + 6 + k` against row `r`, summed over the parts of 512 rows that start at row `o`. -/
theorem part (X Y A B : S1x4096x128.Idx → EReal) (l : Fin 128) (o q k : ℕ) (ho : o + 512 ≤ 4104) (hq : q + 512 ≤ 4104)
    (h : q = o + (6 + k)) (u v : Fin 512 → Fin 4104) (hu : ∀ x, (u x).val = o + x.val) (hv : ∀ x, (v x).val = q + x.val) :
    ∑ x : Fin 512, DC A B (ix2 (u x) l) * PS X Y (ix2 (v x) l)
      = ∑ x : Fin 512, dc (rd A) (rd B) (o + x.val) l.val * ps (rd X) (rd Y) (o + x.val + (6 + k)) l.val := by
  refine Finset.sum_congr rfl fun x _ => mul_eq (DC_at _ _ _ _ (hu x).symm rfl) (PS_at _ _ _ _ ?_ rfl)
  rw [hv]; omega

theorem out6 (c : Dev nD) (t : Fin cfg0.N) (y : S1x8x128.Idx) :
    (outsAt0 m c t).2 y = G6 (rd (iblk m c 0 t)) (rd (iblk m c 1 t)) (rd (iblk m c 2 t)) (rd (iblk m c 4 t)) (y 1).val (y 2).val := by
  unfold outsAt0
  frame_out
  simp only [readP, readD]
  open_payloads
  pointwise
  have key : ∀ (k : ℕ) (s : EReal), s = ∑ r ∈ Finset.range 4096, dc (rd (iblk m c 4 t)) (rd (iblk m c 0 t)) r (y 2).val
      * ps (rd (iblk m c 1 t)) (rd (iblk m c 2 t)) (r + (6 + k)) (y 2).val → k < 3 → (y 1).val = k →
      s = G6 (rd (iblk m c 0 t)) (rd (iblk m c 1 t)) (rd (iblk m c 2 t)) (rd (iblk m c 4 t)) (y 1).val (y 2).val := by
    intro k s hs hk h
    rw [G6, h, if_pos hk, hs]
  have hy : (y 1).val < 8 := (y 1).isLt
  generalize (y 1).val = k at hy key ⊢
  interval_cases k
  · refine key 0 _ ?_ (by decide) rfl
    rw [sum_rows]
    refine add_eq (add_eq (add_eq (add_eq (add_eq (add_eq (add_eq ?_ ?_) ?_) ?_) ?_) ?_) ?_) ?_
    all_goals exact part _ _ _ _ _ _ _ _ (by decide) (by decide) rfl _ _ (fun x => by first | rfl | exact (Nat.zero_add _).symm) (fun x => rfl)
  · refine key 1 _ ?_ (by decide) rfl
    rw [sum_rows]
    refine add_eq (add_eq (add_eq (add_eq (add_eq (add_eq (add_eq ?_ ?_) ?_) ?_) ?_) ?_) ?_) ?_
    all_goals exact part _ _ _ _ _ _ _ _ (by decide) (by decide) rfl _ _ (fun x => by first | rfl | exact (Nat.zero_add _).symm) (fun x => rfl)
  · refine key 2 _ ?_ (by decide) rfl
    rw [sum_rows]
    refine add_eq (add_eq (add_eq (add_eq (add_eq (add_eq (add_eq ?_ ?_) ?_) ?_) ?_) ?_) ?_) ?_
    all_goals exact part _ _ _ _ _ _ _ _ (by decide) (by decide) rfl _ _ (fun x => by first | rfl | exact (Nat.zero_add _).symm) (fun x => rfl)
  all_goals (rw [G6, if_neg (by decide)]; rfl)

end Cert.KernelIdeal.Mixer

end
-- ==== Proof.Value.lean ====
/- What the whole call computes, over the extended reals: every block of lanes written into the arrays, and the host's
   slices, transpose and reshape after it, as plain functions of the three argument arrays. -/
module

public import proofs.«01_k».proof.Proof.Block

@[expose] public section

set_option maxRecDepth 16384

noncomputable section

namespace Cert.KernelIdeal.Mixer

open Idealize.ShloMosaic Idealize.ShloMosaic.TcCoe Idealize.ShloMosaic.Tactic Idealize.SL.Sem
open Cert.KernelIdeal Cert.KernelIdeal.Gen

/-! ## The argument arrays read at numbers -/

/-- Slot `s` of the projection at row `r` and channel `ch`, zero outside. -/
def pj (P : S5x4096x1024.Idx → EReal) (s r ch : ℕ) : EReal :=
  if h : s < 5 ∧ r < 4096 ∧ ch < 1024 then P (ix3 ⟨s, h.1⟩ ⟨r, h.2.1⟩ ⟨ch, h.2.2⟩) else 0

/-- Tap `k` of the convolution at channel `ch`, zero outside. -/
def tp (W : S3x1024.Idx → EReal) (k ch : ℕ) : EReal :=
  if h : k < 3 ∧ ch < 1024 then W (ix2 ⟨k, h.1⟩ ⟨ch, h.2⟩) else 0

/-- Slot 0 of the incoming gradient at row `r` and channel `ch`, zero outside. -/
def gy (D : S2x4096x1024.Idx → EReal) (r ch : ℕ) : EReal :=
  if h : r < 4096 ∧ ch < 1024 then D (ix3 0 ⟨r, h.1⟩ ⟨ch, h.2⟩) else 0

theorem pj_at (P : S5x4096x1024.Idx → EReal) (a : Fin 5) (b : Fin 4096) (d : Fin 1024) {s r ch : ℕ}
    (hs : s = a.val) (hr : r = b.val) (hc : ch = d.val) : P (ix3 a b d) = pj P s r ch := by
  subst hs hr hc
  rw [pj, dif_pos ⟨a.isLt, b.isLt, d.isLt⟩]

theorem tp_at (W : S3x1024.Idx → EReal) (a : Fin 3) (d : Fin 1024) {k ch : ℕ} (hk : k = a.val) (hc : ch = d.val) :
    W (ix2 a d) = tp W k ch := by
  subst hk hc
  rw [tp, dif_pos ⟨a.isLt, d.isLt⟩]

theorem gy_at (D : S2x4096x1024.Idx → EReal) (a : Fin 2) (b : Fin 4096) (d : Fin 1024) {r ch : ℕ} (ha : a.val = 0)
    (hr : r = b.val) (hc : ch = d.val) : D (ix3 a b d) = gy D r ch := by
  obtain rfl : a = 0 := Fin.ext ha
  subst hr hc
  rw [gy, dif_pos ⟨b.isLt, d.isLt⟩]

/-- The gradients of the three slots of the projection. -/
def grad (P : S5x4096x1024.Idx → EReal) (W : S3x1024.Idx → EReal) (D : S2x4096x1024.Idx → EReal) (s r ch : ℕ) : EReal :=
  G5 (pj P 0) (pj P 1) (pj P 2) (tp W) (gy D) s r ch

/-- The gradients of the three taps. -/
def gradW (P : S5x4096x1024.Idx → EReal) (D : S2x4096x1024.Idx → EReal) (k ch : ℕ) : EReal :=
  G6 (pj P 0) (pj P 1) (pj P 2) (gy D) k ch

/-! ## A block against the array it is cut from -/

variable (m : (ℓ : Loc nD τ sig) → Buf (Elt Ideal) ℓ) (c : Dev nD)

abbrev aP : S5x4096x1024.Idx → EReal := m ((c.tc : Thread nD τ).loc main_arg0)
abbrev aW : S3x1024.Idx → EReal := m ((c.tc : Thread nD τ).loc main_arg1)
abbrev aD : S2x4096x1024.Idx → EReal := m ((c.tc : Thread nD τ).loc main_arg2)

theorem point_lt (t : Fin cfg0.N) : (grid0.coords t 0).val < 8 := (grid0.coords t 0).isLt

theorem idx0 : ∀ t : Fin cfg0.N, win0_0.index t = ![0, 0, (grid0.coords t 0).val] ∧ win0_1.index t = ![1, 0, (grid0.coords t 0).val]
    ∧ win0_2.index t = ![2, 0, (grid0.coords t 0).val] ∧ win0_3.index t = ![0, (grid0.coords t 0).val]
    ∧ win0_4.index t = ![0, 0, (grid0.coords t 0).val] ∧ win0_5.index t = ![0, 0, (grid0.coords t 0).val]
    ∧ win0_6.index t = ![(grid0.coords t 0).val, 0, 0] := by decide +kernel

theorem rd0 (t : Fin cfg0.N) (r l : ℕ) (hl : l < 128) :
    rd (iblk m c 0 t) r l = pj (aP m c) 0 r ((grid0.coords t 0).val * 128 + l) := by
  have hp := point_lt t
  unfold rd pj
  by_cases h : r < 4096
  · rw [dif_pos ⟨h, hl⟩, dif_pos ⟨by decide, h, by omega⟩]
    blk_ext [iblk, V, idx0 t]
  · rw [dif_neg (by omega), dif_neg (by omega)]

theorem rd1 (t : Fin cfg0.N) (r l : ℕ) (hl : l < 128) :
    rd (iblk m c 1 t) r l = pj (aP m c) 1 r ((grid0.coords t 0).val * 128 + l) := by
  have hp := point_lt t
  unfold rd pj
  by_cases h : r < 4096
  · rw [dif_pos ⟨h, hl⟩, dif_pos ⟨by decide, h, by omega⟩]
    blk_ext [iblk, V, idx0 t]
  · rw [dif_neg (by omega), dif_neg (by omega)]

theorem rd2 (t : Fin cfg0.N) (r l : ℕ) (hl : l < 128) :
    rd (iblk m c 2 t) r l = pj (aP m c) 2 r ((grid0.coords t 0).val * 128 + l) := by
  have hp := point_lt t
  unfold rd pj
  by_cases h : r < 4096
  · rw [dif_pos ⟨h, hl⟩, dif_pos ⟨by decide, h, by omega⟩]
    blk_ext [iblk, V, idx0 t]
  · rw [dif_neg (by omega), dif_neg (by omega)]

theorem rd4 (t : Fin cfg0.N) (r l : ℕ) (hl : l < 128) :
    rd (iblk m c 4 t) r l = gy (aD m c) r ((grid0.coords t 0).val * 128 + l) := by
  have hp := point_lt t
  unfold rd gy
  by_cases h : r < 4096
  · rw [dif_pos ⟨h, hl⟩, dif_pos ⟨h, by omega⟩]
    blk_ext [iblk, V, idx0 t]
  · rw [dif_neg (by omega), dif_neg (by omega)]

theorem rdw3 (t : Fin cfg0.N) (k l : ℕ) (hl : l < 128) :
    rdw (iblk m c 3 t) k l = tp (aW m c) k ((grid0.coords t 0).val * 128 + l) := by
  have hp := point_lt t
  unfold rdw tp
  by_cases h : k < 3
  · rw [dif_pos ⟨h, hl⟩, dif_pos ⟨h, by omega⟩]
    blk_ext [iblk, V, idx0 t]
  · rw [dif_neg (by omega), dif_neg (by omega)]

theorem G5_block (t : Fin cfg0.N) (s r l : ℕ) (hl : l < 128) :
    G5 (rd (iblk m c 0 t)) (rd (iblk m c 1 t)) (rd (iblk m c 2 t)) (rdw (iblk m c 3 t)) (rd (iblk m c 4 t)) s r l
      = grad (aP m c) (aW m c) (aD m c) s r ((grid0.coords t 0).val * 128 + l) := by
  unfold grad G5 conv dpv ps dc
  simp only [rd0 m c t _ l hl, rd1 m c t _ l hl, rd2 m c t _ l hl, rdw3 m c t _ l hl, rd4 m c t _ l hl]

theorem G6_block (t : Fin cfg0.N) (k l : ℕ) (hl : l < 128) :
    G6 (rd (iblk m c 0 t)) (rd (iblk m c 1 t)) (rd (iblk m c 2 t)) (rd (iblk m c 4 t)) k l
      = gradW (aP m c) (aD m c) k ((grid0.coords t 0).val * 128 + l) := by
  unfold gradW G6 ps dc
  simp only [rd0 m c t _ l hl, rd1 m c t _ l hl, rd2 m c t _ l hl, rd4 m c t _ l hl]

/-! ## The arrays after the region -/

def A5 (i : S6x4096x1024.Idx) : EReal := grad (aP m c) (aW m c) (aD m c) (i 0).val (i 1).val (i 2).val
def A6 (i : S8x8x128.Idx) : EReal := gradW (aP m c) (aD m c) (i 1).val ((i 0).val * 128 + (i 2).val)

theorem cov5 : (cfg0.win 5).CoversWhere (fun β => β (0 : Fin _) = 0) := by decide +kernel
theorem cov6 : (cfg0.win 6).Covers := by decide +kernel

theorem grad_congr (P : S5x4096x1024.Idx → EReal) (W : S3x1024.Idx → EReal) (D : S2x4096x1024.Idx → EReal) {s r ch s' r' ch' : ℕ}
    (hs : s' = s) (hr : r' = r) (hc : ch' = ch) : grad P W D s r ch = grad P W D s' r' ch' := by rw [hs, hr, hc]

theorem gradW_congr (P : S5x4096x1024.Idx → EReal) (D : S2x4096x1024.Idx → EReal) {k ch k' ch' : ℕ}
    (hk : k' = k) (hc : ch' = ch) : gradW P D k ch = gradW P D k' ch' := by rw [hk, hc]

theorem final5 : (dats m 0 c).arrAt 5 cfg0.N
    = fun i : S6x4096x1024.Idx => if (i 0).val / 3 = 0 then A5 m c i else V m c (Pipeline.arrRef spec0 5) i := by
  refine (dats m 0 c).arrAt_eq_of_coversWhere 5 _ (fun β => β (0 : Fin _) = 0) cov5 (fun t hf y => ?_)
    (fun j => Iff.rfl)
  blk_simp
  rw [after0_5]
  obtain ⟨-, -, -, -, -, e, -⟩ := idx0 t
  refine (out5 m c t y).trans ((G5_block m c t _ _ _ (y 2).isLt).trans ?_)
  unfold A5
  refine grad_congr _ _ _ ?_ ?_ ?_ <;> blk_simp [e]

theorem final6 : (dats m 0 c).arrAt 6 cfg0.N = (A6 m c : S8x8x128.Idx → EReal) := by
  refine (dats m 0 c).arrAt_eq_of_covers 6 _ cov6 fun t hf y => ?_
  blk_simp
  rw [after0_6]
  obtain ⟨-, -, -, -, -, -, e⟩ := idx0 t
  refine (out6 m c t y).trans ((G6_block m c t _ _ (y 2).isLt).trans ?_)
  unfold A6
  have y0 : (y 0).val = 0 := Nat.lt_one_iff.mp (y 0).isLt
  refine gradW_congr _ _ ?_ ?_ <;> blk_simp [e, y0]

/-! ## The run -/

/-- What the call returns first. -/
def R0 (i : S3x4096x1024.Idx) : EReal := grad (aP m c) (aW m c) (aD m c) (i 0).val (i 1).val (i 2).val
/-- What the call returns second. -/
def R1 (i : S3x1024.Idx) : EReal := gradW (aP m c) (aD m c) (i 0).val (i 1).val

theorem out_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w cfg0.N :=
  Pipeline.withArrays_arr_shared _ c _ _ (Pipeline.Dat.arrAt_sharedIn (dats m 0 c) launch₀0.sharedIn (V0 m c) (A_eq m c) _) w

theorem run (ρ : Dev nD → PrngReg) : θ_run defs (onTc (τ := τ) (main (F := Ideal))) ⟨m, fun _ => 0, ρ⟩ fun r => ∀ c : Dev nD,
      r.2.mem ((c.tc : Thread nD τ).loc main_v1) = (R0 m c : S3x4096x1024.Idx → EReal)
      ∧ r.2.mem ((c.tc : Thread nD τ).loc main_v4) = (R1 m c : S3x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (θ_run_and (run_main m ρ) (unchanged m ρ))
  obtain ⟨h, hu⟩ := h
  refine ⟨?_, ?_, hu c⟩
  · refine ((h c).2 main_v1 (by decide)).trans ?_
    unfold Pipeline.afterTail₀
    simp only [List.flatten_cons, List.flatten_nil, List.append_nil]
    unfold hostOps1
    after_results
    refine (congrArg (fun X => extractStridedSlice S3x4096x1024 ![0, 0, 0] X slices_S6x4096x1024_S3x4096x1024_0_0_0)
      ((out_arr m c 5).trans (final5 m c))).trans ?_
    funext i
    pointwise
    exact if_pos (Nat.div_eq_of_lt (i 0).isLt)
  · refine ((h c).2 main_v4 (by decide)).trans ?_
    unfold Pipeline.afterTail₀
    simp only [List.flatten_cons, List.flatten_nil, List.append_nil]
    unfold hostOps1
    after_results
    refine (congrArg (fun X => shapeCast S3x1024 (transpose S3x8x128 [1, 0, 2] (extractStridedSlice S8x3x128 ![0, 0, 0] X
      slices_S8x8x128_S8x3x128_0_0_0) transposes_S8x3x128_S3x8x128_1_0_2) shapeCasts_S3x8x128_S3x1024)
      ((out_arr m c 6).trans (final6 m c))).trans ?_
    funext i
    pointwise
    exact gradW_congr _ _ rfl (Nat.div_add_mod' (i 1).val 128).symm

end Cert.KernelIdeal.Mixer

end
-- ==== Proof.MixerA.lean ====
/- The forward short gated convolution, over the extended reals: what a grid point leaves in its output block, the whole
   call's result as a function of the projection and the taps, and the same function read off the reference.

   The body keeps one scratch array of 4104 rows, the product of the second gate and the input below eight rows of
   zeros, written in pieces of 512 rows and read through windows shifted by none, one or two rows. -/
module

public import proofs.«01_k».proof.Proof.Gen.MixerAIdeal.Frame
public import proofs.«01_k».proof.Proof.Gen.MixerAReferenceIdeal.Run
public import proofs.«01_k».proof.Proof.Gen.MixerAReferenceIdeal.Read
public import proofs.«01_k».proof.Proof.Value

@[expose] public section

set_option maxRecDepth 16384

noncomputable section

namespace Cert.MixerAIdeal.Whole

open Idealize.ShloMosaic Idealize.ShloMosaic.TcCoe Idealize.ShloMosaic.Tactic Idealize.SL.Sem
open Cert.MixerAIdeal Cert.MixerAIdeal.Gen
open Cert.KernelIdeal.Mixer (rd rd_at rdw rdw_at ps PS PS_at conv pj tp pj_at tp_at mul_eq add_eq)

/-! ## The scratch array -/

/-- The stores into the scratch array, last first. -/
abbrev LP (X Y : S1x4096x128.Idx → Elt Ideal .f32) : List (View.Piece (Elt Ideal) S4104x128 .f32) :=
  [⟨Rect.unit ![3592, 0] ![512, 128] inb_S4104x128_S512x128_3592_0, k0_pay10 (View.ld X (Rect.unit ![0, 3584, 0] ![1, 512, 128] inb_S1x4096x128_S1x512x128_0_3584_0)) (View.ld Y (Rect.unit ![0, 3584, 0] ![1, 512, 128] inb_S1x4096x128_S1x512x128_0_3584_0))⟩,
   ⟨Rect.unit ![3080, 0] ![512, 128] inb_S4104x128_S512x128_3080_0, k0_pay9 (k0_pay8 (View.ld X (Rect.unit ![0, 3072, 0] ![1, 512, 128] inb_S1x4096x128_S1x512x128_0_3072_0))) (View.ld Y (Rect.unit ![0, 3072, 0] ![1, 512, 128] inb_S1x4096x128_S1x512x128_0_3072_0))⟩,
   ⟨Rect.unit ![2568, 0] ![512, 128] inb_S4104x128_S512x128_2568_0, k0_pay7 (View.ld X (Rect.unit ![0, 2560, 0] ![1, 512, 128] inb_S1x4096x128_S1x512x128_0_2560_0)) (View.ld Y (Rect.unit ![0, 2560, 0] ![1, 512, 128] inb_S1x4096x128_S1x512x128_0_2560_0))⟩,
   ⟨Rect.unit ![2056, 0] ![512, 128] inb_S4104x128_S512x128_2056_0, k0_pay6 (View.ld X (Rect.unit ![0, 2048, 0] ![1, 512, 128] inb_S1x4096x128_S1x512x128_0_2048_0)) (View.ld Y (Rect.unit ![0, 2048, 0] ![1, 512, 128] inb_S1x4096x128_S1x512x128_0_2048_0))⟩,
   ⟨Rect.unit ![1544, 0] ![512, 128] inb_S4104x128_S512x128_1544_0, k0_pay5 (View.ld X (Rect.unit ![0, 1536, 0] ![1, 512, 128] inb_S1x4096x128_S1x512x128_0_1536_0)) (View.ld Y (Rect.unit ![0, 1536, 0] ![1, 512, 128] inb_S1x4096x128_S1x512x128_0_1536_0))⟩,
   ⟨Rect.unit ![1032, 0] ![512, 128] inb_S4104x128_S512x128_1032_0, k0_pay4 (View.ld X (Rect.unit ![0, 1024, 0] ![1, 512, 128] inb_S1x4096x128_S1x512x128_0_1024_0)) (View.ld Y (Rect.unit ![0, 1024, 0] ![1, 512, 128] inb_S1x4096x128_S1x512x128_0_1024_0))⟩,
   ⟨Rect.unit ![520, 0] ![512, 128] inb_S4104x128_S512x128_520_0, k0_pay3 (View.ld X (Rect.unit ![0, 512, 0] ![1, 512, 128] inb_S1x4096x128_S1x512x128_0_512_0)) (View.ld Y (Rect.unit ![0, 512, 0] ![1, 512, 128] inb_S1x4096x128_S1x512x128_0_512_0))⟩,
   ⟨Rect.unit ![8, 0] ![512, 128] inb_S4104x128_S512x128_8_0, k0_pay2 (View.ld X (Rect.unit ![0, 0, 0] ![1, 512, 128] inb_S1x4096x128_S1x512x128_0_0_0)) (View.ld Y (Rect.unit ![0, 0, 0] ![1, 512, 128] inb_S1x4096x128_S1x512x128_0_0_0))⟩,
   ⟨Rect.unit ![0, 0] ![8, 128] inb_S4104x128_S8x128_0_0, k0_pay1 (F := Ideal)⟩]

theorem coverP (X Y : S1x4096x128.Idx → Elt Ideal .f32) (y : S4104x128.Idx) : ∃ p ∈ LP X Y, y ∈ p.1.set :=
  View.cover_of_tiledBy _ ![8, 128] (by sl_kernel_rfl) y

theorem canonP (X Y : S1x4096x128.Idx → Elt Ideal .f32) (y : S4104x128.Idx) (h : ∃ p ∈ LP X Y, y ∈ p.1.set) :
    View.canon (LP X Y) y = PS X Y y := by
  unfold LP
  canon_tiles x hx using h
  all_goals
    open_payloads
    unfold PS ps
    pointwise
    first
      | (rw [if_pos (by omega)]; exact mul_eq (rd_at _ _ _ (by dsimp only; omega) hx1) (rd_at _ _ _ (by dsimp only; omega) hx1))
      | rw [if_neg (by omega)]

/-- A load of the scratch array is a window of `PS`. -/
theorem readP (X Y : S1x4096x128.Idx → Elt Ideal .f32) (r : Rect S4104x128) :
    (View.whole cc0_scratch0).readCov (LP X Y) r.toLoadRect = View.ld (PS X Y : S4104x128.Idx → Elt Ideal .f32) r := by
  rw [View.readCov_eq_canon_ld _ _ _ (fun y => coverP X Y y)]
  exact congrArg (fun G => View.ld G r) (funext fun y => canonP X Y y (coverP X Y y))

/-! ## The result of a grid point -/

/-- The gated convolution. -/
def gated (W bg cg ax : ℕ → ℕ → EReal) (r l : ℕ) : EReal := bg r l * conv W cg ax r l

variable (m : (ℓ : Loc nD τ sig) → Buf (Elt Ideal) ℓ) (c : Dev nD)

theorem out4 (t : Fin cfg0.N) (y : S1x4096x128.Idx) :
    outsAt0 m c t y = gated (rdw (iblk m c 3 t)) (rd (iblk m c 0 t)) (rd (iblk m c 1 t)) (rd (iblk m c 2 t)) (y 1).val (y 2).val := by
  unfold outsAt0
  frame_out
  simp only [readP]
  canon_tiles x hx
  all_goals
    open_payloads
    pointwise
    rw [gated, conv]
    refine mul_eq (rd_at _ _ _ hx1 hx2) (add_eq (add_eq (mul_eq ?_ ?_) (mul_eq ?_ ?_)) (mul_eq ?_ ?_))
    all_goals first
      | exact rdw_at _ _ _ rfl hx2
      | exact PS_at _ _ _ _ (by dsimp only; omega) hx2

/-! ## A block against the array it is cut from -/

abbrev a0 : S5x4096x1024.Idx → EReal := m ((c.tc : Thread nD τ).loc main_arg0)
abbrev a1 : S3x1024.Idx → EReal := m ((c.tc : Thread nD τ).loc main_arg1)

/-- The gated convolution of the whole projection. -/
def mixed (P : S5x4096x1024.Idx → EReal) (W : S3x1024.Idx → EReal) (i : S4096x1024.Idx) : EReal :=
  gated (tp W) (pj P 0) (pj P 1) (pj P 2) (i 0).val (i 1).val

theorem point_lt (t : Fin cfg0.N) : (grid0.coords t 0).val < 8 := (grid0.coords t 0).isLt

theorem idx : ∀ t : Fin cfg0.N, win0_0.index t = ![0, 0, (grid0.coords t 0).val] ∧ win0_1.index t = ![1, 0, (grid0.coords t 0).val]
    ∧ win0_2.index t = ![2, 0, (grid0.coords t 0).val] ∧ win0_3.index t = ![0, (grid0.coords t 0).val]
    ∧ win0_4.index t = ![0, 0, (grid0.coords t 0).val] := by decide +kernel

theorem rd0 (t : Fin cfg0.N) (r l : ℕ) (hl : l < 128) :
    rd (iblk m c 0 t) r l = pj (a0 m c) 0 r ((grid0.coords t 0).val * 128 + l) := by
  have hp := point_lt t
  unfold rd pj
  by_cases h : r < 4096
  · rw [dif_pos ⟨h, hl⟩, dif_pos ⟨by decide, h, by omega⟩]
    blk_ext [iblk, V, idx t]
  · rw [dif_neg (by omega), dif_neg (by omega)]

theorem rd1 (t : Fin cfg0.N) (r l : ℕ) (hl : l < 128) :
    rd (iblk m c 1 t) r l = pj (a0 m c) 1 r ((grid0.coords t 0).val * 128 + l) := by
  have hp := point_lt t
  unfold rd pj
  by_cases h : r < 4096
  · rw [dif_pos ⟨h, hl⟩, dif_pos ⟨by decide, h, by omega⟩]
    blk_ext [iblk, V, idx t]
  · rw [dif_neg (by omega), dif_neg (by omega)]

theorem rd2 (t : Fin cfg0.N) (r l : ℕ) (hl : l < 128) :
    rd (iblk m c 2 t) r l = pj (a0 m c) 2 r ((grid0.coords t 0).val * 128 + l) := by
  have hp := point_lt t
  unfold rd pj
  by_cases h : r < 4096
  · rw [dif_pos ⟨h, hl⟩, dif_pos ⟨by decide, h, by omega⟩]
    blk_ext [iblk, V, idx t]
  · rw [dif_neg (by omega), dif_neg (by omega)]

theorem rdw3 (t : Fin cfg0.N) (k l : ℕ) (hl : l < 128) :
    rdw (iblk m c 3 t) k l = tp (a1 m c) k ((grid0.coords t 0).val * 128 + l) := by
  have hp := point_lt t
  unfold rdw tp
  by_cases h : k < 3
  · rw [dif_pos ⟨h, hl⟩, dif_pos ⟨h, by omega⟩]
    blk_ext [iblk, V, idx t]
  · rw [dif_neg (by omega), dif_neg (by omega)]

theorem gated_block (t : Fin cfg0.N) (r l : ℕ) (hl : l < 128) :
    gated (rdw (iblk m c 3 t)) (rd (iblk m c 0 t)) (rd (iblk m c 1 t)) (rd (iblk m c 2 t)) r l
      = gated (tp (a1 m c)) (pj (a0 m c) 0) (pj (a0 m c) 1) (pj (a0 m c) 2) r ((grid0.coords t 0).val * 128 + l) := by
  unfold gated conv ps
  simp only [rd0 m c t _ l hl, rd1 m c t _ l hl, rd2 m c t _ l hl, rdw3 m c t _ l hl]

/-! ## The array after the call -/

/-- The first slot of the result. -/
def A4 (i : S2x4096x1024.Idx) : EReal :=
  gated (tp (a1 m c)) (pj (a0 m c) 0) (pj (a0 m c) 1) (pj (a0 m c) 2) (i 1).val (i 2).val

theorem cov4 : (cfg0.win 4).CoversWhere (fun β => β (0 : Fin _) = 0) := by decide +kernel

theorem final4 : (dats m 0 c).arrAt 4 cfg0.N
    = fun i : S2x4096x1024.Idx => if (i 0).val / 1 = 0 then A4 m c i else V m c (Pipeline.arrRef spec0 4) i := by
  refine (dats m 0 c).arrAt_eq_of_coversWhere 4 _ (fun β => β (0 : Fin _) = 0) cov4 (fun t hf y => ?_)
    (fun j => Iff.rfl)
  blk_simp
  rw [after0_4]
  obtain ⟨-, -, -, -, e⟩ := idx t
  refine (out4 m c t y).trans ((gated_block m c t _ _ (y 2).isLt).trans ?_)
  unfold A4
  refine congrArg₂ (gated (tp (a1 m c)) (pj (a0 m c) 0) (pj (a0 m c) 1) (pj (a0 m c) 2)) ?_ ?_ <;> blk_simp [e]

/-! ## The run -/

theorem out_arr (w : Fin cfg0.W) : Pipeline.withArrays (cfgs 0).spec c (V0 m c) (fun w => (dats m 0 c).arrAt w (cfgs 0).N)
    (Proc.devRef .tc (Pipeline.arrRef (cfgs 0).spec w)) = (dats m 0 c).arrAt w cfg0.N :=
  Pipeline.withArrays_arr_shared _ c _ _ (Pipeline.Dat.arrAt_sharedIn (dats m 0 c) launch₀0.sharedIn (V0 m c) (A_eq m c) _) w

theorem run (ρ : Dev nD → PrngReg) : θ_run defs (onTc (τ := τ) (main (F := Ideal))) ⟨m, fun _ => 0, ρ⟩ fun r => ∀ c : Dev nD,
      r.2.mem ((c.tc : Thread nD τ).loc main_v2) = (mixed (a0 m c) (a1 m c) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (θ_run_and (run_main m ρ) (unchanged m ρ))
  obtain ⟨h, hu⟩ := h
  refine ⟨?_, hu c⟩
  refine ((h c).2 main_v2 (by decide)).trans ?_
  unfold Pipeline.afterTail₀
  simp only [List.flatten_cons, List.flatten_nil, List.append_nil]
  unfold hostOps1
  after_results
  refine (congrArg (fun X => shapeCast S4096x1024 (extractStridedSlice S1x4096x1024 ![0, 0, 0] X
    slices_S2x4096x1024_S1x4096x1024_0_0_0) shapeCasts_S1x4096x1024_S4096x1024)
    ((out_arr m c 4).trans (final4 m c))).trans ?_
  funext i
  pointwise
  rfl

end Cert.MixerAIdeal.Whole

/-! ## The reference -/

namespace Cert.MixerAReferenceIdeal.Whole

open Idealize.ShloMosaic Idealize.ShloMosaic.TcCoe Idealize.ShloMosaic.Tactic Idealize.SL.Sem
open Cert.MixerAReferenceIdeal Cert.MixerAReferenceIdeal.Gen Cert.MixerAReferenceIdeal.Read
open Cert.KernelIdeal.Mixer (ps conv pj tp pj_at tp_at mul_eq add_eq)
open Cert.MixerAIdeal.Whole (gated mixed)

variable (x0 : S5x4096x1024.Idx → EReal) (x1 : S3x1024.Idx → EReal)

theorem read3 (i : S1x4096x1024.Idx) :
    val_main_v3 (F := Ideal) x0 i = ps (pj x0 1) (pj x0 2) ((i 1).val + 8) (i 2).val := by
  unfold val_main_v3 val_main_v1 val_main_v2
  pointwise
  rw [ps, if_pos (by omega)]
  exact mul_eq (pj_at _ _ _ _ rfl (by omega) rfl) (pj_at _ _ _ _ rfl (by omega) rfl)

/-- The convolution's input below two rows of zeros. -/
theorem read5 (i : S1x4098x1024.Idx) :
    val_main_v5 (F := Ideal) x0 i = ps (pj x0 1) (pj x0 2) ((i 1).val + 6) (i 2).val := by
  unfold val_main_v5 val_main_v4 val_main_cst val_main_v3 val_main_v1 val_main_v2
  pointwise
  by_cases h : (i 1).val < 2
  · exact (dif_pos h).trans (if_neg (by omega)).symm
  · refine (dif_neg h).trans (Eq.trans ?_ (if_pos (by omega)).symm)
    exact mul_eq (pj_at _ _ _ _ rfl (by dsimp only; omega) rfl) (pj_at _ _ _ _ rfl (by dsimp only; omega) rfl)

theorem read24 (i : S1x4096x1024.Idx) :
    val_main_v24 (F := Ideal) x0 x1 i = conv (tp x1) (pj x0 1) (pj x0 2) (i 1).val (i 2).val := by
  unfold val_main_v24 val_main_v17 val_main_v23 val_main_v10 val_main_v16 val_main_v22 val_main_v20 val_main_v13 val_main_v9
    val_main_v15 val_main_v21 val_main_v19 val_main_v18 val_main_v14 val_main_v12 val_main_v11 val_main_v8 val_main_v7
    val_main_v6
  pointwise
  rw [conv, add_right_comm]
  refine add_eq (add_eq (mul_eq ?_ (read3 x0 i)) (mul_eq ?_ ((read5 x0 _).trans ?_))) (mul_eq ?_ ((read5 x0 _).trans ?_))
  · exact tp_at _ _ _ rfl rfl
  · exact tp_at _ _ _ rfl rfl
  · exact congrArg (fun n => ps (pj x0 1) (pj x0 2) n (i 2).val) (show 1 + (i 1).val + 6 = (i 1).val + 7 by omega)
  · exact tp_at _ _ _ rfl rfl
  · rfl

theorem read25 (i : S1x4096x1024.Idx) :
    val_main_v25 (F := Ideal) x0 x1 i = gated (tp x1) (pj x0 0) (pj x0 1) (pj x0 2) (i 1).val (i 2).val := by
  unfold val_main_v25 val_main_v0
  rw [gated, ← read24]
  pointwise
  exact mul_eq (pj_at _ _ _ _ rfl rfl rfl) rfl

theorem read (i : S4096x1024.Idx) : val_main_v27 (F := Ideal) x0 x1 i = mixed x0 x1 i := by
  unfold val_main_v27 val_main_v26 mixed
  pointwise
  refine (read25 x0 x1 _).trans ?_
  rfl

end Cert.MixerAReferenceIdeal.Whole

end
-- ==== Proof.Ref.lean ====
/- What the reference computes, over the extended reals, as the same plain functions of the argument arrays: its shifted
   slices, pads and sums read one after another at an index. -/
module

public import proofs.«01_k».proof.Proof.Gen.ReferenceIdeal.Read
public import proofs.«01_k».proof.Proof.Value

@[expose] public section

set_option maxRecDepth 16384

noncomputable section

namespace Cert.ReferenceIdeal.Mixer

open Idealize.ShloMosaic Idealize.ShloMosaic.TcCoe Idealize.ShloMosaic.Tactic Idealize.SL.Sem
open Cert.ReferenceIdeal Cert.ReferenceIdeal.Gen Cert.ReferenceIdeal.Read
open Cert.KernelIdeal.Mixer (pj tp gy pj_at tp_at gy_at ps dc conv dpv G5 G6 grad gradW mul_eq add_eq)

variable (x0 : S5x4096x1024.Idx → EReal) (x1 : S3x1024.Idx → EReal) (x2 : S2x4096x1024.Idx → EReal)

theorem read3 (i : S1x4096x1024.Idx) :
    val_main_v3 (F := Ideal) x0 i = ps (pj x0 1) (pj x0 2) ((i 1).val + 8) (i 2).val := by
  unfold val_main_v3 val_main_v1 val_main_v2
  pointwise
  rw [ps, if_pos (by omega)]
  exact mul_eq (pj_at _ _ _ _ rfl (by omega) rfl) (pj_at _ _ _ _ rfl (by omega) rfl)

/-- The convolution's input below two rows of zeros. -/
theorem read5 (i : S1x4098x1024.Idx) :
    val_main_v5 (F := Ideal) x0 i = ps (pj x0 1) (pj x0 2) ((i 1).val + 6) (i 2).val := by
  unfold val_main_v5 val_main_v4 val_main_cst val_main_v3 val_main_v1 val_main_v2
  pointwise
  by_cases h : (i 1).val < 2
  · exact (dif_pos h).trans (if_neg (by omega)).symm
  · refine (dif_neg h).trans (Eq.trans ?_ (if_pos (by omega)).symm)
    exact mul_eq (pj_at _ _ _ _ rfl (by dsimp only; omega) rfl) (pj_at _ _ _ _ rfl (by dsimp only; omega) rfl)

theorem read25 (i : S1x4096x1024.Idx) :
    val_main_v25 (F := Ideal) x0 x1 i = conv (tp x1) (pj x0 1) (pj x0 2) (i 1).val (i 2).val := by
  unfold val_main_v25 val_main_v18 val_main_v24 val_main_v11 val_main_v17 val_main_v23 val_main_v21 val_main_v14 val_main_v10
    val_main_v16 val_main_v22 val_main_v20 val_main_v19 val_main_v15 val_main_v13 val_main_v12 val_main_v9 val_main_v8 val_main_v7
  pointwise
  rw [conv, add_right_comm]
  refine add_eq (add_eq (mul_eq ?_ (read3 x0 i)) (mul_eq ?_ ((read5 x0 _).trans ?_))) (mul_eq ?_ ((read5 x0 _).trans ?_))
  · exact tp_at _ _ _ rfl rfl
  · exact tp_at _ _ _ rfl rfl
  · exact congrArg (fun n => ps (pj x0 1) (pj x0 2) n (i 2).val) (show 1 + (i 1).val + 6 = (i 1).val + 7 by omega)
  · exact tp_at _ _ _ rfl rfl
  · rfl

/-- The gradient reaching the convolution's result. -/
theorem read28 (i : S1x4096x1024.Idx) :
    val_main_v28 (F := Ideal) x0 x2 i = dc (gy x2) (pj x0 0) (i 1).val (i 2).val := by
  unfold val_main_v28 val_main_v0 val_main_v27
  pointwise
  rw [dc, mul_comm (gy _ _ _)]
  exact mul_eq (pj_at _ _ _ _ rfl rfl rfl) (gy_at _ _ _ _ rfl rfl rfl)

theorem dc_out (r ch : ℕ) (h : 4096 ≤ r) : dc (gy x2) (pj x0 0) r ch = 0 := by
  rw [dc, gy, dif_neg (by omega), zero_mul]

theorem read61 (i : S1x4096x1024.Idx) :
    val_main_v61 (F := Ideal) x0 x1 x2 i = dpv (tp x1) (gy x2) (pj x0 0) (i 1).val (i 2).val := by
  unfold val_main_v61 val_main_v60 val_main_v51 val_main_v46 val_main_v45 val_main_v36 val_main_v50 val_main_v40 val_main_v31
    val_main_v30 val_main_v22 val_main_v20 val_main_v19 val_main_v39 val_main_v15 val_main_v13 val_main_v12 val_main_v9
    val_main_v8 val_main_v7 val_main_cst_3 val_main_cst_7
  pointwise
  rw [dpv, add_assoc]
  refine add_eq (mul_eq (tp_at _ _ _ rfl rfl) (read28 x0 x2 i)) (add_eq ?_ ?_)
  · by_cases h : (i 1).val + 1 < 4096
    · rw [dif_pos (by omega)]
      refine mul_eq (tp_at _ _ _ rfl rfl) ((read28 x0 x2 _).trans ?_)
      exact congrArg (fun n => dc (gy x2) (pj x0 0) n (i 2).val) (show 2 + (i 1).val - 1 = (i 1).val + 1 by omega)
    · rw [dif_neg (by omega), dc_out _ _ _ _ (by omega), mul_zero]
  · by_cases h : (i 1).val + 2 < 4096
    · rw [dif_pos (by omega)]
      refine mul_eq (tp_at _ _ _ rfl rfl) ((read28 x0 x2 _).trans ?_)
      exact congrArg (fun n => dc (gy x2) (pj x0 0) n (i 2).val) (show 2 + (i 1).val = (i 1).val + 2 by omega)
    · rw [dif_neg (by omega), dc_out _ _ _ _ (by omega), mul_zero]

/-- The first result. -/
theorem read65 (i : S3x4096x1024.Idx) :
    val_main_v65 (F := Ideal) x0 x1 x2 i = grad x0 x1 x2 (i 0).val (i 1).val (i 2).val := by
  unfold val_main_v65 val_main_v64 val_main_v29 val_main_v62 val_main_v63 val_main_v27 val_main_v1 val_main_v2
  pointwise
  have h3 : (i 0).val < 3 := (i 0).isLt
  unfold grad
  by_cases h0 : (i 0).val < 1
  · refine (dif_pos h0).trans (Eq.trans ?_ (if_pos (by omega)).symm)
    exact mul_eq (gy_at _ _ _ _ (by dsimp only; omega) rfl rfl) (read25 x0 x1 _)
  · refine (dif_neg h0).trans (Eq.trans ?_ (if_neg (by omega)).symm)
    by_cases h1 : (i 0).val - 1 < 1
    · refine (dif_pos h1).trans (Eq.trans ?_ (if_pos (by omega)).symm)
      exact mul_eq (read61 x0 x1 x2 _) (pj_at _ _ _ _ (by dsimp only; omega) rfl rfl)
    · refine (dif_neg h1).trans (Eq.trans ?_ (if_neg (by omega)).symm)
      rw [mul_comm (dpv _ _ _ _ _)]
      exact mul_eq (pj_at _ _ _ _ (by dsimp only; omega) rfl rfl) (read61 x0 x1 x2 _)

/-- A sum over two axes of one element is the element. -/
theorem sum_unit (x : S1x1x1024.Idx → EReal) (i : S1024.Idx) :
    Ideal.hostReduceAdd reducesTo_S1x1x1024_S1024_d0_1 x 0 i = x (ix3 0 0 (i 0)) := by
  unfold Ideal.hostReduceAdd
  refine (zero_add _).trans (Finset.sum_eq_single_of_mem (ix3 0 0 (i 0)) ?_ ?_)
  · refine (@Finset.mem_filter _ _ (_) _ _).mpr ⟨Finset.mem_univ _, funext fun a => ?_⟩
    match a with
    | ⟨0, _⟩ => rfl
  · intro j hj hne
    refine absurd (funext fun a => ?_) hne
    have e := congrFun ((@Finset.mem_filter _ _ (_) _ _).mp hj).2 0
    match a with
    | ⟨0, _⟩ => exact Fin.ext (Nat.lt_one_iff.mp (j 0).isLt)
    | ⟨1, _⟩ => exact Fin.ext (Nat.lt_one_iff.mp (j 1).isLt)
    | ⟨2, _⟩ => exact e

theorem read35 (ch : Fin 1024) : val_main_v35 (F := Ideal) x0 x2 (ix1 ch)
    = ∑ r ∈ Finset.range 4096, dc (gy x2) (pj x0 0) r ch.val * ps (pj x0 1) (pj x0 2) (r + (6 + 1)) ch.val := by
  unfold val_main_v35 val_main_v34 val_main_v33 val_main_cst_1 val_main_cst_2 val_main_v32 val_main_v21
  pointwise
  rw [sum_unit]
  pointwise
  rw [← Fin.sum_univ_eq_sum_range (fun r => dc (gy x2) (pj x0 0) r ch.val * ps (pj x0 1) (pj x0 2) (r + (6 + 1)) ch.val)]
  exact Finset.sum_congr rfl fun r _ => mul_eq (read28 x0 x2 _) ((read5 x0 _).trans (congrArg (fun n => ps (pj x0 1) (pj x0 2) n ch.val) (show 1 + r.val + 6 = r.val + (6 + 1) by omega)))

theorem read44 (ch : Fin 1024) : val_main_v44 (F := Ideal) x0 x2 (ix1 ch)
    = ∑ r ∈ Finset.range 4096, dc (gy x2) (pj x0 0) r ch.val * ps (pj x0 1) (pj x0 2) (r + (6 + 0)) ch.val := by
  unfold val_main_v44 val_main_v43 val_main_v42 val_main_cst_5 val_main_cst_6 val_main_v41 val_main_v14
  pointwise
  rw [sum_unit]
  pointwise
  rw [← Fin.sum_univ_eq_sum_range (fun r => dc (gy x2) (pj x0 0) r ch.val * ps (pj x0 1) (pj x0 2) (r + (6 + 0)) ch.val)]
  exact Finset.sum_congr rfl fun r _ => mul_eq (read28 x0 x2 _) (read5 x0 _)

theorem read55 (ch : Fin 1024) : val_main_v55 (F := Ideal) x0 x2 (ix1 ch)
    = ∑ r ∈ Finset.range 4096, dc (gy x2) (pj x0 0) r ch.val * ps (pj x0 1) (pj x0 2) (r + (6 + 2)) ch.val := by
  unfold val_main_v55 val_main_v54 val_main_v53 val_main_cst_9 val_main_cst_10 val_main_v52
  pointwise
  rw [sum_unit]
  pointwise
  rw [← Fin.sum_univ_eq_sum_range (fun r => dc (gy x2) (pj x0 0) r ch.val * ps (pj x0 1) (pj x0 2) (r + (6 + 2)) ch.val)]
  exact Finset.sum_congr rfl fun r _ => mul_eq (read28 x0 x2 _) (read3 x0 _)

/-- The second result. -/
theorem read58 (i : S3x1024.Idx) : val_main_v58 (F := Ideal) x0 x2 i = gradW x0 x2 (i 0).val (i 1).val := by
  unfold val_main_v58 val_main_v57 val_main_v56 val_main_v49 val_main_v48 val_main_v47 val_main_v38 val_main_v37 val_main_cst_4
    val_main_cst_8 val_main_cst_11
  pointwise
  have h3 : (i 0).val < 3 := (i 0).isLt
  unfold gradW
  rw [G6, if_pos h3]
  generalize (i 0).val = k at h3 ⊢
  interval_cases k
  · rw [dif_neg (by decide), dif_pos (by decide), dif_neg (by decide), zero_add, add_zero]
    exact read44 x0 x2 (i 1)
  · rw [dif_pos (by decide), dif_neg (by decide), dif_neg (by decide), add_zero, add_zero]
    exact read35 x0 x2 (i 1)
  · rw [dif_neg (by decide), dif_neg (by decide), dif_pos (by decide), zero_add, zero_add]
    exact read55 x0 x2 (i 1)

end Cert.ReferenceIdeal.Mixer

end
-- ==== Proof.lean ====
/- The claims: every run of the kernel's call, of its reading over the extended reals and of the reference ends with unchanged
   arguments and zero counters, and the two readings end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MlpUp.Frame
public import proofs.«01_k».proof.Proof.Gen.MlpUpIdeal.Value
public import proofs.«01_k».proof.Proof.Gen.MlpUpReferenceIdeal.Run
public import proofs.«01_k».proof.Proof.Gen.MlpUpReferenceIdeal.Read
public import proofs.«01_k».proof.Proof.MlpUp
public import proofs.«01_k».proof.Proof.Gen.MlpDown.Frame
public import proofs.«01_k».proof.Proof.Gen.MlpDownIdeal.Value
public import proofs.«01_k».proof.Proof.Gen.MlpDownReferenceIdeal.Run
public import proofs.«01_k».proof.Proof.Gen.MlpDownReferenceIdeal.Read
public import proofs.«01_k».proof.Proof.MlpDown
public import proofs.«01_k».proof.Proof.Gen.MlpDownDw.Frame
public import proofs.«01_k».proof.Proof.Gen.MlpDownDwIdeal.Value
public import proofs.«01_k».proof.Proof.Gen.MlpDownDwReferenceIdeal.Run
public import proofs.«01_k».proof.Proof.Gen.MlpDownDwReferenceIdeal.Read
public import proofs.«01_k».proof.Proof.MlpDownDw
public import proofs.«01_k».proof.Proof.Gen.MlpDownDx.Frame
public import proofs.«01_k».proof.Proof.Gen.MlpDownDxIdeal.Value
public import proofs.«01_k».proof.Proof.Gen.MlpDownDxReferenceIdeal.Run
public import proofs.«01_k».proof.Proof.Gen.MlpDownDxReferenceIdeal.Read
public import proofs.«01_k».proof.Proof.MlpDownDx
public import proofs.«01_k».proof.Proof.Gen.MlpUpDw.Frame
public import proofs.«01_k».proof.Proof.Gen.MlpUpDwIdeal.Value
public import proofs.«01_k».proof.Proof.Gen.MlpUpDwReferenceIdeal.Run
public import proofs.«01_k».proof.Proof.Gen.MlpUpDwReferenceIdeal.Read
public import proofs.«01_k».proof.Proof.MlpUpDw
public import proofs.«01_k».proof.Proof.Gen.MlpUpDx.Frame
public import proofs.«01_k».proof.Proof.Gen.MlpUpDxIdeal.Value
public import proofs.«01_k».proof.Proof.Gen.MlpUpDxReferenceIdeal.Run
public import proofs.«01_k».proof.Proof.Gen.MlpUpDxReferenceIdeal.Read
public import proofs.«01_k».proof.Proof.MlpUpDx
public import proofs.«01_k».proof.Proof.Gen.InProj.Frame
public import proofs.«01_k».proof.Proof.Gen.InProjIdeal.Value
public import proofs.«01_k».proof.Proof.Gen.InProjReferenceIdeal.Run
public import proofs.«01_k».proof.Proof.Gen.InProjReferenceIdeal.Read
public import proofs.«01_k».proof.Proof.InProj
public import proofs.«01_k».proof.Proof.Gen.InProjDw.Frame
public import proofs.«01_k».proof.Proof.Gen.InProjDwIdeal.Value
public import proofs.«01_k».proof.Proof.Gen.InProjDwReferenceIdeal.Run
public import proofs.«01_k».proof.Proof.Gen.InProjDwReferenceIdeal.Read
public import proofs.«01_k».proof.Proof.InProjDw
public import proofs.«01_k».proof.Proof.Gen.InProjDx.Frame
public import proofs.«01_k».proof.Proof.Gen.InProjDxIdeal.Value
public import proofs.«01_k».proof.Proof.Gen.InProjDxReferenceIdeal.Run
public import proofs.«01_k».proof.Proof.Gen.InProjDxReferenceIdeal.Read
public import proofs.«01_k».proof.Proof.InProjDx
public import proofs.«01_k».proof.Proof.Gen.OutProj.Frame
public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.OutProj
public import proofs.«01_k».proof.Proof.Gen.OutProjDw.Frame
public import proofs.«01_k».proof.Proof.Gen.OutProjDwIdeal.Value
public import proofs.«01_k».proof.Proof.Gen.OutProjDwReferenceIdeal.Run
public import proofs.«01_k».proof.Proof.Gen.OutProjDwReferenceIdeal.Read
public import proofs.«01_k».proof.Proof.OutProjDw
public import proofs.«01_k».proof.Proof.Gen.OutProjDx.Frame
public import proofs.«01_k».proof.Proof.Gen.OutProjDxIdeal.Value
public import proofs.«01_k».proof.Proof.Gen.OutProjDxReferenceIdeal.Run
public import proofs.«01_k».proof.Proof.Gen.OutProjDxReferenceIdeal.Read
public import proofs.«01_k».proof.Proof.OutProjDx
public import proofs.«01_k».proof.Proof.Gen.Qkv.Frame
public import proofs.«01_k».proof.Proof.Gen.QkvIdeal.Value
public import proofs.«01_k».proof.Proof.Gen.QkvReferenceIdeal.Run
public import proofs.«01_k».proof.Proof.Gen.QkvReferenceIdeal.Read
public import proofs.«01_k».proof.Proof.Qkv
public import proofs.«01_k».proof.Proof.Gen.QkvDw.Frame
public import proofs.«01_k».proof.Proof.Gen.QkvDwIdeal.Value
public import proofs.«01_k».proof.Proof.Gen.QkvDwReferenceIdeal.Run
public import proofs.«01_k».proof.Proof.Gen.QkvDwReferenceIdeal.Read
public import proofs.«01_k».proof.Proof.QkvDw
public import proofs.«01_k».proof.Proof.Gen.QkvDx.Frame
public import proofs.«01_k».proof.Proof.Gen.QkvDxIdeal.Value
public import proofs.«01_k».proof.Proof.Gen.QkvDxReferenceIdeal.Run
public import proofs.«01_k».proof.Proof.Gen.QkvDxReferenceIdeal.Read
public import proofs.«01_k».proof.Proof.QkvDx
public import proofs.«01_k».proof.Proof.Gen.AttnOut.Frame
public import proofs.«01_k».proof.Proof.Gen.AttnOutIdeal.Value
public import proofs.«01_k».proof.Proof.Gen.AttnOutReferenceIdeal.Run
public import proofs.«01_k».proof.Proof.Gen.AttnOutReferenceIdeal.Read
public import proofs.«01_k».proof.Proof.AttnOut
public import proofs.«01_k».proof.Proof.Gen.AttnOutDw.Frame
public import proofs.«01_k».proof.Proof.Gen.AttnOutDwIdeal.Value
public import proofs.«01_k».proof.Proof.Gen.AttnOutDwReferenceIdeal.Run
public import proofs.«01_k».proof.Proof.Gen.AttnOutDwReferenceIdeal.Read
public import proofs.«01_k».proof.Proof.AttnOutDw
public import proofs.«01_k».proof.Proof.Gen.AttnOutDx.Frame
public import proofs.«01_k».proof.Proof.Gen.AttnOutDxIdeal.Value
public import proofs.«01_k».proof.Proof.Gen.AttnOutDxReferenceIdeal.Run
public import proofs.«01_k».proof.Proof.Gen.AttnOutDxReferenceIdeal.Read
public import proofs.«01_k».proof.Proof.AttnOutDx
public import proofs.«01_k».proof.Proof.Gen.AdamwDown.Frame
public import proofs.«01_k».proof.Proof.Gen.AdamwDownIdeal.Value
public import proofs.«01_k».proof.Proof.Gen.AdamwDownReferenceIdeal.Run
public import proofs.«01_k».proof.Proof.Gen.AdamwDownReferenceIdeal.Read
public import proofs.«01_k».proof.Proof.AdamwDown
public import proofs.«01_k».proof.Proof.Gen.AdamwUp.Frame
public import proofs.«01_k».proof.Proof.Gen.AdamwUpIdeal.Value
public import proofs.«01_k».proof.Proof.Gen.AdamwUpReferenceIdeal.Run
public import proofs.«01_k».proof.Proof.Gen.AdamwUpReferenceIdeal.Read
public import proofs.«01_k».proof.Proof.AdamwUp
public import proofs.«01_k».proof.Proof.Gen.AdamwQkv.Frame
public import proofs.«01_k».proof.Proof.Gen.AdamwQkvIdeal.Value
public import proofs.«01_k».proof.Proof.Gen.AdamwQkvReferenceIdeal.Run
public import proofs.«01_k».proof.Proof.Gen.AdamwQkvReferenceIdeal.Read
public import proofs.«01_k».proof.Proof.AdamwQkv
public import proofs.«01_k».proof.Proof.Gen.AdamwIn.Frame
public import proofs.«01_k».proof.Proof.Gen.AdamwInIdeal.Value
public import proofs.«01_k».proof.Proof.Gen.AdamwInReferenceIdeal.Run
public import proofs.«01_k».proof.Proof.Gen.AdamwInReferenceIdeal.Read
public import proofs.«01_k».proof.Proof.AdamwIn
public import proofs.«01_k».proof.Proof.Gen.AdamwOut.Frame
public import proofs.«01_k».proof.Proof.Gen.AdamwOutIdeal.Value
public import proofs.«01_k».proof.Proof.Gen.AdamwOutReferenceIdeal.Run
public import proofs.«01_k».proof.Proof.Gen.AdamwOutReferenceIdeal.Read
public import proofs.«01_k».proof.Proof.AdamwOut
public import proofs.«01_k».proof.Proof.Gen.AdamwSmall.Frame
public import proofs.«01_k».proof.Proof.Gen.AdamwSmallIdeal.Frame
public import proofs.«01_k».proof.Proof.Gen.AdamwSmallReferenceIdeal.Run
public import proofs.«01_k».proof.Proof.Gen.AdamwSmallReferenceIdeal.Read
public import proofs.«01_k».proof.Proof.AdamwSmall
public import proofs.«01_k».proof.Proof.Gen.SumSmall.Frame
public import proofs.«01_k».proof.Proof.Gen.SumSmallIdeal.Frame
public import proofs.«01_k».proof.Proof.Gen.SumSmallReferenceIdeal.Run
public import proofs.«01_k».proof.Proof.Gen.SumSmallReferenceIdeal.Read
public import proofs.«01_k».proof.Proof.SumSmall
public import proofs.«01_k».proof.Proof.Gen.NormBwd.Frame
public import proofs.«01_k».proof.Proof.Gen.NormBwdIdeal.Value
public import proofs.«01_k».proof.Proof.Gen.NormBwdReferenceIdeal.Run
public import proofs.«01_k».proof.Proof.Gen.NormBwdReferenceIdeal.Read
public import proofs.«01_k».proof.Proof.NormBwd
public import proofs.«01_k».proof.Proof.Gen.NormBwdPair.Frame
public import proofs.«01_k».proof.Proof.Gen.NormBwdPairIdeal.Value
public import proofs.«01_k».proof.Proof.Gen.NormBwdPairReferenceIdeal.Run
public import proofs.«01_k».proof.Proof.Gen.NormBwdPairReferenceIdeal.Read
public import proofs.«01_k».proof.Proof.NormBwdPair
public import proofs.«01_k».proof.Proof.Gen.NormIn.Frame
public import proofs.«01_k».proof.Proof.Gen.NormInIdeal.Value
public import proofs.«01_k».proof.Proof.Gen.NormInReferenceIdeal.Run
public import proofs.«01_k».proof.Proof.Gen.NormInReferenceIdeal.Read
public import proofs.«01_k».proof.Proof.NormIn
public import proofs.«01_k».proof.Proof.Gen.ResidNorm.Frame
public import proofs.«01_k».proof.Proof.Gen.ResidNormIdeal.Value
public import proofs.«01_k».proof.Proof.Gen.ResidNormReferenceIdeal.Run
public import proofs.«01_k».proof.Proof.Gen.ResidNormReferenceIdeal.Read
public import proofs.«01_k».proof.Proof.ResidNorm
public import proofs.«01_k».proof.Proof.Gen.FinalLoss.Frame
public import proofs.«01_k».proof.Proof.Gen.FinalLossIdeal.Frame
public import proofs.«01_k».proof.Proof.Gen.FinalLossReferenceIdeal.Run
public import proofs.«01_k».proof.Proof.Gen.FinalLossReferenceIdeal.Read
public import proofs.«01_k».proof.Proof.FinalLoss
public import proofs.«01_k».proof.Proof.Gen.MixerA.Frame
public import proofs.«01_k».proof.Proof.Gen.MixerAIdeal.Frame
public import proofs.«01_k».proof.Proof.Gen.MixerAReferenceIdeal.Run
public import proofs.«01_k».proof.Proof.Gen.MixerAReferenceIdeal.Read
public import proofs.«01_k».proof.Proof.MixerA
public import proofs.«01_k».proof.Proof.Ref
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Both results of the kernel's call are the gradients the reference computes. -/
theorem mixer : Cert.algebraic_KernelIdeal_ReferenceIdeal := by
  intro m ρ m' ρ' _ agree
  refine ⟨fun c => Cert.KernelIdeal.Mixer.R0 m c, fun c => Cert.KernelIdeal.Mixer.R1 m c,
    Cert.KernelIdeal.Mixer.run m ρ, ?_⟩
  refine (θ_run Cert.ReferenceIdeal.defs _ _).mono (fun r h c => ⟨?_, ?_, (h c).2.2⟩)
    (Cert.ReferenceIdeal.Value.run (F := Ideal) m' ρ')
  · refine (h c).1.trans ((Cert.ReferenceIdeal.Read.val_main_v65_eq m' c).trans (funext fun i => ?_))
    rw [(agree c).1, (agree c).2.1, (agree c).2.2]
    exact Cert.ReferenceIdeal.Mixer.read65 _ _ _ i
  · refine (h c).2.1.trans ((Cert.ReferenceIdeal.Read.val_main_v58_eq _ _).trans (funext fun i => ?_))
    rw [(agree c).1, (agree c).2.2]
    exact Cert.ReferenceIdeal.Mixer.read58 _ _ i

theorem frame_mlpUp : Cert.quiescent_MlpUpReferenceIdeal := fun m ρ _ =>
  (θ_run Cert.MlpUpReferenceIdeal.defs _ _).mono
    (fun r h => ⟨fun c => (h c).2.2, Idealize.ShloMosaic.sem_eq_zero_of_no_sems (by decide) r.2⟩)
    (Cert.MlpUpReferenceIdeal.Value.run (F := Ideal) m ρ)

/-- The call computes the first product of the layer and the squared positive part. -/
theorem mlpUp : Cert.algebraic_MlpUpIdeal_MlpUpReferenceIdeal := by
  intro m ρ m' ρ' _ agree
  refine ⟨fun c => Cert.MlpUpIdeal.Whole.up (Cert.MlpUpIdeal.Whole.a0 m c) (Cert.MlpUpIdeal.Whole.a1 m c), fun c => Cert.MlpUpIdeal.Whole.act (Cert.MlpUpIdeal.Whole.a0 m c) (Cert.MlpUpIdeal.Whole.a1 m c),
    (θ_run Cert.MlpUpIdeal.defs _ _).mono (fun r h c => ⟨(h c).1.trans (Cert.MlpUpIdeal.Whole.final2 m c), (h c).2.1.trans (Cert.MlpUpIdeal.Whole.final3 m c), (h c).2.2⟩)
      (Cert.MlpUpIdeal.Value.run_blocks m ρ), ?_⟩
  refine (θ_run Cert.MlpUpReferenceIdeal.defs _ _).mono (fun r h c => ⟨?_, ?_, (h c).2.2⟩)
    (Cert.MlpUpReferenceIdeal.Value.run (F := Ideal) m' ρ')
  · refine (h c).1.trans ((Cert.MlpUpReferenceIdeal.Read.val_main_v5_eq _ _).trans (funext fun i => ?_))
    rw [(agree c).1, (agree c).2]
    exact Cert.MlpUpIdeal.Whole.read5 _ _ i
  · refine (h c).2.1.trans ((Cert.MlpUpReferenceIdeal.Read.val_main_v8_eq _ _).trans (funext fun i => ?_))
    rw [(agree c).1, (agree c).2]
    exact Cert.MlpUpIdeal.Whole.read8 _ _ i

theorem frame_mlpDown : Cert.quiescent_MlpDownReferenceIdeal := fun m ρ _ =>
  (θ_run Cert.MlpDownReferenceIdeal.defs _ _).mono
    (fun r h => ⟨fun c => (h c).2, Idealize.ShloMosaic.sem_eq_zero_of_no_sems (by decide) r.2⟩)
    (Cert.MlpDownReferenceIdeal.Value.run (F := Ideal) m ρ)

/-- The call computes the second product of the layer. -/
theorem mlpDown : Cert.algebraic_MlpDownIdeal_MlpDownReferenceIdeal := by
  intro m ρ m' ρ' _ agree
  refine ⟨fun c => Cert.MlpDownIdeal.Whole.prod (Cert.MlpDownIdeal.Whole.a0 m c) (Cert.MlpDownIdeal.Whole.a1 m c),
    (θ_run Cert.MlpDownIdeal.defs _ _).mono (fun r h c => ⟨(h c).1.trans (Cert.MlpDownIdeal.Whole.final m c), (h c).2⟩)
      (Cert.MlpDownIdeal.Value.run_blocks m ρ), ?_⟩
  refine (θ_run Cert.MlpDownReferenceIdeal.defs _ _).mono (fun r h c => ⟨?_, (h c).2⟩)
    (Cert.MlpDownReferenceIdeal.Value.run (F := Ideal) m' ρ')
  · refine (h c).1.trans ((Cert.MlpDownReferenceIdeal.Read.val_main_v3_eq _ _).trans (funext fun i => ?_))
    rw [(agree c).1, (agree c).2]
    exact Cert.MlpDownIdeal.Whole.read _ _ i

theorem frame_mlpDownDw : Cert.quiescent_MlpDownDwReferenceIdeal := fun m ρ _ =>
  (θ_run Cert.MlpDownDwReferenceIdeal.defs _ _).mono
    (fun r h => ⟨fun c => (h c).2, Idealize.ShloMosaic.sem_eq_zero_of_no_sems (by decide) r.2⟩)
    (Cert.MlpDownDwReferenceIdeal.Value.run (F := Ideal) m ρ)

/-- The call computes the gradient of the second weight. -/
theorem mlpDownDw : Cert.algebraic_MlpDownDwIdeal_MlpDownDwReferenceIdeal := by
  intro m ρ m' ρ' _ agree
  refine ⟨fun c => Cert.MlpDownDwIdeal.Whole.prod (Cert.MlpDownDwIdeal.Whole.a0 m c) (Cert.MlpDownDwIdeal.Whole.a1 m c),
    (θ_run Cert.MlpDownDwIdeal.defs _ _).mono (fun r h c => ⟨(h c).1.trans (Cert.MlpDownDwIdeal.Whole.final m c), (h c).2⟩)
      (Cert.MlpDownDwIdeal.Value.run_blocks m ρ), ?_⟩
  refine (θ_run Cert.MlpDownDwReferenceIdeal.defs _ _).mono (fun r h c => ⟨?_, (h c).2⟩)
    (Cert.MlpDownDwReferenceIdeal.Value.run (F := Ideal) m' ρ')
  · refine (h c).1.trans ((Cert.MlpDownDwReferenceIdeal.Read.val_main_v6_eq _ _).trans (funext fun i => ?_))
    rw [(agree c).1, (agree c).2]
    exact Cert.MlpDownDwIdeal.Whole.read _ _ i

theorem frame_mlpDownDx : Cert.quiescent_MlpDownDxReferenceIdeal := fun m ρ _ =>
  (θ_run Cert.MlpDownDxReferenceIdeal.defs _ _).mono
    (fun r h => ⟨fun c => (h c).2, Idealize.ShloMosaic.sem_eq_zero_of_no_sems (by decide) r.2⟩)
    (Cert.MlpDownDxReferenceIdeal.Value.run (F := Ideal) m ρ)

/-- The call computes the gradient reaching the first product. -/
theorem mlpDownDx : Cert.algebraic_MlpDownDxIdeal_MlpDownDxReferenceIdeal := by
  intro m ρ m' ρ' _ agree
  refine ⟨fun c => Cert.MlpDownDxIdeal.Whole.grad (Cert.MlpDownDxIdeal.Whole.a0 m c) (Cert.MlpDownDxIdeal.Whole.a1 m c) (Cert.MlpDownDxIdeal.Whole.a2 m c),
    (θ_run Cert.MlpDownDxIdeal.defs _ _).mono (fun r h c => ⟨(h c).1.trans (Cert.MlpDownDxIdeal.Whole.final m c), (h c).2⟩)
      (Cert.MlpDownDxIdeal.Value.run_blocks m ρ), ?_⟩
  refine (θ_run Cert.MlpDownDxReferenceIdeal.defs _ _).mono (fun r h c => ⟨?_, (h c).2⟩)
    (Cert.MlpDownDxReferenceIdeal.Value.run (F := Ideal) m' ρ')
  · refine (h c).1.trans ((Cert.MlpDownDxReferenceIdeal.Read.val_main_v16_eq _ _ _).trans (funext fun i => ?_))
    rw [(agree c).1, (agree c).2.1, (agree c).2.2]
    exact Cert.MlpDownDxIdeal.Whole.read16 _ _ _ i

theorem frame_mlpUpDw : Cert.quiescent_MlpUpDwReferenceIdeal := fun m ρ _ =>
  (θ_run Cert.MlpUpDwReferenceIdeal.defs _ _).mono
    (fun r h => ⟨fun c => (h c).2, Idealize.ShloMosaic.sem_eq_zero_of_no_sems (by decide) r.2⟩)
    (Cert.MlpUpDwReferenceIdeal.Value.run (F := Ideal) m ρ)

/-- The call computes the gradient of the first weight. -/
theorem mlpUpDw : Cert.algebraic_MlpUpDwIdeal_MlpUpDwReferenceIdeal := by
  intro m ρ m' ρ' _ agree
  refine ⟨fun c => Cert.MlpUpDwIdeal.Whole.prod (Cert.MlpUpDwIdeal.Whole.a0 m c) (Cert.MlpUpDwIdeal.Whole.a1 m c),
    (θ_run Cert.MlpUpDwIdeal.defs _ _).mono (fun r h c => ⟨(h c).1.trans (Cert.MlpUpDwIdeal.Whole.final m c), (h c).2⟩)
      (Cert.MlpUpDwIdeal.Value.run_blocks m ρ), ?_⟩
  refine (θ_run Cert.MlpUpDwReferenceIdeal.defs _ _).mono (fun r h c => ⟨?_, (h c).2⟩)
    (Cert.MlpUpDwReferenceIdeal.Value.run (F := Ideal) m' ρ')
  · refine (h c).1.trans ((Cert.MlpUpDwReferenceIdeal.Read.val_main_v10_eq _ _).trans (funext fun i => ?_))
    rw [(agree c).1, (agree c).2]
    exact Cert.MlpUpDwIdeal.Whole.read _ _ i

theorem frame_mlpUpDx : Cert.quiescent_MlpUpDxReferenceIdeal := fun m ρ _ =>
  (θ_run Cert.MlpUpDxReferenceIdeal.defs _ _).mono
    (fun r h => ⟨fun c => (h c).2, Idealize.ShloMosaic.sem_eq_zero_of_no_sems (by decide) r.2⟩)
    (Cert.MlpUpDxReferenceIdeal.Value.run (F := Ideal) m ρ)

/-- The call computes the gradient reaching the layer. -/
theorem mlpUpDx : Cert.algebraic_MlpUpDxIdeal_MlpUpDxReferenceIdeal := by
  intro m ρ m' ρ' _ agree
  refine ⟨fun c => Cert.MlpUpDxIdeal.Whole.prod (Cert.MlpUpDxIdeal.Whole.a0 m c) (Cert.MlpUpDxIdeal.Whole.a1 m c),
    (θ_run Cert.MlpUpDxIdeal.defs _ _).mono (fun r h c => ⟨(h c).1.trans (Cert.MlpUpDxIdeal.Whole.final m c), (h c).2⟩)
      (Cert.MlpUpDxIdeal.Value.run_blocks m ρ), ?_⟩
  refine (θ_run Cert.MlpUpDxReferenceIdeal.defs _ _).mono (fun r h c => ⟨?_, (h c).2⟩)
    (Cert.MlpUpDxReferenceIdeal.Value.run (F := Ideal) m' ρ')
  · refine (h c).1.trans ((Cert.MlpUpDxReferenceIdeal.Read.val_main_v7_eq _ _).trans (funext fun i => ?_))
    rw [(agree c).1, (agree c).2]
    exact Cert.MlpUpDxIdeal.Whole.read _ _ i

theorem frame_inProj : Cert.quiescent_InProjReferenceIdeal := fun m ρ _ =>
  (θ_run Cert.InProjReferenceIdeal.defs _ _).mono
    (fun r h => ⟨fun c => (h c).2, Idealize.ShloMosaic.sem_eq_zero_of_no_sems (by decide) r.2⟩)
    (Cert.InProjReferenceIdeal.Value.run (F := Ideal) m ρ)

/-- The call computes the input projection of the mixers. -/
theorem inProj : Cert.algebraic_InProjIdeal_InProjReferenceIdeal := by
  intro m ρ m' ρ' _ agree
  refine ⟨fun c => Cert.InProjIdeal.Whole.prod (Cert.InProjIdeal.Whole.a0 m c) (Cert.InProjIdeal.Whole.a1 m c),
    (θ_run Cert.InProjIdeal.defs _ _).mono (fun r h c => ⟨(h c).1.trans (Cert.InProjIdeal.Whole.final m c), (h c).2⟩)
      (Cert.InProjIdeal.Value.run_blocks m ρ), ?_⟩
  refine (θ_run Cert.InProjReferenceIdeal.defs _ _).mono (fun r h c => ⟨?_, (h c).2⟩)
    (Cert.InProjReferenceIdeal.Value.run (F := Ideal) m' ρ')
  · refine (h c).1.trans ((Cert.InProjReferenceIdeal.Read.val_main_v5_eq _ _).trans (funext fun i => ?_))
    rw [(agree c).1, (agree c).2]
    exact Cert.InProjIdeal.Whole.read _ _ i

theorem frame_inProjDw : Cert.quiescent_InProjDwReferenceIdeal := fun m ρ _ =>
  (θ_run Cert.InProjDwReferenceIdeal.defs _ _).mono
    (fun r h => ⟨fun c => (h c).2, Idealize.ShloMosaic.sem_eq_zero_of_no_sems (by decide) r.2⟩)
    (Cert.InProjDwReferenceIdeal.Value.run (F := Ideal) m ρ)

/-- The call computes the gradient of the input projection's weight. -/
theorem inProjDw : Cert.algebraic_InProjDwIdeal_InProjDwReferenceIdeal := by
  intro m ρ m' ρ' _ agree
  refine ⟨fun c => Cert.InProjDwIdeal.Whole.prod (Cert.InProjDwIdeal.Whole.a0 m c) (Cert.InProjDwIdeal.Whole.a1 m c),
    (θ_run Cert.InProjDwIdeal.defs _ _).mono (fun r h c => ⟨(h c).1.trans (Cert.InProjDwIdeal.Whole.final m c), (h c).2⟩)
      (Cert.InProjDwIdeal.Value.run_blocks m ρ), ?_⟩
  refine (θ_run Cert.InProjDwReferenceIdeal.defs _ _).mono (fun r h c => ⟨?_, (h c).2⟩)
    (Cert.InProjDwReferenceIdeal.Value.run (F := Ideal) m' ρ')
  · refine (h c).1.trans ((Cert.InProjDwReferenceIdeal.Read.val_main_v10_eq _ _).trans (funext fun i => ?_))
    rw [(agree c).1, (agree c).2]
    exact Cert.InProjDwIdeal.Whole.read _ _ i

theorem frame_inProjDx : Cert.quiescent_InProjDxReferenceIdeal := fun m ρ _ =>
  (θ_run Cert.InProjDxReferenceIdeal.defs _ _).mono
    (fun r h => ⟨fun c => (h c).2, Idealize.ShloMosaic.sem_eq_zero_of_no_sems (by decide) r.2⟩)
    (Cert.InProjDxReferenceIdeal.Value.run (F := Ideal) m ρ)

/-- The call computes the gradient of the input projection's input. -/
theorem inProjDx : Cert.algebraic_InProjDxIdeal_InProjDxReferenceIdeal := by
  intro m ρ m' ρ' _ agree
  refine ⟨fun c => Cert.InProjDxIdeal.Whole.prod (Cert.InProjDxIdeal.Whole.a0 m c) (Cert.InProjDxIdeal.Whole.a1 m c),
    (θ_run Cert.InProjDxIdeal.defs _ _).mono (fun r h c => ⟨(h c).1.trans (Cert.InProjDxIdeal.Whole.final m c), (h c).2⟩)
      (Cert.InProjDxIdeal.Value.run_blocks m ρ), ?_⟩
  refine (θ_run Cert.InProjDxReferenceIdeal.defs _ _).mono (fun r h c => ⟨?_, (h c).2⟩)
    (Cert.InProjDxReferenceIdeal.Value.run (F := Ideal) m' ρ')
  · refine (h c).1.trans ((Cert.InProjDxReferenceIdeal.Read.val_main_v9_eq _ _).trans (funext fun i => ?_))
    rw [(agree c).1, (agree c).2]
    exact Cert.InProjDxIdeal.Whole.read _ _ i

theorem frame_outProj : Cert.quiescent_OutProjReferenceIdeal := fun m ρ _ =>
  (θ_run Cert.OutProjReferenceIdeal.defs _ _).mono
    (fun r h => ⟨fun c => (h c).2, Idealize.ShloMosaic.sem_eq_zero_of_no_sems (by decide) r.2⟩)
    (Cert.OutProjReferenceIdeal.Value.run (F := Ideal) m ρ)

/-- The call computes the output projection of the mixers. -/
theorem outProj : Cert.algebraic_OutProjIdeal_OutProjReferenceIdeal := by
  intro m ρ m' ρ' _ agree
  refine ⟨fun c => Cert.OutProjIdeal.Whole.prod (Cert.OutProjIdeal.Whole.a0 m c) (Cert.OutProjIdeal.Whole.a1 m c),
    (θ_run Cert.OutProjIdeal.defs _ _).mono (fun r h c => ⟨(h c).1.trans (Cert.OutProjIdeal.Whole.final m c), (h c).2⟩)
      (Cert.OutProjIdeal.Value.run_blocks m ρ), ?_⟩
  refine (θ_run Cert.OutProjReferenceIdeal.defs _ _).mono (fun r h c => ⟨?_, (h c).2⟩)
    (Cert.OutProjReferenceIdeal.Value.run (F := Ideal) m' ρ')
  · refine (h c).1.trans ((Cert.OutProjReferenceIdeal.Read.val_main_v5_eq _ _).trans (funext fun i => ?_))
    rw [(agree c).1, (agree c).2]
    exact Cert.OutProjIdeal.Whole.read _ _ i

theorem frame_outProjDw : Cert.quiescent_OutProjDwReferenceIdeal := fun m ρ _ =>
  (θ_run Cert.OutProjDwReferenceIdeal.defs _ _).mono
    (fun r h => ⟨fun c => (h c).2, Idealize.ShloMosaic.sem_eq_zero_of_no_sems (by decide) r.2⟩)
    (Cert.OutProjDwReferenceIdeal.Value.run (F := Ideal) m ρ)

/-- The call computes the gradient of the output projection's weight. -/
theorem outProjDw : Cert.algebraic_OutProjDwIdeal_OutProjDwReferenceIdeal := by
  intro m ρ m' ρ' _ agree
  refine ⟨fun c => Cert.OutProjDwIdeal.Whole.prod (Cert.OutProjDwIdeal.Whole.a0 m c) (Cert.OutProjDwIdeal.Whole.a1 m c),
    (θ_run Cert.OutProjDwIdeal.defs _ _).mono (fun r h c => ⟨(h c).1.trans (Cert.OutProjDwIdeal.Whole.final m c), (h c).2⟩)
      (Cert.OutProjDwIdeal.Value.run_blocks m ρ), ?_⟩
  refine (θ_run Cert.OutProjDwReferenceIdeal.defs _ _).mono (fun r h c => ⟨?_, (h c).2⟩)
    (Cert.OutProjDwReferenceIdeal.Value.run (F := Ideal) m' ρ')
  · refine (h c).1.trans ((Cert.OutProjDwReferenceIdeal.Read.val_main_v8_eq _ _).trans (funext fun i => ?_))
    rw [(agree c).1, (agree c).2]
    exact Cert.OutProjDwIdeal.Whole.read _ _ i

theorem frame_outProjDx : Cert.quiescent_OutProjDxReferenceIdeal := fun m ρ _ =>
  (θ_run Cert.OutProjDxReferenceIdeal.defs _ _).mono
    (fun r h => ⟨fun c => (h c).2, Idealize.ShloMosaic.sem_eq_zero_of_no_sems (by decide) r.2⟩)
    (Cert.OutProjDxReferenceIdeal.Value.run (F := Ideal) m ρ)

/-- The call computes the gradient of the mixers' results. -/
theorem outProjDx : Cert.algebraic_OutProjDxIdeal_OutProjDxReferenceIdeal := by
  intro m ρ m' ρ' _ agree
  refine ⟨fun c => Cert.OutProjDxIdeal.Whole.prod (Cert.OutProjDxIdeal.Whole.a0 m c) (Cert.OutProjDxIdeal.Whole.a1 m c),
    (θ_run Cert.OutProjDxIdeal.defs _ _).mono (fun r h c => ⟨(h c).1.trans (Cert.OutProjDxIdeal.Whole.final m c), (h c).2⟩)
      (Cert.OutProjDxIdeal.Value.run_blocks m ρ), ?_⟩
  refine (θ_run Cert.OutProjDxReferenceIdeal.defs _ _).mono (fun r h c => ⟨?_, (h c).2⟩)
    (Cert.OutProjDxReferenceIdeal.Value.run (F := Ideal) m' ρ')
  · refine (h c).1.trans ((Cert.OutProjDxReferenceIdeal.Read.val_main_v8_eq _ _).trans (funext fun i => ?_))
    rw [(agree c).1, (agree c).2]
    exact Cert.OutProjDxIdeal.Whole.read _ _ i

theorem frame_qkv : Cert.quiescent_QkvReferenceIdeal := fun m ρ _ =>
  (θ_run Cert.QkvReferenceIdeal.defs _ _).mono
    (fun r h => ⟨fun c => (h c).2, Idealize.ShloMosaic.sem_eq_zero_of_no_sems (by decide) r.2⟩)
    (Cert.QkvReferenceIdeal.Value.run (F := Ideal) m ρ)

/-- The call computes the queries, keys and values. -/
theorem qkv : Cert.algebraic_QkvIdeal_QkvReferenceIdeal := by
  intro m ρ m' ρ' _ agree
  refine ⟨fun c => Cert.QkvIdeal.Whole.prod (Cert.QkvIdeal.Whole.a0 m c) (Cert.QkvIdeal.Whole.a1 m c),
    (θ_run Cert.QkvIdeal.defs _ _).mono (fun r h c => ⟨(h c).1.trans (Cert.QkvIdeal.Whole.final m c), (h c).2⟩)
      (Cert.QkvIdeal.Value.run_blocks m ρ), ?_⟩
  refine (θ_run Cert.QkvReferenceIdeal.defs _ _).mono (fun r h c => ⟨?_, (h c).2⟩)
    (Cert.QkvReferenceIdeal.Value.run (F := Ideal) m' ρ')
  · refine (h c).1.trans ((Cert.QkvReferenceIdeal.Read.val_main_v6_eq _ _).trans (funext fun i => ?_))
    rw [(agree c).1, (agree c).2]
    exact Cert.QkvIdeal.Whole.read _ _ i

theorem frame_qkvDw : Cert.quiescent_QkvDwReferenceIdeal := fun m ρ _ =>
  (θ_run Cert.QkvDwReferenceIdeal.defs _ _).mono
    (fun r h => ⟨fun c => (h c).2, Idealize.ShloMosaic.sem_eq_zero_of_no_sems (by decide) r.2⟩)
    (Cert.QkvDwReferenceIdeal.Value.run (F := Ideal) m ρ)

/-- The call computes the gradient of their weight. -/
theorem qkvDw : Cert.algebraic_QkvDwIdeal_QkvDwReferenceIdeal := by
  intro m ρ m' ρ' _ agree
  refine ⟨fun c => Cert.QkvDwIdeal.Whole.prod (Cert.QkvDwIdeal.Whole.a0 m c) (Cert.QkvDwIdeal.Whole.a1 m c),
    (θ_run Cert.QkvDwIdeal.defs _ _).mono (fun r h c => ⟨(h c).1.trans (Cert.QkvDwIdeal.Whole.final m c), (h c).2⟩)
      (Cert.QkvDwIdeal.Value.run_blocks m ρ), ?_⟩
  refine (θ_run Cert.QkvDwReferenceIdeal.defs _ _).mono (fun r h c => ⟨?_, (h c).2⟩)
    (Cert.QkvDwReferenceIdeal.Value.run (F := Ideal) m' ρ')
  · refine (h c).1.trans ((Cert.QkvDwReferenceIdeal.Read.val_main_v9_eq _ _).trans (funext fun i => ?_))
    rw [(agree c).1, (agree c).2]
    exact Cert.QkvDwIdeal.Whole.read _ _ i

theorem frame_qkvDx : Cert.quiescent_QkvDxReferenceIdeal := fun m ρ _ =>
  (θ_run Cert.QkvDxReferenceIdeal.defs _ _).mono
    (fun r h => ⟨fun c => (h c).2, Idealize.ShloMosaic.sem_eq_zero_of_no_sems (by decide) r.2⟩)
    (Cert.QkvDxReferenceIdeal.Value.run (F := Ideal) m ρ)

/-- The call computes the gradient of their input. -/
theorem qkvDx : Cert.algebraic_QkvDxIdeal_QkvDxReferenceIdeal := by
  intro m ρ m' ρ' _ agree
  refine ⟨fun c => Cert.QkvDxIdeal.Whole.prod (Cert.QkvDxIdeal.Whole.a0 m c) (Cert.QkvDxIdeal.Whole.a1 m c),
    (θ_run Cert.QkvDxIdeal.defs _ _).mono (fun r h c => ⟨(h c).1.trans (Cert.QkvDxIdeal.Whole.final m c), (h c).2⟩)
      (Cert.QkvDxIdeal.Value.run_blocks m ρ), ?_⟩
  refine (θ_run Cert.QkvDxReferenceIdeal.defs _ _).mono (fun r h c => ⟨?_, (h c).2⟩)
    (Cert.QkvDxReferenceIdeal.Value.run (F := Ideal) m' ρ')
  · refine (h c).1.trans ((Cert.QkvDxReferenceIdeal.Read.val_main_v8_eq _ _).trans (funext fun i => ?_))
    rw [(agree c).1, (agree c).2]
    exact Cert.QkvDxIdeal.Whole.read _ _ i

theorem frame_attnOut : Cert.quiescent_AttnOutReferenceIdeal := fun m ρ _ =>
  (θ_run Cert.AttnOutReferenceIdeal.defs _ _).mono
    (fun r h => ⟨fun c => (h c).2, Idealize.ShloMosaic.sem_eq_zero_of_no_sems (by decide) r.2⟩)
    (Cert.AttnOutReferenceIdeal.Value.run (F := Ideal) m ρ)

/-- The call computes the output projection of attention. -/
theorem attnOut : Cert.algebraic_AttnOutIdeal_AttnOutReferenceIdeal := by
  intro m ρ m' ρ' _ agree
  refine ⟨fun c => Cert.AttnOutIdeal.Whole.prod (Cert.AttnOutIdeal.Whole.a0 m c) (Cert.AttnOutIdeal.Whole.a1 m c),
    (θ_run Cert.AttnOutIdeal.defs _ _).mono (fun r h c => ⟨(h c).1.trans (Cert.AttnOutIdeal.Whole.final m c), (h c).2⟩)
      (Cert.AttnOutIdeal.Value.run_blocks m ρ), ?_⟩
  refine (θ_run Cert.AttnOutReferenceIdeal.defs _ _).mono (fun r h c => ⟨?_, (h c).2⟩)
    (Cert.AttnOutReferenceIdeal.Value.run (F := Ideal) m' ρ')
  · refine (h c).1.trans ((Cert.AttnOutReferenceIdeal.Read.val_main_v3_eq _ _).trans (funext fun i => ?_))
    rw [(agree c).1, (agree c).2]
    exact Cert.AttnOutIdeal.Whole.read _ _ i

theorem frame_attnOutDw : Cert.quiescent_AttnOutDwReferenceIdeal := fun m ρ _ =>
  (θ_run Cert.AttnOutDwReferenceIdeal.defs _ _).mono
    (fun r h => ⟨fun c => (h c).2, Idealize.ShloMosaic.sem_eq_zero_of_no_sems (by decide) r.2⟩)
    (Cert.AttnOutDwReferenceIdeal.Value.run (F := Ideal) m ρ)

/-- The call computes the gradient of that projection's weight. -/
theorem attnOutDw : Cert.algebraic_AttnOutDwIdeal_AttnOutDwReferenceIdeal := by
  intro m ρ m' ρ' _ agree
  refine ⟨fun c => Cert.AttnOutDwIdeal.Whole.prod (Cert.AttnOutDwIdeal.Whole.a0 m c) (Cert.AttnOutDwIdeal.Whole.a1 m c),
    (θ_run Cert.AttnOutDwIdeal.defs _ _).mono (fun r h c => ⟨(h c).1.trans (Cert.AttnOutDwIdeal.Whole.final m c), (h c).2⟩)
      (Cert.AttnOutDwIdeal.Value.run_blocks m ρ), ?_⟩
  refine (θ_run Cert.AttnOutDwReferenceIdeal.defs _ _).mono (fun r h c => ⟨?_, (h c).2⟩)
    (Cert.AttnOutDwReferenceIdeal.Value.run (F := Ideal) m' ρ')
  · refine (h c).1.trans ((Cert.AttnOutDwReferenceIdeal.Read.val_main_v6_eq _ _).trans (funext fun i => ?_))
    rw [(agree c).1, (agree c).2]
    exact Cert.AttnOutDwIdeal.Whole.read _ _ i

theorem frame_attnOutDx : Cert.quiescent_AttnOutDxReferenceIdeal := fun m ρ _ =>
  (θ_run Cert.AttnOutDxReferenceIdeal.defs _ _).mono
    (fun r h => ⟨fun c => (h c).2, Idealize.ShloMosaic.sem_eq_zero_of_no_sems (by decide) r.2⟩)
    (Cert.AttnOutDxReferenceIdeal.Value.run (F := Ideal) m ρ)

/-- The call computes the gradient of the heads. -/
theorem attnOutDx : Cert.algebraic_AttnOutDxIdeal_AttnOutDxReferenceIdeal := by
  intro m ρ m' ρ' _ agree
  refine ⟨fun c => Cert.AttnOutDxIdeal.Whole.prod (Cert.AttnOutDxIdeal.Whole.a0 m c) (Cert.AttnOutDxIdeal.Whole.a1 m c),
    (θ_run Cert.AttnOutDxIdeal.defs _ _).mono (fun r h c => ⟨(h c).1.trans (Cert.AttnOutDxIdeal.Whole.final m c), (h c).2⟩)
      (Cert.AttnOutDxIdeal.Value.run_blocks m ρ), ?_⟩
  refine (θ_run Cert.AttnOutDxReferenceIdeal.defs _ _).mono (fun r h c => ⟨?_, (h c).2⟩)
    (Cert.AttnOutDxReferenceIdeal.Value.run (F := Ideal) m' ρ')
  · refine (h c).1.trans ((Cert.AttnOutDxReferenceIdeal.Read.val_main_v5_eq _ _).trans (funext fun i => ?_))
    rw [(agree c).1, (agree c).2]
    exact Cert.AttnOutDxIdeal.Whole.read _ _ i

theorem frame_adamwDown : Cert.quiescent_AdamwDownReferenceIdeal := fun m ρ _ =>
  (θ_run Cert.AdamwDownReferenceIdeal.defs _ _).mono
    (fun r h => ⟨fun c => (h c).2.2.2.2, Idealize.ShloMosaic.sem_eq_zero_of_no_sems (by decide) r.2⟩)
    (Cert.AdamwDownReferenceIdeal.Value.run (F := Ideal) m ρ)

/-- The call computes the gradient of the second MLP weight from the devices' contributions, and the optimiser's step. -/
theorem adamwDown : Cert.algebraic_AdamwDownIdeal_AdamwDownReferenceIdeal := by
  intro m ρ m' ρ' _ agree
  refine ⟨fun c => Cert.AdamwDownIdeal.Whole.grad (Cert.AdamwDownIdeal.Whole.a0 m c) (Cert.AdamwDownIdeal.Whole.a1 m c), fun c => Cert.AdamwDownIdeal.Whole.delta (Cert.AdamwDownIdeal.Whole.a0 m c) (Cert.AdamwDownIdeal.Whole.a1 m c) (Cert.AdamwDownIdeal.Whole.a2 m c) (Cert.AdamwDownIdeal.Whole.a3 m c) (Cert.AdamwDownIdeal.Whole.a4 m c), fun c => Cert.AdamwDownIdeal.Whole.newM (Cert.AdamwDownIdeal.Whole.a0 m c) (Cert.AdamwDownIdeal.Whole.a1 m c) (Cert.AdamwDownIdeal.Whole.a3 m c), fun c => Cert.AdamwDownIdeal.Whole.newV (Cert.AdamwDownIdeal.Whole.a0 m c) (Cert.AdamwDownIdeal.Whole.a1 m c) (Cert.AdamwDownIdeal.Whole.a4 m c),
    (θ_run Cert.AdamwDownIdeal.defs _ _).mono (fun r h c => ⟨(h c).1.trans (Cert.AdamwDownIdeal.Whole.final0 m c), (h c).2.1.trans (Cert.AdamwDownIdeal.Whole.final1 m c), (h c).2.2.1.trans (Cert.AdamwDownIdeal.Whole.final2 m c), (h c).2.2.2.1.trans (Cert.AdamwDownIdeal.Whole.final3 m c), (h c).2.2.2.2⟩)
      (Cert.AdamwDownIdeal.Value.run_blocks m ρ), ?_⟩
  refine (θ_run Cert.AdamwDownReferenceIdeal.defs _ _).mono (fun r h c => ⟨?_, ?_, ?_, ?_, (h c).2.2.2.2⟩)
    (Cert.AdamwDownReferenceIdeal.Value.run (F := Ideal) m' ρ')
  · refine (h c).1.trans ((Cert.AdamwDownReferenceIdeal.Read.val_main_v6_eq _ _).trans (funext fun i => ?_))
    rw [(agree c).1, (agree c).2.1]
    exact Cert.AdamwDownIdeal.Whole.read0 _ _ i
  · refine (h c).2.1.trans ((Cert.AdamwDownReferenceIdeal.Read.val_main_v30_eq _ _ _ _ _).trans (funext fun i => ?_))
    rw [(agree c).1, (agree c).2.1, (agree c).2.2.1, (agree c).2.2.2.1, (agree c).2.2.2.2]
    exact Cert.AdamwDownIdeal.Whole.read1 _ _ _ _ _ i
  · refine (h c).2.2.1.trans ((Cert.AdamwDownReferenceIdeal.Read.val_main_v11_eq _ _ _).trans (funext fun i => ?_))
    rw [(agree c).1, (agree c).2.1, (agree c).2.2.2.1]
    exact Cert.AdamwDownIdeal.Whole.read2 _ _ _ i
  · refine (h c).2.2.2.1.trans ((Cert.AdamwDownReferenceIdeal.Read.val_main_v17_eq _ _ _).trans (funext fun i => ?_))
    rw [(agree c).1, (agree c).2.1, (agree c).2.2.2.2]
    exact Cert.AdamwDownIdeal.Whole.read3 _ _ _ i

theorem frame_adamwUp : Cert.quiescent_AdamwUpReferenceIdeal := fun m ρ _ =>
  (θ_run Cert.AdamwUpReferenceIdeal.defs _ _).mono
    (fun r h => ⟨fun c => (h c).2.2.2.2, Idealize.ShloMosaic.sem_eq_zero_of_no_sems (by decide) r.2⟩)
    (Cert.AdamwUpReferenceIdeal.Value.run (F := Ideal) m ρ)

/-- The call computes the same for the first MLP weight. -/
theorem adamwUp : Cert.algebraic_AdamwUpIdeal_AdamwUpReferenceIdeal := by
  intro m ρ m' ρ' _ agree
  refine ⟨fun c => Cert.AdamwUpIdeal.Whole.grad (Cert.AdamwUpIdeal.Whole.a0 m c) (Cert.AdamwUpIdeal.Whole.a1 m c), fun c => Cert.AdamwUpIdeal.Whole.delta (Cert.AdamwUpIdeal.Whole.a0 m c) (Cert.AdamwUpIdeal.Whole.a1 m c) (Cert.AdamwUpIdeal.Whole.a2 m c) (Cert.AdamwUpIdeal.Whole.a3 m c) (Cert.AdamwUpIdeal.Whole.a4 m c), fun c => Cert.AdamwUpIdeal.Whole.newM (Cert.AdamwUpIdeal.Whole.a0 m c) (Cert.AdamwUpIdeal.Whole.a1 m c) (Cert.AdamwUpIdeal.Whole.a3 m c), fun c => Cert.AdamwUpIdeal.Whole.newV (Cert.AdamwUpIdeal.Whole.a0 m c) (Cert.AdamwUpIdeal.Whole.a1 m c) (Cert.AdamwUpIdeal.Whole.a4 m c),
    (θ_run Cert.AdamwUpIdeal.defs _ _).mono (fun r h c => ⟨(h c).1.trans (Cert.AdamwUpIdeal.Whole.final0 m c), (h c).2.1.trans (Cert.AdamwUpIdeal.Whole.final1 m c), (h c).2.2.1.trans (Cert.AdamwUpIdeal.Whole.final2 m c), (h c).2.2.2.1.trans (Cert.AdamwUpIdeal.Whole.final3 m c), (h c).2.2.2.2⟩)
      (Cert.AdamwUpIdeal.Value.run_blocks m ρ), ?_⟩
  refine (θ_run Cert.AdamwUpReferenceIdeal.defs _ _).mono (fun r h c => ⟨?_, ?_, ?_, ?_, (h c).2.2.2.2⟩)
    (Cert.AdamwUpReferenceIdeal.Value.run (F := Ideal) m' ρ')
  · refine (h c).1.trans ((Cert.AdamwUpReferenceIdeal.Read.val_main_v6_eq _ _).trans (funext fun i => ?_))
    rw [(agree c).1, (agree c).2.1]
    exact Cert.AdamwUpIdeal.Whole.read0 _ _ i
  · refine (h c).2.1.trans ((Cert.AdamwUpReferenceIdeal.Read.val_main_v30_eq _ _ _ _ _).trans (funext fun i => ?_))
    rw [(agree c).1, (agree c).2.1, (agree c).2.2.1, (agree c).2.2.2.1, (agree c).2.2.2.2]
    exact Cert.AdamwUpIdeal.Whole.read1 _ _ _ _ _ i
  · refine (h c).2.2.1.trans ((Cert.AdamwUpReferenceIdeal.Read.val_main_v11_eq _ _ _).trans (funext fun i => ?_))
    rw [(agree c).1, (agree c).2.1, (agree c).2.2.2.1]
    exact Cert.AdamwUpIdeal.Whole.read2 _ _ _ i
  · refine (h c).2.2.2.1.trans ((Cert.AdamwUpReferenceIdeal.Read.val_main_v17_eq _ _ _).trans (funext fun i => ?_))
    rw [(agree c).1, (agree c).2.1, (agree c).2.2.2.2]
    exact Cert.AdamwUpIdeal.Whole.read3 _ _ _ i

theorem frame_adamwQkv : Cert.quiescent_AdamwQkvReferenceIdeal := fun m ρ _ =>
  (θ_run Cert.AdamwQkvReferenceIdeal.defs _ _).mono
    (fun r h => ⟨fun c => (h c).2.2.2.2, Idealize.ShloMosaic.sem_eq_zero_of_no_sems (by decide) r.2⟩)
    (Cert.AdamwQkvReferenceIdeal.Value.run (F := Ideal) m ρ)

/-- The call computes the same for the weight of the queries, keys and values. -/
theorem adamwQkv : Cert.algebraic_AdamwQkvIdeal_AdamwQkvReferenceIdeal := by
  intro m ρ m' ρ' _ agree
  refine ⟨fun c => Cert.AdamwQkvIdeal.Whole.grad (Cert.AdamwQkvIdeal.Whole.a0 m c), fun c => Cert.AdamwQkvIdeal.Whole.delta (Cert.AdamwQkvIdeal.Whole.a0 m c) (Cert.AdamwQkvIdeal.Whole.a1 m c) (Cert.AdamwQkvIdeal.Whole.a2 m c) (Cert.AdamwQkvIdeal.Whole.a3 m c), fun c => Cert.AdamwQkvIdeal.Whole.newM (Cert.AdamwQkvIdeal.Whole.a0 m c) (Cert.AdamwQkvIdeal.Whole.a2 m c), fun c => Cert.AdamwQkvIdeal.Whole.newV (Cert.AdamwQkvIdeal.Whole.a0 m c) (Cert.AdamwQkvIdeal.Whole.a3 m c),
    (θ_run Cert.AdamwQkvIdeal.defs _ _).mono (fun r h c => ⟨(h c).1.trans (Cert.AdamwQkvIdeal.Whole.final0 m c), (h c).2.1.trans (Cert.AdamwQkvIdeal.Whole.final1 m c), (h c).2.2.1.trans (Cert.AdamwQkvIdeal.Whole.final2 m c), (h c).2.2.2.1.trans (Cert.AdamwQkvIdeal.Whole.final3 m c), (h c).2.2.2.2⟩)
      (Cert.AdamwQkvIdeal.Value.run_blocks m ρ), ?_⟩
  refine (θ_run Cert.AdamwQkvReferenceIdeal.defs _ _).mono (fun r h c => ⟨?_, ?_, ?_, ?_, (h c).2.2.2.2⟩)
    (Cert.AdamwQkvReferenceIdeal.Value.run (F := Ideal) m' ρ')
  · refine (h c).1.trans ((Cert.AdamwQkvReferenceIdeal.Read.val_main_v3_eq _).trans (funext fun i => ?_))
    rw [(agree c).1]
    exact Cert.AdamwQkvIdeal.Whole.read0 _ i
  · refine (h c).2.1.trans ((Cert.AdamwQkvReferenceIdeal.Read.val_main_v27_eq _ _ _ _).trans (funext fun i => ?_))
    rw [(agree c).1, (agree c).2.1, (agree c).2.2.1, (agree c).2.2.2]
    exact Cert.AdamwQkvIdeal.Whole.read1 _ _ _ _ i
  · refine (h c).2.2.1.trans ((Cert.AdamwQkvReferenceIdeal.Read.val_main_v8_eq _ _).trans (funext fun i => ?_))
    rw [(agree c).1, (agree c).2.2.1]
    exact Cert.AdamwQkvIdeal.Whole.read2 _ _ i
  · refine (h c).2.2.2.1.trans ((Cert.AdamwQkvReferenceIdeal.Read.val_main_v14_eq _ _).trans (funext fun i => ?_))
    rw [(agree c).1, (agree c).2.2.2]
    exact Cert.AdamwQkvIdeal.Whole.read3 _ _ i

theorem frame_adamwIn : Cert.quiescent_AdamwInReferenceIdeal := fun m ρ _ =>
  (θ_run Cert.AdamwInReferenceIdeal.defs _ _).mono
    (fun r h => ⟨fun c => (h c).2.2.2.2, Idealize.ShloMosaic.sem_eq_zero_of_no_sems (by decide) r.2⟩)
    (Cert.AdamwInReferenceIdeal.Value.run (F := Ideal) m ρ)

/-- The call computes the same for the mixers' input weight. -/
theorem adamwIn : Cert.algebraic_AdamwInIdeal_AdamwInReferenceIdeal := by
  intro m ρ m' ρ' _ agree
  refine ⟨fun c => Cert.AdamwInIdeal.Whole.grad (Cert.AdamwInIdeal.Whole.a0 m c), fun c => Cert.AdamwInIdeal.Whole.delta (Cert.AdamwInIdeal.Whole.a0 m c) (Cert.AdamwInIdeal.Whole.a1 m c) (Cert.AdamwInIdeal.Whole.a2 m c) (Cert.AdamwInIdeal.Whole.a3 m c), fun c => Cert.AdamwInIdeal.Whole.newM (Cert.AdamwInIdeal.Whole.a0 m c) (Cert.AdamwInIdeal.Whole.a2 m c), fun c => Cert.AdamwInIdeal.Whole.newV (Cert.AdamwInIdeal.Whole.a0 m c) (Cert.AdamwInIdeal.Whole.a3 m c),
    (θ_run Cert.AdamwInIdeal.defs _ _).mono (fun r h c => ⟨(h c).1.trans (Cert.AdamwInIdeal.Whole.final0 m c), (h c).2.1.trans (Cert.AdamwInIdeal.Whole.final1 m c), (h c).2.2.1.trans (Cert.AdamwInIdeal.Whole.final2 m c), (h c).2.2.2.1.trans (Cert.AdamwInIdeal.Whole.final3 m c), (h c).2.2.2.2⟩)
      (Cert.AdamwInIdeal.Value.run_blocks m ρ), ?_⟩
  refine (θ_run Cert.AdamwInReferenceIdeal.defs _ _).mono (fun r h c => ⟨?_, ?_, ?_, ?_, (h c).2.2.2.2⟩)
    (Cert.AdamwInReferenceIdeal.Value.run (F := Ideal) m' ρ')
  · refine (h c).1.trans ((Cert.AdamwInReferenceIdeal.Read.val_main_v3_eq _).trans (funext fun i => ?_))
    rw [(agree c).1]
    exact Cert.AdamwInIdeal.Whole.read0 _ i
  · refine (h c).2.1.trans ((Cert.AdamwInReferenceIdeal.Read.val_main_v27_eq _ _ _ _).trans (funext fun i => ?_))
    rw [(agree c).1, (agree c).2.1, (agree c).2.2.1, (agree c).2.2.2]
    exact Cert.AdamwInIdeal.Whole.read1 _ _ _ _ i
  · refine (h c).2.2.1.trans ((Cert.AdamwInReferenceIdeal.Read.val_main_v8_eq _ _).trans (funext fun i => ?_))
    rw [(agree c).1, (agree c).2.2.1]
    exact Cert.AdamwInIdeal.Whole.read2 _ _ i
  · refine (h c).2.2.2.1.trans ((Cert.AdamwInReferenceIdeal.Read.val_main_v14_eq _ _).trans (funext fun i => ?_))
    rw [(agree c).1, (agree c).2.2.2]
    exact Cert.AdamwInIdeal.Whole.read3 _ _ i

theorem frame_adamwOut : Cert.quiescent_AdamwOutReferenceIdeal := fun m ρ _ =>
  (θ_run Cert.AdamwOutReferenceIdeal.defs _ _).mono
    (fun r h => ⟨fun c => (h c).2.2.2.2, Idealize.ShloMosaic.sem_eq_zero_of_no_sems (by decide) r.2⟩)
    (Cert.AdamwOutReferenceIdeal.Value.run (F := Ideal) m ρ)

/-- The call computes the same for an output weight, of the mixers or of attention. -/
theorem adamwOut : Cert.algebraic_AdamwOutIdeal_AdamwOutReferenceIdeal := by
  intro m ρ m' ρ' _ agree
  refine ⟨fun c => Cert.AdamwOutIdeal.Whole.grad (Cert.AdamwOutIdeal.Whole.a0 m c), fun c => Cert.AdamwOutIdeal.Whole.delta (Cert.AdamwOutIdeal.Whole.a0 m c) (Cert.AdamwOutIdeal.Whole.a1 m c) (Cert.AdamwOutIdeal.Whole.a2 m c) (Cert.AdamwOutIdeal.Whole.a3 m c), fun c => Cert.AdamwOutIdeal.Whole.newM (Cert.AdamwOutIdeal.Whole.a0 m c) (Cert.AdamwOutIdeal.Whole.a2 m c), fun c => Cert.AdamwOutIdeal.Whole.newV (Cert.AdamwOutIdeal.Whole.a0 m c) (Cert.AdamwOutIdeal.Whole.a3 m c),
    (θ_run Cert.AdamwOutIdeal.defs _ _).mono (fun r h c => ⟨(h c).1.trans (Cert.AdamwOutIdeal.Whole.final0 m c), (h c).2.1.trans (Cert.AdamwOutIdeal.Whole.final1 m c), (h c).2.2.1.trans (Cert.AdamwOutIdeal.Whole.final2 m c), (h c).2.2.2.1.trans (Cert.AdamwOutIdeal.Whole.final3 m c), (h c).2.2.2.2⟩)
      (Cert.AdamwOutIdeal.Value.run_blocks m ρ), ?_⟩
  refine (θ_run Cert.AdamwOutReferenceIdeal.defs _ _).mono (fun r h c => ⟨?_, ?_, ?_, ?_, (h c).2.2.2.2⟩)
    (Cert.AdamwOutReferenceIdeal.Value.run (F := Ideal) m' ρ')
  · refine (h c).1.trans ((Cert.AdamwOutReferenceIdeal.Read.val_main_v2_eq _).trans (funext fun i => ?_))
    rw [(agree c).1]
    exact Cert.AdamwOutIdeal.Whole.read0 _ i
  · refine (h c).2.1.trans ((Cert.AdamwOutReferenceIdeal.Read.val_main_v26_eq _ _ _ _).trans (funext fun i => ?_))
    rw [(agree c).1, (agree c).2.1, (agree c).2.2.1, (agree c).2.2.2]
    exact Cert.AdamwOutIdeal.Whole.read1 _ _ _ _ i
  · refine (h c).2.2.1.trans ((Cert.AdamwOutReferenceIdeal.Read.val_main_v7_eq _ _).trans (funext fun i => ?_))
    rw [(agree c).1, (agree c).2.2.1]
    exact Cert.AdamwOutIdeal.Whole.read2 _ _ i
  · refine (h c).2.2.2.1.trans ((Cert.AdamwOutReferenceIdeal.Read.val_main_v13_eq _ _).trans (funext fun i => ?_))
    rw [(agree c).1, (agree c).2.2.2]
    exact Cert.AdamwOutIdeal.Whole.read3 _ _ i

theorem frame_adamwSmall : Cert.quiescent_AdamwSmallReferenceIdeal := fun m ρ _ =>
  (θ_run Cert.AdamwSmallReferenceIdeal.defs _ _).mono
    (fun r h => ⟨fun c => (h c).2.2.2.2.2.2.2.2.2.2.2.2.2.2.2.2.2.2.2.2.2.2.2.2.2.2.2, Idealize.ShloMosaic.sem_eq_zero_of_no_sems (by decide) r.2⟩)
    (Cert.AdamwSmallReferenceIdeal.Value.run (F := Ideal) m ρ)

/-- The call computes the optimiser's step for the nine small weights. -/
theorem adamwSmall : Cert.algebraic_AdamwSmallIdeal_AdamwSmallReferenceIdeal := by
  intro m ρ m' ρ' _ agree
  refine ⟨fun c => Cert.AdamwSmallIdeal.Whole.delta (Cert.AdamwSmallIdeal.Whole.a0 m c) (Cert.AdamwSmallIdeal.Whole.a9 m c) (Cert.AdamwSmallIdeal.Whole.a18 m c) (Cert.AdamwSmallIdeal.Whole.a27 m c), fun c => Cert.AdamwSmallIdeal.Whole.delta (Cert.AdamwSmallIdeal.Whole.a1 m c) (Cert.AdamwSmallIdeal.Whole.a10 m c) (Cert.AdamwSmallIdeal.Whole.a19 m c) (Cert.AdamwSmallIdeal.Whole.a28 m c), fun c => Cert.AdamwSmallIdeal.Whole.delta (Cert.AdamwSmallIdeal.Whole.a2 m c) (Cert.AdamwSmallIdeal.Whole.a11 m c) (Cert.AdamwSmallIdeal.Whole.a20 m c) (Cert.AdamwSmallIdeal.Whole.a29 m c), fun c => Cert.AdamwSmallIdeal.Whole.delta (Cert.AdamwSmallIdeal.Whole.a3 m c) (Cert.AdamwSmallIdeal.Whole.a12 m c) (Cert.AdamwSmallIdeal.Whole.a21 m c) (Cert.AdamwSmallIdeal.Whole.a30 m c), fun c => Cert.AdamwSmallIdeal.Whole.delta (Cert.AdamwSmallIdeal.Whole.a4 m c) (Cert.AdamwSmallIdeal.Whole.a13 m c) (Cert.AdamwSmallIdeal.Whole.a22 m c) (Cert.AdamwSmallIdeal.Whole.a31 m c), fun c => Cert.AdamwSmallIdeal.Whole.delta (Cert.AdamwSmallIdeal.Whole.a5 m c) (Cert.AdamwSmallIdeal.Whole.a14 m c) (Cert.AdamwSmallIdeal.Whole.a23 m c) (Cert.AdamwSmallIdeal.Whole.a32 m c), fun c => Cert.AdamwSmallIdeal.Whole.delta (Cert.AdamwSmallIdeal.Whole.a6 m c) (Cert.AdamwSmallIdeal.Whole.a15 m c) (Cert.AdamwSmallIdeal.Whole.a24 m c) (Cert.AdamwSmallIdeal.Whole.a33 m c), fun c => Cert.AdamwSmallIdeal.Whole.delta (Cert.AdamwSmallIdeal.Whole.a7 m c) (Cert.AdamwSmallIdeal.Whole.a16 m c) (Cert.AdamwSmallIdeal.Whole.a25 m c) (Cert.AdamwSmallIdeal.Whole.a34 m c), fun c => Cert.AdamwSmallIdeal.Whole.delta (Cert.AdamwSmallIdeal.Whole.a8 m c) (Cert.AdamwSmallIdeal.Whole.a17 m c) (Cert.AdamwSmallIdeal.Whole.a26 m c) (Cert.AdamwSmallIdeal.Whole.a35 m c), fun c => Cert.AdamwSmallIdeal.Whole.newM (Cert.AdamwSmallIdeal.Whole.a0 m c) (Cert.AdamwSmallIdeal.Whole.a18 m c), fun c => Cert.AdamwSmallIdeal.Whole.newM (Cert.AdamwSmallIdeal.Whole.a1 m c) (Cert.AdamwSmallIdeal.Whole.a19 m c), fun c => Cert.AdamwSmallIdeal.Whole.newM (Cert.AdamwSmallIdeal.Whole.a2 m c) (Cert.AdamwSmallIdeal.Whole.a20 m c), fun c => Cert.AdamwSmallIdeal.Whole.newM (Cert.AdamwSmallIdeal.Whole.a3 m c) (Cert.AdamwSmallIdeal.Whole.a21 m c), fun c => Cert.AdamwSmallIdeal.Whole.newM (Cert.AdamwSmallIdeal.Whole.a4 m c) (Cert.AdamwSmallIdeal.Whole.a22 m c), fun c => Cert.AdamwSmallIdeal.Whole.newM (Cert.AdamwSmallIdeal.Whole.a5 m c) (Cert.AdamwSmallIdeal.Whole.a23 m c), fun c => Cert.AdamwSmallIdeal.Whole.newM (Cert.AdamwSmallIdeal.Whole.a6 m c) (Cert.AdamwSmallIdeal.Whole.a24 m c), fun c => Cert.AdamwSmallIdeal.Whole.newM (Cert.AdamwSmallIdeal.Whole.a7 m c) (Cert.AdamwSmallIdeal.Whole.a25 m c), fun c => Cert.AdamwSmallIdeal.Whole.newM (Cert.AdamwSmallIdeal.Whole.a8 m c) (Cert.AdamwSmallIdeal.Whole.a26 m c), fun c => Cert.AdamwSmallIdeal.Whole.newV (Cert.AdamwSmallIdeal.Whole.a0 m c) (Cert.AdamwSmallIdeal.Whole.a27 m c), fun c => Cert.AdamwSmallIdeal.Whole.newV (Cert.AdamwSmallIdeal.Whole.a1 m c) (Cert.AdamwSmallIdeal.Whole.a28 m c), fun c => Cert.AdamwSmallIdeal.Whole.newV (Cert.AdamwSmallIdeal.Whole.a2 m c) (Cert.AdamwSmallIdeal.Whole.a29 m c), fun c => Cert.AdamwSmallIdeal.Whole.newV (Cert.AdamwSmallIdeal.Whole.a3 m c) (Cert.AdamwSmallIdeal.Whole.a30 m c), fun c => Cert.AdamwSmallIdeal.Whole.newV (Cert.AdamwSmallIdeal.Whole.a4 m c) (Cert.AdamwSmallIdeal.Whole.a31 m c), fun c => Cert.AdamwSmallIdeal.Whole.newV (Cert.AdamwSmallIdeal.Whole.a5 m c) (Cert.AdamwSmallIdeal.Whole.a32 m c), fun c => Cert.AdamwSmallIdeal.Whole.newV (Cert.AdamwSmallIdeal.Whole.a6 m c) (Cert.AdamwSmallIdeal.Whole.a33 m c), fun c => Cert.AdamwSmallIdeal.Whole.newV (Cert.AdamwSmallIdeal.Whole.a7 m c) (Cert.AdamwSmallIdeal.Whole.a34 m c), fun c => Cert.AdamwSmallIdeal.Whole.newV (Cert.AdamwSmallIdeal.Whole.a8 m c) (Cert.AdamwSmallIdeal.Whole.a35 m c),
    Cert.AdamwSmallIdeal.Whole.run m ρ, ?_⟩
  refine (θ_run Cert.AdamwSmallReferenceIdeal.defs _ _).mono (fun r h c => ⟨?_, ?_, ?_, ?_, ?_, ?_, ?_, ?_, ?_, ?_, ?_, ?_, ?_, ?_, ?_, ?_, ?_, ?_, ?_, ?_, ?_, ?_, ?_, ?_, ?_, ?_, ?_, (h c).2.2.2.2.2.2.2.2.2.2.2.2.2.2.2.2.2.2.2.2.2.2.2.2.2.2.2⟩)
    (Cert.AdamwSmallReferenceIdeal.Value.run (F := Ideal) m' ρ')
  · exact (h c).1.trans ((Cert.AdamwSmallReferenceIdeal.Read.val_main_v23_eq _).trans ((Cert.AdamwSmallIdeal.Whole.readD0 _ _ _ _).trans
      (Cert.AdamwSmallIdeal.Whole.delta_congr ((agree c).1) ((agree c).2.2.2.2.2.2.2.2.2.1) ((agree c).2.2.2.2.2.2.2.2.2.2.2.2.2.2.2.2.2.2.1) ((agree c).2.2.2.2.2.2.2.2.2.2.2.2.2.2.2.2.2.2.2.2.2.2.2.2.2.2.2.1))))
  · exact (h c).2.1.trans ((Cert.AdamwSmallReferenceIdeal.Read.val_main_v47_eq _).trans ((Cert.AdamwSmallIdeal.Whole.readD1 _ _ _ _).trans
      (Cert.AdamwSmallIdeal.Whole.delta_congr ((agree c).2.1) ((agree c).2.2.2.2.2.2.2.2.2.2.1) ((agree c).2.2.2.2.2.2.2.2.2.2.2.2.2.2.2.2.2.2.2.1) ((agree c).2.2.2.2.2.2.2.2.2.2.2.2.2.2.2.2.2.2.2.2.2.2.2.2.2.2.2.2.1))))
  · exact (h c).2.2.1.trans ((Cert.AdamwSmallReferenceIdeal.Read.val_main_v71_eq _).trans ((Cert.AdamwSmallIdeal.Whole.readD2 _ _ _ _).trans
      (Cert.AdamwSmallIdeal.Whole.delta_congr ((agree c).2.2.1) ((agree c).2.2.2.2.2.2.2.2.2.2.2.1) ((agree c).2.2.2.2.2.2.2.2.2.2.2.2.2.2.2.2.2.2.2.2.1) ((agree c).2.2.2.2.2.2.2.2.2.2.2.2.2.2.2.2.2.2.2.2.2.2.2.2.2.2.2.2.2.1))))
  · exact (h c).2.2.2.1.trans ((Cert.AdamwSmallReferenceIdeal.Read.val_main_v95_eq _).trans ((Cert.AdamwSmallIdeal.Whole.readD3 _ _ _ _).trans
      (Cert.AdamwSmallIdeal.Whole.delta_congr ((agree c).2.2.2.1) ((agree c).2.2.2.2.2.2.2.2.2.2.2.2.1) ((agree c).2.2.2.2.2.2.2.2.2.2.2.2.2.2.2.2.2.2.2.2.2.1) ((agree c).2.2.2.2.2.2.2.2.2.2.2.2.2.2.2.2.2.2.2.2.2.2.2.2.2.2.2.2.2.2.1))))
  · exact (h c).2.2.2.2.1.trans ((Cert.AdamwSmallReferenceIdeal.Read.val_main_v119_eq _).trans ((Cert.AdamwSmallIdeal.Whole.readD4 _ _ _ _).trans
      (Cert.AdamwSmallIdeal.Whole.delta_congr ((agree c).2.2.2.2.1) ((agree c).2.2.2.2.2.2.2.2.2.2.2.2.2.1) ((agree c).2.2.2.2.2.2.2.2.2.2.2.2.2.2.2.2.2.2.2.2.2.2.1) ((agree c).2.2.2.2.2.2.2.2.2.2.2.2.2.2.2.2.2.2.2.2.2.2.2.2.2.2.2.2.2.2.2.1))))
  · exact (h c).2.2.2.2.2.1.trans ((Cert.AdamwSmallReferenceIdeal.Read.val_main_v143_eq _).trans ((Cert.AdamwSmallIdeal.Whole.readD5 _ _ _ _).trans
      (Cert.AdamwSmallIdeal.Whole.delta_congr ((agree c).2.2.2.2.2.1) ((agree c).2.2.2.2.2.2.2.2.2.2.2.2.2.2.1) ((agree c).2.2.2.2.2.2.2.2.2.2.2.2.2.2.2.2.2.2.2.2.2.2.2.1) ((agree c).2.2.2.2.2.2.2.2.2.2.2.2.2.2.2.2.2.2.2.2.2.2.2.2.2.2.2.2.2.2.2.2.1))))
  · exact (h c).2.2.2.2.2.2.1.trans ((Cert.AdamwSmallReferenceIdeal.Read.val_main_v167_eq _).trans ((Cert.AdamwSmallIdeal.Whole.readD6 _ _ _ _).trans
      (Cert.AdamwSmallIdeal.Whole.delta_congr ((agree c).2.2.2.2.2.2.1) ((agree c).2.2.2.2.2.2.2.2.2.2.2.2.2.2.2.1) ((agree c).2.2.2.2.2.2.2.2.2.2.2.2.2.2.2.2.2.2.2.2.2.2.2.2.1) ((agree c).2.2.2.2.2.2.2.2.2.2.2.2.2.2.2.2.2.2.2.2.2.2.2.2.2.2.2.2.2.2.2.2.2.1))))
  · exact (h c).2.2.2.2.2.2.2.1.trans ((Cert.AdamwSmallReferenceIdeal.Read.val_main_v191_eq _).trans ((Cert.AdamwSmallIdeal.Whole.readD7 _ _ _ _).trans
      (Cert.AdamwSmallIdeal.Whole.delta_congr ((agree c).2.2.2.2.2.2.2.1) ((agree c).2.2.2.2.2.2.2.2.2.2.2.2.2.2.2.2.1) ((agree c).2.2.2.2.2.2.2.2.2.2.2.2.2.2.2.2.2.2.2.2.2.2.2.2.2.1) ((agree c).2.2.2.2.2.2.2.2.2.2.2.2.2.2.2.2.2.2.2.2.2.2.2.2.2.2.2.2.2.2.2.2.2.2.1))))
  · exact (h c).2.2.2.2.2.2.2.2.1.trans ((Cert.AdamwSmallReferenceIdeal.Read.val_main_v215_eq _).trans ((Cert.AdamwSmallIdeal.Whole.readD8 _ _ _ _).trans
      (Cert.AdamwSmallIdeal.Whole.delta_congr ((agree c).2.2.2.2.2.2.2.2.1) ((agree c).2.2.2.2.2.2.2.2.2.2.2.2.2.2.2.2.2.1) ((agree c).2.2.2.2.2.2.2.2.2.2.2.2.2.2.2.2.2.2.2.2.2.2.2.2.2.2.1) ((agree c).2.2.2.2.2.2.2.2.2.2.2.2.2.2.2.2.2.2.2.2.2.2.2.2.2.2.2.2.2.2.2.2.2.2.2))))
  · exact (h c).2.2.2.2.2.2.2.2.2.1.trans ((Cert.AdamwSmallReferenceIdeal.Read.val_main_v4_eq _).trans ((Cert.AdamwSmallIdeal.Whole.readM0 _ _).trans
      (Cert.AdamwSmallIdeal.Whole.newM_congr ((agree c).1) ((agree c).2.2.2.2.2.2.2.2.2.2.2.2.2.2.2.2.2.2.1))))
  · exact (h c).2.2.2.2.2.2.2.2.2.2.1.trans ((Cert.AdamwSmallReferenceIdeal.Read.val_main_v28_eq _).trans ((Cert.AdamwSmallIdeal.Whole.readM1 _ _).trans
      (Cert.AdamwSmallIdeal.Whole.newM_congr ((agree c).2.1) ((agree c).2.2.2.2.2.2.2.2.2.2.2.2.2.2.2.2.2.2.2.1))))
  · exact (h c).2.2.2.2.2.2.2.2.2.2.2.1.trans ((Cert.AdamwSmallReferenceIdeal.Read.val_main_v52_eq _).trans ((Cert.AdamwSmallIdeal.Whole.readM2 _ _).trans
      (Cert.AdamwSmallIdeal.Whole.newM_congr ((agree c).2.2.1) ((agree c).2.2.2.2.2.2.2.2.2.2.2.2.2.2.2.2.2.2.2.2.1))))
  · exact (h c).2.2.2.2.2.2.2.2.2.2.2.2.1.trans ((Cert.AdamwSmallReferenceIdeal.Read.val_main_v76_eq _).trans ((Cert.AdamwSmallIdeal.Whole.readM3 _ _).trans
      (Cert.AdamwSmallIdeal.Whole.newM_congr ((agree c).2.2.2.1) ((agree c).2.2.2.2.2.2.2.2.2.2.2.2.2.2.2.2.2.2.2.2.2.1))))
  · exact (h c).2.2.2.2.2.2.2.2.2.2.2.2.2.1.trans ((Cert.AdamwSmallReferenceIdeal.Read.val_main_v100_eq _).trans ((Cert.AdamwSmallIdeal.Whole.readM4 _ _).trans
      (Cert.AdamwSmallIdeal.Whole.newM_congr ((agree c).2.2.2.2.1) ((agree c).2.2.2.2.2.2.2.2.2.2.2.2.2.2.2.2.2.2.2.2.2.2.1))))
  · exact (h c).2.2.2.2.2.2.2.2.2.2.2.2.2.2.1.trans ((Cert.AdamwSmallReferenceIdeal.Read.val_main_v124_eq _).trans ((Cert.AdamwSmallIdeal.Whole.readM5 _ _).trans
      (Cert.AdamwSmallIdeal.Whole.newM_congr ((agree c).2.2.2.2.2.1) ((agree c).2.2.2.2.2.2.2.2.2.2.2.2.2.2.2.2.2.2.2.2.2.2.2.1))))
  · exact (h c).2.2.2.2.2.2.2.2.2.2.2.2.2.2.2.1.trans ((Cert.AdamwSmallReferenceIdeal.Read.val_main_v148_eq _).trans ((Cert.AdamwSmallIdeal.Whole.readM6 _ _).trans
      (Cert.AdamwSmallIdeal.Whole.newM_congr ((agree c).2.2.2.2.2.2.1) ((agree c).2.2.2.2.2.2.2.2.2.2.2.2.2.2.2.2.2.2.2.2.2.2.2.2.1))))
  · exact (h c).2.2.2.2.2.2.2.2.2.2.2.2.2.2.2.2.1.trans ((Cert.AdamwSmallReferenceIdeal.Read.val_main_v172_eq _).trans ((Cert.AdamwSmallIdeal.Whole.readM7 _ _).trans
      (Cert.AdamwSmallIdeal.Whole.newM_congr ((agree c).2.2.2.2.2.2.2.1) ((agree c).2.2.2.2.2.2.2.2.2.2.2.2.2.2.2.2.2.2.2.2.2.2.2.2.2.1))))
  · exact (h c).2.2.2.2.2.2.2.2.2.2.2.2.2.2.2.2.2.1.trans ((Cert.AdamwSmallReferenceIdeal.Read.val_main_v196_eq _).trans ((Cert.AdamwSmallIdeal.Whole.readM8 _ _).trans
      (Cert.AdamwSmallIdeal.Whole.newM_congr ((agree c).2.2.2.2.2.2.2.2.1) ((agree c).2.2.2.2.2.2.2.2.2.2.2.2.2.2.2.2.2.2.2.2.2.2.2.2.2.2.1))))
  · exact (h c).2.2.2.2.2.2.2.2.2.2.2.2.2.2.2.2.2.2.1.trans ((Cert.AdamwSmallReferenceIdeal.Read.val_main_v10_eq _).trans ((Cert.AdamwSmallIdeal.Whole.readV0 _ _).trans
      (Cert.AdamwSmallIdeal.Whole.newV_congr ((agree c).1) ((agree c).2.2.2.2.2.2.2.2.2.2.2.2.2.2.2.2.2.2.2.2.2.2.2.2.2.2.2.1))))
  · exact (h c).2.2.2.2.2.2.2.2.2.2.2.2.2.2.2.2.2.2.2.1.trans ((Cert.AdamwSmallReferenceIdeal.Read.val_main_v34_eq _).trans ((Cert.AdamwSmallIdeal.Whole.readV1 _ _).trans
      (Cert.AdamwSmallIdeal.Whole.newV_congr ((agree c).2.1) ((agree c).2.2.2.2.2.2.2.2.2.2.2.2.2.2.2.2.2.2.2.2.2.2.2.2.2.2.2.2.1))))
  · exact (h c).2.2.2.2.2.2.2.2.2.2.2.2.2.2.2.2.2.2.2.2.1.trans ((Cert.AdamwSmallReferenceIdeal.Read.val_main_v58_eq _).trans ((Cert.AdamwSmallIdeal.Whole.readV2 _ _).trans
      (Cert.AdamwSmallIdeal.Whole.newV_congr ((agree c).2.2.1) ((agree c).2.2.2.2.2.2.2.2.2.2.2.2.2.2.2.2.2.2.2.2.2.2.2.2.2.2.2.2.2.1))))
  · exact (h c).2.2.2.2.2.2.2.2.2.2.2.2.2.2.2.2.2.2.2.2.2.1.trans ((Cert.AdamwSmallReferenceIdeal.Read.val_main_v82_eq _).trans ((Cert.AdamwSmallIdeal.Whole.readV3 _ _).trans
      (Cert.AdamwSmallIdeal.Whole.newV_congr ((agree c).2.2.2.1) ((agree c).2.2.2.2.2.2.2.2.2.2.2.2.2.2.2.2.2.2.2.2.2.2.2.2.2.2.2.2.2.2.1))))
  · exact (h c).2.2.2.2.2.2.2.2.2.2.2.2.2.2.2.2.2.2.2.2.2.2.1.trans ((Cert.AdamwSmallReferenceIdeal.Read.val_main_v106_eq _).trans ((Cert.AdamwSmallIdeal.Whole.readV4 _ _).trans
      (Cert.AdamwSmallIdeal.Whole.newV_congr ((agree c).2.2.2.2.1) ((agree c).2.2.2.2.2.2.2.2.2.2.2.2.2.2.2.2.2.2.2.2.2.2.2.2.2.2.2.2.2.2.2.1))))
  · exact (h c).2.2.2.2.2.2.2.2.2.2.2.2.2.2.2.2.2.2.2.2.2.2.2.1.trans ((Cert.AdamwSmallReferenceIdeal.Read.val_main_v130_eq _).trans ((Cert.AdamwSmallIdeal.Whole.readV5 _ _).trans
      (Cert.AdamwSmallIdeal.Whole.newV_congr ((agree c).2.2.2.2.2.1) ((agree c).2.2.2.2.2.2.2.2.2.2.2.2.2.2.2.2.2.2.2.2.2.2.2.2.2.2.2.2.2.2.2.2.1))))
  · exact (h c).2.2.2.2.2.2.2.2.2.2.2.2.2.2.2.2.2.2.2.2.2.2.2.2.1.trans ((Cert.AdamwSmallReferenceIdeal.Read.val_main_v154_eq _).trans ((Cert.AdamwSmallIdeal.Whole.readV6 _ _).trans
      (Cert.AdamwSmallIdeal.Whole.newV_congr ((agree c).2.2.2.2.2.2.1) ((agree c).2.2.2.2.2.2.2.2.2.2.2.2.2.2.2.2.2.2.2.2.2.2.2.2.2.2.2.2.2.2.2.2.2.1))))
  · exact (h c).2.2.2.2.2.2.2.2.2.2.2.2.2.2.2.2.2.2.2.2.2.2.2.2.2.1.trans ((Cert.AdamwSmallReferenceIdeal.Read.val_main_v178_eq _).trans ((Cert.AdamwSmallIdeal.Whole.readV7 _ _).trans
      (Cert.AdamwSmallIdeal.Whole.newV_congr ((agree c).2.2.2.2.2.2.2.1) ((agree c).2.2.2.2.2.2.2.2.2.2.2.2.2.2.2.2.2.2.2.2.2.2.2.2.2.2.2.2.2.2.2.2.2.2.1))))
  · exact (h c).2.2.2.2.2.2.2.2.2.2.2.2.2.2.2.2.2.2.2.2.2.2.2.2.2.2.1.trans ((Cert.AdamwSmallReferenceIdeal.Read.val_main_v202_eq _).trans ((Cert.AdamwSmallIdeal.Whole.readV8 _ _).trans
      (Cert.AdamwSmallIdeal.Whole.newV_congr ((agree c).2.2.2.2.2.2.2.2.1) ((agree c).2.2.2.2.2.2.2.2.2.2.2.2.2.2.2.2.2.2.2.2.2.2.2.2.2.2.2.2.2.2.2.2.2.2.2))))

theorem frame_sumSmall : Cert.quiescent_SumSmallReferenceIdeal := fun m ρ _ =>
  (θ_run Cert.SumSmallReferenceIdeal.defs _ _).mono
    (fun r h => ⟨fun c => (h c).2.2.2.2.2.2.2.2.2.2, Idealize.ShloMosaic.sem_eq_zero_of_no_sems (by decide) r.2⟩)
    (Cert.SumSmallReferenceIdeal.Value.run (F := Ideal) m ρ)

/-- The call computes the sums of the small gradients over the devices, and the loss. -/
theorem sumSmall : Cert.algebraic_SumSmallIdeal_SumSmallReferenceIdeal := by
  intro m ρ m' ρ' _ agree
  refine ⟨fun c => Cert.SumSmallIdeal.Whole.loss (Cert.SumSmallIdeal.Whole.a9 m c), fun c => Cert.SumSmallIdeal.Whole.sum_2x4x2048 (Cert.SumSmallIdeal.Whole.a0 m c), fun c => Cert.SumSmallIdeal.Whole.sum_3x1024 (Cert.SumSmallIdeal.Whole.a1 m c), fun c => Cert.SumSmallIdeal.Whole.sum_4x1024 (Cert.SumSmallIdeal.Whole.a2 m c), fun c => Cert.SumSmallIdeal.Whole.sum_1x1024 (Cert.SumSmallIdeal.Whole.a3 m c), fun c => Cert.SumSmallIdeal.Whole.sum_16x64x64 (Cert.SumSmallIdeal.Whole.a4 m c), fun c => Cert.SumSmallIdeal.Whole.sum_1x1024 (Cert.SumSmallIdeal.Whole.a5 m c), fun c => Cert.SumSmallIdeal.Whole.sum_16x64x64 (Cert.SumSmallIdeal.Whole.a6 m c), fun c => Cert.SumSmallIdeal.Whole.sum_1x1024 (Cert.SumSmallIdeal.Whole.a7 m c), fun c => Cert.SumSmallIdeal.Whole.sum_1x1024 (Cert.SumSmallIdeal.Whole.a8 m c),
    Cert.SumSmallIdeal.Whole.run m ρ, ?_⟩
  refine (θ_run Cert.SumSmallReferenceIdeal.defs _ _).mono (fun r h c => ⟨?_, ?_, ?_, ?_, ?_, ?_, ?_, ?_, ?_, ?_, (h c).2.2.2.2.2.2.2.2.2.2⟩)
    (Cert.SumSmallReferenceIdeal.Value.run (F := Ideal) m' ρ')
  · refine (h c).1.trans ((Cert.SumSmallReferenceIdeal.Read.val_main_v15_eq _).trans (funext fun i => ?_))
    rw [(agree c).2.2.2.2.2.2.2.2.2]
    exact Cert.SumSmallIdeal.Whole.read9 _ i
  · refine (h c).2.1.trans ((Cert.SumSmallReferenceIdeal.Read.val_main_v0_eq _).trans (funext fun i => ?_))
    rw [(agree c).1]
    exact Cert.SumSmallIdeal.Whole.read0 _ i
  · refine (h c).2.2.1.trans ((Cert.SumSmallReferenceIdeal.Read.val_main_v9_eq _).trans (funext fun i => ?_))
    rw [(agree c).2.1]
    exact Cert.SumSmallIdeal.Whole.read1 _ i
  · refine (h c).2.2.2.1.trans ((Cert.SumSmallReferenceIdeal.Read.val_main_v10_eq _).trans (funext fun i => ?_))
    rw [(agree c).2.2.1]
    exact Cert.SumSmallIdeal.Whole.read2 _ i
  · refine (h c).2.2.2.2.1.trans ((Cert.SumSmallReferenceIdeal.Read.val_main_v3_eq _).trans (funext fun i => ?_))
    rw [(agree c).2.2.2.1]
    exact Cert.SumSmallIdeal.Whole.read3 _ i
  · refine (h c).2.2.2.2.2.1.trans ((Cert.SumSmallReferenceIdeal.Read.val_main_v11_eq _).trans (funext fun i => ?_))
    rw [(agree c).2.2.2.2.1]
    exact Cert.SumSmallIdeal.Whole.read4 _ i
  · refine (h c).2.2.2.2.2.2.1.trans ((Cert.SumSmallReferenceIdeal.Read.val_main_v5_eq _).trans (funext fun i => ?_))
    rw [(agree c).2.2.2.2.2.1]
    exact Cert.SumSmallIdeal.Whole.read5 _ i
  · refine (h c).2.2.2.2.2.2.2.1.trans ((Cert.SumSmallReferenceIdeal.Read.val_main_v12_eq _).trans (funext fun i => ?_))
    rw [(agree c).2.2.2.2.2.2.1]
    exact Cert.SumSmallIdeal.Whole.read6 _ i
  · refine (h c).2.2.2.2.2.2.2.2.1.trans ((Cert.SumSmallReferenceIdeal.Read.val_main_v7_eq _).trans (funext fun i => ?_))
    rw [(agree c).2.2.2.2.2.2.2.1]
    exact Cert.SumSmallIdeal.Whole.read7 _ i
  · refine (h c).2.2.2.2.2.2.2.2.2.1.trans ((Cert.SumSmallReferenceIdeal.Read.val_main_v8_eq _).trans (funext fun i => ?_))
    rw [(agree c).2.2.2.2.2.2.2.2.1]
    exact Cert.SumSmallIdeal.Whole.read8 _ i

theorem frame_normBwd : Cert.quiescent_NormBwdReferenceIdeal := fun m ρ _ =>
  (θ_run Cert.NormBwdReferenceIdeal.defs _ _).mono
    (fun r h => ⟨fun c => (h c).2.2, Idealize.ShloMosaic.sem_eq_zero_of_no_sems (by decide) r.2⟩)
    (Cert.NormBwdReferenceIdeal.Value.run (F := Ideal) m ρ)

/-- The call computes the gradient of the normalisation that feeds a layer, added to the gradient that passes by it, and the gradient of the gains. -/
theorem normBwd : Cert.algebraic_NormBwdIdeal_NormBwdReferenceIdeal := by
  intro m ρ m' ρ' _ agree
  refine ⟨fun c => Cert.NormBwdIdeal.Whole.dx (Cert.NormBwdIdeal.Whole.a0 m c) (Cert.NormBwdIdeal.Whole.a1 m c) (Cert.NormBwdIdeal.Whole.a2 m c) (Cert.NormBwdIdeal.Whole.a3 m c), fun c => Cert.NormBwdIdeal.Whole.dg (Cert.NormBwdIdeal.Whole.a0 m c) (Cert.NormBwdIdeal.Whole.a2 m c),
    (θ_run Cert.NormBwdIdeal.defs _ _).mono (fun r h c => ⟨(h c).1.trans (Cert.NormBwdIdeal.Whole.final0 m c), (h c).2.1.trans (Cert.NormBwdIdeal.Whole.final1 m c), (h c).2.2⟩)
      (Cert.NormBwdIdeal.Value.run_blocks m ρ), ?_⟩
  refine (θ_run Cert.NormBwdReferenceIdeal.defs _ _).mono (fun r h c => ⟨?_, ?_, (h c).2.2⟩)
    (Cert.NormBwdReferenceIdeal.Value.run (F := Ideal) m' ρ')
  · refine (h c).1.trans ((Cert.NormBwdReferenceIdeal.Read.val_main_v38_eq _ _).trans (funext fun i => ?_))
    rw [(agree c).1, (agree c).2.1, (agree c).2.2.1, (agree c).2.2.2]
    exact Cert.NormBwdIdeal.Whole.read0 _ _ _ _ i
  · refine (h c).2.1.trans ((Cert.NormBwdReferenceIdeal.Read.val_main_v39_eq _ _).trans (funext fun i => ?_))
    rw [(agree c).1, (agree c).2.2.1]
    exact Cert.NormBwdIdeal.Whole.read1 _ _ i

theorem frame_normBwdPair : Cert.quiescent_NormBwdPairReferenceIdeal := fun m ρ _ =>
  (θ_run Cert.NormBwdPairReferenceIdeal.defs _ _).mono
    (fun r h => ⟨fun c => (h c).2.2.2.2, Idealize.ShloMosaic.sem_eq_zero_of_no_sems (by decide) r.2⟩)
    (Cert.NormBwdPairReferenceIdeal.Value.run (F := Ideal) m ρ)

/-- The call computes the gradients of the two normalisations around a branch. -/
theorem normBwdPair : Cert.algebraic_NormBwdPairIdeal_NormBwdPairReferenceIdeal := by
  intro m ρ m' ρ' _ agree
  refine ⟨fun c => Cert.NormBwdIdeal.Whole.dx (Cert.NormBwdPairIdeal.Whole.a0 m c) (Cert.NormBwdPairIdeal.Whole.a1 m c) (Cert.NormBwdPairIdeal.Whole.a2 m c) (Cert.NormBwdPairIdeal.Whole.a3 m c), fun c => Cert.NormBwdPairIdeal.Whole.dbr (Cert.NormBwdPairIdeal.Whole.a0 m c) (Cert.NormBwdPairIdeal.Whole.a1 m c) (Cert.NormBwdPairIdeal.Whole.a2 m c) (Cert.NormBwdPairIdeal.Whole.a3 m c) (Cert.NormBwdPairIdeal.Whole.a4 m c) (Cert.NormBwdPairIdeal.Whole.a5 m c), fun c => Cert.NormBwdIdeal.Whole.dg (Cert.NormBwdPairIdeal.Whole.a0 m c) (Cert.NormBwdPairIdeal.Whole.a2 m c), fun c => Cert.NormBwdPairIdeal.Whole.dpost (Cert.NormBwdPairIdeal.Whole.a0 m c) (Cert.NormBwdPairIdeal.Whole.a1 m c) (Cert.NormBwdPairIdeal.Whole.a2 m c) (Cert.NormBwdPairIdeal.Whole.a3 m c) (Cert.NormBwdPairIdeal.Whole.a4 m c),
    (θ_run Cert.NormBwdPairIdeal.defs _ _).mono (fun r h c => ⟨(h c).1.trans (Cert.NormBwdPairIdeal.Whole.final0 m c), (h c).2.1.trans (Cert.NormBwdPairIdeal.Whole.final1 m c), (h c).2.2.1.trans (Cert.NormBwdPairIdeal.Whole.final2 m c), (h c).2.2.2.1.trans (Cert.NormBwdPairIdeal.Whole.final3 m c), (h c).2.2.2.2⟩)
      (Cert.NormBwdPairIdeal.Value.run_blocks m ρ), ?_⟩
  refine (θ_run Cert.NormBwdPairReferenceIdeal.defs _ _).mono (fun r h c => ⟨?_, ?_, ?_, ?_, (h c).2.2.2.2⟩)
    (Cert.NormBwdPairReferenceIdeal.Value.run (F := Ideal) m' ρ')
  · refine (h c).1.trans ((Cert.NormBwdPairReferenceIdeal.Read.val_main_v38_eq _ _).trans (funext fun i => ?_))
    rw [(agree c).1, (agree c).2.1, (agree c).2.2.1, (agree c).2.2.2.1]
    exact Cert.NormBwdPairIdeal.Whole.read0 _ _ _ _ i
  · refine (h c).2.1.trans ((Cert.NormBwdPairReferenceIdeal.Read.val_main_v77_eq _ _).trans (funext fun i => ?_))
    rw [(agree c).1, (agree c).2.1, (agree c).2.2.1, (agree c).2.2.2.1, (agree c).2.2.2.2.1, (agree c).2.2.2.2.2]
    exact Cert.NormBwdPairIdeal.Whole.read1 _ _ _ _ _ _ i
  · refine (h c).2.2.1.trans ((Cert.NormBwdPairReferenceIdeal.Read.val_main_v78_eq _ _).trans (funext fun i => ?_))
    rw [(agree c).1, (agree c).2.2.1]
    exact Cert.NormBwdPairIdeal.Whole.read2 _ _ i
  · refine (h c).2.2.2.1.trans ((Cert.NormBwdPairReferenceIdeal.Read.val_main_v79_eq _ _).trans (funext fun i => ?_))
    rw [(agree c).1, (agree c).2.1, (agree c).2.2.1, (agree c).2.2.2.1, (agree c).2.2.2.2.1]
    exact Cert.NormBwdPairIdeal.Whole.read3 _ _ _ _ _ i

theorem frame_normIn : Cert.quiescent_NormInReferenceIdeal := fun m ρ _ =>
  (θ_run Cert.NormInReferenceIdeal.defs _ _).mono
    (fun r h => ⟨fun c => (h c).2, Idealize.ShloMosaic.sem_eq_zero_of_no_sems (by decide) r.2⟩)
    (Cert.NormInReferenceIdeal.Value.run (F := Ideal) m ρ)

/-- The call computes the first normalisation. -/
theorem normIn : Cert.algebraic_NormInIdeal_NormInReferenceIdeal := by
  intro m ρ m' ρ' _ agree
  refine ⟨fun c => Cert.NormInIdeal.Whole.normed (Cert.NormInIdeal.Whole.a0 m c) (Cert.NormInIdeal.Whole.a1 m c),
    (θ_run Cert.NormInIdeal.defs _ _).mono (fun r h c => ⟨(h c).1.trans (Cert.NormInIdeal.Whole.final m c), (h c).2⟩)
      (Cert.NormInIdeal.Value.run_blocks m ρ), ?_⟩
  refine (θ_run Cert.NormInReferenceIdeal.defs _ _).mono (fun r h c => ⟨?_, (h c).2⟩)
    (Cert.NormInReferenceIdeal.Value.run (F := Ideal) m' ρ')
  · refine (h c).1.trans ((Cert.NormInReferenceIdeal.Read.val_main_v14_eq _ _).trans (funext fun i => ?_))
    rw [(agree c).1, (agree c).2]
    exact Cert.NormInIdeal.Whole.read _ _ i

theorem frame_residNorm : Cert.quiescent_ResidNormReferenceIdeal := fun m ρ _ =>
  (θ_run Cert.ResidNormReferenceIdeal.defs _ _).mono
    (fun r h => ⟨fun c => (h c).2.2, Idealize.ShloMosaic.sem_eq_zero_of_no_sems (by decide) r.2⟩)
    (Cert.ResidNormReferenceIdeal.Value.run (F := Ideal) m ρ)

/-- The call computes the residual sum and the normalisation that feeds the next layer. -/
theorem residNorm : Cert.algebraic_ResidNormIdeal_ResidNormReferenceIdeal := by
  intro m ρ m' ρ' _ agree
  refine ⟨fun c => Cert.ResidNormIdeal.Whole.plus (Cert.ResidNormIdeal.Whole.a0 m c) (Cert.ResidNormIdeal.Whole.a1 m c) (Cert.ResidNormIdeal.Whole.a2 m c), fun c => Cert.ResidNormIdeal.Whole.next (Cert.ResidNormIdeal.Whole.a0 m c) (Cert.ResidNormIdeal.Whole.a1 m c) (Cert.ResidNormIdeal.Whole.a2 m c) (Cert.ResidNormIdeal.Whole.a3 m c),
    (θ_run Cert.ResidNormIdeal.defs _ _).mono (fun r h c => ⟨(h c).1.trans (Cert.ResidNormIdeal.Whole.final0 m c), (h c).2.1.trans (Cert.ResidNormIdeal.Whole.final1 m c), (h c).2.2⟩)
      (Cert.ResidNormIdeal.Value.run_blocks m ρ), ?_⟩
  refine (θ_run Cert.ResidNormReferenceIdeal.defs _ _).mono (fun r h c => ⟨?_, ?_, (h c).2.2⟩)
    (Cert.ResidNormReferenceIdeal.Value.run (F := Ideal) m' ρ')
  · refine (h c).1.trans ((Cert.ResidNormReferenceIdeal.Read.val_main_v15_eq _ _ _).trans (funext fun i => ?_))
    rw [(agree c).1, (agree c).2.1, (agree c).2.2.1]
    exact Cert.ResidNormIdeal.Whole.read0 _ _ _ i
  · refine (h c).2.1.trans ((Cert.ResidNormReferenceIdeal.Read.val_main_v30_eq _ _ _ _).trans (funext fun i => ?_))
    rw [(agree c).1, (agree c).2.1, (agree c).2.2.1, (agree c).2.2.2]
    exact Cert.ResidNormIdeal.Whole.read1 _ _ _ _ i

theorem frame_finalLoss : Cert.quiescent_FinalLossReferenceIdeal := fun m ρ _ =>
  (θ_run Cert.FinalLossReferenceIdeal.defs _ _).mono
    (fun r h => ⟨fun c => (h c).2.2.2.2, Idealize.ShloMosaic.sem_eq_zero_of_no_sems (by decide) r.2⟩)
    (Cert.FinalLossReferenceIdeal.Value.run (F := Ideal) m ρ)

/-- The call computes the gradients of the squared error through the last two norms, those of their gains, and the sum of squared errors. -/
theorem finalLoss : Cert.algebraic_FinalLossIdeal_FinalLossReferenceIdeal := by
  intro m ρ m' ρ' _ agree
  refine ⟨fun c => Cert.FinalLossIdeal.Whole.dy (Cert.FinalLossIdeal.Whole.a0 m c) (Cert.FinalLossIdeal.Whole.a1 m c) (Cert.FinalLossIdeal.Whole.a2 m c) (Cert.FinalLossIdeal.Whole.a3 m c), fun c => Cert.FinalLossIdeal.Whole.dbr (Cert.FinalLossIdeal.Whole.a0 m c) (Cert.FinalLossIdeal.Whole.a1 m c) (Cert.FinalLossIdeal.Whole.a2 m c) (Cert.FinalLossIdeal.Whole.a3 m c), fun c => Cert.FinalLossIdeal.Whole.dgain (Cert.FinalLossIdeal.Whole.a0 m c) (Cert.FinalLossIdeal.Whole.a1 m c) (Cert.FinalLossIdeal.Whole.a2 m c) (Cert.FinalLossIdeal.Whole.a3 m c), fun c => Cert.FinalLossIdeal.Whole.total (Cert.FinalLossIdeal.Whole.a0 m c) (Cert.FinalLossIdeal.Whole.a1 m c) (Cert.FinalLossIdeal.Whole.a2 m c) (Cert.FinalLossIdeal.Whole.a3 m c),
    Cert.FinalLossIdeal.Whole.run m ρ, ?_⟩
  refine (θ_run Cert.FinalLossReferenceIdeal.defs _ _).mono (fun r h c => ⟨?_, ?_, ?_, ?_, (h c).2.2.2.2⟩)
    (Cert.FinalLossReferenceIdeal.Value.run (F := Ideal) m' ρ')
  · refine (h c).1.trans ((Cert.FinalLossReferenceIdeal.Read.val_main_v33_eq _ _ _ _).trans (funext fun i => ?_))
    rw [(agree c).1, (agree c).2.1, (agree c).2.2.1, (agree c).2.2.2]
    exact Cert.FinalLossIdeal.Whole.read0 _ _ _ _ i
  · refine (h c).2.1.trans ((Cert.FinalLossReferenceIdeal.Read.val_main_v54_eq _ _).trans (funext fun i => ?_))
    rw [(agree c).1, (agree c).2.1, (agree c).2.2.1, (agree c).2.2.2]
    exact Cert.FinalLossIdeal.Whole.read1 _ _ _ _ i
  · refine (h c).2.2.1.trans ((Cert.FinalLossReferenceIdeal.Read.val_main_v55_eq _ _ _ _).trans (funext fun i => ?_))
    rw [(agree c).1, (agree c).2.1, (agree c).2.2.1, (agree c).2.2.2]
    exact Cert.FinalLossIdeal.Whole.read2 _ _ _ _ i
  · refine (h c).2.2.2.1.trans ((Cert.FinalLossReferenceIdeal.Read.val_main_v73_eq _ _ _ _).trans (funext fun i => ?_))
    rw [(agree c).1, (agree c).2.1, (agree c).2.2.1, (agree c).2.2.2]
    exact Cert.FinalLossIdeal.Whole.read3 _ _ _ _ i

theorem frame_mixerA : Cert.quiescent_MixerAReferenceIdeal := fun m ρ _ =>
  (θ_run Cert.MixerAReferenceIdeal.defs _ _).mono
    (fun r h => ⟨fun c => (h c).2, Idealize.ShloMosaic.sem_eq_zero_of_no_sems (by decide) r.2⟩)
    (Cert.MixerAReferenceIdeal.Value.run (F := Ideal) m ρ)

/-- The call computes the short gated convolution. -/
theorem mixerA : Cert.algebraic_MixerAIdeal_MixerAReferenceIdeal := by
  intro m ρ m' ρ' _ agree
  refine ⟨fun c => Cert.MixerAIdeal.Whole.mixed (Cert.MixerAIdeal.Whole.a0 m c) (Cert.MixerAIdeal.Whole.a1 m c),
    Cert.MixerAIdeal.Whole.run m ρ, ?_⟩
  refine (θ_run Cert.MixerAReferenceIdeal.defs _ _).mono (fun r h c => ⟨?_, (h c).2⟩)
    (Cert.MixerAReferenceIdeal.Value.run (F := Ideal) m' ρ')
  · refine (h c).1.trans ((Cert.MixerAReferenceIdeal.Read.val_main_v27_eq _ _).trans (funext fun i => ?_))
    rw [(agree c).1, (agree c).2]
    exact Cert.MixerAReferenceIdeal.Whole.read _ _ i

theorem claim : Cert.Claim :=
  ⟨Cert.Kernel.Gen.facts, Cert.KernelIdeal.Gen.facts, Cert.ReferenceIdeal.Gen.facts,
    Cert.MlpUp.Gen.facts, Cert.MlpUpIdeal.Gen.facts, Cert.MlpUpReferenceIdeal.Gen.facts,
    Cert.MlpDown.Gen.facts, Cert.MlpDownIdeal.Gen.facts, Cert.MlpDownReferenceIdeal.Gen.facts,
    Cert.MlpDownDw.Gen.facts, Cert.MlpDownDwIdeal.Gen.facts, Cert.MlpDownDwReferenceIdeal.Gen.facts,
    Cert.MlpDownDx.Gen.facts, Cert.MlpDownDxIdeal.Gen.facts, Cert.MlpDownDxReferenceIdeal.Gen.facts,
    Cert.MlpUpDw.Gen.facts, Cert.MlpUpDwIdeal.Gen.facts, Cert.MlpUpDwReferenceIdeal.Gen.facts,
    Cert.MlpUpDx.Gen.facts, Cert.MlpUpDxIdeal.Gen.facts, Cert.MlpUpDxReferenceIdeal.Gen.facts,
    Cert.InProj.Gen.facts, Cert.InProjIdeal.Gen.facts, Cert.InProjReferenceIdeal.Gen.facts,
    Cert.InProjDw.Gen.facts, Cert.InProjDwIdeal.Gen.facts, Cert.InProjDwReferenceIdeal.Gen.facts,
    Cert.InProjDx.Gen.facts, Cert.InProjDxIdeal.Gen.facts, Cert.InProjDxReferenceIdeal.Gen.facts,
    Cert.OutProj.Gen.facts, Cert.OutProjIdeal.Gen.facts, Cert.OutProjReferenceIdeal.Gen.facts,
    Cert.OutProjDw.Gen.facts, Cert.OutProjDwIdeal.Gen.facts, Cert.OutProjDwReferenceIdeal.Gen.facts,
    Cert.OutProjDx.Gen.facts, Cert.OutProjDxIdeal.Gen.facts, Cert.OutProjDxReferenceIdeal.Gen.facts,
    Cert.Qkv.Gen.facts, Cert.QkvIdeal.Gen.facts, Cert.QkvReferenceIdeal.Gen.facts,
    Cert.QkvDw.Gen.facts, Cert.QkvDwIdeal.Gen.facts, Cert.QkvDwReferenceIdeal.Gen.facts,
    Cert.QkvDx.Gen.facts, Cert.QkvDxIdeal.Gen.facts, Cert.QkvDxReferenceIdeal.Gen.facts,
    Cert.AttnOut.Gen.facts, Cert.AttnOutIdeal.Gen.facts, Cert.AttnOutReferenceIdeal.Gen.facts,
    Cert.AttnOutDw.Gen.facts, Cert.AttnOutDwIdeal.Gen.facts, Cert.AttnOutDwReferenceIdeal.Gen.facts,
    Cert.AttnOutDx.Gen.facts, Cert.AttnOutDxIdeal.Gen.facts, Cert.AttnOutDxReferenceIdeal.Gen.facts,
    Cert.AdamwDown.Gen.facts, Cert.AdamwDownIdeal.Gen.facts, Cert.AdamwDownReferenceIdeal.Gen.facts,
    Cert.AdamwUp.Gen.facts, Cert.AdamwUpIdeal.Gen.facts, Cert.AdamwUpReferenceIdeal.Gen.facts,
    Cert.AdamwQkv.Gen.facts, Cert.AdamwQkvIdeal.Gen.facts, Cert.AdamwQkvReferenceIdeal.Gen.facts,
    Cert.AdamwIn.Gen.facts, Cert.AdamwInIdeal.Gen.facts, Cert.AdamwInReferenceIdeal.Gen.facts,
    Cert.AdamwOut.Gen.facts, Cert.AdamwOutIdeal.Gen.facts, Cert.AdamwOutReferenceIdeal.Gen.facts,
    Cert.AdamwSmall.Gen.facts, Cert.AdamwSmallIdeal.Gen.facts, Cert.AdamwSmallReferenceIdeal.Gen.facts,
    Cert.SumSmall.Gen.facts, Cert.SumSmallIdeal.Gen.facts, Cert.SumSmallReferenceIdeal.Gen.facts,
    Cert.NormBwd.Gen.facts, Cert.NormBwdIdeal.Gen.facts, Cert.NormBwdReferenceIdeal.Gen.facts,
    Cert.NormBwdPair.Gen.facts, Cert.NormBwdPairIdeal.Gen.facts, Cert.NormBwdPairReferenceIdeal.Gen.facts,
    Cert.NormIn.Gen.facts, Cert.NormInIdeal.Gen.facts, Cert.NormInReferenceIdeal.Gen.facts,
    Cert.ResidNorm.Gen.facts, Cert.ResidNormIdeal.Gen.facts, Cert.ResidNormReferenceIdeal.Gen.facts,
    Cert.FinalLoss.Gen.facts, Cert.FinalLossIdeal.Gen.facts, Cert.FinalLossReferenceIdeal.Gen.facts,
    Cert.MixerA.Gen.facts, Cert.MixerAIdeal.Gen.facts, Cert.MixerAReferenceIdeal.Gen.facts,
    fun m ρ _ => Cert.Kernel.Gen.frame m ρ, fun m ρ _ => Cert.KernelIdeal.Gen.frame m ρ, frame_reference,
    fun m ρ _ => Cert.MlpUp.Gen.frame m ρ, fun m ρ _ => Cert.MlpUpIdeal.Gen.frame m ρ, frame_mlpUp,
    fun m ρ _ => Cert.MlpDown.Gen.frame m ρ, fun m ρ _ => Cert.MlpDownIdeal.Gen.frame m ρ, frame_mlpDown,
    fun m ρ _ => Cert.MlpDownDw.Gen.frame m ρ, fun m ρ _ => Cert.MlpDownDwIdeal.Gen.frame m ρ, frame_mlpDownDw,
    fun m ρ _ => Cert.MlpDownDx.Gen.frame m ρ, fun m ρ _ => Cert.MlpDownDxIdeal.Gen.frame m ρ, frame_mlpDownDx,
    fun m ρ _ => Cert.MlpUpDw.Gen.frame m ρ, fun m ρ _ => Cert.MlpUpDwIdeal.Gen.frame m ρ, frame_mlpUpDw,
    fun m ρ _ => Cert.MlpUpDx.Gen.frame m ρ, fun m ρ _ => Cert.MlpUpDxIdeal.Gen.frame m ρ, frame_mlpUpDx,
    fun m ρ _ => Cert.InProj.Gen.frame m ρ, fun m ρ _ => Cert.InProjIdeal.Gen.frame m ρ, frame_inProj,
    fun m ρ _ => Cert.InProjDw.Gen.frame m ρ, fun m ρ _ => Cert.InProjDwIdeal.Gen.frame m ρ, frame_inProjDw,
    fun m ρ _ => Cert.InProjDx.Gen.frame m ρ, fun m ρ _ => Cert.InProjDxIdeal.Gen.frame m ρ, frame_inProjDx,
    fun m ρ _ => Cert.OutProj.Gen.frame m ρ, fun m ρ _ => Cert.OutProjIdeal.Gen.frame m ρ, frame_outProj,
    fun m ρ _ => Cert.OutProjDw.Gen.frame m ρ, fun m ρ _ => Cert.OutProjDwIdeal.Gen.frame m ρ, frame_outProjDw,
    fun m ρ _ => Cert.OutProjDx.Gen.frame m ρ, fun m ρ _ => Cert.OutProjDxIdeal.Gen.frame m ρ, frame_outProjDx,
    fun m ρ _ => Cert.Qkv.Gen.frame m ρ, fun m ρ _ => Cert.QkvIdeal.Gen.frame m ρ, frame_qkv,
    fun m ρ _ => Cert.QkvDw.Gen.frame m ρ, fun m ρ _ => Cert.QkvDwIdeal.Gen.frame m ρ, frame_qkvDw,
    fun m ρ _ => Cert.QkvDx.Gen.frame m ρ, fun m ρ _ => Cert.QkvDxIdeal.Gen.frame m ρ, frame_qkvDx,
    fun m ρ _ => Cert.AttnOut.Gen.frame m ρ, fun m ρ _ => Cert.AttnOutIdeal.Gen.frame m ρ, frame_attnOut,
    fun m ρ _ => Cert.AttnOutDw.Gen.frame m ρ, fun m ρ _ => Cert.AttnOutDwIdeal.Gen.frame m ρ, frame_attnOutDw,
    fun m ρ _ => Cert.AttnOutDx.Gen.frame m ρ, fun m ρ _ => Cert.AttnOutDxIdeal.Gen.frame m ρ, frame_attnOutDx,
    fun m ρ _ => Cert.AdamwDown.Gen.frame m ρ, fun m ρ _ => Cert.AdamwDownIdeal.Gen.frame m ρ, frame_adamwDown,
    fun m ρ _ => Cert.AdamwUp.Gen.frame m ρ, fun m ρ _ => Cert.AdamwUpIdeal.Gen.frame m ρ, frame_adamwUp,
    fun m ρ _ => Cert.AdamwQkv.Gen.frame m ρ, fun m ρ _ => Cert.AdamwQkvIdeal.Gen.frame m ρ, frame_adamwQkv,
    fun m ρ _ => Cert.AdamwIn.Gen.frame m ρ, fun m ρ _ => Cert.AdamwInIdeal.Gen.frame m ρ, frame_adamwIn,
    fun m ρ _ => Cert.AdamwOut.Gen.frame m ρ, fun m ρ _ => Cert.AdamwOutIdeal.Gen.frame m ρ, frame_adamwOut,
    fun m ρ _ => Cert.AdamwSmall.Gen.frame m ρ, fun m ρ _ => Cert.AdamwSmallIdeal.Gen.frame m ρ, frame_adamwSmall,
    fun m ρ _ => Cert.SumSmall.Gen.frame m ρ, fun m ρ _ => Cert.SumSmallIdeal.Gen.frame m ρ, frame_sumSmall,
    fun m ρ _ => Cert.NormBwd.Gen.frame m ρ, fun m ρ _ => Cert.NormBwdIdeal.Gen.frame m ρ, frame_normBwd,
    fun m ρ _ => Cert.NormBwdPair.Gen.frame m ρ, fun m ρ _ => Cert.NormBwdPairIdeal.Gen.frame m ρ, frame_normBwdPair,
    fun m ρ _ => Cert.NormIn.Gen.frame m ρ, fun m ρ _ => Cert.NormInIdeal.Gen.frame m ρ, frame_normIn,
    fun m ρ _ => Cert.ResidNorm.Gen.frame m ρ, fun m ρ _ => Cert.ResidNormIdeal.Gen.frame m ρ, frame_residNorm,
    fun m ρ _ => Cert.FinalLoss.Gen.frame m ρ, fun m ρ _ => Cert.FinalLossIdeal.Gen.frame m ρ, frame_finalLoss,
    fun m ρ _ => Cert.MixerA.Gen.frame m ρ, fun m ρ _ => Cert.MixerAIdeal.Gen.frame m ρ, frame_mixerA,
    trivial, mixer,
    trivial, mlpUp,
    trivial, mlpDown,
    trivial, mlpDownDw,
    trivial, mlpDownDx,
    trivial, mlpUpDw,
    trivial, mlpUpDx,
    trivial, inProj,
    trivial, inProjDw,
    trivial, inProjDx,
    trivial, outProj,
    trivial, outProjDw,
    trivial, outProjDx,
    trivial, qkv,
    trivial, qkvDw,
    trivial, qkvDx,
    trivial, attnOut,
    trivial, attnOutDw,
    trivial, attnOutDx,
    trivial, adamwDown,
    trivial, adamwUp,
    trivial, adamwQkv,
    trivial, adamwIn,
    trivial, adamwOut,
    trivial, adamwSmall,
    trivial, sumSmall,
    trivial, normBwd,
    trivial, normBwdPair,
    trivial, normIn,
    trivial, residNorm,
    trivial, finalLoss,
    trivial, mixerA⟩

end Cert.Proof

end
